-- ==== Defs.lean ====
def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_finite [hPre_finite : Cert.Pre_finite.Facts] (m : (ℓ : Loc Cert.PostIdeal.nD Cert.PostIdeal.τ Cert.PostIdeal.sig) → Buf (Elt Ideal) ℓ) : Prop :=
  ∀ c : Dev Cert.PostIdeal.nD,
    (Cert.Pre_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6))).1 = (fun _ => 1#1)
    ∧ (Cert.Pre_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6))).2.1 = (fun _ => 1#1)
    ∧ (Cert.Pre_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6))).2.2.1 = (fun _ => 1#1)
    ∧ (Cert.Pre_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6))).2.2.2.1 = (fun _ => 1#1)
    ∧ (Cert.Pre_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6))).2.2.2.2.1 = (fun _ => 1#1)
    ∧ (Cert.Pre_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6))).2.2.2.2.2 = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_finite [hPre_finite : Cert.Pre_finite.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6))).1 = (fun _ => 1#1)
    ∧ (Cert.Pre_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6))).2.1 = (fun _ => 1#1)
    ∧ (Cert.Pre_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6))).2.2.1 = (fun _ => 1#1)
    ∧ (Cert.Pre_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6))).2.2.2.1 = (fun _ => 1#1)
    ∧ (Cert.Pre_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6))).2.2.2.2.1 = (fun _ => 1#1)
    ∧ (Cert.Pre_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6))).2.2.2.2.2 = (fun _ => 1#1)

def Pre_AttnIn (m : (ℓ : Loc Cert.AttnIn.nD Cert.AttnIn.τ Cert.AttnIn.sig) → Buf (Elt Bits) ℓ) : Prop :=
  True

def Pre_AttnInIdeal (m : (ℓ : Loc Cert.AttnInIdeal.nD Cert.AttnInIdeal.τ Cert.AttnInIdeal.sig) → Buf (Elt Ideal) ℓ) : Prop :=
  True

def Pre_AttnInRefIdeal (m : (ℓ : Loc Cert.AttnInRefIdeal.nD Cert.AttnInRefIdeal.τ Cert.AttnInRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_finite_mlp [hPre_finite_mlp : Cert.Pre_finite_mlp.Facts] (m : (ℓ : Loc Cert.MlpIdeal.nD Cert.MlpIdeal.τ Cert.MlpIdeal.sig) → Buf (Elt Ideal) ℓ) : Prop :=
  ∀ c : Dev Cert.MlpIdeal.nD,
    (Cert.Pre_finite_mlp.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6))).1 = (fun _ => 1#1)
    ∧ (Cert.Pre_finite_mlp.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6))).2.1 = (fun _ => 1#1)
    ∧ (Cert.Pre_finite_mlp.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6))).2.2.1 = (fun _ => 1#1)
    ∧ (Cert.Pre_finite_mlp.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6))).2.2.2.1 = (fun _ => 1#1)
    ∧ (Cert.Pre_finite_mlp.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6))).2.2.2.2.1 = (fun _ => 1#1)
    ∧ (Cert.Pre_finite_mlp.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6))).2.2.2.2.2 = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_finite_mlp [hPre_finite_mlp : Cert.Pre_finite_mlp.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6))).1 = (fun _ => 1#1)
    ∧ (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6))).2.1 = (fun _ => 1#1)
    ∧ (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6))).2.2.1 = (fun _ => 1#1)
    ∧ (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6))).2.2.2.1 = (fun _ => 1#1)
    ∧ (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6))).2.2.2.2.1 = (fun _ => 1#1)
    ∧ (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6))).2.2.2.2.2 = (fun _ => 1#1)

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadIdeal_finite_head [hPre_finite_head : Cert.Pre_finite_head.Facts] (m : (ℓ : Loc Cert.HeadIdeal.nD Cert.HeadIdeal.τ Cert.HeadIdeal.sig) → Buf (Elt Ideal) ℓ) : Prop :=
  ∀ c : Dev Cert.HeadIdeal.nD,
    (Cert.Pre_finite_head.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6))).1 = (fun _ => 1#1)
    ∧ (Cert.Pre_finite_head.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6))).2.1 = (fun _ => 1#1)
    ∧ (Cert.Pre_finite_head.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6))).2.2.1 = (fun _ => 1#1)
    ∧ (Cert.Pre_finite_head.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6))).2.2.2.1 = (fun _ => 1#1)
    ∧ (Cert.Pre_finite_head.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6))).2.2.2.2.1 = (fun _ => 1#1)
    ∧ (Cert.Pre_finite_head.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6))).2.2.2.2.2.1 = (fun _ => 1#1)
    ∧ (Cert.Pre_finite_head.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6))).2.2.2.2.2.2 = (fun _ => 1#1)

def Pre_HeadRefIdeal (m : (ℓ : Loc Cert.HeadRefIdeal.nD Cert.HeadRefIdeal.τ Cert.HeadRefIdeal.sig) → Buf (Elt Ideal) ℓ) : Prop :=
  True

def Pre_HeadRefIdeal_finite_head [hPre_finite_head : Cert.Pre_finite_head.Facts] (m : (ℓ : Loc Cert.HeadRefIdeal.nD Cert.HeadRefIdeal.τ Cert.HeadRefIdeal.sig) → Buf (Elt Ideal) ℓ) : Prop :=
  ∀ c : Dev Cert.HeadRefIdeal.nD,
    (Cert.Pre_finite_head.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6))).1 = (fun _ => 1#1)
    ∧ (Cert.Pre_finite_head.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6))).2.1 = (fun _ => 1#1)
    ∧ (Cert.Pre_finite_head.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6))).2.2.1 = (fun _ => 1#1)
    ∧ (Cert.Pre_finite_head.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6))).2.2.2.1 = (fun _ => 1#1)
    ∧ (Cert.Pre_finite_head.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6))).2.2.2.2.1 = (fun _ => 1#1)
    ∧ (Cert.Pre_finite_head.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6))).2.2.2.2.2.1 = (fun _ => 1#1)
    ∧ (Cert.Pre_finite_head.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6))).2.2.2.2.2.2 = (fun _ => 1#1)

def Pre_RnnPost (m : (ℓ : Loc Cert.RnnPost.nD Cert.RnnPost.τ Cert.RnnPost.sig) → Buf (Elt Bits) ℓ) : Prop :=
  True

def Pre_RnnPostIdeal (m : (ℓ : Loc Cert.RnnPostIdeal.nD Cert.RnnPostIdeal.τ Cert.RnnPostIdeal.sig) → Buf (Elt Ideal) ℓ) : Prop :=
  True

def Pre_RnnPostIdeal_finite_rnn_post [hPre_finite_rnn_post : Cert.Pre_finite_rnn_post.Facts] (m : (ℓ : Loc Cert.RnnPostIdeal.nD Cert.RnnPostIdeal.τ Cert.RnnPostIdeal.sig) → Buf (Elt Ideal) ℓ) : Prop :=
  ∀ c : Dev Cert.RnnPostIdeal.nD,
    (Cert.Pre_finite_rnn_post.fn (F := Ideal) (m ((c.tc : Thread Cert.RnnPostIdeal.nD Cert.RnnPostIdeal.τ).loc Cert.RnnPostIdeal.main_arg0)) (m ((c.tc : Thread Cert.RnnPostIdeal.nD Cert.RnnPostIdeal.τ).loc Cert.RnnPostIdeal.main_arg1)) (m ((c.tc : Thread Cert.RnnPostIdeal.nD Cert.RnnPostIdeal.τ).loc Cert.RnnPostIdeal.main_arg2)) (m ((c.tc : Thread Cert.RnnPostIdeal.nD Cert.RnnPostIdeal.τ).loc Cert.RnnPostIdeal.main_arg3)) (m ((c.tc : Thread Cert.RnnPostIdeal.nD Cert.RnnPostIdeal.τ).loc Cert.RnnPostIdeal.main_arg4)) (m ((c.tc : Thread Cert.RnnPostIdeal.nD Cert.RnnPostIdeal.τ).loc Cert.RnnPostIdeal.main_arg5)) (m ((c.tc : Thread Cert.RnnPostIdeal.nD Cert.RnnPostIdeal.τ).loc Cert.RnnPostIdeal.main_arg6)) (m ((c.tc : Thread Cert.RnnPostIdeal.nD Cert.RnnPostIdeal.τ).loc Cert.RnnPostIdeal.main_arg7))).1 = (fun _ => 1#1)
    ∧ (Cert.Pre_finite_rnn_post.fn (F := Ideal) (m ((c.tc : Thread Cert.RnnPostIdeal.nD Cert.RnnPostIdeal.τ).loc Cert.RnnPostIdeal.main_arg0)) (m ((c.tc : Thread Cert.RnnPostIdeal.nD Cert.RnnPostIdeal.τ).loc Cert.RnnPostIdeal.main_arg1)) (m ((c.tc : Thread Cert.RnnPostIdeal.nD Cert.RnnPostIdeal.τ).loc Cert.RnnPostIdeal.main_arg2)) (m ((c.tc : Thread Cert.RnnPostIdeal.nD Cert.RnnPostIdeal.τ).loc Cert.RnnPostIdeal.main_arg3)) (m ((c.tc : Thread Cert.RnnPostIdeal.nD Cert.RnnPostIdeal.τ).loc Cert.RnnPostIdeal.main_arg4)) (m ((c.tc : Thread Cert.RnnPostIdeal.nD Cert.RnnPostIdeal.τ).loc Cert.RnnPostIdeal.main_arg5)) (m ((c.tc : Thread Cert.RnnPostIdeal.nD Cert.RnnPostIdeal.τ).loc Cert.RnnPostIdeal.main_arg6)) (m ((c.tc : Thread Cert.RnnPostIdeal.nD Cert.RnnPostIdeal.τ).loc Cert.RnnPostIdeal.main_arg7))).2.1 = (fun _ => 1#1)
    ∧ (Cert.Pre_finite_rnn_post.fn (F := Ideal) (m ((c.tc : Thread Cert.RnnPostIdeal.nD Cert.RnnPostIdeal.τ).loc Cert.RnnPostIdeal.main_arg0)) (m ((c.tc : Thread Cert.RnnPostIdeal.nD Cert.RnnPostIdeal.τ).loc Cert.RnnPostIdeal.main_arg1)) (m ((c.tc : Thread Cert.RnnPostIdeal.nD Cert.RnnPostIdeal.τ).loc Cert.RnnPostIdeal.main_arg2)) (m ((c.tc : Thread Cert.RnnPostIdeal.nD Cert.RnnPostIdeal.τ).loc Cert.RnnPostIdeal.main_arg3)) (m ((c.tc : Thread Cert.RnnPostIdeal.nD Cert.RnnPostIdeal.τ).loc Cert.RnnPostIdeal.main_arg4)) (m ((c.tc : Thread Cert.RnnPostIdeal.nD Cert.RnnPostIdeal.τ).loc Cert.RnnPostIdeal.main_arg5)) (m ((c.tc : Thread Cert.RnnPostIdeal.nD Cert.RnnPostIdeal.τ).loc Cert.RnnPostIdeal.main_arg6)) (m ((c.tc : Thread Cert.RnnPostIdeal.nD Cert.RnnPostIdeal.τ).loc Cert.RnnPostIdeal.main_arg7))).2.2.1 = (fun _ => 1#1)
    ∧ (Cert.Pre_finite_rnn_post.fn (F := Ideal) (m ((c.tc : Thread Cert.RnnPostIdeal.nD Cert.RnnPostIdeal.τ).loc Cert.RnnPostIdeal.main_arg0)) (m ((c.tc : Thread Cert.RnnPostIdeal.nD Cert.RnnPostIdeal.τ).loc Cert.RnnPostIdeal.main_arg1)) (m ((c.tc : Thread Cert.RnnPostIdeal.nD Cert.RnnPostIdeal.τ).loc Cert.RnnPostIdeal.main_arg2)) (m ((c.tc : Thread Cert.RnnPostIdeal.nD Cert.RnnPostIdeal.τ).loc Cert.RnnPostIdeal.main_arg3)) (m ((c.tc : Thread Cert.RnnPostIdeal.nD Cert.RnnPostIdeal.τ).loc Cert.RnnPostIdeal.main_arg4)) (m ((c.tc : Thread Cert.RnnPostIdeal.nD Cert.RnnPostIdeal.τ).loc Cert.RnnPostIdeal.main_arg5)) (m ((c.tc : Thread Cert.RnnPostIdeal.nD Cert.RnnPostIdeal.τ).loc Cert.RnnPostIdeal.main_arg6)) (m ((c.tc : Thread Cert.RnnPostIdeal.nD Cert.RnnPostIdeal.τ).loc Cert.RnnPostIdeal.main_arg7))).2.2.2.1 = (fun _ => 1#1)
    ∧ (Cert.Pre_finite_rnn_post.fn (F := Ideal) (m ((c.tc : Thread Cert.RnnPostIdeal.nD Cert.RnnPostIdeal.τ).loc Cert.RnnPostIdeal.main_arg0)) (m ((c.tc : Thread Cert.RnnPostIdeal.nD Cert.RnnPostIdeal.τ).loc Cert.RnnPostIdeal.main_arg1)) (m ((c.tc : Thread Cert.RnnPostIdeal.nD Cert.RnnPostIdeal.τ).loc Cert.RnnPostIdeal.main_arg2)) (m ((c.tc : Thread Cert.RnnPostIdeal.nD Cert.RnnPostIdeal.τ).loc Cert.RnnPostIdeal.main_arg3)) (m ((c.tc : Thread Cert.RnnPostIdeal.nD Cert.RnnPostIdeal.τ).loc Cert.RnnPostIdeal.main_arg4)) (m ((c.tc : Thread Cert.RnnPostIdeal.nD Cert.RnnPostIdeal.τ).loc Cert.RnnPostIdeal.main_arg5)) (m ((c.tc : Thread Cert.RnnPostIdeal.nD Cert.RnnPostIdeal.τ).loc Cert.RnnPostIdeal.main_arg6)) (m ((c.tc : Thread Cert.RnnPostIdeal.nD Cert.RnnPostIdeal.τ).loc Cert.RnnPostIdeal.main_arg7))).2.2.2.2.1 = (fun _ => 1#1)
    ∧ (Cert.Pre_finite_rnn_post.fn (F := Ideal) (m ((c.tc : Thread Cert.RnnPostIdeal.nD Cert.RnnPostIdeal.τ).loc Cert.RnnPostIdeal.main_arg0)) (m ((c.tc : Thread Cert.RnnPostIdeal.nD Cert.RnnPostIdeal.τ).loc Cert.RnnPostIdeal.main_arg1)) (m ((c.tc : Thread Cert.RnnPostIdeal.nD Cert.RnnPostIdeal.τ).loc Cert.RnnPostIdeal.main_arg2)) (m ((c.tc : Thread Cert.RnnPostIdeal.nD Cert.RnnPostIdeal.τ).loc Cert.RnnPostIdeal.main_arg3)) (m ((c.tc : Thread Cert.RnnPostIdeal.nD Cert.RnnPostIdeal.τ).loc Cert.RnnPostIdeal.main_arg4)) (m ((c.tc : Thread Cert.RnnPostIdeal.nD Cert.RnnPostIdeal.τ).loc Cert.RnnPostIdeal.main_arg5)) (m ((c.tc : Thread Cert.RnnPostIdeal.nD Cert.RnnPostIdeal.τ).loc Cert.RnnPostIdeal.main_arg6)) (m ((c.tc : Thread Cert.RnnPostIdeal.nD Cert.RnnPostIdeal.τ).loc Cert.RnnPostIdeal.main_arg7))).2.2.2.2.2.1 = (fun _ => 1#1)
    ∧ (Cert.Pre_finite_rnn_post.fn (F := Ideal) (m ((c.tc : Thread Cert.RnnPostIdeal.nD Cert.RnnPostIdeal.τ).loc Cert.RnnPostIdeal.main_arg0)) (m ((c.tc : Thread Cert.RnnPostIdeal.nD Cert.RnnPostIdeal.τ).loc Cert.RnnPostIdeal.main_arg1)) (m ((c.tc : Thread Cert.RnnPostIdeal.nD Cert.RnnPostIdeal.τ).loc Cert.RnnPostIdeal.main_arg2)) (m ((c.tc : Thread Cert.RnnPostIdeal.nD Cert.RnnPostIdeal.τ).loc Cert.RnnPostIdeal.main_arg3)) (m ((c.tc : Thread Cert.RnnPostIdeal.nD Cert.RnnPostIdeal.τ).loc Cert.RnnPostIdeal.main_arg4)) (m ((c.tc : Thread Cert.RnnPostIdeal.nD Cert.RnnPostIdeal.τ).loc Cert.RnnPostIdeal.main_arg5)) (m ((c.tc : Thread Cert.RnnPostIdeal.nD Cert.RnnPostIdeal.τ).loc Cert.RnnPostIdeal.main_arg6)) (m ((c.tc : Thread Cert.RnnPostIdeal.nD Cert.RnnPostIdeal.τ).loc Cert.RnnPostIdeal.main_arg7))).2.2.2.2.2.2 = (fun _ => 1#1)

def Pre_RnnPostRefIdeal (m : (ℓ : Loc Cert.RnnPostRefIdeal.nD Cert.RnnPostRefIdeal.τ Cert.RnnPostRefIdeal.sig) → Buf (Elt Ideal) ℓ) : Prop :=
  True

def Pre_RnnPostRefIdeal_finite_rnn_post [hPre_finite_rnn_post : Cert.Pre_finite_rnn_post.Facts] (m : (ℓ : Loc Cert.RnnPostRefIdeal.nD Cert.RnnPostRefIdeal.τ Cert.RnnPostRefIdeal.sig) → Buf (Elt Ideal) ℓ) : Prop :=
  ∀ c : Dev Cert.RnnPostRefIdeal.nD,
    (Cert.Pre_finite_rnn_post.fn (F := Ideal) (m ((c.tc : Thread Cert.RnnPostRefIdeal.nD Cert.RnnPostRefIdeal.τ).loc Cert.RnnPostRefIdeal.main_arg0)) (m ((c.tc : Thread Cert.RnnPostRefIdeal.nD Cert.RnnPostRefIdeal.τ).loc Cert.RnnPostRefIdeal.main_arg1)) (m ((c.tc : Thread Cert.RnnPostRefIdeal.nD Cert.RnnPostRefIdeal.τ).loc Cert.RnnPostRefIdeal.main_arg2)) (m ((c.tc : Thread Cert.RnnPostRefIdeal.nD Cert.RnnPostRefIdeal.τ).loc Cert.RnnPostRefIdeal.main_arg3)) (m ((c.tc : Thread Cert.RnnPostRefIdeal.nD Cert.RnnPostRefIdeal.τ).loc Cert.RnnPostRefIdeal.main_arg4)) (m ((c.tc : Thread Cert.RnnPostRefIdeal.nD Cert.RnnPostRefIdeal.τ).loc Cert.RnnPostRefIdeal.main_arg5)) (m ((c.tc : Thread Cert.RnnPostRefIdeal.nD Cert.RnnPostRefIdeal.τ).loc Cert.RnnPostRefIdeal.main_arg6)) (m ((c.tc : Thread Cert.RnnPostRefIdeal.nD Cert.RnnPostRefIdeal.τ).loc Cert.RnnPostRefIdeal.main_arg7))).1 = (fun _ => 1#1)
    ∧ (Cert.Pre_finite_rnn_post.fn (F := Ideal) (m ((c.tc : Thread Cert.RnnPostRefIdeal.nD Cert.RnnPostRefIdeal.τ).loc Cert.RnnPostRefIdeal.main_arg0)) (m ((c.tc : Thread Cert.RnnPostRefIdeal.nD Cert.RnnPostRefIdeal.τ).loc Cert.RnnPostRefIdeal.main_arg1)) (m ((c.tc : Thread Cert.RnnPostRefIdeal.nD Cert.RnnPostRefIdeal.τ).loc Cert.RnnPostRefIdeal.main_arg2)) (m ((c.tc : Thread Cert.RnnPostRefIdeal.nD Cert.RnnPostRefIdeal.τ).loc Cert.RnnPostRefIdeal.main_arg3)) (m ((c.tc : Thread Cert.RnnPostRefIdeal.nD Cert.RnnPostRefIdeal.τ).loc Cert.RnnPostRefIdeal.main_arg4)) (m ((c.tc : Thread Cert.RnnPostRefIdeal.nD Cert.RnnPostRefIdeal.τ).loc Cert.RnnPostRefIdeal.main_arg5)) (m ((c.tc : Thread Cert.RnnPostRefIdeal.nD Cert.RnnPostRefIdeal.τ).loc Cert.RnnPostRefIdeal.main_arg6)) (m ((c.tc : Thread Cert.RnnPostRefIdeal.nD Cert.RnnPostRefIdeal.τ).loc Cert.RnnPostRefIdeal.main_arg7))).2.1 = (fun _ => 1#1)
    ∧ (Cert.Pre_finite_rnn_post.fn (F := Ideal) (m ((c.tc : Thread Cert.RnnPostRefIdeal.nD Cert.RnnPostRefIdeal.τ).loc Cert.RnnPostRefIdeal.main_arg0)) (m ((c.tc : Thread Cert.RnnPostRefIdeal.nD Cert.RnnPostRefIdeal.τ).loc Cert.RnnPostRefIdeal.main_arg1)) (m ((c.tc : Thread Cert.RnnPostRefIdeal.nD Cert.RnnPostRefIdeal.τ).loc Cert.RnnPostRefIdeal.main_arg2)) (m ((c.tc : Thread Cert.RnnPostRefIdeal.nD Cert.RnnPostRefIdeal.τ).loc Cert.RnnPostRefIdeal.main_arg3)) (m ((c.tc : Thread Cert.RnnPostRefIdeal.nD Cert.RnnPostRefIdeal.τ).loc Cert.RnnPostRefIdeal.main_arg4)) (m ((c.tc : Thread Cert.RnnPostRefIdeal.nD Cert.RnnPostRefIdeal.τ).loc Cert.RnnPostRefIdeal.main_arg5)) (m ((c.tc : Thread Cert.RnnPostRefIdeal.nD Cert.RnnPostRefIdeal.τ).loc Cert.RnnPostRefIdeal.main_arg6)) (m ((c.tc : Thread Cert.RnnPostRefIdeal.nD Cert.RnnPostRefIdeal.τ).loc Cert.RnnPostRefIdeal.main_arg7))).2.2.1 = (fun _ => 1#1)
    ∧ (Cert.Pre_finite_rnn_post.fn (F := Ideal) (m ((c.tc : Thread Cert.RnnPostRefIdeal.nD Cert.RnnPostRefIdeal.τ).loc Cert.RnnPostRefIdeal.main_arg0)) (m ((c.tc : Thread Cert.RnnPostRefIdeal.nD Cert.RnnPostRefIdeal.τ).loc Cert.RnnPostRefIdeal.main_arg1)) (m ((c.tc : Thread Cert.RnnPostRefIdeal.nD Cert.RnnPostRefIdeal.τ).loc Cert.RnnPostRefIdeal.main_arg2)) (m ((c.tc : Thread Cert.RnnPostRefIdeal.nD Cert.RnnPostRefIdeal.τ).loc Cert.RnnPostRefIdeal.main_arg3)) (m ((c.tc : Thread Cert.RnnPostRefIdeal.nD Cert.RnnPostRefIdeal.τ).loc Cert.RnnPostRefIdeal.main_arg4)) (m ((c.tc : Thread Cert.RnnPostRefIdeal.nD Cert.RnnPostRefIdeal.τ).loc Cert.RnnPostRefIdeal.main_arg5)) (m ((c.tc : Thread Cert.RnnPostRefIdeal.nD Cert.RnnPostRefIdeal.τ).loc Cert.RnnPostRefIdeal.main_arg6)) (m ((c.tc : Thread Cert.RnnPostRefIdeal.nD Cert.RnnPostRefIdeal.τ).loc Cert.RnnPostRefIdeal.main_arg7))).2.2.2.1 = (fun _ => 1#1)
    ∧ (Cert.Pre_finite_rnn_post.fn (F := Ideal) (m ((c.tc : Thread Cert.RnnPostRefIdeal.nD Cert.RnnPostRefIdeal.τ).loc Cert.RnnPostRefIdeal.main_arg0)) (m ((c.tc : Thread Cert.RnnPostRefIdeal.nD Cert.RnnPostRefIdeal.τ).loc Cert.RnnPostRefIdeal.main_arg1)) (m ((c.tc : Thread Cert.RnnPostRefIdeal.nD Cert.RnnPostRefIdeal.τ).loc Cert.RnnPostRefIdeal.main_arg2)) (m ((c.tc : Thread Cert.RnnPostRefIdeal.nD Cert.RnnPostRefIdeal.τ).loc Cert.RnnPostRefIdeal.main_arg3)) (m ((c.tc : Thread Cert.RnnPostRefIdeal.nD Cert.RnnPostRefIdeal.τ).loc Cert.RnnPostRefIdeal.main_arg4)) (m ((c.tc : Thread Cert.RnnPostRefIdeal.nD Cert.RnnPostRefIdeal.τ).loc Cert.RnnPostRefIdeal.main_arg5)) (m ((c.tc : Thread Cert.RnnPostRefIdeal.nD Cert.RnnPostRefIdeal.τ).loc Cert.RnnPostRefIdeal.main_arg6)) (m ((c.tc : Thread Cert.RnnPostRefIdeal.nD Cert.RnnPostRefIdeal.τ).loc Cert.RnnPostRefIdeal.main_arg7))).2.2.2.2.1 = (fun _ => 1#1)
    ∧ (Cert.Pre_finite_rnn_post.fn (F := Ideal) (m ((c.tc : Thread Cert.RnnPostRefIdeal.nD Cert.RnnPostRefIdeal.τ).loc Cert.RnnPostRefIdeal.main_arg0)) (m ((c.tc : Thread Cert.RnnPostRefIdeal.nD Cert.RnnPostRefIdeal.τ).loc Cert.RnnPostRefIdeal.main_arg1)) (m ((c.tc : Thread Cert.RnnPostRefIdeal.nD Cert.RnnPostRefIdeal.τ).loc Cert.RnnPostRefIdeal.main_arg2)) (m ((c.tc : Thread Cert.RnnPostRefIdeal.nD Cert.RnnPostRefIdeal.τ).loc Cert.RnnPostRefIdeal.main_arg3)) (m ((c.tc : Thread Cert.RnnPostRefIdeal.nD Cert.RnnPostRefIdeal.τ).loc Cert.RnnPostRefIdeal.main_arg4)) (m ((c.tc : Thread Cert.RnnPostRefIdeal.nD Cert.RnnPostRefIdeal.τ).loc Cert.RnnPostRefIdeal.main_arg5)) (m ((c.tc : Thread Cert.RnnPostRefIdeal.nD Cert.RnnPostRefIdeal.τ).loc Cert.RnnPostRefIdeal.main_arg6)) (m ((c.tc : Thread Cert.RnnPostRefIdeal.nD Cert.RnnPostRefIdeal.τ).loc Cert.RnnPostRefIdeal.main_arg7))).2.2.2.2.2.1 = (fun _ => 1#1)
    ∧ (Cert.Pre_finite_rnn_post.fn (F := Ideal) (m ((c.tc : Thread Cert.RnnPostRefIdeal.nD Cert.RnnPostRefIdeal.τ).loc Cert.RnnPostRefIdeal.main_arg0)) (m ((c.tc : Thread Cert.RnnPostRefIdeal.nD Cert.RnnPostRefIdeal.τ).loc Cert.RnnPostRefIdeal.main_arg1)) (m ((c.tc : Thread Cert.RnnPostRefIdeal.nD Cert.RnnPostRefIdeal.τ).loc Cert.RnnPostRefIdeal.main_arg2)) (m ((c.tc : Thread Cert.RnnPostRefIdeal.nD Cert.RnnPostRefIdeal.τ).loc Cert.RnnPostRefIdeal.main_arg3)) (m ((c.tc : Thread Cert.RnnPostRefIdeal.nD Cert.RnnPostRefIdeal.τ).loc Cert.RnnPostRefIdeal.main_arg4)) (m ((c.tc : Thread Cert.RnnPostRefIdeal.nD Cert.RnnPostRefIdeal.τ).loc Cert.RnnPostRefIdeal.main_arg5)) (m ((c.tc : Thread Cert.RnnPostRefIdeal.nD Cert.RnnPostRefIdeal.τ).loc Cert.RnnPostRefIdeal.main_arg6)) (m ((c.tc : Thread Cert.RnnPostRefIdeal.nD Cert.RnnPostRefIdeal.τ).loc Cert.RnnPostRefIdeal.main_arg7))).2.2.2.2.2.2 = (fun _ => 1#1)

def Pre_RnnIn (m : (ℓ : Loc Cert.RnnIn.nD Cert.RnnIn.τ Cert.RnnIn.sig) → Buf (Elt Bits) ℓ) : Prop :=
  True

def Pre_RnnInIdeal (m : (ℓ : Loc Cert.RnnInIdeal.nD Cert.RnnInIdeal.τ Cert.RnnInIdeal.sig) → Buf (Elt Ideal) ℓ) : Prop :=
  True

def Pre_RnnInRefIdeal (m : (ℓ : Loc Cert.RnnInRefIdeal.nD Cert.RnnInRefIdeal.τ Cert.RnnInRefIdeal.sig) → Buf (Elt Ideal) ℓ) : Prop :=
  True

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite_attn [hPre_finite_attn : Cert.Pre_finite_attn.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))).1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))).2.1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))).2.2.1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))).2.2.2.1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))).2.2.2.2 = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_finite_attn [hPre_finite_attn : Cert.Pre_finite_attn.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4))).1 = (fun _ => 1#1)
    ∧ (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4))).2.1 = (fun _ => 1#1)
    ∧ (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4))).2.2.1 = (fun _ => 1#1)
    ∧ (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4))).2.2.2.1 = (fun _ => 1#1)
    ∧ (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4))).2.2.2.2 = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_attn_fwd [hPre_finite_attn_fwd : Cert.Pre_finite_attn_fwd.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_attn_fwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).1 = (fun _ => 1#1)
    ∧ (Cert.Pre_finite_attn_fwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).2.1 = (fun _ => 1#1)
    ∧ (Cert.Pre_finite_attn_fwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).2.2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_attn_fwd [hPre_finite_attn_fwd : Cert.Pre_finite_attn_fwd.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_attn_fwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).1 = (fun _ => 1#1)
    ∧ (Cert.Pre_finite_attn_fwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).2.1 = (fun _ => 1#1)
    ∧ (Cert.Pre_finite_attn_fwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).2.2 = (fun _ => 1#1)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6))
      ∧ r.2.sem = fun _ => 0)

def quiescent_PostIdeal_pre_finite [hPostIdeal : Cert.PostIdeal.Facts] [hPre_finite : Cert.Pre_finite.Facts] : Prop :=
  ∀ (m : (ℓ : Loc Cert.PostIdeal.nD Cert.PostIdeal.τ Cert.PostIdeal.sig) → Buf (Elt Ideal) ℓ) (g : Dev Cert.PostIdeal.nD → PrngReg), Pre_PostIdeal_finite m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6))
      ∧ r.2.sem = fun _ => 0)

def quiescent_PostRefIdeal_pre_finite [hPostRefIdeal : Cert.PostRefIdeal.Facts] [hPre_finite : Cert.Pre_finite.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_finite m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6))
      ∧ r.2.sem = fun _ => 0)

def quiescent_AttnIn [hAttnIn : Cert.AttnIn.Facts] : Prop :=
  ∀ (m : (ℓ : Loc Cert.AttnIn.nD Cert.AttnIn.τ Cert.AttnIn.sig) → Buf (Elt Bits) ℓ) (g : Dev Cert.AttnIn.nD → PrngReg), Pre_AttnIn m →
    θ_run (Cert.AttnIn.defs (F := Bits)) (onTc (τ := Cert.AttnIn.τ) (Cert.AttnIn.main (F := Bits))) ⟨m, fun _ => 0, g⟩ (fun r => (∀ c : Dev Cert.AttnIn.nD,
      r.2.mem ((c.tc : Thread Cert.AttnIn.nD Cert.AttnIn.τ).loc Cert.AttnIn.main_arg0) = m ((c.tc : Thread Cert.AttnIn.nD Cert.AttnIn.τ).loc Cert.AttnIn.main_arg0)
      ∧ r.2.mem ((c.tc : Thread Cert.AttnIn.nD Cert.AttnIn.τ).loc Cert.AttnIn.main_arg1) = m ((c.tc : Thread Cert.AttnIn.nD Cert.AttnIn.τ).loc Cert.AttnIn.main_arg1)
      ∧ r.2.mem ((c.tc : Thread Cert.AttnIn.nD Cert.AttnIn.τ).loc Cert.AttnIn.main_arg2) = m ((c.tc : Thread Cert.AttnIn.nD Cert.AttnIn.τ).loc Cert.AttnIn.main_arg2)
      ∧ r.2.mem ((c.tc : Thread Cert.AttnIn.nD Cert.AttnIn.τ).loc Cert.AttnIn.main_arg3) = m ((c.tc : Thread Cert.AttnIn.nD Cert.AttnIn.τ).loc Cert.AttnIn.main_arg3)
      ∧ r.2.mem ((c.tc : Thread Cert.AttnIn.nD Cert.AttnIn.τ).loc Cert.AttnIn.main_arg4) = m ((c.tc : Thread Cert.AttnIn.nD Cert.AttnIn.τ).loc Cert.AttnIn.main_arg4)
      ∧ r.2.mem ((c.tc : Thread Cert.AttnIn.nD Cert.AttnIn.τ).loc Cert.AttnIn.main_arg5) = m ((c.tc : Thread Cert.AttnIn.nD Cert.AttnIn.τ).loc Cert.AttnIn.main_arg5)
      ∧ r.2.mem ((c.tc : Thread Cert.AttnIn.nD Cert.AttnIn.τ).loc Cert.AttnIn.main_arg6) = m ((c.tc : Thread Cert.AttnIn.nD Cert.AttnIn.τ).loc Cert.AttnIn.main_arg6))
      ∧ r.2.sem = fun _ => 0)

def quiescent_AttnInIdeal [hAttnInIdeal : Cert.AttnInIdeal.Facts] : Prop :=
  ∀ (m : (ℓ : Loc Cert.AttnInIdeal.nD Cert.AttnInIdeal.τ Cert.AttnInIdeal.sig) → Buf (Elt Ideal) ℓ) (g : Dev Cert.AttnInIdeal.nD → PrngReg), Pre_AttnInIdeal m →
    θ_run (Cert.AttnInIdeal.defs (F := Ideal)) (onTc (τ := Cert.AttnInIdeal.τ) (Cert.AttnInIdeal.main (F := Ideal))) ⟨m, fun _ => 0, g⟩ (fun r => (∀ c : Dev Cert.AttnInIdeal.nD,
      r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
      ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1)
      ∧ r.2.mem ((c.tc : Thread Cert.AttnInIdeal.nD Cert.AttnInIdeal.τ).loc Cert.AttnInIdeal.main_arg2) = m ((c.tc : Thread Cert.AttnInIdeal.nD Cert.AttnInIdeal.τ).loc Cert.AttnInIdeal.main_arg2)
      ∧ r.2.mem ((c.tc : Thread Cert.AttnInIdeal.nD Cert.AttnInIdeal.τ).loc Cert.AttnInIdeal.main_arg3) = m ((c.tc : Thread Cert.AttnInIdeal.nD Cert.AttnInIdeal.τ).loc Cert.AttnInIdeal.main_arg3)
      ∧ r.2.mem ((c.tc : Thread Cert.AttnInIdeal.nD Cert.AttnInIdeal.τ).loc Cert.AttnInIdeal.main_arg4) = m ((c.tc : Thread Cert.AttnInIdeal.nD Cert.AttnInIdeal.τ).loc Cert.AttnInIdeal.main_arg4)
      ∧ r.2.mem ((c.tc : Thread Cert.AttnInIdeal.nD Cert.AttnInIdeal.τ).loc Cert.AttnInIdeal.main_arg5) = m ((c.tc : Thread Cert.AttnInIdeal.nD Cert.AttnInIdeal.τ).loc Cert.AttnInIdeal.main_arg5)
      ∧ r.2.mem ((c.tc : Thread Cert.AttnInIdeal.nD Cert.AttnInIdeal.τ).loc Cert.AttnInIdeal.main_arg6) = m ((c.tc : Thread Cert.AttnInIdeal.nD Cert.AttnInIdeal.τ).loc Cert.AttnInIdeal.main_arg6))
      ∧ r.2.sem = fun _ => 0)

def quiescent_AttnInRefIdeal [hAttnInRefIdeal : Cert.AttnInRefIdeal.Facts] : Prop :=
  ∀ (m : (ℓ : Loc Cert.AttnInRefIdeal.nD Cert.AttnInRefIdeal.τ Cert.AttnInRefIdeal.sig) → Buf (Elt Ideal) ℓ) (g : Dev Cert.AttnInRefIdeal.nD → PrngReg), Pre_AttnInRefIdeal m →
    θ_run (Cert.AttnInRefIdeal.defs (F := Ideal)) (onTc (τ := Cert.AttnInRefIdeal.τ) (Cert.AttnInRefIdeal.main (F := Ideal))) ⟨m, fun _ => 0, g⟩ (fun r => (∀ c : Dev Cert.AttnInRefIdeal.nD,
      r.2.mem ((c.tc : Thread Cert.AttnInRefIdeal.nD Cert.AttnInRefIdeal.τ).loc Cert.AttnInRefIdeal.main_arg0) = m ((c.tc : Thread Cert.AttnInRefIdeal.nD Cert.AttnInRefIdeal.τ).loc Cert.AttnInRefIdeal.main_arg0)
      ∧ r.2.mem ((c.tc : Thread Cert.AttnInRefIdeal.nD Cert.AttnInRefIdeal.τ).loc Cert.AttnInRefIdeal.main_arg1) = m ((c.tc : Thread Cert.AttnInRefIdeal.nD Cert.AttnInRefIdeal.τ).loc Cert.AttnInRefIdeal.main_arg1)
      ∧ r.2.mem ((c.tc : Thread Cert.AttnInRefIdeal.nD Cert.AttnInRefIdeal.τ).loc Cert.AttnInRefIdeal.main_arg2) = m ((c.tc : Thread Cert.AttnInRefIdeal.nD Cert.AttnInRefIdeal.τ).loc Cert.AttnInRefIdeal.main_arg2)
      ∧ r.2.mem ((c.tc : Thread Cert.AttnInRefIdeal.nD Cert.AttnInRefIdeal.τ).loc Cert.AttnInRefIdeal.main_arg3) = m ((c.tc : Thread Cert.AttnInRefIdeal.nD Cert.AttnInRefIdeal.τ).loc Cert.AttnInRefIdeal.main_arg3)
      ∧ r.2.mem ((c.tc : Thread Cert.AttnInRefIdeal.nD Cert.AttnInRefIdeal.τ).loc Cert.AttnInRefIdeal.main_arg4) = m ((c.tc : Thread Cert.AttnInRefIdeal.nD Cert.AttnInRefIdeal.τ).loc Cert.AttnInRefIdeal.main_arg4)
      ∧ r.2.mem ((c.tc : Thread Cert.AttnInRefIdeal.nD Cert.AttnInRefIdeal.τ).loc Cert.AttnInRefIdeal.main_arg5) = m ((c.tc : Thread Cert.AttnInRefIdeal.nD Cert.AttnInRefIdeal.τ).loc Cert.AttnInRefIdeal.main_arg5)
      ∧ r.2.mem ((c.tc : Thread Cert.AttnInRefIdeal.nD Cert.AttnInRefIdeal.τ).loc Cert.AttnInRefIdeal.main_arg6) = m ((c.tc : Thread Cert.AttnInRefIdeal.nD Cert.AttnInRefIdeal.τ).loc Cert.AttnInRefIdeal.main_arg6))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ r.2.sem = fun _ => 0)

def quiescent_MlpIdeal_pre_finite_mlp [hMlpIdeal : Cert.MlpIdeal.Facts] [hPre_finite_mlp : Cert.Pre_finite_mlp.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_finite_mlp m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6))
      ∧ r.2.sem = fun _ => 0)

def quiescent_MlpRefIdeal_pre_finite_mlp [hMlpRefIdeal : Cert.MlpRefIdeal.Facts] [hPre_finite_mlp : Cert.Pre_finite_mlp.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_finite_mlp m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ r.2.sem = fun _ => 0)

def quiescent_HeadIdeal_pre_finite_head [hHeadIdeal : Cert.HeadIdeal.Facts] [hPre_finite_head : Cert.Pre_finite_head.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal_finite_head m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6))
      ∧ r.2.sem = fun _ => 0)

def quiescent_HeadRefIdeal_pre_finite_head [hHeadRefIdeal : Cert.HeadRefIdeal.Facts] [hPre_finite_head : Cert.Pre_finite_head.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal_finite_head m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6))
      ∧ r.2.sem = fun _ => 0)

def quiescent_RnnPost [hRnnPost : Cert.RnnPost.Facts] : Prop :=
  ∀ (m : (ℓ : Loc Cert.RnnPost.nD Cert.RnnPost.τ Cert.RnnPost.sig) → Buf (Elt Bits) ℓ) (g : Dev Cert.RnnPost.nD → PrngReg), Pre_RnnPost m →
    θ_run (Cert.RnnPost.defs (F := Bits)) (onTc (τ := Cert.RnnPost.τ) (Cert.RnnPost.main (F := Bits))) ⟨m, fun _ => 0, g⟩ (fun r => (∀ c : Dev Cert.RnnPost.nD,
      r.2.mem ((c.tc : Thread Cert.RnnPost.nD Cert.RnnPost.τ).loc Cert.RnnPost.main_arg0) = m ((c.tc : Thread Cert.RnnPost.nD Cert.RnnPost.τ).loc Cert.RnnPost.main_arg0)
      ∧ r.2.mem ((c.tc : Thread Cert.RnnPost.nD Cert.RnnPost.τ).loc Cert.RnnPost.main_arg1) = m ((c.tc : Thread Cert.RnnPost.nD Cert.RnnPost.τ).loc Cert.RnnPost.main_arg1)
      ∧ r.2.mem ((c.tc : Thread Cert.RnnPost.nD Cert.RnnPost.τ).loc Cert.RnnPost.main_arg2) = m ((c.tc : Thread Cert.RnnPost.nD Cert.RnnPost.τ).loc Cert.RnnPost.main_arg2)
      ∧ r.2.mem ((c.tc : Thread Cert.RnnPost.nD Cert.RnnPost.τ).loc Cert.RnnPost.main_arg3) = m ((c.tc : Thread Cert.RnnPost.nD Cert.RnnPost.τ).loc Cert.RnnPost.main_arg3)
      ∧ r.2.mem ((c.tc : Thread Cert.RnnPost.nD Cert.RnnPost.τ).loc Cert.RnnPost.main_arg4) = m ((c.tc : Thread Cert.RnnPost.nD Cert.RnnPost.τ).loc Cert.RnnPost.main_arg4)
      ∧ r.2.mem ((c.tc : Thread Cert.RnnPost.nD Cert.RnnPost.τ).loc Cert.RnnPost.main_arg5) = m ((c.tc : Thread Cert.RnnPost.nD Cert.RnnPost.τ).loc Cert.RnnPost.main_arg5)
      ∧ r.2.mem ((c.tc : Thread Cert.RnnPost.nD Cert.RnnPost.τ).loc Cert.RnnPost.main_arg6) = m ((c.tc : Thread Cert.RnnPost.nD Cert.RnnPost.τ).loc Cert.RnnPost.main_arg6)
      ∧ r.2.mem ((c.tc : Thread Cert.RnnPost.nD Cert.RnnPost.τ).loc Cert.RnnPost.main_arg7) = m ((c.tc : Thread Cert.RnnPost.nD Cert.RnnPost.τ).loc Cert.RnnPost.main_arg7))
      ∧ r.2.sem = fun _ => 0)

def quiescent_RnnPostIdeal [hRnnPostIdeal : Cert.RnnPostIdeal.Facts] : Prop :=
  ∀ (m : (ℓ : Loc Cert.RnnPostIdeal.nD Cert.RnnPostIdeal.τ Cert.RnnPostIdeal.sig) → Buf (Elt Ideal) ℓ) (g : Dev Cert.RnnPostIdeal.nD → PrngReg), Pre_RnnPostIdeal m →
    θ_run (Cert.RnnPostIdeal.defs (F := Ideal)) (onTc (τ := Cert.RnnPostIdeal.τ) (Cert.RnnPostIdeal.main (F := Ideal))) ⟨m, fun _ => 0, g⟩ (fun r => (∀ c : Dev Cert.RnnPostIdeal.nD,
      r.2.mem ((c.tc : Thread Cert.RnnPostIdeal.nD Cert.RnnPostIdeal.τ).loc Cert.RnnPostIdeal.main_arg0) = m ((c.tc : Thread Cert.RnnPostIdeal.nD Cert.RnnPostIdeal.τ).loc Cert.RnnPostIdeal.main_arg0)
      ∧ r.2.mem ((c.tc : Thread Cert.RnnPostIdeal.nD Cert.RnnPostIdeal.τ).loc Cert.RnnPostIdeal.main_arg1) = m ((c.tc : Thread Cert.RnnPostIdeal.nD Cert.RnnPostIdeal.τ).loc Cert.RnnPostIdeal.main_arg1)
      ∧ r.2.mem ((c.tc : Thread Cert.RnnPostIdeal.nD Cert.RnnPostIdeal.τ).loc Cert.RnnPostIdeal.main_arg2) = m ((c.tc : Thread Cert.RnnPostIdeal.nD Cert.RnnPostIdeal.τ).loc Cert.RnnPostIdeal.main_arg2)
      ∧ r.2.mem ((c.tc : Thread Cert.RnnPostIdeal.nD Cert.RnnPostIdeal.τ).loc Cert.RnnPostIdeal.main_arg3) = m ((c.tc : Thread Cert.RnnPostIdeal.nD Cert.RnnPostIdeal.τ).loc Cert.RnnPostIdeal.main_arg3)
      ∧ r.2.mem ((c.tc : Thread Cert.RnnPostIdeal.nD Cert.RnnPostIdeal.τ).loc Cert.RnnPostIdeal.main_arg4) = m ((c.tc : Thread Cert.RnnPostIdeal.nD Cert.RnnPostIdeal.τ).loc Cert.RnnPostIdeal.main_arg4)
      ∧ r.2.mem ((c.tc : Thread Cert.RnnPostIdeal.nD Cert.RnnPostIdeal.τ).loc Cert.RnnPostIdeal.main_arg5) = m ((c.tc : Thread Cert.RnnPostIdeal.nD Cert.RnnPostIdeal.τ).loc Cert.RnnPostIdeal.main_arg5)
      ∧ r.2.mem ((c.tc : Thread Cert.RnnPostIdeal.nD Cert.RnnPostIdeal.τ).loc Cert.RnnPostIdeal.main_arg6) = m ((c.tc : Thread Cert.RnnPostIdeal.nD Cert.RnnPostIdeal.τ).loc Cert.RnnPostIdeal.main_arg6)
      ∧ r.2.mem ((c.tc : Thread Cert.RnnPostIdeal.nD Cert.RnnPostIdeal.τ).loc Cert.RnnPostIdeal.main_arg7) = m ((c.tc : Thread Cert.RnnPostIdeal.nD Cert.RnnPostIdeal.τ).loc Cert.RnnPostIdeal.main_arg7))
      ∧ r.2.sem = fun _ => 0)

def quiescent_RnnPostIdeal_pre_finite_rnn_post [hRnnPostIdeal : Cert.RnnPostIdeal.Facts] [hPre_finite_rnn_post : Cert.Pre_finite_rnn_post.Facts] : Prop :=
  ∀ (m : (ℓ : Loc Cert.RnnPostIdeal.nD Cert.RnnPostIdeal.τ Cert.RnnPostIdeal.sig) → Buf (Elt Ideal) ℓ) (g : Dev Cert.RnnPostIdeal.nD → PrngReg), Pre_RnnPostIdeal_finite_rnn_post m →
    θ_run (Cert.RnnPostIdeal.defs (F := Ideal)) (onTc (τ := Cert.RnnPostIdeal.τ) (Cert.RnnPostIdeal.main (F := Ideal))) ⟨m, fun _ => 0, g⟩ (fun r => (∀ c : Dev Cert.RnnPostIdeal.nD,
      r.2.mem ((c.tc : Thread Cert.RnnPostIdeal.nD Cert.RnnPostIdeal.τ).loc Cert.RnnPostIdeal.main_arg0) = m ((c.tc : Thread Cert.RnnPostIdeal.nD Cert.RnnPostIdeal.τ).loc Cert.RnnPostIdeal.main_arg0)
      ∧ r.2.mem ((c.tc : Thread Cert.RnnPostIdeal.nD Cert.RnnPostIdeal.τ).loc Cert.RnnPostIdeal.main_arg1) = m ((c.tc : Thread Cert.RnnPostIdeal.nD Cert.RnnPostIdeal.τ).loc Cert.RnnPostIdeal.main_arg1)
      ∧ r.2.mem ((c.tc : Thread Cert.RnnPostIdeal.nD Cert.RnnPostIdeal.τ).loc Cert.RnnPostIdeal.main_arg2) = m ((c.tc : Thread Cert.RnnPostIdeal.nD Cert.RnnPostIdeal.τ).loc Cert.RnnPostIdeal.main_arg2)
      ∧ r.2.mem ((c.tc : Thread Cert.RnnPostIdeal.nD Cert.RnnPostIdeal.τ).loc Cert.RnnPostIdeal.main_arg3) = m ((c.tc : Thread Cert.RnnPostIdeal.nD Cert.RnnPostIdeal.τ).loc Cert.RnnPostIdeal.main_arg3)
      ∧ r.2.mem ((c.tc : Thread Cert.RnnPostIdeal.nD Cert.RnnPostIdeal.τ).loc Cert.RnnPostIdeal.main_arg4) = m ((c.tc : Thread Cert.RnnPostIdeal.nD Cert.RnnPostIdeal.τ).loc Cert.RnnPostIdeal.main_arg4)
      ∧ r.2.mem ((c.tc : Thread Cert.RnnPostIdeal.nD Cert.RnnPostIdeal.τ).loc Cert.RnnPostIdeal.main_arg5) = m ((c.tc : Thread Cert.RnnPostIdeal.nD Cert.RnnPostIdeal.τ).loc Cert.RnnPostIdeal.main_arg5)
      ∧ r.2.mem ((c.tc : Thread Cert.RnnPostIdeal.nD Cert.RnnPostIdeal.τ).loc Cert.RnnPostIdeal.main_arg6) = m ((c.tc : Thread Cert.RnnPostIdeal.nD Cert.RnnPostIdeal.τ).loc Cert.RnnPostIdeal.main_arg6)
      ∧ r.2.mem ((c.tc : Thread Cert.RnnPostIdeal.nD Cert.RnnPostIdeal.τ).loc Cert.RnnPostIdeal.main_arg7) = m ((c.tc : Thread Cert.RnnPostIdeal.nD Cert.RnnPostIdeal.τ).loc Cert.RnnPostIdeal.main_arg7))
      ∧ r.2.sem = fun _ => 0)

def quiescent_RnnPostRefIdeal [hRnnPostRefIdeal : Cert.RnnPostRefIdeal.Facts] : Prop :=
  ∀ (m : (ℓ : Loc Cert.RnnPostRefIdeal.nD Cert.RnnPostRefIdeal.τ Cert.RnnPostRefIdeal.sig) → Buf (Elt Ideal) ℓ) (g : Dev Cert.RnnPostRefIdeal.nD → PrngReg), Pre_RnnPostRefIdeal m →
    θ_run (Cert.RnnPostRefIdeal.defs (F := Ideal)) (onTc (τ := Cert.RnnPostRefIdeal.τ) (Cert.RnnPostRefIdeal.main (F := Ideal))) ⟨m, fun _ => 0, g⟩ (fun r => (∀ c : Dev Cert.RnnPostRefIdeal.nD,
      r.2.mem ((c.tc : Thread Cert.RnnPostRefIdeal.nD Cert.RnnPostRefIdeal.τ).loc Cert.RnnPostRefIdeal.main_arg0) = m ((c.tc : Thread Cert.RnnPostRefIdeal.nD Cert.RnnPostRefIdeal.τ).loc Cert.RnnPostRefIdeal.main_arg0)
      ∧ r.2.mem ((c.tc : Thread Cert.RnnPostRefIdeal.nD Cert.RnnPostRefIdeal.τ).loc Cert.RnnPostRefIdeal.main_arg1) = m ((c.tc : Thread Cert.RnnPostRefIdeal.nD Cert.RnnPostRefIdeal.τ).loc Cert.RnnPostRefIdeal.main_arg1)
      ∧ r.2.mem ((c.tc : Thread Cert.RnnPostRefIdeal.nD Cert.RnnPostRefIdeal.τ).loc Cert.RnnPostRefIdeal.main_arg2) = m ((c.tc : Thread Cert.RnnPostRefIdeal.nD Cert.RnnPostRefIdeal.τ).loc Cert.RnnPostRefIdeal.main_arg2)
      ∧ r.2.mem ((c.tc : Thread Cert.RnnPostRefIdeal.nD Cert.RnnPostRefIdeal.τ).loc Cert.RnnPostRefIdeal.main_arg3) = m ((c.tc : Thread Cert.RnnPostRefIdeal.nD Cert.RnnPostRefIdeal.τ).loc Cert.RnnPostRefIdeal.main_arg3)
      ∧ r.2.mem ((c.tc : Thread Cert.RnnPostRefIdeal.nD Cert.RnnPostRefIdeal.τ).loc Cert.RnnPostRefIdeal.main_arg4) = m ((c.tc : Thread Cert.RnnPostRefIdeal.nD Cert.RnnPostRefIdeal.τ).loc Cert.RnnPostRefIdeal.main_arg4)
      ∧ r.2.mem ((c.tc : Thread Cert.RnnPostRefIdeal.nD Cert.RnnPostRefIdeal.τ).loc Cert.RnnPostRefIdeal.main_arg5) = m ((c.tc : Thread Cert.RnnPostRefIdeal.nD Cert.RnnPostRefIdeal.τ).loc Cert.RnnPostRefIdeal.main_arg5)
      ∧ r.2.mem ((c.tc : Thread Cert.RnnPostRefIdeal.nD Cert.RnnPostRefIdeal.τ).loc Cert.RnnPostRefIdeal.main_arg6) = m ((c.tc : Thread Cert.RnnPostRefIdeal.nD Cert.RnnPostRefIdeal.τ).loc Cert.RnnPostRefIdeal.main_arg6)
      ∧ r.2.mem ((c.tc : Thread Cert.RnnPostRefIdeal.nD Cert.RnnPostRefIdeal.τ).loc Cert.RnnPostRefIdeal.main_arg7) = m ((c.tc : Thread Cert.RnnPostRefIdeal.nD Cert.RnnPostRefIdeal.τ).loc Cert.RnnPostRefIdeal.main_arg7))
      ∧ r.2.sem = fun _ => 0)

def quiescent_RnnPostRefIdeal_pre_finite_rnn_post [hRnnPostRefIdeal : Cert.RnnPostRefIdeal.Facts] [hPre_finite_rnn_post : Cert.Pre_finite_rnn_post.Facts] : Prop :=
  ∀ (m : (ℓ : Loc Cert.RnnPostRefIdeal.nD Cert.RnnPostRefIdeal.τ Cert.RnnPostRefIdeal.sig) → Buf (Elt Ideal) ℓ) (g : Dev Cert.RnnPostRefIdeal.nD → PrngReg), Pre_RnnPostRefIdeal_finite_rnn_post m →
    θ_run (Cert.RnnPostRefIdeal.defs (F := Ideal)) (onTc (τ := Cert.RnnPostRefIdeal.τ) (Cert.RnnPostRefIdeal.main (F := Ideal))) ⟨m, fun _ => 0, g⟩ (fun r => (∀ c : Dev Cert.RnnPostRefIdeal.nD,
      r.2.mem ((c.tc : Thread Cert.RnnPostRefIdeal.nD Cert.RnnPostRefIdeal.τ).loc Cert.RnnPostRefIdeal.main_arg0) = m ((c.tc : Thread Cert.RnnPostRefIdeal.nD Cert.RnnPostRefIdeal.τ).loc Cert.RnnPostRefIdeal.main_arg0)
      ∧ r.2.mem ((c.tc : Thread Cert.RnnPostRefIdeal.nD Cert.RnnPostRefIdeal.τ).loc Cert.RnnPostRefIdeal.main_arg1) = m ((c.tc : Thread Cert.RnnPostRefIdeal.nD Cert.RnnPostRefIdeal.τ).loc Cert.RnnPostRefIdeal.main_arg1)
      ∧ r.2.mem ((c.tc : Thread Cert.RnnPostRefIdeal.nD Cert.RnnPostRefIdeal.τ).loc Cert.RnnPostRefIdeal.main_arg2) = m ((c.tc : Thread Cert.RnnPostRefIdeal.nD Cert.RnnPostRefIdeal.τ).loc Cert.RnnPostRefIdeal.main_arg2)
      ∧ r.2.mem ((c.tc : Thread Cert.RnnPostRefIdeal.nD Cert.RnnPostRefIdeal.τ).loc Cert.RnnPostRefIdeal.main_arg3) = m ((c.tc : Thread Cert.RnnPostRefIdeal.nD Cert.RnnPostRefIdeal.τ).loc Cert.RnnPostRefIdeal.main_arg3)
      ∧ r.2.mem ((c.tc : Thread Cert.RnnPostRefIdeal.nD Cert.RnnPostRefIdeal.τ).loc Cert.RnnPostRefIdeal.main_arg4) = m ((c.tc : Thread Cert.RnnPostRefIdeal.nD Cert.RnnPostRefIdeal.τ).loc Cert.RnnPostRefIdeal.main_arg4)
      ∧ r.2.mem ((c.tc : Thread Cert.RnnPostRefIdeal.nD Cert.RnnPostRefIdeal.τ).loc Cert.RnnPostRefIdeal.main_arg5) = m ((c.tc : Thread Cert.RnnPostRefIdeal.nD Cert.RnnPostRefIdeal.τ).loc Cert.RnnPostRefIdeal.main_arg5)
      ∧ r.2.mem ((c.tc : Thread Cert.RnnPostRefIdeal.nD Cert.RnnPostRefIdeal.τ).loc Cert.RnnPostRefIdeal.main_arg6) = m ((c.tc : Thread Cert.RnnPostRefIdeal.nD Cert.RnnPostRefIdeal.τ).loc Cert.RnnPostRefIdeal.main_arg6)
      ∧ r.2.mem ((c.tc : Thread Cert.RnnPostRefIdeal.nD Cert.RnnPostRefIdeal.τ).loc Cert.RnnPostRefIdeal.main_arg7) = m ((c.tc : Thread Cert.RnnPostRefIdeal.nD Cert.RnnPostRefIdeal.τ).loc Cert.RnnPostRefIdeal.main_arg7))
      ∧ r.2.sem = fun _ => 0)

def quiescent_RnnIn [hRnnIn : Cert.RnnIn.Facts] : Prop :=
  ∀ (m : (ℓ : Loc Cert.RnnIn.nD Cert.RnnIn.τ Cert.RnnIn.sig) → Buf (Elt Bits) ℓ) (g : Dev Cert.RnnIn.nD → PrngReg), Pre_RnnIn m →
    θ_run (Cert.RnnIn.defs (F := Bits)) (onTc (τ := Cert.RnnIn.τ) (Cert.RnnIn.main (F := Bits))) ⟨m, fun _ => 0, g⟩ (fun r => (∀ c : Dev Cert.RnnIn.nD,
      r.2.mem ((c.tc : Thread Cert.RnnIn.nD Cert.RnnIn.τ).loc Cert.RnnIn.main_arg0) = m ((c.tc : Thread Cert.RnnIn.nD Cert.RnnIn.τ).loc Cert.RnnIn.main_arg0)
      ∧ r.2.mem ((c.tc : Thread Cert.RnnIn.nD Cert.RnnIn.τ).loc Cert.RnnIn.main_arg1) = m ((c.tc : Thread Cert.RnnIn.nD Cert.RnnIn.τ).loc Cert.RnnIn.main_arg1)
      ∧ r.2.mem ((c.tc : Thread Cert.RnnIn.nD Cert.RnnIn.τ).loc Cert.RnnIn.main_arg2) = m ((c.tc : Thread Cert.RnnIn.nD Cert.RnnIn.τ).loc Cert.RnnIn.main_arg2)
      ∧ r.2.mem ((c.tc : Thread Cert.RnnIn.nD Cert.RnnIn.τ).loc Cert.RnnIn.main_arg3) = m ((c.tc : Thread Cert.RnnIn.nD Cert.RnnIn.τ).loc Cert.RnnIn.main_arg3)
      ∧ r.2.mem ((c.tc : Thread Cert.RnnIn.nD Cert.RnnIn.τ).loc Cert.RnnIn.main_arg4) = m ((c.tc : Thread Cert.RnnIn.nD Cert.RnnIn.τ).loc Cert.RnnIn.main_arg4)
      ∧ r.2.mem ((c.tc : Thread Cert.RnnIn.nD Cert.RnnIn.τ).loc Cert.RnnIn.main_arg5) = m ((c.tc : Thread Cert.RnnIn.nD Cert.RnnIn.τ).loc Cert.RnnIn.main_arg5)
      ∧ r.2.mem ((c.tc : Thread Cert.RnnIn.nD Cert.RnnIn.τ).loc Cert.RnnIn.main_arg6) = m ((c.tc : Thread Cert.RnnIn.nD Cert.RnnIn.τ).loc Cert.RnnIn.main_arg6)
      ∧ r.2.mem ((c.tc : Thread Cert.RnnIn.nD Cert.RnnIn.τ).loc Cert.RnnIn.main_arg7) = m ((c.tc : Thread Cert.RnnIn.nD Cert.RnnIn.τ).loc Cert.RnnIn.main_arg7)
      ∧ r.2.mem ((c.tc : Thread Cert.RnnIn.nD Cert.RnnIn.τ).loc Cert.RnnIn.main_arg8) = m ((c.tc : Thread Cert.RnnIn.nD Cert.RnnIn.τ).loc Cert.RnnIn.main_arg8))
      ∧ r.2.sem = fun _ => 0)

def quiescent_RnnInIdeal [hRnnInIdeal : Cert.RnnInIdeal.Facts] : Prop :=
  ∀ (m : (ℓ : Loc Cert.RnnInIdeal.nD Cert.RnnInIdeal.τ Cert.RnnInIdeal.sig) → Buf (Elt Ideal) ℓ) (g : Dev Cert.RnnInIdeal.nD → PrngReg), Pre_RnnInIdeal m →
    θ_run (Cert.RnnInIdeal.defs (F := Ideal)) (onTc (τ := Cert.RnnInIdeal.τ) (Cert.RnnInIdeal.main (F := Ideal))) ⟨m, fun _ => 0, g⟩ (fun r => (∀ c : Dev Cert.RnnInIdeal.nD,
      r.2.mem ((c.tc : Thread Cert.RnnInIdeal.nD Cert.RnnInIdeal.τ).loc Cert.RnnInIdeal.main_arg0) = m ((c.tc : Thread Cert.RnnInIdeal.nD Cert.RnnInIdeal.τ).loc Cert.RnnInIdeal.main_arg0)
      ∧ r.2.mem ((c.tc : Thread Cert.RnnInIdeal.nD Cert.RnnInIdeal.τ).loc Cert.RnnInIdeal.main_arg1) = m ((c.tc : Thread Cert.RnnInIdeal.nD Cert.RnnInIdeal.τ).loc Cert.RnnInIdeal.main_arg1)
      ∧ r.2.mem ((c.tc : Thread Cert.RnnInIdeal.nD Cert.RnnInIdeal.τ).loc Cert.RnnInIdeal.main_arg2) = m ((c.tc : Thread Cert.RnnInIdeal.nD Cert.RnnInIdeal.τ).loc Cert.RnnInIdeal.main_arg2)
      ∧ r.2.mem ((c.tc : Thread Cert.RnnInIdeal.nD Cert.RnnInIdeal.τ).loc Cert.RnnInIdeal.main_arg3) = m ((c.tc : Thread Cert.RnnInIdeal.nD Cert.RnnInIdeal.τ).loc Cert.RnnInIdeal.main_arg3)
      ∧ r.2.mem ((c.tc : Thread Cert.RnnInIdeal.nD Cert.RnnInIdeal.τ).loc Cert.RnnInIdeal.main_arg4) = m ((c.tc : Thread Cert.RnnInIdeal.nD Cert.RnnInIdeal.τ).loc Cert.RnnInIdeal.main_arg4)
      ∧ r.2.mem ((c.tc : Thread Cert.RnnInIdeal.nD Cert.RnnInIdeal.τ).loc Cert.RnnInIdeal.main_arg5) = m ((c.tc : Thread Cert.RnnInIdeal.nD Cert.RnnInIdeal.τ).loc Cert.RnnInIdeal.main_arg5)
      ∧ r.2.mem ((c.tc : Thread Cert.RnnInIdeal.nD Cert.RnnInIdeal.τ).loc Cert.RnnInIdeal.main_arg6) = m ((c.tc : Thread Cert.RnnInIdeal.nD Cert.RnnInIdeal.τ).loc Cert.RnnInIdeal.main_arg6)
      ∧ r.2.mem ((c.tc : Thread Cert.RnnInIdeal.nD Cert.RnnInIdeal.τ).loc Cert.RnnInIdeal.main_arg7) = m ((c.tc : Thread Cert.RnnInIdeal.nD Cert.RnnInIdeal.τ).loc Cert.RnnInIdeal.main_arg7)
      ∧ r.2.mem ((c.tc : Thread Cert.RnnInIdeal.nD Cert.RnnInIdeal.τ).loc Cert.RnnInIdeal.main_arg8) = m ((c.tc : Thread Cert.RnnInIdeal.nD Cert.RnnInIdeal.τ).loc Cert.RnnInIdeal.main_arg8))
      ∧ r.2.sem = fun _ => 0)

def quiescent_RnnInRefIdeal [hRnnInRefIdeal : Cert.RnnInRefIdeal.Facts] : Prop :=
  ∀ (m : (ℓ : Loc Cert.RnnInRefIdeal.nD Cert.RnnInRefIdeal.τ Cert.RnnInRefIdeal.sig) → Buf (Elt Ideal) ℓ) (g : Dev Cert.RnnInRefIdeal.nD → PrngReg), Pre_RnnInRefIdeal m →
    θ_run (Cert.RnnInRefIdeal.defs (F := Ideal)) (onTc (τ := Cert.RnnInRefIdeal.τ) (Cert.RnnInRefIdeal.main (F := Ideal))) ⟨m, fun _ => 0, g⟩ (fun r => (∀ c : Dev Cert.RnnInRefIdeal.nD,
      r.2.mem ((c.tc : Thread Cert.RnnInRefIdeal.nD Cert.RnnInRefIdeal.τ).loc Cert.RnnInRefIdeal.main_arg0) = m ((c.tc : Thread Cert.RnnInRefIdeal.nD Cert.RnnInRefIdeal.τ).loc Cert.RnnInRefIdeal.main_arg0)
      ∧ r.2.mem ((c.tc : Thread Cert.RnnInRefIdeal.nD Cert.RnnInRefIdeal.τ).loc Cert.RnnInRefIdeal.main_arg1) = m ((c.tc : Thread Cert.RnnInRefIdeal.nD Cert.RnnInRefIdeal.τ).loc Cert.RnnInRefIdeal.main_arg1)
      ∧ r.2.mem ((c.tc : Thread Cert.RnnInRefIdeal.nD Cert.RnnInRefIdeal.τ).loc Cert.RnnInRefIdeal.main_arg2) = m ((c.tc : Thread Cert.RnnInRefIdeal.nD Cert.RnnInRefIdeal.τ).loc Cert.RnnInRefIdeal.main_arg2)
      ∧ r.2.mem ((c.tc : Thread Cert.RnnInRefIdeal.nD Cert.RnnInRefIdeal.τ).loc Cert.RnnInRefIdeal.main_arg3) = m ((c.tc : Thread Cert.RnnInRefIdeal.nD Cert.RnnInRefIdeal.τ).loc Cert.RnnInRefIdeal.main_arg3)
      ∧ r.2.mem ((c.tc : Thread Cert.RnnInRefIdeal.nD Cert.RnnInRefIdeal.τ).loc Cert.RnnInRefIdeal.main_arg4) = m ((c.tc : Thread Cert.RnnInRefIdeal.nD Cert.RnnInRefIdeal.τ).loc Cert.RnnInRefIdeal.main_arg4)
      ∧ r.2.mem ((c.tc : Thread Cert.RnnInRefIdeal.nD Cert.RnnInRefIdeal.τ).loc Cert.RnnInRefIdeal.main_arg5) = m ((c.tc : Thread Cert.RnnInRefIdeal.nD Cert.RnnInRefIdeal.τ).loc Cert.RnnInRefIdeal.main_arg5)
      ∧ r.2.mem ((c.tc : Thread Cert.RnnInRefIdeal.nD Cert.RnnInRefIdeal.τ).loc Cert.RnnInRefIdeal.main_arg6) = m ((c.tc : Thread Cert.RnnInRefIdeal.nD Cert.RnnInRefIdeal.τ).loc Cert.RnnInRefIdeal.main_arg6)
      ∧ r.2.mem ((c.tc : Thread Cert.RnnInRefIdeal.nD Cert.RnnInRefIdeal.τ).loc Cert.RnnInRefIdeal.main_arg7) = m ((c.tc : Thread Cert.RnnInRefIdeal.nD Cert.RnnInRefIdeal.τ).loc Cert.RnnInRefIdeal.main_arg7)
      ∧ r.2.mem ((c.tc : Thread Cert.RnnInRefIdeal.nD Cert.RnnInRefIdeal.τ).loc Cert.RnnInRefIdeal.main_arg8) = m ((c.tc : Thread Cert.RnnInRefIdeal.nD Cert.RnnInRefIdeal.τ).loc Cert.RnnInRefIdeal.main_arg8))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ r.2.sem = fun _ => 0)

def quiescent_AttnBwdIdeal_pre_finite_attn [hAttnBwdIdeal : Cert.AttnBwdIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite_attn m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4))
      ∧ r.2.sem = fun _ => 0)

def quiescent_AttnBwdRefIdeal_pre_finite_attn [hAttnBwdRefIdeal : Cert.AttnBwdRefIdeal.Facts] [hPre_finite_attn : Cert.Pre_finite_attn.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_finite_attn m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdIdeal_pre_finite_attn_fwd [hAttnFwdIdeal : Cert.AttnFwdIdeal.Facts] [hPre_finite_attn_fwd : Cert.Pre_finite_attn_fwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_attn_fwd m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_AttnFwdRefIdeal_pre_finite_attn_fwd [hAttnFwdRefIdeal : Cert.AttnFwdRefIdeal.Facts] [hPre_finite_attn_fwd : Cert.Pre_finite_attn_fwd.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_attn_fwd m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def preserves_Post_PostIdeal : Prop :=
  True

def algebraic_PostIdeal_PostRefIdeal_pre_finite [hPostIdeal : Cert.PostIdeal.Facts] [hPostRefIdeal : Cert.PostRefIdeal.Facts] [hPre_finite : Cert.Pre_finite.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal_finite m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)) →
    ∃ (v0 : (c : Dev Cert.PostIdeal.nD) → Buf (Elt Ideal) ((c.tc : Thread Cert.PostIdeal.nD Cert.PostIdeal.τ).loc Cert.PostIdeal.main_v8_0)) (v1 : (c : Dev Cert.PostIdeal.nD) → Buf (Elt Ideal) ((c.tc : Thread Cert.PostIdeal.nD Cert.PostIdeal.τ).loc Cert.PostIdeal.main_v10_0)) (v2 : (c : Dev Cert.PostIdeal.nD) → Buf (Elt Ideal) ((c.tc : Thread Cert.PostIdeal.nD Cert.PostIdeal.τ).loc Cert.PostIdeal.main_v10_1)) (v3 : (c : Dev Cert.PostIdeal.nD) → Buf (Elt Ideal) ((c.tc : Thread Cert.PostIdeal.nD Cert.PostIdeal.τ).loc Cert.PostIdeal.main_v10_2)) (v4 : (c : Dev Cert.PostIdeal.nD) → Buf (Elt Ideal) ((c.tc : Thread Cert.PostIdeal.nD Cert.PostIdeal.τ).loc Cert.PostIdeal.main_v10_3)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v8_0) = v0 c
          ∧ r.2.mem ((c.tc : Thread Cert.PostIdeal.nD Cert.PostIdeal.τ).loc Cert.PostIdeal.main_v10_0) = v1 c
          ∧ r.2.mem ((c.tc : Thread Cert.PostIdeal.nD Cert.PostIdeal.τ).loc Cert.PostIdeal.main_v10_1) = v2 c
          ∧ r.2.mem ((c.tc : Thread Cert.PostIdeal.nD Cert.PostIdeal.τ).loc Cert.PostIdeal.main_v10_2) = v3 c
          ∧ r.2.mem ((c.tc : Thread Cert.PostIdeal.nD Cert.PostIdeal.τ).loc Cert.PostIdeal.main_v10_3) = v4 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v93) = v0 c
          ∧ r.2.mem ((c.tc : Thread Cert.PostRefIdeal.nD Cert.PostRefIdeal.τ).loc Cert.PostRefIdeal.main_v94) = v1 c
          ∧ r.2.mem ((c.tc : Thread Cert.PostRefIdeal.nD Cert.PostRefIdeal.τ).loc Cert.PostRefIdeal.main_v96) = v2 c
          ∧ r.2.mem ((c.tc : Thread Cert.PostRefIdeal.nD Cert.PostRefIdeal.τ).loc Cert.PostRefIdeal.main_v92) = v3 c
          ∧ r.2.mem ((c.tc : Thread Cert.PostRefIdeal.nD Cert.PostRefIdeal.τ).loc Cert.PostRefIdeal.main_v98) = v4 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6))

def preserves_AttnIn_AttnInIdeal : Prop :=
  True

def algebraic_AttnInIdeal_AttnInRefIdeal [hAttnInIdeal : Cert.AttnInIdeal.Facts] [hAttnInRefIdeal : Cert.AttnInRefIdeal.Facts] : Prop :=
  ∀ (m : (ℓ : Loc Cert.AttnInIdeal.nD Cert.AttnInIdeal.τ Cert.AttnInIdeal.sig) → Buf (Elt Ideal) ℓ) (g : Dev Cert.AttnInIdeal.nD → PrngReg)
    (m' : (ℓ : Loc Cert.AttnInRefIdeal.nD Cert.AttnInRefIdeal.τ Cert.AttnInRefIdeal.sig) → Buf (Elt Ideal) ℓ) (g' : Dev Cert.AttnInRefIdeal.nD → PrngReg), Pre_AttnInIdeal m →
    (∀ c : Dev Cert.AttnInIdeal.nD,
      m' ((c.tc : Thread Cert.AttnInRefIdeal.nD Cert.AttnInRefIdeal.τ).loc Cert.AttnInRefIdeal.main_arg0) = m ((c.tc : Thread Cert.AttnInIdeal.nD Cert.AttnInIdeal.τ).loc Cert.AttnInIdeal.main_arg0)
      ∧ m' ((c.tc : Thread Cert.AttnInRefIdeal.nD Cert.AttnInRefIdeal.τ).loc Cert.AttnInRefIdeal.main_arg1) = m ((c.tc : Thread Cert.AttnInIdeal.nD Cert.AttnInIdeal.τ).loc Cert.AttnInIdeal.main_arg1)
      ∧ m' ((c.tc : Thread Cert.AttnInRefIdeal.nD Cert.AttnInRefIdeal.τ).loc Cert.AttnInRefIdeal.main_arg2) = m ((c.tc : Thread Cert.AttnInIdeal.nD Cert.AttnInIdeal.τ).loc Cert.AttnInIdeal.main_arg2)
      ∧ m' ((c.tc : Thread Cert.AttnInRefIdeal.nD Cert.AttnInRefIdeal.τ).loc Cert.AttnInRefIdeal.main_arg3) = m ((c.tc : Thread Cert.AttnInIdeal.nD Cert.AttnInIdeal.τ).loc Cert.AttnInIdeal.main_arg3)
      ∧ m' ((c.tc : Thread Cert.AttnInRefIdeal.nD Cert.AttnInRefIdeal.τ).loc Cert.AttnInRefIdeal.main_arg4) = m ((c.tc : Thread Cert.AttnInIdeal.nD Cert.AttnInIdeal.τ).loc Cert.AttnInIdeal.main_arg4)
      ∧ m' ((c.tc : Thread Cert.AttnInRefIdeal.nD Cert.AttnInRefIdeal.τ).loc Cert.AttnInRefIdeal.main_arg5) = m ((c.tc : Thread Cert.AttnInIdeal.nD Cert.AttnInIdeal.τ).loc Cert.AttnInIdeal.main_arg5)
      ∧ m' ((c.tc : Thread Cert.AttnInRefIdeal.nD Cert.AttnInRefIdeal.τ).loc Cert.AttnInRefIdeal.main_arg6) = m ((c.tc : Thread Cert.AttnInIdeal.nD Cert.AttnInIdeal.τ).loc Cert.AttnInIdeal.main_arg6)) →
    ∃ (v0 : (c : Dev Cert.AttnInIdeal.nD) → Buf (Elt Ideal) ((c.tc : Thread Cert.AttnInIdeal.nD Cert.AttnInIdeal.τ).loc Cert.AttnInIdeal.main_v48_0)) (v1 : (c : Dev Cert.AttnInIdeal.nD) → Buf (Elt Ideal) ((c.tc : Thread Cert.AttnInIdeal.nD Cert.AttnInIdeal.τ).loc Cert.AttnInIdeal.main_v48_1)) (v2 : (c : Dev Cert.AttnInIdeal.nD) → Buf (Elt Ideal) ((c.tc : Thread Cert.AttnInIdeal.nD Cert.AttnInIdeal.τ).loc Cert.AttnInIdeal.main_v48_2)) (v3 : (c : Dev Cert.AttnInIdeal.nD) → Buf (Elt Ideal) ((c.tc : Thread Cert.AttnInIdeal.nD Cert.AttnInIdeal.τ).loc Cert.AttnInIdeal.main_v48_3)),
      θ_run (Cert.AttnInIdeal.defs (F := Ideal)) (onTc (τ := Cert.AttnInIdeal.τ) (Cert.AttnInIdeal.main (F := Ideal))) ⟨m, fun _ => 0, g⟩ (fun r => ∀ c : Dev Cert.AttnInIdeal.nD,
          r.2.mem ((c.tc : Thread Cert.AttnInIdeal.nD Cert.AttnInIdeal.τ).loc Cert.AttnInIdeal.main_v48_0) = v0 c
          ∧ r.2.mem ((c.tc : Thread Cert.AttnInIdeal.nD Cert.AttnInIdeal.τ).loc Cert.AttnInIdeal.main_v48_1) = v1 c
          ∧ r.2.mem ((c.tc : Thread Cert.AttnInIdeal.nD Cert.AttnInIdeal.τ).loc Cert.AttnInIdeal.main_v48_2) = v2 c
          ∧ r.2.mem ((c.tc : Thread Cert.AttnInIdeal.nD Cert.AttnInIdeal.τ).loc Cert.AttnInIdeal.main_v48_3) = v3 c
          ∧ r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
          ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1)
          ∧ r.2.mem ((c.tc : Thread Cert.AttnInIdeal.nD Cert.AttnInIdeal.τ).loc Cert.AttnInIdeal.main_arg2) = m ((c.tc : Thread Cert.AttnInIdeal.nD Cert.AttnInIdeal.τ).loc Cert.AttnInIdeal.main_arg2)
          ∧ r.2.mem ((c.tc : Thread Cert.AttnInIdeal.nD Cert.AttnInIdeal.τ).loc Cert.AttnInIdeal.main_arg3) = m ((c.tc : Thread Cert.AttnInIdeal.nD Cert.AttnInIdeal.τ).loc Cert.AttnInIdeal.main_arg3)
          ∧ r.2.mem ((c.tc : Thread Cert.AttnInIdeal.nD Cert.AttnInIdeal.τ).loc Cert.AttnInIdeal.main_arg4) = m ((c.tc : Thread Cert.AttnInIdeal.nD Cert.AttnInIdeal.τ).loc Cert.AttnInIdeal.main_arg4)
          ∧ r.2.mem ((c.tc : Thread Cert.AttnInIdeal.nD Cert.AttnInIdeal.τ).loc Cert.AttnInIdeal.main_arg5) = m ((c.tc : Thread Cert.AttnInIdeal.nD Cert.AttnInIdeal.τ).loc Cert.AttnInIdeal.main_arg5)
          ∧ r.2.mem ((c.tc : Thread Cert.AttnInIdeal.nD Cert.AttnInIdeal.τ).loc Cert.AttnInIdeal.main_arg6) = m ((c.tc : Thread Cert.AttnInIdeal.nD Cert.AttnInIdeal.τ).loc Cert.AttnInIdeal.main_arg6))
      ∧ θ_run (Cert.AttnInRefIdeal.defs (F := Ideal)) (onTc (τ := Cert.AttnInRefIdeal.τ) (Cert.AttnInRefIdeal.main (F := Ideal))) ⟨m', fun _ => 0, g'⟩ (fun r => ∀ c : Dev Cert.AttnInRefIdeal.nD,
          r.2.mem ((c.tc : Thread Cert.AttnInRefIdeal.nD Cert.AttnInRefIdeal.τ).loc Cert.AttnInRefIdeal.main_v132) = v0 c
          ∧ r.2.mem ((c.tc : Thread Cert.AttnInRefIdeal.nD Cert.AttnInRefIdeal.τ).loc Cert.AttnInRefIdeal.main_v134) = v1 c
          ∧ r.2.mem ((c.tc : Thread Cert.AttnInRefIdeal.nD Cert.AttnInRefIdeal.τ).loc Cert.AttnInRefIdeal.main_v136) = v2 c
          ∧ r.2.mem ((c.tc : Thread Cert.AttnInRefIdeal.nD Cert.AttnInRefIdeal.τ).loc Cert.AttnInRefIdeal.main_v130) = v3 c
          ∧ r.2.mem ((c.tc : Thread Cert.AttnInRefIdeal.nD Cert.AttnInRefIdeal.τ).loc Cert.AttnInRefIdeal.main_arg0) = m' ((c.tc : Thread Cert.AttnInRefIdeal.nD Cert.AttnInRefIdeal.τ).loc Cert.AttnInRefIdeal.main_arg0)
          ∧ r.2.mem ((c.tc : Thread Cert.AttnInRefIdeal.nD Cert.AttnInRefIdeal.τ).loc Cert.AttnInRefIdeal.main_arg1) = m' ((c.tc : Thread Cert.AttnInRefIdeal.nD Cert.AttnInRefIdeal.τ).loc Cert.AttnInRefIdeal.main_arg1)
          ∧ r.2.mem ((c.tc : Thread Cert.AttnInRefIdeal.nD Cert.AttnInRefIdeal.τ).loc Cert.AttnInRefIdeal.main_arg2) = m' ((c.tc : Thread Cert.AttnInRefIdeal.nD Cert.AttnInRefIdeal.τ).loc Cert.AttnInRefIdeal.main_arg2)
          ∧ r.2.mem ((c.tc : Thread Cert.AttnInRefIdeal.nD Cert.AttnInRefIdeal.τ).loc Cert.AttnInRefIdeal.main_arg3) = m' ((c.tc : Thread Cert.AttnInRefIdeal.nD Cert.AttnInRefIdeal.τ).loc Cert.AttnInRefIdeal.main_arg3)
          ∧ r.2.mem ((c.tc : Thread Cert.AttnInRefIdeal.nD Cert.AttnInRefIdeal.τ).loc Cert.AttnInRefIdeal.main_arg4) = m' ((c.tc : Thread Cert.AttnInRefIdeal.nD Cert.AttnInRefIdeal.τ).loc Cert.AttnInRefIdeal.main_arg4)
          ∧ r.2.mem ((c.tc : Thread Cert.AttnInRefIdeal.nD Cert.AttnInRefIdeal.τ).loc Cert.AttnInRefIdeal.main_arg5) = m' ((c.tc : Thread Cert.AttnInRefIdeal.nD Cert.AttnInRefIdeal.τ).loc Cert.AttnInRefIdeal.main_arg5)
          ∧ r.2.mem ((c.tc : Thread Cert.AttnInRefIdeal.nD Cert.AttnInRefIdeal.τ).loc Cert.AttnInRefIdeal.main_arg6) = m' ((c.tc : Thread Cert.AttnInRefIdeal.nD Cert.AttnInRefIdeal.τ).loc Cert.AttnInRefIdeal.main_arg6))

def preserves_Mlp_MlpIdeal : Prop :=
  True

def algebraic_MlpIdeal_MlpRefIdeal_pre_finite_mlp [hMlpIdeal : Cert.MlpIdeal.Facts] [hMlpRefIdeal : Cert.MlpRefIdeal.Facts] [hPre_finite_mlp : Cert.Pre_finite_mlp.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal_finite_mlp m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)) →
    ∃ (v0 : (c : Dev Cert.MlpIdeal.nD) → Buf (Elt Ideal) ((c.tc : Thread Cert.MlpIdeal.nD Cert.MlpIdeal.τ).loc Cert.MlpIdeal.main_v8_0)) (v1 : (c : Dev Cert.MlpIdeal.nD) → Buf (Elt Ideal) ((c.tc : Thread Cert.MlpIdeal.nD Cert.MlpIdeal.τ).loc Cert.MlpIdeal.main_v8_3)) (v2 : (c : Dev Cert.MlpIdeal.nD) → Buf (Elt Ideal) ((c.tc : Thread Cert.MlpIdeal.nD Cert.MlpIdeal.τ).loc Cert.MlpIdeal.main_v10_0)) (v3 : (c : Dev Cert.MlpIdeal.nD) → Buf (Elt Ideal) ((c.tc : Thread Cert.MlpIdeal.nD Cert.MlpIdeal.τ).loc Cert.MlpIdeal.main_v10_1)) (v4 : (c : Dev Cert.MlpIdeal.nD) → Buf (Elt Ideal) ((c.tc : Thread Cert.MlpIdeal.nD Cert.MlpIdeal.τ).loc Cert.MlpIdeal.main_v10_2)) (v5 : (c : Dev Cert.MlpIdeal.nD) → Buf (Elt Ideal) ((c.tc : Thread Cert.MlpIdeal.nD Cert.MlpIdeal.τ).loc Cert.MlpIdeal.main_v10_3)) (v6 : (c : Dev Cert.MlpIdeal.nD) → Buf (Elt Ideal) ((c.tc : Thread Cert.MlpIdeal.nD Cert.MlpIdeal.τ).loc Cert.MlpIdeal.main_v10_4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v8_0) = v0 c
          ∧ r.2.mem ((c.tc : Thread Cert.MlpIdeal.nD Cert.MlpIdeal.τ).loc Cert.MlpIdeal.main_v8_3) = v1 c
          ∧ r.2.mem ((c.tc : Thread Cert.MlpIdeal.nD Cert.MlpIdeal.τ).loc Cert.MlpIdeal.main_v10_0) = v2 c
          ∧ r.2.mem ((c.tc : Thread Cert.MlpIdeal.nD Cert.MlpIdeal.τ).loc Cert.MlpIdeal.main_v10_1) = v3 c
          ∧ r.2.mem ((c.tc : Thread Cert.MlpIdeal.nD Cert.MlpIdeal.τ).loc Cert.MlpIdeal.main_v10_2) = v4 c
          ∧ r.2.mem ((c.tc : Thread Cert.MlpIdeal.nD Cert.MlpIdeal.τ).loc Cert.MlpIdeal.main_v10_3) = v5 c
          ∧ r.2.mem ((c.tc : Thread Cert.MlpIdeal.nD Cert.MlpIdeal.τ).loc Cert.MlpIdeal.main_v10_4) = v6 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v127) = v0 c
          ∧ r.2.mem ((c.tc : Thread Cert.MlpRefIdeal.nD Cert.MlpRefIdeal.τ).loc Cert.MlpRefIdeal.main_v58) = v1 c
          ∧ r.2.mem ((c.tc : Thread Cert.MlpRefIdeal.nD Cert.MlpRefIdeal.τ).loc Cert.MlpRefIdeal.main_v120) = v2 c
          ∧ r.2.mem ((c.tc : Thread Cert.MlpRefIdeal.nD Cert.MlpRefIdeal.τ).loc Cert.MlpRefIdeal.main_v122) = v3 c
          ∧ r.2.mem ((c.tc : Thread Cert.MlpRefIdeal.nD Cert.MlpRefIdeal.τ).loc Cert.MlpRefIdeal.main_v124) = v4 c
          ∧ r.2.mem ((c.tc : Thread Cert.MlpRefIdeal.nD Cert.MlpRefIdeal.τ).loc Cert.MlpRefIdeal.main_v126) = v5 c
          ∧ r.2.mem ((c.tc : Thread Cert.MlpRefIdeal.nD Cert.MlpRefIdeal.τ).loc Cert.MlpRefIdeal.main_v129) = v6 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6))

def preserves_Head_HeadIdeal : Prop :=
  True

def algebraic_HeadIdeal_HeadRefIdeal_pre_finite_head [hHeadIdeal : Cert.HeadIdeal.Facts] [hHeadRefIdeal : Cert.HeadRefIdeal.Facts] [hPre_finite_head : Cert.Pre_finite_head.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal_finite_head m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)
      ∧ m' ((c.tc : Thread Cert.HeadRefIdeal.nD Cert.HeadRefIdeal.τ).loc Cert.HeadRefIdeal.main_arg6) = m ((c.tc : Thread Cert.HeadIdeal.nD Cert.HeadIdeal.τ).loc Cert.HeadIdeal.main_arg6)) →
    ∃ (v0 : (c : Dev Cert.HeadIdeal.nD) → Buf (Elt Ideal) ((c.tc : Thread Cert.HeadIdeal.nD Cert.HeadIdeal.τ).loc Cert.HeadIdeal.main_v8_2)) (v1 : (c : Dev Cert.HeadIdeal.nD) → Buf (Elt Ideal) ((c.tc : Thread Cert.HeadIdeal.nD Cert.HeadIdeal.τ).loc Cert.HeadIdeal.main_v10_0)) (v2 : (c : Dev Cert.HeadIdeal.nD) → Buf (Elt Ideal) ((c.tc : Thread Cert.HeadIdeal.nD Cert.HeadIdeal.τ).loc Cert.HeadIdeal.main_v10_1)) (v3 : (c : Dev Cert.HeadIdeal.nD) → Buf (Elt Ideal) ((c.tc : Thread Cert.HeadIdeal.nD Cert.HeadIdeal.τ).loc Cert.HeadIdeal.main_v10_2)) (v4 : (c : Dev Cert.HeadIdeal.nD) → Buf (Elt Ideal) ((c.tc : Thread Cert.HeadIdeal.nD Cert.HeadIdeal.τ).loc Cert.HeadIdeal.main_v10_3)) (v5 : (c : Dev Cert.HeadIdeal.nD) → Buf (Elt Ideal) ((c.tc : Thread Cert.HeadIdeal.nD Cert.HeadIdeal.τ).loc Cert.HeadIdeal.main_v10_4)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v8_2) = v0 c
          ∧ r.2.mem ((c.tc : Thread Cert.HeadIdeal.nD Cert.HeadIdeal.τ).loc Cert.HeadIdeal.main_v10_0) = v1 c
          ∧ r.2.mem ((c.tc : Thread Cert.HeadIdeal.nD Cert.HeadIdeal.τ).loc Cert.HeadIdeal.main_v10_1) = v2 c
          ∧ r.2.mem ((c.tc : Thread Cert.HeadIdeal.nD Cert.HeadIdeal.τ).loc Cert.HeadIdeal.main_v10_2) = v3 c
          ∧ r.2.mem ((c.tc : Thread Cert.HeadIdeal.nD Cert.HeadIdeal.τ).loc Cert.HeadIdeal.main_v10_3) = v4 c
          ∧ r.2.mem ((c.tc : Thread Cert.HeadIdeal.nD Cert.HeadIdeal.τ).loc Cert.HeadIdeal.main_v10_4) = v5 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v58) = v0 c
          ∧ r.2.mem ((c.tc : Thread Cert.HeadRefIdeal.nD Cert.HeadRefIdeal.τ).loc Cert.HeadRefIdeal.main_v134) = v1 c
          ∧ r.2.mem ((c.tc : Thread Cert.HeadRefIdeal.nD Cert.HeadRefIdeal.τ).loc Cert.HeadRefIdeal.main_v136) = v2 c
          ∧ r.2.mem ((c.tc : Thread Cert.HeadRefIdeal.nD Cert.HeadRefIdeal.τ).loc Cert.HeadRefIdeal.main_v138) = v3 c
          ∧ r.2.mem ((c.tc : Thread Cert.HeadRefIdeal.nD Cert.HeadRefIdeal.τ).loc Cert.HeadRefIdeal.main_v140) = v4 c
          ∧ r.2.mem ((c.tc : Thread Cert.HeadRefIdeal.nD Cert.HeadRefIdeal.τ).loc Cert.HeadRefIdeal.main_v145) = v5 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6))

def preserves_RnnPost_RnnPostIdeal : Prop :=
  IdealRules.named_const.Statement Cert.RnnPostIdeal.κ "c" .f32 0x3D372713#32 ((8943 / 200000 : ℝ) : EReal)
  ∧ IdealRules.named_const.Statement Cert.RnnPostIdeal.κ "c3" .f32 0x3E095D4F#32 ((26829 / 200000 : ℝ) : EReal)

def algebraic_RnnPostIdeal_RnnPostRefIdeal_pre_finite_rnn_post [hRnnPostIdeal : Cert.RnnPostIdeal.Facts] [hRnnPostRefIdeal : Cert.RnnPostRefIdeal.Facts] [hPre_finite_rnn_post : Cert.Pre_finite_rnn_post.Facts] : Prop :=
  ∀ (m : (ℓ : Loc Cert.RnnPostIdeal.nD Cert.RnnPostIdeal.τ Cert.RnnPostIdeal.sig) → Buf (Elt Ideal) ℓ) (g : Dev Cert.RnnPostIdeal.nD → PrngReg)
    (m' : (ℓ : Loc Cert.RnnPostRefIdeal.nD Cert.RnnPostRefIdeal.τ Cert.RnnPostRefIdeal.sig) → Buf (Elt Ideal) ℓ) (g' : Dev Cert.RnnPostRefIdeal.nD → PrngReg), Pre_RnnPostIdeal_finite_rnn_post m →
    (∀ c : Dev Cert.RnnPostIdeal.nD,
      m' ((c.tc : Thread Cert.RnnPostRefIdeal.nD Cert.RnnPostRefIdeal.τ).loc Cert.RnnPostRefIdeal.main_arg0) = m ((c.tc : Thread Cert.RnnPostIdeal.nD Cert.RnnPostIdeal.τ).loc Cert.RnnPostIdeal.main_arg0)
      ∧ m' ((c.tc : Thread Cert.RnnPostRefIdeal.nD Cert.RnnPostRefIdeal.τ).loc Cert.RnnPostRefIdeal.main_arg1) = m ((c.tc : Thread Cert.RnnPostIdeal.nD Cert.RnnPostIdeal.τ).loc Cert.RnnPostIdeal.main_arg1)
      ∧ m' ((c.tc : Thread Cert.RnnPostRefIdeal.nD Cert.RnnPostRefIdeal.τ).loc Cert.RnnPostRefIdeal.main_arg2) = m ((c.tc : Thread Cert.RnnPostIdeal.nD Cert.RnnPostIdeal.τ).loc Cert.RnnPostIdeal.main_arg2)
      ∧ m' ((c.tc : Thread Cert.RnnPostRefIdeal.nD Cert.RnnPostRefIdeal.τ).loc Cert.RnnPostRefIdeal.main_arg3) = m ((c.tc : Thread Cert.RnnPostIdeal.nD Cert.RnnPostIdeal.τ).loc Cert.RnnPostIdeal.main_arg3)
      ∧ m' ((c.tc : Thread Cert.RnnPostRefIdeal.nD Cert.RnnPostRefIdeal.τ).loc Cert.RnnPostRefIdeal.main_arg4) = m ((c.tc : Thread Cert.RnnPostIdeal.nD Cert.RnnPostIdeal.τ).loc Cert.RnnPostIdeal.main_arg4)
      ∧ m' ((c.tc : Thread Cert.RnnPostRefIdeal.nD Cert.RnnPostRefIdeal.τ).loc Cert.RnnPostRefIdeal.main_arg5) = m ((c.tc : Thread Cert.RnnPostIdeal.nD Cert.RnnPostIdeal.τ).loc Cert.RnnPostIdeal.main_arg5)
      ∧ m' ((c.tc : Thread Cert.RnnPostRefIdeal.nD Cert.RnnPostRefIdeal.τ).loc Cert.RnnPostRefIdeal.main_arg6) = m ((c.tc : Thread Cert.RnnPostIdeal.nD Cert.RnnPostIdeal.τ).loc Cert.RnnPostIdeal.main_arg6)
      ∧ m' ((c.tc : Thread Cert.RnnPostRefIdeal.nD Cert.RnnPostRefIdeal.τ).loc Cert.RnnPostRefIdeal.main_arg7) = m ((c.tc : Thread Cert.RnnPostIdeal.nD Cert.RnnPostIdeal.τ).loc Cert.RnnPostIdeal.main_arg7)) →
    ∃ (v0 : (c : Dev Cert.RnnPostIdeal.nD) → Buf (Elt Ideal) ((c.tc : Thread Cert.RnnPostIdeal.nD Cert.RnnPostIdeal.τ).loc Cert.RnnPostIdeal.main_v10_0)) (v1 : (c : Dev Cert.RnnPostIdeal.nD) → Buf (Elt Ideal) ((c.tc : Thread Cert.RnnPostIdeal.nD Cert.RnnPostIdeal.τ).loc Cert.RnnPostIdeal.main_v10_2)) (v2 : (c : Dev Cert.RnnPostIdeal.nD) → Buf (Elt Ideal) ((c.tc : Thread Cert.RnnPostIdeal.nD Cert.RnnPostIdeal.τ).loc Cert.RnnPostIdeal.main_v12_0)) (v3 : (c : Dev Cert.RnnPostIdeal.nD) → Buf (Elt Ideal) ((c.tc : Thread Cert.RnnPostIdeal.nD Cert.RnnPostIdeal.τ).loc Cert.RnnPostIdeal.main_v12_1)) (v4 : (c : Dev Cert.RnnPostIdeal.nD) → Buf (Elt Ideal) ((c.tc : Thread Cert.RnnPostIdeal.nD Cert.RnnPostIdeal.τ).loc Cert.RnnPostIdeal.main_v12_2)) (v5 : (c : Dev Cert.RnnPostIdeal.nD) → Buf (Elt Ideal) ((c.tc : Thread Cert.RnnPostIdeal.nD Cert.RnnPostIdeal.τ).loc Cert.RnnPostIdeal.main_v14)) (v6 : (c : Dev Cert.RnnPostIdeal.nD) → Buf (Elt Ideal) ((c.tc : Thread Cert.RnnPostIdeal.nD Cert.RnnPostIdeal.τ).loc Cert.RnnPostIdeal.main_v12_4)),
      θ_run (Cert.RnnPostIdeal.defs (F := Ideal)) (onTc (τ := Cert.RnnPostIdeal.τ) (Cert.RnnPostIdeal.main (F := Ideal))) ⟨m, fun _ => 0, g⟩ (fun r => ∀ c : Dev Cert.RnnPostIdeal.nD,
          r.2.mem ((c.tc : Thread Cert.RnnPostIdeal.nD Cert.RnnPostIdeal.τ).loc Cert.RnnPostIdeal.main_v10_0) = v0 c
          ∧ r.2.mem ((c.tc : Thread Cert.RnnPostIdeal.nD Cert.RnnPostIdeal.τ).loc Cert.RnnPostIdeal.main_v10_2) = v1 c
          ∧ r.2.mem ((c.tc : Thread Cert.RnnPostIdeal.nD Cert.RnnPostIdeal.τ).loc Cert.RnnPostIdeal.main_v12_0) = v2 c
          ∧ r.2.mem ((c.tc : Thread Cert.RnnPostIdeal.nD Cert.RnnPostIdeal.τ).loc Cert.RnnPostIdeal.main_v12_1) = v3 c
          ∧ r.2.mem ((c.tc : Thread Cert.RnnPostIdeal.nD Cert.RnnPostIdeal.τ).loc Cert.RnnPostIdeal.main_v12_2) = v4 c
          ∧ r.2.mem ((c.tc : Thread Cert.RnnPostIdeal.nD Cert.RnnPostIdeal.τ).loc Cert.RnnPostIdeal.main_v14) = v5 c
          ∧ r.2.mem ((c.tc : Thread Cert.RnnPostIdeal.nD Cert.RnnPostIdeal.τ).loc Cert.RnnPostIdeal.main_v12_4) = v6 c
          ∧ r.2.mem ((c.tc : Thread Cert.RnnPostIdeal.nD Cert.RnnPostIdeal.τ).loc Cert.RnnPostIdeal.main_arg0) = m ((c.tc : Thread Cert.RnnPostIdeal.nD Cert.RnnPostIdeal.τ).loc Cert.RnnPostIdeal.main_arg0)
          ∧ r.2.mem ((c.tc : Thread Cert.RnnPostIdeal.nD Cert.RnnPostIdeal.τ).loc Cert.RnnPostIdeal.main_arg1) = m ((c.tc : Thread Cert.RnnPostIdeal.nD Cert.RnnPostIdeal.τ).loc Cert.RnnPostIdeal.main_arg1)
          ∧ r.2.mem ((c.tc : Thread Cert.RnnPostIdeal.nD Cert.RnnPostIdeal.τ).loc Cert.RnnPostIdeal.main_arg2) = m ((c.tc : Thread Cert.RnnPostIdeal.nD Cert.RnnPostIdeal.τ).loc Cert.RnnPostIdeal.main_arg2)
          ∧ r.2.mem ((c.tc : Thread Cert.RnnPostIdeal.nD Cert.RnnPostIdeal.τ).loc Cert.RnnPostIdeal.main_arg3) = m ((c.tc : Thread Cert.RnnPostIdeal.nD Cert.RnnPostIdeal.τ).loc Cert.RnnPostIdeal.main_arg3)
          ∧ r.2.mem ((c.tc : Thread Cert.RnnPostIdeal.nD Cert.RnnPostIdeal.τ).loc Cert.RnnPostIdeal.main_arg4) = m ((c.tc : Thread Cert.RnnPostIdeal.nD Cert.RnnPostIdeal.τ).loc Cert.RnnPostIdeal.main_arg4)
          ∧ r.2.mem ((c.tc : Thread Cert.RnnPostIdeal.nD Cert.RnnPostIdeal.τ).loc Cert.RnnPostIdeal.main_arg5) = m ((c.tc : Thread Cert.RnnPostIdeal.nD Cert.RnnPostIdeal.τ).loc Cert.RnnPostIdeal.main_arg5)
          ∧ r.2.mem ((c.tc : Thread Cert.RnnPostIdeal.nD Cert.RnnPostIdeal.τ).loc Cert.RnnPostIdeal.main_arg6) = m ((c.tc : Thread Cert.RnnPostIdeal.nD Cert.RnnPostIdeal.τ).loc Cert.RnnPostIdeal.main_arg6)
          ∧ r.2.mem ((c.tc : Thread Cert.RnnPostIdeal.nD Cert.RnnPostIdeal.τ).loc Cert.RnnPostIdeal.main_arg7) = m ((c.tc : Thread Cert.RnnPostIdeal.nD Cert.RnnPostIdeal.τ).loc Cert.RnnPostIdeal.main_arg7))
      ∧ θ_run (Cert.RnnPostRefIdeal.defs (F := Ideal)) (onTc (τ := Cert.RnnPostRefIdeal.τ) (Cert.RnnPostRefIdeal.main (F := Ideal))) ⟨m', fun _ => 0, g'⟩ (fun r => ∀ c : Dev Cert.RnnPostRefIdeal.nD,
          r.2.mem ((c.tc : Thread Cert.RnnPostRefIdeal.nD Cert.RnnPostRefIdeal.τ).loc Cert.RnnPostRefIdeal.main_v133) = v0 c
          ∧ r.2.mem ((c.tc : Thread Cert.RnnPostRefIdeal.nD Cert.RnnPostRefIdeal.τ).loc Cert.RnnPostRefIdeal.main_v135) = v1 c
          ∧ r.2.mem ((c.tc : Thread Cert.RnnPostRefIdeal.nD Cert.RnnPostRefIdeal.τ).loc Cert.RnnPostRefIdeal.main_v136) = v2 c
          ∧ r.2.mem ((c.tc : Thread Cert.RnnPostRefIdeal.nD Cert.RnnPostRefIdeal.τ).loc Cert.RnnPostRefIdeal.main_v138) = v3 c
          ∧ r.2.mem ((c.tc : Thread Cert.RnnPostRefIdeal.nD Cert.RnnPostRefIdeal.τ).loc Cert.RnnPostRefIdeal.main_v132) = v4 c
          ∧ r.2.mem ((c.tc : Thread Cert.RnnPostRefIdeal.nD Cert.RnnPostRefIdeal.τ).loc Cert.RnnPostRefIdeal.main_v139) = v5 c
          ∧ r.2.mem ((c.tc : Thread Cert.RnnPostRefIdeal.nD Cert.RnnPostRefIdeal.τ).loc Cert.RnnPostRefIdeal.main_v141) = v6 c
          ∧ r.2.mem ((c.tc : Thread Cert.RnnPostRefIdeal.nD Cert.RnnPostRefIdeal.τ).loc Cert.RnnPostRefIdeal.main_arg0) = m' ((c.tc : Thread Cert.RnnPostRefIdeal.nD Cert.RnnPostRefIdeal.τ).loc Cert.RnnPostRefIdeal.main_arg0)
          ∧ r.2.mem ((c.tc : Thread Cert.RnnPostRefIdeal.nD Cert.RnnPostRefIdeal.τ).loc Cert.RnnPostRefIdeal.main_arg1) = m' ((c.tc : Thread Cert.RnnPostRefIdeal.nD Cert.RnnPostRefIdeal.τ).loc Cert.RnnPostRefIdeal.main_arg1)
          ∧ r.2.mem ((c.tc : Thread Cert.RnnPostRefIdeal.nD Cert.RnnPostRefIdeal.τ).loc Cert.RnnPostRefIdeal.main_arg2) = m' ((c.tc : Thread Cert.RnnPostRefIdeal.nD Cert.RnnPostRefIdeal.τ).loc Cert.RnnPostRefIdeal.main_arg2)
          ∧ r.2.mem ((c.tc : Thread Cert.RnnPostRefIdeal.nD Cert.RnnPostRefIdeal.τ).loc Cert.RnnPostRefIdeal.main_arg3) = m' ((c.tc : Thread Cert.RnnPostRefIdeal.nD Cert.RnnPostRefIdeal.τ).loc Cert.RnnPostRefIdeal.main_arg3)
          ∧ r.2.mem ((c.tc : Thread Cert.RnnPostRefIdeal.nD Cert.RnnPostRefIdeal.τ).loc Cert.RnnPostRefIdeal.main_arg4) = m' ((c.tc : Thread Cert.RnnPostRefIdeal.nD Cert.RnnPostRefIdeal.τ).loc Cert.RnnPostRefIdeal.main_arg4)
          ∧ r.2.mem ((c.tc : Thread Cert.RnnPostRefIdeal.nD Cert.RnnPostRefIdeal.τ).loc Cert.RnnPostRefIdeal.main_arg5) = m' ((c.tc : Thread Cert.RnnPostRefIdeal.nD Cert.RnnPostRefIdeal.τ).loc Cert.RnnPostRefIdeal.main_arg5)
          ∧ r.2.mem ((c.tc : Thread Cert.RnnPostRefIdeal.nD Cert.RnnPostRefIdeal.τ).loc Cert.RnnPostRefIdeal.main_arg6) = m' ((c.tc : Thread Cert.RnnPostRefIdeal.nD Cert.RnnPostRefIdeal.τ).loc Cert.RnnPostRefIdeal.main_arg6)
          ∧ r.2.mem ((c.tc : Thread Cert.RnnPostRefIdeal.nD Cert.RnnPostRefIdeal.τ).loc Cert.RnnPostRefIdeal.main_arg7) = m' ((c.tc : Thread Cert.RnnPostRefIdeal.nD Cert.RnnPostRefIdeal.τ).loc Cert.RnnPostRefIdeal.main_arg7))

def preserves_RnnIn_RnnInIdeal : Prop :=
  True

def algebraic_RnnInIdeal_RnnInRefIdeal [hRnnInIdeal : Cert.RnnInIdeal.Facts] [hRnnInRefIdeal : Cert.RnnInRefIdeal.Facts] : Prop :=
  ∀ (m : (ℓ : Loc Cert.RnnInIdeal.nD Cert.RnnInIdeal.τ Cert.RnnInIdeal.sig) → Buf (Elt Ideal) ℓ) (g : Dev Cert.RnnInIdeal.nD → PrngReg)
    (m' : (ℓ : Loc Cert.RnnInRefIdeal.nD Cert.RnnInRefIdeal.τ Cert.RnnInRefIdeal.sig) → Buf (Elt Ideal) ℓ) (g' : Dev Cert.RnnInRefIdeal.nD → PrngReg), Pre_RnnInIdeal m →
    (∀ c : Dev Cert.RnnInIdeal.nD,
      m' ((c.tc : Thread Cert.RnnInRefIdeal.nD Cert.RnnInRefIdeal.τ).loc Cert.RnnInRefIdeal.main_arg0) = m ((c.tc : Thread Cert.RnnInIdeal.nD Cert.RnnInIdeal.τ).loc Cert.RnnInIdeal.main_arg0)
      ∧ m' ((c.tc : Thread Cert.RnnInRefIdeal.nD Cert.RnnInRefIdeal.τ).loc Cert.RnnInRefIdeal.main_arg1) = m ((c.tc : Thread Cert.RnnInIdeal.nD Cert.RnnInIdeal.τ).loc Cert.RnnInIdeal.main_arg1)
      ∧ m' ((c.tc : Thread Cert.RnnInRefIdeal.nD Cert.RnnInRefIdeal.τ).loc Cert.RnnInRefIdeal.main_arg2) = m ((c.tc : Thread Cert.RnnInIdeal.nD Cert.RnnInIdeal.τ).loc Cert.RnnInIdeal.main_arg2)
      ∧ m' ((c.tc : Thread Cert.RnnInRefIdeal.nD Cert.RnnInRefIdeal.τ).loc Cert.RnnInRefIdeal.main_arg3) = m ((c.tc : Thread Cert.RnnInIdeal.nD Cert.RnnInIdeal.τ).loc Cert.RnnInIdeal.main_arg3)
      ∧ m' ((c.tc : Thread Cert.RnnInRefIdeal.nD Cert.RnnInRefIdeal.τ).loc Cert.RnnInRefIdeal.main_arg4) = m ((c.tc : Thread Cert.RnnInIdeal.nD Cert.RnnInIdeal.τ).loc Cert.RnnInIdeal.main_arg4)
      ∧ m' ((c.tc : Thread Cert.RnnInRefIdeal.nD Cert.RnnInRefIdeal.τ).loc Cert.RnnInRefIdeal.main_arg5) = m ((c.tc : Thread Cert.RnnInIdeal.nD Cert.RnnInIdeal.τ).loc Cert.RnnInIdeal.main_arg5)
      ∧ m' ((c.tc : Thread Cert.RnnInRefIdeal.nD Cert.RnnInRefIdeal.τ).loc Cert.RnnInRefIdeal.main_arg6) = m ((c.tc : Thread Cert.RnnInIdeal.nD Cert.RnnInIdeal.τ).loc Cert.RnnInIdeal.main_arg6)
      ∧ m' ((c.tc : Thread Cert.RnnInRefIdeal.nD Cert.RnnInRefIdeal.τ).loc Cert.RnnInRefIdeal.main_arg7) = m ((c.tc : Thread Cert.RnnInIdeal.nD Cert.RnnInIdeal.τ).loc Cert.RnnInIdeal.main_arg7)
      ∧ m' ((c.tc : Thread Cert.RnnInRefIdeal.nD Cert.RnnInRefIdeal.τ).loc Cert.RnnInRefIdeal.main_arg8) = m ((c.tc : Thread Cert.RnnInIdeal.nD Cert.RnnInIdeal.τ).loc Cert.RnnInIdeal.main_arg8)) →
    ∃ (v0 : (c : Dev Cert.RnnInIdeal.nD) → Buf (Elt Ideal) ((c.tc : Thread Cert.RnnInIdeal.nD Cert.RnnInIdeal.τ).loc Cert.RnnInIdeal.main_v5_0)) (v1 : (c : Dev Cert.RnnInIdeal.nD) → Buf (Elt Ideal) ((c.tc : Thread Cert.RnnInIdeal.nD Cert.RnnInIdeal.τ).loc Cert.RnnInIdeal.main_v5_1)) (v2 : (c : Dev Cert.RnnInIdeal.nD) → Buf (Elt Ideal) ((c.tc : Thread Cert.RnnInIdeal.nD Cert.RnnInIdeal.τ).loc Cert.RnnInIdeal.main_v13_0)) (v3 : (c : Dev Cert.RnnInIdeal.nD) → Buf (Elt Ideal) ((c.tc : Thread Cert.RnnInIdeal.nD Cert.RnnInIdeal.τ).loc Cert.RnnInIdeal.main_v13_1)) (v4 : (c : Dev Cert.RnnInIdeal.nD) → Buf (Elt Ideal) ((c.tc : Thread Cert.RnnInIdeal.nD Cert.RnnInIdeal.τ).loc Cert.RnnInIdeal.main_v13_2)) (v5 : (c : Dev Cert.RnnInIdeal.nD) → Buf (Elt Ideal) ((c.tc : Thread Cert.RnnInIdeal.nD Cert.RnnInIdeal.τ).loc Cert.RnnInIdeal.main_v13_3)) (v6 : (c : Dev Cert.RnnInIdeal.nD) → Buf (Elt Ideal) ((c.tc : Thread Cert.RnnInIdeal.nD Cert.RnnInIdeal.τ).loc Cert.RnnInIdeal.main_v13_4)) (v7 : (c : Dev Cert.RnnInIdeal.nD) → Buf (Elt Ideal) ((c.tc : Thread Cert.RnnInIdeal.nD Cert.RnnInIdeal.τ).loc Cert.RnnInIdeal.main_v13_5)),
      θ_run (Cert.RnnInIdeal.defs (F := Ideal)) (onTc (τ := Cert.RnnInIdeal.τ) (Cert.RnnInIdeal.main (F := Ideal))) ⟨m, fun _ => 0, g⟩ (fun r => ∀ c : Dev Cert.RnnInIdeal.nD,
          r.2.mem ((c.tc : Thread Cert.RnnInIdeal.nD Cert.RnnInIdeal.τ).loc Cert.RnnInIdeal.main_v5_0) = v0 c
          ∧ r.2.mem ((c.tc : Thread Cert.RnnInIdeal.nD Cert.RnnInIdeal.τ).loc Cert.RnnInIdeal.main_v5_1) = v1 c
          ∧ r.2.mem ((c.tc : Thread Cert.RnnInIdeal.nD Cert.RnnInIdeal.τ).loc Cert.RnnInIdeal.main_v13_0) = v2 c
          ∧ r.2.mem ((c.tc : Thread Cert.RnnInIdeal.nD Cert.RnnInIdeal.τ).loc Cert.RnnInIdeal.main_v13_1) = v3 c
          ∧ r.2.mem ((c.tc : Thread Cert.RnnInIdeal.nD Cert.RnnInIdeal.τ).loc Cert.RnnInIdeal.main_v13_2) = v4 c
          ∧ r.2.mem ((c.tc : Thread Cert.RnnInIdeal.nD Cert.RnnInIdeal.τ).loc Cert.RnnInIdeal.main_v13_3) = v5 c
          ∧ r.2.mem ((c.tc : Thread Cert.RnnInIdeal.nD Cert.RnnInIdeal.τ).loc Cert.RnnInIdeal.main_v13_4) = v6 c
          ∧ r.2.mem ((c.tc : Thread Cert.RnnInIdeal.nD Cert.RnnInIdeal.τ).loc Cert.RnnInIdeal.main_v13_5) = v7 c
          ∧ r.2.mem ((c.tc : Thread Cert.RnnInIdeal.nD Cert.RnnInIdeal.τ).loc Cert.RnnInIdeal.main_arg0) = m ((c.tc : Thread Cert.RnnInIdeal.nD Cert.RnnInIdeal.τ).loc Cert.RnnInIdeal.main_arg0)
          ∧ r.2.mem ((c.tc : Thread Cert.RnnInIdeal.nD Cert.RnnInIdeal.τ).loc Cert.RnnInIdeal.main_arg1) = m ((c.tc : Thread Cert.RnnInIdeal.nD Cert.RnnInIdeal.τ).loc Cert.RnnInIdeal.main_arg1)
          ∧ r.2.mem ((c.tc : Thread Cert.RnnInIdeal.nD Cert.RnnInIdeal.τ).loc Cert.RnnInIdeal.main_arg2) = m ((c.tc : Thread Cert.RnnInIdeal.nD Cert.RnnInIdeal.τ).loc Cert.RnnInIdeal.main_arg2)
          ∧ r.2.mem ((c.tc : Thread Cert.RnnInIdeal.nD Cert.RnnInIdeal.τ).loc Cert.RnnInIdeal.main_arg3) = m ((c.tc : Thread Cert.RnnInIdeal.nD Cert.RnnInIdeal.τ).loc Cert.RnnInIdeal.main_arg3)
          ∧ r.2.mem ((c.tc : Thread Cert.RnnInIdeal.nD Cert.RnnInIdeal.τ).loc Cert.RnnInIdeal.main_arg4) = m ((c.tc : Thread Cert.RnnInIdeal.nD Cert.RnnInIdeal.τ).loc Cert.RnnInIdeal.main_arg4)
          ∧ r.2.mem ((c.tc : Thread Cert.RnnInIdeal.nD Cert.RnnInIdeal.τ).loc Cert.RnnInIdeal.main_arg5) = m ((c.tc : Thread Cert.RnnInIdeal.nD Cert.RnnInIdeal.τ).loc Cert.RnnInIdeal.main_arg5)
          ∧ r.2.mem ((c.tc : Thread Cert.RnnInIdeal.nD Cert.RnnInIdeal.τ).loc Cert.RnnInIdeal.main_arg6) = m ((c.tc : Thread Cert.RnnInIdeal.nD Cert.RnnInIdeal.τ).loc Cert.RnnInIdeal.main_arg6)
          ∧ r.2.mem ((c.tc : Thread Cert.RnnInIdeal.nD Cert.RnnInIdeal.τ).loc Cert.RnnInIdeal.main_arg7) = m ((c.tc : Thread Cert.RnnInIdeal.nD Cert.RnnInIdeal.τ).loc Cert.RnnInIdeal.main_arg7)
          ∧ r.2.mem ((c.tc : Thread Cert.RnnInIdeal.nD Cert.RnnInIdeal.τ).loc Cert.RnnInIdeal.main_arg8) = m ((c.tc : Thread Cert.RnnInIdeal.nD Cert.RnnInIdeal.τ).loc Cert.RnnInIdeal.main_arg8))
      ∧ θ_run (Cert.RnnInRefIdeal.defs (F := Ideal)) (onTc (τ := Cert.RnnInRefIdeal.τ) (Cert.RnnInRefIdeal.main (F := Ideal))) ⟨m', fun _ => 0, g'⟩ (fun r => ∀ c : Dev Cert.RnnInRefIdeal.nD,
          r.2.mem ((c.tc : Thread Cert.RnnInRefIdeal.nD Cert.RnnInRefIdeal.τ).loc Cert.RnnInRefIdeal.main_v112) = v0 c
          ∧ r.2.mem ((c.tc : Thread Cert.RnnInRefIdeal.nD Cert.RnnInRefIdeal.τ).loc Cert.RnnInRefIdeal.main_v114) = v1 c
          ∧ r.2.mem ((c.tc : Thread Cert.RnnInRefIdeal.nD Cert.RnnInRefIdeal.τ).loc Cert.RnnInRefIdeal.main_v116) = v2 c
          ∧ r.2.mem ((c.tc : Thread Cert.RnnInRefIdeal.nD Cert.RnnInRefIdeal.τ).loc Cert.RnnInRefIdeal.main_v118) = v3 c
          ∧ r.2.mem ((c.tc : Thread Cert.RnnInRefIdeal.nD Cert.RnnInRefIdeal.τ).loc Cert.RnnInRefIdeal.main_v120) = v4 c
          ∧ r.2.mem ((c.tc : Thread Cert.RnnInRefIdeal.nD Cert.RnnInRefIdeal.τ).loc Cert.RnnInRefIdeal.main_v111) = v5 c
          ∧ r.2.mem ((c.tc : Thread Cert.RnnInRefIdeal.nD Cert.RnnInRefIdeal.τ).loc Cert.RnnInRefIdeal.main_v93) = v6 c
          ∧ r.2.mem ((c.tc : Thread Cert.RnnInRefIdeal.nD Cert.RnnInRefIdeal.τ).loc Cert.RnnInRefIdeal.main_v121) = v7 c
          ∧ r.2.mem ((c.tc : Thread Cert.RnnInRefIdeal.nD Cert.RnnInRefIdeal.τ).loc Cert.RnnInRefIdeal.main_arg0) = m' ((c.tc : Thread Cert.RnnInRefIdeal.nD Cert.RnnInRefIdeal.τ).loc Cert.RnnInRefIdeal.main_arg0)
          ∧ r.2.mem ((c.tc : Thread Cert.RnnInRefIdeal.nD Cert.RnnInRefIdeal.τ).loc Cert.RnnInRefIdeal.main_arg1) = m' ((c.tc : Thread Cert.RnnInRefIdeal.nD Cert.RnnInRefIdeal.τ).loc Cert.RnnInRefIdeal.main_arg1)
          ∧ r.2.mem ((c.tc : Thread Cert.RnnInRefIdeal.nD Cert.RnnInRefIdeal.τ).loc Cert.RnnInRefIdeal.main_arg2) = m' ((c.tc : Thread Cert.RnnInRefIdeal.nD Cert.RnnInRefIdeal.τ).loc Cert.RnnInRefIdeal.main_arg2)
          ∧ r.2.mem ((c.tc : Thread Cert.RnnInRefIdeal.nD Cert.RnnInRefIdeal.τ).loc Cert.RnnInRefIdeal.main_arg3) = m' ((c.tc : Thread Cert.RnnInRefIdeal.nD Cert.RnnInRefIdeal.τ).loc Cert.RnnInRefIdeal.main_arg3)
          ∧ r.2.mem ((c.tc : Thread Cert.RnnInRefIdeal.nD Cert.RnnInRefIdeal.τ).loc Cert.RnnInRefIdeal.main_arg4) = m' ((c.tc : Thread Cert.RnnInRefIdeal.nD Cert.RnnInRefIdeal.τ).loc Cert.RnnInRefIdeal.main_arg4)
          ∧ r.2.mem ((c.tc : Thread Cert.RnnInRefIdeal.nD Cert.RnnInRefIdeal.τ).loc Cert.RnnInRefIdeal.main_arg5) = m' ((c.tc : Thread Cert.RnnInRefIdeal.nD Cert.RnnInRefIdeal.τ).loc Cert.RnnInRefIdeal.main_arg5)
          ∧ r.2.mem ((c.tc : Thread Cert.RnnInRefIdeal.nD Cert.RnnInRefIdeal.τ).loc Cert.RnnInRefIdeal.main_arg6) = m' ((c.tc : Thread Cert.RnnInRefIdeal.nD Cert.RnnInRefIdeal.τ).loc Cert.RnnInRefIdeal.main_arg6)
          ∧ r.2.mem ((c.tc : Thread Cert.RnnInRefIdeal.nD Cert.RnnInRefIdeal.τ).loc Cert.RnnInRefIdeal.main_arg7) = m' ((c.tc : Thread Cert.RnnInRefIdeal.nD Cert.RnnInRefIdeal.τ).loc Cert.RnnInRefIdeal.main_arg7)
          ∧ r.2.mem ((c.tc : Thread Cert.RnnInRefIdeal.nD Cert.RnnInRefIdeal.τ).loc Cert.RnnInRefIdeal.main_arg8) = m' ((c.tc : Thread Cert.RnnInRefIdeal.nD Cert.RnnInRefIdeal.τ).loc Cert.RnnInRefIdeal.main_arg8))

def preserves_AttnBwd_AttnBwdIdeal : Prop :=
  IdealRules.named_const.Statement Cert.AttnBwdIdeal.κ "mask" .f32 0xF149F2CA#32 ⊥

def algebraic_AttnBwdIdeal_AttnBwdRefIdeal_pre_finite_attn [hAttnBwdIdeal : Cert.AttnBwdIdeal.Facts] [hAttnBwdRefIdeal : Cert.AttnBwdRefIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_finite_attn m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)
      ∧ m' ((c.tc : Thread Cert.AttnBwdRefIdeal.nD Cert.AttnBwdRefIdeal.τ).loc Cert.AttnBwdRefIdeal.main_arg4) = m ((c.tc : Thread Cert.AttnBwdIdeal.nD Cert.AttnBwdIdeal.τ).loc Cert.AttnBwdIdeal.main_arg4)) →
    ∃ (v0 : (c : Dev Cert.AttnBwdIdeal.nD) → Buf (Elt Ideal) ((c.tc : Thread Cert.AttnBwdIdeal.nD Cert.AttnBwdIdeal.τ).loc Cert.AttnBwdIdeal.main_v9_0)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v9_0) = v0 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
          ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v124) = v0 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3)
          ∧ r.2.mem ((c.tc : Thread Cert.AttnBwdRefIdeal.nD Cert.AttnBwdRefIdeal.τ).loc Cert.AttnBwdRefIdeal.main_arg4) = m' ((c.tc : Thread Cert.AttnBwdRefIdeal.nD Cert.AttnBwdRefIdeal.τ).loc Cert.AttnBwdRefIdeal.main_arg4))

def preserves_AttnFwd_AttnFwdIdeal : Prop :=
  IdealRules.named_const.Statement Cert.AttnFwdIdeal.κ "mask" .f32 0xF149F2CA#32 ⊥

def algebraic_AttnFwdIdeal_AttnFwdRefIdeal_pre_finite_attn_fwd [hAttnFwdIdeal : Cert.AttnFwdIdeal.Facts] [hAttnFwdRefIdeal : Cert.AttnFwdRefIdeal.Facts] [hPre_finite_attn_fwd : Cert.Pre_finite_attn_fwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_attn_fwd m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)) →
    ∃ (v0 : (c : Dev Cert.AttnFwdIdeal.nD) → Buf (Elt Ideal) ((c.tc : Thread Cert.AttnFwdIdeal.nD Cert.AttnFwdIdeal.τ).loc Cert.AttnFwdIdeal.main_v7)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v7) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v72) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3))

def Claim : Prop :=
  ∃ (hPost : Cert.Post.Facts) (hPostIdeal : Cert.PostIdeal.Facts) (hPostRefIdeal : Cert.PostRefIdeal.Facts) (hAttnIn : Cert.AttnIn.Facts) (hAttnInIdeal : Cert.AttnInIdeal.Facts) (hAttnInRefIdeal : Cert.AttnInRefIdeal.Facts) (hMlp : Cert.Mlp.Facts) (hMlpIdeal : Cert.MlpIdeal.Facts) (hMlpRefIdeal : Cert.MlpRefIdeal.Facts) (hHead : Cert.Head.Facts) (hHeadIdeal : Cert.HeadIdeal.Facts) (hHeadRefIdeal : Cert.HeadRefIdeal.Facts) (hRnnPost : Cert.RnnPost.Facts) (hRnnPostIdeal : Cert.RnnPostIdeal.Facts) (hRnnPostRefIdeal : Cert.RnnPostRefIdeal.Facts) (hRnnIn : Cert.RnnIn.Facts) (hRnnInIdeal : Cert.RnnInIdeal.Facts) (hRnnInRefIdeal : Cert.RnnInRefIdeal.Facts) (hAttnBwd : Cert.AttnBwd.Facts) (hAttnBwdIdeal : Cert.AttnBwdIdeal.Facts) (hAttnBwdRefIdeal : Cert.AttnBwdRefIdeal.Facts) (hAttnFwd : Cert.AttnFwd.Facts) (hAttnFwdIdeal : Cert.AttnFwdIdeal.Facts) (hAttnFwdRefIdeal : Cert.AttnFwdRefIdeal.Facts) (hPre_finite : Cert.Pre_finite.Facts) (hPre_finite_mlp : Cert.Pre_finite_mlp.Facts) (hPre_finite_head : Cert.Pre_finite_head.Facts) (hPre_finite_rnn_post : Cert.Pre_finite_rnn_post.Facts) (hPre_finite_attn : Cert.Pre_finite_attn.Facts) (hPre_finite_attn_fwd : Cert.Pre_finite_attn_fwd.Facts),
    quiescent_Post (hPost := hPost)
    ∧ quiescent_PostIdeal (hPostIdeal := hPostIdeal)
    ∧ quiescent_PostIdeal_pre_finite (hPostIdeal := hPostIdeal) (hPre_finite := hPre_finite)
    ∧ quiescent_PostRefIdeal (hPostRefIdeal := hPostRefIdeal)
    ∧ quiescent_PostRefIdeal_pre_finite (hPostRefIdeal := hPostRefIdeal) (hPre_finite := hPre_finite)
    ∧ quiescent_AttnIn (hAttnIn := hAttnIn)
    ∧ quiescent_AttnInIdeal (hAttnInIdeal := hAttnInIdeal)
    ∧ quiescent_AttnInRefIdeal (hAttnInRefIdeal := hAttnInRefIdeal)
    ∧ quiescent_Mlp (hMlp := hMlp)
    ∧ quiescent_MlpIdeal (hMlpIdeal := hMlpIdeal)
    ∧ quiescent_MlpIdeal_pre_finite_mlp (hMlpIdeal := hMlpIdeal) (hPre_finite_mlp := hPre_finite_mlp)
    ∧ quiescent_MlpRefIdeal (hMlpRefIdeal := hMlpRefIdeal)
    ∧ quiescent_MlpRefIdeal_pre_finite_mlp (hMlpRefIdeal := hMlpRefIdeal) (hPre_finite_mlp := hPre_finite_mlp)
    ∧ quiescent_Head (hHead := hHead)
    ∧ quiescent_HeadIdeal (hHeadIdeal := hHeadIdeal)
    ∧ quiescent_HeadIdeal_pre_finite_head (hHeadIdeal := hHeadIdeal) (hPre_finite_head := hPre_finite_head)
    ∧ quiescent_HeadRefIdeal (hHeadRefIdeal := hHeadRefIdeal)
    ∧ quiescent_HeadRefIdeal_pre_finite_head (hHeadRefIdeal := hHeadRefIdeal) (hPre_finite_head := hPre_finite_head)
    ∧ quiescent_RnnPost (hRnnPost := hRnnPost)
    ∧ quiescent_RnnPostIdeal (hRnnPostIdeal := hRnnPostIdeal)
    ∧ quiescent_RnnPostIdeal_pre_finite_rnn_post (hRnnPostIdeal := hRnnPostIdeal) (hPre_finite_rnn_post := hPre_finite_rnn_post)
    ∧ quiescent_RnnPostRefIdeal (hRnnPostRefIdeal := hRnnPostRefIdeal)
    ∧ quiescent_RnnPostRefIdeal_pre_finite_rnn_post (hRnnPostRefIdeal := hRnnPostRefIdeal) (hPre_finite_rnn_post := hPre_finite_rnn_post)
    ∧ quiescent_RnnIn (hRnnIn := hRnnIn)
    ∧ quiescent_RnnInIdeal (hRnnInIdeal := hRnnInIdeal)
    ∧ quiescent_RnnInRefIdeal (hRnnInRefIdeal := hRnnInRefIdeal)
    ∧ quiescent_AttnBwd (hAttnBwd := hAttnBwd)
    ∧ quiescent_AttnBwdIdeal (hAttnBwdIdeal := hAttnBwdIdeal)
    ∧ quiescent_AttnBwdIdeal_pre_finite_attn (hAttnBwdIdeal := hAttnBwdIdeal) (hPre_finite_attn := hPre_finite_attn)
    ∧ quiescent_AttnBwdRefIdeal (hAttnBwdRefIdeal := hAttnBwdRefIdeal)
    ∧ quiescent_AttnBwdRefIdeal_pre_finite_attn (hAttnBwdRefIdeal := hAttnBwdRefIdeal) (hPre_finite_attn := hPre_finite_attn)
    ∧ quiescent_AttnFwd (hAttnFwd := hAttnFwd)
    ∧ quiescent_AttnFwdIdeal (hAttnFwdIdeal := hAttnFwdIdeal)
    ∧ quiescent_AttnFwdIdeal_pre_finite_attn_fwd (hAttnFwdIdeal := hAttnFwdIdeal) (hPre_finite_attn_fwd := hPre_finite_attn_fwd)
    ∧ quiescent_AttnFwdRefIdeal (hAttnFwdRefIdeal := hAttnFwdRefIdeal)
    ∧ quiescent_AttnFwdRefIdeal_pre_finite_attn_fwd (hAttnFwdRefIdeal := hAttnFwdRefIdeal) (hPre_finite_attn_fwd := hPre_finite_attn_fwd)
    ∧ preserves_Post_PostIdeal
    ∧ algebraic_PostIdeal_PostRefIdeal_pre_finite (hPostIdeal := hPostIdeal) (hPostRefIdeal := hPostRefIdeal) (hPre_finite := hPre_finite)
    ∧ preserves_AttnIn_AttnInIdeal
    ∧ algebraic_AttnInIdeal_AttnInRefIdeal (hAttnInIdeal := hAttnInIdeal) (hAttnInRefIdeal := hAttnInRefIdeal)
    ∧ preserves_Mlp_MlpIdeal
    ∧ algebraic_MlpIdeal_MlpRefIdeal_pre_finite_mlp (hMlpIdeal := hMlpIdeal) (hMlpRefIdeal := hMlpRefIdeal) (hPre_finite_mlp := hPre_finite_mlp)
    ∧ preserves_Head_HeadIdeal
    ∧ algebraic_HeadIdeal_HeadRefIdeal_pre_finite_head (hHeadIdeal := hHeadIdeal) (hHeadRefIdeal := hHeadRefIdeal) (hPre_finite_head := hPre_finite_head)
    ∧ preserves_RnnPost_RnnPostIdeal
    ∧ algebraic_RnnPostIdeal_RnnPostRefIdeal_pre_finite_rnn_post (hRnnPostIdeal := hRnnPostIdeal) (hRnnPostRefIdeal := hRnnPostRefIdeal) (hPre_finite_rnn_post := hPre_finite_rnn_post)
    ∧ preserves_RnnIn_RnnInIdeal
    ∧ algebraic_RnnInIdeal_RnnInRefIdeal (hRnnInIdeal := hRnnInIdeal) (hRnnInRefIdeal := hRnnInRefIdeal)
    ∧ preserves_AttnBwd_AttnBwdIdeal
    ∧ algebraic_AttnBwdIdeal_AttnBwdRefIdeal_pre_finite_attn (hAttnBwdIdeal := hAttnBwdIdeal) (hAttnBwdRefIdeal := hAttnBwdRefIdeal) (hPre_finite_attn := hPre_finite_attn)
    ∧ preserves_AttnFwd_AttnFwdIdeal
    ∧ algebraic_AttnFwdIdeal_AttnFwdRefIdeal_pre_finite_attn_fwd (hAttnFwdIdeal := hAttnFwdIdeal) (hAttnFwdRefIdeal := hAttnFwdRefIdeal) (hPre_finite_attn_fwd := hPre_finite_attn_fwd)
-- ==== Pre_finite.lean ====
abbrev S1x8192x1024 : Shape := ⟨3, ![1, 8192, 1024]⟩
abbrev S1x3072 : Shape := ⟨2, ![1, 3072]⟩
abbrev S1024x1024 : Shape := ⟨2, ![1024, 1024]⟩
abbrev S1024 : Shape := ⟨1, ![1024]⟩
abbrev S_ : Shape := ⟨0, ![]⟩

class Facts : Prop where
  bcast_S_S1x8192x1024 : S_.BroadcastsInDim S1x8192x1024 (![] : Fin 0 → Fin S1x8192x1024.rank)
  bcast_S_S1x3072 : S_.BroadcastsInDim S1x3072 (![] : Fin 0 → Fin S1x3072.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn {F : FTy → Type} [FloatOps F] (main_arg0 : FVec F S1x8192x1024 .f32) (main_arg1 : FVec F S1x8192x1024 .f32) (main_arg2 : FVec F S1x8192x1024 .f32) (main_arg3 : FVec F S1x3072 .f32) (main_arg4 : FVec F S1024x1024 .f32) (main_arg5 : FVec F S1024 .f32) (main_arg6 : FVec F S1024 .f32) : IVec S1x8192x1024 1 × IVec S1x8192x1024 1 × IVec S1x8192x1024 1 × IVec S1x3072 1 × IVec S1024x1024 1 × IVec S1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x8192x1024 .f32 := Host.absf main_arg1
  let main_cst_0 : FVec F S_ .f32 := constant S_ .f32 0x7F800000#32
  let main_v4 : FVec F S1x8192x1024 .f32 := broadcastInDim S1x8192x1024 ![] bcast_S_S1x8192x1024 main_cst_0
  let main_v5 : IVec S1x8192x1024 1 := cmpf .olt main_v3 main_v4
  let main_v6 : FVec F S1x8192x1024 .f32 := Host.absf main_arg2
  let main_cst_1 : FVec F S_ .f32 := constant S_ .f32 0x7F800000#32
  let main_v7 : FVec F S1x8192x1024 .f32 := broadcastInDim S1x8192x1024 ![] bcast_S_S1x8192x1024 main_cst_1
  let main_v8 : IVec S1x8192x1024 1 := cmpf .olt main_v6 main_v7
  let main_v9 : FVec F S1x3072 .f32 := Host.absf main_arg3
  let main_cst_2 : FVec F S_ .f32 := constant S_ .f32 0x7F800000#32
  let main_v10 : FVec F S1x3072 .f32 := broadcastInDim S1x3072 ![] bcast_S_S1x3072 main_cst_2
  let main_v11 : IVec S1x3072 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  (main_v2, main_v5, main_v8, main_v11, main_v14, main_v17)
-- ==== Pre_finite_attn.lean ====
abbrev S1x8192x8x128 : Shape := ⟨4, ![1, 8192, 8, 128]⟩
abbrev S1x8192x2x128 : Shape := ⟨4, ![1, 8192, 2, 128]⟩
abbrev S1x8192x1024 : Shape := ⟨3, ![1, 8192, 1024]⟩
abbrev S8 : Shape := ⟨1, ![8]⟩
abbrev S_ : Shape := ⟨0, ![]⟩

class Facts : Prop where
  bcast_S_S1x8192x8x128 : S_.BroadcastsInDim S1x8192x8x128 (![] : Fin 0 → Fin S1x8192x8x128.rank)
  bcast_S_S1x8192x2x128 : S_.BroadcastsInDim S1x8192x2x128 (![] : Fin 0 → Fin S1x8192x2x128.rank)
  bcast_S_S1x8192x1024 : S_.BroadcastsInDim S1x8192x1024 (![] : Fin 0 → Fin S1x8192x1024.rank)
  bcast_S_S8 : S_.BroadcastsInDim S8 (![] : Fin 0 → Fin S8.rank)

variable [Facts]

def fn {F : FTy → Type} [FloatOps F] (main_arg0 : FVec F S1x8192x8x128 .f32) (main_arg1 : FVec F S1x8192x2x128 .f32) (main_arg2 : FVec F S1x8192x2x128 .f32) (main_arg3 : FVec F S1x8192x1024 .f32) (main_arg4 : FVec F S8 .f32) : IVec S1x8192x8x128 1 × IVec S1x8192x2x128 1 × IVec S1x8192x2x128 1 × IVec S1x8192x1024 1 × IVec S8 1 :=
  let main_v0 : FVec F S1x8192x8x128 .f32 := Host.absf main_arg0
  let main_cst : FVec F S_ .f32 := constant S_ .f32 0x7F800000#32
  let main_v1 : FVec F S1x8192x8x128 .f32 := broadcastInDim S1x8192x8x128 ![] bcast_S_S1x8192x8x128 main_cst
  let main_v2 : IVec S1x8192x8x128 1 := cmpf .olt main_v0 main_v1
  let main_v3 : FVec F S1x8192x2x128 .f32 := Host.absf main_arg1
  let main_cst_0 : FVec F S_ .f32 := constant S_ .f32 0x7F800000#32
  let main_v4 : FVec F S1x8192x2x128 .f32 := broadcastInDim S1x8192x2x128 ![] bcast_S_S1x8192x2x128 main_cst_0
  let main_v5 : IVec S1x8192x2x128 1 := cmpf .olt main_v3 main_v4
  let main_v6 : FVec F S1x8192x2x128 .f32 := Host.absf main_arg2
  let main_cst_1 : FVec F S_ .f32 := constant S_ .f32 0x7F800000#32
  let main_v7 : FVec F S1x8192x2x128 .f32 := broadcastInDim S1x8192x2x128 ![] bcast_S_S1x8192x2x128 main_cst_1
  let main_v8 : IVec S1x8192x2x128 1 := cmpf .olt main_v6 main_v7
  let main_v9 : FVec F S1x8192x1024 .f32 := Host.absf main_arg3
  let main_cst_2 : FVec F S_ .f32 := constant S_ .f32 0x7F800000#32
  let main_v10 : FVec F S1x8192x1024 .f32 := broadcastInDim S1x8192x1024 ![] bcast_S_S1x8192x1024 main_cst_2
  let main_v11 : IVec S1x8192x1024 1 := cmpf .olt main_v9 main_v10
  let main_v12 : FVec F S8 .f32 := Host.absf main_arg4
  let main_cst_3 : FVec F S_ .f32 := constant S_ .f32 0x7F800000#32
  let main_v13 : FVec F S8 .f32 := broadcastInDim S8 ![] bcast_S_S8 main_cst_3
  let main_v14 : IVec S8 1 := cmpf .olt main_v12 main_v13
  (main_v2, main_v5, main_v8, main_v11, main_v14)
-- ==== Pre_finite_attn_fwd.lean ====
abbrev S1x8192x8x128 : Shape := ⟨4, ![1, 8192, 8, 128]⟩
abbrev S1x8192x2x128 : Shape := ⟨4, ![1, 8192, 2, 128]⟩
abbrev S8 : Shape := ⟨1, ![8]⟩
abbrev S_ : Shape := ⟨0, ![]⟩

class Facts : Prop where
  bcast_S_S1x8192x8x128 : S_.BroadcastsInDim S1x8192x8x128 (![] : Fin 0 → Fin S1x8192x8x128.rank)
  bcast_S_S1x8192x2x128 : S_.BroadcastsInDim S1x8192x2x128 (![] : Fin 0 → Fin S1x8192x2x128.rank)
  bcast_S_S8 : S_.BroadcastsInDim S8 (![] : Fin 0 → Fin S8.rank)

variable [Facts]

def fn {F : FTy → Type} [FloatOps F] (main_arg0 : FVec F S1x8192x8x128 .f32) (main_arg1 : FVec F S1x8192x2x128 .f32) (main_arg2 : FVec F S1x8192x2x128 .f32) (main_arg3 : FVec F S8 .f32) : IVec S1x8192x8x128 1 × IVec S1x8192x2x128 1 × IVec S8 1 :=
  let main_v0 : FVec F S1x8192x8x128 .f32 := Host.absf main_arg0
  let main_cst : FVec F S_ .f32 := constant S_ .f32 0x7F800000#32
  let main_v1 : FVec F S1x8192x8x128 .f32 := broadcastInDim S1x8192x8x128 ![] bcast_S_S1x8192x8x128 main_cst
  let main_v2 : IVec S1x8192x8x128 1 := cmpf .olt main_v0 main_v1
  let main_v3 : FVec F S1x8192x2x128 .f32 := Host.absf main_arg1
  let main_cst_0 : FVec F S_ .f32 := constant S_ .f32 0x7F800000#32
  let main_v4 : FVec F S1x8192x2x128 .f32 := broadcastInDim S1x8192x2x128 ![] bcast_S_S1x8192x2x128 main_cst_0
  let main_v5 : IVec S1x8192x2x128 1 := cmpf .olt main_v3 main_v4
  let main_v6 : FVec F S8 .f32 := Host.absf main_arg3
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  (main_v2, main_v5, main_v8)
-- ==== Pre_finite_head.lean ====
abbrev S1x8192x1024 : Shape := ⟨3, ![1, 8192, 1024]⟩
abbrev S1x3072 : Shape := ⟨2, ![1, 3072]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩

class Facts : Prop where
  bcast_S_S1x8192x1024 : S_.BroadcastsInDim S1x8192x1024 (![] : Fin 0 → Fin S1x8192x1024.rank)
  bcast_S_S1x3072 : S_.BroadcastsInDim S1x3072 (![] : Fin 0 → Fin S1x3072.rank)
  bcast_S_S1024x4096 : S_.BroadcastsInDim S1024x4096 (![] : Fin 0 → Fin S1024x4096.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn_part1 {F : FTy → Type} [FloatOps F] (main_arg6 : FVec F S1024 .f32) (main_v2 : IVec S1x8192x1024 1) (main_v5 : IVec S1x8192x1024 1) (main_v8 : IVec S1x3072 1) (main_v11 : IVec S1024x4096 1) (main_v14 : IVec S4096x1024 1) (main_v17 : IVec S1024 1) : IVec S1x8192x1024 1 × IVec S1x8192x1024 1 × IVec S1x3072 1 × IVec S1024x4096 1 × IVec S4096x1024 1 × IVec S1024 1 × IVec S1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  (main_v2, main_v5, main_v8, main_v11, main_v14, main_v17, main_v20)

def fn {F : FTy → Type} [FloatOps F] (main_arg0 : FVec F S1x8192x1024 .f32) (main_arg1 : FVec F S1x8192x1024 .f32) (main_arg2 : FVec F S1x3072 .f32) (main_arg3 : FVec F S1024x4096 .f32) (main_arg4 : FVec F S4096x1024 .f32) (main_arg5 : FVec F S1024 .f32) (main_arg6 : FVec F S1024 .f32) : IVec S1x8192x1024 1 × IVec S1x8192x1024 1 × IVec S1x3072 1 × IVec S1024x4096 1 × IVec S4096x1024 1 × IVec S1024 1 × IVec S1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x8192x1024 .f32 := Host.absf main_arg1
  let main_cst_0 : FVec F S_ .f32 := constant S_ .f32 0x7F800000#32
  let main_v4 : FVec F S1x8192x1024 .f32 := broadcastInDim S1x8192x1024 ![] bcast_S_S1x8192x1024 main_cst_0
  let main_v5 : IVec S1x8192x1024 1 := cmpf .olt main_v3 main_v4
  let main_v6 : FVec F S1x3072 .f32 := Host.absf main_arg2
  let main_cst_1 : FVec F S_ .f32 := constant S_ .f32 0x7F800000#32
  let main_v7 : FVec F S1x3072 .f32 := broadcastInDim S1x3072 ![] bcast_S_S1x3072 main_cst_1
  let main_v8 : IVec S1x3072 1 := cmpf .olt main_v6 main_v7
  let main_v9 : FVec F S1024x4096 .f32 := Host.absf main_arg3
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_v2 main_v5 main_v8 main_v11 main_v14 main_v17
-- ==== Pre_finite_mlp.lean ====
abbrev S1x8192x1024 : Shape := ⟨3, ![1, 8192, 1024]⟩
abbrev S1x3072 : Shape := ⟨2, ![1, 3072]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩

class Facts : Prop where
  bcast_S_S1x8192x1024 : S_.BroadcastsInDim S1x8192x1024 (![] : Fin 0 → Fin S1x8192x1024.rank)
  bcast_S_S1x3072 : S_.BroadcastsInDim S1x3072 (![] : Fin 0 → Fin S1x3072.rank)
  bcast_S_S1024x4096 : S_.BroadcastsInDim S1024x4096 (![] : Fin 0 → Fin S1024x4096.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S1x8192x1024 .f32) (main_arg1 : FVec F S1x8192x1024 .f32) (main_arg2 : FVec F S1x3072 .f32) (main_arg3 : FVec F S1024x4096 .f32) (main_arg4 : FVec F S4096x1024 .f32) (main_arg5 : FVec F S1024 .f32) (main_arg6 : FVec F S1024 .f32) : IVec S1x8192x1024 1 × IVec S1x8192x1024 1 × IVec S1x3072 1 × IVec S1024x4096 1 × IVec S4096x1024 1 × IVec S1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x8192x1024 .f32 := Host.absf main_arg1
  let main_cst_0 : FVec F S_ .f32 := constant S_ .f32 0x7F800000#32
  let main_v4 : FVec F S1x8192x1024 .f32 := broadcastInDim S1x8192x1024 ![] bcast_S_S1x8192x1024 main_cst_0
  let main_v5 : IVec S1x8192x1024 1 := cmpf .olt main_v3 main_v4
  let main_v6 : FVec F S1x3072 .f32 := Host.absf main_arg2
  let main_cst_1 : FVec F S_ .f32 := constant S_ .f32 0x7F800000#32
  let main_v7 : FVec F S1x3072 .f32 := broadcastInDim S1x3072 ![] bcast_S_S1x3072 main_cst_1
  let main_v8 : IVec S1x3072 1 := cmpf .olt main_v6 main_v7
  let main_v9 : FVec F S1024x4096 .f32 := Host.absf main_arg3
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  (main_v2, main_v5, main_v8, main_v11, main_v14, main_v17)
-- ==== Pre_finite_rnn_post.lean ====
abbrev S1x8192x1024 : Shape := ⟨3, ![1, 8192, 1024]⟩
abbrev S1x8192x1536 : Shape := ⟨3, ![1, 8192, 1536]⟩
abbrev S1x3072 : Shape := ⟨2, ![1, 3072]⟩
abbrev S1536x1024 : Shape := ⟨2, ![1536, 1024]⟩
abbrev S1024 : Shape := ⟨1, ![1024]⟩
abbrev S_ : Shape := ⟨0, ![]⟩

class Facts : Prop where
  bcast_S_S1x8192x1024 : S_.BroadcastsInDim S1x8192x1024 (![] : Fin 0 → Fin S1x8192x1024.rank)
  bcast_S_S1x8192x1536 : S_.BroadcastsInDim S1x8192x1536 (![] : Fin 0 → Fin S1x8192x1536.rank)
  bcast_S_S1x3072 : S_.BroadcastsInDim S1x3072 (![] : Fin 0 → Fin S1x3072.rank)
  bcast_S_S1536x1024 : S_.BroadcastsInDim S1536x1024 (![] : Fin 0 → Fin S1536x1024.rank)
  bcast_S_S1024 : S_.BroadcastsInDim S1024 (![] : Fin 0 → Fin S1024.rank)

variable [Facts]

def fn_part1 {F : FTy → Type} [FloatOps F] (main_arg6 : FVec F S1024 .f32) (main_v2 : IVec S1x8192x1024 1) (main_v5 : IVec S1x8192x1024 1) (main_v8 : IVec S1x8192x1536 1) (main_v11 : IVec S1x8192x1536 1) (main_v14 : IVec S1x3072 1) (main_v17 : IVec S1536x1024 1) : IVec S1x8192x1024 1 × IVec S1x8192x1024 1 × IVec S1x8192x1536 1 × IVec S1x8192x1536 1 × IVec S1x3072 1 × IVec S1536x1024 1 × IVec S1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  (main_v2, main_v5, main_v8, main_v11, main_v14, main_v17, main_v20)

def fn {F : FTy → Type} [FloatOps F] (main_arg0 : FVec F S1x8192x1024 .f32) (main_arg1 : FVec F S1x8192x1024 .f32) (main_arg2 : FVec F S1x8192x1536 .f32) (main_arg3 : FVec F S1x8192x1536 .f32) (main_arg4 : FVec F S1x3072 .f32) (main_arg5 : FVec F S1536x1024 .f32) (main_arg6 : FVec F S1024 .f32) (main_arg7 : FVec F S1024 .f32) : IVec S1x8192x1024 1 × IVec S1x8192x1024 1 × IVec S1x8192x1536 1 × IVec S1x8192x1536 1 × IVec S1x3072 1 × IVec S1536x1024 1 × IVec S1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x8192x1024 .f32 := Host.absf main_arg1
  let main_cst_0 : FVec F S_ .f32 := constant S_ .f32 0x7F800000#32
  let main_v4 : FVec F S1x8192x1024 .f32 := broadcastInDim S1x8192x1024 ![] bcast_S_S1x8192x1024 main_cst_0
  let main_v5 : IVec S1x8192x1024 1 := cmpf .olt main_v3 main_v4
  let main_v6 : FVec F S1x8192x1536 .f32 := Host.absf main_arg2
  let main_cst_1 : FVec F S_ .f32 := constant S_ .f32 0x7F800000#32
  let main_v7 : FVec F S1x8192x1536 .f32 := broadcastInDim S1x8192x1536 ![] bcast_S_S1x8192x1536 main_cst_1
  let main_v8 : IVec S1x8192x1536 1 := cmpf .olt main_v6 main_v7
  let main_v9 : FVec F S1x8192x1536 .f32 := Host.absf main_arg3
  let main_cst_2 : FVec F S_ .f32 := constant S_ .f32 0x7F800000#32
  let main_v10 : FVec F S1x8192x1536 .f32 := broadcastInDim S1x8192x1536 ![] bcast_S_S1x8192x1536 main_cst_2
  let main_v11 : IVec S1x8192x1536 1 := cmpf .olt main_v9 main_v10
  let main_v12 : FVec F S1x3072 .f32 := Host.absf main_arg4
  let main_cst_3 : FVec F S_ .f32 := constant S_ .f32 0x7F800000#32
  let main_v13 : FVec F S1x3072 .f32 := broadcastInDim S1x3072 ![] bcast_S_S1x3072 main_cst_3
  let main_v14 : IVec S1x3072 1 := cmpf .olt main_v12 main_v13
  let main_v15 : FVec F S1536x1024 .f32 := Host.absf main_arg5
  let main_cst_4 : FVec F S_ .f32 := constant S_ .f32 0x7F800000#32
  let main_v16 : FVec F S1536x1024 .f32 := broadcastInDim S1536x1024 ![] bcast_S_S1536x1024 main_cst_4
  let main_v17 : IVec S1536x1024 1 := cmpf .olt main_v15 main_v16
  fn_part1 (F := F) main_arg6 main_v2 main_v5 main_v8 main_v11 main_v14 main_v17
-- ==== Post.lean ====
abbrev S1x8192x1024 : Shape := ⟨3, ![1, 8192, 1024]⟩
abbrev S1x3072 : Shape := ⟨2, ![1, 3072]⟩
abbrev S1024x1024 : Shape := ⟨2, ![1024, 1024]⟩
abbrev S1024 : Shape := ⟨1, ![1024]⟩
abbrev S3x1024 : Shape := ⟨2, ![3, 1024]⟩
abbrev S_ : Shape := ⟨0, ![]⟩
abbrev S12x1024 : Shape := ⟨2, ![12, 1024]⟩
abbrev S1x1024 : Shape := ⟨2, ![1, 1024]⟩
abbrev S8192x1024 : Shape := ⟨2, ![8192, 1024]⟩
abbrev S512x1024 : Shape := ⟨2, ![512, 1024]⟩
abbrev S512 : Shape := ⟨1, ![512]⟩
abbrev S512x1 : Shape := ⟨2, ![512, 1]⟩
abbrev S8x1024 : Shape := ⟨2, ![8, 1024]⟩

abbrev nBuf : Space → Nat
  | .hbm => 24
  | .vmem => 28
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x8192x1024, .f32⟩
  | .hbm, ⟨3, _⟩ => ⟨S1x3072, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S3x1024, .f32⟩
  | .hbm, ⟨8, _⟩ => ⟨S_, .i32⟩
  | .hbm, ⟨9, _⟩ => ⟨S_, .f32⟩
  | .hbm, ⟨10, _⟩ => ⟨S12x1024, .f32⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S8192x1024, .f32⟩
  | .hbm, ⟨15, _⟩ => ⟨S8192x1024, .f32⟩
  | .hbm, ⟨16, _⟩ => ⟨S8192x1024, .bf16⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S8x1024, .f32⟩
  | .hbm, ⟨23, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S12x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S12x1024, .f32⟩
  | .local _ .vmem, ⟨19, _⟩ => ⟨S1024x1024, .bf16⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | .local _ .vmem, ⟨25, _⟩ => ⟨S8x1024, .f32⟩
  | .local _ .vmem, ⟨26, _⟩ => ⟨S512x1024, .bf16⟩
  | .local _ .vmem, ⟨27, _⟩ => ⟨S512x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem6_1 : DmaSem sig := 22
abbrev cc1_sem7_0 : DmaSem sig := 23
abbrev cc1_sem7_1 : DmaSem sig := 24
abbrev cc1_sem8_0 : DmaSem sig := 25
abbrev cc1_sem9_0 : DmaSem sig := 26
abbrev cc1_sem9_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S12x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S12x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S8x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S512x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== PostRefIdeal.lean ====
abbrev S1x8192x1024 : Shape := ⟨3, ![1, 8192, 1024]⟩
abbrev S1x3072 : Shape := ⟨2, ![1, 3072]⟩
abbrev S1024x1024 : Shape := ⟨2, ![1024, 1024]⟩
abbrev S1024 : Shape := ⟨1, ![1024]⟩
abbrev S1x1024 : Shape := ⟨2, ![1, 1024]⟩
abbrev S1x1x1024 : Shape := ⟨3, ![1, 1, 1024]⟩
abbrev S_ : Shape := ⟨0, ![]⟩
abbrev S1x8192 : Shape := ⟨2, ![1, 8192]⟩
abbrev S1x8192x1 : Shape := ⟨3, ![1, 8192, 1]⟩
abbrev S8192 : Shape := ⟨1, ![8192]⟩
abbrev S3x1024 : Shape := ⟨2, ![3, 1024]⟩
abbrev S2x1024 : Shape := ⟨2, ![2, 1024]⟩
abbrev S8x1024 : Shape := ⟨2, ![8, 1024]⟩
abbrev S8192x1024 : Shape := ⟨2, ![8192, 1024]⟩

abbrev nBuf : Space → Nat
  | .hbm => 129
  | .vmem => 0
  | .smem => 0
  | _ => 0

abbrev hbmTy0_0 (i : Nat) : BufTy := match i % 128 with
  | 0 => ⟨S1x8192x1024, .f32⟩
  | 1 => ⟨S1x8192x1024, .f32⟩
  | 2 => ⟨S1x8192x1024, .f32⟩
  | 3 => ⟨S1x3072, .f32⟩
  | 4 => ⟨S1024x1024, .f32⟩
  | 5 => ⟨S1024, .f32⟩
  | 6 => ⟨S1024, .f32⟩
  | 7 => ⟨S1x1024, .f32⟩
  | 8 => ⟨S1x1024, .f32⟩
  | 9 => ⟨S1x1024, .f32⟩
  | 10 => ⟨S1x1x1024, .f32⟩
  | 11 => ⟨S1x1x1024, .f32⟩
  | 12 => ⟨S1x1x1024, .f32⟩
  | 13 => ⟨S1x8192x1024, .f32⟩
  | 14 => ⟨S_, .f32⟩
  | 15 => ⟨S1x8192x1024, .f32⟩
  | 16 => ⟨S1x8192x1024, .f32⟩
  | 17 => ⟨S_, .f32⟩
  | 18 => ⟨S1x1x1024, .f32⟩
  | 19 => ⟨S1x1x1024, .f32⟩
  | 20 => ⟨S1x8192x1024, .f32⟩
  | 21 => ⟨S1x8192x1024, .f32⟩
  | 22 => ⟨S1x8192x1024, .f32⟩
  | 23 => ⟨S_, .f32⟩
  | 24 => ⟨S1x8192, .f32⟩
  | 25 => ⟨S1x8192x1, .f32⟩
  | 26 => ⟨S_, .f32⟩
  | 27 => ⟨S1x8192x1, .f32⟩
  | 28 => ⟨S1x8192x1, .f32⟩
  | 29 => ⟨S1x8192x1024, .f32⟩
  | 30 => ⟨S1x8192x1024, .f32⟩
  | 31 => ⟨S1x8192x1024, .f32⟩
  | 32 => ⟨S_, .f32⟩
  | 33 => ⟨S1x8192x1024, .f32⟩
  | 34 => ⟨S1x8192x1024, .f32⟩
  | 35 => ⟨S_, .f32⟩
  | 36 => ⟨S1x8192, .f32⟩
  | 37 => ⟨S1x8192x1, .f32⟩
  | 38 => ⟨S_, .f32⟩
  | 39 => ⟨S1x8192x1, .f32⟩
  | 40 => ⟨S1x8192x1, .f32⟩
  | 41 => ⟨S1x8192x1024, .f32⟩
  | 42 => ⟨S1x8192x1024, .f32⟩
  | 43 => ⟨S_, .f32⟩
  | 44 => ⟨S1x8192x1, .f32⟩
  | 45 => ⟨S1x8192x1, .f32⟩
  | 46 => ⟨S1x8192x1, .f32⟩
  | 47 => ⟨S1x8192x1, .f32⟩
  | 48 => ⟨S_, .f32⟩
  | 49 => ⟨S1x8192x1, .f32⟩
  | 50 => ⟨S1x8192x1, .f32⟩
  | 51 => ⟨S1x8192x1024, .f32⟩
  | 52 => ⟨S1x8192x1024, .f32⟩
  | 53 => ⟨S1x1x1024, .f32⟩
  | 54 => ⟨S1x8192x1024, .f32⟩
  | 55 => ⟨S1x8192x1024, .f32⟩
  | 56 => ⟨S1x1x1024, .f32⟩
  | 57 => ⟨S1x8192x1024, .f32⟩
  | 58 => ⟨S1x8192x1024, .f32⟩
  | 59 => ⟨S1x8192x1024, .f32⟩
  | 60 => ⟨S_, .f32⟩
  | 61 => ⟨S1x1024, .f32⟩
  | 62 => ⟨S1x1x1024, .f32⟩
  | 63 => ⟨S_, .f32⟩
  | 64 => ⟨S1024, .f32⟩
  | 65 => ⟨S1x8192x1024, .f32⟩
  | 66 => ⟨S_, .f32⟩
  | 67 => ⟨S1x1024, .f32⟩
  | 68 => ⟨S1x1x1024, .f32⟩
  | 69 => ⟨S1x8192x1024, .f32⟩
  | 70 => ⟨S1x8192x1024, .f32⟩
  | 71 => ⟨S_, .f32⟩
  | 72 => ⟨S1024, .f32⟩
  | 73 => ⟨S1x8192x1024, .f32⟩
  | 74 => ⟨S_, .f32⟩
  | 75 => ⟨S1x8192, .f32⟩
  | 76 => ⟨S1x8192x1, .f32⟩
  | 77 => ⟨S1x8192x1024, .f32⟩
  | 78 => ⟨S1x8192x1024, .f32⟩
  | 79 => ⟨S1x8192x1, .f32⟩
  | 80 => ⟨S1x8192x1024, .f32⟩
  | 81 => ⟨S_, .f32⟩
  | 82 => ⟨S1x8192, .f32⟩
  | 83 => ⟨S1x8192x1, .f32⟩
  | 84 => ⟨S_, .f32⟩
  | 85 => ⟨S1x8192x1, .f32⟩
  | 86 => ⟨S1x8192x1, .f32⟩
  | 87 => ⟨S_, .f32⟩
  | 88 => ⟨S8192, .f32⟩
  | 89 => ⟨S1x8192, .f32⟩
  | 90 => ⟨S1x8192x1024, .f32⟩
  | 91 => ⟨S1x8192x1024, .f32⟩
  | 92 => ⟨S1x8192x1024, .f32⟩
  | 93 => ⟨S_, .f32⟩
  | 94 => ⟨S1x8192, .f32⟩
  | 95 => ⟨S1x8192x1, .f32⟩
  | 96 => ⟨S1x8192x1024, .f32⟩
  | 97 => ⟨S1x8192x1, .f32⟩
  | 98 => ⟨S_, .f32⟩
  | 99 => ⟨S1x8192x1, .f32⟩
  | 100 => ⟨S1x8192x1, .f32⟩
  | 101 => ⟨S_, .f32⟩
  | 102 => ⟨S8192, .f32⟩
  | 103 => ⟨S1x8192, .f32⟩
  | 104 => ⟨S1x8192x1024, .f32⟩
  | 105 => ⟨S1x8192x1024, .f32⟩
  | 106 => ⟨S1x8192x1024, .f32⟩
  | 107 => ⟨S1x8192x1024, .f32⟩
  | 108 => ⟨S1x8192x1024, .f32⟩
  | 109 => ⟨S_, .f32⟩
  | 110 => ⟨S1x1024, .f32⟩
  | 111 => ⟨S1x1x1024, .f32⟩
  | 112 => ⟨S_, .f32⟩
  | 113 => ⟨S1x8192x1024, .f32⟩
  | 114 => ⟨S1x8192x1024, .f32⟩
  | 115 => ⟨S1x8192x1024, .f32⟩
  | 116 => ⟨S_, .f32⟩
  | 117 => ⟨S3x1024, .f32⟩
  | 118 => ⟨S2x1024, .f32⟩
  | 119 => ⟨S1x1024, .f32⟩
  | 120 => ⟨S1x1024, .f32⟩
  | 121 => ⟨S1x1024, .f32⟩
  | 122 => ⟨S8x1024, .f32⟩
  | 123 => ⟨S8192x1024, .f32⟩
  | 124 => ⟨S8192x1024, .f32⟩
  | 125 => ⟨S8192x1024, .f32⟩
  | 126 => ⟨S8192x1024, .bf16⟩
  | 127 => ⟨S8192x1024, .f32⟩
  | _ => ⟨S1x8192x1024, .f32⟩

abbrev hbmTy0_1 (i : Nat) : BufTy := match i % 128 with
  | 0 => ⟨S8192x1024, .bf16⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_13 : Ref sig .tc := ⟨.hbm, 81, rfl⟩
abbrev main_v60 : Ref sig .tc := ⟨.hbm, 82, rfl⟩
abbrev main_v61 : Ref sig .tc := ⟨.hbm, 83, rfl⟩
abbrev main_cst_14 : Ref sig .tc := ⟨.hbm, 84, rfl⟩
abbrev main_v62 : Ref sig .tc := ⟨.hbm, 85, rfl⟩
abbrev main_v63 : Ref sig .tc := ⟨.hbm, 86, rfl⟩
abbrev main_cst_15 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_16 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_17 : Ref sig .tc := ⟨.hbm, 98, rfl⟩
abbrev main_v73 : Ref sig .tc := ⟨.hbm, 99, rfl⟩
abbrev main_v74 : Ref sig .tc := ⟨.hbm, 100, rfl⟩
abbrev main_cst_18 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_19 : Ref sig .tc := ⟨.hbm, 109, rfl⟩
abbrev main_v82 : Ref sig .tc := ⟨.hbm, 110, rfl⟩
abbrev main_v83 : Ref sig .tc := ⟨.hbm, 111, rfl⟩
abbrev main_cst_20 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_21 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩

abbrev nD : Nat := 1
abbrev τ : Topo := Topo.v7x

variable {F : FTy → Type} [FloatOps F]
-- ==== AttnIn.lean ====
abbrev S1x8192x8x128 : Shape := ⟨4, ![1, 8192, 8, 128]⟩
abbrev S1x8192x2x128 : Shape := ⟨4, ![1, 8192, 2, 128]⟩
abbrev S1x8192x1024 : Shape := ⟨3, ![1, 8192, 1024]⟩
abbrev S1x3072 : Shape := ⟨2, ![1, 3072]⟩
abbrev S1024x1536 : Shape := ⟨2, ![1024, 1536]⟩
abbrev S3x1024 : Shape := ⟨2, ![3, 1024]⟩
abbrev S_ : Shape := ⟨0, ![]⟩
abbrev S12x1024 : Shape := ⟨2, ![12, 1024]⟩
abbrev S8192x1024 : Shape := ⟨2, ![8192, 1024]⟩
abbrev S8192x256 : Shape := ⟨2, ![8192, 256]⟩
abbrev S16 : Shape := ⟨1, ![16]⟩
abbrev S1024 : Shape := ⟨1, ![1024]⟩
abbrev S1024x1 : Shape := ⟨2, ![1024, 1]⟩
abbrev S128 : Shape := ⟨1, ![128]⟩
abbrev S1x128 : Shape := ⟨2, ![1, 128]⟩
abbrev S1024x128 : Shape := ⟨2, ![1024, 128]⟩
abbrev S1x16 : Shape := ⟨2, ![1, 16]⟩
abbrev S8x16 : Shape := ⟨2, ![8, 16]⟩
abbrev S8192x16 : Shape := ⟨2, ![8192, 16]⟩
abbrev S8192x96 : Shape := ⟨2, ![8192, 96]⟩
abbrev S8192x128 : Shape := ⟨2, ![8192, 128]⟩
abbrev S1536x1024 : Shape := ⟨2, ![1536, 1024]⟩
abbrev S8192x1536 : Shape := ⟨2, ![8192, 1536]⟩
abbrev S8x1024 : Shape := ⟨2, ![8, 1024]⟩
abbrev S512x1024 : Shape := ⟨2, ![512, 1024]⟩
abbrev S512x256 : Shape := ⟨2, ![512, 256]⟩
abbrev S512x128 : Shape := ⟨2, ![512, 128]⟩
abbrev S512x1536 : Shape := ⟨2, ![512, 1536]⟩
abbrev S1x1024 : Shape := ⟨2, ![1, 1024]⟩

abbrev nBuf : Space → Nat
  | .hbm => 87
  | .vmem => 25
  | .smem => 0
  | _ => 0

abbrev bufTy : (tb : Table) → Fin (tcTables nBuf tb) → BufTy
  | .hbm, ⟨0, _⟩ => ⟨S1x8192x8x128, .f32⟩
  | .hbm, ⟨1, _⟩ => ⟨S1x8192x2x128, .f32⟩
  | .hbm, ⟨2, _⟩ => ⟨S1x8192x2x128, .f32⟩
  | .hbm, ⟨3, _⟩ => ⟨S1x8192x1024, .f32⟩
  | .hbm, ⟨4, _⟩ => ⟨S1x8192x1024, .f32⟩
  | .hbm, ⟨5, _⟩ => ⟨S1x3072, .f32⟩
  | .hbm, ⟨6, _⟩ => ⟨S1024x1536, .f32⟩
  | .hbm, ⟨7, _⟩ => ⟨S3x1024, .f32⟩
  | .hbm, ⟨8, _⟩ => ⟨S_, .i32⟩
  | .hbm, ⟨9, _⟩ => ⟨S_, .f32⟩
  | .hbm, ⟨10, _⟩ => ⟨S12x1024, .f32⟩
  | .hbm, ⟨11, _⟩ => ⟨S8192x1024, .f32⟩
  | .hbm, ⟨12, _⟩ => ⟨S8192x256, .f32⟩
  | .hbm, ⟨13, _⟩ => ⟨S8192x256, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S1024, .i32⟩
  | .hbm, ⟨29, _⟩ => ⟨S1024x1, .i32⟩
  | .hbm, ⟨30, _⟩ => ⟨S_, .i32⟩
  | .hbm, ⟨31, _⟩ => ⟨S1024x1, .i32⟩
  | .hbm, ⟨32, _⟩ => ⟨S1024x1, .i32⟩
  | .hbm, ⟨33, _⟩ => ⟨S128, .i32⟩
  | .hbm, ⟨34, _⟩ => ⟨S1x128, .i32⟩
  | .hbm, ⟨35, _⟩ => ⟨S_, .i32⟩
  | .hbm, ⟨36, _⟩ => ⟨S_, .i32⟩
  | .hbm, ⟨37, _⟩ => ⟨S1x128, .i32⟩
  | .hbm, ⟨38, _⟩ => ⟨S1x128, .i32⟩
  | .hbm, ⟨39, _⟩ => ⟨S1x128, .i32⟩
  | .hbm, ⟨40, _⟩ => ⟨S_, .i32⟩
  | .hbm, ⟨41, _⟩ => ⟨S1x128, .i32⟩
  | .hbm, ⟨42, _⟩ => ⟨S1x128, .i1⟩
  | .hbm, ⟨43, _⟩ => ⟨S1x128, .i32⟩
  | .hbm, ⟨44, _⟩ => ⟨S1x128, .i32⟩
  | .hbm, ⟨45, _⟩ => ⟨S_, .i32⟩
  | .hbm, ⟨46, _⟩ => ⟨S1x128, .i32⟩
  | .hbm, ⟨47, _⟩ => ⟨S1x128, .i1⟩
  | .hbm, ⟨48, _⟩ => ⟨S1x128, .i1⟩
  | .hbm, ⟨49, _⟩ => ⟨S_, .i32⟩
  | .hbm, ⟨50, _⟩ => ⟨S1x128, .i32⟩
  | .hbm, ⟨51, _⟩ => ⟨S1x128, .i32⟩
  | .hbm, ⟨52, _⟩ => ⟨S1x128, .i32⟩
  | .hbm, ⟨53, _⟩ => ⟨S1024x128, .i32⟩
  | .hbm, ⟨54, _⟩ => ⟨S1024x128, .i32⟩
  | .hbm, ⟨55, _⟩ => ⟨S1024x128, .i32⟩
  | .hbm, ⟨56, _⟩ => ⟨S1024x128, .f32⟩
  | .hbm, ⟨57, _⟩ => ⟨S1x16, .f32⟩
  | .hbm, ⟨58, _⟩ => ⟨S8x16, .f32⟩
  | .hbm, ⟨59, _⟩ => ⟨S128, .f32⟩
  | .hbm, ⟨60, _⟩ => ⟨S1x128, .f32⟩
  | .hbm, ⟨61, _⟩ => ⟨S1024x128, .f32⟩
  | .hbm, ⟨62, _⟩ => ⟨S1024x128, .f32⟩
  | .hbm, ⟨63, _⟩ => ⟨S1024x128, .f32⟩
  | .hbm, ⟨64, _⟩ => ⟨S1024x128, .f32⟩
  | .hbm, ⟨65, _⟩ => ⟨S8192x16, .f32⟩
  | .hbm, ⟨66, _⟩ => ⟨S8192x16, .f32⟩
  | .hbm, ⟨67, _⟩ => ⟨S_, .f32⟩
  | .hbm, ⟨68, _⟩ => ⟨S8192x96, .f32⟩
  | .hbm, ⟨69, _⟩ => ⟨S_, .f32⟩
  | .hbm, ⟨70, _⟩ => ⟨S8192x96, .f32⟩
  | .hbm, ⟨71, _⟩ => ⟨S8192x128, .f32⟩
  | .hbm, ⟨72, _⟩ => ⟨S_, .f32⟩
  | .hbm, ⟨73, _⟩ => ⟨S8192x16, .f32⟩
  | .hbm, ⟨74, _⟩ => ⟨S8192x128, .f32⟩
  | .hbm, ⟨75, _⟩ => ⟨S8192x16, .f32⟩
  | .hbm, ⟨76, _⟩ => ⟨S_, .f32⟩
  | .hbm, ⟨77, _⟩ => ⟨S8192x16, .f32⟩
  | .hbm, ⟨78, _⟩ => ⟨S8192x128, .f32⟩
  | .hbm, ⟨79, _⟩ => ⟨S8192x1024, .f32⟩
  | .hbm, ⟨80, _⟩ => ⟨S1536x1024, .f32⟩
  | .hbm, ⟨81, _⟩ => ⟨S1536x1024, .bf16⟩
  | .hbm, ⟨82, _⟩ => ⟨S8192x1024, .f32⟩
  | .hbm, ⟨83, _⟩ => ⟨S8192x1024, .f32⟩
  | .hbm, ⟨84, _⟩ => ⟨S8192x1536, .bf16⟩
  | .hbm, ⟨85, _⟩ => ⟨S8192x1024, .bf16⟩
  | .hbm, ⟨86, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1024, .f32⟩
  | .local _ .vmem, ⟨13, _⟩ => ⟨S512x1024, .f32⟩
  | .local _ .vmem, ⟨14, _⟩ => ⟨S12x1024, .f32⟩
  | .local _ .vmem, ⟨15, _⟩ => ⟨S1536x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1536, .bf16⟩
  | .local _ .vmem, ⟨21, _⟩ => ⟨S512x1536, .bf16⟩
  | .local _ .vmem, ⟨22, _⟩ => ⟨S512x1024, .bf16⟩
  | .local _ .vmem, ⟨23, _⟩ => ⟨S512x1024, .bf16⟩
  | .local _ .vmem, ⟨24, _⟩ => ⟨S8x1024, .f32⟩
  | _, _ => ⟨S1x8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_5 : Ref sig .tc := ⟨.hbm, 67, rfl⟩
abbrev main_v36 : Ref sig .tc := ⟨.hbm, 68, rfl⟩
abbrev main_cst_6 : Ref sig .tc := ⟨.hbm, 69, rfl⟩
abbrev main_v37 : Ref sig .tc := ⟨.hbm, 70, rfl⟩
abbrev main_v38 : Ref sig .tc := ⟨.hbm, 71, rfl⟩
abbrev main_cst_7 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_8 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48_0 : Ref sig .tc := ⟨.hbm, 83, rfl⟩
abbrev main_v48_1 : Ref sig .tc := ⟨.hbm, 84, rfl⟩
abbrev main_v48_2 : Ref sig .tc := ⟨.hbm, 85, rfl⟩
abbrev main_v48_3 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S12x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1536x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== AttnInRefIdeal.lean ====
abbrev S1x8192x8x128 : Shape := ⟨4, ![1, 8192, 8, 128]⟩
abbrev S1x8192x2x128 : Shape := ⟨4, ![1, 8192, 2, 128]⟩
abbrev S1x8192x1024 : Shape := ⟨3, ![1, 8192, 1024]⟩
abbrev S1x3072 : Shape := ⟨2, ![1, 3072]⟩
abbrev S1024x1536 : Shape := ⟨2, ![1024, 1536]⟩
abbrev S1x1024 : Shape := ⟨2, ![1, 1024]⟩
abbrev S1x1x1024 : Shape := ⟨3, ![1, 1, 1024]⟩
abbrev S_ : Shape := ⟨0, ![]⟩
abbrev S1x8192x1536 : Shape := ⟨3, ![1, 8192, 1536]⟩
abbrev S1x8192x256 : Shape := ⟨3, ![1, 8192, 256]⟩
abbrev S8192 : Shape := ⟨1, ![8192]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S1x8192x8x32 : Shape := ⟨4, ![1, 8192, 8, 32]⟩
abbrev S1x8192x8x16 : Shape := ⟨4, ![1, 8192, 8, 16]⟩
abbrev S1x8192x1x16 : Shape := ⟨4, ![1, 8192, 1, 16]⟩
abbrev S1x8192x8x96 : Shape := ⟨4, ![1, 8192, 8, 96]⟩
abbrev S1x8192x2x32 : Shape := ⟨4, ![1, 8192, 2, 32]⟩
abbrev S1x8192x2x16 : Shape := ⟨4, ![1, 8192, 2, 16]⟩
abbrev S1x8192x2x96 : Shape := ⟨4, ![1, 8192, 2, 96]⟩
abbrev S6x1024 : Shape := ⟨2, ![6, 1024]⟩
abbrev S8x1024 : Shape := ⟨2, ![8, 1024]⟩
abbrev S8192x1024 : Shape := ⟨2, ![8192, 1024]⟩
abbrev S8192x1536 : Shape := ⟨2, ![8192, 1536]⟩

abbrev nBuf : Space → Nat
  | .hbm => 160
  | .vmem => 0
  | .smem => 0
  | _ => 0

abbrev hbmTy0_0 (i : Nat) : BufTy := match i % 128 with
  | 0 => ⟨S1x8192x8x128, .f32⟩
  | 1 => ⟨S1x8192x2x128, .f32⟩
  | 2 => ⟨S1x8192x2x128, .f32⟩
  | 3 => ⟨S1x8192x1024, .f32⟩
  | 4 => ⟨S1x8192x1024, .f32⟩
  | 5 => ⟨S1x3072, .f32⟩
  | 6 => ⟨S1024x1536, .f32⟩
  | 7 => ⟨S1x1024, .f32⟩
  | 8 => ⟨S1x1024, .f32⟩
  | 9 => ⟨S1x1024, .f32⟩
  | 10 => ⟨S1x1x1024, .f32⟩
  | 11 => ⟨S1x1x1024, .f32⟩
  | 12 => ⟨S1x1x1024, .f32⟩
  | 13 => ⟨S_, .f32⟩
  | 14 => ⟨S1x1x1024, .f32⟩
  | 15 => ⟨S1x1x1024, .f32⟩
  | 16 => ⟨S1x8192x1024, .f32⟩
  | 17 => ⟨S1x8192x1024, .f32⟩
  | 18 => ⟨S1x8192x1024, .f32⟩
  | 19 => ⟨S1x8192x1024, .f32⟩
  | 20 => ⟨S1x8192x1536, .f32⟩
  | 21 => ⟨S1x8192x1024, .f32⟩
  | 22 => ⟨S1x8192x256, .f32⟩
  | 23 => ⟨S1x8192x256, .f32⟩
  | 24 => ⟨S8192, .f32⟩
  | 25 => ⟨S16, .f32⟩
  | 26 => ⟨S_, .f32⟩
  | 27 => ⟨S16, .f32⟩
  | 28 => ⟨S16, .f32⟩
  | 29 => ⟨S_, .f32⟩
  | 30 => ⟨S16, .f32⟩
  | 31 => ⟨S16, .f32⟩
  | 32 => ⟨S16, .f32⟩
  | 33 => ⟨S_, .f32⟩
  | 34 => ⟨S16, .f32⟩
  | 35 => ⟨S16, .f32⟩
  | 36 => ⟨S_, .f32⟩
  | 37 => ⟨S16, .f32⟩
  | 38 => ⟨S16, .f32⟩
  | 39 => ⟨S8192x1, .f32⟩
  | 40 => ⟨S1x16, .f32⟩
  | 41 => ⟨S8192x16, .f32⟩
  | 42 => ⟨S8192x16, .f32⟩
  | 43 => ⟨S8192x16, .f32⟩
  | 44 => ⟨S8192x16, .f32⟩
  | 45 => ⟨S8192x16, .f32⟩
  | 46 => ⟨S1x8192x8x128, .f32⟩
  | 47 => ⟨S1x8192x8x32, .f32⟩
  | 48 => ⟨S1x8192x8x16, .f32⟩
  | 49 => ⟨S1x8192x8x16, .f32⟩
  | 50 => ⟨S1x8192x1x16, .f32⟩
  | 51 => ⟨S1x8192x1x16, .f32⟩
  | 52 => ⟨S1x8192x8x16, .f32⟩
  | 53 => ⟨S1x8192x8x16, .f32⟩
  | 54 => ⟨S1x8192x8x16, .f32⟩
  | 55 => ⟨S1x8192x8x16, .f32⟩
  | 56 => ⟨S1x8192x8x16, .f32⟩
  | 57 => ⟨S1x8192x8x16, .f32⟩
  | 58 => ⟨S1x8192x8x16, .f32⟩
  | 59 => ⟨S1x8192x8x16, .f32⟩
  | 60 => ⟨S1x8192x8x16, .f32⟩
  | 61 => ⟨S1x8192x8x16, .f32⟩
  | 62 => ⟨S1x8192x8x32, .f32⟩
  | 63 => ⟨S1x8192x8x96, .f32⟩
  | 64 => ⟨S1x8192x8x128, .f32⟩
  | 65 => ⟨S1x8192x2x128, .f32⟩
  | 66 => ⟨S1x8192x2x32, .f32⟩
  | 67 => ⟨S1x8192x2x16, .f32⟩
  | 68 => ⟨S1x8192x2x16, .f32⟩
  | 69 => ⟨S1x8192x1x16, .f32⟩
  | 70 => ⟨S1x8192x1x16, .f32⟩
  | 71 => ⟨S1x8192x2x16, .f32⟩
  | 72 => ⟨S1x8192x2x16, .f32⟩
  | 73 => ⟨S1x8192x2x16, .f32⟩
  | 74 => ⟨S1x8192x2x16, .f32⟩
  | 75 => ⟨S1x8192x2x16, .f32⟩
  | 76 => ⟨S1x8192x2x16, .f32⟩
  | 77 => ⟨S1x8192x2x16, .f32⟩
  | 78 => ⟨S1x8192x2x16, .f32⟩
  | 79 => ⟨S1x8192x2x16, .f32⟩
  | 80 => ⟨S1x8192x2x16, .f32⟩
  | 81 => ⟨S1x8192x2x32, .f32⟩
  | 82 => ⟨S1x8192x2x96, .f32⟩
  | 83 => ⟨S1x8192x2x128, .f32⟩
  | 84 => ⟨S1x8192x2x128, .f32⟩
  | 85 => ⟨S1x8192x256, .f32⟩
  | 86 => ⟨S1x8192x2x32, .f32⟩
  | 87 => ⟨S1x8192x2x96, .f32⟩
  | 88 => ⟨S_, .f32⟩
  | 89 => ⟨S1x8192x2x128, .f32⟩
  | 90 => ⟨S1x8192x2x16, .f32⟩
  | 91 => ⟨S1x8192x2x16, .f32⟩
  | 92 => ⟨S1x8192x2x16, .f32⟩
  | 93 => ⟨S1x8192x2x16, .f32⟩
  | 94 => ⟨S1x8192x2x16, .f32⟩
  | 95 => ⟨S1x8192x2x16, .f32⟩
  | 96 => ⟨S1x8192x2x16, .f32⟩
  | 97 => ⟨S1x8192x2x16, .f32⟩
  | 98 => ⟨S1x8192x2x16, .f32⟩
  | 99 => ⟨S1x8192x2x16, .f32⟩
  | 100 => ⟨S1x8192x2x16, .f32⟩
  | 101 => ⟨S1x8192x2x16, .f32⟩
  | 102 => ⟨S1x8192x2x16, .f32⟩
  | 103 => ⟨S_, .f32⟩
  | 104 => ⟨S1x8192x2x32, .f32⟩
  | 105 => ⟨S_, .f32⟩
  | 106 => ⟨S1x8192x2x32, .f32⟩
  | 107 => ⟨S1x8192x2x32, .f32⟩
  | 108 => ⟨S_, .f32⟩
  | 109 => ⟨S1x8192x2x128, .f32⟩
  | 110 => ⟨S1x8192x2x128, .f32⟩
  | 111 => ⟨S1x8192x256, .f32⟩
  | 112 => ⟨S1x8192x8x32, .f32⟩
  | 113 => ⟨S1x8192x8x96, .f32⟩
  | 114 => ⟨S_, .f32⟩
  | 115 => ⟨S1x8192x8x128, .f32⟩
  | 116 => ⟨S1x8192x8x16, .f32⟩
  | 117 => ⟨S1x8192x8x16, .f32⟩
  | 118 => ⟨S1x8192x8x16, .f32⟩
  | 119 => ⟨S1x8192x8x16, .f32⟩
  | 120 => ⟨S1x8192x8x16, .f32⟩
  | 121 => ⟨S1x8192x8x16, .f32⟩
  | 122 => ⟨S1x8192x8x16, .f32⟩
  | 123 => ⟨S1x8192x8x16, .f32⟩
  | 124 => ⟨S1x8192x8x16, .f32⟩
  | 125 => ⟨S1x8192x8x16, .f32⟩
  | 126 => ⟨S1x8192x8x16, .f32⟩
  | 127 => ⟨S1x8192x8x16, .f32⟩
  | _ => ⟨S1x8192x8x128, .f32⟩

abbrev hbmTy0_1 (i : Nat) : BufTy := match i % 128 with
  | 0 => ⟨S1x8192x8x16, .f32⟩
  | 1 => ⟨S_, .f32⟩
  | 2 => ⟨S1x8192x8x32, .f32⟩
  | 3 => ⟨S_, .f32⟩
  | 4 => ⟨S1x8192x8x32, .f32⟩
  | 5 => ⟨S1x8192x8x32, .f32⟩
  | 6 => ⟨S_, .f32⟩
  | 7 => ⟨S1x8192x8x128, .f32⟩
  | 8 => ⟨S1x8192x8x128, .f32⟩
  | 9 => ⟨S1x8192x1024, .f32⟩
  | 10 => ⟨S1x8192x1536, .f32⟩
  | 11 => ⟨S1x8192x1024, .f32⟩
  | 12 => ⟨S_, .f32⟩
  | 13 => ⟨S1x1024, .f32⟩
  | 14 => ⟨S1x1x1024, .f32⟩
  | 15 => ⟨S1x8192x1024, .f32⟩
  | 16 => ⟨S_, .f32⟩
  | 17 => ⟨S1x1024, .f32⟩
  | 18 => ⟨S1x1x1024, .f32⟩
  | 19 => ⟨S1x8192x1024, .f32⟩
  | 20 => ⟨S1x8192x1024, .f32⟩
  | 21 => ⟨S1x1024, .f32⟩
  | 22 => ⟨S1x1024, .f32⟩
  | 23 => ⟨S_, .f32⟩
  | 24 => ⟨S6x1024, .f32⟩
  | 25 => ⟨S8x1024, .f32⟩
  | 26 => ⟨S1x8192x1024, .f32⟩
  | 27 => ⟨S8192x1024, .f32⟩
  | 28 => ⟨S8192x1536, .f32⟩
  | 29 => ⟨S8192x1536, .bf16⟩
  | 30 => ⟨S8192x1024, .f32⟩
  | 31 => ⟨S8192x1024, .bf16⟩
  | _ => ⟨S1x8192x8x128, .f32⟩

abbrev hbmTy (i : Nat) : BufTy := match i / 128 with
  | 0 => hbmTy0_0 i
  | 1 => hbmTy0_1 i
  | _ => ⟨S1x8192x8x128, .f32⟩

abbrev bufTy : (tb : Table) → Fin (tcTables nBuf tb) → BufTy
  | .hbm, ⟨i, _⟩ => hbmTy i
  | _, _ => ⟨S1x8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_cst_4 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_cst_5 : Ref sig .tc := ⟨.hbm, 103, rfl⟩
abbrev main_v90 : Ref sig .tc := ⟨.hbm, 104, rfl⟩
abbrev main_cst_6 : Ref sig .tc := ⟨.hbm, 105, rfl⟩
abbrev main_v91 : Ref sig .tc := ⟨.hbm, 106, rfl⟩
abbrev main_v92 : Ref sig .tc := ⟨.hbm, 107, rfl⟩
abbrev main_cst_7 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_cst_8 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_cst_9 : Ref sig .tc := ⟨.hbm, 129, rfl⟩
abbrev main_v112 : Ref sig .tc := ⟨.hbm, 130, rfl⟩
abbrev main_cst_10 : Ref sig .tc := ⟨.hbm, 131, rfl⟩
abbrev main_v113 : Ref sig .tc := ⟨.hbm, 132, rfl⟩
abbrev main_v114 : Ref sig .tc := ⟨.hbm, 133, rfl⟩
abbrev main_cst_11 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_cst_12 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_cst_13 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_cst_14 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩

abbrev nD : Nat := 1
abbrev τ : Topo := Topo.v7x

variable {F : FTy → Type} [FloatOps F]
-- ==== Mlp.lean ====
abbrev S1x8192x1024 : Shape := ⟨3, ![1, 8192, 1024]⟩
abbrev S1x3072 : Shape := ⟨2, ![1, 3072]⟩
abbrev S1024x4096 : Shape := ⟨2, ![1024, 4096]⟩
abbrev S4096x1024 : Shape := ⟨2, ![4096, 1024]⟩
abbrev S1024 : Shape := ⟨1, ![1024]⟩
abbrev S3x1024 : Shape := ⟨2, ![3, 1024]⟩
abbrev S_ : Shape := ⟨0, ![]⟩
abbrev S12x1024 : Shape := ⟨2, ![12, 1024]⟩
abbrev S1x1024 : Shape := ⟨2, ![1, 1024]⟩
abbrev S8192x1024 : Shape := ⟨2, ![8192, 1024]⟩
abbrev S8192x4096 : Shape := ⟨2, ![8192, 4096]⟩
abbrev S512x1024 : Shape := ⟨2, ![512, 1024]⟩
abbrev S512x4096 : Shape := ⟨2, ![512, 4096]⟩
abbrev S1024x1024 : Shape := ⟨2, ![1024, 1024]⟩
abbrev S512 : Shape := ⟨1, ![512]⟩
abbrev S512x1 : Shape := ⟨2, ![512, 1]⟩
abbrev S8x1024 : Shape := ⟨2, ![8, 1024]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩

abbrev nBuf : Space → Nat
  | .hbm => 27
  | .vmem => 36
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x3072, .f32⟩
  | .hbm, ⟨3, _⟩ => ⟨S1024x4096, .f32⟩
  | .hbm, ⟨4, _⟩ => ⟨S4096x1024, .f32⟩
  | .hbm, ⟨5, _⟩ => ⟨S1024, .f32⟩
  | .hbm, ⟨6, _⟩ => ⟨S1024, .f32⟩
  | .hbm, ⟨7, _⟩ => ⟨S3x1024, .f32⟩
  | .hbm, ⟨8, _⟩ => ⟨S_, .i32⟩
  | .hbm, ⟨9, _⟩ => ⟨S_, .f32⟩
  | .hbm, ⟨10, _⟩ => ⟨S12x1024, .f32⟩
  | .hbm, ⟨11, _⟩ => ⟨S4096x1024, .f32⟩
  | .hbm, ⟨12, _⟩ => ⟨S4096x1024, .bf16⟩
  | .hbm, ⟨13, _⟩ => ⟨S4096x1024, .bf16⟩
  | .hbm, ⟨14, _⟩ => ⟨S1x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x4096, .bf16⟩
  | .hbm, ⟨20, _⟩ => ⟨S8192x4096, .bf16⟩
  | .hbm, ⟨21, _⟩ => ⟨S8192x1024, .f32⟩
  | .hbm, ⟨22, _⟩ => ⟨S8192x1024, .f32⟩
  | .hbm, ⟨23, _⟩ => ⟨S8192x4096, .bf16⟩
  | .hbm, ⟨24, _⟩ => ⟨S8192x1024, .bf16⟩
  | .hbm, ⟨25, _⟩ => ⟨S8192x1024, .bf16⟩
  | .hbm, ⟨26, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S12x1024, .f32⟩
  | .local _ .vmem, ⟨3, _⟩ => ⟨S4096x1024, .bf16⟩
  | .local _ .vmem, ⟨4, _⟩ => ⟨S4096x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x4096, .bf16⟩
  | .local _ .vmem, ⟨12, _⟩ => ⟨S512x4096, .bf16⟩
  | .local _ .vmem, ⟨13, _⟩ => ⟨S512x4096, .bf16⟩
  | .local _ .vmem, ⟨14, _⟩ => ⟨S512x4096, .bf16⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x4096, .bf16⟩
  | .local _ .vmem, ⟨22, _⟩ => ⟨S256x4096, .bf16⟩
  | .local _ .vmem, ⟨23, _⟩ => ⟨S12x1024, .f32⟩
  | .local _ .vmem, ⟨24, _⟩ => ⟨S4096x1024, .bf16⟩
  | .local _ .vmem, ⟨25, _⟩ => ⟨S4096x1024, .bf16⟩
  | .local _ .vmem, ⟨26, _⟩ => ⟨S1x1024, .f32⟩
  | .local _ .vmem, ⟨27, _⟩ => ⟨S256x1024, .f32⟩
  | .local _ .vmem, ⟨28, _⟩ => ⟨S256x1024, .f32⟩
  | .local _ .vmem, ⟨29, _⟩ => ⟨S256x4096, .bf16⟩
  | .local _ .vmem, ⟨30, _⟩ => ⟨S256x4096, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | .local _ .vmem, ⟨35, _⟩ => ⟨S8x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v10_3 : Ref sig .tc := ⟨.hbm, 25, rfl⟩
abbrev main_v10_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg8_1 : Ref sig .tc := ⟨.vmem, 28, rfl⟩
abbrev cc1_stg9_0 : Ref sig .tc := ⟨.vmem, 29, rfl⟩
abbrev cc1_stg9_1 : Ref sig .tc := ⟨.vmem, 30, rfl⟩
abbrev cc1_stg10_0 : Ref sig .tc := ⟨.vmem, 31, rfl⟩
abbrev cc1_stg10_1 : Ref sig .tc := ⟨.vmem, 32, rfl⟩
abbrev cc1_stg11_0 : Ref sig .tc := ⟨.vmem, 33, rfl⟩
abbrev cc1_stg11_1 : Ref sig .tc := ⟨.vmem, 34, rfl⟩
abbrev cc1_stg12_0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem8_1 : DmaSem sig := 28
abbrev cc1_sem9_0 : DmaSem sig := 29
abbrev cc1_sem9_1 : DmaSem sig := 30
abbrev cc1_sem10_0 : DmaSem sig := 31
abbrev cc1_sem10_1 : DmaSem sig := 32
abbrev cc1_sem11_0 : DmaSem sig := 33
abbrev cc1_sem11_1 : DmaSem sig := 34
abbrev cc1_sem12_0 : DmaSem sig := 35

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S12x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4096x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4096x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x4096 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S8x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]
-- ==== MlpRefIdeal.lean ====
abbrev S1x8192x1024 : Shape := ⟨3, ![1, 8192, 1024]⟩
abbrev S1x3072 : Shape := ⟨2, ![1, 3072]⟩
abbrev S1024x4096 : Shape := ⟨2, ![1024, 4096]⟩
abbrev S4096x1024 : Shape := ⟨2, ![4096, 1024]⟩
abbrev S1024 : Shape := ⟨1, ![1024]⟩
abbrev S1x1024 : Shape := ⟨2, ![1, 1024]⟩
abbrev S1x1x1024 : Shape := ⟨3, ![1, 1, 1024]⟩
abbrev S_ : Shape := ⟨0, ![]⟩
abbrev S1x8192x4096 : Shape := ⟨3, ![1, 8192, 4096]⟩
abbrev S1x8192 : Shape := ⟨2, ![1, 8192]⟩
abbrev S1x8192x1 : Shape := ⟨3, ![1, 8192, 1]⟩
abbrev S8192x4096 : Shape := ⟨2, ![8192, 4096]⟩
abbrev S8192 : Shape := ⟨1, ![8192]⟩
abbrev S8192x1024 : Shape := ⟨2, ![8192, 1024]⟩
abbrev S3x1024 : Shape := ⟨2, ![3, 1024]⟩
abbrev S8x1024 : Shape := ⟨2, ![8, 1024]⟩

abbrev nBuf : Space → Nat
  | .hbm => 169
  | .vmem => 0
  | .smem => 0
  | _ => 0

abbrev hbmTy0_0 (i : Nat) : BufTy := match i % 128 with
  | 0 => ⟨S1x8192x1024, .f32⟩
  | 1 => ⟨S1x8192x1024, .f32⟩
  | 2 => ⟨S1x3072, .f32⟩
  | 3 => ⟨S1024x4096, .f32⟩
  | 4 => ⟨S4096x1024, .f32⟩
  | 5 => ⟨S1024, .f32⟩
  | 6 => ⟨S1024, .f32⟩
  | 7 => ⟨S1x1024, .f32⟩
  | 8 => ⟨S1x1024, .f32⟩
  | 9 => ⟨S1x1024, .f32⟩
  | 10 => ⟨S1x1x1024, .f32⟩
  | 11 => ⟨S1x1x1024, .f32⟩
  | 12 => ⟨S1x1x1024, .f32⟩
  | 13 => ⟨S_, .f32⟩
  | 14 => ⟨S1x1x1024, .f32⟩
  | 15 => ⟨S1x1x1024, .f32⟩
  | 16 => ⟨S1x8192x1024, .f32⟩
  | 17 => ⟨S1x8192x1024, .f32⟩
  | 18 => ⟨S1x8192x1024, .f32⟩
  | 19 => ⟨S1x8192x1024, .f32⟩
  | 20 => ⟨S1x8192x4096, .f32⟩
  | 21 => ⟨S_, .f32⟩
  | 22 => ⟨S1x8192x4096, .f32⟩
  | 23 => ⟨S1x8192x4096, .f32⟩
  | 24 => ⟨S_, .f32⟩
  | 25 => ⟨S1x8192x4096, .f32⟩
  | 26 => ⟨S1x8192x4096, .i1⟩
  | 27 => ⟨S_, .f32⟩
  | 28 => ⟨S1x8192x4096, .f32⟩
  | 29 => ⟨S1x8192x4096, .f32⟩
  | 30 => ⟨S_, .f32⟩
  | 31 => ⟨S1x8192x4096, .f32⟩
  | 32 => ⟨S1x8192x4096, .f32⟩
  | 33 => ⟨S1x8192x1024, .f32⟩
  | 34 => ⟨S_, .f32⟩
  | 35 => ⟨S1x8192x1024, .f32⟩
  | 36 => ⟨S1x8192x1024, .f32⟩
  | 37 => ⟨S_, .f32⟩
  | 38 => ⟨S1x1x1024, .f32⟩
  | 39 => ⟨S1x1x1024, .f32⟩
  | 40 => ⟨S1x8192x1024, .f32⟩
  | 41 => ⟨S1x8192x1024, .f32⟩
  | 42 => ⟨S1x8192x1024, .f32⟩
  | 43 => ⟨S_, .f32⟩
  | 44 => ⟨S1x8192, .f32⟩
  | 45 => ⟨S1x8192x1, .f32⟩
  | 46 => ⟨S_, .f32⟩
  | 47 => ⟨S1x8192x1, .f32⟩
  | 48 => ⟨S1x8192x1, .f32⟩
  | 49 => ⟨S1x8192x1024, .f32⟩
  | 50 => ⟨S1x8192x1024, .f32⟩
  | 51 => ⟨S1x8192x1024, .f32⟩
  | 52 => ⟨S_, .f32⟩
  | 53 => ⟨S1x8192x1024, .f32⟩
  | 54 => ⟨S1x8192x1024, .f32⟩
  | 55 => ⟨S_, .f32⟩
  | 56 => ⟨S1x8192, .f32⟩
  | 57 => ⟨S1x8192x1, .f32⟩
  | 58 => ⟨S_, .f32⟩
  | 59 => ⟨S1x8192x1, .f32⟩
  | 60 => ⟨S1x8192x1, .f32⟩
  | 61 => ⟨S1x8192x1024, .f32⟩
  | 62 => ⟨S1x8192x1024, .f32⟩
  | 63 => ⟨S_, .f32⟩
  | 64 => ⟨S1x8192x1, .f32⟩
  | 65 => ⟨S1x8192x1, .f32⟩
  | 66 => ⟨S1x8192x1, .f32⟩
  | 67 => ⟨S1x8192x1, .f32⟩
  | 68 => ⟨S_, .f32⟩
  | 69 => ⟨S1x8192x1, .f32⟩
  | 70 => ⟨S1x8192x1, .f32⟩
  | 71 => ⟨S1x8192x1024, .f32⟩
  | 72 => ⟨S1x8192x1024, .f32⟩
  | 73 => ⟨S1x1x1024, .f32⟩
  | 74 => ⟨S1x8192x1024, .f32⟩
  | 75 => ⟨S1x8192x1024, .f32⟩
  | 76 => ⟨S1x1x1024, .f32⟩
  | 77 => ⟨S1x8192x1024, .f32⟩
  | 78 => ⟨S1x8192x1024, .f32⟩
  | 79 => ⟨S8192x4096, .f32⟩
  | 80 => ⟨S8192x4096, .bf16⟩
  | 81 => ⟨S1x8192x1024, .f32⟩
  | 82 => ⟨S_, .f32⟩
  | 83 => ⟨S1x1024, .f32⟩
  | 84 => ⟨S1x1x1024, .f32⟩
  | 85 => ⟨S_, .f32⟩
  | 86 => ⟨S1024, .f32⟩
  | 87 => ⟨S1x8192x1024, .f32⟩
  | 88 => ⟨S_, .f32⟩
  | 89 => ⟨S1x1024, .f32⟩
  | 90 => ⟨S1x1x1024, .f32⟩
  | 91 => ⟨S1x8192x1024, .f32⟩
  | 92 => ⟨S1x8192x1024, .f32⟩
  | 93 => ⟨S_, .f32⟩
  | 94 => ⟨S1024, .f32⟩
  | 95 => ⟨S1x8192x1024, .f32⟩
  | 96 => ⟨S_, .f32⟩
  | 97 => ⟨S1x8192, .f32⟩
  | 98 => ⟨S1x8192x1, .f32⟩
  | 99 => ⟨S1x8192x1024, .f32⟩
  | 100 => ⟨S1x8192x1024, .f32⟩
  | 101 => ⟨S1x8192x1, .f32⟩
  | 102 => ⟨S1x8192x1024, .f32⟩
  | 103 => ⟨S_, .f32⟩
  | 104 => ⟨S1x8192, .f32⟩
  | 105 => ⟨S1x8192x1, .f32⟩
  | 106 => ⟨S_, .f32⟩
  | 107 => ⟨S1x8192x1, .f32⟩
  | 108 => ⟨S1x8192x1, .f32⟩
  | 109 => ⟨S_, .f32⟩
  | 110 => ⟨S8192, .f32⟩
  | 111 => ⟨S1x8192, .f32⟩
  | 112 => ⟨S1x8192x1024, .f32⟩
  | 113 => ⟨S1x8192x1024, .f32⟩
  | 114 => ⟨S1x8192x1024, .f32⟩
  | 115 => ⟨S_, .f32⟩
  | 116 => ⟨S1x8192, .f32⟩
  | 117 => ⟨S1x8192x1, .f32⟩
  | 118 => ⟨S1x8192x1024, .f32⟩
  | 119 => ⟨S1x8192x1, .f32⟩
  | 120 => ⟨S_, .f32⟩
  | 121 => ⟨S1x8192x1, .f32⟩
  | 122 => ⟨S1x8192x1, .f32⟩
  | 123 => ⟨S_, .f32⟩
  | 124 => ⟨S8192, .f32⟩
  | 125 => ⟨S1x8192, .f32⟩
  | 126 => ⟨S1x8192x1024, .f32⟩
  | 127 => ⟨S1x8192x1024, .f32⟩
  | _ => ⟨S1x8192x1024, .f32⟩

abbrev hbmTy0_1 (i : Nat) : BufTy := match i % 128 with
  | 0 => ⟨S1x8192x1024, .f32⟩
  | 1 => ⟨S1x8192x1024, .f32⟩
  | 2 => ⟨S1x8192x1024, .f32⟩
  | 3 => ⟨S_, .f32⟩
  | 4 => ⟨S1x1024, .f32⟩
  | 5 => ⟨S1x1x1024, .f32⟩
  | 6 => ⟨S_, .f32⟩
  | 7 => ⟨S1x8192x1024, .f32⟩
  | 8 => ⟨S1x8192x1024, .f32⟩
  | 9 => ⟨S1x8192x4096, .f32⟩
  | 10 => ⟨S1x8192x4096, .f32⟩
  | 11 => ⟨S_, .f32⟩
  | 12 => ⟨S1x8192x4096, .f32⟩
  | 13 => ⟨S1x8192x4096, .f32⟩
  | 14 => ⟨S1x8192x1024, .f32⟩
  | 15 => ⟨S_, .f32⟩
  | 16 => ⟨S1x1024, .f32⟩
  | 17 => ⟨S1x1x1024, .f32⟩
  | 18 => ⟨S1x8192x1024, .f32⟩
  | 19 => ⟨S_, .f32⟩
  | 20 => ⟨S1x1024, .f32⟩
  | 21 => ⟨S1x1x1024, .f32⟩
  | 22 => ⟨S1x8192x1024, .f32⟩
  | 23 => ⟨S1x8192x1024, .f32⟩
  | 24 => ⟨S1x1024, .f32⟩
  | 25 => ⟨S1x1024, .f32⟩
  | 26 => ⟨S1x1024, .f32⟩
  | 27 => ⟨S1x1024, .f32⟩
  | 28 => ⟨S1x1024, .f32⟩
  | 29 => ⟨S1x8192x1024, .f32⟩
  | 30 => ⟨S8192x1024, .f32⟩
  | 31 => ⟨S8192x4096, .f32⟩
  | 32 => ⟨S8192x4096, .bf16⟩
  | 33 => ⟨S8192x1024, .f32⟩
  | 34 => ⟨S8192x1024, .bf16⟩
  | 35 => ⟨S8192x1024, .f32⟩
  | 36 => ⟨S8192x1024, .bf16⟩
  | 37 => ⟨S8192x1024, .f32⟩
  | 38 => ⟨S_, .f32⟩
  | 39 => ⟨S3x1024, .f32⟩
  | 40 => ⟨S8x1024, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_cst_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_15 : Ref sig .tc := ⟨.hbm, 93, rfl⟩
abbrev main_v68 : Ref sig .tc := ⟨.hbm, 94, rfl⟩
abbrev main_v69 : Ref sig .tc := ⟨.hbm, 95, rfl⟩
abbrev main_cst_16 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_17 : Ref sig .tc := ⟨.hbm, 103, rfl⟩
abbrev main_v76 : Ref sig .tc := ⟨.hbm, 104, rfl⟩
abbrev main_v77 : Ref sig .tc := ⟨.hbm, 105, rfl⟩
abbrev main_cst_18 : Ref sig .tc := ⟨.hbm, 106, rfl⟩
abbrev main_v78 : Ref sig .tc := ⟨.hbm, 107, rfl⟩
abbrev main_v79 : Ref sig .tc := ⟨.hbm, 108, rfl⟩
abbrev main_cst_19 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_20 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_21 : Ref sig .tc := ⟨.hbm, 120, rfl⟩
abbrev main_v89 : Ref sig .tc := ⟨.hbm, 121, rfl⟩
abbrev main_v90 : Ref sig .tc := ⟨.hbm, 122, rfl⟩
abbrev main_cst_22 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_23 : Ref sig .tc := ⟨.hbm, 131, rfl⟩
abbrev main_v98 : Ref sig .tc := ⟨.hbm, 132, rfl⟩
abbrev main_v99 : Ref sig .tc := ⟨.hbm, 133, rfl⟩
abbrev main_cst_24 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_25 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_26 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_cst_27 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_cst_28 : Ref sig .tc := ⟨.hbm, 166, rfl⟩
abbrev main_v128 : Ref sig .tc := ⟨.hbm, 167, rfl⟩
abbrev main_v129 : Ref sig .tc := ⟨.hbm, 168, rfl⟩

abbrev nD : Nat := 1
abbrev τ : Topo := Topo.v7x

variable {F : FTy → Type} [FloatOps F]
-- ==== Head.lean ====
abbrev S1x8192x1024 : Shape := ⟨3, ![1, 8192, 1024]⟩
abbrev S1x3072 : Shape := ⟨2, ![1, 3072]⟩
abbrev S1024x4096 : Shape := ⟨2, ![1024, 4096]⟩
abbrev S4096x1024 : Shape := ⟨2, ![4096, 1024]⟩
abbrev S1024 : Shape := ⟨1, ![1024]⟩
abbrev S3x1024 : Shape := ⟨2, ![3, 1024]⟩
abbrev S_ : Shape := ⟨0, ![]⟩
abbrev S12x1024 : Shape := ⟨2, ![12, 1024]⟩
abbrev S1x1024 : Shape := ⟨2, ![1, 1024]⟩
abbrev S8192x1024 : Shape := ⟨2, ![8192, 1024]⟩
abbrev S8192x4096 : Shape := ⟨2, ![8192, 4096]⟩
abbrev S512x1024 : Shape := ⟨2, ![512, 1024]⟩
abbrev S512x4096 : Shape := ⟨2, ![512, 4096]⟩
abbrev S1024x1024 : Shape := ⟨2, ![1024, 1024]⟩
abbrev S8x1024 : Shape := ⟨2, ![8, 1024]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩

abbrev nBuf : Space → Nat
  | .hbm => 26
  | .vmem => 35
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x3072, .f32⟩
  | .hbm, ⟨3, _⟩ => ⟨S1024x4096, .f32⟩
  | .hbm, ⟨4, _⟩ => ⟨S4096x1024, .f32⟩
  | .hbm, ⟨5, _⟩ => ⟨S1024, .f32⟩
  | .hbm, ⟨6, _⟩ => ⟨S1024, .f32⟩
  | .hbm, ⟨7, _⟩ => ⟨S3x1024, .f32⟩
  | .hbm, ⟨8, _⟩ => ⟨S_, .i32⟩
  | .hbm, ⟨9, _⟩ => ⟨S_, .f32⟩
  | .hbm, ⟨10, _⟩ => ⟨S12x1024, .f32⟩
  | .hbm, ⟨11, _⟩ => ⟨S4096x1024, .f32⟩
  | .hbm, ⟨12, _⟩ => ⟨S4096x1024, .bf16⟩
  | .hbm, ⟨13, _⟩ => ⟨S4096x1024, .bf16⟩
  | .hbm, ⟨14, _⟩ => ⟨S1x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x4096, .bf16⟩
  | .hbm, ⟨19, _⟩ => ⟨S8192x4096, .bf16⟩
  | .hbm, ⟨20, _⟩ => ⟨S8192x1024, .f32⟩
  | .hbm, ⟨21, _⟩ => ⟨S8192x1024, .f32⟩
  | .hbm, ⟨22, _⟩ => ⟨S8192x4096, .bf16⟩
  | .hbm, ⟨23, _⟩ => ⟨S8192x1024, .bf16⟩
  | .hbm, ⟨24, _⟩ => ⟨S8192x1024, .bf16⟩
  | .hbm, ⟨25, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S12x1024, .f32⟩
  | .local _ .vmem, ⟨3, _⟩ => ⟨S4096x1024, .bf16⟩
  | .local _ .vmem, ⟨4, _⟩ => ⟨S4096x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x4096, .bf16⟩
  | .local _ .vmem, ⟨10, _⟩ => ⟨S512x4096, .bf16⟩
  | .local _ .vmem, ⟨11, _⟩ => ⟨S512x4096, .bf16⟩
  | .local _ .vmem, ⟨12, _⟩ => ⟨S512x4096, .bf16⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x4096, .bf16⟩
  | .local _ .vmem, ⟨20, _⟩ => ⟨S256x4096, .bf16⟩
  | .local _ .vmem, ⟨21, _⟩ => ⟨S12x1024, .f32⟩
  | .local _ .vmem, ⟨22, _⟩ => ⟨S4096x1024, .bf16⟩
  | .local _ .vmem, ⟨23, _⟩ => ⟨S4096x1024, .bf16⟩
  | .local _ .vmem, ⟨24, _⟩ => ⟨S1x1024, .f32⟩
  | .local _ .vmem, ⟨25, _⟩ => ⟨S1x1024, .f32⟩
  | .local _ .vmem, ⟨26, _⟩ => ⟨S256x1024, .f32⟩
  | .local _ .vmem, ⟨27, _⟩ => ⟨S256x1024, .f32⟩
  | .local _ .vmem, ⟨28, _⟩ => ⟨S256x4096, .bf16⟩
  | .local _ .vmem, ⟨29, _⟩ => ⟨S256x4096, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S8x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v10_3 : Ref sig .tc := ⟨.hbm, 24, rfl⟩
abbrev main_v10_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc1_stg10_0 : Ref sig .tc := ⟨.vmem, 28, rfl⟩
abbrev cc1_stg10_1 : Ref sig .tc := ⟨.vmem, 29, rfl⟩
abbrev cc1_stg11_0 : Ref sig .tc := ⟨.vmem, 30, rfl⟩
abbrev cc1_stg11_1 : Ref sig .tc := ⟨.vmem, 31, rfl⟩
abbrev cc1_stg12_0 : Ref sig .tc := ⟨.vmem, 32, rfl⟩
abbrev cc1_stg12_1 : Ref sig .tc := ⟨.vmem, 33, rfl⟩
abbrev cc1_stg13_0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem9_1 : DmaSem sig := 27
abbrev cc1_sem10_0 : DmaSem sig := 28
abbrev cc1_sem10_1 : DmaSem sig := 29
abbrev cc1_sem11_0 : DmaSem sig := 30
abbrev cc1_sem11_1 : DmaSem sig := 31
abbrev cc1_sem12_0 : DmaSem sig := 32
abbrev cc1_sem12_1 : DmaSem sig := 33
abbrev cc1_sem13_0 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S12x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4096x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4096x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S256x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x4096 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 1 → Memref sig .tc .vmem S8x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]
-- ==== HeadRefIdeal.lean ====
abbrev S1x8192x1024 : Shape := ⟨3, ![1, 8192, 1024]⟩
abbrev S1x3072 : Shape := ⟨2, ![1, 3072]⟩
abbrev S1024x4096 : Shape := ⟨2, ![1024, 4096]⟩
abbrev S4096x1024 : Shape := ⟨2, ![4096, 1024]⟩
abbrev S1024 : Shape := ⟨1, ![1024]⟩
abbrev S1x1024 : Shape := ⟨2, ![1, 1024]⟩
abbrev S1x1x1024 : Shape := ⟨3, ![1, 1, 1024]⟩
abbrev S_ : Shape := ⟨0, ![]⟩
abbrev S1x8192x4096 : Shape := ⟨3, ![1, 8192, 4096]⟩
abbrev S1x8192 : Shape := ⟨2, ![1, 8192]⟩
abbrev S1x8192x1 : Shape := ⟨3, ![1, 8192, 1]⟩
abbrev S8192x4096 : Shape := ⟨2, ![8192, 4096]⟩
abbrev S8192 : Shape := ⟨1, ![8192]⟩
abbrev S8192x1024 : Shape := ⟨2, ![8192, 1024]⟩
abbrev S2x1024 : Shape := ⟨2, ![2, 1024]⟩
abbrev S8x1024 : Shape := ⟨2, ![8, 1024]⟩

abbrev nBuf : Space → Nat
  | .hbm => 194
  | .vmem => 0
  | .smem => 0
  | _ => 0

abbrev hbmTy0_0 (i : Nat) : BufTy := match i % 128 with
  | 0 => ⟨S1x8192x1024, .f32⟩
  | 1 => ⟨S1x8192x1024, .f32⟩
  | 2 => ⟨S1x3072, .f32⟩
  | 3 => ⟨S1024x4096, .f32⟩
  | 4 => ⟨S4096x1024, .f32⟩
  | 5 => ⟨S1024, .f32⟩
  | 6 => ⟨S1024, .f32⟩
  | 7 => ⟨S1x1024, .f32⟩
  | 8 => ⟨S1x1024, .f32⟩
  | 9 => ⟨S1x1024, .f32⟩
  | 10 => ⟨S1x1x1024, .f32⟩
  | 11 => ⟨S1x1x1024, .f32⟩
  | 12 => ⟨S1x1x1024, .f32⟩
  | 13 => ⟨S_, .f32⟩
  | 14 => ⟨S1x1x1024, .f32⟩
  | 15 => ⟨S1x1x1024, .f32⟩
  | 16 => ⟨S1x8192x1024, .f32⟩
  | 17 => ⟨S1x8192x1024, .f32⟩
  | 18 => ⟨S1x8192x1024, .f32⟩
  | 19 => ⟨S1x8192x1024, .f32⟩
  | 20 => ⟨S1x8192x4096, .f32⟩
  | 21 => ⟨S_, .f32⟩
  | 22 => ⟨S1x8192x4096, .f32⟩
  | 23 => ⟨S1x8192x4096, .f32⟩
  | 24 => ⟨S_, .f32⟩
  | 25 => ⟨S1x8192x4096, .f32⟩
  | 26 => ⟨S1x8192x4096, .i1⟩
  | 27 => ⟨S_, .f32⟩
  | 28 => ⟨S1x8192x4096, .f32⟩
  | 29 => ⟨S1x8192x4096, .f32⟩
  | 30 => ⟨S_, .f32⟩
  | 31 => ⟨S1x8192x4096, .f32⟩
  | 32 => ⟨S1x8192x4096, .f32⟩
  | 33 => ⟨S1x8192x1024, .f32⟩
  | 34 => ⟨S_, .f32⟩
  | 35 => ⟨S1x8192x1024, .f32⟩
  | 36 => ⟨S1x8192x1024, .f32⟩
  | 37 => ⟨S_, .f32⟩
  | 38 => ⟨S1x1x1024, .f32⟩
  | 39 => ⟨S1x1x1024, .f32⟩
  | 40 => ⟨S1x8192x1024, .f32⟩
  | 41 => ⟨S1x8192x1024, .f32⟩
  | 42 => ⟨S1x8192x1024, .f32⟩
  | 43 => ⟨S_, .f32⟩
  | 44 => ⟨S1x8192, .f32⟩
  | 45 => ⟨S1x8192x1, .f32⟩
  | 46 => ⟨S_, .f32⟩
  | 47 => ⟨S1x8192x1, .f32⟩
  | 48 => ⟨S1x8192x1, .f32⟩
  | 49 => ⟨S1x8192x1024, .f32⟩
  | 50 => ⟨S1x8192x1024, .f32⟩
  | 51 => ⟨S1x8192x1024, .f32⟩
  | 52 => ⟨S_, .f32⟩
  | 53 => ⟨S1x8192x1024, .f32⟩
  | 54 => ⟨S1x8192x1024, .f32⟩
  | 55 => ⟨S_, .f32⟩
  | 56 => ⟨S1x8192, .f32⟩
  | 57 => ⟨S1x8192x1, .f32⟩
  | 58 => ⟨S_, .f32⟩
  | 59 => ⟨S1x8192x1, .f32⟩
  | 60 => ⟨S1x8192x1, .f32⟩
  | 61 => ⟨S1x8192x1024, .f32⟩
  | 62 => ⟨S1x8192x1024, .f32⟩
  | 63 => ⟨S_, .f32⟩
  | 64 => ⟨S1x8192x1, .f32⟩
  | 65 => ⟨S1x8192x1, .f32⟩
  | 66 => ⟨S1x8192x1, .f32⟩
  | 67 => ⟨S1x8192x1, .f32⟩
  | 68 => ⟨S_, .f32⟩
  | 69 => ⟨S1x8192x1, .f32⟩
  | 70 => ⟨S1x8192x1, .f32⟩
  | 71 => ⟨S1x8192x1024, .f32⟩
  | 72 => ⟨S1x8192x1024, .f32⟩
  | 73 => ⟨S1x1x1024, .f32⟩
  | 74 => ⟨S1x8192x1024, .f32⟩
  | 75 => ⟨S1x8192x1024, .f32⟩
  | 76 => ⟨S1x1x1024, .f32⟩
  | 77 => ⟨S1x8192x1024, .f32⟩
  | 78 => ⟨S1x8192x1024, .f32⟩
  | 79 => ⟨S8192x4096, .f32⟩
  | 80 => ⟨S8192x4096, .bf16⟩
  | 81 => ⟨S1x8192x1024, .f32⟩
  | 82 => ⟨S1x8192x1024, .f32⟩
  | 83 => ⟨S_, .f32⟩
  | 84 => ⟨S1x8192x1024, .f32⟩
  | 85 => ⟨S1x8192x1024, .f32⟩
  | 86 => ⟨S_, .f32⟩
  | 87 => ⟨S1x8192, .f32⟩
  | 88 => ⟨S_, .f32⟩
  | 89 => ⟨S1x8192, .f32⟩
  | 90 => ⟨S1x8192, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S1x8192, .f32⟩
  | 99 => ⟨S_, .f32⟩
  | 100 => ⟨S1x8192, .f32⟩
  | 101 => ⟨S1x8192, .f32⟩
  | 102 => ⟨S1x8192x1024, .f32⟩
  | 103 => ⟨S1x8192x1024, .f32⟩
  | 104 => ⟨S_, .f32⟩
  | 105 => ⟨S1x1024, .f32⟩
  | 106 => ⟨S1x1x1024, .f32⟩
  | 107 => ⟨S_, .f32⟩
  | 108 => ⟨S1024, .f32⟩
  | 109 => ⟨S1x8192x1024, .f32⟩
  | 110 => ⟨S_, .f32⟩
  | 111 => ⟨S1x1024, .f32⟩
  | 112 => ⟨S1x1x1024, .f32⟩
  | 113 => ⟨S1x8192x1024, .f32⟩
  | 114 => ⟨S1x8192x1024, .f32⟩
  | 115 => ⟨S_, .f32⟩
  | 116 => ⟨S1024, .f32⟩
  | 117 => ⟨S1x8192x1024, .f32⟩
  | 118 => ⟨S_, .f32⟩
  | 119 => ⟨S1x8192, .f32⟩
  | 120 => ⟨S1x8192x1, .f32⟩
  | 121 => ⟨S1x8192x1024, .f32⟩
  | 122 => ⟨S1x8192x1024, .f32⟩
  | 123 => ⟨S1x8192x1, .f32⟩
  | 124 => ⟨S1x8192x1024, .f32⟩
  | 125 => ⟨S_, .f32⟩
  | 126 => ⟨S1x8192, .f32⟩
  | 127 => ⟨S1x8192x1, .f32⟩
  | _ => ⟨S1x8192x1024, .f32⟩

abbrev hbmTy0_1 (i : Nat) : BufTy := match i % 128 with
  | 0 => ⟨S_, .f32⟩
  | 1 => ⟨S1x8192x1, .f32⟩
  | 2 => ⟨S1x8192x1, .f32⟩
  | 3 => ⟨S_, .f32⟩
  | 4 => ⟨S8192, .f32⟩
  | 5 => ⟨S1x8192, .f32⟩
  | 6 => ⟨S1x8192x1024, .f32⟩
  | 7 => ⟨S1x8192x1024, .f32⟩
  | 8 => ⟨S1x8192x1024, .f32⟩
  | 9 => ⟨S_, .f32⟩
  | 10 => ⟨S1x8192, .f32⟩
  | 11 => ⟨S1x8192x1, .f32⟩
  | 12 => ⟨S1x8192x1024, .f32⟩
  | 13 => ⟨S1x8192x1, .f32⟩
  | 14 => ⟨S_, .f32⟩
  | 15 => ⟨S1x8192x1, .f32⟩
  | 16 => ⟨S1x8192x1, .f32⟩
  | 17 => ⟨S_, .f32⟩
  | 18 => ⟨S8192, .f32⟩
  | 19 => ⟨S1x8192, .f32⟩
  | 20 => ⟨S1x8192x1024, .f32⟩
  | 21 => ⟨S1x8192x1024, .f32⟩
  | 22 => ⟨S1x8192x1024, .f32⟩
  | 23 => ⟨S1x8192x1024, .f32⟩
  | 24 => ⟨S1x8192x1024, .f32⟩
  | 25 => ⟨S_, .f32⟩
  | 26 => ⟨S1x1024, .f32⟩
  | 27 => ⟨S1x1x1024, .f32⟩
  | 28 => ⟨S_, .f32⟩
  | 29 => ⟨S1x8192x1024, .f32⟩
  | 30 => ⟨S1x8192x1024, .f32⟩
  | 31 => ⟨S1x8192x4096, .f32⟩
  | 32 => ⟨S1x8192x4096, .f32⟩
  | 33 => ⟨S_, .f32⟩
  | 34 => ⟨S1x8192x4096, .f32⟩
  | 35 => ⟨S1x8192x4096, .f32⟩
  | 36 => ⟨S1x8192x1024, .f32⟩
  | 37 => ⟨S_, .f32⟩
  | 38 => ⟨S1x1024, .f32⟩
  | 39 => ⟨S1x1x1024, .f32⟩
  | 40 => ⟨S1x8192x1024, .f32⟩
  | 41 => ⟨S_, .f32⟩
  | 42 => ⟨S1x1024, .f32⟩
  | 43 => ⟨S1x1x1024, .f32⟩
  | 44 => ⟨S1x8192x1024, .f32⟩
  | 45 => ⟨S1x8192x1024, .f32⟩
  | 46 => ⟨S1x1024, .f32⟩
  | 47 => ⟨S1x1024, .f32⟩
  | 48 => ⟨S1x1024, .f32⟩
  | 49 => ⟨S1x1024, .f32⟩
  | 50 => ⟨S1x1024, .f32⟩
  | 51 => ⟨S1x8192x1024, .f32⟩
  | 52 => ⟨S8192x1024, .f32⟩
  | 53 => ⟨S8192x4096, .f32⟩
  | 54 => ⟨S8192x4096, .bf16⟩
  | 55 => ⟨S8192x1024, .f32⟩
  | 56 => ⟨S8192x1024, .bf16⟩
  | 57 => ⟨S8192x1024, .f32⟩
  | 58 => ⟨S8192x1024, .bf16⟩
  | 59 => ⟨S1x8192x1024, .f32⟩
  | 60 => ⟨S1x8192x1024, .f32⟩
  | 61 => ⟨S_, .f32⟩
  | 62 => ⟨S1x1024, .f32⟩
  | 63 => ⟨S_, .f32⟩
  | 64 => ⟨S2x1024, .f32⟩
  | 65 => ⟨S8x1024, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_cst_14 : Ref sig .tc := ⟨.hbm, 88, rfl⟩
abbrev main_v64 : Ref sig .tc := ⟨.hbm, 89, rfl⟩
abbrev main_v65 : Ref sig .tc := ⟨.hbm, 90, rfl⟩
abbrev main_cst_15 : Ref sig .tc := ⟨.hbm, 91, rfl⟩
abbrev main_v66 : Ref sig .tc := ⟨.hbm, 92, rfl⟩
abbrev main_cst_16 : Ref sig .tc := ⟨.hbm, 93, rfl⟩
abbrev main_v67 : Ref sig .tc := ⟨.hbm, 94, rfl⟩
abbrev main_cst_17 : Ref sig .tc := ⟨.hbm, 95, rfl⟩
abbrev main_cst_18 : Ref sig .tc := ⟨.hbm, 96, rfl⟩
abbrev main_v68 : Ref sig .tc := ⟨.hbm, 97, rfl⟩
abbrev main_v69 : Ref sig .tc := ⟨.hbm, 98, rfl⟩
abbrev main_cst_19 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_20 : Ref sig .tc := ⟨.hbm, 104, rfl⟩
abbrev main_v74 : Ref sig .tc := ⟨.hbm, 105, rfl⟩
abbrev main_v75 : Ref sig .tc := ⟨.hbm, 106, rfl⟩
abbrev main_cst_21 : Ref sig .tc := ⟨.hbm, 107, rfl⟩
abbrev main_v76 : Ref sig .tc := ⟨.hbm, 108, rfl⟩
abbrev main_v77 : Ref sig .tc := ⟨.hbm, 109, rfl⟩
abbrev main_cst_22 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_23 : Ref sig .tc := ⟨.hbm, 115, rfl⟩
abbrev main_v82 : Ref sig .tc := ⟨.hbm, 116, rfl⟩
abbrev main_v83 : Ref sig .tc := ⟨.hbm, 117, rfl⟩
abbrev main_cst_24 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_25 : Ref sig .tc := ⟨.hbm, 125, rfl⟩
abbrev main_v90 : Ref sig .tc := ⟨.hbm, 126, rfl⟩
abbrev main_v91 : Ref sig .tc := ⟨.hbm, 127, rfl⟩
abbrev main_cst_26 : Ref sig .tc := ⟨.hbm, 128, rfl⟩
abbrev main_v92 : Ref sig .tc := ⟨.hbm, 129, rfl⟩
abbrev main_v93 : Ref sig .tc := ⟨.hbm, 130, rfl⟩
abbrev main_cst_27 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_28 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_29 : Ref sig .tc := ⟨.hbm, 142, rfl⟩
abbrev main_v103 : Ref sig .tc := ⟨.hbm, 143, rfl⟩
abbrev main_v104 : Ref sig .tc := ⟨.hbm, 144, rfl⟩
abbrev main_cst_30 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_cst_31 : Ref sig .tc := ⟨.hbm, 153, rfl⟩
abbrev main_v112 : Ref sig .tc := ⟨.hbm, 154, rfl⟩
abbrev main_v113 : Ref sig .tc := ⟨.hbm, 155, rfl⟩
abbrev main_cst_32 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_cst_33 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_cst_34 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_cst_35 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_cst_36 : Ref sig .tc := ⟨.hbm, 189, rfl⟩
abbrev main_v143 : Ref sig .tc := ⟨.hbm, 190, rfl⟩
abbrev main_cst_37 : Ref sig .tc := ⟨.hbm, 191, rfl⟩
abbrev main_v144 : Ref sig .tc := ⟨.hbm, 192, rfl⟩
abbrev main_v145 : Ref sig .tc := ⟨.hbm, 193, rfl⟩

abbrev nD : Nat := 1
abbrev τ : Topo := Topo.v7x

variable {F : FTy → Type} [FloatOps F]
-- ==== RnnPost.lean ====
abbrev S1x8192x1024 : Shape := ⟨3, ![1, 8192, 1024]⟩
abbrev S1x8192x1536 : Shape := ⟨3, ![1, 8192, 1536]⟩
abbrev S1x3072 : Shape := ⟨2, ![1, 3072]⟩
abbrev S1536x1024 : Shape := ⟨2, ![1536, 1024]⟩
abbrev S1024 : Shape := ⟨1, ![1024]⟩
abbrev S3x1024 : Shape := ⟨2, ![3, 1024]⟩
abbrev S_ : Shape := ⟨0, ![]⟩
abbrev S12x1024 : Shape := ⟨2, ![12, 1024]⟩
abbrev S1x1024 : Shape := ⟨2, ![1, 1024]⟩
abbrev S8192x1024 : Shape := ⟨2, ![8192, 1024]⟩
abbrev S8192x1536 : Shape := ⟨2, ![8192, 1536]⟩
abbrev S512x1536 : Shape := ⟨2, ![512, 1536]⟩
abbrev S512x1024 : Shape := ⟨2, ![512, 1024]⟩
abbrev S512 : Shape := ⟨1, ![512]⟩
abbrev S512x1 : Shape := ⟨2, ![512, 1]⟩
abbrev S8x1024 : Shape := ⟨2, ![8, 1024]⟩
abbrev S12x8192x128 : Shape := ⟨3, ![12, 8192, 128]⟩
abbrev S12x512x128 : Shape := ⟨3, ![12, 512, 128]⟩
abbrev S512x128 : Shape := ⟨2, ![512, 128]⟩
abbrev S1x512x128 : Shape := ⟨3, ![1, 512, 128]⟩
abbrev S8192x12x128 : Shape := ⟨3, ![8192, 12, 128]⟩

abbrev nBuf : Space → Nat
  | .hbm => 31
  | .vmem => 38
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x8192x1536, .f32⟩
  | .hbm, ⟨3, _⟩ => ⟨S1x8192x1536, .f32⟩
  | .hbm, ⟨4, _⟩ => ⟨S1x3072, .f32⟩
  | .hbm, ⟨5, _⟩ => ⟨S1536x1024, .f32⟩
  | .hbm, ⟨6, _⟩ => ⟨S1024, .f32⟩
  | .hbm, ⟨7, _⟩ => ⟨S1024, .f32⟩
  | .hbm, ⟨8, _⟩ => ⟨S3x1024, .f32⟩
  | .hbm, ⟨9, _⟩ => ⟨S_, .i32⟩
  | .hbm, ⟨10, _⟩ => ⟨S_, .f32⟩
  | .hbm, ⟨11, _⟩ => ⟨S12x1024, .f32⟩
  | .hbm, ⟨12, _⟩ => ⟨S1536x1024, .bf16⟩
  | .hbm, ⟨13, _⟩ => ⟨S1x1024, .f32⟩
  | .hbm, ⟨14, _⟩ => ⟨S1x1024, .f32⟩
  | .hbm, ⟨15, _⟩ => ⟨S8192x1024, .f32⟩
  | .hbm, ⟨16, _⟩ => ⟨S8192x1536, .f32⟩
  | .hbm, ⟨17, _⟩ => ⟨S8192x1536, .bf16⟩
  | .hbm, ⟨18, _⟩ => ⟨S8192x1536, .f32⟩
  | .hbm, ⟨19, _⟩ => ⟨S8192x1536, .bf16⟩
  | .hbm, ⟨20, _⟩ => ⟨S8192x1024, .f32⟩
  | .hbm, ⟨21, _⟩ => ⟨S8192x1024, .f32⟩
  | .hbm, ⟨22, _⟩ => ⟨S8192x1536, .bf16⟩
  | .hbm, ⟨23, _⟩ => ⟨S8192x1024, .f32⟩
  | .hbm, ⟨24, _⟩ => ⟨S8192x1024, .f32⟩
  | .hbm, ⟨25, _⟩ => ⟨S8192x1024, .bf16⟩
  | .hbm, ⟨26, _⟩ => ⟨S8x1024, .f32⟩
  | .hbm, ⟨27, _⟩ => ⟨S12x8192x128, .f32⟩
  | .hbm, ⟨28, _⟩ => ⟨S8192x1536, .bf16⟩
  | .hbm, ⟨29, _⟩ => ⟨S8192x12x128, .f32⟩
  | .hbm, ⟨30, _⟩ => ⟨S8192x1536, .f32⟩
  | .local _ .vmem, ⟨0, _⟩ => ⟨S512x1536, .bf16⟩
  | .local _ .vmem, ⟨1, _⟩ => ⟨S512x1536, .bf16⟩
  | .local _ .vmem, ⟨2, _⟩ => ⟨S512x1536, .bf16⟩
  | .local _ .vmem, ⟨3, _⟩ => ⟨S512x1536, .bf16⟩
  | .local _ .vmem, ⟨4, _⟩ => ⟨S1536x1024, .bf16⟩
  | .local _ .vmem, ⟨5, _⟩ => ⟨S512x1024, .f32⟩
  | .local _ .vmem, ⟨6, _⟩ => ⟨S512x1024, .f32⟩
  | .local _ .vmem, ⟨7, _⟩ => ⟨S12x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1536, .bf16⟩
  | .local _ .vmem, ⟨15, _⟩ => ⟨S512x1536, .bf16⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S12x1024, .f32⟩
  | .local _ .vmem, ⟨23, _⟩ => ⟨S1536x1024, .bf16⟩
  | .local _ .vmem, ⟨24, _⟩ => ⟨S1x1024, .f32⟩
  | .local _ .vmem, ⟨25, _⟩ => ⟨S512x1536, .bf16⟩
  | .local _ .vmem, ⟨26, _⟩ => ⟨S512x1536, .bf16⟩
  | .local _ .vmem, ⟨27, _⟩ => ⟨S512x1536, .bf16⟩
  | .local _ .vmem, ⟨28, _⟩ => ⟨S512x1536, .bf16⟩
  | .local _ .vmem, ⟨29, _⟩ => ⟨S512x1024, .f32⟩
  | .local _ .vmem, ⟨30, _⟩ => ⟨S512x1024, .f32⟩
  | .local _ .vmem, ⟨31, _⟩ => ⟨S512x1024, .bf16⟩
  | .local _ .vmem, ⟨32, _⟩ => ⟨S512x1024, .bf16⟩
  | .local _ .vmem, ⟨33, _⟩ => ⟨S8x1024, .f32⟩
  | .local _ .vmem, ⟨34, _⟩ => ⟨S12x512x128, .f32⟩
  | .local _ .vmem, ⟨35, _⟩ => ⟨S12x512x128, .f32⟩
  | .local _ .vmem, ⟨36, _⟩ => ⟨S512x1536, .bf16⟩
  | .local _ .vmem, ⟨37, _⟩ => ⟨S512x1536, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev main_v12_4 : Ref sig .tc := ⟨.hbm, 28, rfl⟩
abbrev main_v13 : Ref sig .tc := ⟨.hbm, 29, rfl⟩
abbrev main_v14 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg8_1 : Ref sig .tc := ⟨.vmem, 30, rfl⟩
abbrev cc1_stg9_0 : Ref sig .tc := ⟨.vmem, 31, rfl⟩
abbrev cc1_stg9_1 : Ref sig .tc := ⟨.vmem, 32, rfl⟩
abbrev cc1_stg10_0 : Ref sig .tc := ⟨.vmem, 33, rfl⟩
abbrev cc1_stg11_0 : Ref sig .tc := ⟨.vmem, 34, rfl⟩
abbrev cc1_stg11_1 : Ref sig .tc := ⟨.vmem, 35, rfl⟩
abbrev cc1_stg12_0 : Ref sig .tc := ⟨.vmem, 36, rfl⟩
abbrev cc1_stg12_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem6_1 : DmaSem sig := 26
abbrev cc1_sem7_0 : DmaSem sig := 27
abbrev cc1_sem7_1 : DmaSem sig := 28
abbrev cc1_sem8_0 : DmaSem sig := 29
abbrev cc1_sem8_1 : DmaSem sig := 30
abbrev cc1_sem9_0 : DmaSem sig := 31
abbrev cc1_sem9_1 : DmaSem sig := 32
abbrev cc1_sem10_0 : DmaSem sig := 33
abbrev cc1_sem11_0 : DmaSem sig := 34
abbrev cc1_sem11_1 : DmaSem sig := 35
abbrev cc1_sem12_0 : DmaSem sig := 36
abbrev cc1_sem12_1 : DmaSem sig := 37

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S12x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S12x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1536x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1536 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1536 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S8x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S12x512x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x1536 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]
-- ==== RnnPostIdeal.lean ====
variable {F : FTy → Type} [FloatOps F] [Named F]
def κ : String → Option EReal := fun
  | "c" => some ((8943 / 200000 : ℝ) : EReal)
  | "c3" => some ((26829 / 200000 : ℝ) : EReal)
  | _ => none
-- ==== RnnPostRefIdeal.lean ====
abbrev S1x8192x1024 : Shape := ⟨3, ![1, 8192, 1024]⟩
abbrev S1x8192x1536 : Shape := ⟨3, ![1, 8192, 1536]⟩
abbrev S1x3072 : Shape := ⟨2, ![1, 3072]⟩
abbrev S1536x1024 : Shape := ⟨2, ![1536, 1024]⟩
abbrev S1024 : Shape := ⟨1, ![1024]⟩
abbrev S1x1024 : Shape := ⟨2, ![1, 1024]⟩
abbrev S1x1x1024 : Shape := ⟨3, ![1, 1, 1024]⟩
abbrev S_ : Shape := ⟨0, ![]⟩
abbrev S1x8192 : Shape := ⟨2, ![1, 8192]⟩
abbrev S1x8192x1 : Shape := ⟨3, ![1, 8192, 1]⟩
abbrev S8192 : Shape := ⟨1, ![8192]⟩
abbrev S3x1024 : Shape := ⟨2, ![3, 1024]⟩
abbrev S2x1024 : Shape := ⟨2, ![2, 1024]⟩
abbrev S8x1024 : Shape := ⟨2, ![8, 1024]⟩
abbrev S8192x1024 : Shape := ⟨2, ![8192, 1024]⟩
abbrev S8192x1536 : Shape := ⟨2, ![8192, 1536]⟩

abbrev nBuf : Space → Nat
  | .hbm => 185
  | .vmem => 0
  | .smem => 0
  | _ => 0

abbrev hbmTy0_0 (i : Nat) : BufTy := match i % 128 with
  | 0 => ⟨S1x8192x1024, .f32⟩
  | 1 => ⟨S1x8192x1024, .f32⟩
  | 2 => ⟨S1x8192x1536, .f32⟩
  | 3 => ⟨S1x8192x1536, .f32⟩
  | 4 => ⟨S1x3072, .f32⟩
  | 5 => ⟨S1536x1024, .f32⟩
  | 6 => ⟨S1024, .f32⟩
  | 7 => ⟨S1024, .f32⟩
  | 8 => ⟨S1x1024, .f32⟩
  | 9 => ⟨S1x1024, .f32⟩
  | 10 => ⟨S1x1024, .f32⟩
  | 11 => ⟨S1x1x1024, .f32⟩
  | 12 => ⟨S1x1x1024, .f32⟩
  | 13 => ⟨S1x1x1024, .f32⟩
  | 14 => ⟨S1x8192x1536, .f32⟩
  | 15 => ⟨S1x8192x1536, .f32⟩
  | 16 => ⟨S1x8192x1536, .f32⟩
  | 17 => ⟨S_, .f32⟩
  | 18 => ⟨S1x8192x1536, .f32⟩
  | 19 => ⟨S1x8192x1536, .f32⟩
  | 20 => ⟨S_, .f32⟩
  | 21 => ⟨S1x8192x1536, .f32⟩
  | 22 => ⟨S1x8192x1536, .f32⟩
  | 23 => ⟨S_, .f32⟩
  | 24 => ⟨S1x8192x1536, .f32⟩
  | 25 => ⟨S1x8192x1536, .f32⟩
  | 26 => ⟨S1x8192x1536, .f32⟩
  | 27 => ⟨S_, .f32⟩
  | 28 => ⟨S1x8192x1536, .f32⟩
  | 29 => ⟨S1x8192x1536, .f32⟩
  | 30 => ⟨S1x8192x1536, .f32⟩
  | 31 => ⟨S_, .f32⟩
  | 32 => ⟨S1x8192x1536, .f32⟩
  | 33 => ⟨S1x8192x1536, .f32⟩
  | 34 => ⟨S_, .f32⟩
  | 35 => ⟨S1x8192x1536, .f32⟩
  | 36 => ⟨S1x8192x1536, .f32⟩
  | 37 => ⟨S1x8192x1536, .f32⟩
  | 38 => ⟨S_, .f32⟩
  | 39 => ⟨S1x8192x1536, .f32⟩
  | 40 => ⟨S1x8192x1536, .f32⟩
  | 41 => ⟨S_, .f32⟩
  | 42 => ⟨S1x8192x1536, .f32⟩
  | 43 => ⟨S1x8192x1536, .f32⟩
  | 44 => ⟨S1x8192x1536, .f32⟩
  | 45 => ⟨S1x8192x1536, .f32⟩
  | 46 => ⟨S1x8192x1024, .f32⟩
  | 47 => ⟨S_, .f32⟩
  | 48 => ⟨S1x8192x1024, .f32⟩
  | 49 => ⟨S1x8192x1024, .f32⟩
  | 50 => ⟨S_, .f32⟩
  | 51 => ⟨S1x1x1024, .f32⟩
  | 52 => ⟨S1x1x1024, .f32⟩
  | 53 => ⟨S1x8192x1024, .f32⟩
  | 54 => ⟨S1x8192x1024, .f32⟩
  | 55 => ⟨S1x8192x1024, .f32⟩
  | 56 => ⟨S_, .f32⟩
  | 57 => ⟨S1x8192, .f32⟩
  | 58 => ⟨S1x8192x1, .f32⟩
  | 59 => ⟨S_, .f32⟩
  | 60 => ⟨S1x8192x1, .f32⟩
  | 61 => ⟨S1x8192x1, .f32⟩
  | 62 => ⟨S1x8192x1024, .f32⟩
  | 63 => ⟨S1x8192x1024, .f32⟩
  | 64 => ⟨S1x8192x1024, .f32⟩
  | 65 => ⟨S_, .f32⟩
  | 66 => ⟨S1x8192x1024, .f32⟩
  | 67 => ⟨S1x8192x1024, .f32⟩
  | 68 => ⟨S_, .f32⟩
  | 69 => ⟨S1x8192, .f32⟩
  | 70 => ⟨S1x8192x1, .f32⟩
  | 71 => ⟨S_, .f32⟩
  | 72 => ⟨S1x8192x1, .f32⟩
  | 73 => ⟨S1x8192x1, .f32⟩
  | 74 => ⟨S1x8192x1024, .f32⟩
  | 75 => ⟨S1x8192x1024, .f32⟩
  | 76 => ⟨S_, .f32⟩
  | 77 => ⟨S1x8192x1, .f32⟩
  | 78 => ⟨S1x8192x1, .f32⟩
  | 79 => ⟨S1x8192x1, .f32⟩
  | 80 => ⟨S1x8192x1, .f32⟩
  | 81 => ⟨S_, .f32⟩
  | 82 => ⟨S1x8192x1, .f32⟩
  | 83 => ⟨S1x8192x1, .f32⟩
  | 84 => ⟨S1x8192x1024, .f32⟩
  | 85 => ⟨S1x8192x1024, .f32⟩
  | 86 => ⟨S1x1x1024, .f32⟩
  | 87 => ⟨S1x8192x1024, .f32⟩
  | 88 => ⟨S1x8192x1024, .f32⟩
  | 89 => ⟨S1x1x1024, .f32⟩
  | 90 => ⟨S1x8192x1024, .f32⟩
  | 91 => ⟨S1x8192x1024, .f32⟩
  | 92 => ⟨S1x8192x1024, .f32⟩
  | 93 => ⟨S_, .f32⟩
  | 94 => ⟨S1x1024, .f32⟩
  | 95 => ⟨S1x1x1024, .f32⟩
  | 96 => ⟨S_, .f32⟩
  | 97 => ⟨S1024, .f32⟩
  | 98 => ⟨S1x8192x1024, .f32⟩
  | 99 => ⟨S_, .f32⟩
  | 100 => ⟨S1x1024, .f32⟩
  | 101 => ⟨S1x1x1024, .f32⟩
  | 102 => ⟨S1x8192x1024, .f32⟩
  | 103 => ⟨S1x8192x1024, .f32⟩
  | 104 => ⟨S_, .f32⟩
  | 105 => ⟨S1024, .f32⟩
  | 106 => ⟨S1x8192x1024, .f32⟩
  | 107 => ⟨S_, .f32⟩
  | 108 => ⟨S1x8192, .f32⟩
  | 109 => ⟨S1x8192x1, .f32⟩
  | 110 => ⟨S1x8192x1024, .f32⟩
  | 111 => ⟨S1x8192x1024, .f32⟩
  | 112 => ⟨S1x8192x1, .f32⟩
  | 113 => ⟨S1x8192x1024, .f32⟩
  | 114 => ⟨S_, .f32⟩
  | 115 => ⟨S1x8192, .f32⟩
  | 116 => ⟨S1x8192x1, .f32⟩
  | 117 => ⟨S_, .f32⟩
  | 118 => ⟨S1x8192x1, .f32⟩
  | 119 => ⟨S1x8192x1, .f32⟩
  | 120 => ⟨S_, .f32⟩
  | 121 => ⟨S8192, .f32⟩
  | 122 => ⟨S1x8192, .f32⟩
  | 123 => ⟨S1x8192x1024, .f32⟩
  | 124 => ⟨S1x8192x1024, .f32⟩
  | 125 => ⟨S1x8192x1024, .f32⟩
  | 126 => ⟨S_, .f32⟩
  | 127 => ⟨S1x8192, .f32⟩
  | _ => ⟨S1x8192x1024, .f32⟩

abbrev hbmTy0_1 (i : Nat) : BufTy := match i % 128 with
  | 0 => ⟨S1x8192x1, .f32⟩
  | 1 => ⟨S1x8192x1024, .f32⟩
  | 2 => ⟨S1x8192x1, .f32⟩
  | 3 => ⟨S_, .f32⟩
  | 4 => ⟨S1x8192x1, .f32⟩
  | 5 => ⟨S1x8192x1, .f32⟩
  | 6 => ⟨S_, .f32⟩
  | 7 => ⟨S8192, .f32⟩
  | 8 => ⟨S1x8192, .f32⟩
  | 9 => ⟨S1x8192x1024, .f32⟩
  | 10 => ⟨S1x8192x1024, .f32⟩
  | 11 => ⟨S1x8192x1024, .f32⟩
  | 12 => ⟨S1x8192x1024, .f32⟩
  | 13 => ⟨S1x8192x1024, .f32⟩
  | 14 => ⟨S_, .f32⟩
  | 15 => ⟨S1x1024, .f32⟩
  | 16 => ⟨S1x1x1024, .f32⟩
  | 17 => ⟨S_, .f32⟩
  | 18 => ⟨S1x8192x1024, .f32⟩
  | 19 => ⟨S1x8192x1024, .f32⟩
  | 20 => ⟨S1x8192x1536, .f32⟩
  | 21 => ⟨S1x8192x1536, .f32⟩
  | 22 => ⟨S1x8192x1536, .f32⟩
  | 23 => ⟨S1x8192x1536, .f32⟩
  | 24 => ⟨S1x8192x1536, .f32⟩
  | 25 => ⟨S_, .f32⟩
  | 26 => ⟨S1x8192x1536, .f32⟩
  | 27 => ⟨S1x8192x1536, .f32⟩
  | 28 => ⟨S1x8192x1536, .f32⟩
  | 29 => ⟨S_, .f32⟩
  | 30 => ⟨S1x8192x1536, .f32⟩
  | 31 => ⟨S1x8192x1536, .f32⟩
  | 32 => ⟨S1x8192x1536, .f32⟩
  | 33 => ⟨S_, .f32⟩
  | 34 => ⟨S1x8192x1536, .f32⟩
  | 35 => ⟨S1x8192x1536, .f32⟩
  | 36 => ⟨S_, .f32⟩
  | 37 => ⟨S1x8192x1536, .f32⟩
  | 38 => ⟨S1x8192x1536, .f32⟩
  | 39 => ⟨S1x8192x1536, .f32⟩
  | 40 => ⟨S1x8192x1536, .f32⟩
  | 41 => ⟨S_, .f32⟩
  | 42 => ⟨S3x1024, .f32⟩
  | 43 => ⟨S2x1024, .f32⟩
  | 44 => ⟨S1x1024, .f32⟩
  | 45 => ⟨S1x1024, .f32⟩
  | 46 => ⟨S1x1024, .f32⟩
  | 47 => ⟨S8x1024, .f32⟩
  | 48 => ⟨S8192x1024, .f32⟩
  | 49 => ⟨S8192x1536, .f32⟩
  | 50 => ⟨S8192x1536, .bf16⟩
  | 51 => ⟨S8192x1024, .f32⟩
  | 52 => ⟨S8192x1024, .f32⟩
  | 53 => ⟨S8192x1024, .bf16⟩
  | 54 => ⟨S8192x1536, .f32⟩
  | 55 => ⟨S8192x1536, .f32⟩
  | 56 => ⟨S8192x1536, .bf16⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_11 : Ref sig .tc := ⟨.hbm, 65, rfl⟩
abbrev main_v45 : Ref sig .tc := ⟨.hbm, 66, rfl⟩
abbrev main_v46 : Ref sig .tc := ⟨.hbm, 67, rfl⟩
abbrev main_cst_12 : Ref sig .tc := ⟨.hbm, 68, rfl⟩
abbrev main_v47 : Ref sig .tc := ⟨.hbm, 69, rfl⟩
abbrev main_v48 : Ref sig .tc := ⟨.hbm, 70, rfl⟩
abbrev main_cst_13 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_14 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_15 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_16 : Ref sig .tc := ⟨.hbm, 93, rfl⟩
abbrev main_v68 : Ref sig .tc := ⟨.hbm, 94, rfl⟩
abbrev main_v69 : Ref sig .tc := ⟨.hbm, 95, rfl⟩
abbrev main_cst_17 : Ref sig .tc := ⟨.hbm, 96, rfl⟩
abbrev main_v70 : Ref sig .tc := ⟨.hbm, 97, rfl⟩
abbrev main_v71 : Ref sig .tc := ⟨.hbm, 98, rfl⟩
abbrev main_cst_18 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_19 : Ref sig .tc := ⟨.hbm, 104, rfl⟩
abbrev main_v76 : Ref sig .tc := ⟨.hbm, 105, rfl⟩
abbrev main_v77 : Ref sig .tc := ⟨.hbm, 106, rfl⟩
abbrev main_cst_20 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_21 : Ref sig .tc := ⟨.hbm, 114, rfl⟩
abbrev main_v84 : Ref sig .tc := ⟨.hbm, 115, rfl⟩
abbrev main_v85 : Ref sig .tc := ⟨.hbm, 116, rfl⟩
abbrev main_cst_22 : Ref sig .tc := ⟨.hbm, 117, rfl⟩
abbrev main_v86 : Ref sig .tc := ⟨.hbm, 118, rfl⟩
abbrev main_v87 : Ref sig .tc := ⟨.hbm, 119, rfl⟩
abbrev main_cst_23 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_24 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_25 : Ref sig .tc := ⟨.hbm, 131, rfl⟩
abbrev main_v97 : Ref sig .tc := ⟨.hbm, 132, rfl⟩
abbrev main_v98 : Ref sig .tc := ⟨.hbm, 133, rfl⟩
abbrev main_cst_26 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_cst_27 : Ref sig .tc := ⟨.hbm, 142, rfl⟩
abbrev main_v106 : Ref sig .tc := ⟨.hbm, 143, rfl⟩
abbrev main_v107 : Ref sig .tc := ⟨.hbm, 144, rfl⟩
abbrev main_cst_28 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_cst_29 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_cst_30 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_cst_31 : Ref sig .tc := ⟨.hbm, 161, rfl⟩
abbrev main_v121 : Ref sig .tc := ⟨.hbm, 162, rfl⟩
abbrev main_v122 : Ref sig .tc := ⟨.hbm, 163, rfl⟩
abbrev main_cst_32 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_cst_33 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩

abbrev nD : Nat := 1
abbrev τ : Topo := Topo.v7x

variable {F : FTy → Type} [FloatOps F]
-- ==== RnnIn.lean ====
abbrev S1x8192x1536 : Shape := ⟨3, ![1, 8192, 1536]⟩
abbrev S1x8192x1024 : Shape := ⟨3, ![1, 8192, 1024]⟩
abbrev S1x3072 : Shape := ⟨2, ![1, 3072]⟩
abbrev S4x1536 : Shape := ⟨2, ![4, 1536]⟩
abbrev S1536 : Shape := ⟨1, ![1536]⟩
abbrev S1024x3072 : Shape := ⟨2, ![1024, 3072]⟩
abbrev S3x1024 : Shape := ⟨2, ![3, 1024]⟩
abbrev S_ : Shape := ⟨0, ![]⟩
abbrev S12x1024 : Shape := ⟨2, ![12, 1024]⟩
abbrev S8192x1024 : Shape := ⟨2, ![8192, 1024]⟩
abbrev S3072x1024 : Shape := ⟨2, ![3072, 1024]⟩
abbrev S8192x1536 : Shape := ⟨2, ![8192, 1536]⟩
abbrev S512x1024 : Shape := ⟨2, ![512, 1024]⟩
abbrev S512x1536 : Shape := ⟨2, ![512, 1536]⟩
abbrev S1x1024 : Shape := ⟨2, ![1, 1024]⟩
abbrev S1536x1024 : Shape := ⟨2, ![1536, 1024]⟩
abbrev S8192x12x128 : Shape := ⟨3, ![8192, 12, 128]⟩
abbrev S12x8192x128 : Shape := ⟨3, ![12, 8192, 128]⟩
abbrev S8192x3072 : Shape := ⟨2, ![8192, 3072]⟩
abbrev S8x1024 : Shape := ⟨2, ![8, 1024]⟩
abbrev S1x1536 : Shape := ⟨2, ![1, 1536]⟩
abbrev S12x512x128 : Shape := ⟨3, ![12, 512, 128]⟩
abbrev S12x8x128 : Shape := ⟨3, ![12, 8, 128]⟩
abbrev S8x1536 : Shape := ⟨2, ![8, 1536]⟩
abbrev S512x3072 : Shape := ⟨2, ![512, 3072]⟩
abbrev S1x512x128 : Shape := ⟨3, ![1, 512, 128]⟩
abbrev S512x128 : Shape := ⟨2, ![512, 128]⟩
abbrev S1x8x128 : Shape := ⟨3, ![1, 8, 128]⟩
abbrev S8x128 : Shape := ⟨2, ![8, 128]⟩
abbrev S1024 : Shape := ⟨1, ![1024]⟩

abbrev nBuf : Space → Nat
  | .hbm => 31
  | .vmem => 44
  | .smem => 0
  | _ => 0

abbrev bufTy : (tb : Table) → Fin (tcTables nBuf tb) → BufTy
  | .hbm, ⟨0, _⟩ => ⟨S1x8192x1536, .f32⟩
  | .hbm, ⟨1, _⟩ => ⟨S1x8192x1536, .f32⟩
  | .hbm, ⟨2, _⟩ => ⟨S1x8192x1536, .f32⟩
  | .hbm, ⟨3, _⟩ => ⟨S1x8192x1024, .f32⟩
  | .hbm, ⟨4, _⟩ => ⟨S1x8192x1024, .f32⟩
  | .hbm, ⟨5, _⟩ => ⟨S1x3072, .f32⟩
  | .hbm, ⟨6, _⟩ => ⟨S4x1536, .f32⟩
  | .hbm, ⟨7, _⟩ => ⟨S1536, .f32⟩
  | .hbm, ⟨8, _⟩ => ⟨S1024x3072, .f32⟩
  | .hbm, ⟨9, _⟩ => ⟨S3x1024, .f32⟩
  | .hbm, ⟨10, _⟩ => ⟨S_, .i32⟩
  | .hbm, ⟨11, _⟩ => ⟨S_, .f32⟩
  | .hbm, ⟨12, _⟩ => ⟨S12x1024, .f32⟩
  | .hbm, ⟨13, _⟩ => ⟨S8192x1024, .f32⟩
  | .hbm, ⟨14, _⟩ => ⟨S3072x1024, .f32⟩
  | .hbm, ⟨15, _⟩ => ⟨S3072x1024, .bf16⟩
  | .hbm, ⟨16, _⟩ => ⟨S8192x1536, .f32⟩
  | .hbm, ⟨17, _⟩ => ⟨S8192x1536, .bf16⟩
  | .hbm, ⟨18, _⟩ => ⟨S8192x12x128, .f32⟩
  | .hbm, ⟨19, _⟩ => ⟨S12x8192x128, .f32⟩
  | .hbm, ⟨20, _⟩ => ⟨S8192x12x128, .f32⟩
  | .hbm, ⟨21, _⟩ => ⟨S12x8192x128, .f32⟩
  | .hbm, ⟨22, _⟩ => ⟨S8192x1536, .f32⟩
  | .hbm, ⟨23, _⟩ => ⟨S8192x1536, .bf16⟩
  | .hbm, ⟨24, _⟩ => ⟨S8192x1024, .f32⟩
  | .hbm, ⟨25, _⟩ => ⟨S8192x1024, .f32⟩
  | .hbm, ⟨26, _⟩ => ⟨S8192x3072, .bf16⟩
  | .hbm, ⟨27, _⟩ => ⟨S8192x1024, .bf16⟩
  | .hbm, ⟨28, _⟩ => ⟨S8x1024, .f32⟩
  | .hbm, ⟨29, _⟩ => ⟨S4x1536, .f32⟩
  | .hbm, ⟨30, _⟩ => ⟨S1x1536, .f32⟩
  | .local _ .vmem, ⟨0, _⟩ => ⟨S512x1024, .f32⟩
  | .local _ .vmem, ⟨1, _⟩ => ⟨S512x1024, .f32⟩
  | .local _ .vmem, ⟨2, _⟩ => ⟨S12x1024, .f32⟩
  | .local _ .vmem, ⟨3, _⟩ => ⟨S3072x1024, .bf16⟩
  | .local _ .vmem, ⟨4, _⟩ => ⟨S512x1536, .f32⟩
  | .local _ .vmem, ⟨5, _⟩ => ⟨S512x1536, .f32⟩
  | .local _ .vmem, ⟨6, _⟩ => ⟨S512x1536, .bf16⟩
  | .local _ .vmem, ⟨7, _⟩ => ⟨S512x1536, .bf16⟩
  | .local _ .vmem, ⟨8, _⟩ => ⟨S12x512x128, .f32⟩
  | .local _ .vmem, ⟨9, _⟩ => ⟨S12x512x128, .f32⟩
  | .local _ .vmem, ⟨10, _⟩ => ⟨S12x8x128, .f32⟩
  | .local _ .vmem, ⟨11, _⟩ => ⟨S12x8x128, .f32⟩
  | .local _ .vmem, ⟨12, _⟩ => ⟨S12x8x128, .f32⟩
  | .local _ .vmem, ⟨13, _⟩ => ⟨S12x8x128, .f32⟩
  | .local _ .vmem, ⟨14, _⟩ => ⟨S12x512x128, .f32⟩
  | .local _ .vmem, ⟨15, _⟩ => ⟨S12x512x128, .f32⟩
  | .local _ .vmem, ⟨16, _⟩ => ⟨S12x8x128, .f32⟩
  | .local _ .vmem, ⟨17, _⟩ => ⟨S12x8x128, .f32⟩
  | .local _ .vmem, ⟨18, _⟩ => ⟨S12x8x128, .f32⟩
  | .local _ .vmem, ⟨19, _⟩ => ⟨S12x8x128, .f32⟩
  | .local _ .vmem, ⟨20, _⟩ => ⟨S512x1536, .f32⟩
  | .local _ .vmem, ⟨21, _⟩ => ⟨S512x1536, .f32⟩
  | .local _ .vmem, ⟨22, _⟩ => ⟨S8x1536, .f32⟩
  | .local _ .vmem, ⟨23, _⟩ => ⟨S8x1536, .f32⟩
  | .local _ .vmem, ⟨24, _⟩ => ⟨S8x1536, .f32⟩
  | .local _ .vmem, ⟨25, _⟩ => ⟨S8x1536, .f32⟩
  | .local _ .vmem, ⟨26, _⟩ => ⟨S4x1536, .f32⟩
  | .local _ .vmem, ⟨27, _⟩ => ⟨S512x1536, .bf16⟩
  | .local _ .vmem, ⟨28, _⟩ => ⟨S512x1536, .bf16⟩
  | .local _ .vmem, ⟨29, _⟩ => ⟨S512x1024, .f32⟩
  | .local _ .vmem, ⟨30, _⟩ => ⟨S512x1024, .f32⟩
  | .local _ .vmem, ⟨31, _⟩ => ⟨S12x1024, .f32⟩
  | .local _ .vmem, ⟨32, _⟩ => ⟨S3072x1024, .bf16⟩
  | .local _ .vmem, ⟨33, _⟩ => ⟨S512x1024, .f32⟩
  | .local _ .vmem, ⟨34, _⟩ => ⟨S512x1024, .f32⟩
  | .local _ .vmem, ⟨35, _⟩ => ⟨S512x1024, .f32⟩
  | .local _ .vmem, ⟨36, _⟩ => ⟨S512x1024, .f32⟩
  | .local _ .vmem, ⟨37, _⟩ => ⟨S512x3072, .bf16⟩
  | .local _ .vmem, ⟨38, _⟩ => ⟨S512x3072, .bf16⟩
  | .local _ .vmem, ⟨39, _⟩ => ⟨S512x1024, .bf16⟩
  | .local _ .vmem, ⟨40, _⟩ => ⟨S512x1024, .bf16⟩
  | .local _ .vmem, ⟨41, _⟩ => ⟨S8x1024, .f32⟩
  | .local _ .vmem, ⟨42, _⟩ => ⟨S4x1536, .f32⟩
  | .local _ .vmem, ⟨43, _⟩ => ⟨S1x1536, .f32⟩
  | _, _ => ⟨S1x8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev main_v13_2 : Ref sig .tc := ⟨.hbm, 27, rfl⟩
abbrev main_v13_3 : Ref sig .tc := ⟨.hbm, 28, rfl⟩
abbrev main_v13_4 : Ref sig .tc := ⟨.hbm, 29, rfl⟩
abbrev main_v13_5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg10_1 : Ref sig .tc := ⟨.vmem, 28, rfl⟩
abbrev cc1_stg11_0 : Ref sig .tc := ⟨.vmem, 29, rfl⟩
abbrev cc1_stg11_1 : Ref sig .tc := ⟨.vmem, 30, rfl⟩
abbrev cc1_stg12_0 : Ref sig .tc := ⟨.vmem, 31, rfl⟩
abbrev cc1_stg13_0 : Ref sig .tc := ⟨.vmem, 32, rfl⟩
abbrev cc1_stg14_0 : Ref sig .tc := ⟨.vmem, 33, rfl⟩
abbrev cc1_stg14_1 : Ref sig .tc := ⟨.vmem, 34, rfl⟩
abbrev cc1_stg15_0 : Ref sig .tc := ⟨.vmem, 35, rfl⟩
abbrev cc1_stg15_1 : Ref sig .tc := ⟨.vmem, 36, rfl⟩
abbrev cc1_stg16_0 : Ref sig .tc := ⟨.vmem, 37, rfl⟩
abbrev cc1_stg16_1 : Ref sig .tc := ⟨.vmem, 38, rfl⟩
abbrev cc1_stg17_0 : Ref sig .tc := ⟨.vmem, 39, rfl⟩
abbrev cc1_stg17_1 : Ref sig .tc := ⟨.vmem, 40, rfl⟩
abbrev cc1_stg18_0 : Ref sig .tc := ⟨.vmem, 41, rfl⟩
abbrev cc1_stg19_0 : Ref sig .tc := ⟨.vmem, 42, rfl⟩
abbrev cc1_stg20_0 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem8_1 : DmaSem sig := 25
abbrev cc1_sem9_0 : DmaSem sig := 26
abbrev cc1_sem10_0 : DmaSem sig := 27
abbrev cc1_sem10_1 : DmaSem sig := 28
abbrev cc1_sem11_0 : DmaSem sig := 29
abbrev cc1_sem11_1 : DmaSem sig := 30
abbrev cc1_sem12_0 : DmaSem sig := 31
abbrev cc1_sem13_0 : DmaSem sig := 32
abbrev cc1_sem14_0 : DmaSem sig := 33
abbrev cc1_sem14_1 : DmaSem sig := 34
abbrev cc1_sem15_0 : DmaSem sig := 35
abbrev cc1_sem15_1 : DmaSem sig := 36
abbrev cc1_sem16_0 : DmaSem sig := 37
abbrev cc1_sem16_1 : DmaSem sig := 38
abbrev cc1_sem17_0 : DmaSem sig := 39
abbrev cc1_sem17_1 : DmaSem sig := 40
abbrev cc1_sem18_0 : DmaSem sig := 41
abbrev cc1_sem19_0 : DmaSem sig := 42
abbrev cc1_sem20_0 : DmaSem sig := 43

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, v2.toNat, c0_i32_1.toNat]

def cc1_transform_2 (i : grid1.Coords) : Fin 3 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  let c0_i32_1 : BitVec 32 := 0#32
  ![c0_i32.toNat, v2.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, v2.toNat, c0_i32_1.toNat]

def cc1_transform_5 (i : grid1.Coords) : Fin 3 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  let c0_i32_1 : BitVec 32 := 0#32
  ![c0_i32.toNat, v2.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc1_transform_8 (i : grid1.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S12x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S12x8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S12x8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S12x512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S12x8x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S12x8x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1536 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S8x1536 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S8x1536 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S4x1536 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S512x1536 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S12x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S3072x1024 .bf16 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S512x1024 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S512x1024 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S512x3072 .bf16 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S512x1024 .bf16 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 1 → Memref sig .tc .vmem S8x1024 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S4x1536 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S1x1536 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]
-- ==== RnnInRefIdeal.lean ====
abbrev S1x8192x1536 : Shape := ⟨3, ![1, 8192, 1536]⟩
abbrev S1x8192x1024 : Shape := ⟨3, ![1, 8192, 1024]⟩
abbrev S1x3072 : Shape := ⟨2, ![1, 3072]⟩
abbrev S4x1536 : Shape := ⟨2, ![4, 1536]⟩
abbrev S1536 : Shape := ⟨1, ![1536]⟩
abbrev S1024x3072 : Shape := ⟨2, ![1024, 3072]⟩
abbrev S1x1024 : Shape := ⟨2, ![1, 1024]⟩
abbrev S1x1x1024 : Shape := ⟨3, ![1, 1, 1024]⟩
abbrev S_ : Shape := ⟨0, ![]⟩
abbrev S1x8192x3072 : Shape := ⟨3, ![1, 8192, 3072]⟩
abbrev S1x2x1536 : Shape := ⟨3, ![1, 2, 1536]⟩
abbrev S1x1x1536 : Shape := ⟨3, ![1, 1, 1536]⟩
abbrev S1x8195x1536 : Shape := ⟨3, ![1, 8195, 1536]⟩
abbrev S1x1536 : Shape := ⟨2, ![1, 1536]⟩
abbrev S6x1024 : Shape := ⟨2, ![6, 1024]⟩
abbrev S8x1024 : Shape := ⟨2, ![8, 1024]⟩
abbrev S8192x1536 : Shape := ⟨2, ![8192, 1536]⟩
abbrev S8192x1024 : Shape := ⟨2, ![8192, 1024]⟩
abbrev S8192x3072 : Shape := ⟨2, ![8192, 3072]⟩

abbrev nBuf : Space → Nat
  | .hbm => 157
  | .vmem => 0
  | .smem => 0
  | _ => 0

abbrev hbmTy0_0 (i : Nat) : BufTy := match i % 128 with
  | 0 => ⟨S1x8192x1536, .f32⟩
  | 1 => ⟨S1x8192x1536, .f32⟩
  | 2 => ⟨S1x8192x1536, .f32⟩
  | 3 => ⟨S1x8192x1024, .f32⟩
  | 4 => ⟨S1x8192x1024, .f32⟩
  | 5 => ⟨S1x3072, .f32⟩
  | 6 => ⟨S4x1536, .f32⟩
  | 7 => ⟨S1536, .f32⟩
  | 8 => ⟨S1024x3072, .f32⟩
  | 9 => ⟨S1x1024, .f32⟩
  | 10 => ⟨S1x1024, .f32⟩
  | 11 => ⟨S1x1024, .f32⟩
  | 12 => ⟨S1x1x1024, .f32⟩
  | 13 => ⟨S1x1x1024, .f32⟩
  | 14 => ⟨S1x1x1024, .f32⟩
  | 15 => ⟨S_, .f32⟩
  | 16 => ⟨S1x1x1024, .f32⟩
  | 17 => ⟨S1x1x1024, .f32⟩
  | 18 => ⟨S1x8192x1024, .f32⟩
  | 19 => ⟨S1x8192x1024, .f32⟩
  | 20 => ⟨S1x8192x1024, .f32⟩
  | 21 => ⟨S1x8192x1024, .f32⟩
  | 22 => ⟨S1x8192x3072, .f32⟩
  | 23 => ⟨S1x8192x1536, .f32⟩
  | 24 => ⟨S1x8192x1536, .f32⟩
  | 25 => ⟨S_, .f32⟩
  | 26 => ⟨S1x2x1536, .f32⟩
  | 27 => ⟨S_, .f32⟩
  | 28 => ⟨S1x1x1536, .f32⟩
  | 29 => ⟨S1x8195x1536, .f32⟩
  | 30 => ⟨S_, .f32⟩
  | 31 => ⟨S1x2x1536, .f32⟩
  | 32 => ⟨S_, .f32⟩
  | 33 => ⟨S1x1x1536, .f32⟩
  | 34 => ⟨S1x8192x1536, .f32⟩
  | 35 => ⟨S1x1536, .f32⟩
  | 36 => ⟨S1536, .f32⟩
  | 37 => ⟨S1x1x1536, .f32⟩
  | 38 => ⟨S1x8192x1536, .f32⟩
  | 39 => ⟨S1x8192x1536, .f32⟩
  | 40 => ⟨S1x1x1536, .f32⟩
  | 41 => ⟨S1x8192x1536, .f32⟩
  | 42 => ⟨S1x8192x1536, .f32⟩
  | 43 => ⟨S1x8192x1536, .f32⟩
  | 44 => ⟨S1x1536, .f32⟩
  | 45 => ⟨S1536, .f32⟩
  | 46 => ⟨S1x1x1536, .f32⟩
  | 47 => ⟨S1x8192x1536, .f32⟩
  | 48 => ⟨S1x8192x1536, .f32⟩
  | 49 => ⟨S1x8192x1536, .f32⟩
  | 50 => ⟨S1x8192x1536, .f32⟩
  | 51 => ⟨S1x1536, .f32⟩
  | 52 => ⟨S1536, .f32⟩
  | 53 => ⟨S1x1x1536, .f32⟩
  | 54 => ⟨S1x8192x1536, .f32⟩
  | 55 => ⟨S1x8192x1536, .f32⟩
  | 56 => ⟨S1x8192x1536, .f32⟩
  | 57 => ⟨S1x8192x1536, .f32⟩
  | 58 => ⟨S1x1536, .f32⟩
  | 59 => ⟨S1536, .f32⟩
  | 60 => ⟨S1x1x1536, .f32⟩
  | 61 => ⟨S1x8192x1536, .f32⟩
  | 62 => ⟨S1x8192x1536, .f32⟩
  | 63 => ⟨S1x8192x1536, .f32⟩
  | 64 => ⟨S1x8192x1536, .f32⟩
  | 65 => ⟨S1x8192x1536, .f32⟩
  | 66 => ⟨S_, .f32⟩
  | 67 => ⟨S1x1536, .f32⟩
  | 68 => ⟨S1x1x1536, .f32⟩
  | 69 => ⟨S1x8192x1536, .f32⟩
  | 70 => ⟨S1x8192x1536, .f32⟩
  | 71 => ⟨S_, .f32⟩
  | 72 => ⟨S1536, .f32⟩
  | 73 => ⟨S1x1536, .f32⟩
  | 74 => ⟨S_, .f32⟩
  | 75 => ⟨S4x1536, .f32⟩
  | 76 => ⟨S_, .f32⟩
  | 77 => ⟨S1x8195x1536, .f32⟩
  | 78 => ⟨S1x8192x1536, .f32⟩
  | 79 => ⟨S_, .f32⟩
  | 80 => ⟨S1x1536, .f32⟩
  | 81 => ⟨S1x1x1536, .f32⟩
  | 82 => ⟨S1x8192x1536, .f32⟩
  | 83 => ⟨S1x8192x1536, .f32⟩
  | 84 => ⟨S_, .f32⟩
  | 85 => ⟨S1536, .f32⟩
  | 86 => ⟨S1x1536, .f32⟩
  | 87 => ⟨S_, .f32⟩
  | 88 => ⟨S4x1536, .f32⟩
  | 89 => ⟨S4x1536, .f32⟩
  | 90 => ⟨S_, .f32⟩
  | 91 => ⟨S1x8195x1536, .f32⟩
  | 92 => ⟨S1x8195x1536, .f32⟩
  | 93 => ⟨S1x8192x1536, .f32⟩
  | 94 => ⟨S_, .f32⟩
  | 95 => ⟨S1x1536, .f32⟩
  | 96 => ⟨S1x1x1536, .f32⟩
  | 97 => ⟨S1x8192x1536, .f32⟩
  | 98 => ⟨S1x8192x1536, .f32⟩
  | 99 => ⟨S_, .f32⟩
  | 100 => ⟨S1536, .f32⟩
  | 101 => ⟨S1x1536, .f32⟩
  | 102 => ⟨S_, .f32⟩
  | 103 => ⟨S4x1536, .f32⟩
  | 104 => ⟨S4x1536, .f32⟩
  | 105 => ⟨S_, .f32⟩
  | 106 => ⟨S1x8195x1536, .f32⟩
  | 107 => ⟨S1x8195x1536, .f32⟩
  | 108 => ⟨S_, .f32⟩
  | 109 => ⟨S1x1536, .f32⟩
  | 110 => ⟨S1x1x1536, .f32⟩
  | 111 => ⟨S_, .f32⟩
  | 112 => ⟨S1536, .f32⟩
  | 113 => ⟨S1x8192x1536, .f32⟩
  | 114 => ⟨S_, .f32⟩
  | 115 => ⟨S1x1536, .f32⟩
  | 116 => ⟨S1x1x1536, .f32⟩
  | 117 => ⟨S1x8192x1536, .f32⟩
  | 118 => ⟨S1x8192x1536, .f32⟩
  | 119 => ⟨S_, .f32⟩
  | 120 => ⟨S1536, .f32⟩
  | 121 => ⟨S1x1536, .f32⟩
  | 122 => ⟨S_, .f32⟩
  | 123 => ⟨S4x1536, .f32⟩
  | 124 => ⟨S4x1536, .f32⟩
  | 125 => ⟨S_, .f32⟩
  | 126 => ⟨S1x8195x1536, .f32⟩
  | 127 => ⟨S1x8195x1536, .f32⟩
  | _ => ⟨S1x8192x1536, .f32⟩

abbrev hbmTy0_1 (i : Nat) : BufTy := match i % 128 with
  | 0 => ⟨S1x2x1536, .f32⟩
  | 1 => ⟨S1x8192x1536, .f32⟩
  | 2 => ⟨S1x1x1536, .f32⟩
  | 3 => ⟨S1x8192x3072, .f32⟩
  | 4 => ⟨S1x8192x1024, .f32⟩
  | 5 => ⟨S_, .f32⟩
  | 6 => ⟨S1x1024, .f32⟩
  | 7 => ⟨S1x1x1024, .f32⟩
  | 8 => ⟨S1x8192x1024, .f32⟩
  | 9 => ⟨S_, .f32⟩
  | 10 => ⟨S1x1024, .f32⟩
  | 11 => ⟨S1x1x1024, .f32⟩
  | 12 => ⟨S1x8192x1024, .f32⟩
  | 13 => ⟨S1x8192x1024, .f32⟩
  | 14 => ⟨S1x1024, .f32⟩
  | 15 => ⟨S1x1024, .f32⟩
  | 16 => ⟨S_, .f32⟩
  | 17 => ⟨S6x1024, .f32⟩
  | 18 => ⟨S8x1024, .f32⟩
  | 19 => ⟨S8192x1536, .f32⟩
  | 20 => ⟨S8192x1536, .f32⟩
  | 21 => ⟨S8192x1536, .bf16⟩
  | 22 => ⟨S1x8192x1024, .f32⟩
  | 23 => ⟨S8192x1024, .f32⟩
  | 24 => ⟨S8192x3072, .f32⟩
  | 25 => ⟨S8192x3072, .bf16⟩
  | 26 => ⟨S8192x1024, .f32⟩
  | 27 => ⟨S8192x1024, .bf16⟩
  | 28 => ⟨S1x1536, .f32⟩
  | _ => ⟨S1x8192x1536, .f32⟩

abbrev hbmTy (i : Nat) : BufTy := match i / 128 with
  | 0 => hbmTy0_0 i
  | 1 => hbmTy0_1 i
  | _ => ⟨S1x8192x1536, .f32⟩

abbrev bufTy : (tb : Table) → Fin (tcTables nBuf tb) → BufTy
  | .hbm, ⟨i, _⟩ => hbmTy i
  | _, _ => ⟨S1x8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_4 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_5 : Ref sig .tc := ⟨.hbm, 71, rfl⟩
abbrev main_v56 : Ref sig .tc := ⟨.hbm, 72, rfl⟩
abbrev main_v57 : Ref sig .tc := ⟨.hbm, 73, rfl⟩
abbrev main_cst_6 : Ref sig .tc := ⟨.hbm, 74, rfl⟩
abbrev main_v58 : Ref sig .tc := ⟨.hbm, 75, rfl⟩
abbrev main_cst_7 : Ref sig .tc := ⟨.hbm, 76, rfl⟩
abbrev main_v59 : Ref sig .tc := ⟨.hbm, 77, rfl⟩
abbrev main_v60 : Ref sig .tc := ⟨.hbm, 78, rfl⟩
abbrev main_cst_8 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_9 : Ref sig .tc := ⟨.hbm, 84, rfl⟩
abbrev main_v65 : Ref sig .tc := ⟨.hbm, 85, rfl⟩
abbrev main_v66 : Ref sig .tc := ⟨.hbm, 86, rfl⟩
abbrev main_cst_10 : Ref sig .tc := ⟨.hbm, 87, rfl⟩
abbrev main_v67 : Ref sig .tc := ⟨.hbm, 88, rfl⟩
abbrev main_v68 : Ref sig .tc := ⟨.hbm, 89, rfl⟩
abbrev main_cst_11 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_12 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_13 : Ref sig .tc := ⟨.hbm, 99, rfl⟩
abbrev main_v76 : Ref sig .tc := ⟨.hbm, 100, rfl⟩
abbrev main_v77 : Ref sig .tc := ⟨.hbm, 101, rfl⟩
abbrev main_cst_14 : Ref sig .tc := ⟨.hbm, 102, rfl⟩
abbrev main_v78 : Ref sig .tc := ⟨.hbm, 103, rfl⟩
abbrev main_v79 : Ref sig .tc := ⟨.hbm, 104, rfl⟩
abbrev main_cst_15 : Ref sig .tc := ⟨.hbm, 105, rfl⟩
abbrev main_v80 : Ref sig .tc := ⟨.hbm, 106, rfl⟩
abbrev main_v81 : Ref sig .tc := ⟨.hbm, 107, rfl⟩
abbrev main_cst_16 : Ref sig .tc := ⟨.hbm, 108, rfl⟩
abbrev main_v82 : Ref sig .tc := ⟨.hbm, 109, rfl⟩
abbrev main_v83 : Ref sig .tc := ⟨.hbm, 110, rfl⟩
abbrev main_cst_17 : Ref sig .tc := ⟨.hbm, 111, rfl⟩
abbrev main_v84 : Ref sig .tc := ⟨.hbm, 112, rfl⟩
abbrev main_v85 : Ref sig .tc := ⟨.hbm, 113, rfl⟩
abbrev main_cst_18 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_19 : Ref sig .tc := ⟨.hbm, 119, rfl⟩
abbrev main_v90 : Ref sig .tc := ⟨.hbm, 120, rfl⟩
abbrev main_v91 : Ref sig .tc := ⟨.hbm, 121, rfl⟩
abbrev main_cst_20 : Ref sig .tc := ⟨.hbm, 122, rfl⟩
abbrev main_v92 : Ref sig .tc := ⟨.hbm, 123, rfl⟩
abbrev main_v93 : Ref sig .tc := ⟨.hbm, 124, rfl⟩
abbrev main_cst_21 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_22 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_23 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_24 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩

abbrev nD : Nat := 1
abbrev τ : Topo := Topo.v7x

variable {F : FTy → Type} [FloatOps F]
-- ==== AttnBwd.lean ====
abbrev S1x8192x8x128 : Shape := ⟨4, ![1, 8192, 8, 128]⟩
abbrev S1x8192x2x128 : Shape := ⟨4, ![1, 8192, 2, 128]⟩
abbrev S1x8192x1024 : Shape := ⟨3, ![1, 8192, 1024]⟩
abbrev S8 : Shape := ⟨1, ![8]⟩
abbrev S8192x1024 : Shape := ⟨2, ![8192, 1024]⟩
abbrev S8192x256 : Shape := ⟨2, ![8192, 256]⟩
abbrev S1x8 : Shape := ⟨2, ![1, 8]⟩
abbrev S1x128 : Shape := ⟨2, ![1, 128]⟩
abbrev S512x1024 : Shape := ⟨2, ![512, 1024]⟩
abbrev S128x256 : Shape := ⟨2, ![128, 256]⟩
abbrev S512x256 : Shape := ⟨2, ![512, 256]⟩
abbrev S768x256 : Shape := ⟨2, ![768, 256]⟩
abbrev S512x384 : Shape := ⟨2, ![512, 384]⟩
abbrev S128x128 : Shape := ⟨2, ![128, 128]⟩
abbrev S512x128 : Shape := ⟨2, ![512, 128]⟩
abbrev S384x128 : Shape := ⟨2, ![384, 128]⟩
abbrev S512x1 : Shape := ⟨2, ![512, 1]⟩
abbrev S1x1 : Shape := ⟨2, ![1, 1]⟩
abbrev S512 : Shape := ⟨1, ![512]⟩
abbrev S128x1 : Shape := ⟨2, ![128, 1]⟩
abbrev S1 : Shape := ⟨1, ![1]⟩

abbrev nBuf : Space → Nat
  | .hbm => 18
  | .vmem => 21
  | .smem => 1
  | _ => 0

abbrev bufTy : (tb : Table) → Fin (tcTables nBuf tb) → BufTy
  | .hbm, ⟨0, _⟩ => ⟨S1x8192x8x128, .f32⟩
  | .hbm, ⟨1, _⟩ => ⟨S1x8192x2x128, .f32⟩
  | .hbm, ⟨2, _⟩ => ⟨S1x8192x2x128, .f32⟩
  | .hbm, ⟨3, _⟩ => ⟨S1x8192x1024, .f32⟩
  | .hbm, ⟨4, _⟩ => ⟨S8, .f32⟩
  | .hbm, ⟨5, _⟩ => ⟨S8192x1024, .f32⟩
  | .hbm, ⟨6, _⟩ => ⟨S8192x1024, .bf16⟩
  | .hbm, ⟨7, _⟩ => ⟨S8192x256, .f32⟩
  | .hbm, ⟨8, _⟩ => ⟨S8192x256, .bf16⟩
  | .hbm, ⟨9, _⟩ => ⟨S8192x256, .f32⟩
  | .hbm, ⟨10, _⟩ => ⟨S8192x256, .bf16⟩
  | .hbm, ⟨11, _⟩ => ⟨S8192x1024, .f32⟩
  | .hbm, ⟨12, _⟩ => ⟨S8192x1024, .bf16⟩
  | .hbm, ⟨13, _⟩ => ⟨S1x8, .f32⟩
  | .hbm, ⟨14, _⟩ => ⟨S8192x1024, .f32⟩
  | .hbm, ⟨15, _⟩ => ⟨S8192x256, .f32⟩
  | .hbm, ⟨16, _⟩ => ⟨S8192x256, .f32⟩
  | .hbm, ⟨17, _⟩ => ⟨S1x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S128x256, .bf16⟩
  | .local _ .vmem, ⟨5, _⟩ => ⟨S128x256, .bf16⟩
  | .local _ .vmem, ⟨6, _⟩ => ⟨S512x256, .bf16⟩
  | .local _ .vmem, ⟨7, _⟩ => ⟨S512x256, .bf16⟩
  | .local _ .vmem, ⟨8, _⟩ => ⟨S128x256, .bf16⟩
  | .local _ .vmem, ⟨9, _⟩ => ⟨S128x256, .bf16⟩
  | .local _ .vmem, ⟨10, _⟩ => ⟨S128x256, .bf16⟩
  | .local _ .vmem, ⟨11, _⟩ => ⟨S128x256, .bf16⟩
  | .local _ .vmem, ⟨12, _⟩ => ⟨S512x256, .bf16⟩
  | .local _ .vmem, ⟨13, _⟩ => ⟨S512x256, .bf16⟩
  | .local _ .vmem, ⟨14, _⟩ => ⟨S128x256, .bf16⟩
  | .local _ .vmem, ⟨15, _⟩ => ⟨S128x256, .bf16⟩
  | .local _ .vmem, ⟨16, _⟩ => ⟨S512x1024, .f32⟩
  | .local _ .vmem, ⟨17, _⟩ => ⟨S512x1024, .f32⟩
  | .local _ .vmem, ⟨18, _⟩ => ⟨S8192x256, .f32⟩
  | .local _ .vmem, ⟨19, _⟩ => ⟨S8192x256, .f32⟩
  | .local _ .vmem, ⟨20, _⟩ => ⟨S1x128, .f32⟩
  | .local _ .smem, ⟨0, _⟩ => ⟨S1x8, .f32⟩
  | _, _ => ⟨S1x8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![16], ![false]⟩

def k0_mult1 (i : grid0.Coords) : BitVec 32 :=
  let c63_i32 : BitVec 32 := 63#32
  let c0_i32_48 : BitVec 32 := 0#32
  let c4_i32 : BitVec 32 := 4#32
  let arg0 : BitVec 32 := BitVec.ofNat 32 (i 0).val
  let v19 : BitVec 32 := Scalar.muli c4_i32 arg0
  let c0_i32_12 : BitVec 32 := 0#32
  let v20 : BitVec 32 := Scalar.addi v19 c0_i32_12
  let c1_i32_46 : BitVec 32 := 1#32
  let v112 : BitVec 32 := Scalar.subi v20 c1_i32_46
  let c0_i32_47 : BitVec 32 := 0#32
  let v113 : BitVec 32 := Scalar.addi v112 c0_i32_47
  let v114 : BitVec 32 := Scalar.maxsi c0_i32_48 v113
  let v115 : BitVec 32 := Scalar.minsi c63_i32 v114
  let c128_i32_49 : BitVec 32 := 128#32
  let v116 : BitVec 32 := Scalar.muli v115 c128_i32_49
  v116
def k0_off1 (i : grid0.Coords) (c0_i32_12 : BitVec 32) (c0_i32_47 : BitVec 32) : Fin 2 → Nat :=
  let c63_i32 : BitVec 32 := 63#32
  let c0_i32_48 : BitVec 32 := 0#32
  let c4_i32 : BitVec 32 := 4#32
  let arg0 : BitVec 32 := BitVec.ofNat 32 (i 0).val
  let v19 : BitVec 32 := Scalar.muli c4_i32 arg0
  let v20 : BitVec 32 := Scalar.addi v19 c0_i32_12
  let c1_i32_46 : BitVec 32 := 1#32
  let v112 : BitVec 32 := Scalar.subi v20 c1_i32_46
  let v113 : BitVec 32 := Scalar.addi v112 c0_i32_47
  let v114 : BitVec 32 := Scalar.maxsi c0_i32_48 v113
  let v115 : BitVec 32 := Scalar.minsi c63_i32 v114
  let c128_i32_49 : BitVec 32 := 128#32
  let v116 : BitVec 32 := Scalar.muli v115 c128_i32_49
  let v117 : BitVec 32 := v116
  let v118 : Index := Scalar.indexCast v117
  let c0_50 : Index := 0#32
  ![v118.toNat, 0]
def k0_mult2 (i : grid0.Coords) : BitVec 32 :=
  let c63_i32_57 : BitVec 32 := 63#32
  let c0_i32_56 : BitVec 32 := 0#32
  let c4_i32 : BitVec 32 := 4#32
  let arg0 : BitVec 32 := BitVec.ofNat 32 (i 0).val
  let v19 : BitVec 32 := Scalar.muli c4_i32 arg0
  let c0_i32_12 : BitVec 32 := 0#32
  let v20 : BitVec 32 := Scalar.addi v19 c0_i32_12
  let c1_i32_54 : BitVec 32 := 1#32
  let v132 : BitVec 32 := Scalar.subi v20 c1_i32_54
  let c1_i32_55 : BitVec 32 := 1#32
  let v133 : BitVec 32 := Scalar.addi v132 c1_i32_55
  let v134 : BitVec 32 := Scalar.maxsi c0_i32_56 v133
  let v135 : BitVec 32 := Scalar.minsi c63_i32_57 v134
  let c128_i32_58 : BitVec 32 := 128#32
  let v136 : BitVec 32 := Scalar.muli v135 c128_i32_58
  v136
def k0_mult3 (i : grid0.Coords) : BitVec 32 :=
  let c63_i32_65 : BitVec 32 := 63#32
  let c0_i32_64 : BitVec 32 := 0#32
  let c4_i32 : BitVec 32 := 4#32
  let arg0 : BitVec 32 := BitVec.ofNat 32 (i 0).val
  let v19 : BitVec 32 := Scalar.muli c4_i32 arg0
  let c0_i32_12 : BitVec 32 := 0#32
  let v20 : BitVec 32 := Scalar.addi v19 c0_i32_12
  let c1_i32_63 : BitVec 32 := 1#32
  let v152 : BitVec 32 := Scalar.subi v20 c1_i32_63
  let c2_i32 : BitVec 32 := 2#32
  let v153 : BitVec 32 := Scalar.addi v152 c2_i32
  let v154 : BitVec 32 := Scalar.maxsi c0_i32_64 v153
  let v155 : BitVec 32 := Scalar.minsi c63_i32_65 v154
  let c128_i32_66 : BitVec 32 := 128#32
  let v156 : BitVec 32 := Scalar.muli v155 c128_i32_66
  v156
def k0_mult4 (i : grid0.Coords) : BitVec 32 :=
  let c63_i32_124 : BitVec 32 := 63#32
  let c0_i32_123 : BitVec 32 := 0#32
  let c4_i32 : BitVec 32 := 4#32
  let arg0 : BitVec 32 := BitVec.ofNat 32 (i 0).val
  let v19 : BitVec 32 := Scalar.muli c4_i32 arg0
  let c0_i32_12 : BitVec 32 := 0#32
  let v20 : BitVec 32 := Scalar.addi v19 c0_i32_12
  let c1_i32_121 : BitVec 32 := 1#32
  let v294 : BitVec 32 := Scalar.subi v20 c1_i32_121
  let c0_i32_122 : BitVec 32 := 0#32
  let v295 : BitVec 32 := Scalar.addi v294 c0_i32_122
  let v296 : BitVec 32 := Scalar.maxsi c0_i32_123 v295
  let v297 : BitVec 32 := Scalar.minsi c63_i32_124 v296
  let c128_i32_125 : BitVec 32 := 128#32
  let v298 : BitVec 32 := Scalar.muli v297 c128_i32_125
  v298
def k0_off2 (i : grid0.Coords) (c0_i32_12 : BitVec 32) (c0_i32_122 : BitVec 32) : Fin 2 → Nat :=
  let c63_i32_124 : BitVec 32 := 63#32
  let c0_i32_123 : BitVec 32 := 0#32
  let c4_i32 : BitVec 32 := 4#32
  let arg0 : BitVec 32 := BitVec.ofNat 32 (i 0).val
  let v19 : BitVec 32 := Scalar.muli c4_i32 arg0
  let v20 : BitVec 32 := Scalar.addi v19 c0_i32_12
  let c1_i32_121 : BitVec 32 := 1#32
  let v294 : BitVec 32 := Scalar.subi v20 c1_i32_121
  let v295 : BitVec 32 := Scalar.addi v294 c0_i32_122
  let v296 : BitVec 32 := Scalar.maxsi c0_i32_123 v295
  let v297 : BitVec 32 := Scalar.minsi c63_i32_124 v296
  let c128_i32_125 : BitVec 32 := 128#32
  let v298 : BitVec 32 := Scalar.muli v297 c128_i32_125
  let v299 : BitVec 32 := v298
  let v300 : Index := Scalar.indexCast v299
  let c128_126 : Index := 128#32
  ![v300.toNat, 128]
def k0_mult5 (i : grid0.Coords) : BitVec 32 :=
  let c63_i32_133 : BitVec 32 := 63#32
  let c0_i32_132 : BitVec 32 := 0#32
  let c4_i32 : BitVec 32 := 4#32
  let arg0 : BitVec 32 := BitVec.ofNat 32 (i 0).val
  let v19 : BitVec 32 := Scalar.muli c4_i32 arg0
  let c0_i32_12 : BitVec 32 := 0#32
  let v20 : BitVec 32 := Scalar.addi v19 c0_i32_12
  let c1_i32_130 : BitVec 32 := 1#32
  let v314 : BitVec 32 := Scalar.subi v20 c1_i32_130
  let c1_i32_131 : BitVec 32 := 1#32
  let v315 : BitVec 32 := Scalar.addi v314 c1_i32_131
  let v316 : BitVec 32 := Scalar.maxsi c0_i32_132 v315
  let v317 : BitVec 32 := Scalar.minsi c63_i32_133 v316
  let c128_i32_134 : BitVec 32 := 128#32
  let v318 : BitVec 32 := Scalar.muli v317 c128_i32_134
  v318
def k0_mult6 (i : grid0.Coords) : BitVec 32 :=
  let c63_i32_142 : BitVec 32 := 63#32
  let c0_i32_141 : BitVec 32 := 0#32
  let c4_i32 : BitVec 32 := 4#32
  let arg0 : BitVec 32 := BitVec.ofNat 32 (i 0).val
  let v19 : BitVec 32 := Scalar.muli c4_i32 arg0
  let c0_i32_12 : BitVec 32 := 0#32
  let v20 : BitVec 32 := Scalar.addi v19 c0_i32_12
  let c1_i32_139 : BitVec 32 := 1#32
  let v334 : BitVec 32 := Scalar.subi v20 c1_i32_139
  let c2_i32_140 : BitVec 32 := 2#32
  let v335 : BitVec 32 := Scalar.addi v334 c2_i32_140
  let v336 : BitVec 32 := Scalar.maxsi c0_i32_141 v335
  let v337 : BitVec 32 := Scalar.minsi c63_i32_142 v336
  let c128_i32_143 : BitVec 32 := 128#32
  let v338 : BitVec 32 := Scalar.muli v337 c128_i32_143
  v338
def k0_mult7 (i : grid0.Coords) : BitVec 32 :=
  let c63_i32_216 : BitVec 32 := 63#32
  let c0_i32_215 : BitVec 32 := 0#32
  let c4_i32_166 : BitVec 32 := 4#32
  let arg0 : BitVec 32 := BitVec.ofNat 32 (i 0).val
  let v405 : BitVec 32 := Scalar.muli c4_i32_166 arg0
  let c1_i32_167 : BitVec 32 := 1#32
  let v406 : BitVec 32 := Scalar.addi v405 c1_i32_167
  let c1_i32_213 : BitVec 32 := 1#32
  let v498 : BitVec 32 := Scalar.subi v406 c1_i32_213
  let c0_i32_214 : BitVec 32 := 0#32
  let v499 : BitVec 32 := Scalar.addi v498 c0_i32_214
  let v500 : BitVec 32 := Scalar.maxsi c0_i32_215 v499
  let v501 : BitVec 32 := Scalar.minsi c63_i32_216 v500
  let c128_i32_217 : BitVec 32 := 128#32
  let v502 : BitVec 32 := Scalar.muli v501 c128_i32_217
  v502
def k0_mult8 (i : grid0.Coords) : BitVec 32 :=
  let c63_i32_225 : BitVec 32 := 63#32
  let c0_i32_224 : BitVec 32 := 0#32
  let c4_i32_166 : BitVec 32 := 4#32
  let arg0 : BitVec 32 := BitVec.ofNat 32 (i 0).val
  let v405 : BitVec 32 := Scalar.muli c4_i32_166 arg0
  let c1_i32_167 : BitVec 32 := 1#32
  let v406 : BitVec 32 := Scalar.addi v405 c1_i32_167
  let c1_i32_222 : BitVec 32 := 1#32
  let v518 : BitVec 32 := Scalar.subi v406 c1_i32_222
  let c1_i32_223 : BitVec 32 := 1#32
  let v519 : BitVec 32 := Scalar.addi v518 c1_i32_223
  let v520 : BitVec 32 := Scalar.maxsi c0_i32_224 v519
  let v521 : BitVec 32 := Scalar.minsi c63_i32_225 v520
  let c128_i32_226 : BitVec 32 := 128#32
  let v522 : BitVec 32 := Scalar.muli v521 c128_i32_226
  v522
def k0_mult9 (i : grid0.Coords) : BitVec 32 :=
  let c63_i32_234 : BitVec 32 := 63#32
  let c0_i32_233 : BitVec 32 := 0#32
  let c4_i32_166 : BitVec 32 := 4#32
  let arg0 : BitVec 32 := BitVec.ofNat 32 (i 0).val
  let v405 : BitVec 32 := Scalar.muli c4_i32_166 arg0
  let c1_i32_167 : BitVec 32 := 1#32
  let v406 : BitVec 32 := Scalar.addi v405 c1_i32_167
  let c1_i32_231 : BitVec 32 := 1#32
  let v538 : BitVec 32 := Scalar.subi v406 c1_i32_231
  let c2_i32_232 : BitVec 32 := 2#32
  let v539 : BitVec 32 := Scalar.addi v538 c2_i32_232
  let v540 : BitVec 32 := Scalar.maxsi c0_i32_233 v539
  let v541 : BitVec 32 := Scalar.minsi c63_i32_234 v540
  let c128_i32_235 : BitVec 32 := 128#32
  let v542 : BitVec 32 := Scalar.muli v541 c128_i32_235
  v542
def k0_mult10 (i : grid0.Coords) : BitVec 32 :=
  let c63_i32_302 : BitVec 32 := 63#32
  let c0_i32_301 : BitVec 32 := 0#32
  let c4_i32_166 : BitVec 32 := 4#32
  let arg0 : BitVec 32 := BitVec.ofNat 32 (i 0).val
  let v405 : BitVec 32 := Scalar.muli c4_i32_166 arg0
  let c1_i32_167 : BitVec 32 := 1#32
  let v406 : BitVec 32 := Scalar.addi v405 c1_i32_167
  let c1_i32_299 : BitVec 32 := 1#32
  let v680 : BitVec 32 := Scalar.subi v406 c1_i32_299
  let c0_i32_300 : BitVec 32 := 0#32
  let v681 : BitVec 32 := Scalar.addi v680 c0_i32_300
  let v682 : BitVec 32 := Scalar.maxsi c0_i32_301 v681
  let v683 : BitVec 32 := Scalar.minsi c63_i32_302 v682
  let c128_i32_303 : BitVec 32 := 128#32
  let v684 : BitVec 32 := Scalar.muli v683 c128_i32_303
  v684
def k0_mult11 (i : grid0.Coords) : BitVec 32 :=
  let c63_i32_311 : BitVec 32 := 63#32
  let c0_i32_310 : BitVec 32 := 0#32
  let c4_i32_166 : BitVec 32 := 4#32
  let arg0 : BitVec 32 := BitVec.ofNat 32 (i 0).val
  let v405 : BitVec 32 := Scalar.muli c4_i32_166 arg0
  let c1_i32_167 : BitVec 32 := 1#32
  let v406 : BitVec 32 := Scalar.addi v405 c1_i32_167
  let c1_i32_308 : BitVec 32 := 1#32
  let v700 : BitVec 32 := Scalar.subi v406 c1_i32_308
  let c1_i32_309 : BitVec 32 := 1#32
  let v701 : BitVec 32 := Scalar.addi v700 c1_i32_309
  let v702 : BitVec 32 := Scalar.maxsi c0_i32_310 v701
  let v703 : BitVec 32 := Scalar.minsi c63_i32_311 v702
  let c128_i32_312 : BitVec 32 := 128#32
  let v704 : BitVec 32 := Scalar.muli v703 c128_i32_312
  v704
def k0_mult12 (i : grid0.Coords) : BitVec 32 :=
  let c63_i32_320 : BitVec 32 := 63#32
  let c0_i32_319 : BitVec 32 := 0#32
  let c4_i32_166 : BitVec 32 := 4#32
  let arg0 : BitVec 32 := BitVec.ofNat 32 (i 0).val
  let v405 : BitVec 32 := Scalar.muli c4_i32_166 arg0
  let c1_i32_167 : BitVec 32 := 1#32
  let v406 : BitVec 32 := Scalar.addi v405 c1_i32_167
  let c1_i32_317 : BitVec 32 := 1#32
  let v720 : BitVec 32 := Scalar.subi v406 c1_i32_317
  let c2_i32_318 : BitVec 32 := 2#32
  let v721 : BitVec 32 := Scalar.addi v720 c2_i32_318
  let v722 : BitVec 32 := Scalar.maxsi c0_i32_319 v721
  let v723 : BitVec 32 := Scalar.minsi c63_i32_320 v722
  let c128_i32_321 : BitVec 32 := 128#32
  let v724 : BitVec 32 := Scalar.muli v723 c128_i32_321
  v724
def k0_mult13 (i : grid0.Coords) : BitVec 32 :=
  let c63_i32_397 : BitVec 32 := 63#32
  let c0_i32_396 : BitVec 32 := 0#32
  let c4_i32_347 : BitVec 32 := 4#32
  let arg0 : BitVec 32 := BitVec.ofNat 32 (i 0).val
  let v791 : BitVec 32 := Scalar.muli c4_i32_347 arg0
  let c2_i32_348 : BitVec 32 := 2#32
  let v792 : BitVec 32 := Scalar.addi v791 c2_i32_348
  let c1_i32_394 : BitVec 32 := 1#32
  let v884 : BitVec 32 := Scalar.subi v792 c1_i32_394
  let c0_i32_395 : BitVec 32 := 0#32
  let v885 : BitVec 32 := Scalar.addi v884 c0_i32_395
  let v886 : BitVec 32 := Scalar.maxsi c0_i32_396 v885
  let v887 : BitVec 32 := Scalar.minsi c63_i32_397 v886
  let c128_i32_398 : BitVec 32 := 128#32
  let v888 : BitVec 32 := Scalar.muli v887 c128_i32_398
  v888
def k0_mult14 (i : grid0.Coords) : BitVec 32 :=
  let c63_i32_406 : BitVec 32 := 63#32
  let c0_i32_405 : BitVec 32 := 0#32
  let c4_i32_347 : BitVec 32 := 4#32
  let arg0 : BitVec 32 := BitVec.ofNat 32 (i 0).val
  let v791 : BitVec 32 := Scalar.muli c4_i32_347 arg0
  let c2_i32_348 : BitVec 32 := 2#32
  let v792 : BitVec 32 := Scalar.addi v791 c2_i32_348
  let c1_i32_403 : BitVec 32 := 1#32
  let v904 : BitVec 32 := Scalar.subi v792 c1_i32_403
  let c1_i32_404 : BitVec 32 := 1#32
  let v905 : BitVec 32 := Scalar.addi v904 c1_i32_404
  let v906 : BitVec 32 := Scalar.maxsi c0_i32_405 v905
  let v907 : BitVec 32 := Scalar.minsi c63_i32_406 v906
  let c128_i32_407 : BitVec 32 := 128#32
  let v908 : BitVec 32 := Scalar.muli v907 c128_i32_407
  v908
def k0_mult15 (i : grid0.Coords) : BitVec 32 :=
  let c63_i32_415 : BitVec 32 := 63#32
  let c0_i32_414 : BitVec 32 := 0#32
  let c4_i32_347 : BitVec 32 := 4#32
  let arg0 : BitVec 32 := BitVec.ofNat 32 (i 0).val
  let v791 : BitVec 32 := Scalar.muli c4_i32_347 arg0
  let c2_i32_348 : BitVec 32 := 2#32
  let v792 : BitVec 32 := Scalar.addi v791 c2_i32_348
  let c1_i32_412 : BitVec 32 := 1#32
  let v924 : BitVec 32 := Scalar.subi v792 c1_i32_412
  let c2_i32_413 : BitVec 32 := 2#32
  let v925 : BitVec 32 := Scalar.addi v924 c2_i32_413
  let v926 : BitVec 32 := Scalar.maxsi c0_i32_414 v925
  let v927 : BitVec 32 := Scalar.minsi c63_i32_415 v926
  let c128_i32_416 : BitVec 32 := 128#32
  let v928 : BitVec 32 := Scalar.muli v927 c128_i32_416
  v928
def k0_mult16 (i : grid0.Coords) : BitVec 32 :=
  let c63_i32_483 : BitVec 32 := 63#32
  let c0_i32_482 : BitVec 32 := 0#32
  let c4_i32_347 : BitVec 32 := 4#32
  let arg0 : BitVec 32 := BitVec.ofNat 32 (i 0).val
  let v791 : BitVec 32 := Scalar.muli c4_i32_347 arg0
  let c2_i32_348 : BitVec 32 := 2#32
  let v792 : BitVec 32 := Scalar.addi v791 c2_i32_348
  let c1_i32_480 : BitVec 32 := 1#32
  let v1066 : BitVec 32 := Scalar.subi v792 c1_i32_480
  let c0_i32_481 : BitVec 32 := 0#32
  let v1067 : BitVec 32 := Scalar.addi v1066 c0_i32_481
  let v1068 : BitVec 32 := Scalar.maxsi c0_i32_482 v1067
  let v1069 : BitVec 32 := Scalar.minsi c63_i32_483 v1068
  let c128_i32_484 : BitVec 32 := 128#32
  let v1070 : BitVec 32 := Scalar.muli v1069 c128_i32_484
  v1070
def k0_mult17 (i : grid0.Coords) : BitVec 32 :=
  let c63_i32_492 : BitVec 32 := 63#32
  let c0_i32_491 : BitVec 32 := 0#32
  let c4_i32_347 : BitVec 32 := 4#32
  let arg0 : BitVec 32 := BitVec.ofNat 32 (i 0).val
  let v791 : BitVec 32 := Scalar.muli c4_i32_347 arg0
  let c2_i32_348 : BitVec 32 := 2#32
  let v792 : BitVec 32 := Scalar.addi v791 c2_i32_348
  let c1_i32_489 : BitVec 32 := 1#32
  let v1086 : BitVec 32 := Scalar.subi v792 c1_i32_489
  let c1_i32_490 : BitVec 32 := 1#32
  let v1087 : BitVec 32 := Scalar.addi v1086 c1_i32_490
  let v1088 : BitVec 32 := Scalar.maxsi c0_i32_491 v1087
  let v1089 : BitVec 32 := Scalar.minsi c63_i32_492 v1088
  let c128_i32_493 : BitVec 32 := 128#32
  let v1090 : BitVec 32 := Scalar.muli v1089 c128_i32_493
  v1090
def k0_mult18 (i : grid0.Coords) : BitVec 32 :=
  let c63_i32_501 : BitVec 32 := 63#32
  let c0_i32_500 : BitVec 32 := 0#32
  let c4_i32_347 : BitVec 32 := 4#32
  let arg0 : BitVec 32 := BitVec.ofNat 32 (i 0).val
  let v791 : BitVec 32 := Scalar.muli c4_i32_347 arg0
  let c2_i32_348 : BitVec 32 := 2#32
  let v792 : BitVec 32 := Scalar.addi v791 c2_i32_348
  let c1_i32_498 : BitVec 32 := 1#32
  let v1106 : BitVec 32 := Scalar.subi v792 c1_i32_498
  let c2_i32_499 : BitVec 32 := 2#32
  let v1107 : BitVec 32 := Scalar.addi v1106 c2_i32_499
  let v1108 : BitVec 32 := Scalar.maxsi c0_i32_500 v1107
  let v1109 : BitVec 32 := Scalar.minsi c63_i32_501 v1108
  let c128_i32_502 : BitVec 32 := 128#32
  let v1110 : BitVec 32 := Scalar.muli v1109 c128_i32_502
  v1110
def k0_mult19 (i : grid0.Coords) : BitVec 32 :=
  let c63_i32_578 : BitVec 32 := 63#32
  let c0_i32_577 : BitVec 32 := 0#32
  let c4_i32_528 : BitVec 32 := 4#32
  let arg0 : BitVec 32 := BitVec.ofNat 32 (i 0).val
  let v1177 : BitVec 32 := Scalar.muli c4_i32_528 arg0
  let c3_i32_529 : BitVec 32 := 3#32
  let v1178 : BitVec 32 := Scalar.addi v1177 c3_i32_529
  let c1_i32_575 : BitVec 32 := 1#32
  let v1270 : BitVec 32 := Scalar.subi v1178 c1_i32_575
  let c0_i32_576 : BitVec 32 := 0#32
  let v1271 : BitVec 32 := Scalar.addi v1270 c0_i32_576
  let v1272 : BitVec 32 := Scalar.maxsi c0_i32_577 v1271
  let v1273 : BitVec 32 := Scalar.minsi c63_i32_578 v1272
  let c128_i32_579 : BitVec 32 := 128#32
  let v1274 : BitVec 32 := Scalar.muli v1273 c128_i32_579
  v1274
def k0_mult20 (i : grid0.Coords) : BitVec 32 :=
  let c63_i32_587 : BitVec 32 := 63#32
  let c0_i32_586 : BitVec 32 := 0#32
  let c4_i32_528 : BitVec 32 := 4#32
  let arg0 : BitVec 32 := BitVec.ofNat 32 (i 0).val
  let v1177 : BitVec 32 := Scalar.muli c4_i32_528 arg0
  let c3_i32_529 : BitVec 32 := 3#32
  let v1178 : BitVec 32 := Scalar.addi v1177 c3_i32_529
  let c1_i32_584 : BitVec 32 := 1#32
  let v1290 : BitVec 32 := Scalar.subi v1178 c1_i32_584
  let c1_i32_585 : BitVec 32 := 1#32
  let v1291 : BitVec 32 := Scalar.addi v1290 c1_i32_585
  let v1292 : BitVec 32 := Scalar.maxsi c0_i32_586 v1291
  let v1293 : BitVec 32 := Scalar.minsi c63_i32_587 v1292
  let c128_i32_588 : BitVec 32 := 128#32
  let v1294 : BitVec 32 := Scalar.muli v1293 c128_i32_588
  v1294
def k0_mult21 (i : grid0.Coords) : BitVec 32 :=
  let c63_i32_596 : BitVec 32 := 63#32
  let c0_i32_595 : BitVec 32 := 0#32
  let c4_i32_528 : BitVec 32 := 4#32
  let arg0 : BitVec 32 := BitVec.ofNat 32 (i 0).val
  let v1177 : BitVec 32 := Scalar.muli c4_i32_528 arg0
  let c3_i32_529 : BitVec 32 := 3#32
  let v1178 : BitVec 32 := Scalar.addi v1177 c3_i32_529
  let c1_i32_593 : BitVec 32 := 1#32
  let v1310 : BitVec 32 := Scalar.subi v1178 c1_i32_593
  let c2_i32_594 : BitVec 32 := 2#32
  let v1311 : BitVec 32 := Scalar.addi v1310 c2_i32_594
  let v1312 : BitVec 32 := Scalar.maxsi c0_i32_595 v1311
  let v1313 : BitVec 32 := Scalar.minsi c63_i32_596 v1312
  let c128_i32_597 : BitVec 32 := 128#32
  let v1314 : BitVec 32 := Scalar.muli v1313 c128_i32_597
  v1314
def k0_mult22 (i : grid0.Coords) : BitVec 32 :=
  let c63_i32_664 : BitVec 32 := 63#32
  let c0_i32_663 : BitVec 32 := 0#32
  let c4_i32_528 : BitVec 32 := 4#32
  let arg0 : BitVec 32 := BitVec.ofNat 32 (i 0).val
  let v1177 : BitVec 32 := Scalar.muli c4_i32_528 arg0
  let c3_i32_529 : BitVec 32 := 3#32
  let v1178 : BitVec 32 := Scalar.addi v1177 c3_i32_529
  let c1_i32_661 : BitVec 32 := 1#32
  let v1452 : BitVec 32 := Scalar.subi v1178 c1_i32_661
  let c0_i32_662 : BitVec 32 := 0#32
  let v1453 : BitVec 32 := Scalar.addi v1452 c0_i32_662
  let v1454 : BitVec 32 := Scalar.maxsi c0_i32_663 v1453
  let v1455 : BitVec 32 := Scalar.minsi c63_i32_664 v1454
  let c128_i32_665 : BitVec 32 := 128#32
  let v1456 : BitVec 32 := Scalar.muli v1455 c128_i32_665
  v1456
def k0_mult23 (i : grid0.Coords) : BitVec 32 :=
  let c63_i32_673 : BitVec 32 := 63#32
  let c0_i32_672 : BitVec 32 := 0#32
  let c4_i32_528 : BitVec 32 := 4#32
  let arg0 : BitVec 32 := BitVec.ofNat 32 (i 0).val
  let v1177 : BitVec 32 := Scalar.muli c4_i32_528 arg0
  let c3_i32_529 : BitVec 32 := 3#32
  let v1178 : BitVec 32 := Scalar.addi v1177 c3_i32_529
  let c1_i32_670 : BitVec 32 := 1#32
  let v1472 : BitVec 32 := Scalar.subi v1178 c1_i32_670
  let c1_i32_671 : BitVec 32 := 1#32
  let v1473 : BitVec 32 := Scalar.addi v1472 c1_i32_671
  let v1474 : BitVec 32 := Scalar.maxsi c0_i32_672 v1473
  let v1475 : BitVec 32 := Scalar.minsi c63_i32_673 v1474
  let c128_i32_674 : BitVec 32 := 128#32
  let v1476 : BitVec 32 := Scalar.muli v1475 c128_i32_674
  v1476
def k0_mult24 (i : grid0.Coords) : BitVec 32 :=
  let c63_i32_682 : BitVec 32 := 63#32
  let c0_i32_681 : BitVec 32 := 0#32
  let c4_i32_528 : BitVec 32 := 4#32
  let arg0 : BitVec 32 := BitVec.ofNat 32 (i 0).val
  let v1177 : BitVec 32 := Scalar.muli c4_i32_528 arg0
  let c3_i32_529 : BitVec 32 := 3#32
  let v1178 : BitVec 32 := Scalar.addi v1177 c3_i32_529
  let c1_i32_679 : BitVec 32 := 1#32
  let v1492 : BitVec 32 := Scalar.subi v1178 c1_i32_679
  let c2_i32_680 : BitVec 32 := 2#32
  let v1493 : BitVec 32 := Scalar.addi v1492 c2_i32_680
  let v1494 : BitVec 32 := Scalar.maxsi c0_i32_681 v1493
  let v1495 : BitVec 32 := Scalar.minsi c63_i32_682 v1494
  let c128_i32_683 : BitVec 32 := 128#32
  let v1496 : BitVec 32 := Scalar.muli v1495 c128_i32_683
  v1496
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli c4_i32 v0
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli c4_i32 v0
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8192x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8192x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== AttnBwdIdeal.lean ====
variable {F : FTy → Type} [FloatOps F] [Named F]
def κ : String → Option EReal := fun
  | "mask" => some ⊥
  | _ => none
-- ==== AttnBwdRefIdeal.lean ====
abbrev S1x8192x8x128 : Shape := ⟨4, ![1, 8192, 8, 128]⟩
abbrev S1x8192x2x128 : Shape := ⟨4, ![1, 8192, 2, 128]⟩
abbrev S1x8192x1024 : Shape := ⟨3, ![1, 8192, 1024]⟩
abbrev S8 : Shape := ⟨1, ![8]⟩
abbrev S1x64x128x2x4x128 : Shape := ⟨6, ![1, 64, 128, 2, 4, 128]⟩
abbrev S_ : Shape := ⟨0, ![]⟩
abbrev S1x128x2x128 : Shape := ⟨4, ![1, 128, 2, 128]⟩
abbrev S1x8448x2x128 : Shape := ⟨4, ![1, 8448, 2, 128]⟩
abbrev S1x66x128x2x128 : Shape := ⟨5, ![1, 66, 128, 2, 128]⟩
abbrev S1x64x128x2x128 : Shape := ⟨5, ![1, 64, 128, 2, 128]⟩
abbrev S1x64x384x2x128 : Shape := ⟨5, ![1, 64, 384, 2, 128]⟩
abbrev S1x64x2x384x128x4 : Shape := ⟨6, ![1, 64, 2, 384, 128, 4]⟩
abbrev S1x64x2x4x128x384 : Shape := ⟨6, ![1, 64, 2, 4, 128, 384]⟩
abbrev S64 : Shape := ⟨1, ![64]⟩
abbrev S64x1x1 : Shape := ⟨3, ![64, 1, 1]⟩
abbrev S128 : Shape := ⟨1, ![128]⟩
abbrev S1x128x1 : Shape := ⟨3, ![1, 128, 1]⟩
abbrev S64x128x1 : Shape := ⟨3, ![64, 128, 1]⟩
abbrev S384 : Shape := ⟨1, ![384]⟩
abbrev S1x1x384 : Shape := ⟨3, ![1, 1, 384]⟩
abbrev S64x1x384 : Shape := ⟨3, ![64, 1, 384]⟩
abbrev S64x128x384 : Shape := ⟨3, ![64, 128, 384]⟩
abbrev S1x64x1x1x128x384 : Shape := ⟨6, ![1, 64, 1, 1, 128, 384]⟩
abbrev S2x4 : Shape := ⟨2, ![2, 4]⟩
abbrev S1x1x2x4x1x1 : Shape := ⟨6, ![1, 1, 2, 4, 1, 1]⟩
abbrev S1x64x2x4x128 : Shape := ⟨5, ![1, 64, 2, 4, 128]⟩
abbrev S1x64x2x4x128x1 : Shape := ⟨6, ![1, 64, 2, 4, 128, 1]⟩
abbrev S1x64x2x128x4x128 : Shape := ⟨6, ![1, 64, 2, 128, 4, 128]⟩
abbrev S64x2x4x128 : Shape := ⟨4, ![64, 2, 4, 128]⟩
abbrev S8192x1024 : Shape := ⟨2, ![8192, 1024]⟩

abbrev nBuf : Space → Nat
  | .hbm => 158
  | .vmem => 0
  | .smem => 0
  | _ => 0

abbrev hbmTy0_0 (i : Nat) : BufTy := match i % 128 with
  | 0 => ⟨S1x8192x8x128, .f32⟩
  | 1 => ⟨S1x8192x2x128, .f32⟩
  | 2 => ⟨S1x8192x2x128, .f32⟩
  | 3 => ⟨S1x8192x1024, .f32⟩
  | 4 => ⟨S8, .f32⟩
  | 5 => ⟨S1x64x128x2x4x128, .f32⟩
  | 6 => ⟨S_, .f32⟩
  | 7 => ⟨S1x128x2x128, .f32⟩
  | 8 => ⟨S1x8448x2x128, .f32⟩
  | 9 => ⟨S1x66x128x2x128, .f32⟩
  | 10 => ⟨S1x64x128x2x128, .f32⟩
  | 11 => ⟨S1x64x128x2x128, .f32⟩
  | 12 => ⟨S1x64x128x2x128, .f32⟩
  | 13 => ⟨S1x64x384x2x128, .f32⟩
  | 14 => ⟨S_, .f32⟩
  | 15 => ⟨S1x128x2x128, .f32⟩
  | 16 => ⟨S1x8448x2x128, .f32⟩
  | 17 => ⟨S1x66x128x2x128, .f32⟩
  | 18 => ⟨S1x64x128x2x128, .f32⟩
  | 19 => ⟨S1x64x128x2x128, .f32⟩
  | 20 => ⟨S1x64x128x2x128, .f32⟩
  | 21 => ⟨S1x64x384x2x128, .f32⟩
  | 22 => ⟨S1x64x2x384x128x4, .f32⟩
  | 23 => ⟨S1x64x2x4x128x384, .f32⟩
  | 24 => ⟨S_, .f32⟩
  | 25 => ⟨S1x64x2x4x128x384, .f32⟩
  | 26 => ⟨S1x64x2x4x128x384, .f32⟩
  | 27 => ⟨S64, .i32⟩
  | 28 => ⟨S64x1x1, .i32⟩
  | 29 => ⟨S_, .i32⟩
  | 30 => ⟨S64x1x1, .i32⟩
  | 31 => ⟨S64x1x1, .i32⟩
  | 32 => ⟨S128, .i32⟩
  | 33 => ⟨S1x128x1, .i32⟩
  | 34 => ⟨S64x128x1, .i32⟩
  | 35 => ⟨S64x128x1, .i32⟩
  | 36 => ⟨S64x128x1, .i32⟩
  | 37 => ⟨S_, .i32⟩
  | 38 => ⟨S64x1x1, .i32⟩
  | 39 => ⟨S64x1x1, .i32⟩
  | 40 => ⟨S384, .i32⟩
  | 41 => ⟨S1x1x384, .i32⟩
  | 42 => ⟨S64x1x384, .i32⟩
  | 43 => ⟨S64x1x384, .i32⟩
  | 44 => ⟨S64x1x384, .i32⟩
  | 45 => ⟨S64x128x384, .i32⟩
  | 46 => ⟨S64x128x384, .i32⟩
  | 47 => ⟨S64x128x384, .i32⟩
  | 48 => ⟨S64x128x384, .i32⟩
  | 49 => ⟨S_, .i32⟩
  | 50 => ⟨S64x128x384, .i32⟩
  | 51 => ⟨S64x128x384, .i1⟩
  | 52 => ⟨S_, .i32⟩
  | 53 => ⟨S64x1x384, .i32⟩
  | 54 => ⟨S64x1x384, .i1⟩
  | 55 => ⟨S64x128x384, .i1⟩
  | 56 => ⟨S64x128x384, .i1⟩
  | 57 => ⟨S_, .i32⟩
  | 58 => ⟨S64x1x384, .i32⟩
  | 59 => ⟨S64x1x384, .i1⟩
  | 60 => ⟨S64x128x384, .i1⟩
  | 61 => ⟨S64x128x384, .i1⟩
  | 62 => ⟨S1x64x1x1x128x384, .i1⟩
  | 63 => ⟨S_, .f32⟩
  | 64 => ⟨S_, .f32⟩
  | 65 => ⟨S1x64x2x4x128x384, .i1⟩
  | 66 => ⟨S1x64x2x4x128x384, .f32⟩
  | 67 => ⟨S1x64x2x4x128x384, .f32⟩
  | 68 => ⟨S_, .f32⟩
  | 69 => ⟨S1x64x2x4x128x384, .f32⟩
  | 70 => ⟨S2x4, .f32⟩
  | 71 => ⟨S1x1x2x4x1x1, .f32⟩
  | 72 => ⟨S_, .f32⟩
  | 73 => ⟨S1x64x2x4x128, .f32⟩
  | 74 => ⟨S1x64x2x4x128x1, .f32⟩
  | 75 => ⟨S1x64x2x4x128x384, .f32⟩
  | 76 => ⟨S1x64x2x4x128x384, .i1⟩
  | 77 => ⟨S1x64x2x4x128x384, .f32⟩
  | 78 => ⟨S_, .f32⟩
  | 79 => ⟨S1x64x2x4x128, .f32⟩
  | 80 => ⟨S1x64x2x4x128x1, .f32⟩
  | 81 => ⟨S1x64x2x4x128x1, .f32⟩
  | 82 => ⟨S1x64x2x4x128x1, .f32⟩
  | 83 => ⟨S1x64x2x4x128x1, .f32⟩
  | 84 => ⟨S1x64x2x4x128x1, .i1⟩
  | 85 => ⟨S1x64x2x4x128x1, .f32⟩
  | 86 => ⟨S1x64x2x4x128x1, .i1⟩
  | 87 => ⟨S_, .f32⟩
  | 88 => ⟨S1x64x2x4x128x1, .f32⟩
  | 89 => ⟨S_, .f32⟩
  | 90 => ⟨S1x64x2x4x128x1, .f32⟩
  | 91 => ⟨S_, .f32⟩
  | 92 => ⟨S1x64x2x4x128x1, .f32⟩
  | 93 => ⟨S1x64x2x4x128x1, .f32⟩
  | 94 => ⟨S1x64x2x4x128x1, .f32⟩
  | 95 => ⟨S1x64x2x4x128x384, .f32⟩
  | 96 => ⟨S1x64x2x4x128x384, .f32⟩
  | 97 => ⟨S1x64x2x4x128x384, .f32⟩
  | 98 => ⟨S_, .f32⟩
  | 99 => ⟨S1x64x2x4x128, .f32⟩
  | 100 => ⟨S1x64x2x4x128x1, .f32⟩
  | 101 => ⟨S1x64x2x4x128x1, .f32⟩
  | 102 => ⟨S1x64x2x4x128x1, .f32⟩
  | 103 => ⟨S1x64x2x4x128x1, .f32⟩
  | 104 => ⟨S1x64x2x4x128x1, .f32⟩
  | 105 => ⟨S1x64x2x4x128x384, .f32⟩
  | 106 => ⟨S1x64x2x4x128x384, .f32⟩
  | 107 => ⟨S1x64x2x4x128x1, .f32⟩
  | 108 => ⟨S_, .f32⟩
  | 109 => ⟨S1x64x2x4x128x1, .f32⟩
  | 110 => ⟨S1x64x2x4x128x1, .f32⟩
  | 111 => ⟨S1x64x2x128x4x128, .f32⟩
  | 112 => ⟨S1x64x128x2x4x128, .f32⟩
  | 113 => ⟨S1x8192x1024, .f32⟩
  | 114 => ⟨S1x64x128x2x4x128, .f32⟩
  | 115 => ⟨S1x64x2x128x4x128, .f32⟩
  | 116 => ⟨S1x64x2x4x128x384, .f32⟩
  | 117 => ⟨S1x64x2x4x128x384, .f32⟩
  | 118 => ⟨S1x64x2x4x128x384, .f32⟩
  | 119 => ⟨S1x64x2x4x128x384, .f32⟩
  | 120 => ⟨S_, .f32⟩
  | 121 => ⟨S1x64x2x4x128, .f32⟩
  | 122 => ⟨S1x64x2x4x128x1, .f32⟩
  | 123 => ⟨S1x64x2x4x128x1, .f32⟩
  | 124 => ⟨S1x64x2x4x128x384, .f32⟩
  | 125 => ⟨S1x64x2x4x128x384, .f32⟩
  | 126 => ⟨S1x64x2x4x128x1, .f32⟩
  | 127 => ⟨S1x64x2x4x128x1, .f32⟩
  | _ => ⟨S1x8192x8x128, .f32⟩

abbrev hbmTy0_1 (i : Nat) : BufTy := match i % 128 with
  | 0 => ⟨S_, .f32⟩
  | 1 => ⟨S64x2x4x128, .f32⟩
  | 2 => ⟨S1x64x2x4x128, .f32⟩
  | 3 => ⟨S1x64x2x4x128x384, .f32⟩
  | 4 => ⟨S1x64x2x4x128x384, .f32⟩
  | 5 => ⟨S1x64x2x4x128x384, .f32⟩
  | 6 => ⟨S1x64x2x4x128x384, .f32⟩
  | 7 => ⟨S_, .f32⟩
  | 8 => ⟨S1x64x2x4x128, .f32⟩
  | 9 => ⟨S1x64x2x4x128x1, .f32⟩
  | 10 => ⟨S1x64x2x4x128x1, .f32⟩
  | 11 => ⟨S1x64x2x4x128x1, .f32⟩
  | 12 => ⟨S_, .f32⟩
  | 13 => ⟨S64x2x4x128, .f32⟩
  | 14 => ⟨S1x64x2x4x128, .f32⟩
  | 15 => ⟨S1x64x2x4x128, .f32⟩
  | 16 => ⟨S1x64x2x4x128x384, .f32⟩
  | 17 => ⟨S1x64x2x4x128x384, .f32⟩
  | 18 => ⟨S1x64x2x4x128x384, .f32⟩
  | 19 => ⟨S_, .f32⟩
  | 20 => ⟨S1x64x2x4x128x384, .f32⟩
  | 21 => ⟨S1x64x2x4x128x384, .f32⟩
  | 22 => ⟨S_, .f32⟩
  | 23 => ⟨S1x64x2x4x128x384, .f32⟩
  | 24 => ⟨S1x64x2x4x128x384, .f32⟩
  | 25 => ⟨S1x64x2x384x128x4, .f32⟩
  | 26 => ⟨S1x64x2x128x4x128, .f32⟩
  | 27 => ⟨S1x64x128x2x4x128, .f32⟩
  | 28 => ⟨S1x8192x8x128, .f32⟩
  | 29 => ⟨S8192x1024, .f32⟩
  | _ => ⟨S1x8192x8x128, .f32⟩

abbrev hbmTy (i : Nat) : BufTy := match i / 128 with
  | 0 => hbmTy0_0 i
  | 1 => hbmTy0_1 i
  | _ => ⟨S1x8192x8x128, .f32⟩

abbrev bufTy : (tb : Table) → Fin (tcTables nBuf tb) → BufTy
  | .hbm, ⟨i, _⟩ => hbmTy i
  | _, _ => ⟨S1x8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_3 : Ref sig .tc := ⟨.hbm, 49, rfl⟩
abbrev main_v39 : Ref sig .tc := ⟨.hbm, 50, rfl⟩
abbrev main_v40 : Ref sig .tc := ⟨.hbm, 51, rfl⟩
abbrev main_c_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_c_5 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_call0_v0 : Ref sig .tc := ⟨.hbm, 64, rfl⟩
abbrev main_v50_1 : Ref sig .tc := ⟨.hbm, 65, rfl⟩
abbrev main_call0_v2 : Ref sig .tc := ⟨.hbm, 66, rfl⟩
abbrev main_v50_0 : Ref sig .tc := ⟨.hbm, 67, rfl⟩
abbrev main_call0_cst : Ref sig .tc := ⟨.hbm, 68, rfl⟩
abbrev main_v50_2 : Ref sig .tc := ⟨.hbm, 69, rfl⟩
abbrev main_v51 : Ref sig .tc := ⟨.hbm, 70, rfl⟩
abbrev main_v52 : Ref sig .tc := ⟨.hbm, 71, rfl⟩
abbrev main_cst_7 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_8 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_9 : Ref sig .tc := ⟨.hbm, 87, rfl⟩
abbrev main_v66 : Ref sig .tc := ⟨.hbm, 88, rfl⟩
abbrev main_cst_10 : Ref sig .tc := ⟨.hbm, 89, rfl⟩
abbrev main_v67 : Ref sig .tc := ⟨.hbm, 90, rfl⟩
abbrev main_cst_11 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_12 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_13 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_14 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_cst_15 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_16 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_cst_17 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_call1_cst : Ref sig .tc := ⟨.hbm, 147, rfl⟩
abbrev main_call1_v0 : Ref sig .tc := ⟨.hbm, 148, rfl⟩
abbrev main_v117 : Ref sig .tc := ⟨.hbm, 149, rfl⟩
abbrev main_cst_18 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩

abbrev nD : Nat := 1
abbrev τ : Topo := Topo.v7x

variable {F : FTy → Type} [FloatOps F]
-- ==== AttnFwd.lean ====
abbrev S1x8192x8x128 : Shape := ⟨4, ![1, 8192, 8, 128]⟩
abbrev S1x8192x2x128 : Shape := ⟨4, ![1, 8192, 2, 128]⟩
abbrev S8 : Shape := ⟨1, ![8]⟩
abbrev S8192x1024 : Shape := ⟨2, ![8192, 1024]⟩
abbrev S8192x256 : Shape := ⟨2, ![8192, 256]⟩
abbrev S1x8 : Shape := ⟨2, ![1, 8]⟩
abbrev S512x1024 : Shape := ⟨2, ![512, 1024]⟩
abbrev S128x256 : Shape := ⟨2, ![128, 256]⟩
abbrev S512x256 : Shape := ⟨2, ![512, 256]⟩
abbrev S768x256 : Shape := ⟨2, ![768, 256]⟩
abbrev S512x384 : Shape := ⟨2, ![512, 384]⟩
abbrev S128x128 : Shape := ⟨2, ![128, 128]⟩
abbrev S512x128 : Shape := ⟨2, ![512, 128]⟩
abbrev S384x128 : Shape := ⟨2, ![384, 128]⟩
abbrev S512x1 : Shape := ⟨2, ![512, 1]⟩
abbrev S1x1 : Shape := ⟨2, ![1, 1]⟩
abbrev S512 : Shape := ⟨1, ![512]⟩

abbrev nBuf : Space → Nat
  | .hbm => 12
  | .vmem => 16
  | .smem => 1
  | _ => 0

abbrev bufTy : (tb : Table) → Fin (tcTables nBuf tb) → BufTy
  | .hbm, ⟨0, _⟩ => ⟨S1x8192x8x128, .f32⟩
  | .hbm, ⟨1, _⟩ => ⟨S1x8192x2x128, .f32⟩
  | .hbm, ⟨2, _⟩ => ⟨S1x8192x2x128, .f32⟩
  | .hbm, ⟨3, _⟩ => ⟨S8, .f32⟩
  | .hbm, ⟨4, _⟩ => ⟨S8192x1024, .f32⟩
  | .hbm, ⟨5, _⟩ => ⟨S8192x1024, .bf16⟩
  | .hbm, ⟨6, _⟩ => ⟨S8192x256, .f32⟩
  | .hbm, ⟨7, _⟩ => ⟨S8192x256, .bf16⟩
  | .hbm, ⟨8, _⟩ => ⟨S8192x256, .f32⟩
  | .hbm, ⟨9, _⟩ => ⟨S8192x256, .bf16⟩
  | .hbm, ⟨10, _⟩ => ⟨S1x8, .f32⟩
  | .hbm, ⟨11, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S128x256, .bf16⟩
  | .local _ .vmem, ⟨3, _⟩ => ⟨S128x256, .bf16⟩
  | .local _ .vmem, ⟨4, _⟩ => ⟨S512x256, .bf16⟩
  | .local _ .vmem, ⟨5, _⟩ => ⟨S512x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S512x256, .bf16⟩
  | .local _ .vmem, ⟨11, _⟩ => ⟨S512x256, .bf16⟩
  | .local _ .vmem, ⟨12, _⟩ => ⟨S128x256, .bf16⟩
  | .local _ .vmem, ⟨13, _⟩ => ⟨S128x256, .bf16⟩
  | .local _ .vmem, ⟨14, _⟩ => ⟨S512x1024, .bf16⟩
  | .local _ .vmem, ⟨15, _⟩ => ⟨S512x1024, .bf16⟩
  | .local _ .smem, ⟨0, _⟩ => ⟨S1x8, .f32⟩
  | _, _ => ⟨S1x8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli c4_i32 v0
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli c4_i32 v0
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnFwdIdeal.lean ====
variable {F : FTy → Type} [FloatOps F] [Named F]
def κ : String → Option EReal := fun
  | "mask" => some ⊥
  | _ => none
-- ==== AttnFwdRefIdeal.lean ====
abbrev S1x8192x8x128 : Shape := ⟨4, ![1, 8192, 8, 128]⟩
abbrev S1x8192x2x128 : Shape := ⟨4, ![1, 8192, 2, 128]⟩
abbrev S8 : Shape := ⟨1, ![8]⟩
abbrev S1x64x128x2x4x128 : Shape := ⟨6, ![1, 64, 128, 2, 4, 128]⟩
abbrev S_ : Shape := ⟨0, ![]⟩
abbrev S1x128x2x128 : Shape := ⟨4, ![1, 128, 2, 128]⟩
abbrev S1x8448x2x128 : Shape := ⟨4, ![1, 8448, 2, 128]⟩
abbrev S1x66x128x2x128 : Shape := ⟨5, ![1, 66, 128, 2, 128]⟩
abbrev S1x64x128x2x128 : Shape := ⟨5, ![1, 64, 128, 2, 128]⟩
abbrev S1x64x384x2x128 : Shape := ⟨5, ![1, 64, 384, 2, 128]⟩
abbrev S1x64x2x384x128x4 : Shape := ⟨6, ![1, 64, 2, 384, 128, 4]⟩
abbrev S1x64x2x4x128x384 : Shape := ⟨6, ![1, 64, 2, 4, 128, 384]⟩
abbrev S64 : Shape := ⟨1, ![64]⟩
abbrev S64x1x1 : Shape := ⟨3, ![64, 1, 1]⟩
abbrev S128 : Shape := ⟨1, ![128]⟩
abbrev S1x128x1 : Shape := ⟨3, ![1, 128, 1]⟩
abbrev S64x128x1 : Shape := ⟨3, ![64, 128, 1]⟩
abbrev S384 : Shape := ⟨1, ![384]⟩
abbrev S1x1x384 : Shape := ⟨3, ![1, 1, 384]⟩
abbrev S64x1x384 : Shape := ⟨3, ![64, 1, 384]⟩
abbrev S64x128x384 : Shape := ⟨3, ![64, 128, 384]⟩
abbrev S1x64x1x1x128x384 : Shape := ⟨6, ![1, 64, 1, 1, 128, 384]⟩
abbrev S2x4 : Shape := ⟨2, ![2, 4]⟩
abbrev S1x1x2x4x1x1 : Shape := ⟨6, ![1, 1, 2, 4, 1, 1]⟩
abbrev S1x64x2x4x128 : Shape := ⟨5, ![1, 64, 2, 4, 128]⟩
abbrev S1x64x2x4x128x1 : Shape := ⟨6, ![1, 64, 2, 4, 128, 1]⟩
abbrev S1x64x2x128x4x128 : Shape := ⟨6, ![1, 64, 2, 128, 4, 128]⟩
abbrev S1x8192x1024 : Shape := ⟨3, ![1, 8192, 1024]⟩
abbrev S8192x1024 : Shape := ⟨2, ![8192, 1024]⟩

abbrev nBuf : Space → Nat
  | .hbm => 91
  | .vmem => 0
  | .smem => 0
  | _ => 0

abbrev bufTy : (tb : Table) → Fin (tcTables nBuf tb) → BufTy
  | .hbm, ⟨0, _⟩ => ⟨S1x8192x8x128, .f32⟩
  | .hbm, ⟨1, _⟩ => ⟨S1x8192x2x128, .f32⟩
  | .hbm, ⟨2, _⟩ => ⟨S1x8192x2x128, .f32⟩
  | .hbm, ⟨3, _⟩ => ⟨S8, .f32⟩
  | .hbm, ⟨4, _⟩ => ⟨S1x64x128x2x4x128, .f32⟩
  | .hbm, ⟨5, _⟩ => ⟨S_, .f32⟩
  | .hbm, ⟨6, _⟩ => ⟨S1x128x2x128, .f32⟩
  | .hbm, ⟨7, _⟩ => ⟨S1x8448x2x128, .f32⟩
  | .hbm, ⟨8, _⟩ => ⟨S1x66x128x2x128, .f32⟩
  | .hbm, ⟨9, _⟩ => ⟨S1x64x128x2x128, .f32⟩
  | .hbm, ⟨10, _⟩ => ⟨S1x64x128x2x128, .f32⟩
  | .hbm, ⟨11, _⟩ => ⟨S1x64x128x2x128, .f32⟩
  | .hbm, ⟨12, _⟩ => ⟨S1x64x384x2x128, .f32⟩
  | .hbm, ⟨13, _⟩ => ⟨S_, .f32⟩
  | .hbm, ⟨14, _⟩ => ⟨S1x128x2x128, .f32⟩
  | .hbm, ⟨15, _⟩ => ⟨S1x8448x2x128, .f32⟩
  | .hbm, ⟨16, _⟩ => ⟨S1x66x128x2x128, .f32⟩
  | .hbm, ⟨17, _⟩ => ⟨S1x64x128x2x128, .f32⟩
  | .hbm, ⟨18, _⟩ => ⟨S1x64x128x2x128, .f32⟩
  | .hbm, ⟨19, _⟩ => ⟨S1x64x128x2x128, .f32⟩
  | .hbm, ⟨20, _⟩ => ⟨S1x64x384x2x128, .f32⟩
  | .hbm, ⟨21, _⟩ => ⟨S1x64x2x384x128x4, .f32⟩
  | .hbm, ⟨22, _⟩ => ⟨S1x64x2x4x128x384, .f32⟩
  | .hbm, ⟨23, _⟩ => ⟨S_, .f32⟩
  | .hbm, ⟨24, _⟩ => ⟨S1x64x2x4x128x384, .f32⟩
  | .hbm, ⟨25, _⟩ => ⟨S1x64x2x4x128x384, .f32⟩
  | .hbm, ⟨26, _⟩ => ⟨S64, .i32⟩
  | .hbm, ⟨27, _⟩ => ⟨S64x1x1, .i32⟩
  | .hbm, ⟨28, _⟩ => ⟨S_, .i32⟩
  | .hbm, ⟨29, _⟩ => ⟨S64x1x1, .i32⟩
  | .hbm, ⟨30, _⟩ => ⟨S64x1x1, .i32⟩
  | .hbm, ⟨31, _⟩ => ⟨S128, .i32⟩
  | .hbm, ⟨32, _⟩ => ⟨S1x128x1, .i32⟩
  | .hbm, ⟨33, _⟩ => ⟨S64x128x1, .i32⟩
  | .hbm, ⟨34, _⟩ => ⟨S64x128x1, .i32⟩
  | .hbm, ⟨35, _⟩ => ⟨S64x128x1, .i32⟩
  | .hbm, ⟨36, _⟩ => ⟨S_, .i32⟩
  | .hbm, ⟨37, _⟩ => ⟨S64x1x1, .i32⟩
  | .hbm, ⟨38, _⟩ => ⟨S64x1x1, .i32⟩
  | .hbm, ⟨39, _⟩ => ⟨S384, .i32⟩
  | .hbm, ⟨40, _⟩ => ⟨S1x1x384, .i32⟩
  | .hbm, ⟨41, _⟩ => ⟨S64x1x384, .i32⟩
  | .hbm, ⟨42, _⟩ => ⟨S64x1x384, .i32⟩
  | .hbm, ⟨43, _⟩ => ⟨S64x1x384, .i32⟩
  | .hbm, ⟨44, _⟩ => ⟨S64x128x384, .i32⟩
  | .hbm, ⟨45, _⟩ => ⟨S64x128x384, .i32⟩
  | .hbm, ⟨46, _⟩ => ⟨S64x128x384, .i32⟩
  | .hbm, ⟨47, _⟩ => ⟨S64x128x384, .i32⟩
  | .hbm, ⟨48, _⟩ => ⟨S_, .i32⟩
  | .hbm, ⟨49, _⟩ => ⟨S64x128x384, .i32⟩
  | .hbm, ⟨50, _⟩ => ⟨S64x128x384, .i1⟩
  | .hbm, ⟨51, _⟩ => ⟨S_, .i32⟩
  | .hbm, ⟨52, _⟩ => ⟨S64x1x384, .i32⟩
  | .hbm, ⟨53, _⟩ => ⟨S64x1x384, .i1⟩
  | .hbm, ⟨54, _⟩ => ⟨S64x128x384, .i1⟩
  | .hbm, ⟨55, _⟩ => ⟨S64x128x384, .i1⟩
  | .hbm, ⟨56, _⟩ => ⟨S_, .i32⟩
  | .hbm, ⟨57, _⟩ => ⟨S64x1x384, .i32⟩
  | .hbm, ⟨58, _⟩ => ⟨S64x1x384, .i1⟩
  | .hbm, ⟨59, _⟩ => ⟨S64x128x384, .i1⟩
  | .hbm, ⟨60, _⟩ => ⟨S64x128x384, .i1⟩
  | .hbm, ⟨61, _⟩ => ⟨S1x64x1x1x128x384, .i1⟩
  | .hbm, ⟨62, _⟩ => ⟨S_, .f32⟩
  | .hbm, ⟨63, _⟩ => ⟨S_, .f32⟩
  | .hbm, ⟨64, _⟩ => ⟨S1x64x2x4x128x384, .i1⟩
  | .hbm, ⟨65, _⟩ => ⟨S1x64x2x4x128x384, .f32⟩
  | .hbm, ⟨66, _⟩ => ⟨S1x64x2x4x128x384, .f32⟩
  | .hbm, ⟨67, _⟩ => ⟨S2x4, .f32⟩
  | .hbm, ⟨68, _⟩ => ⟨S1x1x2x4x1x1, .f32⟩
  | .hbm, ⟨69, _⟩ => ⟨S_, .f32⟩
  | .hbm, ⟨70, _⟩ => ⟨S1x64x2x4x128, .f32⟩
  | .hbm, ⟨71, _⟩ => ⟨S1x64x2x4x128x1, .f32⟩
  | .hbm, ⟨72, _⟩ => ⟨S1x64x2x4x128x1, .f32⟩
  | .hbm, ⟨73, _⟩ => ⟨S1x64x2x4x128x1, .f32⟩
  | .hbm, ⟨74, _⟩ => ⟨S1x64x2x4x128x384, .f32⟩
  | .hbm, ⟨75, _⟩ => ⟨S1x64x2x4x128x384, .f32⟩
  | .hbm, ⟨76, _⟩ => ⟨S1x64x2x4x128x384, .f32⟩
  | .hbm, ⟨77, _⟩ => ⟨S_, .f32⟩
  | .hbm, ⟨78, _⟩ => ⟨S1x64x2x4x128, .f32⟩
  | .hbm, ⟨79, _⟩ => ⟨S1x64x2x4x128x1, .f32⟩
  | .hbm, ⟨80, _⟩ => ⟨S1x64x2x4x128x1, .f32⟩
  | .hbm, ⟨81, _⟩ => ⟨S1x64x2x4x128x1, .f32⟩
  | .hbm, ⟨82, _⟩ => ⟨S1x64x2x4x128x1, .f32⟩
  | .hbm, ⟨83, _⟩ => ⟨S1x64x2x4x128x1, .f32⟩
  | .hbm, ⟨84, _⟩ => ⟨S1x64x2x4x128x384, .f32⟩
  | .hbm, ⟨85, _⟩ => ⟨S1x64x2x4x128x384, .f32⟩
  | .hbm, ⟨86, _⟩ => ⟨S1x64x2x128x4x128, .f32⟩
  | .hbm, ⟨87, _⟩ => ⟨S1x64x128x2x4x128, .f32⟩
  | .hbm, ⟨88, _⟩ => ⟨S1x8192x1024, .f32⟩
  | .hbm, ⟨89, _⟩ => ⟨S8192x1024, .f32⟩
  | .hbm, ⟨90, _⟩ => ⟨S8192x1024, .bf16⟩
  | _, _ => ⟨S1x8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_c_3 : Ref sig .tc := ⟨.hbm, 48, rfl⟩
abbrev main_v39 : Ref sig .tc := ⟨.hbm, 49, rfl⟩
abbrev main_v40 : Ref sig .tc := ⟨.hbm, 50, rfl⟩
abbrev main_c_4 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_c_5 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_6 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_8 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩

abbrev nD : Nat := 1
abbrev τ : Topo := Topo.v7x

variable {F : FTy → Type} [FloatOps F]
-- ==== Proof.PostRun.lean ====
module

public import proofs.«01_k».proof.Proof.Gen.PostIdeal.Frame

@[expose] public section

set_option maxRecDepth 16384

noncomputable section

namespace Cert.PostIdeal.Arr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PostIdeal Cert.PostIdeal.Gen

variable {F : FTy → Type} [FloatOps F] (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every array of the device that is not a region's own ends at the fold of the host operations and the two regions. -/
theorem run_sems : θ_run defs (onTc (τ := τ) (main (F := F))) ⟨m, fun _ => 0, ρ⟩ (fun r => (∀ c : Dev nD,
    ∀ b ∈ Pipeline.ucRefs τ sig, r.2.mem (((c : Thread nD τ)).1, b) = W6 m ρ c b) ∧ r.2.sem = fun _ => 0) :=
  Pipeline.θ_run_regions_kit_sems (pcfgs (F := F)) adm (pdats m ρ) () cellOf_inj emb₁
    defs₀ 𝒱₀ L lv m ρ main (segs m ρ) (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

end Cert.PostIdeal.Arr

end
-- ==== Proof.Rows.lean ====
module

public import Idealize.ShloMosaic.Lib.Pointwise
public import Idealize.ShloMosaic.Lib.WritesUnit
public import Idealize.ShloMosaic.Lib.Pipeline.ValueKit

@[expose] public section

set_option maxRecDepth 16384

noncomputable section

/-! Single rows stored in, and loaded from, a buffer of `R` rows and `n` columns: what an element reads. -/

namespace Cert.Rows

open Idealize.ShloMosaic

open Idealize.ShloMosaic.View (Piece)

variable {Val : EltTy → Type} {e : EltTy} {R n r : ℕ}

/-- Row `r` of a buffer of `R` rows and `n` columns. -/
abbrev RowFits (R n r : ℕ) : Prop := ∀ a, (![r, 0] : Fin 2 → ℕ) a + (![1, n] : Fin 2 → ℕ) a ≤ (⟨2, ![R, n]⟩ : Shape).size a

/-- The index `(0, k)` of a row's rectangle. -/
abbrev rowIx (h : RowFits R n r) (k : Fin n) : (Rect.unit (s := ⟨2, ![R, n]⟩) ![r, 0] ![1, n] h).shape.Idx :=
  (ix2 0 k : (⟨2, ![1, n]⟩ : Shape).Idx)

theorem rowIx_emb (h : RowFits R n r) (y : (⟨2, ![R, n]⟩ : Shape).Idx) (hy : (y 0).val = r) :
    (Rect.unit (s := ⟨2, ![R, n]⟩) ![r, 0] ![1, n] h).emb (rowIx h (y 1)) = y := by
  funext a
  refine Fin.ext ?_
  rw [Rect.emb_apply]
  revert a
  refine Fin.forall_fin_two.mpr ⟨?_, ?_⟩
  · simp [hy]
  · simp [rowIx]

/-- An element after a row's store: the store's on that row, the earlier stores' elsewhere. -/
theorem canon_row [∀ e, Nonempty (Val e)] (h : RowFits R n r)
    (w : (Rect.unit (s := ⟨2, ![R, n]⟩) ![r, 0] ![1, n] h).shape.Idx → Val e) (L : List (Piece Val (⟨2, ![R, n]⟩ : Shape) e))
    (y : (⟨2, ![R, n]⟩ : Shape).Idx) :
    View.canon (⟨Rect.unit (s := ⟨2, ![R, n]⟩) ![r, 0] ![1, n] h, w⟩ :: L) y
      = if (y 0).val = r then w (rowIx h (y 1)) else View.canon L y := by
  split
  next hy => conv_lhs => rw [← rowIx_emb h y hy]
             exact View.canon_cons_emb ..
  next hy =>
    refine View.canon_cons_of_not_mem _ _ fun hm => hy ?_
    have h0 := (Rect.mem_set_unit (s := ⟨2, ![R, n]⟩) (inb := h)).mp hm (0 : Fin 2)
    simp at h0
    omega

/-- After a store of the whole buffer an element is that store's. -/
theorem canon_whole [∀ e, Nonempty (Val e)] (h : ∀ a, (![0, 0] : Fin 2 → ℕ) a + (![R, n] : Fin 2 → ℕ) a ≤ (⟨2, ![R, n]⟩ : Shape).size a)
    (w : (⟨2, ![R, n]⟩ : Shape).Idx → Val e) (L : List (Piece Val (⟨2, ![R, n]⟩ : Shape) e)) :
    View.canon (⟨Rect.unit (s := ⟨2, ![R, n]⟩) ![0, 0] ![R, n] h, w⟩ :: L) = w :=
  View.canon_cons_unit_lit (S := ⟨2, ![R, n]⟩) h w L (Fin.forall_fin_two.mpr ⟨rfl, rfl⟩)

/-- A loaded row's element is the buffer's. -/
theorem readCov_row [∀ e, Nonempty (Val e)] {sig : RefSig} {κ : Kind} {sp : Space} (v : View sig κ sp ⟨2, ![R, n]⟩ e)
    (h : RowFits R n r) (hr : r < R) (L : List (Piece Val (⟨2, ![R, n]⟩ : Shape) e))
    (x : (Rect.unit (s := ⟨2, ![R, n]⟩) ![r, 0] ![1, n] h).toLoadRect.shape.Idx) :
    v.readCov L (Rect.unit (s := ⟨2, ![R, n]⟩) ![r, 0] ![1, n] h).toLoadRect x
      = View.canon L (ix2 (⟨r, hr⟩ : Fin R) (x (1 : Fin 2))) := by
  rw [View.readCov_eq_canon']
  refine congrArg (View.canon L) ?_
  funext a
  refine Fin.ext ?_
  revert a
  refine Fin.forall_fin_two.mpr ⟨?_, ?_⟩
  · have := (x (0 : Fin 2)).isLt
    simp at this ⊢
  · simp

/-- `canon_row` for the stores made into a buffer that held `f`. -/
theorem read_writes_row {sig : RefSig} {κ : Kind} {sp : Space} (v : View sig κ sp ⟨2, ![R, n]⟩ e) (f : v.ty.Contents Val)
    (h : RowFits R n r) (w : (Rect.unit (s := ⟨2, ![R, n]⟩) ![r, 0] ![1, n] h).shape.Idx → Val e)
    (L : List (Piece Val (⟨2, ![R, n]⟩ : Shape) e)) (y : (⟨2, ![R, n]⟩ : Shape).Idx) :
    v.read Val (v.writes Val f (⟨Rect.unit (s := ⟨2, ![R, n]⟩) ![r, 0] ![1, n] h, w⟩ :: L)) y
      = if (y 0).val = r then w (rowIx h (y 1)) else v.read Val (v.writes Val f L) y := by
  split
  next hy => exact View.read_writes_cons_rows_of_mem v f h w L y _ rfl hy rfl
  next hy => exact View.read_writes_cons_rows_of_not_mem v f h w L y (W := 1) rfl rfl (by omega)

/-- Columns `o … o + w` of a buffer of `R` rows and `n` columns. -/
abbrev ColsFit (R n o w : ℕ) : Prop := ∀ a, (![0, o] : Fin 2 → ℕ) a + (![R, w] : Fin 2 → ℕ) a ≤ (⟨2, ![R, n]⟩ : Shape).size a

/-- The index `(a, k)` of a column band's rectangle. -/
abbrev colIx {o w : ℕ} (h : ColsFit R n o w) (a : Fin R) (k : Fin w) : (Rect.unit (s := ⟨2, ![R, n]⟩) ![0, o] ![R, w] h).shape.Idx :=
  (ix2 a k : (⟨2, ![R, w]⟩ : Shape).Idx)

/-- An element after a store of whole columns: the store's on those columns, the earlier stores' elsewhere. -/
theorem canon_cols [∀ e, Nonempty (Val e)] {o w : ℕ} (h : ColsFit R n o w)
    (f : (Rect.unit (s := ⟨2, ![R, n]⟩) ![0, o] ![R, w] h).shape.Idx → Val e) (L : List (Piece Val (⟨2, ![R, n]⟩ : Shape) e))
    (a : Fin R) (k : Fin n) :
    View.canon (⟨Rect.unit (s := ⟨2, ![R, n]⟩) ![0, o] ![R, w] h, f⟩ :: L) (ix2 a k)
      = if hk : o ≤ k.val ∧ k.val - o < w then f (colIx h a ⟨k.val - o, hk.2⟩) else View.canon L (ix2 a k) := by
  split
  next hk =>
    have : (Rect.unit (s := ⟨2, ![R, n]⟩) ![0, o] ![R, w] h).emb (colIx h a ⟨k.val - o, hk.2⟩) = ix2 a k := by
      funext i
      refine Fin.ext ?_
      rw [Rect.emb_apply]
      revert i
      refine Fin.forall_fin_two.mpr ⟨?_, ?_⟩
      · simp [colIx]
      · simp [colIx]; omega
    conv_lhs => rw [← this]
    exact View.canon_cons_emb ..
  next hk =>
    refine View.canon_cons_of_not_mem _ _ fun hm => hk ?_
    have h1 := (Rect.mem_set_unit (s := ⟨2, ![R, n]⟩) (inb := h)).mp hm (1 : Fin 2)
    simp at h1
    omega

/-- An element after a store of whole columns has the value `v` where the store's has it on those columns and the earlier
    stores' has it elsewhere. -/
theorem canon_cols_step [∀ e, Nonempty (Val e)] {o w : ℕ} (h : ColsFit R n o w)
    (f : (Rect.unit (s := ⟨2, ![R, n]⟩) ![0, o] ![R, w] h).shape.Idx → Val e) (L : List (Piece Val (⟨2, ![R, n]⟩ : Shape) e))
    (a : Fin R) (k : Fin n) (v : Val e) (hf : ∀ hk : o ≤ k.val ∧ k.val - o < w, f (colIx h a ⟨k.val - o, hk.2⟩) = v)
    (hL : ¬(o ≤ k.val ∧ k.val - o < w) → View.canon L (ix2 a k) = v) :
    View.canon (⟨Rect.unit (s := ⟨2, ![R, n]⟩) ![0, o] ![R, w] h, f⟩ :: L) (ix2 a k) = v := by
  rw [canon_cols]
  split
  next hk => exact hf hk
  next hk => exact hL hk

/-- An index by its row's number and its column. -/
theorem ix2_row (j : (⟨2, ![R, n]⟩ : Shape).Idx) (a : Fin R) (h : (j 0).val = a.val) : (ix2 a (j 1) : (⟨2, ![R, n]⟩ : Shape).Idx) = j := by
  conv_rhs => rw [eq_ix2 j]
  exact congrArg (fun b => ix2 b (j 1)) (Fin.ext h.symm)

end Cert.Rows
end
-- ==== Proof.LayerNorm.lean ====
module

public import Idealize.ShloMosaic.Lib.Pointwise

@[expose] public section

set_option maxRecDepth 16384

noncomputable section

/-! A layer norm over rows of 1024 entries, and its gradient. -/

namespace Cert.LN

open Idealize.ShloMosaic

/-- 1024, -/
abbrev c1024 : EReal := Ideal.ofBits .f32 0x44800000#32
/-- and the norm's epsilon, as the programs write them. -/
abbrev eps : EReal := Ideal.ofBits .f32 0x3727C5AC#32

variable (z d : Fin 1024 → EReal) (k : Fin 1024)

def mean : EReal := Ideal.div (∑ x, z x) c1024
def cen : EReal := z k - mean z
def rstd : EReal := Ideal.rsqrt (Ideal.div (∑ x, cen z x * cen z x) c1024 + eps)
def xhat : EReal := cen z k * rstd z
/-- The gradient reaching `z` from the gradient `d` of its normalised row. -/
def lnb : EReal := rstd z * (d k - mean d - xhat z k * mean fun x => d x * xhat z x)

end Cert.LN
end
-- ==== Proof.PostVal.lean ====
module

public import proofs.«01_k».proof.Proof.Gen.PostIdeal.Frame
public import proofs.«01_k».proof.Proof.Rows
public import proofs.«01_k».proof.Proof.LayerNorm

@[expose] public section

set_option maxRecDepth 16384

noncomputable section
namespace Cert.PostIdeal.Val
open Idealize.ShloMosaic Idealize.ShloMosaic.TcCoe Idealize.SL.Sem
open Cert.PostIdeal Cert.PostIdeal.Gen Cert.LN Cert.Rows

/-! ## The stored vectors at an element -/

/-- A row of the norm's input: the residual stream scaled, plus the gated branch. -/
def zrow {n : ℕ} (gate : Fin 1024 → EReal) (x y : (⟨2, ![n, 1024]⟩ : Shape).Idx → EReal) (a : Fin n) (k : Fin 1024) : EReal :=
  Ideal.ofBits .f32 0x3FB504F3#32 * x (ix2 a k) + (1 + gate k) * y (ix2 a k)
/-- The gradient of a normalised row. -/
def drow {n : ℕ} (ct : (⟨2, ![n, 1024]⟩ : Shape).Idx → EReal) (g : Fin 1024 → EReal) (a : Fin n) (k : Fin 1024) : EReal :=
  ct (ix2 a k) * g k

section Pay
variable (gate : FVec Ideal S1x1024 .f32) (ct x : FVec Ideal S512x1024 .f32) (y : FVec Ideal S512x1024 .f32) (g : FVec Ideal S1x1024 .f32)
  (acc : FVec Ideal S1x1024 .f32) (j : S512x1024.Idx)

abbrev gr (v : FVec Ideal S1x1024 .f32) (k : Fin 1024) : EReal := v (ix2 0 k)

theorem pay9 : k1_pay9 (F := Ideal) gate x y j = xhat (zrow (gr gate) x y (j 0)) (j 1) := by
  pointwise [k1_pay9, k1_pay8, k1_pay7, k1_pay6, k1_pay4, xhat, rstd, cen, mean, zrow]

theorem pay11 : k1_pay11 (F := Ideal) (k1_pay8 gate x y) (k1_pay9 gate x y) (k1_pay10 ct g) j
    = lnb (zrow (gr gate) x y (j 0)) (drow ct (gr g) (j 0)) (j 1) := by
  pointwise [k1_pay11, k1_pay10, k1_pay9, k1_pay8, k1_pay7, k1_pay6, k1_pay5, k1_pay4, lnb, xhat, rstd, cen, mean, zrow, drow]

end Pay

theorem idx1 : ∀ t : Fin cfg1.N, win1_0.index t = ![t.val, 0] ∧ win1_1.index t = ![t.val, 0] ∧ win1_2.index t = ![t.val, 0]
    ∧ win1_3.index t = ![0, 0] ∧ win1_4.index t = ![0, 0] ∧ win1_5.index t = ![0, 0] ∧ win1_6.index t = ![t.val, 0]
    ∧ win1_7.index t = ![t.val, 0] ∧ win1_8.index t = ![0, 0] ∧ win1_9.index t = ![t.val, 0] :=
  (by decide +kernel : ∀ t : Fin grid1.N, _)

section Arrays
variable (V : (c : Dev nD) → (b : Ref sig .tc) → Buf (Elt Ideal) ((c : Thread nD τ).loc b)) (c : Dev nD)

/-- Row `a` of block `t`. -/
abbrev brow (t : Fin cfg1.N) (a : Fin 512) : Fin 8192 := ⟨t.val * 512 + a.val, by have := t.isLt; have : cfg1.N = 16 := N_1; omega⟩

abbrev X : S8192x1024.Idx → EReal := V c main_v5
abbrev Y : S8192x1024.Idx → EReal := V c main_v8_1
abbrev CT : S8192x1024.Idx → EReal := V c main_v9
abbrev MODS : S12x1024.Idx → EReal := V c main_v1
abbrev LNG : S1x1024.Idx → EReal := V c main_v3
abbrev gate (k : Fin 1024) : EReal := MODS V c (ix2 2 k)
abbrev lng (k : Fin 1024) : EReal := LNG V c (ix2 0 k)
abbrev W : S1024x1024.Idx → EReal := V c main_v2

theorem blk_gate (t : Fin cfg1.N) (h) :
    gr (View.ld (S := S12x1024) (Val := Elt Ideal) (e' := .f32) (iblk1 V c 3 t) (Rect.unit (s := S12x1024) ![2, 0] ![1, 1024] h)) = gate V c := by
  funext k
  unfold gr gate
  pointwise
  blk_point [iblk1, idx1 t]

theorem blk_lng (t : Fin cfg1.N) : gr (iblk1 V c 5 t) = lng V c := by
  funext k
  unfold gr lng
  blk_point [iblk1, idx1 t]

theorem blk_z (t : Fin cfg1.N) (a : Fin 512) (g : Fin 1024 → EReal) :
    zrow (n := 512) g (iblk1 V c 1 t) (iblk1 V c 2 t) a = zrow g (X V c) (Y V c) (brow t a) := by
  funext k
  unfold zrow
  blk_point [iblk1, idx1 t]

theorem blk_d (t : Fin cfg1.N) (a : Fin 512) (g : Fin 1024 → EReal) :
    drow (n := 512) (iblk1 V c 0 t) g a = drow (CT V c) g (brow t a) := by
  funext k
  unfold drow
  blk_point [iblk1, idx1 t]

/-- The gradient reaching the norm's input, at row `r`. -/
def G (r : Fin 8192) (k : Fin 1024) : EReal := lnb (zrow (gate V c) (X V c) (Y V c) r) (drow (CT V c) (lng V c) r) k

def G6 (r : Fin 8192) (k : Fin 1024) : EReal := Ideal.ofBits .f32 0x3FB504F3#32 * G V c r k
def G7 (r : Fin 8192) (k : Fin 1024) : EReal := G V c r k * (1 + gate V c k)
def G9 (r : Fin 8192) (k : Fin 1024) : EReal := ∑ x, G7 V c r x * W V c (ix2 k x)

theorem blk_w (t : Fin cfg1.N) (i : S1024x1024.Idx) : (iblk1 V c 4 t : S1024x1024.Idx → EReal) i = W V c i := by
  blk_point [iblk1, idx1 t]

theorem blk_mods (t : Fin cfg1.N) (i : S12x1024.Idx) : (iblk1 V c 3 t : S12x1024.Idx → EReal) i = MODS V c i := by
  blk_point [iblk1, idx1 t]

theorem blk_ct (t : Fin cfg1.N) (a : Fin 512) (k : Fin 1024) : (iblk1 V c 0 t : S512x1024.Idx → EReal) (ix2 a k) = CT V c (ix2 (brow t a) k) := by
  blk_point [iblk1, idx1 t]

theorem blk_y (t : Fin cfg1.N) (a : Fin 512) (k : Fin 1024) : (iblk1 V c 2 t : S512x1024.Idx → EReal) (ix2 a k) = Y V c (ix2 (brow t a) k) := by
  blk_point [iblk1, idx1 t]

theorem fin6 : (dat1 V c).arrAt 6 cfg1.N = fun j => G6 V c (j 0) (j 1) := by
  refine (dat1 V c).arrAt_eq_of_covers 6 _ (by decide +kernel) fun t hf y => ?_
  blk_simp
  refine Eq.trans (b := G6 V c (brow t (y 0)) (y 1)) ?_ (congrArg₂ (G6 V c) (Fin.ext ?_) (Fin.ext ?_))
  · rw [after1_6]
    by_cases h : t.val % 16 = 0
    · rw [outsAt1_A _ c t h]
      frame_out
      pointwise [k1_pay15, pay11, blk_gate, blk_lng, blk_z, blk_d, G6, G]
    · rw [outsAt1_B _ c t h]
      frame_out
      pointwise [k1_pay15, pay11, blk_gate, blk_lng, blk_z, blk_d, G6, G]
  · blk_simp [idx1 t]
  · blk_simp [idx1 t]

theorem fin7 : (dat1 V c).arrAt 7 cfg1.N = fun j => G7 V c (j 0) (j 1) := by
  refine (dat1 V c).arrAt_eq_of_covers 7 _ (by decide +kernel) fun t hf y => ?_
  blk_simp
  refine Eq.trans (b := G7 V c (brow t (y 0)) (y 1)) ?_ (congrArg₂ (G7 V c) (Fin.ext ?_) (Fin.ext ?_))
  · rw [after1_7]
    by_cases h : t.val % 16 = 0
    · rw [outsAt1_A _ c t h]
      frame_out
      pointwise [k1_pay1, k1_pay4, pay11, blk_gate, blk_lng, blk_z, blk_d, G7, G, blk_mods]
    · rw [outsAt1_B _ c t h]
      frame_out
      pointwise [k1_pay1, k1_pay4, pay11, blk_gate, blk_lng, blk_z, blk_d, G7, G, blk_mods]
  · blk_simp [idx1 t]
  · blk_simp [idx1 t]

theorem fin9 : (dat1 V c).arrAt 9 cfg1.N = fun j => G9 V c (j 0) (j 1) := by
  refine (dat1 V c).arrAt_eq_of_covers 9 _ (by decide +kernel) fun t hf y => ?_
  blk_simp
  refine Eq.trans (b := G9 V c (brow t (y 0)) (y 1)) ?_ (congrArg₂ (G9 V c) (Fin.ext ?_) (Fin.ext ?_))
  · rw [after1_9]
    by_cases h : t.val % 16 = 0
    · rw [outsAt1_A _ c t h]
      frame_out
      pointwise [k1_pay2, k1_pay1, k1_pay4, pay11, blk_gate, blk_lng, blk_z, blk_d, G9, G7, G, blk_w, blk_mods]
    · rw [outsAt1_B _ c t h]
      frame_out
      pointwise [k1_pay2, k1_pay1, k1_pay4, pay11, blk_gate, blk_lng, blk_z, blk_d, G9, G7, G, blk_w, blk_mods]
  · blk_simp [idx1 t]
  · blk_simp [idx1 t]

/-- What the rows of block `t` add to the row sums. -/
def S8 (t : ℕ) (h : t < cfg1.N) (j : S8x1024.Idx) : EReal :=
  if (j 0).val = 4 then ∑ x, CT V c (ix2 (brow ⟨t, h⟩ x) (j 1))
  else if (j 0).val = 3 then ∑ x, CT V c (ix2 (brow ⟨t, h⟩ x) (j 1)) * xhat (zrow (gate V c) (X V c) (Y V c) (brow ⟨t, h⟩ x)) (j 1)
  else if (j 0).val = 2 then ∑ x, G V c (brow ⟨t, h⟩ x) (j 1) * Y V c (ix2 (brow ⟨t, h⟩ x) (j 1))
  else 0

theorem reset8 (t : Fin cfg1.N) (h : t.val % 16 = 0) (j : S8x1024.Idx) : (outsAt1 V c t.val t.isLt).2.2.1 j = 0 + S8 V c t.val t.isLt j := by
  rw [outsAt1_A V c t h]
  frame_out
  simp only [canon_row, S8]
  split_ifs with h4 h3 h2
  · pointwise [k1_pay14, k1_pay5, rowIx, blk_ct, readCov_row, canon_row, canon_whole, k1_pay3]
  · pointwise [k1_pay13, k1_pay5, rowIx, pay9, blk_ct, blk_z, blk_gate, readCov_row, canon_row, canon_whole, k1_pay3]
  · pointwise [k1_pay12, k1_pay6, rowIx, pay11, blk_y, blk_z, blk_d, blk_gate, blk_lng, G, readCov_row, canon_row, canon_whole, k1_pay3]
  · pointwise [k1_pay3, canon_whole]
theorem step8 (t : Fin cfg1.N) (h : ¬ t.val % 16 = 0) (j : S8x1024.Idx) : (outsAt1 V c t.val t.isLt).2.2.1 j
    = (outsAt1 V c (t.val - 1) (Nat.lt_of_le_of_lt (Nat.sub_le _ _) t.isLt)).2.2.1 j + S8 V c t.val t.isLt j := by
  rw [outsAt1_B V c t h]
  frame_out
  simp only [read_writes_row, S8]
  split_ifs with h4 h3 h2
  · pointwise [k1_pay14, k1_pay5, rowIx, blk_ct, ix2_row j 4 h4]
  · pointwise [k1_pay13, k1_pay5, rowIx, pay9, blk_ct, blk_z, blk_gate, ix2_row j 3 h3]
  · pointwise [k1_pay12, k1_pay6, rowIx, pay11, blk_y, blk_z, blk_d, blk_gate, blk_lng, G, ix2_row j 2 h2]
  · rw [add_zero]
    exact congrFun (Memref.IsWhole.read_unread ..) j

theorem fin8 : (dat1 V c).arrAt 8 cfg1.N = fun j => ∑ t : Fin cfg1.N, S8 V c t.val t.isLt j := by
  refine (dat1 V c).arrAt_eq_of_after_last 8 t1_15 (by decide +kernel) _ fun j => ?_
  blk_simp
  rw [after1_8, Pipeline.eq_sum_fin_of_reset_step_apply_last (fun n h => (outsAt1 V c n h).2.2.1) 16 (fun _ => 0)
    (fun t j => S8 V c t.val t.isLt j) (reset8 V c) (step8 V c) (le_of_eq N_1) t1_15 rfl j, zero_add]

end Arrays
end Cert.PostIdeal.Val
end
-- ==== Proof.PostVal0.lean ====
module

public import proofs.«01_k».proof.Proof.PostVal

@[expose] public section

set_option maxRecDepth 16384

noncomputable section
namespace Cert.PostIdeal.Val
open Idealize.ShloMosaic Idealize.ShloMosaic.TcCoe Idealize.SL.Sem
open Cert.PostIdeal Cert.PostIdeal.Gen Cert.LN Cert.Rows

theorem idx0 : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![0, 0] ∧ win0_6.index t = ![t.val, 0]
    ∧ win0_7.index t = ![t.val, 0] :=
  (by decide +kernel : ∀ t : Fin grid0.N, _)

variable (V : (c : Dev nD) → (b : Ref sig .tc) → Buf (Elt Ideal) ((c : Thread nD τ).loc b)) (c : Dev nD)

abbrev O0 : S8192x1024.Idx → EReal := V c main_v7
abbrev B0 : S1x1024.Idx → EReal := V c main_v4

/-- The branch's output: the attention's output times the weight matrix. -/
def Y0 (i : S8192x1024.Idx) : EReal := ∑ x, O0 V c (ix2 (i 0) x) * W V c (ix2 x (i 1))
/-- The stream after the sublayer. -/
def X1 (r : Fin 8192) (k : Fin 1024) : EReal := xhat (zrow (gate V c) (X V c) (Y0 V c) r) k * lng V c k + B0 V c (ix2 0 k)

abbrev brow0 (t : Fin cfg0.N) (a : Fin 512) : Fin 8192 := ⟨t.val * 512 + a.val, by have := t.isLt; have : cfg0.N = 16 := N_0; omega⟩

theorem blk0_o (t : Fin cfg0.N) (a : Fin 512) (k : Fin 1024) : (iblk0 V c 0 t : S512x1024.Idx → EReal) (ix2 a k) = O0 V c (ix2 (brow0 t a) k) := by
  blk_point [iblk0, idx0 t]
theorem blk0_w (t : Fin cfg0.N) (i : S1024x1024.Idx) : (iblk0 V c 1 t : S1024x1024.Idx → EReal) i = W V c i := by
  blk_point [iblk0, idx0 t]
theorem blk0_x (t : Fin cfg0.N) (i : S512x1024.Idx) : (iblk0 V c 2 t : S512x1024.Idx → EReal) i = X V c (ix2 (brow0 t (i 0)) (i 1)) := by
  blk_point [iblk0, idx0 t]
theorem blk0_mods (t : Fin cfg0.N) (i : S12x1024.Idx) : (iblk0 V c 3 t : S12x1024.Idx → EReal) i = MODS V c i := by
  blk_point [iblk0, idx0 t]
theorem blk0_lng (t : Fin cfg0.N) (i : S1x1024.Idx) : (iblk0 V c 4 t : S1x1024.Idx → EReal) i = LNG V c i := by
  blk_point [iblk0, idx0 t]
theorem blk0_b (t : Fin cfg0.N) (i : S1x1024.Idx) : (iblk0 V c 5 t : S1x1024.Idx → EReal) i = B0 V c i := by
  blk_point [iblk0, idx0 t]

theorem fin0_7 : (dat0 V c).arrAt 7 cfg0.N = Y0 V c := by
  refine (dat0 V c).arrAt_eq_of_covers 7 _ (by decide +kernel) fun t hf y => ?_
  blk_simp
  refine Eq.trans (b := Y0 V c (ix2 (brow0 t (y 0)) (y 1))) ?_ (congrArg (Y0 V c) ?_)
  · rw [after0_7]
    frame_out
    pointwise [k0_pay2, blk0_o, blk0_w, Y0]
  · blk_ext [idx0 t]

theorem fin0_6 : (dat0 V c).arrAt 6 cfg0.N = fun j => X1 V c (j 0) (j 1) := by
  refine (dat0 V c).arrAt_eq_of_covers 6 _ (by decide +kernel) fun t hf y => ?_
  blk_simp
  refine Eq.trans (b := X1 V c (brow0 t (y 0)) (y 1)) ?_ (congrArg₂ (X1 V c) (Fin.ext ?_) (Fin.ext ?_))
  · rw [after0_6]
    frame_out
    pointwise [k0_pay1, k0_pay3, k0_pay2, r0_1, blk0_o, blk0_w, blk0_x, blk0_mods, blk0_lng, blk0_b, Y0, X1, xhat, rstd, cen, mean, zrow]
  · blk_simp [idx0 t]
  · blk_simp [idx0 t]

end Cert.PostIdeal.Val
end
-- ==== Proof.PostFun.lean ====
module

public import proofs.«01_k».proof.Proof.LayerNorm

@[expose] public section

set_option maxRecDepth 16384

noncomputable section

/-! The end of an attention sublayer and its gradient, as functions of the arrays. -/

namespace Cert.PostFun

open Idealize.ShloMosaic Cert.LN

/-- The weight of the residual stream, as the programs write it. -/
abbrev alpha : EReal := Ideal.ofBits .f32 0x3FB504F3#32

variable (ct x o : (⟨3, ![1, 8192, 1024]⟩ : Shape).Idx → EReal) (md : (⟨2, ![1, 3072]⟩ : Shape).Idx → EReal)
  (w : (⟨2, ![1024, 1024]⟩ : Shape).Idx → EReal) (g b : (⟨1, ![1024]⟩ : Shape).Idx → EReal)

def gate (k : Fin 1024) : EReal := md (ix2 0 ⟨2048 + k.val, by omega⟩)
def y (r : Fin 8192) (k : Fin 1024) : EReal := ∑ i, o (ix3 0 r i) * w (ix2 i k)
/-- A row entering the norm, -/
def z (r : Fin 8192) (k : Fin 1024) : EReal := alpha * x (ix3 0 r k) + (1 + gate md k) * y o w r k
/-- and the gradient of its normalised row. -/
def d (r : Fin 8192) (k : Fin 1024) : EReal := ct (ix3 0 r k) * g (ix1 k)
def x1 (r : Fin 8192) (k : Fin 1024) : EReal := xhat (z x o md w r) k * g (ix1 k) + b (ix1 k)
def dz (r : Fin 8192) (k : Fin 1024) : EReal := lnb (z x o md w r) (d ct g r) k
def dres (r : Fin 8192) (k : Fin 1024) : EReal := alpha * dz ct x o md w g r k
def dy (r : Fin 8192) (k : Fin 1024) : EReal := dz ct x o md w g r k * (1 + gate md k)
def dO (r : Fin 8192) (k : Fin 1024) : EReal := ∑ i, dy ct x o md w g r i * w (ix2 k i)
/-- The row sums: of the gate's gradient in row 2, the scale's in row 3, the offset's in row 4. -/
def sums (a : Fin 8) (k : Fin 1024) : EReal :=
  if a.val = 4 then ∑ r, ct (ix3 0 r k)
  else if a.val = 3 then ∑ r, ct (ix3 0 r k) * xhat (z x o md w r) k
  else if a.val = 2 then ∑ r, dz ct x o md w g r k * y o w r k
  else 0

end Cert.PostFun
end
-- ==== Proof.PostArgs.lean ====
module

public import proofs.«01_k».proof.Proof.PostVal0
public import Idealize.ShloMosaic.Lib.StableHlo.ReadAt
public import proofs.«01_k».proof.Proof.PostFun
public import proofs.«01_k».proof.Proof.PostRun

@[expose] public section

set_option maxRecDepth 16384

noncomputable section
namespace Cert.PostIdeal.Val
open Idealize.ShloMosaic Idealize.ShloMosaic.TcCoe Idealize.SL.Sem
open Cert.PostIdeal Cert.PostIdeal.Gen

variable (m : (ℓ : Loc nD τ sig) → Buf (Elt Ideal) ℓ) (ρ : Dev nD → PrngReg) (c : Dev nD)

abbrev A0 : S1x8192x1024.Idx → EReal := m ((c.tc : Thread nD τ).loc main_arg0)
abbrev A1 : S1x8192x1024.Idx → EReal := m ((c.tc : Thread nD τ).loc main_arg1)
abbrev A2 : S1x8192x1024.Idx → EReal := m ((c.tc : Thread nD τ).loc main_arg2)
abbrev A3 : S1x3072.Idx → EReal := m ((c.tc : Thread nD τ).loc main_arg3)
abbrev A4 : S1024x1024.Idx → EReal := m ((c.tc : Thread nD τ).loc main_arg4)
abbrev A5 : S1024.Idx → EReal := m ((c.tc : Thread nD τ).loc main_arg5)
abbrev A6 : S1024.Idx → EReal := m ((c.tc : Thread nD τ).loc main_arg6)

theorem X3 : X (V3 m ρ) c = fun j => A1 m c (ix3 0 (j 0) (j 1)) := by
  funext j
  show W3 m ρ c (Proc.devRef .tc main_v5) j = _
  unfold W3
  after_reads_at

theorem W3w : W (V3 m ρ) c = A4 m c := by
  funext j
  show W3 m ρ c (Proc.devRef .tc main_v2) j = _
  unfold W3
  after_reads_at

theorem O3 : O0 (V3 m ρ) c = fun j => A2 m c (ix3 0 (j 0) (j 1)) := by
  funext j
  show W3 m ρ c (Proc.devRef .tc main_v7) j = _
  unfold W3
  after_reads_at

theorem G3 : LNG (V3 m ρ) c = fun j => A5 m c (ix1 (j 1)) := by
  funext j
  show W3 m ρ c (Proc.devRef .tc main_v3) j = _
  unfold W3
  after_reads_at

theorem B3 : B0 (V3 m ρ) c = fun j => A6 m c (ix1 (j 1)) := by
  funext j
  show W3 m ρ c (Proc.devRef .tc main_v4) j = _
  unfold W3
  after_reads_at

theorem gate3 (k) : gate (V3 m ρ) c k = A3 m c (ix2 0 ⟨2048 + k.val, by omega⟩) := by
  show W3 m ρ c _ _ = _
  rw [W3_of _ _ _ _ (by decide)]
  unfold W2 W1
  after_reads_at

/-- A buffer that the first region and the line after it leave as it was. -/
theorem V5_eq (b : Ref sig .tc) (h : b ∉ hostOps1_W) (h' : ∀ w : Fin cfg0.W, Pipeline.arrRef spec0 w = b → (cfg0.win w).isOut = false) :
    V5 m ρ c b = V3 m ρ c b :=
  (W5_of m ρ c b h).trans (W4_of m ρ c b h')

theorem CT5 : CT (V5 m ρ) c = fun j => A0 m c (ix3 0 (j 0) (j 1)) := by
  funext j
  show W5 m ρ c (Proc.devRef .tc main_v9) j = _
  unfold W5
  after_reads_at
  exact congrFun (W4_args m ρ c main_arg0 (by decide)) _

theorem X5 : X (V5 m ρ) c = fun j => A1 m c (ix3 0 (j 0) (j 1)) := (V5_eq m ρ c _ (by decide) (by decide)).trans (X3 m ρ c)
theorem W5w : W (V5 m ρ) c = A4 m c := (V5_eq m ρ c _ (by decide) (by decide)).trans (W3w m ρ c)
theorem G5 : LNG (V5 m ρ) c = fun j => A5 m c (ix1 (j 1)) := (V5_eq m ρ c _ (by decide) (by decide)).trans (G3 m ρ c)
theorem gate5 (k) : gate (V5 m ρ) c k = A3 m c (ix2 0 ⟨2048 + k.val, by omega⟩) :=
  (congrFun (V5_eq m ρ c main_v1 (by decide) (by decide)) _).trans (gate3 m ρ c k)
theorem y3 (r : Fin 8192) (k : Fin 1024) : Y0 (V3 m ρ) c (ix2 r k) = PostFun.y (A2 m c) (A4 m c) r k := by
  unfold Y0 PostFun.y
  rw [O3, W3w]
  rfl
theorem Y5 (r : Fin 8192) (k : Fin 1024) : Y (V5 m ρ) c (ix2 r k) = PostFun.y (A2 m c) (A4 m c) r k :=
  (congrFun (((W5_of m ρ c main_v8_1 (by decide)).trans (W4_arr m ρ c 7)).trans (fin0_7 (V3 m ρ) c)) _).trans (y3 m ρ c r k)

theorem z3 (r : Fin 8192) : zrow (gate (V3 m ρ) c) (X (V3 m ρ) c) (Y0 (V3 m ρ) c) r = PostFun.z (A1 m c) (A2 m c) (A3 m c) (A4 m c) r := by
  funext k
  unfold zrow PostFun.z
  rw [gate3, y3, X3]
  rfl
theorem z5 (r : Fin 8192) : zrow (gate (V5 m ρ) c) (X (V5 m ρ) c) (Y (V5 m ρ) c) r = PostFun.z (A1 m c) (A2 m c) (A3 m c) (A4 m c) r := by
  funext k
  unfold zrow PostFun.z
  rw [gate5, Y5, X5]
  rfl
theorem d5 (r : Fin 8192) : drow (CT (V5 m ρ) c) (lng (V5 m ρ) c) r = PostFun.d (A0 m c) (A5 m c) r := by
  funext k
  unfold drow PostFun.d lng
  rw [CT5, G5]
  rfl
theorem dz5 (r : Fin 8192) (k : Fin 1024) : G (V5 m ρ) c r k = PostFun.dz (A0 m c) (A1 m c) (A2 m c) (A3 m c) (A4 m c) (A5 m c) r k := by
  unfold G PostFun.dz
  rw [z5, d5]

/-! ## The results -/

theorem x1_3 (r : Fin 8192) (k : Fin 1024) : X1 (V3 m ρ) c r k = PostFun.x1 (A1 m c) (A2 m c) (A3 m c) (A4 m c) (A5 m c) (A6 m c) r k := by
  unfold X1 PostFun.x1 lng
  rw [z3, G3, B3]
  rfl
theorem dres5 (r : Fin 8192) (k : Fin 1024) : G6 (V5 m ρ) c r k = PostFun.dres (A0 m c) (A1 m c) (A2 m c) (A3 m c) (A4 m c) (A5 m c) r k := by
  unfold G6 PostFun.dres
  rw [dz5]
theorem dy5 (r : Fin 8192) (k : Fin 1024) : G7 (V5 m ρ) c r k = PostFun.dy (A0 m c) (A1 m c) (A2 m c) (A3 m c) (A4 m c) (A5 m c) r k := by
  unfold G7 PostFun.dy
  rw [dz5, gate5]
  rfl
theorem do5 (r : Fin 8192) (k : Fin 1024) : G9 (V5 m ρ) c r k = PostFun.dO (A0 m c) (A1 m c) (A2 m c) (A3 m c) (A4 m c) (A5 m c) r k := by
  unfold G9 PostFun.dO
  rw [W5w]
  exact Finset.sum_congr rfl fun k _ => Ideal.mul_congr (dy5 m ρ c _ _) rfl
/-- The rows of the blocks are the rows of the array. -/
theorem sum_rows (f : Fin 8192 → EReal) : ∑ t : Fin cfg1.N, ∑ x : Fin 512, f (brow t x) = ∑ r, f r := (Fin.sum_univ_tiles 16 512 rfl f).symm
theorem sums5 (a : Fin 8) (k : Fin 1024) : ∑ t : Fin cfg1.N, S8 (V5 m ρ) c t.val t.isLt (ix2 a k)
    = PostFun.sums (A0 m c) (A1 m c) (A2 m c) (A3 m c) (A4 m c) (A5 m c) a k := by
  unfold S8 PostFun.sums
  by_cases h4 : a.val = 4
  · rw [if_pos h4]
    refine (Finset.sum_congr rfl fun t _ => (if_pos h4).trans ?_).trans (sum_rows fun r => A0 m c (ix3 0 r k))
    exact Finset.sum_congr rfl fun x _ => by rw [CT5]; rfl
  by_cases h3 : a.val = 3
  · rw [if_neg h4, if_pos h3]
    refine (Finset.sum_congr rfl fun t _ => ((if_neg h4).trans (if_pos h3)).trans ?_).trans
      (sum_rows fun r => A0 m c (ix3 0 r k) * LN.xhat (PostFun.z (A1 m c) (A2 m c) (A3 m c) (A4 m c) r) k)
    exact Finset.sum_congr rfl fun x _ => by rw [CT5, z5]; rfl
  by_cases h2 : a.val = 2
  · rw [if_neg h4, if_neg h3, if_pos h2]
    refine (Finset.sum_congr rfl fun t _ => ((if_neg h4).trans ((if_neg h3).trans (if_pos h2))).trans ?_).trans
      (sum_rows fun r => PostFun.dz (A0 m c) (A1 m c) (A2 m c) (A3 m c) (A4 m c) (A5 m c) r k * PostFun.y (A2 m c) (A4 m c) r k)
    exact Finset.sum_congr rfl fun x _ => Ideal.mul_congr (dz5 m ρ c _ _) (Y5 m ρ c _ _)
  rw [if_neg h4, if_neg h3, if_neg h2]
  exact (Finset.sum_congr rfl fun t _ => (if_neg h4).trans ((if_neg h3).trans (if_neg h2))).trans Finset.sum_const_zero

theorem out_x1 : W6 m ρ c (Proc.devRef .tc main_v8_0) = fun j => PostFun.x1 (A1 m c) (A2 m c) (A3 m c) (A4 m c) (A5 m c) (A6 m c) (j 0) (j 1) := by
  rw [W6_of m ρ c main_v8_0 (by decide), W5_of m ρ c main_v8_0 (by decide)]
  exact ((W4_arr m ρ c 6).trans (fin0_6 (V3 m ρ) c)).trans (funext fun j => x1_3 m ρ c _ _)
theorem out_dres : W6 m ρ c (Proc.devRef .tc main_v10_0) = fun j => PostFun.dres (A0 m c) (A1 m c) (A2 m c) (A3 m c) (A4 m c) (A5 m c) (j 0) (j 1) :=
  ((W6_arr m ρ c 6).trans (fin6 (V5 m ρ) c)).trans (funext fun j => dres5 m ρ c _ _)
theorem out_dy : W6 m ρ c (Proc.devRef .tc main_v10_1) = fun j => PostFun.dy (A0 m c) (A1 m c) (A2 m c) (A3 m c) (A4 m c) (A5 m c) (j 0) (j 1) :=
  ((W6_arr m ρ c 7).trans (fin7 (V5 m ρ) c)).trans (funext fun j => dy5 m ρ c _ _)
theorem out_do : W6 m ρ c (Proc.devRef .tc main_v10_3) = fun j => PostFun.dO (A0 m c) (A1 m c) (A2 m c) (A3 m c) (A4 m c) (A5 m c) (j 0) (j 1) :=
  ((W6_arr m ρ c 9).trans (fin9 (V5 m ρ) c)).trans (funext fun j => do5 m ρ c _ _)
theorem out_sums : W6 m ρ c (Proc.devRef .tc main_v10_2) = fun j => PostFun.sums (A0 m c) (A1 m c) (A2 m c) (A3 m c) (A4 m c) (A5 m c) (j 0) (j 1) :=
  ((W6_arr m ρ c 8).trans (fin8 (V5 m ρ) c)).trans (funext fun j => sums5 m ρ c (j 0) (j 1))
end Cert.PostIdeal.Val
end
-- ==== Proof.Unit.lean ====
module

public import Idealize.ShloMosaic.Lib.Pointwise

@[expose] public section

set_option maxRecDepth 16384

noncomputable section

/-! A host sum over axes of one entry each. -/

namespace Cert.UnitAxes

open Idealize.ShloMosaic

variable {n : Nat}

theorem red02 (h : (⟨3, ![1, n, 1]⟩ : Shape).ReducesTo [0, 2] ⟨1, ![n]⟩) (v : (⟨3, ![1, n, 1]⟩ : Shape).Idx → EReal) (a : EReal)
    (j : (⟨1, ![n]⟩ : Shape).Idx) : Ideal.hostReduceAdd h v a j = a + v (ix3 0 (j 0) 0) := by
  unfold Ideal.hostReduceAdd
  congr 1
  refine Finset.sum_eq_single (ix3 (n0 := 1) (n1 := n) (n2 := 1) 0 (j 0) 0) (fun i hi hn => absurd ?_ hn) fun hn => absurd ?_ hn
  · have e := (Finset.mem_filter.1 hi).2
    refine funext fun b => ?_
    match b with
    | ⟨0, _⟩ => exact Subsingleton.elim (α := Fin 1) _ _
    | ⟨1, _⟩ => exact Fin.ext (congrArg Fin.val (congrFun e 0))
    | ⟨2, _⟩ => exact Subsingleton.elim (α := Fin 1) _ _
  · refine Finset.mem_filter.2 ⟨Finset.mem_univ _, funext fun b => ?_⟩
    match b with
    | ⟨0, _⟩ => exact Fin.ext rfl

theorem red01 (h : (⟨3, ![1, 1, n]⟩ : Shape).ReducesTo [0, 1] ⟨1, ![n]⟩) (v : (⟨3, ![1, 1, n]⟩ : Shape).Idx → EReal) (a : EReal)
    (j : (⟨1, ![n]⟩ : Shape).Idx) : Ideal.hostReduceAdd h v a j = a + v (ix3 0 0 (j 0)) := by
  unfold Ideal.hostReduceAdd
  congr 1
  refine Finset.sum_eq_single (ix3 (n0 := 1) (n1 := 1) (n2 := n) 0 0 (j 0)) (fun i hi hn => absurd ?_ hn) fun hn => absurd ?_ hn
  · have e := (Finset.mem_filter.1 hi).2
    refine funext fun b => ?_
    match b with
    | ⟨0, _⟩ => exact Subsingleton.elim (α := Fin 1) _ _
    | ⟨1, _⟩ => exact Subsingleton.elim (α := Fin 1) _ _
    | ⟨2, _⟩ => exact Fin.ext (congrArg Fin.val (congrFun e 0))
  · refine Finset.mem_filter.2 ⟨Finset.mem_univ _, funext fun b => ?_⟩
    match b with
    | ⟨0, _⟩ => exact Fin.ext rfl

end Cert.UnitAxes
end
-- ==== Proof.LayerNormReal.lean ====
module

public import proofs.«01_k».proof.Proof.LayerNorm

@[expose] public section

set_option maxRecDepth 16384

noncomputable section

/-! The gradient of a layer norm as the chain rule gives it, and its closed form. -/

namespace Cert.LN

open Idealize.ShloMosaic

/-- The chain rule's sum of the gradient reaching the variance, -/
def dvar (z d : Fin 1024 → EReal) : EReal :=
  Ideal.div ((∑ x, cen z x * d x) * (Ideal.ofBits .f32 0xBF000000#32 * Ideal.div (rstd z) (Ideal.div (∑ x, cen z x * cen z x) c1024 + eps))) c1024
/-- and the gradient it gives at one entry: directly, through the variance and through the mean. -/
def chain (z d : Fin 1024 → EReal) (k : Fin 1024) : EReal :=
  d k * rstd z + dvar z d * (Ideal.ofBits .f32 0x40000000#32 * cen z k)
    + Ideal.div ((∑ x, -(d x * rstd z)) + ∑ x, -(dvar z d * (Ideal.ofBits .f32 0x40000000#32 * cen z x))) c1024

theorem c1024_eq : c1024 = ((1024 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem nhalf_eq : Ideal.ofBits .f32 0xBF000000#32 = ((-1/2 : ℝ) : EReal) := by
  simp [Ideal.ofBits, Ideal.ieee, -EReal.coe_mul]; norm_num
theorem eps_eq : ∃ e : ℝ, 0 < e ∧ eps = (e : EReal) := by
  refine ⟨_, ?_, by simp [Ideal.ofBits, Ideal.ieee, -EReal.coe_mul]; rfl⟩
  norm_num

theorem coe_sum {ι : Type} [Fintype ι] (f : ι → ℝ) : ∑ x, ((f x : ℝ) : EReal) = ((∑ x, f x : ℝ) : EReal) := by
  classical
  induction (Finset.univ : Finset ι) using Finset.induction_on with
  | empty => simp
  | insert a s h ih => rw [Finset.sum_insert h, Finset.sum_insert h, ih, EReal.coe_add]

theorem div_c (a : ℝ) : Ideal.div (a : EReal) c1024 = ((a / 1024 : ℝ) : EReal) := by
  rw [c1024_eq, Ideal.div_coe (by norm_num), ← EReal.coe_mul]; congr 1; ring

variable (ζ δ : Fin 1024 → ℝ)

def m_ : ℝ := (∑ x, ζ x) / 1024
def v_ : ℝ := (∑ x, (ζ x - m_ ζ) * (ζ x - m_ ζ)) / 1024

theorem mean_coe : mean (fun x => (ζ x : EReal)) = (m_ ζ : ℝ) := by
  unfold mean m_; rw [coe_sum, div_c]
theorem cen_coe (k : Fin 1024) : cen (fun x => (ζ x : EReal)) k = ((ζ k - m_ ζ : ℝ) : EReal) := by
  unfold cen; rw [mean_coe, EReal.coe_sub]
theorem var_coe : Ideal.div (∑ x, cen (fun x => (ζ x : EReal)) x * cen (fun x => (ζ x : EReal)) x) c1024 = (v_ ζ : ℝ) := by
  simp only [cen_coe, ← EReal.coe_mul, coe_sum, div_c, v_]
theorem v_nonneg : 0 ≤ v_ ζ := div_nonneg (Finset.sum_nonneg fun x _ => mul_self_nonneg _) (by norm_num)
theorem sum_cen : ∑ x, (ζ x - m_ ζ) = 0 := by
  rw [Finset.sum_sub_distrib, Finset.sum_const, Finset.card_univ, Fintype.card_fin]; unfold m_; simp; ring

theorem rstd_coe : ∃ s : ℝ, rstd (fun x => (ζ x : EReal)) = (s : EReal)
    ∧ Ideal.div (rstd fun x => (ζ x : EReal)) (Ideal.div (∑ x, cen (fun x => (ζ x : EReal)) x * cen (fun x => (ζ x : EReal)) x) c1024 + eps)
      = ((s * (s * s) : ℝ) : EReal) := by
  obtain ⟨e, he, hE⟩ := eps_eq
  have hp : 0 < v_ ζ + e := add_pos_of_nonneg_of_pos (v_nonneg ζ) he
  refine ⟨(Real.sqrt (v_ ζ + e))⁻¹, ?_, ?_⟩
  · unfold rstd
    rw [var_coe, hE, ← EReal.coe_add, Ideal.rsqrt_coe, if_neg (not_lt.2 hp.le), if_neg hp.ne']
  · unfold rstd
    rw [var_coe, hE, ← EReal.coe_add, Ideal.rsqrt_coe, if_neg (not_lt.2 hp.le), if_neg hp.ne', Ideal.div_coe hp.ne', ← EReal.coe_mul, ← mul_inv,
      Real.mul_self_sqrt hp.le, one_div]

theorem xhat_coe (s : ℝ) (hs : rstd (fun x => (ζ x : EReal)) = (s : EReal)) (k : Fin 1024) :
    xhat (fun x => (ζ x : EReal)) k = (((ζ k - m_ ζ) * s : ℝ) : EReal) := by
  unfold xhat; rw [cen_coe, hs, EReal.coe_mul]

theorem chain_coe (k : Fin 1024) : chain (fun x => (ζ x : EReal)) (fun x => (δ x : EReal)) k
    = lnb (fun x => (ζ x : EReal)) (fun x => (δ x : EReal)) k := by
  obtain ⟨s, hs, hs3⟩ := rstd_coe ζ
  unfold chain lnb dvar
  simp only [hs3]
  simp only [hs, xhat_coe ζ s hs, cen_coe, nhalf_eq, two_eq, mean_coe, ← EReal.coe_mul, coe_sum, div_c, ← EReal.coe_neg,
    ← EReal.coe_add, ← EReal.coe_sub]
  congr 1
  have h1 : ∑ x, -(δ x * s) = -(s * ∑ x, δ x) := by rw [Finset.sum_neg_distrib, ← Finset.sum_mul, mul_comm]
  have h2 : ∀ D : ℝ, ∑ x, -(D * (2 * (ζ x - m_ ζ))) = 0 := fun D => by
    rw [Finset.sum_neg_distrib, ← Finset.mul_sum, ← Finset.mul_sum, sum_cen, mul_zero, mul_zero, neg_zero]
  have h3 : ∑ x, δ x * ((ζ x - m_ ζ) * s) = (∑ x, (ζ x - m_ ζ) * δ x) * s := by
    rw [Finset.sum_mul]; exact Finset.sum_congr rfl fun x _ => by ring
  rw [h1, h2]
  unfold m_ at h3 ⊢
  rw [h3]
  ring

end Cert.LN
end
-- ==== Proof.Reals.lean ====
module

public import proofs.«01_k».proof.Proof.LayerNormReal

@[expose] public section

set_option maxRecDepth 16384

noncomputable section

/-! Entries that are real numbers. -/

namespace Cert

open Idealize.ShloMosaic

def IsReal (x : EReal) : Prop := ∃ r : ℝ, x = (r : EReal)

namespace IsReal

theorem add {x y : EReal} : IsReal x → IsReal y → IsReal (x + y) := fun ⟨a, e⟩ ⟨b, f⟩ => ⟨a + b, by rw [e, f, EReal.coe_add]⟩
theorem sub {x y : EReal} : IsReal x → IsReal y → IsReal (x - y) := fun ⟨a, e⟩ ⟨b, f⟩ => ⟨a - b, by rw [e, f, EReal.coe_sub]⟩
theorem mul {x y : EReal} : IsReal x → IsReal y → IsReal (x * y) := fun ⟨a, e⟩ ⟨b, f⟩ => ⟨a * b, by rw [e, f, EReal.coe_mul]⟩
theorem one : IsReal 1 := ⟨1, rfl⟩
theorem zero : IsReal 0 := ⟨0, rfl⟩
theorem sum {ι : Type} [Fintype ι] {f : ι → EReal} (h : ∀ x, IsReal (f x)) : IsReal (∑ x, f x) := by
  choose g e using h
  exact ⟨∑ x, g x, by rw [← LN.coe_sum]; exact Finset.sum_congr rfl fun x _ => e x⟩

/-- What a finiteness test says of an entry. -/
theorem of_lt {s : Shape} (hb : (⟨0, ![]⟩ : Shape).BroadcastsInDim s (![] : Fin 0 → Fin s.rank)) (v : FVec Ideal s .f32)
    (h : cmpf .olt (Host.absf v) (broadcastInDim s ![] hb (constant (⟨0, ![]⟩ : Shape) .f32 0x7F800000#32)) = fun _ => 1#1) (i : s.Idx) :
    IsReal (v i) := by
  have e := congrFun h i
  have hi : Ideal.ofBits .f32 0x7F800000#32 = ⊤ := by simp [Ideal.ofBits, Ideal.ieee]
  have e1 : Ideal.cmp .olt (max (v i) (-(v i))) (Ideal.ofBits .f32 0x7F800000#32) = 1#1 := e
  rw [hi] at e1
  have e2 : max (v i) (-(v i)) < ⊤ := by
    by_contra hn
    simp [Ideal.cmp, hn] at e1
  refine ⟨(v i).toReal, (EReal.coe_toReal ?_ ?_).symm⟩
  · intro ht; rw [ht] at e2; simp at e2
  · intro ht; rw [ht] at e2; simp at e2
end IsReal

theorem LN.lnb_chain {z d : Fin 1024 → EReal} (hz : ∀ k, IsReal (z k)) (hd : ∀ k, IsReal (d k)) (k : Fin 1024) :
    LN.chain z d k = LN.lnb z d k := by
  choose ζ ez using hz
  choose δ ed using hd
  rw [funext ez, funext ed]
  exact LN.chain_coe ζ δ k

theorem LN.xhat_real {z : Fin 1024 → EReal} (hz : ∀ k, IsReal (z k)) (k : Fin 1024) : IsReal (LN.xhat z k) := by
  choose ζ ez using hz
  rw [funext ez]
  obtain ⟨s, hs, _⟩ := LN.rstd_coe ζ
  exact ⟨_, LN.xhat_coe ζ s hs k⟩

end Cert
end
-- ==== Proof.PostRef.lean ====
module

public import proofs.«01_k».proof.Proof.Gen.PostRefIdeal.Read
public import proofs.«01_k».proof.Proof.Unit
public import proofs.«01_k».proof.Proof.Reals
public import proofs.«01_k».proof.Proof.PostFun

@[expose] public section

set_option maxRecDepth 16384

noncomputable section

/-! The reference of the attention sublayer's end, read at coordinates. -/

namespace Cert.PostRefIdeal.Val

open Idealize.ShloMosaic Idealize.ShloMosaic.TcCoe Idealize.SL.Sem Idealize.ShloMosaic.StableHlo
open Cert.PostRefIdeal Cert.PostRefIdeal.Gen Cert.PostRefIdeal.Read

variable (x0 x1 x2 : S1x8192x1024.Idx → EReal) (x3 : S1x3072.Idx → EReal) (x4 : S1024x1024.Idx → EReal) (x5 x6 : S1024.Idx → EReal)
  (i : S1x8192x1024.Idx)

theorem eta : (ix3 0 (i 1) (i 2) : S1x8192x1024.Idx) = i := by
  refine funext fun a => ?_
  match a with
  | ⟨0, _⟩ => exact Subsingleton.elim (α := Fin 1) _ _
  | ⟨1, _⟩ => rfl
  | ⟨2, _⟩ => rfl

theorem y_ : (val_main_v6 (F := Ideal) x2 x4 : S1x8192x1024.Idx → EReal) i = PostFun.y x2 x4 (i 1) (i 2) := by
  pointwise [val_main_v6, PostFun.y]
  exact Finset.sum_congr rfl fun k _ => congrArg (· * x4 (ix2 k (i 2))) (congrArg x2 (eta (ix3 (i 0) (i 1) k)).symm)

theorem z_ : (val_main_v13 (F := Ideal) x1 x2 x3 x4 : S1x8192x1024.Idx → EReal) i = PostFun.z x1 x2 x3 x4 (i 1) (i 2) := by
  pointwise [val_main_v13, val_main_v12, val_main_v11, val_main_v10, val_main_v9, val_main_v8, val_main_v7, val_main_v5, val_main_v2,
    val_main_cst, val_main_cst_0, y_, PostFun.z, PostFun.gate, eta i]

theorem mean_ (j : S1x8192x1.Idx) : (val_main_v17 (F := Ideal) x1 x2 x3 x4 : S1x8192x1.Idx → EReal) j = LN.mean (PostFun.z x1 x2 x3 x4 (j 1)) := by
  pointwise [val_main_v17, val_main_v16, val_main_v15, val_main_v14, val_main_cst_1, val_main_cst_2, z_, LN.mean]

theorem db_ (j : S1024.Idx) : (val_main_v46 (F := Ideal) x0 : S1024.Idx → EReal) j = ∑ r : Fin 8192, x0 (ix3 0 r (j 0)) := by
  pointwise [val_main_v46, val_main_v45,val_main_v44, val_main_cst_8, val_main_cst_9, UnitAxes.red01]

variable (j : S1x8192x1.Idx)
theorem cen_ : (val_main_v19 (F := Ideal) x1 x2 x3 x4 : S1x8192x1024.Idx → EReal) i = LN.cen (PostFun.z x1 x2 x3 x4 (i 1)) (i 2) := by
  pointwise [val_main_v19, val_main_v18, z_, mean_, LN.cen]
theorem cen2_ : (val_main_v28 (F := Ideal) x1 x2 x3 x4 : S1x8192x1024.Idx → EReal) i = LN.cen (PostFun.z x1 x2 x3 x4 (i 1)) (i 2) := by
  pointwise [val_main_v28, val_main_v27, z_, mean_, LN.cen]
theorem ve_ : (val_main_v30 (F := Ideal) x1 x2 x3 x4 : S1x8192x1.Idx → EReal) j
    = Ideal.div (∑ x, LN.cen (PostFun.z x1 x2 x3 x4 (j 1)) x * LN.cen (PostFun.z x1 x2 x3 x4 (j 1)) x) LN.c1024 + LN.eps := by
  pointwise [val_main_v30, val_main_v29, val_main_v26, val_main_v25, val_main_v24, val_main_v23, val_main_v20, cen_, val_main_cst_4, val_main_cst_5, val_main_cst_6]
theorem rstd_ : (val_main_v31 (F := Ideal) x1 x2 x3 x4 : S1x8192x1.Idx → EReal) j = LN.rstd (PostFun.z x1 x2 x3 x4 (j 1)) := by
  pointwise [val_main_v31, ve_, LN.rstd]
theorem xhat_ : (val_main_v36 (F := Ideal) x1 x2 x3 x4 : S1x8192x1024.Idx → EReal) i = LN.xhat (PostFun.z x1 x2 x3 x4 (i 1)) (i 2) := by
  pointwise [val_main_v36, val_main_v35, cen2_, rstd_, LN.xhat]
theorem x1_ : (val_main_v42 (F := Ideal) x1 x2 x3 x4 x5 x6 : S1x8192x1024.Idx → EReal) i = PostFun.x1 x1 x2 x3 x4 x5 x6 (i 1) (i 2) := by
  pointwise [val_main_v42, val_main_v41, val_main_v40, val_main_v39, val_main_v38, val_main_v37, xhat_, PostFun.x1]
theorem d_ : (val_main_v51 (F := Ideal) x0 x5 : S1x8192x1024.Idx → EReal) i = PostFun.d x0 x5 (i 1) (i 2) := by
  pointwise [val_main_v51, val_main_v50, val_main_v43, val_main_v37, PostFun.d, eta i]
theorem dg_ (j : S1024.Idx) : (val_main_v52 (F := Ideal) x0 x1 x2 x3 x4 : S1024.Idx → EReal) j
    = ∑ r : Fin 8192, x0 (ix3 0 r (j 0)) * LN.xhat (PostFun.z x1 x2 x3 x4 r) (j 0) := by
  pointwise [val_main_v52, val_main_v49,val_main_v48, val_main_v47, val_main_v43, val_main_cst_10, val_main_cst_11, UnitAxes.red01, xhat_, mul_comm]
theorem dvar_ : (val_main_v66 (F := Ideal) x0 x1 x2 x3 x4 x5 : S1x8192x1024.Idx → EReal) i
    = LN.dvar (PostFun.z x1 x2 x3 x4 (i 1)) (PostFun.d x0 x5 (i 1)) := by
  pointwise [val_main_v66, val_main_v65, val_main_v64, val_main_v63, val_main_v62, val_main_v58, val_main_v55, val_main_v54, val_main_v53,
    val_main_v34, val_main_v33, val_main_v32, rstd_, ve_, d_, cen2_, val_main_cst_7, val_main_cst_12, val_main_cst_14, val_main_cst_15, UnitAxes.red02, LN.dvar]
theorem chain_ : (val_main_v78 (F := Ideal) x0 x1 x2 x3 x4 x5 : S1x8192x1024.Idx → EReal) i
    = LN.chain (PostFun.z x1 x2 x3 x4 (i 1)) (PostFun.d x0 x5 (i 1)) (i 2) := by
  pointwise [val_main_v78, val_main_v77, val_main_v76, val_main_v75, val_main_v74, val_main_v73, val_main_v72, val_main_v71, val_main_v70,
    val_main_v69, val_main_v68, val_main_v67, val_main_v61, val_main_v60, val_main_v59, val_main_v57, val_main_v56, val_main_v22, val_main_v21,
    val_main_cst_3, val_main_cst_13, val_main_cst_16, val_main_cst_17, val_main_cst_18,
    dvar_, cen_, d_, rstd_, UnitAxes.red02, LN.chain]

/-- The arrays whose entries the gradient reads are real. -/
structure Reals : Prop where
  h0 : ∀ i, IsReal (x0 i)
  h1 : ∀ i, IsReal (x1 i)
  h2 : ∀ i, IsReal (x2 i)
  h3 : ∀ i, IsReal (x3 i)
  h4 : ∀ i, IsReal (x4 i)
  h5 : ∀ i, IsReal (x5 i)

variable {x0 x1 x2 x3 x4 x5} (h : Reals x0 x1 x2 x3 x4 x5)
include h

theorem dz_ : (val_main_v78 (F := Ideal) x0 x1 x2 x3 x4 x5 : S1x8192x1024.Idx → EReal) i
    = PostFun.dz x0 x1 x2 x3 x4 x5 (i 1) (i 2) := by
  rw [chain_]
  have ha : IsReal PostFun.alpha := ⟨_, by simp [Ideal.ofBits, Ideal.ieee, -EReal.coe_mul]; rfl⟩
  refine LN.lnb_chain (fun k => ?_) (fun k => (h.h0 _).mul (h.h5 _)) _
  exact (ha.mul (h.h1 _)).add ((IsReal.one.add (h.h3 _)).mul (IsReal.sum fun x => (h.h2 _).mul (h.h4 _)))

theorem dy_ : (val_main_v80 (F := Ideal) x0 x1 x2 x3 x4 x5 : S1x8192x1024.Idx → EReal) i
    = PostFun.dy x0 x1 x2 x3 x4 x5 (i 1) (i 2) := by
  pointwise [val_main_v80, val_main_v79, val_main_v10, val_main_v9, val_main_v5, val_main_v2, val_main_cst_0, dz_ _ h, PostFun.dy, PostFun.gate, mul_comm]

theorem dgate_ (k : Fin 1024) : (val_main_v83 (F := Ideal) x0 x1 x2 x3 x4 x5 : S1x1x1024.Idx → EReal) (ix3 0 0 k)
    = ∑ r : Fin 8192, PostFun.dz x0 x1 x2 x3 x4 x5 r k * PostFun.y x2 x4 r k := by
  pointwise [val_main_v83, val_main_v82, val_main_v81, val_main_cst_19, dz_ _ h, y_]

omit h in
theorem x1_out : (val_main_v93 (F := Ideal) x1 x2 x3 x4 x5 x6 : S8192x1024.Idx → EReal) = fun j => PostFun.x1 x1 x2 x3 x4 x5 x6 (j 0) (j 1) := by
  funext j; pointwise [val_main_v93, x1_]
theorem dres_out : (val_main_v94 (F := Ideal) x0 x1 x2 x3 x4 x5 : S8192x1024.Idx → EReal) = fun j => PostFun.dres x0 x1 x2 x3 x4 x5 (j 0) (j 1) := by
  funext j; pointwise [val_main_v94, val_main_v85, val_main_v84, val_main_cst_20, dz_ _ h, PostFun.dres]
theorem dy_out : (val_main_v96 (F := Ideal) x0 x1 x2 x3 x4 x5 : S8192x1024.Idx → EReal) = fun j => PostFun.dy x0 x1 x2 x3 x4 x5 (j 0) (j 1) := by
  funext j; pointwise [val_main_v96, val_main_v95, dy_ _ h]
theorem do_out : (val_main_v98 (F := Ideal) x0 x1 x2 x3 x4 x5 : S8192x1024.Idx → EReal) = fun j => PostFun.dO x0 x1 x2 x3 x4 x5 (j 0) (j 1) := by
  funext j; pointwise [val_main_v98, val_main_v97, val_main_v86, dy_ _ h, PostFun.dO]
theorem sums_out : (val_main_v92 (F := Ideal) x0 x1 x2 x3 x4 x5 : S8x1024.Idx → EReal) = fun j => PostFun.sums x0 x1 x2 x3 x4 x5 (j 0) (j 1) := by
  funext j
  pointwise [val_main_v92, val_main_v91, val_main_v90, val_main_v89, val_main_v88, val_main_v87, val_main_cst_21, db_, dg_, dgate_ h, PostFun.sums]
  split_ifs <;> first | rfl | omega

end Cert.PostRefIdeal.Val
end
-- ==== Proof.PostPair.lean ====
module

public import proofs.«01_k».proof.Defs
public import proofs.«01_k».proof.Proof.Gen.Post.Frame
public import proofs.«01_k».proof.Proof.Gen.Pre_finite
public import proofs.«01_k».proof.Proof.PostRun
public import proofs.«01_k».proof.Proof.PostArgs
public import proofs.«01_k».proof.Proof.PostRef
public import Idealize.ShloMosaic.Lib.Claim

@[expose] public section

set_option maxRecDepth 16384

noncomputable section

/-! The attention sublayer's end against its reference. -/

namespace Cert.PostPair

open Idealize.ShloMosaic Idealize.ShloMosaic.TcCoe Idealize.SL.Sem

theorem frameP : Cert.quiescent_Post := fun m ρ _ => Cert.Post.Gen.frame m ρ
theorem framePI : Cert.quiescent_PostIdeal := fun m ρ _ => Cert.PostIdeal.Gen.frame m ρ
theorem framePI' : Cert.quiescent_PostIdeal_pre_finite := fun m ρ _ => Cert.PostIdeal.Gen.frame m ρ

section
open Cert.PostIdeal Cert.PostIdeal.Gen Cert.PostIdeal.Arr Cert.PostIdeal.Val

variable (m : (ℓ : Loc nD τ sig) → Buf (Elt Ideal) ℓ) (ρ : Dev nD → PrngReg)

theorem reals (h : Cert.Pre_PostIdeal_finite m) (c : Dev nD) :
    Cert.PostRefIdeal.Val.Reals (A0 m c) (A1 m c) (A2 m c) (A3 m c) (A4 m c) (A5 m c) where
  h0 := IsReal.of_lt _ _ (h c).1
  h1 := IsReal.of_lt _ _ (h c).2.1
  h2 := IsReal.of_lt _ _ (h c).2.2.1
  h3 := IsReal.of_lt _ _ (h c).2.2.2.1
  h4 := IsReal.of_lt _ _ (h c).2.2.2.2.1
  h5 := IsReal.of_lt _ _ (h c).2.2.2.2.2

theorem runK : θ_run defs (onTc (τ := τ) (main (F := Ideal))) ⟨m, fun _ => 0, ρ⟩ fun r => ∀ c : Dev nD,
    r.2.mem ((c.tc : Thread nD τ).loc main_v8_0) = (fun j : S8192x1024.Idx => PostFun.x1 (A1 m c) (A2 m c) (A3 m c) (A4 m c) (A5 m c) (A6 m c) (j 0) (j 1))
    ∧ r.2.mem ((c.tc : Thread nD τ).loc main_v10_0) = (fun j : S8192x1024.Idx => PostFun.dres (A0 m c) (A1 m c) (A2 m c) (A3 m c) (A4 m c) (A5 m c) (j 0) (j 1))
    ∧ r.2.mem ((c.tc : Thread nD τ).loc main_v10_1) = (fun j : S8192x1024.Idx => PostFun.dy (A0 m c) (A1 m c) (A2 m c) (A3 m c) (A4 m c) (A5 m c) (j 0) (j 1))
    ∧ r.2.mem ((c.tc : Thread nD τ).loc main_v10_2) = (fun j : S8x1024.Idx => PostFun.sums (A0 m c) (A1 m c) (A2 m c) (A3 m c) (A4 m c) (A5 m c) (j 0) (j 1))
    ∧ r.2.mem ((c.tc : Thread nD τ).loc main_v10_3) = (fun j : S8192x1024.Idx => PostFun.dO (A0 m c) (A1 m c) (A2 m c) (A3 m c) (A4 m c) (A5 m c) (j 0) (j 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  (θ_run defs _ _).mono (fun r h c =>
    have g := fun b hb => h.1 c _ (mem_uc b hb)
    ⟨(g main_v8_0 (by decide)).trans (out_x1 m ρ c), (g main_v10_0 (by decide)).trans (out_dres m ρ c),
     (g main_v10_1 (by decide)).trans (out_dy m ρ c), (g main_v10_2 (by decide)).trans (out_sums m ρ c),
     (g main_v10_3 (by decide)).trans (out_do m ρ c),
     (g main_arg0 (by decide)).trans (W6_main_arg0 m ρ c), (g main_arg1 (by decide)).trans (W6_main_arg1 m ρ c),
     (g main_arg2 (by decide)).trans (W6_main_arg2 m ρ c), (g main_arg3 (by decide)).trans (W6_main_arg3 m ρ c),
     (g main_arg4 (by decide)).trans (W6_main_arg4 m ρ c), (g main_arg5 (by decide)).trans (W6_main_arg5 m ρ c),
     (g main_arg6 (by decide)).trans (W6_main_arg6 m ρ c)⟩) (run_sems m ρ)
end

theorem algebraic : Cert.algebraic_PostIdeal_PostRefIdeal_pre_finite := fun m ρ m' ρ' hpre hag =>
  ⟨_, _, _, _, _, runK m ρ, (θ_run Cert.PostRefIdeal.defs _ _).mono (fun _ h c => by
    have R := reals m hpre c
    obtain ⟨a0, a1, a2, a3, a4, a5, a6⟩ := hag c
    obtain ⟨r0, r1, r2, r3, r4, hr⟩ := h c
    refine ⟨r0.trans ?_, r1.trans ?_, r2.trans ?_, r3.trans ?_, r4.trans ?_, hr⟩
    · rw [Cert.PostRefIdeal.Read.val_main_v93_eq, a1, a2, a3, a4, a5, a6]
      exact Cert.PostRefIdeal.Val.x1_out _
    · rw [Cert.PostRefIdeal.Read.val_main_v94_eq, a0, a1, a2, a3, a4, a5]
      exact Cert.PostRefIdeal.Val.dres_out R
    · rw [Cert.PostRefIdeal.Read.val_main_v96_eq, a0, a1, a2, a3, a4, a5]
      exact Cert.PostRefIdeal.Val.dy_out R
    · rw [Cert.PostRefIdeal.Read.val_main_v92_eq, a0, a1, a2, a3, a4, a5]
      exact Cert.PostRefIdeal.Val.sums_out R
    · rw [Cert.PostRefIdeal.Read.val_main_v98_eq, a0, a1, a2, a3, a4, a5]
      exact Cert.PostRefIdeal.Val.do_out R) (Cert.PostRefIdeal.Value.run m' ρ')⟩

theorem frameRI : Cert.quiescent_PostRefIdeal := fun m ρ _ =>
  (θ_run Cert.PostRefIdeal.defs _ _).mono (fun r h => ⟨fun c => (h c).2.2.2.2.2, sem_eq_zero_of_no_sems (by decide) r.2⟩) (Cert.PostRefIdeal.Value.run m ρ)
theorem frameRI' : Cert.quiescent_PostRefIdeal_pre_finite := fun m ρ _ => frameRI m ρ trivial

theorem pair : Cert.quiescent_Post ∧ Cert.quiescent_PostIdeal ∧ Cert.quiescent_PostIdeal_pre_finite ∧ Cert.quiescent_PostRefIdeal
    ∧ Cert.quiescent_PostRefIdeal_pre_finite ∧ Cert.preserves_Post_PostIdeal ∧ Cert.algebraic_PostIdeal_PostRefIdeal_pre_finite :=
  ⟨frameP, framePI, framePI', frameRI, frameRI', trivial, algebraic⟩

end Cert.PostPair
end
-- ==== Proof.Rope.lean ====
module

public import Idealize.ShloMosaic.Lib.Pointwise

@[expose] public section

set_option maxRecDepth 16384

noncomputable section

/-! The rotary position tables: the angle of row `r` at frequency `f`, and the lane arithmetic by which the angles are computed
    eight rows to a line of 128 lanes. -/

namespace Cert.Rope

open Idealize.ShloMosaic

/-- The inverse frequency `f`. -/
def invf (f : ℕ) : EReal :=
  Ideal.pow (Ideal.ofBits FTy.f32 0x48F42400#32)
    (Ideal.div (-(Ideal.ofBits FTy.f32 0x40000000#32 * FloatOps.sitofp (F := Ideal) FTy.f32 (BitVec.ofNat 32 f))) (Ideal.ofBits FTy.f32 0x42000000#32))

/-- The angle of row `r` at frequency `f`. -/
def ang (r f : ℕ) : EReal := FloatOps.sitofp (F := Ideal) FTy.f32 (BitVec.ofNat 32 r) * invf f

/-- Lane `n`'s row within its line, as the integer division by sixteen computes it. -/
def laneRow (n : ℕ) (d : BitVec 32) : BitVec 32 :=
  Scalar.select
    (IntOp.andi
      (IntOp.cmpi CmpIPredicate.ne
        (if BitVec.ofNat 32 n = 0 then 0 else if (BitVec.ofNat 32 n).msb = true then -1 else 1 : BitVec 32)
        (if d = 0 then 0 else if BitVec.msb d = true then -1 else 1 : BitVec 32))
      (IntOp.cmpi CmpIPredicate.ne (IntOp.remsi ArithUnit.host (BitVec.ofNat 32 n) d) 0#32))
    (IntOp.subi (IntOp.divsi ArithUnit.host (BitVec.ofNat 32 n) d) 1#32)
    (IntOp.divsi ArithUnit.host (BitVec.ofNat 32 n) d)

theorem laneRow_fin : ∀ n : Fin 128, laneRow n.val 16#32 = BitVec.ofNat 32 (n.val / 16) := by decide +kernel

/-- The row a line and a lane stand for. -/
theorem row_eq (r f : ℕ) (hr : r < 8192) (hf : f < 16) :
    IntOp.addi (IntOp.muli (8#32) (BitVec.ofNat 32 (r / 8))) (laneRow (r % 8 * 16 + f) 16#32) = BitVec.ofNat 32 r := by
  rw [show r % 8 * 16 + f = (⟨r % 8 * 16 + f, by omega⟩ : Fin 128).val from rfl, laneRow_fin]
  apply BitVec.eq_of_toNat_eq
  simp [IntOp.addi, IntOp.muli]
  omega

theorem ang_eq (r f : ℕ) (hr : r < 8192) (hf : f < 16) :
    FloatOps.sitofp (F := Ideal) FTy.f32 (IntOp.addi (IntOp.muli (8#32) (BitVec.ofNat 32 (r / 8))) (laneRow (r % 8 * 16 + f) 16#32))
        * invf ((r % 8 * 16 + f) % 16) = ang r f := by
  rw [row_eq r f hr hf, show (r % 8 * 16 + f) % 16 = f by omega, ang]

/-- The tables: the cosine of a head's column, and the sines that reach its first and its second sixteen columns. -/
def cosT (r : ℕ) (k : Fin 128) : EReal := if k.val < 16 then Ideal.cos (ang r k.val) else if k.val - 16 < 16 then Ideal.cos (ang r (k.val - 16)) else 1
def s1T (r : ℕ) (k : Fin 128) : EReal := if k.val < 16 then 0 else if k.val - 16 < 16 then Ideal.sin (ang r (k.val - 16)) else 0
def s2T (r : ℕ) (k : Fin 128) : EReal := if k.val < 16 then -Ideal.sin (ang r k.val) else 0

/-- A head's gradient before the rotation, at row `r`. -/
def rope (r : ℕ) (d : Fin 128 → EReal) (k : Fin 128) : EReal :=
  if h : k.val < 16 then d k * Ideal.cos (ang r k.val) + d ⟨k.val + 16, by omega⟩ * Ideal.sin (ang r k.val)
  else if h' : k.val < 32 then
    d k * Ideal.cos (ang r (k.val - 16)) + -(d ⟨k.val - 16, by omega⟩ * Ideal.sin (ang r (k.val - 16)))
  else d k

/-- The column `s` places to the left, around. -/
abbrev back (k : Fin 128) (s : ℕ) : Fin 128 := ⟨(k.val + 128 - s) % 128, Nat.mod_lt _ (by decide)⟩

/-- The rotation of one head's gradient, column `k` of its 128, backward: from the tables' cosine and two sines. -/
def ropeB (cs s1 s2 d : Fin 128 → EReal) (k : Fin 128) : EReal :=
  d k * cs k + d (back k 112) * s1 (back k 112) + d (back k 16) * s2 (back k 16)

theorem ropeB_eq (r : ℕ) (d : Fin 128 → EReal) (k : Fin 128) : ropeB (cosT r) (s1T r) (s2T r) d k = rope r d k := by
  have hk := k.isLt
  unfold ropeB rope cosT s1T s2T
  by_cases h : k.val < 16
  · have h1 : ¬ (k.val + 128 - 112) % 128 < 16 := by omega
    have h2 : (k.val + 128 - 112) % 128 - 16 < 16 := by omega
    have h3 : ¬ (k.val + 128 - 16) % 128 < 16 := by omega
    simp only [h, h1, h2, h3, if_true, if_false, dif_pos, mul_zero, add_zero]
    refine congrArg (d k * Ideal.cos (ang r k.val) + ·) ?_
    congr 2
    · exact Fin.ext (by simp; omega)
    · congr 1; omega
  · by_cases h' : k.val < 32
    · have h1 : ¬ (k.val + 128 - 112) % 128 < 16 := by omega
      have h2 : ¬ (k.val + 128 - 112) % 128 - 16 < 16 := by omega
      have h3 : (k.val + 128 - 16) % 128 < 16 := by omega
      have h4 : k.val - 16 < 16 := by omega
      simp only [h, h', h1, h2, h3, h4, if_true, if_false, dif_pos, dif_neg, not_false_iff, mul_zero, add_zero, mul_neg]
      refine congrArg (d k * Ideal.cos (ang r (k.val - 16)) + ·) (congrArg Neg.neg ?_)
      congr 2
      · exact Fin.ext (by simp; omega)
      · congr 1; omega
    · have h1 : (k.val + 128 - 112) % 128 < 16 ∨ ¬ (k.val + 128 - 112) % 128 - 16 < 16 := by omega
      have h3 : ¬ (k.val + 128 - 16) % 128 < 16 := by omega
      have h4 : ¬ k.val - 16 < 16 := by omega
      rcases h1 with h1 | h1
      · simp only [h, h', h1, h3, h4, if_true, if_false, dif_neg, not_false_iff, mul_zero, add_zero, mul_one]
      · by_cases h2 : (k.val + 128 - 112) % 128 < 16
        · simp only [h, h', h2, h3, h4, if_true, if_false, dif_neg, not_false_iff, mul_zero, add_zero, mul_one]
        · simp only [h, h', h1, h2, h3, h4, if_true, if_false, dif_neg, not_false_iff, mul_zero, add_zero, mul_one]

/-- The same as the sum of the padded pieces a derivative of the rotation adds up. -/
theorem rope_pads (r : ℕ) (d : Fin 128 → EReal) (k : Fin 128) :
    ((if h : 32 ≤ k.val ∧ k.val - 32 < 96 then d ⟨32 + (k.val - 32), by omega⟩ else 0)
      + if h : k.val < 32 then
          (if h' : 16 ≤ k.val ∧ k.val - 16 < 16 then
              d ⟨16 + (k.val - 16), by omega⟩ * Ideal.cos (ang r (k.val - 16)) + -d ⟨k.val - 16, by omega⟩ * Ideal.sin (ang r (k.val - 16))
            else 0)
          + if h' : k.val < 16 then d ⟨16 + k.val, by omega⟩ * Ideal.sin (ang r k.val) + d k * Ideal.cos (ang r k.val) else 0
        else 0) = rope r d k := by
  have hk := k.isLt
  unfold rope
  by_cases h : k.val < 16
  · have h1 : ¬ (32 ≤ k.val ∧ k.val - 32 < 96) := by omega
    have h2 : k.val < 32 := by omega
    have h3 : ¬ (16 ≤ k.val ∧ k.val - 16 < 16) := by omega
    rw [dif_neg h1, dif_pos h2, dif_neg h3, dif_pos h, dif_pos h, zero_add, zero_add, add_comm]
    exact congrArg (fun l => d k * Ideal.cos (ang r k.val) + d l * Ideal.sin (ang r k.val)) (Fin.ext (Nat.add_comm ..))
  · by_cases h' : k.val < 32
    · have h1 : ¬ (32 ≤ k.val ∧ k.val - 32 < 96) := by omega
      have h3 : 16 ≤ k.val ∧ k.val - 16 < 16 := by omega
      rw [dif_neg h1, dif_pos h', dif_pos h3, dif_neg h, dif_neg h, dif_pos h', zero_add, add_zero, neg_mul]
      exact congrArg (fun l => d l * Ideal.cos (ang r (k.val - 16)) + -(d ⟨k.val - 16, _⟩ * Ideal.sin (ang r (k.val - 16)))) (Fin.ext (by simp; omega))
    · have h1 : 32 ≤ k.val ∧ k.val - 32 < 96 := by omega
      rw [dif_pos h1, dif_neg h', dif_neg h, dif_neg h', add_zero]
      exact congrArg d (Fin.ext (by simp; omega))

end Cert.Rope
end
-- ==== Proof.AttnInVal.lean ====
module

public import proofs.«01_k».proof.Proof.Rows
public import proofs.«01_k».proof.Proof.Rope
public import proofs.«01_k».proof.Proof.Gen.AttnInIdeal.Value
public import Idealize.ShloMosaic.Lib.Pointwise
public import Idealize.ShloMosaic.Lib.StableHlo.ReadAt

@[expose] public section

set_option maxRecDepth 16384

noncomputable section

/-! The attention sublayer's input, backward: the four arrays the kernel leaves, over the arrays it is called with. -/

namespace Cert.AttnInIdeal.Val
open Idealize.ShloMosaic Idealize.ShloMosaic.TcCoe Idealize.SL.Sem
open Cert.AttnInIdeal Cert.AttnInIdeal.Gen Cert.Rows Cert.Rope

variable (m : (ℓ : Loc nD τ sig) → Buf (Elt Ideal) ℓ) (c : Dev nD)

abbrev DQ : S8192x1024.Idx → EReal := V m c main_v2
abbrev DK : S8192x256.Idx → EReal := V m c main_v3
abbrev DV : S8192x256.Idx → EReal := V m c main_v4
abbrev CS : S8192x128.Idx → EReal := V m c main_v38
abbrev S1 : S8192x128.Idx → EReal := V m c main_v40
abbrev S2 : S8192x128.Idx → EReal := V m c main_v43
abbrev X : S8192x1024.Idx → EReal := V m c main_v44
abbrev MODS : S12x1024.Idx → EReal := V m c main_v1
abbrev W : S1536x1024.Idx → EReal := V m c main_v46
abbrev DRES : S8192x1024.Idx → EReal := V m c main_v47

abbrev sh (k : Fin 1024) : EReal := MODS m c (ix2 0 k)
abbrev sc (k : Fin 1024) : EReal := MODS m c (ix2 1 k)

/-- A gradient of the queries', keys' and values' columns, before the rotation. -/
def DQKV (r : Fin 8192) (k : Fin 1536) : EReal :=
  if h : k.val < 1024 then DQ m c (ix2 r ⟨k.val, h⟩)
  else if h' : k.val < 1280 then DK m c (ix2 r ⟨k.val - 1024, by omega⟩)
  else DV m c (ix2 r ⟨k.val - 1280, by omega⟩)

/-- The head column `k` lies in begins at column `128 * (k / 128)`; this is that head's column `l`. -/
abbrev inHead (k : Fin 1536) (l : Fin 128) : Fin 1536 := ⟨128 * (k.val / 128) + l.val, by omega⟩

/-- The gradient of the columns after the rotation. -/
def DZ (r : Fin 8192) (k : Fin 1536) : EReal :=
  if k.val < 1280 then
    ropeB (fun l => CS m c (ix2 r l)) (fun l => S1 m c (ix2 r l)) (fun l => S2 m c (ix2 r l))
      (fun l => DQKV m c r (inHead k l)) ⟨k.val % 128, Nat.mod_lt _ (by decide)⟩
  else DQKV m c r k

/-- The gradient of the modulated row. -/
def DH (r : Fin 8192) (k : Fin 1024) : EReal := ∑ l, DZ m c r l * W m c (ix2 l k)
def DX (r : Fin 8192) (k : Fin 1024) : EReal := DRES m c (ix2 r k) + DH m c r k * (1 + sc m c k)
def H (r : Fin 8192) (k : Fin 1024) : EReal := X m c (ix2 r k) * (1 + sc m c k) + sh m c k

theorem idx0 : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![0, 0] ∧ win0_9.index t = ![t.val, 0]
    ∧ win0_10.index t = ![t.val, 0] ∧ win0_11.index t = ![t.val, 0] ∧ win0_12.index t = ![t.val, 0] ∧ win0_13.index t = ![0, 0] :=
  (by decide +kernel : ∀ t : Fin grid0.N, _)

abbrev brow (t : Fin cfg0.N) (a : Fin 512) : Fin 8192 := ⟨t.val * 512 + a.val, by have := t.isLt; have : cfg0.N = 16 := N_0; omega⟩

theorem blk_q (t : Fin cfg0.N) (i : S512x1024.Idx) : (iblk m c 0 t : S512x1024.Idx → EReal) i = DQ m c (ix2 (brow t (i 0)) (i 1)) := by
  blk_point [iblk, idx0 t]
theorem blk_k (t : Fin cfg0.N) (i : S512x256.Idx) : (iblk m c 1 t : S512x256.Idx → EReal) i = DK m c (ix2 (brow t (i 0)) (i 1)) := by
  blk_point [iblk, idx0 t]
theorem blk_v (t : Fin cfg0.N) (i : S512x256.Idx) : (iblk m c 2 t : S512x256.Idx → EReal) i = DV m c (ix2 (brow t (i 0)) (i 1)) := by
  blk_point [iblk, idx0 t]
theorem blk_cs (t : Fin cfg0.N) (i : S512x128.Idx) : (iblk m c 3 t : S512x128.Idx → EReal) i = CS m c (ix2 (brow t (i 0)) (i 1)) := by
  blk_point [iblk, idx0 t]
theorem blk_s1 (t : Fin cfg0.N) (i : S512x128.Idx) : (iblk m c 4 t : S512x128.Idx → EReal) i = S1 m c (ix2 (brow t (i 0)) (i 1)) := by
  blk_point [iblk, idx0 t]
theorem blk_s2 (t : Fin cfg0.N) (i : S512x128.Idx) : (iblk m c 5 t : S512x128.Idx → EReal) i = S2 m c (ix2 (brow t (i 0)) (i 1)) := by
  blk_point [iblk, idx0 t]
theorem blk_x (t : Fin cfg0.N) (i : S512x1024.Idx) : (iblk m c 6 t : S512x1024.Idx → EReal) i = X m c (ix2 (brow t (i 0)) (i 1)) := by
  blk_point [iblk, idx0 t]
theorem blk_w (t : Fin cfg0.N) (i : S1536x1024.Idx) : (iblk m c 8 t : S1536x1024.Idx → EReal) i = W m c i := by
  blk_point [iblk, idx0 t]
theorem blk_r (t : Fin cfg0.N) (i : S512x1024.Idx) : (iblk m c 9 t : S512x1024.Idx → EReal) i = DRES m c (ix2 (brow t (i 0)) (i 1)) := by
  blk_point [iblk, idx0 t]

theorem DZ_head (r : Fin 8192) (k : Fin 1536) (l : Fin 128) (hl : k.val % 128 = l.val) (h : k.val < 1280)
    (cs s1 s2 d : Fin 128 → EReal) (hcs : ∀ l, cs l = CS m c (ix2 r l)) (hs1 : ∀ l, s1 l = S1 m c (ix2 r l))
    (hs2 : ∀ l, s2 l = S2 m c (ix2 r l)) (hd : ∀ l, d l = DQKV m c r (inHead k l)) :
    ropeB cs s1 s2 d l = DZ m c r k := by
  rw [funext hcs, funext hs1, funext hs2, funext hd, show l = ⟨k.val % 128, Nat.mod_lt _ (by decide)⟩ from Fin.ext hl.symm]
  exact (if_pos h).symm

theorem DQKV_q (r : Fin 8192) (k : Fin 1536) (l : Fin 1024) (h : l.val = k.val) : DQ m c (ix2 r l) = DQKV m c r k :=
  (dif_pos (by omega : k.val < 1024)).trans (congrArg (fun l => DQ m c (ix2 r l)) (Fin.ext h.symm)) |>.symm

theorem DQKV_k (r : Fin 8192) (k : Fin 1536) (l : Fin 256) (h : l.val + 1024 = k.val) : DK m c (ix2 r l) = DQKV m c r k :=
  ((dif_neg (by omega : ¬k.val < 1024)).trans ((dif_pos (by omega : k.val < 1280)).trans
    (congrArg (fun l => DK m c (ix2 r l)) (Fin.ext (by simp [← h]))))).symm

theorem DQKV_v (r : Fin 8192) (k : Fin 1536) (l : Fin 256) (h : l.val + 1280 = k.val) : DV m c (ix2 r l) = DZ m c r k :=
  ((if_neg (by omega : ¬k.val < 1280)).trans ((dif_neg (by omega : ¬k.val < 1024)).trans ((dif_neg (by omega : ¬k.val < 1280)).trans
    (congrArg (fun l => DV m c (ix2 r l)) (Fin.ext (by simp [← h])))))).symm

/-- One head of the queries' gradient rotated, the head's columns beginning at `o`. -/
def QH (r : Fin 8192) (o : ℕ) (ho : o + 128 ≤ 1024) (k : Fin 128) : EReal :=
  ropeB (fun l => CS m c (ix2 r l)) (fun l => S1 m c (ix2 r l)) (fun l => S2 m c (ix2 r l))
    (fun l => DQ m c (ix2 r ⟨o + l.val, by omega⟩)) k

/-- The same of the keys'. -/
def KH (r : Fin 8192) (o : ℕ) (ho : o + 128 ≤ 256) (k : Fin 128) : EReal :=
  ropeB (fun l => CS m c (ix2 r l)) (fun l => S1 m c (ix2 r l)) (fun l => S2 m c (ix2 r l))
    (fun l => DK m c (ix2 r ⟨o + l.val, by omega⟩)) k

theorem QH_eq (r : Fin 8192) (n : ℕ) (ho : 128 * n + 128 ≤ 1024) (k : Fin 1536) (h : 128 * n ≤ k.val ∧ k.val - 128 * n < 128) :
    QH m c r (128 * n) ho ⟨k.val - 128 * n, h.2⟩ = DZ m c r k :=
  DZ_head m c r k _ (by simp; omega) (by omega) _ _ _ _ (fun _ => rfl) (fun _ => rfl) (fun _ => rfl)
    fun l => DQKV_q m c r _ _ (by simp; omega)

theorem KH_eq (r : Fin 8192) (n : ℕ) (ho : 128 * n + 128 ≤ 256) (k : Fin 1536)
    (h : 128 * n + 1024 ≤ k.val ∧ k.val - (128 * n + 1024) < 128) :
    KH m c r (128 * n) ho ⟨k.val - (128 * n + 1024), h.2⟩ = DZ m c r k :=
  DZ_head m c r k _ (by simp; omega) (by omega) _ _ _ _ (fun _ => rfl) (fun _ => rfl) (fun _ => rfl)
    fun l => DQKV_k m c r _ _ (by simp; omega)

/-- The stores into the rotated gradient's block, last first. -/
abbrev pieces (t : Fin cfg0.N) : List (View.Piece (Elt Ideal) S512x1536 .bf16) :=
  [⟨Rect.unit ![0, 1280] ![512, 256] inb_S512x1536_S512x256_0_1280, k0_pay24 (iblk m c 2 t)⟩,
   ⟨Rect.unit ![0, 1152] ![512, 128] inb_S512x1536_S512x128_0_1152,
      k0_pay23 (k0_pay6 (iblk m c 3 t)) (k0_pay7 (iblk m c 4 t)) (k0_pay8 (iblk m c 5 t))
        (View.ld (iblk m c 1 t) (Rect.unit ![0, 128] ![512, 128] inb_S512x256_S512x128_0_128))⟩,
   ⟨Rect.unit ![0, 1024] ![512, 128] inb_S512x1536_S512x128_0_1024,
      k0_pay22 (k0_pay6 (iblk m c 3 t)) (k0_pay7 (iblk m c 4 t)) (k0_pay8 (iblk m c 5 t))
        (View.ld (iblk m c 1 t) (Rect.unit ![0, 0] ![512, 128] inb_S512x256_S512x128_0_0))⟩,
   ⟨Rect.unit ![0, 896] ![512, 128] inb_S512x1536_S512x128_0_896,
      k0_pay21 (k0_pay6 (iblk m c 3 t)) (k0_pay7 (iblk m c 4 t)) (k0_pay8 (iblk m c 5 t))
        (View.ld (iblk m c 0 t) (Rect.unit ![0, 896] ![512, 128] inb_S512x1024_S512x128_0_896))⟩,
   ⟨Rect.unit ![0, 768] ![512, 128] inb_S512x1536_S512x128_0_768,
      k0_pay20 (k0_pay6 (iblk m c 3 t)) (k0_pay7 (iblk m c 4 t)) (k0_pay8 (iblk m c 5 t))
        (View.ld (iblk m c 0 t) (Rect.unit ![0, 768] ![512, 128] inb_S512x1024_S512x128_0_768))⟩,
   ⟨Rect.unit ![0, 640] ![512, 128] inb_S512x1536_S512x128_0_640,
      k0_pay19
        (k0_pay17 (k0_pay6 (iblk m c 3 t)) (k0_pay7 (iblk m c 4 t))
          (View.ld (iblk m c 0 t) (Rect.unit ![0, 640] ![512, 128] inb_S512x1024_S512x128_0_640)))
        (k0_pay18 (k0_pay8 (iblk m c 5 t))
          (View.ld (iblk m c 0 t) (Rect.unit ![0, 640] ![512, 128] inb_S512x1024_S512x128_0_640)))
        16#32⟩,
   ⟨Rect.unit ![0, 512] ![512, 128] inb_S512x1536_S512x128_0_512,
      k0_pay15 (k0_pay6 (iblk m c 3 t)) (k0_pay7 (iblk m c 4 t)) (k0_pay8 (iblk m c 5 t))
        (View.ld (iblk m c 0 t) (Rect.unit ![0, 512] ![512, 128] inb_S512x1024_S512x128_0_512))⟩,
   ⟨Rect.unit ![0, 384] ![512, 128] inb_S512x1536_S512x128_0_384,
      k0_pay14 (k0_pay6 (iblk m c 3 t)) (k0_pay7 (iblk m c 4 t)) (k0_pay8 (iblk m c 5 t))
        (View.ld (iblk m c 0 t) (Rect.unit ![0, 384] ![512, 128] inb_S512x1024_S512x128_0_384))⟩,
   ⟨Rect.unit ![0, 256] ![512, 128] inb_S512x1536_S512x128_0_256,
      k0_pay13 (k0_pay7 (iblk m c 4 t)) (k0_pay8 (iblk m c 5 t))
        (k0_pay11 (View.ld (iblk m c 0 t) (Rect.unit ![0, 256] ![512, 128] inb_S512x1024_S512x128_0_256)))
        (k0_pay12 (iblk m c 3 t)
          (View.ld (iblk m c 0 t) (Rect.unit ![0, 256] ![512, 128] inb_S512x1024_S512x128_0_256)))⟩,
   ⟨Rect.unit ![0, 128] ![512, 128] inb_S512x1536_S512x128_0_128,
      k0_pay10 (iblk m c 3 t) (iblk m c 4 t) (iblk m c 5 t)
        (View.ld (iblk m c 0 t) (Rect.unit ![0, 128] ![512, 128] inb_S512x1024_S512x128_0_128))⟩,
   ⟨Rect.unit ![0, 0] ![512, 128] inb_S512x1536_S512x128_0_0,
      k0_pay9 (iblk m c 3 t) (iblk m c 4 t) (iblk m c 5 t)
        (View.ld (iblk m c 0 t) (Rect.unit ![0, 0] ![512, 128] inb_S512x1024_S512x128_0_0))⟩]

theorem canon_pieces (t : Fin cfg0.N) (a : Fin 512) (k : Fin 1536) : View.canon (pieces m c t) (ix2 a k) = (DZ m c (brow t a) k : EReal) := by
  have hk := k.isLt
  repeat' with_reducible refine canon_cols_step _ _ _ _ _ _ (fun h => ?_) fun h' => ?_
  · pointwise [k0_pay24, blk_v]
    exact DQKV_v m c _ _ _ (by simp; omega)
  · refine Eq.trans (b := KH m c (brow t a) 128 (by decide) ⟨k.val - 1152, h.2⟩) ?_ (KH_eq m c _ 1 (by decide) k h)
    pointwise [k0_pay23, k0_pay6, k0_pay7, k0_pay8, blk_k, blk_cs, blk_s1, blk_s2, KH, ropeB]
  · refine Eq.trans (b := KH m c (brow t a) 0 (by decide) ⟨k.val - 1024, h.2⟩) ?_ (KH_eq m c _ 0 (by decide) k h)
    pointwise [k0_pay22, k0_pay6, k0_pay7, k0_pay8, blk_k, blk_cs, blk_s1, blk_s2, KH, ropeB]
  · refine Eq.trans (b := QH m c (brow t a) 896 (by decide) ⟨k.val - 896, h.2⟩) ?_ (QH_eq m c _ 7 (by decide) k h)
    pointwise [k0_pay21, k0_pay6, k0_pay7, k0_pay8, blk_q, blk_cs, blk_s1, blk_s2, QH, ropeB]
  · refine Eq.trans (b := QH m c (brow t a) 768 (by decide) ⟨k.val - 768, h.2⟩) ?_ (QH_eq m c _ 6 (by decide) k h)
    pointwise [k0_pay20, k0_pay6, k0_pay7, k0_pay8, blk_q, blk_cs, blk_s1, blk_s2, QH, ropeB]
  · refine Eq.trans (b := QH m c (brow t a) 640 (by decide) ⟨k.val - 640, h.2⟩) ?_ (QH_eq m c _ 5 (by decide) k h)
    pointwise [k0_pay19, k0_pay18, k0_pay17, k0_pay16, k0_pay6, k0_pay7, k0_pay8, blk_q, blk_cs, blk_s1, blk_s2, QH, ropeB]
  · refine Eq.trans (b := QH m c (brow t a) 512 (by decide) ⟨k.val - 512, h.2⟩) ?_ (QH_eq m c _ 4 (by decide) k h)
    pointwise [k0_pay15, k0_pay6, k0_pay7, k0_pay8, blk_q, blk_cs, blk_s1, blk_s2, QH, ropeB]
  · refine Eq.trans (b := QH m c (brow t a) 384 (by decide) ⟨k.val - 384, h.2⟩) ?_ (QH_eq m c _ 3 (by decide) k h)
    pointwise [k0_pay14, k0_pay6, k0_pay7, k0_pay8, blk_q, blk_cs, blk_s1, blk_s2, QH, ropeB]
  · refine Eq.trans (b := QH m c (brow t a) 256 (by decide) ⟨k.val - 256, h.2⟩) ?_ (QH_eq m c _ 2 (by decide) k h)
    pointwise [k0_pay13, k0_pay12, k0_pay11, k0_pay6, k0_pay7, k0_pay8, blk_q, blk_cs, blk_s1, blk_s2, QH, ropeB]
  · refine Eq.trans (b := QH m c (brow t a) 128 (by decide) ⟨k.val - 128, h.2⟩) ?_ (QH_eq m c _ 1 (by decide) k h)
    pointwise [k0_pay10, k0_pay6, k0_pay7, k0_pay8, blk_q, blk_cs, blk_s1, blk_s2, QH, ropeB]
  · refine Eq.trans (b := QH m c (brow t a) 0 (by decide) ⟨k.val - 0, h.2⟩) ?_ (QH_eq m c _ 0 (by decide) k h)
    pointwise [k0_pay9, k0_pay6, k0_pay7, k0_pay8, blk_q, blk_cs, blk_s1, blk_s2, QH, ropeB]
  · omega

theorem read_pieces (t : Fin cfg0.N) (y : S512x1536.Idx) : View.canon (pieces m c t) y = (DZ m c (brow t (y 0)) (y 1) : EReal) := by
  conv_lhs => rw [eq_ix2 y]
  exact canon_pieces m c t (y 0) (y 1)

theorem load_all (t : Fin cfg0.N) {sig : RefSig} {κ : Kind} {sp : Space} (v : View sig κ sp S512x1536 .bf16) :
    v.readCov (pieces m c t) (Rect.unit (s := S512x1536) ![0, 0] ![512, 1536] inb_S512x1536_S512x1536_0_0).toLoadRect
      = (fun y => DZ m c (brow t (y 0)) (y 1) : S512x1536.Idx → EReal) := by
  rw [View.readCov_eq_canon']
  funext y
  refine (congrArg (View.canon (pieces m c t)) ?_).trans (read_pieces m c t y)
  funext a
  refine Fin.ext ?_
  revert a
  refine Fin.forall_fin_two.mpr ⟨?_, ?_⟩ <;> simp

end Cert.AttnInIdeal.Val
end
-- ==== Proof.AttnInFin.lean ====
module

public import proofs.«01_k».proof.Proof.AttnInVal

@[expose] public section

set_option maxRecDepth 16384

noncomputable section

/-! The four arrays the kernel of the attention sublayer's input leaves after its last point. -/

namespace Cert.AttnInIdeal.Val
open Idealize.ShloMosaic Idealize.ShloMosaic.TcCoe Idealize.SL.Sem
open Cert.AttnInIdeal Cert.AttnInIdeal.Gen Cert.Rows Cert.Rope

variable (m : (ℓ : Loc nD τ sig) → Buf (Elt Ideal) ℓ) (c : Dev nD)

theorem fin11 : (dats m 0 c).arrAt 11 cfg0.N = fun j => DZ m c (j 0) (j 1) := by
  refine (dats m 0 c).arrAt_eq_of_covers 11 _ (by decide +kernel) fun t hf y => ?_
  blk_simp
  refine Eq.trans (b := DZ m c (brow t (y 0)) (y 1)) ?_ (congrArg₂ (DZ m c) (Fin.ext ?_) (Fin.ext ?_))
  · rw [after0_11]
    by_cases h : t.val % 16 = 0
    · rw [outsAt0_A m c t h]
      frame_out
      exact read_pieces m c t y
    · rw [outsAt0_B m c t h]
      frame_out
      exact read_pieces m c t y
  · blk_simp [idx0 t]
  · blk_simp [idx0 t]

theorem blk_sh (t : Fin cfg0.N) (h) : View.ld (S := S12x1024) (Val := Elt Ideal) (e' := .f32) (iblk m c 7 t) (Rect.unit (s := S12x1024) ![0, 0] ![1, 1024] h)
    = fun k => sh m c (k 1) := by
  funext k; unfold sh; pointwise; blk_point [iblk, idx0 t]
theorem blk_sc (t : Fin cfg0.N) (h) : View.ld (S := S12x1024) (Val := Elt Ideal) (e' := .f32) (iblk m c 7 t) (Rect.unit (s := S12x1024) ![1, 0] ![1, 1024] h)
    = fun k => sc m c (k 1) := by
  funext k; unfold sc; pointwise; blk_point [iblk, idx0 t]

theorem fin10 : (dats m 0 c).arrAt 10 cfg0.N = fun j => DX m c (j 0) (j 1) := by
  refine (dats m 0 c).arrAt_eq_of_covers 10 _ (by decide +kernel) fun t hf y => ?_
  blk_simp
  refine Eq.trans (b := DX m c (brow t (y 0)) (y 1)) ?_ (congrArg₂ (DX m c) (Fin.ext ?_) (Fin.ext ?_))
  · rw [after0_10]
    by_cases h : t.val % 16 = 0
    · rw [outsAt0_A m c t h]
      frame_out
      refine (congrArg (fun z => k0_pay2 (F := Ideal) (k0_pay25 z) _ _ _ y) (load_all m c t _)).trans ?_
      pointwise [k0_pay2, k0_pay1, k0_pay25, k0_pay27, k0_pay29, blk_w, blk_r, blk_sc, DX, DH]
    · rw [outsAt0_B m c t h]
      frame_out
      refine (congrArg (fun z => k0_pay2 (F := Ideal) (k0_pay25 z) _ _ _ y) (load_all m c t _)).trans ?_
      pointwise [k0_pay2, k0_pay1, k0_pay25, k0_pay27, k0_pay29, blk_w, blk_r, blk_sc, DX, DH]
  · blk_simp [idx0 t]
  · blk_simp [idx0 t]

theorem fin12 : (dats m 0 c).arrAt 12 cfg0.N = fun j => H m c (j 0) (j 1) := by
  refine (dats m 0 c).arrAt_eq_of_covers 12 _ (by decide +kernel) fun t hf y => ?_
  blk_simp
  refine Eq.trans (b := H m c (brow t (y 0)) (y 1)) ?_ (congrArg₂ (H m c) (Fin.ext ?_) (Fin.ext ?_))
  · rw [after0_12]
    by_cases h : t.val % 16 = 0
    · rw [outsAt0_A m c t h]
      frame_out
      pointwise [k0_pay28, k0_pay26, k0_pay27, blk_x, blk_sc, blk_sh, H]
    · rw [outsAt0_B m c t h]
      frame_out
      pointwise [k0_pay28, k0_pay26, k0_pay27, blk_x, blk_sc, blk_sh, H]
  · blk_simp [idx0 t]
  · blk_simp [idx0 t]

/-- A tile's share of the row sums. -/
def S13 (t : ℕ) (h : t < cfg0.N) (j : S8x1024.Idx) : EReal :=
  if (j 0).val = 1 then ∑ x, DH m c (brow ⟨t, h⟩ x) (j 1) * X m c (ix2 (brow ⟨t, h⟩ x) (j 1))
  else if (j 0).val = 0 then ∑ x, DH m c (brow ⟨t, h⟩ x) (j 1)
  else 0

theorem pay1_at (t : Fin cfg0.N) (z : S512x1536.Idx → EReal) (hz : z = fun y => DZ m c (brow t (y 0)) (y 1)) (a : Fin 512) (k : Fin 1024) :
    (k0_pay1 (F := Ideal) (k0_pay25 z) (k0_pay29 (iblk m c 8 t)) : S512x1024.Idx → EReal) (ix2 a k) = DH m c (brow t a) k := by
  subst hz
  pointwise [k0_pay1, k0_pay25, k0_pay29, blk_w, DH]

theorem pay4_at (t : Fin cfg0.N) (z : S512x1536.Idx → EReal) (hz : z = fun y => DZ m c (brow t (y 0)) (y 1)) (v : S1x1024.Idx → EReal)
    (j : S1x1024.Idx) :
    (k0_pay4 (F := Ideal) (k0_pay25 z) (k0_pay26 (iblk m c 6 t)) (k0_pay29 (iblk m c 8 t)) v : S1x1024.Idx → EReal) j
      = v j + ∑ x, DH m c (brow t x) (j 1) * X m c (ix2 (brow t x) (j 1)) := by
  pointwise [k0_pay4, k0_pay26, pay1_at m c t z hz, blk_x]

theorem pay3_at (t : Fin cfg0.N) (z : S512x1536.Idx → EReal) (hz : z = fun y => DZ m c (brow t (y 0)) (y 1)) (v : S1x1024.Idx → EReal)
    (j : S1x1024.Idx) :
    (k0_pay3 (F := Ideal) (k0_pay25 z) (k0_pay29 (iblk m c 8 t)) v : S1x1024.Idx → EReal) j
      = v j + ∑ x, DH m c (brow t x) (j 1) := by
  pointwise [k0_pay3, pay1_at m c t z hz]

theorem reset13 (t : Fin cfg0.N) (h : t.val % 16 = 0) (j : S8x1024.Idx) :
    (outsAt0 m c t.val t.isLt).2.2.2 j = 0 + S13 m c t.val t.isLt j := by
  rw [outsAt0_A m c t h]
  frame_out
  simp only [canon_row, S13]
  split_ifs with h1 h0
  · refine (pay4_at m c t _ (load_all m c t _) _ _).trans ?_
    pointwise [k0_pay5, rowIx, readCov_row, canon_row, canon_whole]
  · refine (pay3_at m c t _ (load_all m c t _) _ _).trans ?_
    pointwise [k0_pay5, rowIx, readCov_row, canon_row, canon_whole]
  · pointwise [k0_pay5, canon_whole]

theorem step13 (t : Fin cfg0.N) (h : ¬t.val % 16 = 0) (j : S8x1024.Idx) : (outsAt0 m c t.val t.isLt).2.2.2 j
    = (outsAt0 m c (t.val - 1) (Nat.lt_of_le_of_lt (Nat.sub_le _ _) t.isLt)).2.2.2 j + S13 m c t.val t.isLt j := by
  rw [outsAt0_B m c t h]
  frame_out
  simp only [read_writes_row, S13]
  split_ifs with h1 h0
  · refine (pay4_at m c t _ (load_all m c t _) _ _).trans ?_
    pointwise [rowIx, ix2_row j 1 h1]
  · refine (pay3_at m c t _ (load_all m c t _) _ _).trans ?_
    pointwise [rowIx, ix2_row j 0 h0]
  · rw [add_zero]
    exact congrFun (Memref.IsWhole.read_unread ..) j

theorem fin13 : (dats m 0 c).arrAt 13 cfg0.N = fun j => ∑ t : Fin cfg0.N, S13 m c t.val t.isLt j := by
  refine (dats m 0 c).arrAt_eq_of_after_last 13 t0_15 (by decide +kernel) _ fun j => ?_
  blk_simp
  rw [after0_13, Pipeline.eq_sum_fin_of_reset_step_apply_last (fun n h => (outsAt0 m c n h).2.2.2) 16 (fun _ => 0)
    (fun t j => S13 m c t.val t.isLt j) (reset13 m c) (step13 m c) (le_of_eq N_0) t0_15 rfl j, zero_add]

end Cert.AttnInIdeal.Val
end
-- ==== Proof.AttnInFun.lean ====
module

public import proofs.«01_k».proof.Proof.Rope

@[expose] public section

set_option maxRecDepth 16384

noncomputable section

/-! The attention sublayer's input, backward, as functions of the arguments. -/

namespace Cert.AttnInFun

open Idealize.ShloMosaic Cert.Rope

variable (dq : (⟨4, ![1, 8192, 8, 128]⟩ : Shape).Idx → EReal) (dk dv : (⟨4, ![1, 8192, 2, 128]⟩ : Shape).Idx → EReal)
  (dres x : (⟨3, ![1, 8192, 1024]⟩ : Shape).Idx → EReal) (md : (⟨2, ![1, 3072]⟩ : Shape).Idx → EReal)
  (w : (⟨2, ![1024, 1536]⟩ : Shape).Idx → EReal)

def shift (k : Fin 1024) : EReal := md (ix2 0 ⟨k.val, by omega⟩)
def scale (k : Fin 1024) : EReal := md (ix2 0 ⟨1024 + k.val, by omega⟩)

/-- The gradient of the queries', keys' and values' columns. -/
def dz (r : Fin 8192) (k : Fin 1536) : EReal :=
  if h : k.val < 1024 then rope r.val (fun l => dq (ix4 0 r ⟨k.val / 128, by omega⟩ l)) ⟨k.val % 128, Nat.mod_lt _ (by decide)⟩
  else if h' : k.val < 1280 then
    rope r.val (fun l => dk (ix4 0 r ⟨(k.val - 1024) / 128, by omega⟩ l)) ⟨k.val % 128, Nat.mod_lt _ (by decide)⟩
  else dv (ix4 0 r ⟨(k.val - 1280) / 128, by omega⟩ ⟨(k.val - 1280) % 128, Nat.mod_lt _ (by decide)⟩)

/-- The gradient of the modulated row. -/
def dh (r : Fin 8192) (k : Fin 1024) : EReal := ∑ l, dz dq dk dv r l * w (ix2 k l)
def dx (r : Fin 8192) (k : Fin 1024) : EReal := dres (ix3 0 r k) + dh dq dk dv w r k * (1 + scale md k)
def h (r : Fin 8192) (k : Fin 1024) : EReal := x (ix3 0 r k) * (1 + scale md k) + shift md k
/-- The row sums: of the shift's gradient in row 0, the scale's in row 1. -/
def sums (a : Fin 8) (k : Fin 1024) : EReal :=
  if a.val = 1 then ∑ r, dh dq dk dv w r k * x (ix3 0 r k)
  else if a.val = 0 then ∑ r, dh dq dk dv w r k
  else 0

end Cert.AttnInFun
end
-- ==== Proof.AttnInArgs.lean ====
module

public import proofs.«01_k».proof.Proof.AttnInFin
public import proofs.«01_k».proof.Proof.AttnInFun
public import Idealize.ShloMosaic.Lib.StableHlo.ReadAt

@[expose] public section

set_option maxRecDepth 16384

noncomputable section

/-! The arrays the kernel of the attention sublayer's input is called with, over the program's arguments. -/

namespace Cert.AttnInIdeal.Val
open Idealize.ShloMosaic Idealize.ShloMosaic.TcCoe Idealize.SL.Sem
open Cert.AttnInIdeal Cert.AttnInIdeal.Gen Cert.Rope

variable (m : (ℓ : Loc nD τ sig) → Buf (Elt Ideal) ℓ) (c : Dev nD)

abbrev A0 : S1x8192x8x128.Idx → EReal := m ((c.tc : Thread nD τ).loc main_arg0)
abbrev A1 : S1x8192x2x128.Idx → EReal := m ((c.tc : Thread nD τ).loc main_arg1)
abbrev A2 : S1x8192x2x128.Idx → EReal := m ((c.tc : Thread nD τ).loc main_arg2)
abbrev A3 : S1x8192x1024.Idx → EReal := m ((c.tc : Thread nD τ).loc main_arg3)
abbrev A4 : S1x8192x1024.Idx → EReal := m ((c.tc : Thread nD τ).loc main_arg4)
abbrev A5 : S1x3072.Idx → EReal := m ((c.tc : Thread nD τ).loc main_arg5)
abbrev A6 : S1024x1536.Idx → EReal := m ((c.tc : Thread nD τ).loc main_arg6)

theorem DQ_at (r : Fin 8192) (k : Fin 1024) : DQ m c (ix2 r k) = A0 m c (ix4 0 r ⟨k.val / 128, by omega⟩ ⟨k.val % 128, Nat.mod_lt _ (by decide)⟩) := by
  show V m c main_v2 _ = _
  unfold V
  after_reads_at

theorem DK_at (r : Fin 8192) (k : Fin 256) : DK m c (ix2 r k) = A1 m c (ix4 0 r ⟨k.val / 128, by omega⟩ ⟨k.val % 128, Nat.mod_lt _ (by decide)⟩) := by
  show V m c main_v3 _ = _
  unfold V
  after_reads_at

theorem DV_at (r : Fin 8192) (k : Fin 256) : DV m c (ix2 r k) = A2 m c (ix4 0 r ⟨k.val / 128, by omega⟩ ⟨k.val % 128, Nat.mod_lt _ (by decide)⟩) := by
  show V m c main_v4 _ = _
  unfold V
  after_reads_at

theorem X_at (r : Fin 8192) (k : Fin 1024) : X m c (ix2 r k) = A4 m c (ix3 0 r k) := by
  show V m c main_v44 _ = _
  unfold V
  after_reads_at

theorem DRES_at (r : Fin 8192) (k : Fin 1024) : DRES m c (ix2 r k) = A3 m c (ix3 0 r k) := by
  show V m c main_v47 _ = _
  unfold V
  after_reads_at

theorem W_at (l : Fin 1536) (k : Fin 1024) : W m c (ix2 l k) = A6 m c (ix2 k l) := by
  show V m c main_v46 _ = _
  unfold V
  after_reads_at

theorem sh_at (k) : sh m c k = AttnInFun.shift (A5 m c) k := by
  show V m c main_v1 _ = _
  unfold V AttnInFun.shift
  after_reads_at

theorem sc_at (k) : sc m c k = AttnInFun.scale (A5 m c) k := by
  show V m c main_v1 _ = _
  unfold V AttnInFun.scale
  after_reads_at

theorem CS_at (r : Fin 8192) (k : Fin 128) : CS m c (ix2 r k) = cosT r.val k := by
  show V m c main_v38 _ = _
  unfold V cosT
  after_reads_at
  by_cases h : k.val < 16
  · rw [dif_pos h, if_pos h]
    after_reads_at
    exact congrArg Ideal.cos (ang_eq r.val k.val r.isLt h)
  · rw [dif_neg h, if_neg h]
    by_cases h' : k.val - 16 < 16
    · rw [dif_pos h', if_pos h']
      after_reads_at
      exact congrArg Ideal.cos (ang_eq r.val _ r.isLt h')
    · rw [dif_neg h', if_neg h']
      after_reads_at

theorem S1_at (r : Fin 8192) (k : Fin 128) : S1 m c (ix2 r k) = s1T r.val k := by
  show V m c main_v40 _ = _
  unfold V s1T
  after_reads_at
  by_cases h : k.val < 16
  · rw [dif_pos h, if_pos h]
    after_reads_at
  · rw [dif_neg h, if_neg h]
    by_cases h' : k.val - 16 < 16
    · rw [dif_pos h', if_pos h']
      after_reads_at
      exact congrArg Ideal.sin (ang_eq r.val _ r.isLt h')
    · rw [dif_neg h', if_neg h']
      after_reads_at

theorem S2_at (r : Fin 8192) (k : Fin 128) : S2 m c (ix2 r k) = s2T r.val k := by
  show V m c main_v43 _ = _
  unfold V s2T
  after_reads_at
  by_cases h : k.val < 16
  · rw [dif_pos h, if_pos h]
    after_reads_at
    exact congrArg (fun a => -Ideal.sin a) (ang_eq r.val _ r.isLt h)
  · rw [dif_neg h, if_neg h]
    by_cases h' : k.val - 16 < 16
    · rw [dif_pos h']
      after_reads_at
    · rw [dif_neg h']
      after_reads_at

theorem DZ_eq (r : Fin 8192) (k : Fin 1536) : DZ m c r k = AttnInFun.dz (A0 m c) (A1 m c) (A2 m c) r k := by
  have rot : ∀ d : Fin 128 → EReal, ∀ l, ropeB (fun l => CS m c (ix2 r l)) (fun l => S1 m c (ix2 r l)) (fun l => S2 m c (ix2 r l)) d l = rope r.val d l :=
    fun d l => by rw [funext (CS_at m c r), funext (S1_at m c r), funext (S2_at m c r)]; exact ropeB_eq r.val d l
  have hk := k.isLt
  unfold DZ AttnInFun.dz
  by_cases h : k.val < 1024
  · rw [if_pos (by omega), dif_pos h, rot]
    refine congrArg (fun d => rope r.val d _) (funext fun l => ?_)
    rw [DQKV, dif_pos (by simp; omega), DQ_at]
    exact congrArg (A0 m c) (congrArg₂ (ix4 0 r) (Fin.ext (by simp; try omega)) (Fin.ext (by simp; try omega)))
  · rw [dif_neg h]
    by_cases h' : k.val < 1280
    · rw [if_pos h', dif_pos h', rot]
      refine congrArg (fun d => rope r.val d _) (funext fun l => ?_)
      rw [DQKV, dif_neg (by simp; omega), dif_pos (by simp; omega), DK_at]
      exact congrArg (A1 m c) (congrArg₂ (ix4 0 r) (Fin.ext (by simp; omega)) (Fin.ext (by simp; omega)))
    · rw [if_neg h', dif_neg h', DQKV, dif_neg h, dif_neg h', DV_at]

theorem DH_eq (r : Fin 8192) (k : Fin 1024) : DH m c r k = AttnInFun.dh (A0 m c) (A1 m c) (A2 m c) (A6 m c) r k :=
  Finset.sum_congr rfl fun l _ => Ideal.mul_congr (DZ_eq m c r l) (W_at m c l k)

theorem DX_eq (r : Fin 8192) (k : Fin 1024) :
    DX m c r k = AttnInFun.dx (A0 m c) (A1 m c) (A2 m c) (A3 m c) (A5 m c) (A6 m c) r k := by
  unfold DX AttnInFun.dx
  rw [DRES_at, DH_eq, sc_at]

theorem H_eq (r : Fin 8192) (k : Fin 1024) : H m c r k = AttnInFun.h (A4 m c) (A5 m c) r k := by
  unfold H AttnInFun.h
  rw [X_at, sc_at, sh_at]

theorem sum_rows (f : Fin 8192 → EReal) (g : Fin cfg0.N → Fin 512 → EReal) (hg : ∀ t a, g t a = f (brow t a)) :
    ∑ t, ∑ a, g t a = ∑ r, f r :=
  (Finset.sum_congr rfl fun t _ => Finset.sum_congr rfl fun a _ => hg t a).trans (Fin.sum_univ_tiles 16 512 rfl f).symm

theorem S13_eq (j : S8x1024.Idx) : (∑ t : Fin cfg0.N, S13 m c t.val t.isLt j)
    = AttnInFun.sums (A0 m c) (A1 m c) (A2 m c) (A4 m c) (A6 m c) (j 0) (j 1) := by
  unfold AttnInFun.sums
  by_cases h1 : (j 0).val = 1
  · rw [if_pos h1]
    exact (Finset.sum_congr rfl fun t _ => if_pos h1).trans
      (sum_rows _ _ fun t a => Ideal.mul_congr (DH_eq m c _ _) (X_at m c _ _))
  · rw [if_neg h1]
    by_cases h0 : (j 0).val = 0
    · rw [if_pos h0]
      exact (Finset.sum_congr rfl fun t _ => (if_neg h1).trans (if_pos h0)).trans (sum_rows _ _ fun t a => DH_eq m c _ _)
    · rw [if_neg h0]
      exact Finset.sum_eq_zero fun t _ => (if_neg h1).trans (if_neg h0)

end Cert.AttnInIdeal.Val
end
-- ==== Proof.AttnInRef.lean ====
module

public import proofs.«01_k».proof.Proof.AttnInFun
public import proofs.«01_k».proof.Proof.Gen.AttnInRefIdeal.Run
public import proofs.«01_k».proof.Proof.Gen.AttnInRefIdeal.Read

@[expose] public section

set_option maxRecDepth 16384

noncomputable section

/-! The reference of the attention sublayer's input, read at an index. -/

namespace Cert.AttnInRefIdeal.Val
open Idealize.ShloMosaic Idealize.ShloMosaic.TcCoe Idealize.SL.Sem
open Cert.AttnInRefIdeal Cert.AttnInRefIdeal.Gen Cert.AttnInRefIdeal.Read Cert.Rope

variable (x0 : S1x8192x8x128.Idx → EReal) (x1 x2 : S1x8192x2x128.Idx → EReal) (x3 x4 : S1x8192x1024.Idx → EReal)
  (x5 : S1x3072.Idx → EReal) (x6 : S1024x1536.Idx → EReal)

theorem cos_ (i : S8192x16.Idx) : (val_main_v32 (F := Ideal) : S8192x16.Idx → EReal) i = Ideal.cos (ang (i 0).val (i 1).val) := by
  pointwise [val_main_v32, val_main_v31, val_main_v30, val_main_v29, val_main_v28, val_main_v27, val_main_v26, val_main_v25, val_main_v24,
    val_main_v23, val_main_v22, val_main_v21, val_main_v20, val_main_v19, val_main_v18, val_main_v17, val_main_v16, val_main_cst_0,
    val_main_cst_1, val_main_cst_2, val_main_cst_3, ang, invf]

theorem sin_ (i : S8192x16.Idx) : (val_main_v33 (F := Ideal) : S8192x16.Idx → EReal) i = Ideal.sin (ang (i 0).val (i 1).val) := by
  pointwise [val_main_v33, val_main_v31, val_main_v30, val_main_v29, val_main_v28, val_main_v27, val_main_v26, val_main_v25, val_main_v24,
    val_main_v23, val_main_v22, val_main_v21, val_main_v20, val_main_v19, val_main_v18, val_main_v17, val_main_v16, val_main_cst_0,
    val_main_cst_1, val_main_cst_2, val_main_cst_3, ang, invf]

theorem q_ (i : S1x8192x8x128.Idx) : (val_main_v116 (F := Ideal) x0 : S1x8192x8x128.Idx → EReal) i
    = rope (i 1).val (fun l => x0 (ix4 0 (i 1) (i 2) l)) (i 3) := by
  pointwise [val_main_v116, val_main_v115, val_main_v114, val_main_v113, val_main_v112, val_main_v111, val_main_v110, val_main_v109,
    val_main_v108, val_main_v107, val_main_v106, val_main_v105, val_main_v104, val_main_v103, val_main_v102, val_main_v101, val_main_v100,
    val_main_v99, val_main_v98, val_main_v97, val_main_v96, val_main_v38, val_main_v39, cos_, sin_,
    val_main_cst_8, val_main_cst_9, val_main_cst_10, val_main_cst_11]
  exact rope_pads (i 1).val (fun l => x0 (ix4 0 (i 1) (i 2) l)) (i 3)

theorem k_ (i : S1x8192x2x128.Idx) : (val_main_v94 (F := Ideal) x1 : S1x8192x2x128.Idx → EReal) i
    = rope (i 1).val (fun l => x1 (ix4 0 (i 1) (i 2) l)) (i 3) := by
  pointwise [val_main_v94, val_main_v93, val_main_v92, val_main_v91, val_main_v90, val_main_v89, val_main_v88, val_main_v87,
    val_main_v86, val_main_v85, val_main_v84, val_main_v83, val_main_v82, val_main_v81, val_main_v80, val_main_v79, val_main_v78,
    val_main_v77, val_main_v76, val_main_v75, val_main_v74, val_main_v57, val_main_v58, cos_, sin_,
    val_main_cst_4, val_main_cst_5, val_main_cst_6, val_main_cst_7]
  exact rope_pads (i 1).val (fun l => x1 (ix4 0 (i 1) (i 2) l)) (i 3)

theorem dz_ (i : S1x8192x1536.Idx) : (val_main_v118 (F := Ideal) x0 x1 x2 : S1x8192x1536.Idx → EReal) i
    = AttnInFun.dz x0 x1 x2 (i 1) (i 2) := by
  unfold AttnInFun.dz
  have hk : (i 2).val < 1536 := (i 2).isLt
  pointwise [val_main_v118, val_main_v117, val_main_v95, val_main_v73, q_, k_]
  by_cases h : (i 2).val < 1024
  · rw [dif_pos h, dif_pos h]
  · rw [dif_neg h, dif_neg h]
    by_cases h' : (i 2).val < 1280
    · rw [dif_pos (by omega), dif_pos h']
      exact congrArg (rope _ _) (Fin.ext (by simp; omega))
    · rw [dif_neg (by omega), dif_neg h']
      exact congrArg x2 (congrArg₂ (ix4 0 _) (Fin.ext (by simp; omega)) (Fin.ext (by simp; omega)))

theorem scale_ (i : S1x1x1024.Idx) : (val_main_v7 (F := Ideal) x5 : S1x1x1024.Idx → EReal) i = 1 + AttnInFun.scale x5 (i 2) := by
  pointwise [val_main_v7, val_main_v6, val_main_cst, val_main_v4, val_main_v1, AttnInFun.scale]

theorem eta (i : S1x8192x1024.Idx) : (ix3 0 (i 1) (i 2) : S1x8192x1024.Idx) = i := by
  funext a
  match a with
  | 0 => exact Subsingleton.elim (α := Fin 1) _ _
  | 1 => rfl
  | 2 => rfl

theorem h_ (i : S1x8192x1024.Idx) : (val_main_v11 (F := Ideal) x4 x5 : S1x8192x1024.Idx → EReal) i = AttnInFun.h x4 x5 (i 1) (i 2) := by
  pointwise [val_main_v11, val_main_v10, val_main_v9, val_main_v8, scale_, val_main_v3, val_main_v0, AttnInFun.h, AttnInFun.shift, eta i]

theorem dh_ (i : S1x8192x1024.Idx) : (val_main_v119 (F := Ideal) x0 x1 x2 x6 : S1x8192x1024.Idx → EReal) i
    = AttnInFun.dh x0 x1 x2 x6 (i 1) (i 2) := by
  pointwise [val_main_v119, dz_, AttnInFun.dh]

theorem dx_out : (val_main_v132 (F := Ideal) x0 x1 x2 x3 x5 x6 : S8192x1024.Idx → EReal)
    = fun j => AttnInFun.dx x0 x1 x2 x3 x5 x6 (j 0) (j 1) := by
  funext j
  pointwise [val_main_v132, val_main_v131, val_main_v126, val_main_v125, scale_, dh_, AttnInFun.dx]

theorem dz_out : (val_main_v134 (F := Ideal) x0 x1 x2 : S8192x1536.Idx → EReal) = fun j => AttnInFun.dz x0 x1 x2 (j 0) (j 1) := by
  funext j
  pointwise [val_main_v134, val_main_v133, dz_]

theorem h_out : (val_main_v136 (F := Ideal) x4 x5 : S8192x1024.Idx → EReal) = fun j => AttnInFun.h x4 x5 (j 0) (j 1) := by
  funext j
  pointwise [val_main_v136, val_main_v135, h_]

theorem sum0_ (i : S1x1024.Idx) : (val_main_v120 (F := Ideal) x0 x1 x2 x6 : S1x1024.Idx → EReal) i
    = ∑ r, AttnInFun.dh x0 x1 x2 x6 r (i 1) := by
  pointwise [val_main_v120, val_main_cst_12, dh_]

theorem sum1_ (i : S1x1024.Idx) : (val_main_v123 (F := Ideal) x0 x1 x2 x4 x6 : S1x1024.Idx → EReal) i
    = ∑ r, AttnInFun.dh x0 x1 x2 x6 r (i 1) * x4 (ix3 0 r (i 1)) := by
  pointwise [val_main_v123, val_main_v122, val_main_cst_13, dh_]
  exact Finset.sum_congr rfl fun r _ => mul_comm _ _

theorem sums_out : (val_main_v130 (F := Ideal) x0 x1 x2 x4 x6 : S8x1024.Idx → EReal)
    = fun j => AttnInFun.sums x0 x1 x2 x4 x6 (j 0) (j 1) := by
  funext j
  pointwise [val_main_v130, val_main_v129, val_main_v128, val_main_v127, val_main_v124, val_main_v121, val_main_cst_14, sum0_, sum1_, AttnInFun.sums]
  split_ifs <;> first | rfl | omega

end Cert.AttnInRefIdeal.Val
end
-- ==== Proof.AttnInPair.lean ====
module

public import proofs.«01_k».proof.Defs
public import proofs.«01_k».proof.Proof.Gen.AttnIn.Frame
public import proofs.«01_k».proof.Proof.Gen.AttnInIdeal.Value
public import proofs.«01_k».proof.Proof.AttnInFin
public import proofs.«01_k».proof.Proof.AttnInArgs
public import proofs.«01_k».proof.Proof.AttnInRef
public import Idealize.ShloMosaic.Lib.Claim

@[expose] public section

set_option maxRecDepth 16384

noncomputable section

/-! The attention sublayer's input, backward, against its reference. -/

namespace Cert.AttnInPair

open Idealize.ShloMosaic Idealize.ShloMosaic.TcCoe Idealize.SL.Sem

theorem frameP : Cert.quiescent_AttnIn := fun m ρ _ => Cert.AttnIn.Gen.frame m ρ
theorem framePI : Cert.quiescent_AttnInIdeal := fun m ρ _ => Cert.AttnInIdeal.Gen.frame m ρ

section
open Cert.AttnInIdeal Cert.AttnInIdeal.Gen Cert.AttnInIdeal.Val

variable (m : (ℓ : Loc nD τ sig) → Buf (Elt Ideal) ℓ) (ρ : Dev nD → PrngReg)

theorem runK : θ_run defs (onTc (τ := τ) (main (F := Ideal))) ⟨m, fun _ => 0, ρ⟩ fun r => ∀ c : Dev nD,
    r.2.mem ((c.tc : Thread nD τ).loc main_v48_0) = (fun j : S8192x1024.Idx => AttnInFun.dx (A0 m c) (A1 m c) (A2 m c) (A3 m c) (A5 m c) (A6 m c) (j 0) (j 1))
    ∧ r.2.mem ((c.tc : Thread nD τ).loc main_v48_1) = (fun j : S8192x1536.Idx => AttnInFun.dz (A0 m c) (A1 m c) (A2 m c) (j 0) (j 1))
    ∧ r.2.mem ((c.tc : Thread nD τ).loc main_v48_2) = (fun j : S8192x1024.Idx => AttnInFun.h (A4 m c) (A5 m c) (j 0) (j 1))
    ∧ r.2.mem ((c.tc : Thread nD τ).loc main_v48_3) = (fun j : S8x1024.Idx => AttnInFun.sums (A0 m c) (A1 m c) (A2 m c) (A4 m c) (A6 m c) (j 0) (j 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  (θ_run defs _ _).mono (fun _ h c => by
    obtain ⟨r0, r1, r2, r3, hr⟩ := h c
    exact ⟨r0.trans ((fin10 m c).trans (funext fun j : S8192x1024.Idx => DX_eq m c (j 0) (j 1))),
      r1.trans ((fin11 m c).trans (funext fun j : S8192x1536.Idx => DZ_eq m c (j 0) (j 1))),
      r2.trans ((fin12 m c).trans (funext fun j : S8192x1024.Idx => H_eq m c (j 0) (j 1))),
      r3.trans ((fin13 m c).trans (funext fun j : S8x1024.Idx => S13_eq m c j)), hr⟩) (Cert.AttnInIdeal.Value.run_blocks m ρ)
end

theorem algebraic : Cert.algebraic_AttnInIdeal_AttnInRefIdeal := fun m ρ m' ρ' _ hag =>
  ⟨_, _, _, _, runK m ρ, (θ_run Cert.AttnInRefIdeal.defs _ _).mono (fun _ h c => by
    obtain ⟨a0, a1, a2, a3, a4, a5, a6⟩ := hag c
    obtain ⟨r0, r1, r2, r3, hr⟩ := h c
    refine ⟨r0.trans ?_, r1.trans ?_, r2.trans ?_, r3.trans ?_, hr⟩
    · rw [Cert.AttnInRefIdeal.Read.val_main_v132_eq, a0, a1, a2, a3, a5, a6]
      exact Cert.AttnInRefIdeal.Val.dx_out _ _ _ _ _ _
    · rw [Cert.AttnInRefIdeal.Read.val_main_v134_eq, a0, a1, a2]
      exact Cert.AttnInRefIdeal.Val.dz_out _ _ _
    · rw [Cert.AttnInRefIdeal.Read.val_main_v136_eq, a4, a5]
      exact Cert.AttnInRefIdeal.Val.h_out _ _
    · rw [Cert.AttnInRefIdeal.Read.val_main_v130_eq, a0, a1, a2, a4, a6]
      exact Cert.AttnInRefIdeal.Val.sums_out _ _ _ _ _) (Cert.AttnInRefIdeal.Value.run m' ρ')⟩

theorem frameRI : Cert.quiescent_AttnInRefIdeal := fun m ρ _ =>
  (θ_run Cert.AttnInRefIdeal.defs _ _).mono (fun r h => ⟨fun c => (h c).2.2.2.2, sem_eq_zero_of_no_sems (by decide) r.2⟩) (Cert.AttnInRefIdeal.Value.run m ρ)

end Cert.AttnInPair
end
-- ==== Proof.MlpRun.lean ====
module

public import proofs.«01_k».proof.Proof.Gen.MlpIdeal.Frame

@[expose] public section

set_option maxRecDepth 16384

noncomputable section

namespace Cert.MlpIdeal.Arr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlpIdeal Cert.MlpIdeal.Gen

variable {F : FTy → Type} [FloatOps F] (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every array of the device that is not a region's own ends at the fold of the host operations and the two regions. -/
theorem run_sems : θ_run defs (onTc (τ := τ) (main (F := F))) ⟨m, fun _ => 0, ρ⟩ (fun r => (∀ c : Dev nD,
    ∀ b ∈ Pipeline.ucRefs τ sig, r.2.mem (((c : Thread nD τ)).1, b) = W6 m ρ c b) ∧ r.2.sem = fun _ => 0) :=
  Pipeline.θ_run_regions_kit_sems (pcfgs (F := F)) adm (pdats m ρ) () cellOf_inj emb₁
    defs₀ 𝒱₀ L lv m ρ main (segs m ρ) (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

end Cert.MlpIdeal.Arr

end
-- ==== Proof.MlpFun.lean ====
module

public import proofs.«01_k».proof.Proof.LayerNorm

@[expose] public section

set_option maxRecDepth 16384

noncomputable section

/-! The feed-forward sublayer and its gradient on one row. -/

namespace Cert.MlpFun

open Idealize.ShloMosaic Cert.LN

/-- The weight of the residual stream, as the programs write it. -/
abbrev alpha : EReal := Ideal.ofBits .f32 0x3FB504F3#32
abbrev two : EReal := Ideal.ofBits .f32 0x40000000#32

variable (x sh sc gt g b dz : Fin 1024 → EReal) (w1 w2 : Fin 4096 → Fin 1024 → EReal) (ra da : Fin 4096 → EReal)

def h (k : Fin 1024) : EReal := x k * (1 + sc k) + sh k
def act (f : Fin 4096) : EReal := max (∑ k, h x sh sc k * w1 f k) 0
/-- The branch's output from its activations. -/
def down (k : Fin 1024) : EReal := ∑ f, ra f * ra f * w2 f k
/-- The norm's input. -/
def mix (y : Fin 1024 → EReal) (k : Fin 1024) : EReal := alpha * x k + (1 + gt k) * y k
def x1 (z : Fin 1024 → EReal) (k : Fin 1024) : EReal := xhat z k * g k + b k
def d (ct : Fin 1024 → EReal) (k : Fin 1024) : EReal := ct k * g k
def dy (k : Fin 1024) : EReal := dz k * (1 + gt k)
def dact (dy : Fin 1024 → EReal) (f : Fin 4096) : EReal := (∑ k, dy k * w2 f k) * (two * ra f)
def dh (k : Fin 1024) : EReal := ∑ f, da f * w1 f k
def dx (dh : Fin 1024 → EReal) (k : Fin 1024) : EReal := alpha * dz k + dh k * (1 + sc k)

/-- A sum over the features, in the four chunks the programs' loops take. -/
theorem four (f : Fin 4096 → EReal) : ∑ i, f i
    = 0 + (∑ x : Fin 1024, f ⟨x.val, by omega⟩) + (∑ x : Fin 1024, f ⟨1024 + x.val, by omega⟩) + (∑ x : Fin 1024, f ⟨2048 + x.val, by omega⟩)
      + (∑ x : Fin 1024, f ⟨3072 + x.val, by omega⟩) := by
  rw [Fin.sum_univ_tiles 4 1024 rfl f, Fin.sum_univ_four, zero_add]
  refine congrArg₂ (· + ·) (congrArg₂ (· + ·) (congrArg₂ (· + ·) ?_ ?_) ?_) ?_ <;>
    exact Finset.sum_congr rfl fun x _ => congrArg f (Fin.ext (by simp))

end Cert.MlpFun
end
-- ==== Proof.MlpVal0.lean ====
module

public import proofs.«01_k».proof.Proof.Gen.MlpIdeal.Frame
public import proofs.«01_k».proof.Proof.Rows
public import proofs.«01_k».proof.Proof.MlpFun

@[expose] public section

set_option maxRecDepth 16384

noncomputable section
namespace Cert.MlpIdeal.Val
open Idealize.ShloMosaic Idealize.ShloMosaic.TcCoe Idealize.SL.Sem
open Cert.MlpIdeal Cert.MlpIdeal.Gen Cert.LN Cert.Rows

theorem idx0 : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] :=
  (by decide +kernel : ∀ t : Fin grid0.N, _)

variable (V : (c : Dev nD) → (b : Ref sig .tc) → Buf (Elt Ideal) ((c : Thread nD τ).loc b)) (c : Dev nD)

abbrev X : S8192x1024.Idx → EReal := V c main_v7
abbrev MODS : S12x1024.Idx → EReal := V c main_v1
abbrev W1 : S4096x1024.Idx → EReal := V c main_v3
abbrev W2 : S4096x1024.Idx → EReal := V c main_v4
abbrev LNG : S1x1024.Idx → EReal := V c main_v5
abbrev LNB : S1x1024.Idx → EReal := V c main_v6
abbrev xr (r : Fin 8192) (k : Fin 1024) : EReal := X V c (ix2 r k)
abbrev sh (k : Fin 1024) : EReal := MODS V c (ix2 3 k)
abbrev sc (k : Fin 1024) : EReal := MODS V c (ix2 4 k)
abbrev gt (k : Fin 1024) : EReal := MODS V c (ix2 5 k)
abbrev w1 (f : Fin 4096) (k : Fin 1024) : EReal := W1 V c (ix2 f k)
abbrev w2 (f : Fin 4096) (k : Fin 1024) : EReal := W2 V c (ix2 f k)
abbrev lng (k : Fin 1024) : EReal := LNG V c (ix2 0 k)
abbrev lnb' (k : Fin 1024) : EReal := LNB V c (ix2 0 k)

abbrev brow0 (t : Fin cfg0.N) (a : Fin 512) : Fin 8192 := ⟨t.val * 512 + a.val, by have := t.isLt; have : cfg0.N = 16 := N_0; omega⟩

theorem blk0_x (t : Fin cfg0.N) (a : Fin 512) (k : Fin 1024) : (iblk0 V c 0 t : S512x1024.Idx → EReal) (ix2 a k) = xr V c (brow0 t a) k := by
  blk_point [iblk0, idx0 t]
theorem blk0_mods (t : Fin cfg0.N) (i : S12x1024.Idx) : (iblk0 V c 1 t : S12x1024.Idx → EReal) i = MODS V c i := by
  blk_point [iblk0, idx0 t]
theorem blk0_w1 (t : Fin cfg0.N) (i : S4096x1024.Idx) : (iblk0 V c 2 t : S4096x1024.Idx → EReal) i = W1 V c i := by
  blk_point [iblk0, idx0 t]
theorem blk0_w2 (t : Fin cfg0.N) (i : S4096x1024.Idx) : (iblk0 V c 3 t : S4096x1024.Idx → EReal) i = W2 V c i := by
  blk_point [iblk0, idx0 t]
theorem blk0_g (t : Fin cfg0.N) (i : S1x1024.Idx) : (iblk0 V c 4 t : S1x1024.Idx → EReal) i = LNG V c i := by
  blk_point [iblk0, idx0 t]
theorem blk0_b (t : Fin cfg0.N) (i : S1x1024.Idx) : (iblk0 V c 5 t : S1x1024.Idx → EReal) i = LNB V c i := by
  blk_point [iblk0, idx0 t]

/-- A row's activations, -/
def RA (r : Fin 8192) (f : Fin 4096) : EReal := MlpFun.act (xr V c r) (sh V c) (sc V c) (w1 V c) f
def R (r : Fin 8192) (f : Fin 4096) : EReal := RA V c r f * RA V c r f
/-- and the branch's output. -/
def Y0 (r : Fin 8192) (k : Fin 1024) : EReal := MlpFun.down (w2 V c) (RA V c r) k
def X1 (r : Fin 8192) (k : Fin 1024) : EReal := MlpFun.x1 (lng V c) (lnb' V c) (MlpFun.mix (xr V c r) (gt V c) (Y0 V c r)) k

theorem ra_at (t : Fin cfg0.N) (a : Fin 512) (k : Fin 4096) :
    ((dat0 V c).after 8 t : S512x4096.Idx → EReal) (ix2 a k) = RA V c (brow0 t a) k := by
  have e : ∀ (o : ℕ) (h : o + (k.val - o) < 4096), o ≤ k.val → RA V c (brow0 t a) ⟨o + (k.val - o), h⟩ = RA V c (brow0 t a) k :=
    fun o h h' => congrArg _ (Fin.ext (by simp; omega))
  have hk := k.isLt
  rw [after0_8]
  frame_out
  unfold r0_11 r0_9 r0_7 r0_5
  repeat' with_reducible refine canon_cols_step _ _ _ _ _ _ (fun h => ?_) fun h' => ?_
  · refine Eq.trans ?_ (e 3072 (by omega) h.1)
    pointwise [k0_pay19, k0_pay17, k0_pay23, k0_pay4, k0_pay2, blk0_x, blk0_mods, blk0_w1, MlpFun.act, MlpFun.h, RA]
  · refine Eq.trans ?_ (e 2048 (by omega) h.1)
    pointwise [k0_pay15, k0_pay13, k0_pay23, k0_pay4, k0_pay2, blk0_x, blk0_mods, blk0_w1, MlpFun.act, MlpFun.h, RA]
  · refine Eq.trans ?_ (e 1024 (by omega) h.1)
    pointwise [k0_pay12, k0_pay10, k0_pay24, k0_pay9, k0_pay23, k0_pay4, k0_pay2, blk0_x, blk0_mods, blk0_w1, MlpFun.act, MlpFun.h, RA]
  · refine Eq.trans ?_ (e 0 (by omega) h.1)
    pointwise [k0_pay7, k0_pay5, k0_pay23, k0_pay4, k0_pay2, blk0_x, blk0_mods, blk0_w1, MlpFun.act, MlpFun.h, RA]
  · omega

theorem r_at (t : Fin cfg0.N) (a : Fin 512) (k : Fin 4096) :
    ((dat0 V c).after 9 t : S512x4096.Idx → EReal) (ix2 a k) = R V c (brow0 t a) k := by
  have e : ∀ (o : ℕ) (h : o + (k.val - o) < 4096), o ≤ k.val → R V c (brow0 t a) ⟨o + (k.val - o), h⟩ = R V c (brow0 t a) k :=
    fun o h h' => congrArg _ (Fin.ext (by simp; omega))
  have hk := k.isLt
  rw [after0_9]
  frame_out
  unfold r0_11 r0_9 r0_7 r0_5
  repeat' with_reducible refine canon_cols_step _ _ _ _ _ _ (fun h => ?_) fun h' => ?_
  · refine Eq.trans ?_ (e 3072 (by omega) h.1)
    pointwise [k0_pay26, k0_pay18, k0_pay17, k0_pay23, k0_pay4, k0_pay2, blk0_x, blk0_mods, blk0_w1, MlpFun.act, MlpFun.h, RA, R]
  · refine Eq.trans ?_ (e 2048 (by omega) h.1)
    pointwise [k0_pay14, k0_pay13, k0_pay23, k0_pay4, k0_pay2, blk0_x, blk0_mods, blk0_w1, MlpFun.act, MlpFun.h, RA, R]
  · refine Eq.trans ?_ (e 1024 (by omega) h.1)
    pointwise [k0_pay11, k0_pay10, k0_pay24, k0_pay9, k0_pay23, k0_pay4, k0_pay2, blk0_x, blk0_mods, blk0_w1, MlpFun.act, MlpFun.h, RA, R]
  · refine Eq.trans ?_ (e 0 (by omega) h.1)
    pointwise [k0_pay6, k0_pay5, k0_pay23, k0_pay4, k0_pay2, blk0_x, blk0_mods, blk0_w1, MlpFun.act, MlpFun.h, RA, R]
  · omega

theorem y_pay (t : Fin cfg0.N) (a : Fin 512) (k : Fin 1024) :
    (k0_pay20 (k0_pay25 (iblk0 V c 0 t) (iblk0 V c 1 t) (iblk0 V c 2 t) (iblk0 V c 3 t) (iblk0 V c 4 t) (iblk0 V c 5 t))
      (k0_pay26 (iblk0 V c 0 t) (iblk0 V c 1 t) (iblk0 V c 2 t) (iblk0 V c 3 t) (iblk0 V c 4 t) (iblk0 V c 5 t))
      (View.ld (iblk0 V c 3 t) r0_10) : S512x1024.Idx → EReal) (ix2 a k) = Y0 V c (brow0 t a) k := by
  refine Eq.trans ?_ (MlpFun.four fun f => R V c (brow0 t a) f * w2 V c f k).symm
  pointwise [k0_pay20, k0_pay25, k0_pay26, k0_pay16, k0_pay8, k0_pay18, k0_pay17, k0_pay14, k0_pay13, k0_pay11, k0_pay10, k0_pay24, k0_pay9, k0_pay6, k0_pay5, k0_pay23, k0_pay4, k0_pay2, blk0_x, blk0_mods, blk0_w1, MlpFun.act, MlpFun.h, RA, R, blk0_w2]

theorem y_at (t : Fin cfg0.N) (a : Fin 512) (k : Fin 1024) :
    ((dat0 V c).after 7 t : S512x1024.Idx → EReal) (ix2 a k) = Y0 V c (brow0 t a) k := by
  rw [after0_7]
  frame_out
  exact y_pay V c t a k

theorem x1_pay (v1 : FVec Ideal S512x1024 .f32) (v7 v96 : FVec Ideal S1x1024 .f32) (v57 : FVec Ideal S512x1024 .f32) (v64 : FVec Ideal S512x1024 .bf16)
    (v68 : FVec Ideal S1024x1024 .bf16) (a : Fin 512) (k : Fin 1024) : k0_pay21 (F := Ideal) v1 v7 v57 v64 v68 v96 (ix2 a k)
    = xhat (MlpFun.mix (fun k => v1 (ix2 a k)) (fun k => v7 (ix2 0 k)) (fun k => k0_pay20 (F := Ideal) v57 v64 v68 (ix2 a k))) k * v96 (ix2 0 k) := by
  pointwise [k0_pay21, xhat, rstd, cen, mean, MlpFun.mix]

theorem x1_at (t : Fin cfg0.N) (a : Fin 512) (k : Fin 1024) :
    ((dat0 V c).after 6 t : S512x1024.Idx → EReal) (ix2 a k) = X1 V c (brow0 t a) k := by
  rw [after0_6]
  frame_out
  pointwise [k0_pay1, x1_pay, k0_pay22, k0_pay2, k0_pay3, y_pay, blk0_x, blk0_mods, blk0_g, blk0_b, X1, MlpFun.x1]
  exact congrArg (fun y => xhat (MlpFun.mix (xr V c (brow0 t a)) (gt V c) y) k * _ + _) (funext (y_pay V c t a))

theorem fin0_8 : (dat0 V c).arrAt 8 cfg0.N = fun j => RA V c (j 0) (j 1) := by
  refine (dat0 V c).arrAt_eq_of_covers 8 _ (by decide +kernel) fun t hf y => ?_
  blk_simp
  refine Eq.trans (b := RA V c (brow0 t (y 0)) (y 1)) ?_ (congrArg₂ (RA V c) (Fin.ext ?_) (Fin.ext ?_))
  · exact (congrArg _ (eq_ix2 _)).trans (ra_at V c t (y 0) (y 1))
  · blk_simp [idx0 t]
  · blk_simp [idx0 t]

theorem fin0_9 : (dat0 V c).arrAt 9 cfg0.N = fun j => R V c (j 0) (j 1) := by
  refine (dat0 V c).arrAt_eq_of_covers 9 _ (by decide +kernel) fun t hf y => ?_
  blk_simp
  refine Eq.trans (b := R V c (brow0 t (y 0)) (y 1)) ?_ (congrArg₂ (R V c) (Fin.ext ?_) (Fin.ext ?_))
  · exact (congrArg _ (eq_ix2 _)).trans (r_at V c t (y 0) (y 1))
  · blk_simp [idx0 t]
  · blk_simp [idx0 t]

theorem fin0_7 : (dat0 V c).arrAt 7 cfg0.N = fun j => Y0 V c (j 0) (j 1) := by
  refine (dat0 V c).arrAt_eq_of_covers 7 _ (by decide +kernel) fun t hf y => ?_
  blk_simp
  refine Eq.trans (b := Y0 V c (brow0 t (y 0)) (y 1)) ?_ (congrArg₂ (Y0 V c) (Fin.ext ?_) (Fin.ext ?_))
  · exact (congrArg _ (eq_ix2 _)).trans (y_at V c t (y 0) (y 1))
  · blk_simp [idx0 t]
  · blk_simp [idx0 t]

theorem fin0_6 : (dat0 V c).arrAt 6 cfg0.N = fun j => X1 V c (j 0) (j 1) := by
  refine (dat0 V c).arrAt_eq_of_covers 6 _ (by decide +kernel) fun t hf y => ?_
  blk_simp
  refine Eq.trans (b := X1 V c (brow0 t (y 0)) (y 1)) ?_ (congrArg₂ (X1 V c) (Fin.ext ?_) (Fin.ext ?_))
  · exact (congrArg _ (eq_ix2 _)).trans (x1_at V c t (y 0) (y 1))
  · blk_simp [idx0 t]
  · blk_simp [idx0 t]

end Cert.MlpIdeal.Val
end
-- ==== Proof.MlpVal1.lean ====
module

public import proofs.«01_k».proof.Proof.MlpVal0

@[expose] public section

set_option maxRecDepth 16384

noncomputable section
namespace Cert.MlpIdeal.Val
open Idealize.ShloMosaic Idealize.ShloMosaic.TcCoe Idealize.SL.Sem
open Cert.MlpIdeal Cert.MlpIdeal.Gen Cert.LN Cert.Rows

theorem idx1 : ∀ t : Fin cfg1.N, win1_0.index t = ![t.val, 0] ∧ win1_1.index t = ![t.val, 0] ∧ win1_2.index t = ![t.val, 0]
    ∧ win1_3.index t = ![t.val, 0] ∧ win1_4.index t = ![0, 0] ∧ win1_5.index t = ![0, 0] ∧ win1_6.index t = ![0, 0]
    ∧ win1_7.index t = ![0, 0] ∧ win1_8.index t = ![t.val, 0] ∧ win1_9.index t = ![t.val, 0] ∧ win1_10.index t = ![t.val, 0]
    ∧ win1_11.index t = ![t.val, 0] ∧ win1_12.index t = ![0, 0] :=
  (by decide +kernel : ∀ t : Fin grid1.N, _)

variable (V : (c : Dev nD) → (b : Ref sig .tc) → Buf (Elt Ideal) ((c : Thread nD τ).loc b)) (c : Dev nD)

abbrev CT : S8192x1024.Idx → EReal := V c main_v9
abbrev YS : S8192x1024.Idx → EReal := V c main_v8_1
abbrev RAS : S8192x4096.Idx → EReal := V c main_v8_2
abbrev ctr (r : Fin 8192) (k : Fin 1024) : EReal := CT V c (ix2 r k)
abbrev yr (r : Fin 8192) (k : Fin 1024) : EReal := YS V c (ix2 r k)
abbrev rar (r : Fin 8192) (f : Fin 4096) : EReal := RAS V c (ix2 r f)

abbrev brow (t : Fin cfg1.N) (a : Fin 256) : Fin 8192 := ⟨t.val * 256 + a.val, by have := t.isLt; have : cfg1.N = 32 := N_1; omega⟩

theorem blk_ct (t : Fin cfg1.N) (a : Fin 256) (k : Fin 1024) : (iblk1 V c 0 t : S256x1024.Idx → EReal) (ix2 a k) = ctr V c (brow t a) k := by
  blk_point [iblk1, idx1 t]
theorem blk_x (t : Fin cfg1.N) (a : Fin 256) (k : Fin 1024) : (iblk1 V c 1 t : S256x1024.Idx → EReal) (ix2 a k) = xr V c (brow t a) k := by
  blk_point [iblk1, idx1 t]
theorem blk_y (t : Fin cfg1.N) (a : Fin 256) (k : Fin 1024) : (iblk1 V c 2 t : S256x1024.Idx → EReal) (ix2 a k) = yr V c (brow t a) k := by
  blk_point [iblk1, idx1 t]
theorem blk_ra (t : Fin cfg1.N) (a : Fin 256) (f : Fin 4096) : (iblk1 V c 3 t : S256x4096.Idx → EReal) (ix2 a f) = rar V c (brow t a) f := by
  blk_point [iblk1, idx1 t]
theorem blk_mods (t : Fin cfg1.N) (i : S12x1024.Idx) : (iblk1 V c 4 t : S12x1024.Idx → EReal) i = MODS V c i := by
  blk_point [iblk1, idx1 t]
theorem blk_w1 (t : Fin cfg1.N) (i : S4096x1024.Idx) : (iblk1 V c 5 t : S4096x1024.Idx → EReal) i = W1 V c i := by
  blk_point [iblk1, idx1 t]
theorem blk_w2 (t : Fin cfg1.N) (i : S4096x1024.Idx) : (iblk1 V c 6 t : S4096x1024.Idx → EReal) i = W2 V c i := by
  blk_point [iblk1, idx1 t]
theorem blk_g (t : Fin cfg1.N) (i : S1x1024.Idx) : (iblk1 V c 7 t : S1x1024.Idx → EReal) i = LNG V c i := by
  blk_point [iblk1, idx1 t]

/-- A row of the norm's input, normalised; -/
def XH (r : Fin 8192) (k : Fin 1024) : EReal := xhat (MlpFun.mix (xr V c r) (gt V c) (yr V c r)) k
/-- the gradient reaching it, -/
def DZ (r : Fin 8192) (k : Fin 1024) : EReal := lnb (MlpFun.mix (xr V c r) (gt V c) (yr V c r)) (MlpFun.d (lng V c) (ctr V c r)) k
/-- and those reaching the branch's output, the activations' inputs and the modulated row. -/
def DY (r : Fin 8192) (k : Fin 1024) : EReal := MlpFun.dy (gt V c) (DZ V c r) k
def DA (r : Fin 8192) (f : Fin 4096) : EReal := MlpFun.dact (w2 V c) (rar V c r) (DY V c r) f
def DH (r : Fin 8192) (k : Fin 1024) : EReal := MlpFun.dh (w1 V c) (DA V c r) k
def DX (r : Fin 8192) (k : Fin 1024) : EReal := MlpFun.dx (sc V c) (DZ V c r) (DH V c r) k
def H (r : Fin 8192) (k : Fin 1024) : EReal := MlpFun.h (xr V c r) (sh V c) (sc V c) k

section Pay
variable (t : Fin cfg1.N) (a : Fin 256) (k : Fin 1024)
abbrev cenP : FVec Ideal S256x1024 .f32 := k1_pay14 (F := Ideal) (iblk1 V c 1 t) (View.ld (iblk1 V c 4 t) (Rect.unit (s := S12x1024) ![5, 0] ![1, 1024] inb_S12x1024_S1x1024_5_0)) (iblk1 V c 2 t)
abbrev varP : FVec Ideal S256x1 .f32 := k1_pay15 (F := Ideal) (iblk1 V c 1 t) (View.ld (iblk1 V c 4 t) (Rect.unit (s := S12x1024) ![5, 0] ![1, 1024] inb_S12x1024_S1x1024_5_0)) (iblk1 V c 2 t)
abbrev dzP : FVec Ideal S256x1024 .f32 := k1_pay18 (F := Ideal) (k1_pay11 (iblk1 V c 0 t)) (k1_pay13 (iblk1 V c 7 t)) (cenP V c t) (varP V c t) (FloatOps.ofBits .f32 925353388#32)
abbrev dyP : FVec Ideal S256x1024 .bf16 := k1_pay24 (F := Ideal) (k1_pay10 (View.ld (iblk1 V c 4 t) (Rect.unit (s := S12x1024) ![5, 0] ![1, 1024] inb_S12x1024_S1x1024_5_0))) (dzP V c t)

theorem xh_pay : k1_pay17 (F := Ideal) (cenP V c t) (varP V c t) (FloatOps.ofBits .f32 925353388#32) (ix2 a k) = XH V c (brow t a) k := by
  pointwise [k1_pay17, k1_pay16, k1_pay15, k1_pay14, k1_pay7, k1_pay10, k1_pay12, blk_x, blk_y, blk_mods, xhat, rstd, cen, mean, MlpFun.mix, XH]

theorem dz_pay : dzP V c t (ix2 a k) = DZ V c (brow t a) k := by
  pointwise [k1_pay18, k1_pay17, k1_pay16, k1_pay15, k1_pay14, k1_pay7, k1_pay10, k1_pay11, k1_pay12, k1_pay13, blk_x, blk_y, blk_ct, blk_g, blk_mods,
    lnb, xhat, rstd, cen, mean, MlpFun.mix, MlpFun.d, DZ]

theorem dy_pay : dyP V c t (ix2 a k) = DY V c (brow t a) k := by
  pointwise [k1_pay24, k1_pay10, dz_pay, blk_mods, MlpFun.dy, DY]

end Pay
end Cert.MlpIdeal.Val
end
-- ==== Proof.MlpVal2.lean ====
module

public import proofs.«01_k».proof.Proof.MlpVal1

@[expose] public section

set_option maxRecDepth 16384

noncomputable section
namespace Cert.MlpIdeal.Val
open Idealize.ShloMosaic Idealize.ShloMosaic.TcCoe Idealize.SL.Sem
open Cert.MlpIdeal Cert.MlpIdeal.Gen Cert.LN Cert.Rows

variable (V : (c : Dev nD) → (b : Ref sig .tc) → Buf (Elt Ideal) ((c : Thread nD τ).loc b)) (c : Dev nD)

section Pay
variable (t : Fin cfg1.N) (a : Fin 256) (k : Fin 1024)

/-- The stores of the activations' gradient. -/
abbrev pieces : List (View.Piece (Elt Ideal) S256x4096 .bf16) :=
  [⟨Rect.unit (s := S256x4096) ![0, 3072] ![256, 1024] inb_S256x4096_S256x1024_0_3072,
      k1_pay1 (F := Ideal) (k1_pay32 (dyP V c t) (View.ld (iblk1 V c 6 t) (Rect.unit (s := S4096x1024) ![3072, 0] ![1024, 1024] inb_S4096x1024_S1024x1024_3072_0))) (k1_pay33 (View.ld (iblk1 V c 3 t) (Rect.unit (s := S256x4096) ![0, 3072] ![256, 1024] inb_S256x4096_S256x1024_0_3072)))⟩,
   ⟨Rect.unit (s := S256x4096) ![0, 2048] ![256, 1024] inb_S256x4096_S256x1024_0_2048,
      k1_pay30 (F := Ideal) (dyP V c t) (View.ld (iblk1 V c 6 t) (Rect.unit (s := S4096x1024) ![2048, 0] ![1024, 1024] inb_S4096x1024_S1024x1024_2048_0)) (View.ld (iblk1 V c 3 t) (Rect.unit (s := S256x4096) ![0, 2048] ![256, 1024] inb_S256x4096_S256x1024_0_2048))⟩,
   ⟨Rect.unit (s := S256x4096) ![0, 1024] ![256, 1024] inb_S256x4096_S256x1024_0_1024,
      k1_pay29 (F := Ideal) (dyP V c t) (k1_pay28 (View.ld (iblk1 V c 6 t) (Rect.unit (s := S4096x1024) ![1024, 0] ![1024, 1024] inb_S4096x1024_S1024x1024_1024_0))) (View.ld (iblk1 V c 3 t) (Rect.unit (s := S256x4096) ![0, 1024] ![256, 1024] inb_S256x4096_S256x1024_0_1024))⟩,
   ⟨Rect.unit (s := S256x4096) ![0, 0] ![256, 1024] inb_S256x4096_S256x1024_0_0,
      k1_pay26 (F := Ideal) (k1_pay10 (View.ld (iblk1 V c 4 t) (Rect.unit (s := S12x1024) ![5, 0] ![1, 1024] inb_S12x1024_S1x1024_5_0))) (dzP V c t) (View.ld (iblk1 V c 6 t) (Rect.unit (s := S4096x1024) ![0, 0] ![1024, 1024] inb_S4096x1024_S1024x1024_0_0)) (View.ld (iblk1 V c 3 t) (Rect.unit (s := S256x4096) ![0, 0] ![256, 1024] inb_S256x4096_S256x1024_0_0))⟩]

theorem da_pay (f : Fin 4096) : View.canon (pieces V c t) (ix2 a f) = (DA V c (brow t a) f : EReal) := by
  have e : ∀ (o : ℕ) (h : o + (f.val - o) < 4096), o ≤ f.val → DA V c (brow t a) ⟨o + (f.val - o), h⟩ = DA V c (brow t a) f :=
    fun o h h' => congrArg _ (Fin.ext (by simp; omega))
  have hf := f.isLt
  repeat' with_reducible refine canon_cols_step _ _ _ _ _ _ (fun h => ?_) fun h' => ?_
  · refine Eq.trans ?_ (e 3072 (by omega) h.1)
    pointwise [k1_pay1, k1_pay32, k1_pay33, dy_pay, blk_ra, blk_w2, MlpFun.dact, DA]
  · refine Eq.trans ?_ (e 2048 (by omega) h.1)
    pointwise [k1_pay30, dy_pay, blk_ra, blk_w2, MlpFun.dact, DA]
  · refine Eq.trans ?_ (e 1024 (by omega) h.1)
    pointwise [k1_pay29, k1_pay28, dy_pay, blk_ra, blk_w2, MlpFun.dact, DA]
  · refine Eq.trans ?_ (e 0 (by omega) h.1)
    pointwise [k1_pay26, dy_pay, blk_ra, blk_w2, MlpFun.dact, DA]
  · omega

abbrev dhP : FVec Ideal S256x1024 .f32 := k1_pay2 (F := Ideal) (k1_pay31 (F := Ideal) (dyP V c t) (k1_pay27 (k1_pay10 (View.ld (iblk1 V c 4 t) (Rect.unit (s := S12x1024) ![5, 0] ![1, 1024] inb_S12x1024_S1x1024_5_0))) (dzP V c t) (View.ld (iblk1 V c 6 t) (Rect.unit (s := S4096x1024) ![0, 0] ![1024, 1024] inb_S4096x1024_S1024x1024_0_0)) (View.ld (iblk1 V c 3 t) (Rect.unit (s := S256x4096) ![0, 0] ![256, 1024] inb_S256x4096_S256x1024_0_0)) (View.ld (iblk1 V c 5 t) (Rect.unit (s := S4096x1024) ![0, 0] ![1024, 1024] inb_S4096x1024_S1024x1024_0_0)))
    (k1_pay28 (View.ld (iblk1 V c 6 t) (Rect.unit (s := S4096x1024) ![1024, 0] ![1024, 1024] inb_S4096x1024_S1024x1024_1024_0))) (View.ld (iblk1 V c 3 t) (Rect.unit (s := S256x4096) ![0, 1024] ![256, 1024] inb_S256x4096_S256x1024_0_1024)) (View.ld (iblk1 V c 5 t) (Rect.unit (s := S4096x1024) ![1024, 0] ![1024, 1024] inb_S4096x1024_S1024x1024_1024_0))
    (View.ld (iblk1 V c 6 t) (Rect.unit (s := S4096x1024) ![2048, 0] ![1024, 1024] inb_S4096x1024_S1024x1024_2048_0)) (View.ld (iblk1 V c 3 t) (Rect.unit (s := S256x4096) ![0, 2048] ![256, 1024] inb_S256x4096_S256x1024_0_2048)) (View.ld (iblk1 V c 5 t) (Rect.unit (s := S4096x1024) ![2048, 0] ![1024, 1024] inb_S4096x1024_S1024x1024_2048_0)))
    (k1_pay32 (dyP V c t) (View.ld (iblk1 V c 6 t) (Rect.unit (s := S4096x1024) ![3072, 0] ![1024, 1024] inb_S4096x1024_S1024x1024_3072_0))) (k1_pay33 (View.ld (iblk1 V c 3 t) (Rect.unit (s := S256x4096) ![0, 3072] ![256, 1024] inb_S256x4096_S256x1024_0_3072))) (View.ld (iblk1 V c 5 t) (Rect.unit (s := S4096x1024) ![3072, 0] ![1024, 1024] inb_S4096x1024_S1024x1024_3072_0))

theorem dh_pay : dhP V c t (ix2 a k) = DH V c (brow t a) k := by
  refine Eq.trans ?_ (MlpFun.four fun f => DA V c (brow t a) f * w1 V c f k).symm
  pointwise [k1_pay2, k1_pay31, k1_pay27, k1_pay26, k1_pay28, k1_pay29, k1_pay30, k1_pay1, k1_pay32, k1_pay33, blk_w1, dy_pay, blk_ra, blk_w2, MlpFun.dact, DA]

theorem dx_pay : k1_pay3 (F := Ideal) (k1_pay9 (View.ld (iblk1 V c 4 t) (Rect.unit (s := S12x1024) ![4, 0] ![1, 1024] inb_S12x1024_S1x1024_4_0))) (dzP V c t) (k1_pay31 (F := Ideal) (dyP V c t) (k1_pay27 (k1_pay10 (View.ld (iblk1 V c 4 t) (Rect.unit (s := S12x1024) ![5, 0] ![1, 1024] inb_S12x1024_S1x1024_5_0))) (dzP V c t) (View.ld (iblk1 V c 6 t) (Rect.unit (s := S4096x1024) ![0, 0] ![1024, 1024] inb_S4096x1024_S1024x1024_0_0)) (View.ld (iblk1 V c 3 t) (Rect.unit (s := S256x4096) ![0, 0] ![256, 1024] inb_S256x4096_S256x1024_0_0)) (View.ld (iblk1 V c 5 t) (Rect.unit (s := S4096x1024) ![0, 0] ![1024, 1024] inb_S4096x1024_S1024x1024_0_0)))
    (k1_pay28 (View.ld (iblk1 V c 6 t) (Rect.unit (s := S4096x1024) ![1024, 0] ![1024, 1024] inb_S4096x1024_S1024x1024_1024_0))) (View.ld (iblk1 V c 3 t) (Rect.unit (s := S256x4096) ![0, 1024] ![256, 1024] inb_S256x4096_S256x1024_0_1024)) (View.ld (iblk1 V c 5 t) (Rect.unit (s := S4096x1024) ![1024, 0] ![1024, 1024] inb_S4096x1024_S1024x1024_1024_0))
    (View.ld (iblk1 V c 6 t) (Rect.unit (s := S4096x1024) ![2048, 0] ![1024, 1024] inb_S4096x1024_S1024x1024_2048_0)) (View.ld (iblk1 V c 3 t) (Rect.unit (s := S256x4096) ![0, 2048] ![256, 1024] inb_S256x4096_S256x1024_0_2048)) (View.ld (iblk1 V c 5 t) (Rect.unit (s := S4096x1024) ![2048, 0] ![1024, 1024] inb_S4096x1024_S1024x1024_2048_0)))
    (k1_pay32 (dyP V c t) (View.ld (iblk1 V c 6 t) (Rect.unit (s := S4096x1024) ![3072, 0] ![1024, 1024] inb_S4096x1024_S1024x1024_3072_0))) (k1_pay33 (View.ld (iblk1 V c 3 t) (Rect.unit (s := S256x4096) ![0, 3072] ![256, 1024] inb_S256x4096_S256x1024_0_3072))) (View.ld (iblk1 V c 5 t) (Rect.unit (s := S4096x1024) ![3072, 0] ![1024, 1024] inb_S4096x1024_S1024x1024_3072_0)) (ix2 a k) = DX V c (brow t a) k := by
  pointwise [k1_pay3, k1_pay9, dz_pay, dh_pay, blk_mods, DX, MlpFun.dx]

theorem h_pay : k1_pay25 (F := Ideal) (k1_pay7 (iblk1 V c 1 t)) (k1_pay8 (View.ld (iblk1 V c 4 t) (Rect.unit (s := S12x1024) ![3, 0] ![1, 1024] inb_S12x1024_S1x1024_3_0))) (k1_pay9 (View.ld (iblk1 V c 4 t) (Rect.unit (s := S12x1024) ![4, 0] ![1, 1024] inb_S12x1024_S1x1024_4_0))) (ix2 a k)
    = H V c (brow t a) k := by
  pointwise [k1_pay25, k1_pay7, k1_pay8, k1_pay9, blk_x, blk_mods, H, MlpFun.h]

end Pay

theorem fin1_9 : (dat1 V c).arrAt 9 cfg1.N = fun j => DA V c (j 0) (j 1) := by
  refine (dat1 V c).arrAt_eq_of_covers 9 _ (by decide +kernel) fun t hf y => ?_
  blk_simp
  refine Eq.trans (b := DA V c (brow t (y 0)) (y 1)) ?_ (congrArg₂ (DA V c) (Fin.ext ?_) (Fin.ext ?_))
  · rw [after1_9]
    refine (congrArg _ (eq_ix2 _)).trans (?_ : ((outsAt1 V c t.val t.isLt).2.1 : S256x4096.Idx → EReal) (ix2 (y 0) (y 1)) = _)
    by_cases h : t.val % 32 = 0
    · rw [outsAt1_A _ c t h]
      frame_out
      exact da_pay V c t _ _
    · rw [outsAt1_B _ c t h]
      frame_out
      exact da_pay V c t _ _
  · blk_simp [idx1 t]
  · blk_simp [idx1 t]

theorem fin1_11 : (dat1 V c).arrAt 11 cfg1.N = fun j => DY V c (j 0) (j 1) := by
  refine (dat1 V c).arrAt_eq_of_covers 11 _ (by decide +kernel) fun t hf y => ?_
  blk_simp
  refine Eq.trans (b := DY V c (brow t (y 0)) (y 1)) ?_ (congrArg₂ (DY V c) (Fin.ext ?_) (Fin.ext ?_))
  · rw [after1_11]
    refine (congrArg _ (eq_ix2 _)).trans (?_ : ((outsAt1 V c t.val t.isLt).2.2.2.1 : S256x1024.Idx → EReal) (ix2 (y 0) (y 1)) = _)
    by_cases h : t.val % 32 = 0
    · rw [outsAt1_A _ c t h]
      frame_out
      exact dy_pay V c t _ _
    · rw [outsAt1_B _ c t h]
      frame_out
      exact dy_pay V c t _ _
  · blk_simp [idx1 t]
  · blk_simp [idx1 t]

theorem fin1_10 : (dat1 V c).arrAt 10 cfg1.N = fun j => H V c (j 0) (j 1) := by
  refine (dat1 V c).arrAt_eq_of_covers 10 _ (by decide +kernel) fun t hf y => ?_
  blk_simp
  refine Eq.trans (b := H V c (brow t (y 0)) (y 1)) ?_ (congrArg₂ (H V c) (Fin.ext ?_) (Fin.ext ?_))
  · rw [after1_10]
    refine (congrArg _ (eq_ix2 _)).trans (?_ : ((outsAt1 V c t.val t.isLt).2.2.1 : S256x1024.Idx → EReal) (ix2 (y 0) (y 1)) = _)
    by_cases h : t.val % 32 = 0
    · rw [outsAt1_A _ c t h]
      frame_out
      exact h_pay V c t _ _
    · rw [outsAt1_B _ c t h]
      frame_out
      exact h_pay V c t _ _
  · blk_simp [idx1 t]
  · blk_simp [idx1 t]

theorem fin1_8 : (dat1 V c).arrAt 8 cfg1.N = fun j => DX V c (j 0) (j 1) := by
  refine (dat1 V c).arrAt_eq_of_covers 8 _ (by decide +kernel) fun t hf y => ?_
  blk_simp
  refine Eq.trans (b := DX V c (brow t (y 0)) (y 1)) ?_ (congrArg₂ (DX V c) (Fin.ext ?_) (Fin.ext ?_))
  · rw [after1_8]
    refine (congrArg _ (eq_ix2 _)).trans (?_ : ((outsAt1 V c t.val t.isLt).1 : S256x1024.Idx → EReal) (ix2 (y 0) (y 1)) = _)
    by_cases h : t.val % 32 = 0
    · rw [outsAt1_A _ c t h]
      frame_out
      exact dx_pay V c t _ _
    · rw [outsAt1_B _ c t h]
      frame_out
      exact dx_pay V c t _ _
  · blk_simp [idx1 t]
  · blk_simp [idx1 t]

end Cert.MlpIdeal.Val
end
-- ==== Proof.MlpVal3.lean ====
module

public import proofs.«01_k».proof.Proof.MlpVal2

@[expose] public section

set_option maxRecDepth 16384

noncomputable section
namespace Cert.MlpIdeal.Val
open Idealize.ShloMosaic Idealize.ShloMosaic.TcCoe Idealize.SL.Sem
open Cert.MlpIdeal Cert.MlpIdeal.Gen Cert.LN Cert.Rows

variable (V : (c : Dev nD) → (b : Ref sig .tc) → Buf (Elt Ideal) ((c : Thread nD τ).loc b)) (c : Dev nD)

/-- What the rows of block `t` add to the row sums. -/
def S12 (t : ℕ) (h : t < cfg1.N) (j : S8x1024.Idx) : EReal :=
  if (j 0).val = 1 then ∑ x, DH V c (brow ⟨t, h⟩ x) (j 1) * xr V c (brow ⟨t, h⟩ x) (j 1)
  else if (j 0).val = 0 then ∑ x, DH V c (brow ⟨t, h⟩ x) (j 1)
  else if (j 0).val = 4 then ∑ x, ctr V c (brow ⟨t, h⟩ x) (j 1)
  else if (j 0).val = 3 then ∑ x, ctr V c (brow ⟨t, h⟩ x) (j 1) * XH V c (brow ⟨t, h⟩ x) (j 1)
  else if (j 0).val = 2 then ∑ x, DZ V c (brow ⟨t, h⟩ x) (j 1) * yr V c (brow ⟨t, h⟩ x) (j 1)
  else 0

theorem reset12 (t : Fin cfg1.N) (h : t.val % 32 = 0) (j : S8x1024.Idx) : (outsAt1 V c t.val t.isLt).2.2.2.2 j = 0 + S12 V c t.val t.isLt j := by
  rw [outsAt1_A V c t h]
  frame_out
  simp only [canon_row, S12]
  split_ifs
  · pointwise [k1_pay5, k1_pay7, rowIx, blk_x, dh_pay, readCov_row, canon_row, canon_whole, k1_pay6]
    exact (Finset.sum_congr rfl fun x _ => Ideal.mul_congr (dh_pay V c t x (j 1)) rfl)
  · pointwise [k1_pay4, rowIx, dh_pay, readCov_row, canon_row, canon_whole, k1_pay6]
    exact (Finset.sum_congr rfl fun x _ => dh_pay V c t x (j 1))
  · pointwise [k1_pay23, k1_pay21, k1_pay22, k1_pay11, rowIx, blk_ct, readCov_row, canon_row, canon_whole, k1_pay6]
  · pointwise [k1_pay20, k1_pay11, rowIx, xh_pay, blk_ct, readCov_row, canon_row, canon_whole, k1_pay6]
    exact (Finset.sum_congr rfl fun x _ => Ideal.mul_congr rfl (xh_pay V c t x (j 1)))
  · pointwise [k1_pay19, k1_pay12, rowIx, dz_pay, blk_y, readCov_row, canon_row, canon_whole, k1_pay6]
    exact (Finset.sum_congr rfl fun x _ => Ideal.mul_congr (dz_pay V c t x (j 1)) rfl)
  · pointwise [k1_pay6, canon_whole]

theorem step12 (t : Fin cfg1.N) (h : ¬ t.val % 32 = 0) (j : S8x1024.Idx) : (outsAt1 V c t.val t.isLt).2.2.2.2 j
    = (outsAt1 V c (t.val - 1) (Nat.lt_of_le_of_lt (Nat.sub_le _ _) t.isLt)).2.2.2.2 j + S12 V c t.val t.isLt j := by
  rw [outsAt1_B V c t h]
  frame_out
  simp only [read_writes_row, S12]
  split_ifs with h1 h0 h4 h3 h2
  · pointwise [k1_pay5, k1_pay7, rowIx, blk_x, dh_pay, ix2_row j 1 h1]
    exact Ideal.add_congr rfl (Finset.sum_congr rfl fun x _ => Ideal.mul_congr (dh_pay V c t x (j 1)) rfl)
  · pointwise [k1_pay4, rowIx, dh_pay, ix2_row j 0 h0]
    exact Ideal.add_congr rfl (Finset.sum_congr rfl fun x _ => dh_pay V c t x (j 1))
  · pointwise [k1_pay23, k1_pay21, k1_pay22, k1_pay11, rowIx, blk_ct, ix2_row j 4 h4]
  · pointwise [k1_pay20, k1_pay11, rowIx, xh_pay, blk_ct, ix2_row j 3 h3]
    exact Ideal.add_congr rfl (Finset.sum_congr rfl fun x _ => Ideal.mul_congr rfl (xh_pay V c t x (j 1)))
  · pointwise [k1_pay19, k1_pay12, rowIx, dz_pay, blk_y, ix2_row j 2 h2]
    exact Ideal.add_congr rfl (Finset.sum_congr rfl fun x _ => Ideal.mul_congr (dz_pay V c t x (j 1)) rfl)
  · rw [add_zero]
    exact congrFun (Memref.IsWhole.read_unread ..) j

/-- The last block of rows. -/
def t1_31 : Fin cfg1.N := ⟨31, by decide⟩

theorem fin1_12 : (dat1 V c).arrAt 12 cfg1.N = fun j => ∑ t : Fin cfg1.N, S12 V c t.val t.isLt j := by
  refine (dat1 V c).arrAt_eq_of_after_last 12 t1_31 (by decide +kernel) _ fun j => ?_
  blk_simp
  rw [after1_12, Pipeline.eq_sum_fin_of_reset_step_apply_last (fun n h => (outsAt1 V c n h).2.2.2.2) 32 (fun _ => 0)
    (fun t j => S12 V c t.val t.isLt j) (reset12 V c) (step12 V c) (le_of_eq N_1) t1_31 rfl j, zero_add]

end Cert.MlpIdeal.Val
end
-- ==== Proof.MlpAll.lean ====
module

public import proofs.«01_k».proof.Proof.MlpFun

@[expose] public section

set_option maxRecDepth 16384

noncomputable section

/-! The feed-forward sublayer and its gradient on all rows, from the sublayer's arguments. -/

namespace Cert.MlpAll

open Idealize.ShloMosaic Cert.LN

variable (X CT : Fin 8192 → Fin 1024 → EReal) (sh sc gt g b : Fin 1024 → EReal) (w1 w2 : Fin 4096 → Fin 1024 → EReal)
  (r : Fin 8192) (k : Fin 1024) (f : Fin 4096)

def ra : EReal := MlpFun.act (X r) sh sc w1 f
def y : EReal := MlpFun.down w2 (ra X sh sc w1 r) k
def z : EReal := MlpFun.mix (X r) gt (y X sh sc w1 w2 r) k
def x1 : EReal := MlpFun.x1 g b (z X sh sc gt w1 w2 r) k
def xh : EReal := xhat (z X sh sc gt w1 w2 r) k
def dz : EReal := lnb (z X sh sc gt w1 w2 r) (MlpFun.d g (CT r)) k
def dy : EReal := MlpFun.dy gt (dz X CT sh sc gt g w1 w2 r) k
def da : EReal := MlpFun.dact w2 (ra X sh sc w1 r) (dy X CT sh sc gt g w1 w2 r) f
def dh : EReal := MlpFun.dh w1 (da X CT sh sc gt g w1 w2 r) k
def dx : EReal := MlpFun.dx sc (dz X CT sh sc gt g w1 w2 r) (dh X CT sh sc gt g w1 w2 r) k
def h : EReal := MlpFun.h (X r) sh sc k

/-- The sums over the rows: the gradients of the shift, the scale, the gate and the norm's gain and bias. -/
def sums (a : ℕ) : EReal :=
  if a = 1 then ∑ r, dh X CT sh sc gt g w1 w2 r k * X r k
  else if a = 0 then ∑ r, dh X CT sh sc gt g w1 w2 r k
  else if a = 4 then ∑ r, CT r k
  else if a = 3 then ∑ r, CT r k * xh X sh sc gt w1 w2 r k
  else if a = 2 then ∑ r, dz X CT sh sc gt g w1 w2 r k * y X sh sc w1 w2 r k
  else 0

end Cert.MlpAll

/-! The same from the arrays the programs are given. -/

namespace Cert.MlpArr

open Idealize.ShloMosaic Cert.LN

variable (ct x : (⟨3, ![1, 8192, 1024]⟩ : Shape).Idx → EReal) (md : (⟨2, ![1, 3072]⟩ : Shape).Idx → EReal)
  (w1 : (⟨2, ![1024, 4096]⟩ : Shape).Idx → EReal) (w2 : (⟨2, ![4096, 1024]⟩ : Shape).Idx → EReal)
  (g b : (⟨1, ![1024]⟩ : Shape).Idx → EReal)

abbrev rows (r : Fin 8192) (k : Fin 1024) : EReal := x (ix3 0 r k)
abbrev sh (k : Fin 1024) : EReal := md (ix2 0 ⟨k.val, by omega⟩)
abbrev sc (k : Fin 1024) : EReal := md (ix2 0 ⟨1024 + k.val, by omega⟩)
abbrev gt (k : Fin 1024) : EReal := md (ix2 0 ⟨2048 + k.val, by omega⟩)
abbrev up (f : Fin 4096) (k : Fin 1024) : EReal := w1 (ix2 k f)
abbrev dn (f : Fin 4096) (k : Fin 1024) : EReal := w2 (ix2 f k)
abbrev vec (k : Fin 1024) : EReal := g (ix1 k)

abbrev h := MlpAll.h (rows x) (sh md) (sc md)
abbrev ra := MlpAll.ra (rows x) (sh md) (sc md) (up w1)
abbrev y := MlpAll.y (rows x) (sh md) (sc md) (up w1) (dn w2)
abbrev z := MlpAll.z (rows x) (sh md) (sc md) (gt md) (up w1) (dn w2)
abbrev x1 := MlpAll.x1 (rows x) (sh md) (sc md) (gt md) (vec g) (vec b) (up w1) (dn w2)
abbrev d (r : Fin 8192) (k : Fin 1024) : EReal := MlpFun.d (vec g) (rows ct r) k
abbrev dz := MlpAll.dz (rows x) (rows ct) (sh md) (sc md) (gt md) (vec g) (up w1) (dn w2)
abbrev dy := MlpAll.dy (rows x) (rows ct) (sh md) (sc md) (gt md) (vec g) (up w1) (dn w2)
abbrev da := MlpAll.da (rows x) (rows ct) (sh md) (sc md) (gt md) (vec g) (up w1) (dn w2)
abbrev dh := MlpAll.dh (rows x) (rows ct) (sh md) (sc md) (gt md) (vec g) (up w1) (dn w2)
abbrev dx := MlpAll.dx (rows x) (rows ct) (sh md) (sc md) (gt md) (vec g) (up w1) (dn w2)
abbrev sums := MlpAll.sums (rows x) (rows ct) (sh md) (sc md) (gt md) (vec g) (up w1) (dn w2)

end Cert.MlpArr
end
-- ==== Proof.MlpArgs.lean ====
module

public import proofs.«01_k».proof.Proof.MlpVal3
public import Idealize.ShloMosaic.Lib.StableHlo.ReadAt
public import proofs.«01_k».proof.Proof.MlpAll
public import proofs.«01_k».proof.Proof.MlpRun

@[expose] public section

set_option maxRecDepth 16384

noncomputable section
namespace Cert.MlpIdeal.Val
open Idealize.ShloMosaic Idealize.ShloMosaic.TcCoe Idealize.SL.Sem
open Cert.MlpIdeal Cert.MlpIdeal.Gen

variable (m : (ℓ : Loc nD τ sig) → Buf (Elt Ideal) ℓ) (ρ : Dev nD → PrngReg) (c : Dev nD)

abbrev A0 : S1x8192x1024.Idx → EReal := m ((c.tc : Thread nD τ).loc main_arg0)
abbrev A1 : S1x8192x1024.Idx → EReal := m ((c.tc : Thread nD τ).loc main_arg1)
abbrev A2 : S1x3072.Idx → EReal := m ((c.tc : Thread nD τ).loc main_arg2)
abbrev A3 : S1024x4096.Idx → EReal := m ((c.tc : Thread nD τ).loc main_arg3)
abbrev A4 : S4096x1024.Idx → EReal := m ((c.tc : Thread nD τ).loc main_arg4)
abbrev A5 : S1024.Idx → EReal := m ((c.tc : Thread nD τ).loc main_arg5)
abbrev A6 : S1024.Idx → EReal := m ((c.tc : Thread nD τ).loc main_arg6)

theorem x3 : xr (V3 m ρ) c = MlpArr.rows (A1 m c) := by
  funext r k
  show W3 m ρ c (Proc.devRef .tc main_v7) _ = _
  unfold W3
  after_reads_at

theorem up3 : w1 (V3 m ρ) c = MlpArr.up (A3 m c) := by
  funext f k
  show W3 m ρ c (Proc.devRef .tc main_v3) _ = _
  unfold W3
  after_reads_at

theorem dn3 : w2 (V3 m ρ) c = MlpArr.dn (A4 m c) := by
  funext f k
  show W3 m ρ c (Proc.devRef .tc main_v4) _ = _
  unfold W3
  after_reads_at

theorem g3 : lng (V3 m ρ) c = MlpArr.vec (A5 m c) := by
  funext k
  show W3 m ρ c (Proc.devRef .tc main_v5) _ = _
  unfold W3
  after_reads_at

theorem b3 : lnb' (V3 m ρ) c = MlpArr.vec (A6 m c) := by
  funext k
  show W3 m ρ c (Proc.devRef .tc main_v6) _ = _
  unfold W3
  after_reads_at

theorem sh3 : sh (V3 m ρ) c = MlpArr.sh (A2 m c) := by
  funext k
  show W3 m ρ c _ _ = _
  rw [W3_of _ _ _ _ (by decide)]
  unfold Gen.W2 Gen.W1
  after_reads_at

theorem sc3 : sc (V3 m ρ) c = MlpArr.sc (A2 m c) := by
  funext k
  show W3 m ρ c _ _ = _
  rw [W3_of _ _ _ _ (by decide)]
  unfold Gen.W2 Gen.W1
  after_reads_at

theorem gt3 : gt (V3 m ρ) c = MlpArr.gt (A2 m c) := by
  funext k
  show W3 m ρ c _ _ = _
  rw [W3_of _ _ _ _ (by decide)]
  unfold Gen.W2 Gen.W1
  after_reads_at

/-- A buffer that the first region and the line after it leave as it was. -/
theorem V5_eq (b : Ref sig .tc) (h : b ∉ hostOps1_W) (h' : ∀ w : Fin cfg0.W, Pipeline.arrRef spec0 w = b → (cfg0.win w).isOut = false) :
    V5 m ρ c b = V3 m ρ c b :=
  (W5_of m ρ c b h).trans (W4_of m ρ c b h')

theorem ct5 : ctr (V5 m ρ) c = MlpArr.rows (A0 m c) := by
  funext r k
  show W5 m ρ c (Proc.devRef .tc main_v9) _ = _
  unfold W5
  after_reads_at
  exact congrFun (W4_args m ρ c main_arg0 (by decide)) _

theorem x5 : xr (V5 m ρ) c = MlpArr.rows (A1 m c) := by
  funext r k
  exact (congrFun (V5_eq m ρ c main_v7 (by decide) (by decide)) _).trans (congrFun (congrFun (x3 m ρ c) r) k)
theorem up5 : w1 (V5 m ρ) c = MlpArr.up (A3 m c) := by
  funext r k
  exact (congrFun (V5_eq m ρ c main_v3 (by decide) (by decide)) _).trans (congrFun (congrFun (up3 m ρ c) r) k)
theorem dn5 : w2 (V5 m ρ) c = MlpArr.dn (A4 m c) := by
  funext r k
  exact (congrFun (V5_eq m ρ c main_v4 (by decide) (by decide)) _).trans (congrFun (congrFun (dn3 m ρ c) r) k)
theorem g5 : lng (V5 m ρ) c = MlpArr.vec (A5 m c) := by
  funext k
  exact (congrFun (V5_eq m ρ c main_v5 (by decide) (by decide)) _).trans (congrFun (g3 m ρ c) k)
theorem sh5 : sh (V5 m ρ) c = MlpArr.sh (A2 m c) := by
  funext k
  exact (congrFun (V5_eq m ρ c main_v1 (by decide) (by decide)) _).trans (congrFun (sh3 m ρ c) k)
theorem sc5 : sc (V5 m ρ) c = MlpArr.sc (A2 m c) := by
  funext k
  exact (congrFun (V5_eq m ρ c main_v1 (by decide) (by decide)) _).trans (congrFun (sc3 m ρ c) k)
theorem gt5 : gt (V5 m ρ) c = MlpArr.gt (A2 m c) := by
  funext k
  exact (congrFun (V5_eq m ρ c main_v1 (by decide) (by decide)) _).trans (congrFun (gt3 m ρ c) k)

theorem ra3 : RA (V3 m ρ) c = MlpArr.ra (A1 m c) (A2 m c) (A3 m c) := by
  funext r f
  unfold RA
  rw [x3, sh3, sc3, up3]
  rfl
theorem y3 : Y0 (V3 m ρ) c = MlpArr.y (A1 m c) (A2 m c) (A3 m c) (A4 m c) := by
  funext r k
  unfold Y0
  rw [ra3, dn3]
  rfl
theorem x1_3 : X1 (V3 m ρ) c = MlpArr.x1 (A1 m c) (A2 m c) (A3 m c) (A4 m c) (A5 m c) (A6 m c) := by
  funext r k
  unfold X1
  rw [x3, gt3, y3, g3, b3]
  rfl
theorem ra5 : rar (V5 m ρ) c = MlpArr.ra (A1 m c) (A2 m c) (A3 m c) := by
  funext r f
  exact (congrFun (((W5_of m ρ c main_v8_2 (by decide)).trans (W4_arr m ρ c 8)).trans (fin0_8 (V3 m ρ) c)) (ix2 r f)).trans
    (congrFun (congrFun (ra3 m ρ c) r) f)
theorem y5 : yr (V5 m ρ) c = MlpArr.y (A1 m c) (A2 m c) (A3 m c) (A4 m c) := by
  funext r k
  exact (congrFun (((W5_of m ρ c main_v8_1 (by decide)).trans (W4_arr m ρ c 7)).trans (fin0_7 (V3 m ρ) c)) (ix2 r k)).trans
    (congrFun (congrFun (y3 m ρ c) r) k)
theorem xh5 (r k) : XH (V5 m ρ) c r k = LN.xhat (MlpArr.z (A1 m c) (A2 m c) (A3 m c) (A4 m c) r) k := by
  unfold XH
  rw [x5, gt5, y5]
  rfl
theorem dz5 : DZ (V5 m ρ) c = MlpArr.dz (A0 m c) (A1 m c) (A2 m c) (A3 m c) (A4 m c) (A5 m c) := by
  funext r k
  unfold DZ
  rw [x5, gt5, y5, g5, ct5]
  rfl
theorem dy5 : DY (V5 m ρ) c = MlpArr.dy (A0 m c) (A1 m c) (A2 m c) (A3 m c) (A4 m c) (A5 m c) := by
  funext r k
  unfold DY
  rw [dz5, gt5]
  rfl
theorem da5 : DA (V5 m ρ) c = MlpArr.da (A0 m c) (A1 m c) (A2 m c) (A3 m c) (A4 m c) (A5 m c) := by
  funext r f
  unfold DA
  rw [dy5, dn5, ra5]
  rfl
theorem dh5 : DH (V5 m ρ) c = MlpArr.dh (A0 m c) (A1 m c) (A2 m c) (A3 m c) (A4 m c) (A5 m c) := by
  funext r k
  unfold DH
  rw [da5, up5]
  rfl
theorem dx5 : DX (V5 m ρ) c = MlpArr.dx (A0 m c) (A1 m c) (A2 m c) (A3 m c) (A4 m c) (A5 m c) := by
  funext r k
  unfold DX
  rw [dz5, dh5, sc5]
  rfl
theorem h5 : H (V5 m ρ) c = MlpArr.h (A1 m c) (A2 m c) := by
  funext r k
  unfold H
  rw [x5, sh5, sc5]
  rfl

/-- The rows of the blocks are the rows of the array. -/
theorem sum_rows (f : Fin 8192 → EReal) (g : (t : Fin cfg1.N) → Fin 256 → EReal) (hg : ∀ t a, g t a = f (brow t a)) :
    ∑ t, ∑ a, g t a = ∑ r, f r :=
  (Finset.sum_congr rfl fun t _ => Finset.sum_congr rfl fun a _ => hg t a).trans (Fin.sum_univ_tiles 32 256 rfl f).symm

theorem sums5 (a : Fin 8) (k : Fin 1024) : ∑ t : Fin cfg1.N, S12 (V5 m ρ) c t.val t.isLt (ix2 a k)
    = MlpArr.sums (A0 m c) (A1 m c) (A2 m c) (A3 m c) (A4 m c) (A5 m c) k a.val := by
  unfold S12 MlpArr.sums MlpAll.sums
  by_cases h1 : a.val = 1
  · rw [if_pos h1]
    exact (Finset.sum_congr rfl fun t _ => if_pos h1).trans (sum_rows _ _ fun t x => by rw [dh5, x5]; rfl)
  by_cases h0 : a.val = 0
  · rw [if_neg h1, if_pos h0]
    exact (Finset.sum_congr rfl fun t _ => (if_neg h1).trans (if_pos h0)).trans (sum_rows _ _ fun t x => by rw [dh5]; rfl)
  by_cases h4 : a.val = 4
  · rw [if_neg h1, if_neg h0, if_pos h4]
    exact (Finset.sum_congr rfl fun t _ => (if_neg h1).trans ((if_neg h0).trans (if_pos h4))).trans (sum_rows _ _ fun t x => by rw [ct5]; rfl)
  by_cases h3 : a.val = 3
  · rw [if_neg h1, if_neg h0, if_neg h4, if_pos h3]
    exact (Finset.sum_congr rfl fun t _ => (if_neg h1).trans ((if_neg h0).trans ((if_neg h4).trans (if_pos h3)))).trans
      (sum_rows _ _ fun t x => Ideal.mul_congr (by rw [ct5]; rfl) (xh5 m ρ c _ _))
  by_cases h2 : a.val = 2
  · rw [if_neg h1, if_neg h0, if_neg h4, if_neg h3, if_pos h2]
    exact (Finset.sum_congr rfl fun t _ => (if_neg h1).trans ((if_neg h0).trans ((if_neg h4).trans ((if_neg h3).trans (if_pos h2))))).trans
      (sum_rows _ _ fun t x => by rw [dz5, y5]; rfl)
  rw [if_neg h1, if_neg h0, if_neg h4, if_neg h3, if_neg h2]
  exact (Finset.sum_congr rfl fun t _ => (if_neg h1).trans ((if_neg h0).trans ((if_neg h4).trans ((if_neg h3).trans (if_neg h2))))).trans
    Finset.sum_const_zero

theorem out_x1 : W6 m ρ c (Proc.devRef .tc main_v8_0) = fun j => MlpArr.x1 (A1 m c) (A2 m c) (A3 m c) (A4 m c) (A5 m c) (A6 m c) (j 0) (j 1) := by
  rw [W6_of m ρ c main_v8_0 (by decide), W5_of m ρ c main_v8_0 (by decide)]
  exact ((W4_arr m ρ c 6).trans (fin0_6 (V3 m ρ) c)).trans (funext fun j => congrFun (congrFun (x1_3 m ρ c) _) _)
theorem out_r : W6 m ρ c (Proc.devRef .tc main_v8_3) = fun j => MlpArr.ra (A1 m c) (A2 m c) (A3 m c) (j 0) (j 1) * MlpArr.ra (A1 m c) (A2 m c) (A3 m c) (j 0) (j 1) := by
  rw [W6_of m ρ c main_v8_3 (by decide), W5_of m ρ c main_v8_3 (by decide)]
  exact ((W4_arr m ρ c 9).trans (fin0_9 (V3 m ρ) c)).trans (funext fun j => Ideal.mul_congr (congrFun (congrFun (ra3 m ρ c) _) _) (congrFun (congrFun (ra3 m ρ c) _) _))
theorem out_dx : W6 m ρ c (Proc.devRef .tc main_v10_0) = fun j => MlpArr.dx (A0 m c) (A1 m c) (A2 m c) (A3 m c) (A4 m c) (A5 m c) (j 0) (j 1) :=
  ((W6_arr m ρ c 8).trans (fin1_8 (V5 m ρ) c)).trans (funext fun j => congrFun (congrFun (dx5 m ρ c) _) _)
theorem out_da : W6 m ρ c (Proc.devRef .tc main_v10_1) = fun j => MlpArr.da (A0 m c) (A1 m c) (A2 m c) (A3 m c) (A4 m c) (A5 m c) (j 0) (j 1) :=
  ((W6_arr m ρ c 9).trans (fin1_9 (V5 m ρ) c)).trans (funext fun j => congrFun (congrFun (da5 m ρ c) _) _)
theorem out_h : W6 m ρ c (Proc.devRef .tc main_v10_2) = fun j => MlpArr.h (A1 m c) (A2 m c) (j 0) (j 1) :=
  ((W6_arr m ρ c 10).trans (fin1_10 (V5 m ρ) c)).trans (funext fun j => congrFun (congrFun (h5 m ρ c) _) _)
theorem out_dy : W6 m ρ c (Proc.devRef .tc main_v10_3) = fun j => MlpArr.dy (A0 m c) (A1 m c) (A2 m c) (A3 m c) (A4 m c) (A5 m c) (j 0) (j 1) :=
  ((W6_arr m ρ c 11).trans (fin1_11 (V5 m ρ) c)).trans (funext fun j => congrFun (congrFun (dy5 m ρ c) _) _)
theorem out_sums : W6 m ρ c (Proc.devRef .tc main_v10_4) = fun j => MlpArr.sums (A0 m c) (A1 m c) (A2 m c) (A3 m c) (A4 m c) (A5 m c) (j 1) (j 0).val :=
  ((W6_arr m ρ c 12).trans (fin1_12 (V5 m ρ) c)).trans (funext fun j => sums5 m ρ c (j 0) (j 1))

end Cert.MlpIdeal.Val
end
-- ==== Proof.MlpRef.lean ====
module

public import proofs.«01_k».proof.Proof.Gen.MlpRefIdeal.Read
public import proofs.«01_k».proof.Proof.Unit
public import proofs.«01_k».proof.Proof.Reals
public import proofs.«01_k».proof.Proof.MlpAll

@[expose] public section

set_option maxRecDepth 16384

noncomputable section

/-! The reference of the feed-forward sublayer, read at coordinates. -/

namespace Cert.MlpRefIdeal.Val

open Idealize.ShloMosaic Idealize.ShloMosaic.TcCoe Idealize.SL.Sem Idealize.ShloMosaic.StableHlo
open Cert.MlpRefIdeal Cert.MlpRefIdeal.Gen Cert.MlpRefIdeal.Read

variable (x0 x1 : S1x8192x1024.Idx → EReal) (x2 : S1x3072.Idx → EReal) (x3 : S1024x4096.Idx → EReal) (x4 : S4096x1024.Idx → EReal)
  (x5 x6 : S1024.Idx → EReal) (i : S1x8192x1024.Idx) (e : S1x8192x4096.Idx) (j : S1x8192x1.Idx)

theorem eta : (ix3 0 (i 1) (i 2) : S1x8192x1024.Idx) = i := by
  refine funext fun a => ?_
  match a with
  | ⟨0, _⟩ => exact Subsingleton.elim (α := Fin 1) _ _
  | ⟨1, _⟩ => rfl
  | ⟨2, _⟩ => rfl

theorem rows_ (x : S1x8192x1024.Idx → EReal) : MlpArr.rows x (i 1) (i 2) = x i := congrArg x (eta i)

theorem h_ : (val_main_v11 (F := Ideal) x1 x2 : S1x8192x1024.Idx → EReal) i = MlpArr.h x1 x2 (i 1) (i 2) := by
  pointwise [val_main_v11, val_main_v10, val_main_v9, val_main_v8, val_main_v7, val_main_v6, val_main_v4, val_main_v3, val_main_v1, val_main_v0, val_main_cst, MlpAll.h, MlpFun.h]
  exact congrArg (· * _ + _) (rows_ i x1).symm
theorem pre_ : (val_main_v12 (F := Ideal) x1 x2 x3 : S1x8192x4096.Idx → EReal) e = ∑ k, MlpArr.h x1 x2 (e 1) k * x3 (ix2 k (e 2)) := by
  pointwise [val_main_v12, h_]
theorem ra_ : (val_main_v13 (F := Ideal) x1 x2 x3 : S1x8192x4096.Idx → EReal) e = MlpArr.ra x1 x2 x3 (e 1) (e 2) := by
  pointwise [val_main_v13, val_main_call0_v0, val_main_call0_cst, pre_, MlpAll.ra, MlpFun.act, MlpAll.h]
theorem r_ : (val_main_v17 (F := Ideal) x1 x2 x3 : S1x8192x4096.Idx → EReal) e = MlpArr.ra x1 x2 x3 (e 1) (e 2) * MlpArr.ra x1 x2 x3 (e 1) (e 2) := by
  pointwise [val_main_v17, ra_]
theorem y_ : (val_main_v20 (F := Ideal) x1 x2 x3 x4 : S1x8192x1024.Idx → EReal) i = MlpArr.y x1 x2 x3 x4 (i 1) (i 2) := by
  pointwise [val_main_v20, r_, MlpAll.y, MlpFun.down]
theorem z_ : (val_main_v27 (F := Ideal) x1 x2 x3 x4 : S1x8192x1024.Idx → EReal) i = MlpArr.z x1 x2 x3 x4 (i 1) (i 2) := by
  pointwise [val_main_v27, val_main_v26, val_main_v25, val_main_v24, val_main_v23, val_main_v22, val_main_v21, val_main_v5, val_main_v2, val_main_cst_3, val_main_cst_4, y_, MlpAll.z, MlpFun.mix]
  exact congrArg (Ideal.ofBits .f32 1068827891#32 * · + _) (rows_ i x1).symm
theorem mean_ : (val_main_v31 (F := Ideal) x1 x2 x3 x4 : S1x8192x1.Idx → EReal) j = LN.mean (MlpArr.z x1 x2 x3 x4 (j 1)) := by
  pointwise [val_main_v31, val_main_v30, val_main_v29, val_main_v28, val_main_cst_5, val_main_cst_6, z_, LN.mean]
theorem cen_ : (val_main_v33 (F := Ideal) x1 x2 x3 x4 : S1x8192x1024.Idx → EReal) i = LN.cen (MlpArr.z x1 x2 x3 x4 (i 1)) (i 2) := by
  pointwise [val_main_v33, val_main_v32, z_, mean_, LN.cen]
theorem cen2_ : (val_main_v42 (F := Ideal) x1 x2 x3 x4 : S1x8192x1024.Idx → EReal) i = LN.cen (MlpArr.z x1 x2 x3 x4 (i 1)) (i 2) := by
  pointwise [val_main_v42, val_main_v41, z_, mean_, LN.cen]
theorem ve_ : (val_main_v44 (F := Ideal) x1 x2 x3 x4 : S1x8192x1.Idx → EReal) j = Ideal.div (∑ x, LN.cen (MlpArr.z x1 x2 x3 x4 (j 1)) x * LN.cen (MlpArr.z x1 x2 x3 x4 (j 1)) x) LN.c1024 + LN.eps := by
  pointwise [val_main_v44, val_main_v43, val_main_v40, val_main_v39, val_main_v38, val_main_v37, val_main_v34, val_main_cst_8, val_main_cst_9, val_main_cst_10, cen_]
theorem rstd_ : (val_main_v45 (F := Ideal) x1 x2 x3 x4 : S1x8192x1.Idx → EReal) j = LN.rstd (MlpArr.z x1 x2 x3 x4 (j 1)) := by
  pointwise [val_main_v45, ve_, LN.rstd]
theorem xhat_ : (val_main_v50 (F := Ideal) x1 x2 x3 x4 : S1x8192x1024.Idx → EReal) i = LN.xhat (MlpArr.z x1 x2 x3 x4 (i 1)) (i 2) := by
  pointwise [val_main_v50, val_main_v49, cen2_, rstd_, LN.xhat]
theorem x1_ : (val_main_v56 (F := Ideal) x1 x2 x3 x4 x5 x6 : S1x8192x1024.Idx → EReal) i = MlpArr.x1 x1 x2 x3 x4 x5 x6 (i 1) (i 2) := by
  pointwise [val_main_v56, val_main_v55, val_main_v54, val_main_v53, val_main_v52, val_main_v51, xhat_, MlpAll.x1, MlpFun.x1]
theorem d_ : (val_main_v67 (F := Ideal) x0 x5 : S1x8192x1024.Idx → EReal) i = MlpArr.d x0 x5 (i 1) (i 2) := by
  pointwise [val_main_v67, val_main_v66, val_main_v59, val_main_v51, MlpFun.d]
  exact congrArg (· * _) (rows_ i x0).symm
theorem db_ (j : S1024.Idx) : (val_main_v62 (F := Ideal) x0 : S1024.Idx → EReal) j = ∑ r : Fin 8192, x0 (ix3 0 r (j 0)) := by
  pointwise [val_main_v62, val_main_v61, val_main_v60, val_main_cst_12, val_main_cst_13, UnitAxes.red01]
theorem dg_ (j : S1024.Idx) : (val_main_v68 (F := Ideal) x0 x1 x2 x3 x4 : S1024.Idx → EReal) j = ∑ r : Fin 8192, x0 (ix3 0 r (j 0)) * LN.xhat (MlpArr.z x1 x2 x3 x4 r) (j 0) := by
  pointwise [val_main_v68, val_main_v65, val_main_v64, val_main_v63, val_main_v59, val_main_cst_14, val_main_cst_15, UnitAxes.red01, xhat_, mul_comm]
theorem dvar_ : (val_main_v82 (F := Ideal) x0 x1 x2 x3 x4 x5 : S1x8192x1024.Idx → EReal) i = LN.dvar (MlpArr.z x1 x2 x3 x4 (i 1)) (MlpArr.d x0 x5 (i 1)) := by
  pointwise [val_main_v82, val_main_v81, val_main_v80, val_main_v79, val_main_v78, val_main_v74, val_main_v71, val_main_v70, val_main_v69, val_main_v48, val_main_v47, val_main_v46, val_main_cst_11, val_main_cst_16, val_main_cst_18, val_main_cst_19, rstd_, ve_, d_, cen2_, UnitAxes.red02, LN.dvar]
theorem chain_ : (val_main_v94 (F := Ideal) x0 x1 x2 x3 x4 x5 : S1x8192x1024.Idx → EReal) i = LN.chain (MlpArr.z x1 x2 x3 x4 (i 1)) (MlpArr.d x0 x5 (i 1)) (i 2) := by
  pointwise [val_main_v94, val_main_v93, val_main_v92, val_main_v91, val_main_v90, val_main_v89, val_main_v88, val_main_v87, val_main_v86, val_main_v85, val_main_v84, val_main_v83, val_main_v77, val_main_v76, val_main_v75, val_main_v73, val_main_v72, val_main_v36, val_main_v35, val_main_cst_7, val_main_cst_17, val_main_cst_20, val_main_cst_21, val_main_cst_22, dvar_, cen_, d_, rstd_, UnitAxes.red02, LN.chain]

/-- The arrays whose entries the gradient reads are real. -/
structure Reals : Prop where
  h0 : ∀ i, IsReal (x0 i)
  h1 : ∀ i, IsReal (x1 i)
  h2 : ∀ i, IsReal (x2 i)
  h3 : ∀ i, IsReal (x3 i)
  h4 : ∀ i, IsReal (x4 i)
  h5 : ∀ i, IsReal (x5 i)

variable {x0 x1 x2 x3 x4 x5} (h : Reals x0 x1 x2 x3 x4 x5)

/-- The positive part of a real is real. -/
theorem relu {y : EReal} : IsReal y → IsReal (max y 0) := fun ⟨a, e⟩ => by
  rcases max_choice y 0 with h | h <;> rw [h]
  · exact ⟨a, e⟩
  · exact IsReal.zero

section
include h
theorem hpre (r : Fin 8192) (f : Fin 4096) : IsReal (∑ k, MlpArr.h x1 x2 r k * x3 (ix2 k f)) :=
  IsReal.sum fun k => (((h.h1 _).mul (IsReal.one.add (h.h2 _))).add (h.h2 _)).mul (h.h3 _)
theorem hra (r : Fin 8192) (f : Fin 4096) : IsReal (MlpArr.ra x1 x2 x3 r f) := relu (hpre h r f)
theorem hz (r : Fin 8192) (k : Fin 1024) : IsReal (MlpArr.z x1 x2 x3 x4 r k) := by
  have ha : IsReal MlpFun.alpha := ⟨_, by simp [Ideal.ofBits, Ideal.ieee, -EReal.coe_mul]; rfl⟩
  have hy : IsReal (MlpArr.y x1 x2 x3 x4 r k) := IsReal.sum fun f => ((hra h r f).mul (hra h r f)).mul (h.h4 (ix2 f k))
  exact (ha.mul (h.h1 _)).add ((IsReal.one.add (h.h2 _)).mul hy)

theorem dz_ : (val_main_v94 (F := Ideal) x0 x1 x2 x3 x4 x5 : S1x8192x1024.Idx → EReal) i = MlpArr.dz x0 x1 x2 x3 x4 x5 (i 1) (i 2) := by
  rw [chain_]
  exact LN.lnb_chain (fun k => hz h _ _) (fun k => (h.h0 _).mul (h.h5 _)) _
end

end Cert.MlpRefIdeal.Val
end
-- ==== Proof.MlpRefOut.lean ====
module

public import proofs.«01_k».proof.Proof.MlpRef

@[expose] public section

set_option maxRecDepth 16384

noncomputable section

/-! The reference of the feed-forward sublayer, read at coordinates. -/

namespace Cert.MlpRefIdeal.Val

open Idealize.ShloMosaic Idealize.ShloMosaic.TcCoe Idealize.SL.Sem Idealize.ShloMosaic.StableHlo
open Cert.MlpRefIdeal Cert.MlpRefIdeal.Gen Cert.MlpRefIdeal.Read

variable {x0 x1 : S1x8192x1024.Idx → EReal} {x2 : S1x3072.Idx → EReal} {x3 : S1024x4096.Idx → EReal} {x4 : S4096x1024.Idx → EReal}
  {x5 : S1024.Idx → EReal} (x6 : S1024.Idx → EReal) (i : S1x8192x1024.Idx) (e : S1x8192x4096.Idx) (j : S1x8192x1.Idx)
  (h : Reals x0 x1 x2 x3 x4 x5)

include h
theorem dy_ : (val_main_v96 (F := Ideal) x0 x1 x2 x3 x4 x5 : S1x8192x1024.Idx → EReal) i = MlpArr.dy x0 x1 x2 x3 x4 x5 (i 1) (i 2) := by
  pointwise [val_main_v96, val_main_v95, val_main_v24, val_main_v23, val_main_v5, val_main_v2, val_main_cst_4, dz_ _ h, MlpAll.dy, MlpFun.dy]
  exact mul_comm _ _
theorem dgate_ (k : Fin 1024) : (val_main_v99 (F := Ideal) x0 x1 x2 x3 x4 x5 : S1x1x1024.Idx → EReal) (ix3 0 0 k)
    = ∑ r : Fin 8192, MlpArr.dz x0 x1 x2 x3 x4 x5 r k * MlpArr.y x1 x2 x3 x4 r k := by
  pointwise [val_main_v99, val_main_v98, val_main_v97, val_main_cst_23, dz_ _ h, y_]
theorem dpre_ : (val_main_v102 (F := Ideal) x0 x1 x2 x3 x4 x5 : S1x8192x4096.Idx → EReal) e = ∑ k, MlpArr.dy x0 x1 x2 x3 x4 x5 (e 1) k * x4 (ix2 (e 2) k) := by
  pointwise [val_main_v102, dy_ _ h]

/-- Where an activation is not positive its gradient is zero both ways: chosen so, or as a multiple of the activation. -/
theorem da_ : (val_main_v105 (F := Ideal) x0 x1 x2 x3 x4 x5 : S1x8192x4096.Idx → EReal) e = MlpArr.da x0 x1 x2 x3 x4 x5 (e 1) (e 2) := by
  pointwise [val_main_v105, val_main_v104, val_main_v103, val_main_v19, val_main_v18, val_main_v15, val_main_v14, val_main_cst_0, val_main_cst_2, val_main_cst_25,
    dpre_ _ h, ra_, pre_, MlpAll.da, MlpFun.dact]
  split_ifs with hp
  · rfl
  have h0 : MlpArr.ra x1 x2 x3 (e 1) (e 2) = 0 := max_eq_right (not_lt.mp hp)
  refine (Eq.trans (congrArg (fun y => _ * (MlpFun.two * y)) h0) ?_).symm
  rw [mul_zero, mul_zero]

theorem dh_ : (val_main_v106 (F := Ideal) x0 x1 x2 x3 x4 x5 : S1x8192x1024.Idx → EReal) i = MlpArr.dh x0 x1 x2 x3 x4 x5 (i 1) (i 2) := by
  pointwise [val_main_v106, da_ _ h, MlpAll.dh, MlpFun.dh]
theorem dx_ : (val_main_v119 (F := Ideal) x0 x1 x2 x3 x4 x5 : S1x8192x1024.Idx → EReal) i = MlpArr.dx x0 x1 x2 x3 x4 x5 (i 1) (i 2) := by
  pointwise [val_main_v119, val_main_v113, val_main_v112, val_main_v101, val_main_v100, val_main_v7, val_main_v6, val_main_v4, val_main_v1, val_main_cst_24, val_main_cst, dh_ _ h, dz_ _ h, MlpAll.dx, MlpFun.dx]
theorem dshift_ (k : Fin 1024) : (val_main_v108 (F := Ideal) x0 x1 x2 x3 x4 x5 : S1x1x1024.Idx → EReal) (ix3 0 0 k) = ∑ r : Fin 8192, MlpArr.dh x0 x1 x2 x3 x4 x5 r k := by
  pointwise [val_main_v108, val_main_v107, val_main_cst_26, dh_ _ h]
theorem dscale_ (k : Fin 1024) : (val_main_v111 (F := Ideal) x0 x1 x2 x3 x4 x5 : S1x1x1024.Idx → EReal) (ix3 0 0 k)
    = ∑ r : Fin 8192, MlpArr.dh x0 x1 x2 x3 x4 x5 r k * x1 (ix3 0 r k) := by
  pointwise [val_main_v111, val_main_v110, val_main_v109, val_main_cst_27, dh_ _ h, mul_comm]

omit h in
theorem x1_out : (val_main_v127 (F := Ideal) x1 x2 x3 x4 x5 x6 : S8192x1024.Idx → EReal) = fun j => MlpArr.x1 x1 x2 x3 x4 x5 x6 (j 0) (j 1) := by
  funext j; pointwise [val_main_v127, x1_]
omit h in
theorem r_out : (val_main_v58 (F := Ideal) x1 x2 x3 : S8192x4096.Idx → EReal) = fun j => MlpArr.ra x1 x2 x3 (j 0) (j 1) * MlpArr.ra x1 x2 x3 (j 0) (j 1) := by
  funext j; pointwise [val_main_v58, val_main_v57, r_]
omit h in
theorem h_out : (val_main_v124 (F := Ideal) x1 x2 : S8192x1024.Idx → EReal) = fun j => MlpArr.h x1 x2 (j 0) (j 1) := by
  funext j; pointwise [val_main_v124, val_main_v123, h_]
theorem dx_out : (val_main_v120 (F := Ideal) x0 x1 x2 x3 x4 x5 : S8192x1024.Idx → EReal) = fun j => MlpArr.dx x0 x1 x2 x3 x4 x5 (j 0) (j 1) := by
  funext j; pointwise [val_main_v120, dx_ _ h]
theorem da_out : (val_main_v122 (F := Ideal) x0 x1 x2 x3 x4 x5 : S8192x4096.Idx → EReal) = fun j => MlpArr.da x0 x1 x2 x3 x4 x5 (j 0) (j 1) := by
  funext j; pointwise [val_main_v122, val_main_v121, da_ _ h]
theorem dy_out : (val_main_v126 (F := Ideal) x0 x1 x2 x3 x4 x5 : S8192x1024.Idx → EReal) = fun j => MlpArr.dy x0 x1 x2 x3 x4 x5 (j 0) (j 1) := by
  funext j; pointwise [val_main_v126, val_main_v125, dy_ _ h]
end Cert.MlpRefIdeal.Val
end
-- ==== Proof.MlpRefSums.lean ====
module

public import proofs.«01_k».proof.Proof.MlpRefOut

@[expose] public section

set_option maxRecDepth 16384

noncomputable section

/-! The reference of the feed-forward sublayer, read at coordinates. -/

namespace Cert.MlpRefIdeal.Val

open Idealize.ShloMosaic Idealize.ShloMosaic.TcCoe Idealize.SL.Sem Idealize.ShloMosaic.StableHlo
open Cert.MlpRefIdeal Cert.MlpRefIdeal.Gen Cert.MlpRefIdeal.Read

variable {x0 x1 : S1x8192x1024.Idx → EReal} {x2 : S1x3072.Idx → EReal} {x3 : S1024x4096.Idx → EReal} {x4 : S4096x1024.Idx → EReal}
  {x5 : S1024.Idx → EReal} (x6 : S1024.Idx → EReal) (i : S1x8192x1024.Idx) (e : S1x8192x4096.Idx) (j : S1x8192x1.Idx)
  (h : Reals x0 x1 x2 x3 x4 x5)

include h
theorem r0 (q : Fin 1) (k : Fin 1024) : (val_main_v114 (F := Ideal) x0 x1 x2 x3 x4 x5 : S1x1024.Idx → EReal) (ix2 q k) = ∑ r : Fin 8192, MlpArr.dh x0 x1 x2 x3 x4 x5 r k := by
  pointwise [val_main_v114, dshift_ h]
theorem r1 (q : Fin 1) (k : Fin 1024) : (val_main_v115 (F := Ideal) x0 x1 x2 x3 x4 x5 : S1x1024.Idx → EReal) (ix2 q k) = ∑ r : Fin 8192, MlpArr.dh x0 x1 x2 x3 x4 x5 r k * x1 (ix3 0 r k) := by
  pointwise [val_main_v115, dscale_ h]
theorem r2 (q : Fin 1) (k : Fin 1024) : (val_main_v116 (F := Ideal) x0 x1 x2 x3 x4 x5 : S1x1024.Idx → EReal) (ix2 q k) = ∑ r : Fin 8192, MlpArr.dz x0 x1 x2 x3 x4 x5 r k * MlpArr.y x1 x2 x3 x4 r k := by
  pointwise [val_main_v116, dgate_ h]
omit h in
theorem r3 (q : Fin 1) (k : Fin 1024) : (val_main_v117 (F := Ideal) x0 x1 x2 x3 x4 : S1x1024.Idx → EReal) (ix2 q k)
    = ∑ r : Fin 8192, x0 (ix3 0 r k) * LN.xhat (MlpArr.z x1 x2 x3 x4 r) k := by
  pointwise [val_main_v117, dg_]
omit h in
theorem r4 (q : Fin 1) (k : Fin 1024) : (val_main_v118 (F := Ideal) x0 : S1x1024.Idx → EReal) (ix2 q k) = ∑ r : Fin 8192, x0 (ix3 0 r k) := by
  pointwise [val_main_v118, db_]

theorem sums_out : (val_main_v129 (F := Ideal) x0 x1 x2 x3 x4 x5 : S8x1024.Idx → EReal) = fun j => MlpArr.sums x0 x1 x2 x3 x4 x5 (j 1) (j 0).val := by
  funext j
  pointwise [val_main_v129, val_main_v128, val_main_cst_28, r0 h, r1 h, r2 h, r3, r4]
  unfold MlpArr.sums MlpAll.sums
  split_ifs <;> first | omega | rfl

end Cert.MlpRefIdeal.Val
end
-- ==== Proof.MlpPair.lean ====
module

public import proofs.«01_k».proof.Defs
public import proofs.«01_k».proof.Proof.Gen.Mlp.Frame
public import proofs.«01_k».proof.Proof.Gen.Pre_finite_mlp
public import proofs.«01_k».proof.Proof.MlpRun
public import proofs.«01_k».proof.Proof.MlpArgs
public import proofs.«01_k».proof.Proof.MlpRefSums
public import Idealize.ShloMosaic.Lib.Claim

@[expose] public section

set_option maxRecDepth 16384

noncomputable section

/-! The feed-forward sublayer against its reference. -/

namespace Cert.MlpPair

open Idealize.ShloMosaic Idealize.ShloMosaic.TcCoe Idealize.SL.Sem

theorem frameP : Cert.quiescent_Mlp := fun m ρ _ => Cert.Mlp.Gen.frame m ρ
theorem framePI : Cert.quiescent_MlpIdeal := fun m ρ _ => Cert.MlpIdeal.Gen.frame m ρ
theorem framePI' : Cert.quiescent_MlpIdeal_pre_finite_mlp := fun m ρ _ => Cert.MlpIdeal.Gen.frame m ρ

section
open Cert.MlpIdeal Cert.MlpIdeal.Gen Cert.MlpIdeal.Arr Cert.MlpIdeal.Val

variable (m : (ℓ : Loc nD τ sig) → Buf (Elt Ideal) ℓ) (ρ : Dev nD → PrngReg)

theorem reals (h : Cert.Pre_MlpIdeal_finite_mlp m) (c : Dev nD) :
    Cert.MlpRefIdeal.Val.Reals (A0 m c) (A1 m c) (A2 m c) (A3 m c) (A4 m c) (A5 m c) where
  h0 := IsReal.of_lt _ _ (h c).1
  h1 := IsReal.of_lt _ _ (h c).2.1
  h2 := IsReal.of_lt _ _ (h c).2.2.1
  h3 := IsReal.of_lt _ _ (h c).2.2.2.1
  h4 := IsReal.of_lt _ _ (h c).2.2.2.2.1
  h5 := IsReal.of_lt _ _ (h c).2.2.2.2.2

theorem runK : θ_run defs (onTc (τ := τ) (main (F := Ideal))) ⟨m, fun _ => 0, ρ⟩ fun r => ∀ c : Dev nD,
    r.2.mem ((c.tc : Thread nD τ).loc main_v8_0) = (fun j : S8192x1024.Idx => MlpArr.x1 (A1 m c) (A2 m c) (A3 m c) (A4 m c) (A5 m c) (A6 m c) (j 0) (j 1))
    ∧ r.2.mem ((c.tc : Thread nD τ).loc main_v8_3) = (fun j : S8192x4096.Idx => MlpArr.ra (A1 m c) (A2 m c) (A3 m c) (j 0) (j 1) * MlpArr.ra (A1 m c) (A2 m c) (A3 m c) (j 0) (j 1))
    ∧ r.2.mem ((c.tc : Thread nD τ).loc main_v10_0) = (fun j : S8192x1024.Idx => MlpArr.dx (A0 m c) (A1 m c) (A2 m c) (A3 m c) (A4 m c) (A5 m c) (j 0) (j 1))
    ∧ r.2.mem ((c.tc : Thread nD τ).loc main_v10_1) = (fun j : S8192x4096.Idx => MlpArr.da (A0 m c) (A1 m c) (A2 m c) (A3 m c) (A4 m c) (A5 m c) (j 0) (j 1))
    ∧ r.2.mem ((c.tc : Thread nD τ).loc main_v10_2) = (fun j : S8192x1024.Idx => MlpArr.h (A1 m c) (A2 m c) (j 0) (j 1))
    ∧ r.2.mem ((c.tc : Thread nD τ).loc main_v10_3) = (fun j : S8192x1024.Idx => MlpArr.dy (A0 m c) (A1 m c) (A2 m c) (A3 m c) (A4 m c) (A5 m c) (j 0) (j 1))
    ∧ r.2.mem ((c.tc : Thread nD τ).loc main_v10_4) = (fun j : S8x1024.Idx => MlpArr.sums (A0 m c) (A1 m c) (A2 m c) (A3 m c) (A4 m c) (A5 m c) (j 1) (j 0).val)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  (θ_run defs _ _).mono (fun r h c =>
    have g := fun b hb => h.1 c _ (mem_uc b hb)
    ⟨(g main_v8_0 (by decide)).trans (out_x1 m ρ c),
     (g main_v8_3 (by decide)).trans (out_r m ρ c),
     (g main_v10_0 (by decide)).trans (out_dx m ρ c),
     (g main_v10_1 (by decide)).trans (out_da m ρ c),
     (g main_v10_2 (by decide)).trans (out_h m ρ c),
     (g main_v10_3 (by decide)).trans (out_dy m ρ c),
     (g main_v10_4 (by decide)).trans (out_sums m ρ c),
     (g main_arg0 (by decide)).trans (W6_main_arg0 m ρ c),
     (g main_arg1 (by decide)).trans (W6_main_arg1 m ρ c),
     (g main_arg2 (by decide)).trans (W6_main_arg2 m ρ c),
     (g main_arg3 (by decide)).trans (W6_main_arg3 m ρ c),
     (g main_arg4 (by decide)).trans (W6_main_arg4 m ρ c),
     (g main_arg5 (by decide)).trans (W6_main_arg5 m ρ c),
     (g main_arg6 (by decide)).trans (W6_main_arg6 m ρ c)⟩) (run_sems m ρ)
end

theorem algebraic : Cert.algebraic_MlpIdeal_MlpRefIdeal_pre_finite_mlp := fun m ρ m' ρ' hpre hag =>
  ⟨_, _, _, _, _, _, _, runK m ρ, (θ_run Cert.MlpRefIdeal.defs _ _).mono (fun _ h c => by
    have R := reals m hpre c
    obtain ⟨a0, a1, a2, a3, a4, a5, a6⟩ := hag c
    obtain ⟨r0, r1, r2, r3, r4, r5, r6, hr⟩ := h c
    refine ⟨r0.trans ?_, r1.trans ?_, r2.trans ?_, r3.trans ?_, r4.trans ?_, r5.trans ?_, r6.trans ?_, hr⟩
    · refine (Cert.MlpRefIdeal.Read.val_main_v127_eq _).trans (Eq.trans ?_ (Cert.MlpRefIdeal.Val.x1_out _))
      clear r0 r1 r2 r3 r4 r5 r6 hr
      exact congr (congr (congr (congr (congr (congrArg Cert.MlpRefIdeal.Read.val_main_v127 a1) a2) a3) a4) a5) a6
    · refine (Cert.MlpRefIdeal.Read.val_main_v58_eq _).trans (Eq.trans ?_ (Cert.MlpRefIdeal.Val.r_out))
      clear r0 r1 r2 r3 r4 r5 r6 hr
      exact congr (congr (congrArg Cert.MlpRefIdeal.Read.val_main_v58 a1) a2) a3
    · refine (Cert.MlpRefIdeal.Read.val_main_v120_eq _).trans (Eq.trans ?_ (Cert.MlpRefIdeal.Val.dx_out R))
      clear r0 r1 r2 r3 r4 r5 r6 hr
      exact congr (congr (congr (congr (congr (congrArg Cert.MlpRefIdeal.Read.val_main_v120 a0) a1) a2) a3) a4) a5
    · refine (Cert.MlpRefIdeal.Read.val_main_v122_eq _).trans (Eq.trans ?_ (Cert.MlpRefIdeal.Val.da_out R))
      clear r0 r1 r2 r3 r4 r5 r6 hr
      exact congr (congr (congr (congr (congr (congrArg Cert.MlpRefIdeal.Read.val_main_v122 a0) a1) a2) a3) a4) a5
    · refine (Cert.MlpRefIdeal.Read.val_main_v124_eq _).trans (Eq.trans ?_ (Cert.MlpRefIdeal.Val.h_out))
      clear r0 r1 r2 r3 r4 r5 r6 hr
      exact congr (congrArg Cert.MlpRefIdeal.Read.val_main_v124 a1) a2
    · refine (Cert.MlpRefIdeal.Read.val_main_v126_eq _).trans (Eq.trans ?_ (Cert.MlpRefIdeal.Val.dy_out R))
      clear r0 r1 r2 r3 r4 r5 r6 hr
      exact congr (congr (congr (congr (congr (congrArg Cert.MlpRefIdeal.Read.val_main_v126 a0) a1) a2) a3) a4) a5
    · refine (Cert.MlpRefIdeal.Read.val_main_v129_eq _).trans (Eq.trans ?_ (Cert.MlpRefIdeal.Val.sums_out R))
      clear r0 r1 r2 r3 r4 r5 r6 hr
      exact congr (congr (congr (congr (congr (congrArg Cert.MlpRefIdeal.Read.val_main_v129 a0) a1) a2) a3) a4) a5) (Cert.MlpRefIdeal.Value.run m' ρ')⟩

theorem frameRI : Cert.quiescent_MlpRefIdeal := fun m ρ _ =>
  (θ_run Cert.MlpRefIdeal.defs _ _).mono (fun r h => ⟨fun c => (h c).2.2.2.2.2.2.2, sem_eq_zero_of_no_sems (by decide) r.2⟩) (Cert.MlpRefIdeal.Value.run m ρ)
theorem frameRI' : Cert.quiescent_MlpRefIdeal_pre_finite_mlp := fun m ρ _ => frameRI m ρ trivial

end Cert.MlpPair
end
-- ==== Proof.HeadRun.lean ====
module

public import proofs.«01_k».proof.Proof.Gen.HeadIdeal.Frame

@[expose] public section

set_option maxRecDepth 16384

noncomputable section

namespace Cert.HeadIdeal.Arr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.HeadIdeal Cert.HeadIdeal.Gen

variable {F : FTy → Type} [FloatOps F] (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every array of the device that is not a region's own ends at the fold of the host operations and the two regions. -/
theorem run_sems : θ_run defs (onTc (τ := τ) (main (F := F))) ⟨m, fun _ => 0, ρ⟩ (fun r => (∀ c : Dev nD,
    ∀ b ∈ Pipeline.ucRefs τ sig, r.2.mem (((c : Thread nD τ)).1, b) = W6 m ρ c b) ∧ r.2.sem = fun _ => 0) :=
  Pipeline.θ_run_regions_kit_sems (pcfgs (F := F)) adm (pdats m ρ) () cellOf_inj emb₁
    defs₀ 𝒱₀ L lv m ρ main (segs m ρ) (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

end Cert.HeadIdeal.Arr

end
-- ==== Proof.HeadVal0.lean ====
module

public import proofs.«01_k».proof.Proof.Gen.HeadIdeal.Frame
public import proofs.«01_k».proof.Proof.Rows
public import proofs.«01_k».proof.Proof.MlpFun

@[expose] public section

set_option maxRecDepth 16384

noncomputable section
namespace Cert.HeadIdeal.Val
open Idealize.ShloMosaic Idealize.ShloMosaic.TcCoe Idealize.SL.Sem
open Cert.HeadIdeal Cert.HeadIdeal.Gen Cert.LN Cert.Rows

theorem idx0 : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] :=
  (by decide +kernel : ∀ t : Fin grid0.N, _)

variable (V : (c : Dev nD) → (b : Ref sig .tc) → Buf (Elt Ideal) ((c : Thread nD τ).loc b)) (c : Dev nD)

abbrev X : S8192x1024.Idx → EReal := V c main_v7
abbrev MODS : S12x1024.Idx → EReal := V c main_v1
abbrev W1 : S4096x1024.Idx → EReal := V c main_v3
abbrev W2 : S4096x1024.Idx → EReal := V c main_v4
abbrev LNG : S1x1024.Idx → EReal := V c main_v5
abbrev LNB : S1x1024.Idx → EReal := V c main_v6
abbrev xr (r : Fin 8192) (k : Fin 1024) : EReal := X V c (ix2 r k)
abbrev sh (k : Fin 1024) : EReal := MODS V c (ix2 9 k)
abbrev sc (k : Fin 1024) : EReal := MODS V c (ix2 10 k)
abbrev gt (k : Fin 1024) : EReal := MODS V c (ix2 11 k)
abbrev w1 (f : Fin 4096) (k : Fin 1024) : EReal := W1 V c (ix2 f k)
abbrev w2 (f : Fin 4096) (k : Fin 1024) : EReal := W2 V c (ix2 f k)
abbrev lng (k : Fin 1024) : EReal := LNG V c (ix2 0 k)
abbrev lnb' (k : Fin 1024) : EReal := LNB V c (ix2 0 k)

abbrev brow0 (t : Fin cfg0.N) (a : Fin 512) : Fin 8192 := ⟨t.val * 512 + a.val, by have := t.isLt; have : cfg0.N = 16 := N_0; omega⟩

theorem blk0_x (t : Fin cfg0.N) (a : Fin 512) (k : Fin 1024) : (iblk0 V c 0 t : S512x1024.Idx → EReal) (ix2 a k) = xr V c (brow0 t a) k := by
  blk_point [iblk0, idx0 t]
theorem blk0_mods (t : Fin cfg0.N) (i : S12x1024.Idx) : (iblk0 V c 1 t : S12x1024.Idx → EReal) i = MODS V c i := by
  blk_point [iblk0, idx0 t]
theorem blk0_w1 (t : Fin cfg0.N) (i : S4096x1024.Idx) : (iblk0 V c 2 t : S4096x1024.Idx → EReal) i = W1 V c i := by
  blk_point [iblk0, idx0 t]
theorem blk0_w2 (t : Fin cfg0.N) (i : S4096x1024.Idx) : (iblk0 V c 3 t : S4096x1024.Idx → EReal) i = W2 V c i := by
  blk_point [iblk0, idx0 t]
theorem blk0_g (t : Fin cfg0.N) (i : S1x1024.Idx) : (iblk0 V c 4 t : S1x1024.Idx → EReal) i = LNG V c i := by
  blk_point [iblk0, idx0 t]
theorem blk0_b (t : Fin cfg0.N) (i : S1x1024.Idx) : (iblk0 V c 5 t : S1x1024.Idx → EReal) i = LNB V c i := by
  blk_point [iblk0, idx0 t]

/-- A row's activations, -/
def RA (r : Fin 8192) (f : Fin 4096) : EReal := MlpFun.act (xr V c r) (sh V c) (sc V c) (w1 V c) f
def R (r : Fin 8192) (f : Fin 4096) : EReal := RA V c r f * RA V c r f
/-- and the branch's output. -/
def Y0 (r : Fin 8192) (k : Fin 1024) : EReal := MlpFun.down (w2 V c) (RA V c r) k
def X1 (r : Fin 8192) (k : Fin 1024) : EReal := MlpFun.x1 (lng V c) (lnb' V c) (MlpFun.mix (xr V c r) (gt V c) (Y0 V c r)) k

theorem ra_at (t : Fin cfg0.N) (a : Fin 512) (k : Fin 4096) :
    ((dat0 V c).after 7 t : S512x4096.Idx → EReal) (ix2 a k) = RA V c (brow0 t a) k := by
  have e : ∀ (o : ℕ) (h : o + (k.val - o) < 4096), o ≤ k.val → RA V c (brow0 t a) ⟨o + (k.val - o), h⟩ = RA V c (brow0 t a) k :=
    fun o h h' => congrArg _ (Fin.ext (by simp; omega))
  have hk := k.isLt
  rw [after0_7]
  frame_out
  repeat' with_reducible refine canon_cols_step _ _ _ _ _ _ (fun h => ?_) fun h' => ?_
  · refine Eq.trans ?_ (e 3072 (by omega) h.1)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, blk0_x, blk0_mods, blk0_w1, MlpFun.act, MlpFun.h, RA]
  · refine Eq.trans ?_ (e 2048 (by omega) h.1)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, blk0_x, blk0_mods, blk0_w1, MlpFun.act, MlpFun.h, RA]
  · refine Eq.trans ?_ (e 1024 (by omega) h.1)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, blk0_x, blk0_mods, blk0_w1, MlpFun.act, MlpFun.h, RA]
  · refine Eq.trans ?_ (e 0 (by omega) h.1)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, blk0_x, blk0_mods, blk0_w1, MlpFun.act, MlpFun.h, RA]
  · omega

theorem r_at (t : Fin cfg0.N) (a : Fin 512) (k : Fin 4096) :
    ((dat0 V c).after 8 t : S512x4096.Idx → EReal) (ix2 a k) = R V c (brow0 t a) k := by
  have e : ∀ (o : ℕ) (h : o + (k.val - o) < 4096), o ≤ k.val → R V c (brow0 t a) ⟨o + (k.val - o), h⟩ = R V c (brow0 t a) k :=
    fun o h h' => congrArg _ (Fin.ext (by simp; omega))
  have hk := k.isLt
  rw [after0_8]
  frame_out
  repeat' with_reducible refine canon_cols_step _ _ _ _ _ _ (fun h => ?_) fun h' => ?_
  · refine Eq.trans ?_ (e 3072 (by omega) h.1)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, blk0_x, blk0_mods, blk0_w1, MlpFun.act, MlpFun.h, RA, R]
  · refine Eq.trans ?_ (e 2048 (by omega) h.1)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, blk0_x, blk0_mods, blk0_w1, MlpFun.act, MlpFun.h, RA, R]
  · refine Eq.trans ?_ (e 1024 (by omega) h.1)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, blk0_x, blk0_mods, blk0_w1, MlpFun.act, MlpFun.h, RA, R]
  · refine Eq.trans ?_ (e 0 (by omega) h.1)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, blk0_x, blk0_mods, blk0_w1, MlpFun.act, MlpFun.h, RA, R]
  · omega

theorem y_at (t : Fin cfg0.N) (a : Fin 512) (k : Fin 1024) :
    ((dat0 V c).after 6 t : S512x1024.Idx → EReal) (ix2 a k) = Y0 V c (brow0 t a) k := by
  rw [after0_6]
  frame_out
  refine Eq.trans ?_ (MlpFun.four fun f => R V c (brow0 t a) f * w2 V c f k).symm
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, blk0_x, blk0_mods, blk0_w1, blk0_w2, MlpFun.act, MlpFun.h, RA, R]

theorem fin0_7 : (dat0 V c).arrAt 7 cfg0.N = fun j => RA V c (j 0) (j 1) := by
  refine (dat0 V c).arrAt_eq_of_covers 7 _ (by decide +kernel) fun t hf y => ?_
  blk_simp
  refine Eq.trans (b := RA V c (brow0 t (y 0)) (y 1)) ?_ (congrArg₂ (RA V c) (Fin.ext ?_) (Fin.ext ?_))
  · exact (congrArg _ (eq_ix2 _)).trans (ra_at V c t (y 0) (y 1))
  · blk_simp [idx0 t]
  · blk_simp [idx0 t]

theorem fin0_8 : (dat0 V c).arrAt 8 cfg0.N = fun j => R V c (j 0) (j 1) := by
  refine (dat0 V c).arrAt_eq_of_covers 8 _ (by decide +kernel) fun t hf y => ?_
  blk_simp
  refine Eq.trans (b := R V c (brow0 t (y 0)) (y 1)) ?_ (congrArg₂ (R V c) (Fin.ext ?_) (Fin.ext ?_))
  · exact (congrArg _ (eq_ix2 _)).trans (r_at V c t (y 0) (y 1))
  · blk_simp [idx0 t]
  · blk_simp [idx0 t]

theorem fin0_6 : (dat0 V c).arrAt 6 cfg0.N = fun j => Y0 V c (j 0) (j 1) := by
  refine (dat0 V c).arrAt_eq_of_covers 6 _ (by decide +kernel) fun t hf y => ?_
  blk_simp
  refine Eq.trans (b := Y0 V c (brow0 t (y 0)) (y 1)) ?_ (congrArg₂ (Y0 V c) (Fin.ext ?_) (Fin.ext ?_))
  · exact (congrArg _ (eq_ix2 _)).trans (y_at V c t (y 0) (y 1))
  · blk_simp [idx0 t]
  · blk_simp [idx0 t]

end Cert.HeadIdeal.Val
end
-- ==== Proof.HeadFun.lean ====
module

public import proofs.«01_k».proof.Proof.MlpAll

@[expose] public section

set_option maxRecDepth 16384

noncomputable section

/-! The loss on top of the last feed-forward sublayer. -/

namespace Cert.HeadFun

open Idealize.ShloMosaic Cert.LN

variable (tg x1 er : Fin 1024 → EReal) (k : Fin 1024)

/-- One over the width, as the programs write it. -/
abbrev inv : EReal := Ideal.ofBits .f32 0x3A800000#32

def err : EReal := x1 k - tg k
def ct : EReal := er k * inv

end Cert.HeadFun

namespace Cert.HeadArr

open Idealize.ShloMosaic

variable (tg x : (⟨3, ![1, 8192, 1024]⟩ : Shape).Idx → EReal) (md : (⟨2, ![1, 3072]⟩ : Shape).Idx → EReal)
  (w1 : (⟨2, ![1024, 4096]⟩ : Shape).Idx → EReal) (w2 : (⟨2, ![4096, 1024]⟩ : Shape).Idx → EReal)
  (g b : (⟨1, ![1024]⟩ : Shape).Idx → EReal) (r : Fin 8192) (k : Fin 1024)

/-- The output's distance from the target, -/
def er : EReal := HeadFun.err (MlpArr.rows tg r) (MlpArr.x1 x md w1 w2 g b r) k
/-- the loss's gradient there, -/
def ct : EReal := HeadFun.ct (er tg x md w1 w2 g b r) k
/-- and the same as an array, the cotangent of the sublayer's gradients. -/
def cta (i : (⟨3, ![1, 8192, 1024]⟩ : Shape).Idx) : EReal := ct tg x md w1 w2 g b (i 1) (i 2)

/-- The sums over the rows, with the loss's in the last row. -/
def sums (a : ℕ) : EReal :=
  if a = 5 then ∑ r, er tg x md w1 w2 g b r k * er tg x md w1 w2 g b r k
  else MlpArr.sums (cta tg x md w1 w2 g b) x md w1 w2 g k a

end Cert.HeadArr
end
-- ==== Proof.HeadVal1.lean ====
module

public import proofs.«01_k».proof.Proof.HeadVal0
public import proofs.«01_k».proof.Proof.HeadFun

@[expose] public section

set_option maxRecDepth 16384

noncomputable section
namespace Cert.HeadIdeal.Val
open Idealize.ShloMosaic Idealize.ShloMosaic.TcCoe Idealize.SL.Sem
open Cert.HeadIdeal Cert.HeadIdeal.Gen Cert.LN Cert.Rows

theorem idx1 : ∀ t : Fin cfg1.N, win1_0.index t = ![t.val, 0] ∧ win1_1.index t = ![t.val, 0] ∧ win1_2.index t = ![t.val, 0]
    ∧ win1_3.index t = ![t.val, 0] ∧ win1_4.index t = ![0, 0] ∧ win1_5.index t = ![0, 0] ∧ win1_6.index t = ![0, 0]
    ∧ win1_7.index t = ![0, 0] ∧ win1_8.index t = ![0, 0] ∧ win1_9.index t = ![t.val, 0] ∧ win1_10.index t = ![t.val, 0]
    ∧ win1_11.index t = ![t.val, 0] ∧ win1_12.index t = ![t.val, 0] ∧ win1_13.index t = ![0, 0] :=
  (by decide +kernel : ∀ t : Fin grid1.N, _)

variable (V : (c : Dev nD) → (b : Ref sig .tc) → Buf (Elt Ideal) ((c : Thread nD τ).loc b)) (c : Dev nD)

abbrev TG : S8192x1024.Idx → EReal := V c main_v9
abbrev YS : S8192x1024.Idx → EReal := V c main_v8_0
abbrev RAS : S8192x4096.Idx → EReal := V c main_v8_1
abbrev tgr (r : Fin 8192) (k : Fin 1024) : EReal := TG V c (ix2 r k)
abbrev yr (r : Fin 8192) (k : Fin 1024) : EReal := YS V c (ix2 r k)
abbrev rar (r : Fin 8192) (f : Fin 4096) : EReal := RAS V c (ix2 r f)

abbrev brow (t : Fin cfg1.N) (a : Fin 256) : Fin 8192 := ⟨t.val * 256 + a.val, by have := t.isLt; have : cfg1.N = 32 := N_1; omega⟩

theorem blk_tg (t : Fin cfg1.N) (a : Fin 256) (k : Fin 1024) : (iblk1 V c 0 t : S256x1024.Idx → EReal) (ix2 a k) = tgr V c (brow t a) k := by
  blk_point [iblk1, idx1 t]
theorem blk_x (t : Fin cfg1.N) (a : Fin 256) (k : Fin 1024) : (iblk1 V c 1 t : S256x1024.Idx → EReal) (ix2 a k) = xr V c (brow t a) k := by
  blk_point [iblk1, idx1 t]
theorem blk_y (t : Fin cfg1.N) (a : Fin 256) (k : Fin 1024) : (iblk1 V c 2 t : S256x1024.Idx → EReal) (ix2 a k) = yr V c (brow t a) k := by
  blk_point [iblk1, idx1 t]
theorem blk_ra (t : Fin cfg1.N) (a : Fin 256) (f : Fin 4096) : (iblk1 V c 3 t : S256x4096.Idx → EReal) (ix2 a f) = rar V c (brow t a) f := by
  blk_point [iblk1, idx1 t]
theorem blk_mods (t : Fin cfg1.N) (i : S12x1024.Idx) : (iblk1 V c 4 t : S12x1024.Idx → EReal) i = MODS V c i := by
  blk_point [iblk1, idx1 t]
theorem blk_w1 (t : Fin cfg1.N) (i : S4096x1024.Idx) : (iblk1 V c 5 t : S4096x1024.Idx → EReal) i = W1 V c i := by
  blk_point [iblk1, idx1 t]
theorem blk_w2 (t : Fin cfg1.N) (i : S4096x1024.Idx) : (iblk1 V c 6 t : S4096x1024.Idx → EReal) i = W2 V c i := by
  blk_point [iblk1, idx1 t]
theorem blk_g (t : Fin cfg1.N) (i : S1x1024.Idx) : (iblk1 V c 7 t : S1x1024.Idx → EReal) i = LNG V c i := by
  blk_point [iblk1, idx1 t]
theorem blk_b (t : Fin cfg1.N) (i : S1x1024.Idx) : (iblk1 V c 8 t : S1x1024.Idx → EReal) i = LNB V c i := by
  blk_point [iblk1, idx1 t]

/-- A row of the norm's input, normalised; -/
def XH (r : Fin 8192) (k : Fin 1024) : EReal := xhat (MlpFun.mix (xr V c r) (gt V c) (yr V c r)) k
/-- how far the output is from the target, -/
def ER (r : Fin 8192) (k : Fin 1024) : EReal := HeadFun.err (tgr V c r) (MlpFun.x1 (lng V c) (lnb' V c) (MlpFun.mix (xr V c r) (gt V c) (yr V c r))) k
/-- the loss's gradient, -/
def CT (r : Fin 8192) (k : Fin 1024) : EReal := HeadFun.ct (ER V c r) k
/-- the gradient reaching the norm's input, -/
def DZ (r : Fin 8192) (k : Fin 1024) : EReal := lnb (MlpFun.mix (xr V c r) (gt V c) (yr V c r)) (MlpFun.d (lng V c) (CT V c r)) k
/-- and those reaching the branch's output, the activations' inputs and the modulated row. -/
def DY (r : Fin 8192) (k : Fin 1024) : EReal := MlpFun.dy (gt V c) (DZ V c r) k
def DA (r : Fin 8192) (f : Fin 4096) : EReal := MlpFun.dact (w2 V c) (rar V c r) (DY V c r) f
def DH (r : Fin 8192) (k : Fin 1024) : EReal := MlpFun.dh (w1 V c) (DA V c r) k
def DX (r : Fin 8192) (k : Fin 1024) : EReal := MlpFun.dx (sc V c) (DZ V c r) (DH V c r) k
def H (r : Fin 8192) (k : Fin 1024) : EReal := MlpFun.h (xr V c r) (sh V c) (sc V c) k

section Pay
variable (t : Fin cfg1.N) (a : Fin 256) (k : Fin 1024)
abbrev cenP : FVec Ideal S256x1024 .f32 := k1_pay12 (F := Ideal) (iblk1 V c 1 t) (View.ld (iblk1 V c 4 t) (Rect.unit (s := S12x1024) ![11, 0] ![1, 1024] inb_S12x1024_S1x1024_11_0)) (iblk1 V c 2 t)
abbrev varP : FVec Ideal S256x1 .f32 := k1_pay13 (F := Ideal) (iblk1 V c 1 t) (View.ld (iblk1 V c 4 t) (Rect.unit (s := S12x1024) ![11, 0] ![1, 1024] inb_S12x1024_S1x1024_11_0)) (iblk1 V c 2 t)
abbrev erP : FVec Ideal S256x1024 .f32 := k1_pay16 (F := Ideal) (k1_pay9 (iblk1 V c 7 t)) (k1_pay10 (iblk1 V c 8 t)) (k1_pay11 (iblk1 V c 0 t)) (cenP V c t) (varP V c t)
abbrev ctP : FVec Ideal S256x1024 .f32 := k1_pay17 (F := Ideal) (k1_pay9 (iblk1 V c 7 t)) (k1_pay10 (iblk1 V c 8 t)) (k1_pay11 (iblk1 V c 0 t)) (cenP V c t) (varP V c t)
abbrev dzP : FVec Ideal S256x1024 .f32 := k1_pay19 (F := Ideal) (k1_pay9 (iblk1 V c 7 t)) (k1_pay10 (iblk1 V c 8 t)) (k1_pay11 (iblk1 V c 0 t)) (cenP V c t) (varP V c t)
abbrev dyP : FVec Ideal S256x1024 .bf16 := k1_pay25 (F := Ideal) (k1_pay7 (View.ld (iblk1 V c 4 t) (Rect.unit (s := S12x1024) ![11, 0] ![1, 1024] inb_S12x1024_S1x1024_11_0))) (dzP V c t)

theorem xh_pay : k1_pay15 (F := Ideal) (cenP V c t) (varP V c t) (ix2 a k) = XH V c (brow t a) k := by
  pointwise [k1_pay15, k1_pay14, k1_pay13, k1_pay12, k1_pay4, k1_pay7, k1_pay8, blk_x, blk_y, blk_mods, xhat, rstd, cen, mean, MlpFun.mix, XH]

theorem rs_pay (i : Fin 1) : k1_pay14 (F := Ideal) (varP V c t) (ix2 a i) = rstd (MlpFun.mix (xr V c (brow t a)) (gt V c) (yr V c (brow t a))) := by
  pointwise [k1_pay14, k1_pay13, k1_pay12, k1_pay4, k1_pay7, k1_pay8, blk_x, blk_y, blk_mods, rstd, cen, mean, MlpFun.mix]

theorem er_pay : erP V c t (ix2 a k) = ER V c (brow t a) k := by
  pointwise [k1_pay16, k1_pay9, k1_pay10, k1_pay11, xh_pay, blk_g, blk_b, blk_tg, ER, HeadFun.err, MlpFun.x1, XH]

theorem g_pay (i : S1x1024.Idx) : k1_pay9 (F := Ideal) (iblk1 V c 7 t) i = LNG V c i := by
  pointwise [k1_pay9, blk_g]

theorem ct_pay : ctP V c t (ix2 a k) = CT V c (brow t a) k := by
  pointwise [k1_pay17, er_pay, CT, HeadFun.ct]

theorem dz_pay : dzP V c t (ix2 a k) = DZ V c (brow t a) k := by
  pointwise [k1_pay19, g_pay, ct_pay, xh_pay, rs_pay, blk_g, lnb, mean, MlpFun.d, XH, DZ]

theorem dy_pay : dyP V c t (ix2 a k) = DY V c (brow t a) k := by
  pointwise [k1_pay25, k1_pay7, dz_pay, blk_mods, MlpFun.dy, DY]

end Pay
end Cert.HeadIdeal.Val
end
-- ==== Proof.HeadVal2.lean ====
module

public import proofs.«01_k».proof.Proof.HeadVal1

@[expose] public section

set_option maxRecDepth 16384

noncomputable section
namespace Cert.HeadIdeal.Val
open Idealize.ShloMosaic Idealize.ShloMosaic.TcCoe Idealize.SL.Sem
open Cert.HeadIdeal Cert.HeadIdeal.Gen Cert.LN Cert.Rows

variable (V : (c : Dev nD) → (b : Ref sig .tc) → Buf (Elt Ideal) ((c : Thread nD τ).loc b)) (c : Dev nD)

section Pay
variable (t : Fin cfg1.N) (a : Fin 256) (k : Fin 1024)

/-- The stores of the activations' gradient. -/
abbrev pieces : List (View.Piece (Elt Ideal) S256x4096 .bf16) :=
  [⟨Rect.unit (s := S256x4096) ![0, 3072] ![256, 1024] inb_S256x4096_S256x1024_0_3072,
      k1_pay35 (F := Ideal) (dyP V c t) (View.ld (iblk1 V c 6 t) (Rect.unit (s := S4096x1024) ![3072, 0] ![1024, 1024] inb_S4096x1024_S1024x1024_3072_0)) (View.ld (iblk1 V c 3 t) (Rect.unit (s := S256x4096) ![0, 3072] ![256, 1024] inb_S256x4096_S256x1024_0_3072))⟩,
   ⟨Rect.unit (s := S256x4096) ![0, 2048] ![256, 1024] inb_S256x4096_S256x1024_0_2048,
      k1_pay34 (F := Ideal) (k1_pay32 (dyP V c t) (View.ld (iblk1 V c 6 t) (Rect.unit (s := S4096x1024) ![2048, 0] ![1024, 1024] inb_S4096x1024_S1024x1024_2048_0))) (k1_pay33 (View.ld (iblk1 V c 3 t) (Rect.unit (s := S256x4096) ![0, 2048] ![256, 1024] inb_S256x4096_S256x1024_0_2048))) (FloatOps.ofBits .f32 1073741824#32)⟩,
   ⟨Rect.unit (s := S256x4096) ![0, 1024] ![256, 1024] inb_S256x4096_S256x1024_0_1024,
      k1_pay30 (F := Ideal) (dyP V c t) (View.ld (iblk1 V c 6 t) (Rect.unit (s := S4096x1024) ![1024, 0] ![1024, 1024] inb_S4096x1024_S1024x1024_1024_0)) (View.ld (iblk1 V c 3 t) (Rect.unit (s := S256x4096) ![0, 1024] ![256, 1024] inb_S256x4096_S256x1024_0_1024))⟩,
   ⟨Rect.unit (s := S256x4096) ![0, 0] ![256, 1024] inb_S256x4096_S256x1024_0_0,
      k1_pay29 (F := Ideal) (k1_pay28 (F := Ideal) (k1_pay7 (View.ld (iblk1 V c 4 t) (Rect.unit (s := S12x1024) ![11, 0] ![1, 1024] inb_S12x1024_S1x1024_11_0))) (dzP V c t) (View.ld (iblk1 V c 6 t) (Rect.unit (s := S4096x1024) ![0, 0] ![1024, 1024] inb_S4096x1024_S1024x1024_0_0))) (View.ld (iblk1 V c 3 t) (Rect.unit (s := S256x4096) ![0, 0] ![256, 1024] inb_S256x4096_S256x1024_0_0))⟩]

theorem dy_pay' : k1_pay25 (F := Ideal) (k1_pay7 (View.ld (iblk1 V c 4 t) (Rect.unit (s := S12x1024) ![11, 0] ![1, 1024] inb_S12x1024_S1x1024_11_0))) (dzP V c t) (ix2 a k) = DY V c (brow t a) k := dy_pay V c t a k

theorem da_pay (f : Fin 4096) : View.canon (pieces V c t) (ix2 a f) = (DA V c (brow t a) f : EReal) := by
  have e : ∀ (o : ℕ) (h : o + (f.val - o) < 4096), o ≤ f.val → DA V c (brow t a) ⟨o + (f.val - o), h⟩ = DA V c (brow t a) f :=
    fun o h h' => congrArg _ (Fin.ext (by simp; omega))
  have hf := f.isLt
  repeat' with_reducible refine canon_cols_step _ _ _ _ _ _ (fun h => ?_) fun h' => ?_
  · refine Eq.trans ?_ (e 3072 (by omega) h.1)
    pointwise [k1_pay35, dy_pay, blk_ra, blk_w2, MlpFun.dact, DA]
  · refine Eq.trans ?_ (e 2048 (by omega) h.1)
    pointwise [k1_pay34, k1_pay32, k1_pay33, dy_pay, blk_ra, blk_w2, MlpFun.dact, DA]
  · refine Eq.trans ?_ (e 1024 (by omega) h.1)
    pointwise [k1_pay30, dy_pay, blk_ra, blk_w2, MlpFun.dact, DA]
  · refine Eq.trans ?_ (e 0 (by omega) h.1)
    pointwise [k1_pay29, k1_pay28, dy_pay, blk_ra, blk_w2, MlpFun.dact, DA]
  · omega

abbrev dhP : FVec Ideal S256x1024 .f32 := k1_pay36 (F := Ideal) (dyP V c t) (k1_pay31 (F := Ideal) (dyP V c t) k1_pay27 (k1_pay28 (F := Ideal) (k1_pay7 (View.ld (iblk1 V c 4 t) (Rect.unit (s := S12x1024) ![11, 0] ![1, 1024] inb_S12x1024_S1x1024_11_0))) (dzP V c t) (View.ld (iblk1 V c 6 t) (Rect.unit (s := S4096x1024) ![0, 0] ![1024, 1024] inb_S4096x1024_S1024x1024_0_0)))
    (View.ld (iblk1 V c 3 t) (Rect.unit (s := S256x4096) ![0, 0] ![256, 1024] inb_S256x4096_S256x1024_0_0)) (View.ld (iblk1 V c 5 t) (Rect.unit (s := S4096x1024) ![0, 0] ![1024, 1024] inb_S4096x1024_S1024x1024_0_0)) (View.ld (iblk1 V c 6 t) (Rect.unit (s := S4096x1024) ![1024, 0] ![1024, 1024] inb_S4096x1024_S1024x1024_1024_0)) (View.ld (iblk1 V c 3 t) (Rect.unit (s := S256x4096) ![0, 1024] ![256, 1024] inb_S256x4096_S256x1024_0_1024)) (View.ld (iblk1 V c 5 t) (Rect.unit (s := S4096x1024) ![1024, 0] ![1024, 1024] inb_S4096x1024_S1024x1024_1024_0)))
    (k1_pay32 (dyP V c t) (View.ld (iblk1 V c 6 t) (Rect.unit (s := S4096x1024) ![2048, 0] ![1024, 1024] inb_S4096x1024_S1024x1024_2048_0))) (k1_pay33 (View.ld (iblk1 V c 3 t) (Rect.unit (s := S256x4096) ![0, 2048] ![256, 1024] inb_S256x4096_S256x1024_0_2048))) (FloatOps.ofBits .f32 1073741824#32) (View.ld (iblk1 V c 5 t) (Rect.unit (s := S4096x1024) ![2048, 0] ![1024, 1024] inb_S4096x1024_S1024x1024_2048_0))
    (View.ld (iblk1 V c 6 t) (Rect.unit (s := S4096x1024) ![3072, 0] ![1024, 1024] inb_S4096x1024_S1024x1024_3072_0)) (View.ld (iblk1 V c 3 t) (Rect.unit (s := S256x4096) ![0, 3072] ![256, 1024] inb_S256x4096_S256x1024_0_3072)) (View.ld (iblk1 V c 5 t) (Rect.unit (s := S4096x1024) ![3072, 0] ![1024, 1024] inb_S4096x1024_S1024x1024_3072_0))

theorem dh_pay : dhP V c t (ix2 a k) = DH V c (brow t a) k := by
  refine Eq.trans ?_ (MlpFun.four fun f => DA V c (brow t a) f * w1 V c f k).symm
  pointwise [k1_pay36, k1_pay31, k1_pay27, k1_pay28, k1_pay29, k1_pay30, k1_pay32, k1_pay33, k1_pay34, k1_pay35, blk_w1, dy_pay, blk_ra, blk_w2, MlpFun.dact, DA]

theorem dx_pay : k1_pay37 (F := Ideal) (k1_pay6 (View.ld (iblk1 V c 4 t) (Rect.unit (s := S12x1024) ![10, 0] ![1, 1024] inb_S12x1024_S1x1024_10_0))) (dzP V c t) (dyP V c t) (k1_pay31 (F := Ideal) (dyP V c t) k1_pay27 (k1_pay28 (F := Ideal) (k1_pay7 (View.ld (iblk1 V c 4 t) (Rect.unit (s := S12x1024) ![11, 0] ![1, 1024] inb_S12x1024_S1x1024_11_0))) (dzP V c t) (View.ld (iblk1 V c 6 t) (Rect.unit (s := S4096x1024) ![0, 0] ![1024, 1024] inb_S4096x1024_S1024x1024_0_0)))
    (View.ld (iblk1 V c 3 t) (Rect.unit (s := S256x4096) ![0, 0] ![256, 1024] inb_S256x4096_S256x1024_0_0)) (View.ld (iblk1 V c 5 t) (Rect.unit (s := S4096x1024) ![0, 0] ![1024, 1024] inb_S4096x1024_S1024x1024_0_0)) (View.ld (iblk1 V c 6 t) (Rect.unit (s := S4096x1024) ![1024, 0] ![1024, 1024] inb_S4096x1024_S1024x1024_1024_0)) (View.ld (iblk1 V c 3 t) (Rect.unit (s := S256x4096) ![0, 1024] ![256, 1024] inb_S256x4096_S256x1024_0_1024)) (View.ld (iblk1 V c 5 t) (Rect.unit (s := S4096x1024) ![1024, 0] ![1024, 1024] inb_S4096x1024_S1024x1024_1024_0)))
    (k1_pay32 (dyP V c t) (View.ld (iblk1 V c 6 t) (Rect.unit (s := S4096x1024) ![2048, 0] ![1024, 1024] inb_S4096x1024_S1024x1024_2048_0))) (k1_pay33 (View.ld (iblk1 V c 3 t) (Rect.unit (s := S256x4096) ![0, 2048] ![256, 1024] inb_S256x4096_S256x1024_0_2048))) (FloatOps.ofBits .f32 1073741824#32) (View.ld (iblk1 V c 5 t) (Rect.unit (s := S4096x1024) ![2048, 0] ![1024, 1024] inb_S4096x1024_S1024x1024_2048_0))
    (View.ld (iblk1 V c 6 t) (Rect.unit (s := S4096x1024) ![3072, 0] ![1024, 1024] inb_S4096x1024_S1024x1024_3072_0)) (View.ld (iblk1 V c 3 t) (Rect.unit (s := S256x4096) ![0, 3072] ![256, 1024] inb_S256x4096_S256x1024_0_3072)) (View.ld (iblk1 V c 5 t) (Rect.unit (s := S4096x1024) ![3072, 0] ![1024, 1024] inb_S4096x1024_S1024x1024_3072_0)) (ix2 a k) = DX V c (brow t a) k := by
  pointwise [k1_pay37, k1_pay6, dz_pay, blk_mods, DX, MlpFun.dx]
  exact Ideal.add_congr rfl (Ideal.mul_congr (dh_pay V c t a k) rfl)

theorem h_pay : k1_pay26 (F := Ideal) (k1_pay4 (iblk1 V c 1 t)) (k1_pay5 (View.ld (iblk1 V c 4 t) (Rect.unit (s := S12x1024) ![9, 0] ![1, 1024] inb_S12x1024_S1x1024_9_0))) (k1_pay6 (View.ld (iblk1 V c 4 t) (Rect.unit (s := S12x1024) ![10, 0] ![1, 1024] inb_S12x1024_S1x1024_10_0))) (ix2 a k)
    = H V c (brow t a) k := by
  pointwise [k1_pay26, k1_pay4, k1_pay5, k1_pay6, blk_x, blk_mods, H, MlpFun.h]

end Pay

theorem fin1_10 : (dat1 V c).arrAt 10 cfg1.N = fun j => DA V c (j 0) (j 1) := by
  refine (dat1 V c).arrAt_eq_of_covers 10 _ (by decide +kernel) fun t hf y => ?_
  blk_simp
  refine Eq.trans (b := DA V c (brow t (y 0)) (y 1)) ?_ (congrArg₂ (DA V c) (Fin.ext ?_) (Fin.ext ?_))
  · rw [after1_10]
    refine (congrArg _ (eq_ix2 _)).trans (?_ : ((outsAt1 V c t.val t.isLt).2.1 : S256x4096.Idx → EReal) (ix2 (y 0) (y 1)) = _)
    by_cases h : t.val % 32 = 0
    · rw [outsAt1_A _ c t h]
      frame_out
      exact da_pay V c t _ _
    · rw [outsAt1_B _ c t h]
      frame_out
      exact da_pay V c t _ _
  · blk_simp [idx1 t]
  · blk_simp [idx1 t]

theorem fin1_12 : (dat1 V c).arrAt 12 cfg1.N = fun j => DY V c (j 0) (j 1) := by
  refine (dat1 V c).arrAt_eq_of_covers 12 _ (by decide +kernel) fun t hf y => ?_
  blk_simp
  refine Eq.trans (b := DY V c (brow t (y 0)) (y 1)) ?_ (congrArg₂ (DY V c) (Fin.ext ?_) (Fin.ext ?_))
  · rw [after1_12]
    refine (congrArg _ (eq_ix2 _)).trans (?_ : ((outsAt1 V c t.val t.isLt).2.2.2.1 : S256x1024.Idx → EReal) (ix2 (y 0) (y 1)) = _)
    by_cases h : t.val % 32 = 0
    · rw [outsAt1_A _ c t h]
      frame_out
      exact dy_pay V c t _ _
    · rw [outsAt1_B _ c t h]
      frame_out
      exact dy_pay V c t _ _
  · blk_simp [idx1 t]
  · blk_simp [idx1 t]

theorem fin1_11 : (dat1 V c).arrAt 11 cfg1.N = fun j => H V c (j 0) (j 1) := by
  refine (dat1 V c).arrAt_eq_of_covers 11 _ (by decide +kernel) fun t hf y => ?_
  blk_simp
  refine Eq.trans (b := H V c (brow t (y 0)) (y 1)) ?_ (congrArg₂ (H V c) (Fin.ext ?_) (Fin.ext ?_))
  · rw [after1_11]
    refine (congrArg _ (eq_ix2 _)).trans (?_ : ((outsAt1 V c t.val t.isLt).2.2.1 : S256x1024.Idx → EReal) (ix2 (y 0) (y 1)) = _)
    by_cases h : t.val % 32 = 0
    · rw [outsAt1_A _ c t h]
      frame_out
      exact h_pay V c t _ _
    · rw [outsAt1_B _ c t h]
      frame_out
      exact h_pay V c t _ _
  · blk_simp [idx1 t]
  · blk_simp [idx1 t]

theorem fin1_9 : (dat1 V c).arrAt 9 cfg1.N = fun j => DX V c (j 0) (j 1) := by
  refine (dat1 V c).arrAt_eq_of_covers 9 _ (by decide +kernel) fun t hf y => ?_
  blk_simp
  refine Eq.trans (b := DX V c (brow t (y 0)) (y 1)) ?_ (congrArg₂ (DX V c) (Fin.ext ?_) (Fin.ext ?_))
  · rw [after1_9]
    refine (congrArg _ (eq_ix2 _)).trans (?_ : ((outsAt1 V c t.val t.isLt).1 : S256x1024.Idx → EReal) (ix2 (y 0) (y 1)) = _)
    by_cases h : t.val % 32 = 0
    · rw [outsAt1_A _ c t h]
      frame_out
      exact dx_pay V c t _ _
    · rw [outsAt1_B _ c t h]
      frame_out
      exact dx_pay V c t _ _
  · blk_simp [idx1 t]
  · blk_simp [idx1 t]

end Cert.HeadIdeal.Val
end
-- ==== Proof.HeadVal3.lean ====
module

public import proofs.«01_k».proof.Proof.HeadVal2

@[expose] public section

set_option maxRecDepth 16384

noncomputable section
namespace Cert.HeadIdeal.Val
open Idealize.ShloMosaic Idealize.ShloMosaic.TcCoe Idealize.SL.Sem
open Cert.HeadIdeal Cert.HeadIdeal.Gen Cert.LN Cert.Rows

variable (V : (c : Dev nD) → (b : Ref sig .tc) → Buf (Elt Ideal) ((c : Thread nD τ).loc b)) (c : Dev nD)

/-- What the rows of block `t` add to the row sums. -/
def S13 (t : ℕ) (h : t < cfg1.N) (j : S8x1024.Idx) : EReal :=
  if (j 0).val = 1 then ∑ x, DH V c (brow ⟨t, h⟩ x) (j 1) * xr V c (brow ⟨t, h⟩ x) (j 1)
  else if (j 0).val = 0 then ∑ x, DH V c (brow ⟨t, h⟩ x) (j 1)
  else if (j 0).val = 4 then ∑ x, CT V c (brow ⟨t, h⟩ x) (j 1)
  else if (j 0).val = 3 then ∑ x, CT V c (brow ⟨t, h⟩ x) (j 1) * XH V c (brow ⟨t, h⟩ x) (j 1)
  else if (j 0).val = 2 then ∑ x, DZ V c (brow ⟨t, h⟩ x) (j 1) * yr V c (brow ⟨t, h⟩ x) (j 1)
  else if (j 0).val = 5 then ∑ x, ER V c (brow ⟨t, h⟩ x) (j 1) * ER V c (brow ⟨t, h⟩ x) (j 1)
  else 0

theorem reset13 (t : Fin cfg1.N) (h : t.val % 32 = 0) (j : S8x1024.Idx) : (outsAt1 V c t.val t.isLt).2.2.2.2 j = 0 + S13 V c t.val t.isLt j := by
  rw [outsAt1_A V c t h]
  frame_out
  simp only [canon_row, S13]
  split_ifs
  · pointwise [k1_pay2, k1_pay4, rowIx, blk_x, dh_pay, readCov_row, canon_row, canon_whole, k1_pay3]
    all_goals exact Finset.sum_congr rfl fun x _ => Ideal.mul_congr (dh_pay V c t x (j 1)) rfl
  · pointwise [k1_pay1, k1_pay38, rowIx, dh_pay, readCov_row, canon_row, canon_whole, k1_pay3]
    all_goals exact Finset.sum_congr rfl fun x _ => dh_pay V c t x (j 1)
  · pointwise [k1_pay24, rowIx, ct_pay, readCov_row, canon_row, canon_whole, k1_pay3]
    all_goals exact Finset.sum_congr rfl fun x _ => ct_pay V c t x (j 1)
  · pointwise [k1_pay23, rowIx, xh_pay, ct_pay, readCov_row, canon_row, canon_whole, k1_pay3]
    all_goals exact Finset.sum_congr rfl fun x _ => Ideal.mul_congr (ct_pay V c t x (j 1)) (xh_pay V c t x (j 1))
  · pointwise [k1_pay22, k1_pay20, k1_pay21, k1_pay8, rowIx, dz_pay, blk_y, readCov_row, canon_row, canon_whole, k1_pay3]
    all_goals exact Finset.sum_congr rfl fun x _ => Ideal.mul_congr (dz_pay V c t x (j 1)) rfl
  · pointwise [k1_pay18, rowIx, er_pay, readCov_row, canon_row, canon_whole, k1_pay3]
    all_goals exact Finset.sum_congr rfl fun x _ => Ideal.mul_congr (er_pay V c t x (j 1)) (er_pay V c t x (j 1))
  · pointwise [k1_pay3, canon_whole]

theorem step13 (t : Fin cfg1.N) (h : ¬ t.val % 32 = 0) (j : S8x1024.Idx) : (outsAt1 V c t.val t.isLt).2.2.2.2 j
    = (outsAt1 V c (t.val - 1) (Nat.lt_of_le_of_lt (Nat.sub_le _ _) t.isLt)).2.2.2.2 j + S13 V c t.val t.isLt j := by
  rw [outsAt1_B V c t h]
  frame_out
  simp only [read_writes_row, S13]
  split_ifs with h1 h0 h4 h3 h2 h5
  · pointwise [k1_pay2, k1_pay4, rowIx, blk_x, dh_pay, ix2_row j 1 h1]
    all_goals exact Ideal.add_congr rfl (Finset.sum_congr rfl fun x _ => Ideal.mul_congr (dh_pay V c t x (j 1)) rfl)
  · pointwise [k1_pay1, k1_pay38, rowIx, dh_pay, ix2_row j 0 h0]
    all_goals exact Ideal.add_congr rfl (Finset.sum_congr rfl fun x _ => dh_pay V c t x (j 1))
  · pointwise [k1_pay24, rowIx, ct_pay, ix2_row j 4 h4]
    all_goals exact Ideal.add_congr rfl (Finset.sum_congr rfl fun x _ => ct_pay V c t x (j 1))
  · pointwise [k1_pay23, rowIx, xh_pay, ct_pay, ix2_row j 3 h3]
    all_goals exact Ideal.add_congr rfl (Finset.sum_congr rfl fun x _ => Ideal.mul_congr (ct_pay V c t x (j 1)) (xh_pay V c t x (j 1)))
  · pointwise [k1_pay22, k1_pay20, k1_pay21, k1_pay8, rowIx, dz_pay, blk_y, ix2_row j 2 h2]
    all_goals exact Ideal.add_congr rfl (Finset.sum_congr rfl fun x _ => Ideal.mul_congr (dz_pay V c t x (j 1)) rfl)
  · pointwise [k1_pay18, rowIx, er_pay, ix2_row j 5 h5]
    all_goals exact Ideal.add_congr rfl (Finset.sum_congr rfl fun x _ => Ideal.mul_congr (er_pay V c t x (j 1)) (er_pay V c t x (j 1)))
  · rw [add_zero]
    exact congrFun (Memref.IsWhole.read_unread ..) j

/-- The last block of rows. -/
def t1_31 : Fin cfg1.N := ⟨31, by decide⟩

theorem fin1_13 : (dat1 V c).arrAt 13 cfg1.N = fun j => ∑ t : Fin cfg1.N, S13 V c t.val t.isLt j := by
  refine (dat1 V c).arrAt_eq_of_after_last 13 t1_31 (by decide +kernel) _ fun j => ?_
  blk_simp
  rw [after1_13, Pipeline.eq_sum_fin_of_reset_step_apply_last (fun n h => (outsAt1 V c n h).2.2.2.2) 32 (fun _ => 0)
    (fun t j => S13 V c t.val t.isLt j) (reset13 V c) (step13 V c) (le_of_eq N_1) t1_31 rfl j, zero_add]

end Cert.HeadIdeal.Val
end
-- ==== Proof.HeadArgs.lean ====
module

public import proofs.«01_k».proof.Proof.HeadVal3
public import Idealize.ShloMosaic.Lib.StableHlo.ReadAt
public import proofs.«01_k».proof.Proof.MlpAll
public import proofs.«01_k».proof.Proof.HeadRun

@[expose] public section

set_option maxRecDepth 16384

noncomputable section
namespace Cert.HeadIdeal.Val
open Idealize.ShloMosaic Idealize.ShloMosaic.TcCoe Idealize.SL.Sem
open Cert.HeadIdeal Cert.HeadIdeal.Gen

variable (m : (ℓ : Loc nD τ sig) → Buf (Elt Ideal) ℓ) (ρ : Dev nD → PrngReg) (c : Dev nD)

abbrev A0 : S1x8192x1024.Idx → EReal := m ((c.tc : Thread nD τ).loc main_arg0)
abbrev A1 : S1x8192x1024.Idx → EReal := m ((c.tc : Thread nD τ).loc main_arg1)
abbrev A2 : S1x3072.Idx → EReal := m ((c.tc : Thread nD τ).loc main_arg2)
abbrev A3 : S1024x4096.Idx → EReal := m ((c.tc : Thread nD τ).loc main_arg3)
abbrev A4 : S4096x1024.Idx → EReal := m ((c.tc : Thread nD τ).loc main_arg4)
abbrev A5 : S1024.Idx → EReal := m ((c.tc : Thread nD τ).loc main_arg5)
abbrev A6 : S1024.Idx → EReal := m ((c.tc : Thread nD τ).loc main_arg6)

/-- The cotangent of the sublayer: the loss's gradient at its output. -/
abbrev CTA : S1x8192x1024.Idx → EReal := HeadArr.cta (A0 m c) (A1 m c) (A2 m c) (A3 m c) (A4 m c) (A5 m c) (A6 m c)

theorem x3 : xr (V3 m ρ) c = MlpArr.rows (A1 m c) := by
  funext r k
  show W3 m ρ c (Proc.devRef .tc main_v7) _ = _
  unfold W3
  after_reads_at

theorem up3 : w1 (V3 m ρ) c = MlpArr.up (A3 m c) := by
  funext f k
  show W3 m ρ c (Proc.devRef .tc main_v3) _ = _
  unfold W3
  after_reads_at

theorem dn3 : w2 (V3 m ρ) c = MlpArr.dn (A4 m c) := by
  funext f k
  show W3 m ρ c (Proc.devRef .tc main_v4) _ = _
  unfold W3
  after_reads_at

theorem g3 : lng (V3 m ρ) c = MlpArr.vec (A5 m c) := by
  funext k
  show W3 m ρ c (Proc.devRef .tc main_v5) _ = _
  unfold W3
  after_reads_at

theorem b3 : lnb' (V3 m ρ) c = MlpArr.vec (A6 m c) := by
  funext k
  show W3 m ρ c (Proc.devRef .tc main_v6) _ = _
  unfold W3
  after_reads_at

theorem sh3 : sh (V3 m ρ) c = MlpArr.sh (A2 m c) := by
  funext k
  show W3 m ρ c _ _ = _
  rw [W3_of _ _ _ _ (by decide)]
  unfold Gen.W2 Gen.W1
  after_reads_at

theorem sc3 : sc (V3 m ρ) c = MlpArr.sc (A2 m c) := by
  funext k
  show W3 m ρ c _ _ = _
  rw [W3_of _ _ _ _ (by decide)]
  unfold Gen.W2 Gen.W1
  after_reads_at

theorem gt3 : gt (V3 m ρ) c = MlpArr.gt (A2 m c) := by
  funext k
  show W3 m ρ c _ _ = _
  rw [W3_of _ _ _ _ (by decide)]
  unfold Gen.W2 Gen.W1
  after_reads_at

/-- A buffer that the first region and the line after it leave as it was. -/
theorem V5_eq (b : Ref sig .tc) (h : b ∉ hostOps1_W) (h' : ∀ w : Fin cfg0.W, Pipeline.arrRef spec0 w = b → (cfg0.win w).isOut = false) :
    V5 m ρ c b = V3 m ρ c b :=
  (W5_of m ρ c b h).trans (W4_of m ρ c b h')

theorem tg5 : tgr (V5 m ρ) c = MlpArr.rows (A0 m c) := by
  funext r k
  show W5 m ρ c (Proc.devRef .tc main_v9) _ = _
  unfold W5
  after_reads_at
  exact congrFun (W4_args m ρ c main_arg0 (by decide)) _

theorem x5 : xr (V5 m ρ) c = MlpArr.rows (A1 m c) := by
  funext r k
  exact (congrFun (V5_eq m ρ c main_v7 (by decide) (by decide)) _).trans (congrFun (congrFun (x3 m ρ c) r) k)
theorem up5 : w1 (V5 m ρ) c = MlpArr.up (A3 m c) := by
  funext r k
  exact (congrFun (V5_eq m ρ c main_v3 (by decide) (by decide)) _).trans (congrFun (congrFun (up3 m ρ c) r) k)
theorem dn5 : w2 (V5 m ρ) c = MlpArr.dn (A4 m c) := by
  funext r k
  exact (congrFun (V5_eq m ρ c main_v4 (by decide) (by decide)) _).trans (congrFun (congrFun (dn3 m ρ c) r) k)
theorem g5 : lng (V5 m ρ) c = MlpArr.vec (A5 m c) := by
  funext k
  exact (congrFun (V5_eq m ρ c main_v5 (by decide) (by decide)) _).trans (congrFun (g3 m ρ c) k)
theorem b5 : lnb' (V5 m ρ) c = MlpArr.vec (A6 m c) := by
  funext k
  exact (congrFun (V5_eq m ρ c main_v6 (by decide) (by decide)) _).trans (congrFun (b3 m ρ c) k)
theorem sh5 : sh (V5 m ρ) c = MlpArr.sh (A2 m c) := by
  funext k
  exact (congrFun (V5_eq m ρ c main_v1 (by decide) (by decide)) _).trans (congrFun (sh3 m ρ c) k)
theorem sc5 : sc (V5 m ρ) c = MlpArr.sc (A2 m c) := by
  funext k
  exact (congrFun (V5_eq m ρ c main_v1 (by decide) (by decide)) _).trans (congrFun (sc3 m ρ c) k)
theorem gt5 : gt (V5 m ρ) c = MlpArr.gt (A2 m c) := by
  funext k
  exact (congrFun (V5_eq m ρ c main_v1 (by decide) (by decide)) _).trans (congrFun (gt3 m ρ c) k)

theorem ra3 : RA (V3 m ρ) c = MlpArr.ra (A1 m c) (A2 m c) (A3 m c) := by
  funext r f
  unfold RA
  rw [x3, sh3, sc3, up3]
  rfl
theorem y3 : Y0 (V3 m ρ) c = MlpArr.y (A1 m c) (A2 m c) (A3 m c) (A4 m c) := by
  funext r k
  unfold Y0
  rw [ra3, dn3]
  rfl
theorem ra5 : rar (V5 m ρ) c = MlpArr.ra (A1 m c) (A2 m c) (A3 m c) := by
  funext r f
  exact (congrFun (((W5_of m ρ c main_v8_1 (by decide)).trans (W4_arr m ρ c 7)).trans (fin0_7 (V3 m ρ) c)) (ix2 r f)).trans
    (congrFun (congrFun (ra3 m ρ c) r) f)
theorem y5 : yr (V5 m ρ) c = MlpArr.y (A1 m c) (A2 m c) (A3 m c) (A4 m c) := by
  funext r k
  exact (congrFun (((W5_of m ρ c main_v8_0 (by decide)).trans (W4_arr m ρ c 6)).trans (fin0_6 (V3 m ρ) c)) (ix2 r k)).trans
    (congrFun (congrFun (y3 m ρ c) r) k)
theorem xh5 (r k) : XH (V5 m ρ) c r k = LN.xhat (MlpArr.z (A1 m c) (A2 m c) (A3 m c) (A4 m c) r) k := by
  unfold XH
  rw [x5, gt5, y5]
  rfl
theorem er5 : ER (V5 m ρ) c = HeadArr.er (A0 m c) (A1 m c) (A2 m c) (A3 m c) (A4 m c) (A5 m c) (A6 m c) := by
  funext r k
  unfold ER
  rw [x5, gt5, y5, g5, b5, tg5]
  rfl
theorem ct5 : CT (V5 m ρ) c = MlpArr.rows (CTA m c) := by
  funext r k
  unfold CT
  rw [er5]
  rfl
theorem dz5 : DZ (V5 m ρ) c = MlpArr.dz (CTA m c) (A1 m c) (A2 m c) (A3 m c) (A4 m c) (A5 m c) := by
  funext r k
  unfold DZ
  rw [x5, gt5, y5, g5, ct5]
  rfl
theorem dy5 : DY (V5 m ρ) c = MlpArr.dy (CTA m c) (A1 m c) (A2 m c) (A3 m c) (A4 m c) (A5 m c) := by
  funext r k
  unfold DY
  rw [dz5, gt5]
  rfl
theorem da5 : DA (V5 m ρ) c = MlpArr.da (CTA m c) (A1 m c) (A2 m c) (A3 m c) (A4 m c) (A5 m c) := by
  funext r f
  unfold DA
  rw [dy5, dn5, ra5]
  rfl
theorem dh5 : DH (V5 m ρ) c = MlpArr.dh (CTA m c) (A1 m c) (A2 m c) (A3 m c) (A4 m c) (A5 m c) := by
  funext r k
  unfold DH
  rw [da5, up5]
  rfl
theorem dx5 : DX (V5 m ρ) c = MlpArr.dx (CTA m c) (A1 m c) (A2 m c) (A3 m c) (A4 m c) (A5 m c) := by
  funext r k
  unfold DX
  rw [dz5, dh5, sc5]
  rfl
theorem h5 : H (V5 m ρ) c = MlpArr.h (A1 m c) (A2 m c) := by
  funext r k
  unfold H
  rw [x5, sh5, sc5]
  rfl

/-- The rows of the blocks are the rows of the array. -/
theorem sum_rows (f : Fin 8192 → EReal) (g : (t : Fin cfg1.N) → Fin 256 → EReal) (hg : ∀ t a, g t a = f (brow t a)) :
    ∑ t, ∑ a, g t a = ∑ r, f r :=
  (Finset.sum_congr rfl fun t _ => Finset.sum_congr rfl fun a _ => hg t a).trans (Fin.sum_univ_tiles 32 256 rfl f).symm

theorem sums5 (a : Fin 8) (k : Fin 1024) : ∑ t : Fin cfg1.N, S13 (V5 m ρ) c t.val t.isLt (ix2 a k)
    = HeadArr.sums (A0 m c) (A1 m c) (A2 m c) (A3 m c) (A4 m c) (A5 m c) (A6 m c) k a.val := by
  unfold S13 HeadArr.sums MlpArr.sums MlpAll.sums
  by_cases h1 : a.val = 1
  · rw [if_neg (by omega), if_pos h1]
    exact (Finset.sum_congr rfl fun t _ => if_pos h1).trans (sum_rows _ _ fun t x => by rw [dh5, x5]; rfl)
  by_cases h0 : a.val = 0
  · rw [if_neg (by omega), if_neg h1, if_pos h0]
    exact (Finset.sum_congr rfl fun t _ => (if_neg h1).trans (if_pos h0)).trans (sum_rows _ _ fun t x => by rw [dh5]; rfl)
  by_cases h4 : a.val = 4
  · rw [if_neg (by omega), if_neg h1, if_neg h0, if_pos h4]
    exact (Finset.sum_congr rfl fun t _ => (if_neg h1).trans ((if_neg h0).trans (if_pos h4))).trans (sum_rows _ _ fun t x => by rw [ct5]; rfl)
  by_cases h3 : a.val = 3
  · rw [if_neg (by omega), if_neg h1, if_neg h0, if_neg h4, if_pos h3]
    exact (Finset.sum_congr rfl fun t _ => (if_neg h1).trans ((if_neg h0).trans ((if_neg h4).trans (if_pos h3)))).trans (sum_rows _ _ fun t x => Ideal.mul_congr (by rw [ct5]; rfl) (xh5 m ρ c _ _))
  by_cases h2 : a.val = 2
  · rw [if_neg (by omega), if_neg h1, if_neg h0, if_neg h4, if_neg h3, if_pos h2]
    exact (Finset.sum_congr rfl fun t _ => (if_neg h1).trans ((if_neg h0).trans ((if_neg h4).trans ((if_neg h3).trans (if_pos h2))))).trans (sum_rows _ _ fun t x => by rw [dz5, y5]; rfl)
  by_cases h5 : a.val = 5
  · rw [if_pos h5]
    exact (Finset.sum_congr rfl fun t _ => (if_neg h1).trans ((if_neg h0).trans ((if_neg h4).trans ((if_neg h3).trans ((if_neg h2).trans (if_pos h5)))))).trans (sum_rows _ _ fun t x => by rw [er5]; rfl)
  rw [if_neg h5, if_neg h1, if_neg h0, if_neg h4, if_neg h3, if_neg h2]
  exact (Finset.sum_congr rfl fun t _ => (if_neg h1).trans ((if_neg h0).trans ((if_neg h4).trans ((if_neg h3).trans ((if_neg h2).trans (if_neg h5)))))).trans Finset.sum_const_zero

theorem out_r : W6 m ρ c (Proc.devRef .tc main_v8_2) = fun j => MlpArr.ra (A1 m c) (A2 m c) (A3 m c) (j 0) (j 1) * MlpArr.ra (A1 m c) (A2 m c) (A3 m c) (j 0) (j 1) := by
  rw [W6_of m ρ c main_v8_2 (by decide), W5_of m ρ c main_v8_2 (by decide)]
  exact ((W4_arr m ρ c 8).trans (fin0_8 (V3 m ρ) c)).trans (funext fun j => Ideal.mul_congr (congrFun (congrFun (ra3 m ρ c) _) _) (congrFun (congrFun (ra3 m ρ c) _) _))
theorem out_dx : W6 m ρ c (Proc.devRef .tc main_v10_0) = fun j => MlpArr.dx (CTA m c) (A1 m c) (A2 m c) (A3 m c) (A4 m c) (A5 m c) (j 0) (j 1) :=
  ((W6_arr m ρ c 9).trans (fin1_9 (V5 m ρ) c)).trans (funext fun j => congrFun (congrFun (dx5 m ρ c) _) _)
theorem out_da : W6 m ρ c (Proc.devRef .tc main_v10_1) = fun j => MlpArr.da (CTA m c) (A1 m c) (A2 m c) (A3 m c) (A4 m c) (A5 m c) (j 0) (j 1) :=
  ((W6_arr m ρ c 10).trans (fin1_10 (V5 m ρ) c)).trans (funext fun j => congrFun (congrFun (da5 m ρ c) _) _)
theorem out_h : W6 m ρ c (Proc.devRef .tc main_v10_2) = fun j => MlpArr.h (A1 m c) (A2 m c) (j 0) (j 1) :=
  ((W6_arr m ρ c 11).trans (fin1_11 (V5 m ρ) c)).trans (funext fun j => congrFun (congrFun (h5 m ρ c) _) _)
theorem out_dy : W6 m ρ c (Proc.devRef .tc main_v10_3) = fun j => MlpArr.dy (CTA m c) (A1 m c) (A2 m c) (A3 m c) (A4 m c) (A5 m c) (j 0) (j 1) :=
  ((W6_arr m ρ c 12).trans (fin1_12 (V5 m ρ) c)).trans (funext fun j => congrFun (congrFun (dy5 m ρ c) _) _)
theorem out_sums : W6 m ρ c (Proc.devRef .tc main_v10_4) = fun j => HeadArr.sums (A0 m c) (A1 m c) (A2 m c) (A3 m c) (A4 m c) (A5 m c) (A6 m c) (j 1) (j 0).val :=
  ((W6_arr m ρ c 13).trans (fin1_13 (V5 m ρ) c)).trans (funext fun j => sums5 m ρ c (j 0) (j 1))

end Cert.HeadIdeal.Val
end
-- ==== Proof.HeadRef.lean ====
module

public import proofs.«01_k».proof.Proof.Gen.HeadRefIdeal.Read
public import proofs.«01_k».proof.Proof.Unit
public import proofs.«01_k».proof.Proof.Reals
public import proofs.«01_k».proof.Proof.HeadFun

@[expose] public section

set_option maxRecDepth 16384

noncomputable section

/-! The reference of the last feed-forward sublayer and the loss, read at coordinates. -/

namespace Cert.HeadRefIdeal.Val

open Idealize.ShloMosaic Idealize.ShloMosaic.TcCoe Idealize.SL.Sem Idealize.ShloMosaic.StableHlo
open Cert.HeadRefIdeal Cert.HeadRefIdeal.Gen Cert.HeadRefIdeal.Read

variable (x0 x1 : S1x8192x1024.Idx → EReal) (x2 : S1x3072.Idx → EReal) (x3 : S1024x4096.Idx → EReal) (x4 : S4096x1024.Idx → EReal)
  (x5 x6 : S1024.Idx → EReal) (i : S1x8192x1024.Idx) (e : S1x8192x4096.Idx) (j : S1x8192x1.Idx)

theorem eta : (ix3 0 (i 1) (i 2) : S1x8192x1024.Idx) = i := by
  refine funext fun a => ?_
  match a with
  | ⟨0, _⟩ => exact Subsingleton.elim (α := Fin 1) _ _
  | ⟨1, _⟩ => rfl
  | ⟨2, _⟩ => rfl

theorem rows_ (x : S1x8192x1024.Idx → EReal) : MlpArr.rows x (i 1) (i 2) = x i := congrArg x (eta i)

theorem h_ : (val_main_v11 (F := Ideal) x1 x2 : S1x8192x1024.Idx → EReal) i = MlpArr.h x1 x2 (i 1) (i 2) := by
  pointwise [val_main_v11, val_main_v10, val_main_v9, val_main_v8, val_main_v7, val_main_v6, val_main_v4, val_main_v3, val_main_v1, val_main_v0, val_main_cst, MlpAll.h, MlpFun.h]
  exact congrArg (· * _ + _) (rows_ i x1).symm
theorem pre_ : (val_main_v12 (F := Ideal) x1 x2 x3 : S1x8192x4096.Idx → EReal) e = ∑ k, MlpArr.h x1 x2 (e 1) k * x3 (ix2 k (e 2)) := by
  pointwise [val_main_v12, h_]
theorem ra_ : (val_main_v13 (F := Ideal) x1 x2 x3 : S1x8192x4096.Idx → EReal) e = MlpArr.ra x1 x2 x3 (e 1) (e 2) := by
  pointwise [val_main_v13, val_main_call0_v0, val_main_call0_cst, pre_, MlpAll.ra, MlpFun.act, MlpAll.h]
theorem r_ : (val_main_v17 (F := Ideal) x1 x2 x3 : S1x8192x4096.Idx → EReal) e = MlpArr.ra x1 x2 x3 (e 1) (e 2) * MlpArr.ra x1 x2 x3 (e 1) (e 2) := by
  pointwise [val_main_v17, ra_]
theorem y_ : (val_main_v20 (F := Ideal) x1 x2 x3 x4 : S1x8192x1024.Idx → EReal) i = MlpArr.y x1 x2 x3 x4 (i 1) (i 2) := by
  pointwise [val_main_v20, r_, MlpAll.y, MlpFun.down]
theorem z_ : (val_main_v27 (F := Ideal) x1 x2 x3 x4 : S1x8192x1024.Idx → EReal) i = MlpArr.z x1 x2 x3 x4 (i 1) (i 2) := by
  pointwise [val_main_v27, val_main_v26, val_main_v25, val_main_v24, val_main_v23, val_main_v22, val_main_v21, val_main_v5, val_main_v2, val_main_cst_3, val_main_cst_4, y_, MlpAll.z, MlpFun.mix]
  exact congrArg (Ideal.ofBits .f32 1068827891#32 * · + _) (rows_ i x1).symm
theorem mean_ : (val_main_v31 (F := Ideal) x1 x2 x3 x4 : S1x8192x1.Idx → EReal) j = LN.mean (MlpArr.z x1 x2 x3 x4 (j 1)) := by
  pointwise [val_main_v31, val_main_v30, val_main_v29, val_main_v28, val_main_cst_5, val_main_cst_6, z_, LN.mean]
theorem cen_ : (val_main_v33 (F := Ideal) x1 x2 x3 x4 : S1x8192x1024.Idx → EReal) i = LN.cen (MlpArr.z x1 x2 x3 x4 (i 1)) (i 2) := by
  pointwise [val_main_v33, val_main_v32, z_, mean_, LN.cen]
theorem cen2_ : (val_main_v42 (F := Ideal) x1 x2 x3 x4 : S1x8192x1024.Idx → EReal) i = LN.cen (MlpArr.z x1 x2 x3 x4 (i 1)) (i 2) := by
  pointwise [val_main_v42, val_main_v41, z_, mean_, LN.cen]
theorem ve_ : (val_main_v44 (F := Ideal) x1 x2 x3 x4 : S1x8192x1.Idx → EReal) j = Ideal.div (∑ x, LN.cen (MlpArr.z x1 x2 x3 x4 (j 1)) x * LN.cen (MlpArr.z x1 x2 x3 x4 (j 1)) x) LN.c1024 + LN.eps := by
  pointwise [val_main_v44, val_main_v43, val_main_v40, val_main_v39, val_main_v38, val_main_v37, val_main_v34, val_main_cst_8, val_main_cst_9, val_main_cst_10, cen_]
theorem rstd_ : (val_main_v45 (F := Ideal) x1 x2 x3 x4 : S1x8192x1.Idx → EReal) j = LN.rstd (MlpArr.z x1 x2 x3 x4 (j 1)) := by
  pointwise [val_main_v45, ve_, LN.rstd]
theorem xhat_ : (val_main_v50 (F := Ideal) x1 x2 x3 x4 : S1x8192x1024.Idx → EReal) i = LN.xhat (MlpArr.z x1 x2 x3 x4 (i 1)) (i 2) := by
  pointwise [val_main_v50, val_main_v49, cen2_, rstd_, LN.xhat]
theorem x1_ : (val_main_v56 (F := Ideal) x1 x2 x3 x4 x5 x6 : S1x8192x1024.Idx → EReal) i = MlpArr.x1 x1 x2 x3 x4 x5 x6 (i 1) (i 2) := by
  pointwise [val_main_v56, val_main_v55, val_main_v54, val_main_v53, val_main_v52, val_main_v51, xhat_, MlpAll.x1, MlpFun.x1]
theorem er_ : (val_main_v59 (F := Ideal) x0 x1 x2 x3 x4 x5 x6 : S1x8192x1024.Idx → EReal) i = HeadArr.er x0 x1 x2 x3 x4 x5 x6 (i 1) (i 2) := by
  pointwise [val_main_v59, x1_, HeadArr.er, HeadFun.err]
  exact congrArg (_ - ·) (rows_ i x0).symm
theorem er2_ : (val_main_v141 (F := Ideal) x0 x1 x2 x3 x4 x5 x6 : S1x8192x1024.Idx → EReal) i = HeadArr.er x0 x1 x2 x3 x4 x5 x6 (i 1) (i 2) := by
  pointwise [val_main_v141, x1_, HeadArr.er, HeadFun.err]
  exact congrArg (_ - ·) (rows_ i x0).symm

/-- The factors of the loss's gradient: a half, over the width, and two from the square. -/
theorem factors (y : EReal) : Ideal.div (Ideal.ofBits .f32 0x3F000000#32) (Ideal.ofBits .f32 0x44800000#32) * (Ideal.ofBits .f32 0x40000000#32 * y) = y * HeadFun.inv := by
  have h2 : Ideal.ofBits .f32 0x40000000#32 = ((2 : ℝ) : EReal) := by simp [Ideal.ofBits, Ideal.ieee, -EReal.coe_mul]; norm_num
  have hh : Ideal.ofBits .f32 0x3F000000#32 = ((1 / 2 : ℝ) : EReal) := by simp [Ideal.ofBits, Ideal.ieee, -EReal.coe_mul]; norm_num
  have hn : Ideal.ofBits .f32 0x44800000#32 = ((1024 : ℝ) : EReal) := by simp [Ideal.ofBits, Ideal.ieee, -EReal.coe_mul]; norm_num
  have hi : HeadFun.inv = ((1 / 1024 : ℝ) : EReal) := by simp [HeadFun.inv, Ideal.ofBits, Ideal.ieee, -EReal.coe_mul]; norm_num
  rw [h2, hh, hn, hi, Ideal.div_coe (by norm_num), ← mul_assoc, ← EReal.coe_mul, ← EReal.coe_mul, mul_comm]
  norm_num

theorem ct_ : (val_main_v73 (F := Ideal) x0 x1 x2 x3 x4 x5 x6 : S1x8192x1024.Idx → EReal) i = HeadArr.cta x0 x1 x2 x3 x4 x5 x6 i := by
  pointwise [val_main_v73, val_main_v72, val_main_v71, val_main_v70, val_main_v69, val_main_v68, val_main_v62, val_main_v61, val_main_cst_12, val_main_cst_17,
    val_main_cst_18, val_main_cst_19, er_]
  exact factors _

theorem d_ : (val_main_v81 (F := Ideal) x0 x1 x2 x3 x4 x5 x6 : S1x8192x1024.Idx → EReal) i = MlpArr.d (HeadArr.cta x0 x1 x2 x3 x4 x5 x6) x5 (i 1) (i 2) := by
  pointwise [val_main_v81, val_main_v80, val_main_v51, ct_, MlpFun.d]
  exact congrArg (· * _) (rows_ i (HeadArr.cta x0 x1 x2 x3 x4 x5 x6)).symm
theorem db_ (j : S1024.Idx) : (val_main_v76 (F := Ideal) x0 x1 x2 x3 x4 x5 x6 : S1024.Idx → EReal) j = ∑ r : Fin 8192, (HeadArr.cta x0 x1 x2 x3 x4 x5 x6) (ix3 0 r (j 0)) := by
  pointwise [val_main_v76, ct_, val_main_v75, val_main_v74, val_main_cst_20, val_main_cst_21, UnitAxes.red01]
theorem dg_ (j : S1024.Idx) : (val_main_v82 (F := Ideal) x0 x1 x2 x3 x4 x5 x6 : S1024.Idx → EReal) j = ∑ r : Fin 8192, (HeadArr.cta x0 x1 x2 x3 x4 x5 x6) (ix3 0 r (j 0)) * LN.xhat (MlpArr.z x1 x2 x3 x4 r) (j 0) := by
  pointwise [val_main_v82, val_main_v79, val_main_v78, val_main_v77, ct_, val_main_cst_22, val_main_cst_23, UnitAxes.red01, xhat_, mul_comm]
theorem dvar_ : (val_main_v96 (F := Ideal) x0 x1 x2 x3 x4 x5 x6 : S1x8192x1024.Idx → EReal) i = LN.dvar (MlpArr.z x1 x2 x3 x4 (i 1)) (MlpArr.d (HeadArr.cta x0 x1 x2 x3 x4 x5 x6) x5 (i 1)) := by
  pointwise [val_main_v96, val_main_v95, val_main_v94, val_main_v93, val_main_v92, val_main_v88, val_main_v85, val_main_v84, val_main_v83, val_main_v48, val_main_v47, val_main_v46, val_main_cst_11, val_main_cst_24, val_main_cst_26, val_main_cst_27, rstd_, ve_, d_, cen2_, UnitAxes.red02, LN.dvar]
theorem chain_ : (val_main_v108 (F := Ideal) x0 x1 x2 x3 x4 x5 x6 : S1x8192x1024.Idx → EReal) i = LN.chain (MlpArr.z x1 x2 x3 x4 (i 1)) (MlpArr.d (HeadArr.cta x0 x1 x2 x3 x4 x5 x6) x5 (i 1)) (i 2) := by
  pointwise [val_main_v108, val_main_v107, val_main_v106, val_main_v105, val_main_v104, val_main_v103, val_main_v102, val_main_v101, val_main_v100, val_main_v99, val_main_v98, val_main_v97, val_main_v91, val_main_v90, val_main_v89, val_main_v87, val_main_v86, val_main_v36, val_main_v35, val_main_cst_7, val_main_cst_25, val_main_cst_28, val_main_cst_29, val_main_cst_30, dvar_, cen_, d_, rstd_, UnitAxes.red02, LN.chain]

/-- The arrays whose entries the gradient reads are real. -/
structure Reals : Prop where
  h0 : ∀ i, IsReal (x0 i)
  h1 : ∀ i, IsReal (x1 i)
  h2 : ∀ i, IsReal (x2 i)
  h3 : ∀ i, IsReal (x3 i)
  h4 : ∀ i, IsReal (x4 i)
  h5 : ∀ i, IsReal (x5 i)
  h6 : ∀ i, IsReal (x6 i)

variable {x0 x1 x2 x3 x4 x5 x6} (h : Reals x0 x1 x2 x3 x4 x5 x6)

/-- The positive part of a real is real. -/
theorem relu {y : EReal} : IsReal y → IsReal (max y 0) := fun ⟨a, e⟩ => by
  rcases max_choice y 0 with h | h <;> rw [h]
  · exact ⟨a, e⟩
  · exact IsReal.zero

section
include h
theorem hpre (r : Fin 8192) (f : Fin 4096) : IsReal (∑ k, MlpArr.h x1 x2 r k * x3 (ix2 k f)) :=
  IsReal.sum fun k => (((h.h1 _).mul (IsReal.one.add (h.h2 _))).add (h.h2 _)).mul (h.h3 _)
theorem hra (r : Fin 8192) (f : Fin 4096) : IsReal (MlpArr.ra x1 x2 x3 r f) := relu (hpre h r f)
theorem hz (r : Fin 8192) (k : Fin 1024) : IsReal (MlpArr.z x1 x2 x3 x4 r k) := by
  have ha : IsReal MlpFun.alpha := ⟨_, by simp [Ideal.ofBits, Ideal.ieee, -EReal.coe_mul]; rfl⟩
  have hy : IsReal (MlpArr.y x1 x2 x3 x4 r k) := IsReal.sum fun f => ((hra h r f).mul (hra h r f)).mul (h.h4 (ix2 f k))
  exact (ha.mul (h.h1 _)).add ((IsReal.one.add (h.h2 _)).mul hy)

theorem hcta (i : S1x8192x1024.Idx) : IsReal (HeadArr.cta x0 x1 x2 x3 x4 x5 x6 i) := by
  have hi : IsReal HeadFun.inv := ⟨_, by simp [HeadFun.inv, Ideal.ofBits, Ideal.ieee, -EReal.coe_mul]; rfl⟩
  have hx : IsReal (LN.xhat (MlpArr.z x1 x2 x3 x4 (i 1)) (i 2)) := LN.xhat_real (fun k => hz h _ _) _
  exact (((hx.mul (h.h5 _)).add (h.h6 _)).sub (h.h0 _)).mul hi

theorem dz_ : (val_main_v108 (F := Ideal) x0 x1 x2 x3 x4 x5 x6 : S1x8192x1024.Idx → EReal) i = MlpArr.dz (HeadArr.cta x0 x1 x2 x3 x4 x5 x6) x1 x2 x3 x4 x5 (i 1) (i 2) := by
  rw [chain_]
  exact LN.lnb_chain (fun k => hz h _ _) (fun k => (hcta h _).mul (h.h5 _)) _
end

end Cert.HeadRefIdeal.Val
end
-- ==== Proof.HeadRefOut.lean ====
module

public import proofs.«01_k».proof.Proof.HeadRef

@[expose] public section

set_option maxRecDepth 16384

noncomputable section

/-! The reference of the last feed-forward sublayer and the loss, read at coordinates. -/

namespace Cert.HeadRefIdeal.Val

open Idealize.ShloMosaic Idealize.ShloMosaic.TcCoe Idealize.SL.Sem Idealize.ShloMosaic.StableHlo
open Cert.HeadRefIdeal Cert.HeadRefIdeal.Gen Cert.HeadRefIdeal.Read

variable {x0 x1 : S1x8192x1024.Idx → EReal} {x2 : S1x3072.Idx → EReal} {x3 : S1024x4096.Idx → EReal} {x4 : S4096x1024.Idx → EReal}
  {x5 x6 : S1024.Idx → EReal} (i : S1x8192x1024.Idx) (e : S1x8192x4096.Idx) (j : S1x8192x1.Idx)
  (h : Reals x0 x1 x2 x3 x4 x5 x6)

include h
theorem dy_ : (val_main_v110 (F := Ideal) x0 x1 x2 x3 x4 x5 x6 : S1x8192x1024.Idx → EReal) i = MlpArr.dy (HeadArr.cta x0 x1 x2 x3 x4 x5 x6) x1 x2 x3 x4 x5 (i 1) (i 2) := by
  pointwise [val_main_v110, val_main_v109, val_main_v24, val_main_v23, val_main_v5, val_main_v2, val_main_cst_4, dz_ _ h, MlpAll.dy, MlpFun.dy]
  exact mul_comm _ _
theorem dgate_ (k : Fin 1024) : (val_main_v113 (F := Ideal) x0 x1 x2 x3 x4 x5 x6 : S1x1x1024.Idx → EReal) (ix3 0 0 k)
    = ∑ r : Fin 8192, MlpArr.dz (HeadArr.cta x0 x1 x2 x3 x4 x5 x6) x1 x2 x3 x4 x5 r k * MlpArr.y x1 x2 x3 x4 r k := by
  pointwise [val_main_v113, val_main_v112, val_main_v111, val_main_cst_31, dz_ _ h, y_]
theorem dpre_ : (val_main_v116 (F := Ideal) x0 x1 x2 x3 x4 x5 x6 : S1x8192x4096.Idx → EReal) e = ∑ k, MlpArr.dy (HeadArr.cta x0 x1 x2 x3 x4 x5 x6) x1 x2 x3 x4 x5 (e 1) k * x4 (ix2 (e 2) k) := by
  pointwise [val_main_v116, dy_ _ h]

/-- Where an activation is not positive its gradient is zero both ways: chosen so, or as a multiple of the activation. -/
theorem da_ : (val_main_v119 (F := Ideal) x0 x1 x2 x3 x4 x5 x6 : S1x8192x4096.Idx → EReal) e = MlpArr.da (HeadArr.cta x0 x1 x2 x3 x4 x5 x6) x1 x2 x3 x4 x5 (e 1) (e 2) := by
  pointwise [val_main_v119, val_main_v118, val_main_v117, val_main_v19, val_main_v18, val_main_v15, val_main_v14, val_main_cst_0, val_main_cst_2, val_main_cst_33,
    dpre_ _ h, ra_, pre_, MlpAll.da, MlpFun.dact]
  split_ifs with hp
  · rfl
  have h0 : MlpArr.ra x1 x2 x3 (e 1) (e 2) = 0 := max_eq_right (not_lt.mp hp)
  refine (Eq.trans (congrArg (fun y => _ * (MlpFun.two * y)) h0) ?_).symm
  rw [mul_zero, mul_zero]

theorem dh_ : (val_main_v120 (F := Ideal) x0 x1 x2 x3 x4 x5 x6 : S1x8192x1024.Idx → EReal) i = MlpArr.dh (HeadArr.cta x0 x1 x2 x3 x4 x5 x6) x1 x2 x3 x4 x5 (i 1) (i 2) := by
  pointwise [val_main_v120, da_ _ h, MlpAll.dh, MlpFun.dh]
theorem dx_ : (val_main_v133 (F := Ideal) x0 x1 x2 x3 x4 x5 x6 : S1x8192x1024.Idx → EReal) i = MlpArr.dx (HeadArr.cta x0 x1 x2 x3 x4 x5 x6) x1 x2 x3 x4 x5 (i 1) (i 2) := by
  pointwise [val_main_v133, val_main_v127, val_main_v126, val_main_v115, val_main_v114, val_main_v7, val_main_v6, val_main_v4, val_main_v1, val_main_cst_32, val_main_cst, dh_ _ h, dz_ _ h, MlpAll.dx, MlpFun.dx]
theorem dshift_ (k : Fin 1024) : (val_main_v122 (F := Ideal) x0 x1 x2 x3 x4 x5 x6 : S1x1x1024.Idx → EReal) (ix3 0 0 k) = ∑ r : Fin 8192, MlpArr.dh (HeadArr.cta x0 x1 x2 x3 x4 x5 x6) x1 x2 x3 x4 x5 r k := by
  pointwise [val_main_v122, val_main_v121, val_main_cst_34, dh_ _ h]
theorem dscale_ (k : Fin 1024) : (val_main_v125 (F := Ideal) x0 x1 x2 x3 x4 x5 x6 : S1x1x1024.Idx → EReal) (ix3 0 0 k)
    = ∑ r : Fin 8192, MlpArr.dh (HeadArr.cta x0 x1 x2 x3 x4 x5 x6) x1 x2 x3 x4 x5 r k * x1 (ix3 0 r k) := by
  pointwise [val_main_v125, val_main_v124, val_main_v123, val_main_cst_35, dh_ _ h, mul_comm]

omit h in
theorem r_out : (val_main_v58 (F := Ideal) x1 x2 x3 : S8192x4096.Idx → EReal) = fun j => MlpArr.ra x1 x2 x3 (j 0) (j 1) * MlpArr.ra x1 x2 x3 (j 0) (j 1) := by
  funext j; pointwise [val_main_v58, val_main_v57, r_]
omit h in
theorem h_out : (val_main_v138 (F := Ideal) x1 x2 : S8192x1024.Idx → EReal) = fun j => MlpArr.h x1 x2 (j 0) (j 1) := by
  funext j; pointwise [val_main_v138, val_main_v137, h_]
theorem dx_out : (val_main_v134 (F := Ideal) x0 x1 x2 x3 x4 x5 x6 : S8192x1024.Idx → EReal) = fun j => MlpArr.dx (HeadArr.cta x0 x1 x2 x3 x4 x5 x6) x1 x2 x3 x4 x5 (j 0) (j 1) := by
  funext j; pointwise [val_main_v134, dx_ _ h]
theorem da_out : (val_main_v136 (F := Ideal) x0 x1 x2 x3 x4 x5 x6 : S8192x4096.Idx → EReal) = fun j => MlpArr.da (HeadArr.cta x0 x1 x2 x3 x4 x5 x6) x1 x2 x3 x4 x5 (j 0) (j 1) := by
  funext j; pointwise [val_main_v136, val_main_v135, da_ _ h]
theorem dy_out : (val_main_v140 (F := Ideal) x0 x1 x2 x3 x4 x5 x6 : S8192x1024.Idx → EReal) = fun j => MlpArr.dy (HeadArr.cta x0 x1 x2 x3 x4 x5 x6) x1 x2 x3 x4 x5 (j 0) (j 1) := by
  funext j; pointwise [val_main_v140, val_main_v139, dy_ _ h]
end Cert.HeadRefIdeal.Val
end
-- ==== Proof.HeadRefSums.lean ====
module

public import proofs.«01_k».proof.Proof.HeadRefOut

@[expose] public section

set_option maxRecDepth 16384

noncomputable section

/-! The reference of the last feed-forward sublayer and the loss, read at coordinates. -/

namespace Cert.HeadRefIdeal.Val

open Idealize.ShloMosaic Idealize.ShloMosaic.TcCoe Idealize.SL.Sem Idealize.ShloMosaic.StableHlo
open Cert.HeadRefIdeal Cert.HeadRefIdeal.Gen Cert.HeadRefIdeal.Read

variable {x0 x1 : S1x8192x1024.Idx → EReal} {x2 : S1x3072.Idx → EReal} {x3 : S1024x4096.Idx → EReal} {x4 : S4096x1024.Idx → EReal}
  {x5 x6 : S1024.Idx → EReal} (i : S1x8192x1024.Idx) (e : S1x8192x4096.Idx) (j : S1x8192x1.Idx)
  (h : Reals x0 x1 x2 x3 x4 x5 x6)

include h
theorem r0 (q : Fin 1) (k : Fin 1024) : (val_main_v128 (F := Ideal) x0 x1 x2 x3 x4 x5 x6 : S1x1024.Idx → EReal) (ix2 q k) = ∑ r : Fin 8192, MlpArr.dh (HeadArr.cta x0 x1 x2 x3 x4 x5 x6) x1 x2 x3 x4 x5 r k := by
  pointwise [val_main_v128, dshift_ h]
theorem r1 (q : Fin 1) (k : Fin 1024) : (val_main_v129 (F := Ideal) x0 x1 x2 x3 x4 x5 x6 : S1x1024.Idx → EReal) (ix2 q k) = ∑ r : Fin 8192, MlpArr.dh (HeadArr.cta x0 x1 x2 x3 x4 x5 x6) x1 x2 x3 x4 x5 r k * x1 (ix3 0 r k) := by
  pointwise [val_main_v129, dscale_ h]
theorem r2 (q : Fin 1) (k : Fin 1024) : (val_main_v130 (F := Ideal) x0 x1 x2 x3 x4 x5 x6 : S1x1024.Idx → EReal) (ix2 q k) = ∑ r : Fin 8192, MlpArr.dz (HeadArr.cta x0 x1 x2 x3 x4 x5 x6) x1 x2 x3 x4 x5 r k * MlpArr.y x1 x2 x3 x4 r k := by
  pointwise [val_main_v130, dgate_ h]
omit h in
theorem r3 (q : Fin 1) (k : Fin 1024) : (val_main_v131 (F := Ideal) x0 x1 x2 x3 x4 x5 x6 : S1x1024.Idx → EReal) (ix2 q k)
    = ∑ r : Fin 8192, (HeadArr.cta x0 x1 x2 x3 x4 x5 x6) (ix3 0 r k) * LN.xhat (MlpArr.z x1 x2 x3 x4 r) k := by
  pointwise [val_main_v131, dg_]
omit h in
theorem r4 (q : Fin 1) (k : Fin 1024) : (val_main_v132 (F := Ideal) x0 x1 x2 x3 x4 x5 x6 : S1x1024.Idx → EReal) (ix2 q k) = ∑ r : Fin 8192, (HeadArr.cta x0 x1 x2 x3 x4 x5 x6) (ix3 0 r k) := by
  pointwise [val_main_v132, db_]

omit h in
theorem r5 (q : Fin 1) (k : Fin 1024) : (val_main_v143 (F := Ideal) x0 x1 x2 x3 x4 x5 x6 : S1x1024.Idx → EReal) (ix2 q k) = ∑ r : Fin 8192, HeadArr.er x0 x1 x2 x3 x4 x5 x6 r k * HeadArr.er x0 x1 x2 x3 x4 x5 x6 r k := by
  pointwise [val_main_v143, val_main_v142, val_main_cst_36, er2_]

theorem sums_out : (val_main_v145 (F := Ideal) x0 x1 x2 x3 x4 x5 x6 : S8x1024.Idx → EReal) = fun j => HeadArr.sums x0 x1 x2 x3 x4 x5 x6 (j 1) (j 0).val := by
  funext j
  pointwise [val_main_v145, val_main_v144, val_main_cst_37, r0 h, r1 h, r2 h, r3, r4, r5]
  unfold HeadArr.sums MlpArr.sums MlpAll.sums
  split_ifs <;> first | omega | rfl

end Cert.HeadRefIdeal.Val
end
-- ==== Proof.HeadPair.lean ====
module

public import proofs.«01_k».proof.Defs
public import proofs.«01_k».proof.Proof.Gen.Head.Frame
public import proofs.«01_k».proof.Proof.Gen.Pre_finite_head
public import proofs.«01_k».proof.Proof.HeadRun
public import proofs.«01_k».proof.Proof.HeadArgs
public import proofs.«01_k».proof.Proof.HeadRefSums
public import Idealize.ShloMosaic.Lib.Claim

@[expose] public section

set_option maxRecDepth 16384

noncomputable section

/-! The last feed-forward sublayer and the loss against its reference. -/

namespace Cert.HeadPair

open Idealize.ShloMosaic Idealize.ShloMosaic.TcCoe Idealize.SL.Sem

theorem frameP : Cert.quiescent_Head := fun m ρ _ => Cert.Head.Gen.frame m ρ
theorem framePI : Cert.quiescent_HeadIdeal := fun m ρ _ => Cert.HeadIdeal.Gen.frame m ρ
theorem framePI' : Cert.quiescent_HeadIdeal_pre_finite_head := fun m ρ _ => Cert.HeadIdeal.Gen.frame m ρ

section
open Cert.HeadIdeal Cert.HeadIdeal.Gen Cert.HeadIdeal.Arr Cert.HeadIdeal.Val

variable (m : (ℓ : Loc nD τ sig) → Buf (Elt Ideal) ℓ) (ρ : Dev nD → PrngReg)

theorem reals (h : Cert.Pre_HeadIdeal_finite_head m) (c : Dev nD) :
    Cert.HeadRefIdeal.Val.Reals (A0 m c) (A1 m c) (A2 m c) (A3 m c) (A4 m c) (A5 m c) (A6 m c) where
  h0 := IsReal.of_lt _ _ (h c).1
  h1 := IsReal.of_lt _ _ (h c).2.1
  h2 := IsReal.of_lt _ _ (h c).2.2.1
  h3 := IsReal.of_lt _ _ (h c).2.2.2.1
  h4 := IsReal.of_lt _ _ (h c).2.2.2.2.1
  h5 := IsReal.of_lt _ _ (h c).2.2.2.2.2.1
  h6 := IsReal.of_lt _ _ (h c).2.2.2.2.2.2

theorem runK : θ_run defs (onTc (τ := τ) (main (F := Ideal))) ⟨m, fun _ => 0, ρ⟩ fun r => ∀ c : Dev nD,
    r.2.mem ((c.tc : Thread nD τ).loc main_v8_2) = (fun j : S8192x4096.Idx => MlpArr.ra (A1 m c) (A2 m c) (A3 m c) (j 0) (j 1) * MlpArr.ra (A1 m c) (A2 m c) (A3 m c) (j 0) (j 1))
    ∧ r.2.mem ((c.tc : Thread nD τ).loc main_v10_0) = (fun j : S8192x1024.Idx => MlpArr.dx (CTA m c) (A1 m c) (A2 m c) (A3 m c) (A4 m c) (A5 m c) (j 0) (j 1))
    ∧ r.2.mem ((c.tc : Thread nD τ).loc main_v10_1) = (fun j : S8192x4096.Idx => MlpArr.da (CTA m c) (A1 m c) (A2 m c) (A3 m c) (A4 m c) (A5 m c) (j 0) (j 1))
    ∧ r.2.mem ((c.tc : Thread nD τ).loc main_v10_2) = (fun j : S8192x1024.Idx => MlpArr.h (A1 m c) (A2 m c) (j 0) (j 1))
    ∧ r.2.mem ((c.tc : Thread nD τ).loc main_v10_3) = (fun j : S8192x1024.Idx => MlpArr.dy (CTA m c) (A1 m c) (A2 m c) (A3 m c) (A4 m c) (A5 m c) (j 0) (j 1))
    ∧ r.2.mem ((c.tc : Thread nD τ).loc main_v10_4) = (fun j : S8x1024.Idx => HeadArr.sums (A0 m c) (A1 m c) (A2 m c) (A3 m c) (A4 m c) (A5 m c) (A6 m c) (j 1) (j 0).val)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  (θ_run defs _ _).mono (fun r h c =>
    have g := fun b hb => h.1 c _ (mem_uc b hb)
    ⟨(g main_v8_2 (by decide)).trans (out_r m ρ c),
     (g main_v10_0 (by decide)).trans (out_dx m ρ c),
     (g main_v10_1 (by decide)).trans (out_da m ρ c),
     (g main_v10_2 (by decide)).trans (out_h m ρ c),
     (g main_v10_3 (by decide)).trans (out_dy m ρ c),
     (g main_v10_4 (by decide)).trans (out_sums m ρ c),
     (g main_arg0 (by decide)).trans (W6_main_arg0 m ρ c),
     (g main_arg1 (by decide)).trans (W6_main_arg1 m ρ c),
     (g main_arg2 (by decide)).trans (W6_main_arg2 m ρ c),
     (g main_arg3 (by decide)).trans (W6_main_arg3 m ρ c),
     (g main_arg4 (by decide)).trans (W6_main_arg4 m ρ c),
     (g main_arg5 (by decide)).trans (W6_main_arg5 m ρ c),
     (g main_arg6 (by decide)).trans (W6_main_arg6 m ρ c)⟩) (run_sems m ρ)
end

theorem algebraic : Cert.algebraic_HeadIdeal_HeadRefIdeal_pre_finite_head := fun m ρ m' ρ' hpre hag =>
  ⟨_, _, _, _, _, _, runK m ρ, (θ_run Cert.HeadRefIdeal.defs _ _).mono (fun _ h c => by
    have R := reals m hpre c
    obtain ⟨a0, a1, a2, a3, a4, a5, a6⟩ := hag c
    obtain ⟨r0, r1, r2, r3, r4, r5, hr⟩ := h c
    refine ⟨r0.trans ?_, r1.trans ?_, r2.trans ?_, r3.trans ?_, r4.trans ?_, r5.trans ?_, hr⟩
    · refine (Cert.HeadRefIdeal.Read.val_main_v58_eq _).trans (Eq.trans ?_ (Cert.HeadRefIdeal.Val.r_out))
      clear r0 r1 r2 r3 r4 r5 hr
      exact congr (congr (congrArg Cert.HeadRefIdeal.Read.val_main_v58 a1) a2) a3
    · refine (Cert.HeadRefIdeal.Read.val_main_v134_eq _).trans (Eq.trans ?_ (Cert.HeadRefIdeal.Val.dx_out R))
      clear r0 r1 r2 r3 r4 r5 hr
      exact congr (congr (congr (congr (congr (congr (congrArg Cert.HeadRefIdeal.Read.val_main_v134 a0) a1) a2) a3) a4) a5) a6
    · refine (Cert.HeadRefIdeal.Read.val_main_v136_eq _).trans (Eq.trans ?_ (Cert.HeadRefIdeal.Val.da_out R))
      clear r0 r1 r2 r3 r4 r5 hr
      exact congr (congr (congr (congr (congr (congr (congrArg Cert.HeadRefIdeal.Read.val_main_v136 a0) a1) a2) a3) a4) a5) a6
    · refine (Cert.HeadRefIdeal.Read.val_main_v138_eq _).trans (Eq.trans ?_ (Cert.HeadRefIdeal.Val.h_out))
      clear r0 r1 r2 r3 r4 r5 hr
      exact congr (congrArg Cert.HeadRefIdeal.Read.val_main_v138 a1) a2
    · refine (Cert.HeadRefIdeal.Read.val_main_v140_eq _).trans (Eq.trans ?_ (Cert.HeadRefIdeal.Val.dy_out R))
      clear r0 r1 r2 r3 r4 r5 hr
      exact congr (congr (congr (congr (congr (congr (congrArg Cert.HeadRefIdeal.Read.val_main_v140 a0) a1) a2) a3) a4) a5) a6
    · refine (Cert.HeadRefIdeal.Read.val_main_v145_eq _).trans (Eq.trans ?_ (Cert.HeadRefIdeal.Val.sums_out R))
      clear r0 r1 r2 r3 r4 r5 hr
      exact congr (congr (congr (congr (congr (congr (congrArg Cert.HeadRefIdeal.Read.val_main_v145 a0) a1) a2) a3) a4) a5) a6) (Cert.HeadRefIdeal.Value.run m' ρ')⟩

theorem frameRI : Cert.quiescent_HeadRefIdeal := fun m ρ _ =>
  (θ_run Cert.HeadRefIdeal.defs _ _).mono (fun r h => ⟨fun c => (h c).2.2.2.2.2.2, sem_eq_zero_of_no_sems (by decide) r.2⟩) (Cert.HeadRefIdeal.Value.run m ρ)
theorem frameRI' : Cert.quiescent_HeadRefIdeal_pre_finite_head := fun m ρ _ => frameRI m ρ trivial

end Cert.HeadPair
end
-- ==== Proof.RnnPostRun.lean ====
module

public import proofs.«01_k».proof.Proof.Gen.RnnPostIdeal.Frame

@[expose] public section

set_option maxRecDepth 16384

noncomputable section

namespace Cert.RnnPostIdeal.Arr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RnnPostIdeal Cert.RnnPostIdeal.Gen

variable {F : FTy → Type} [FloatOps F] [Named F] (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every array of the device that is not a region's own ends at the fold of the host operations and the two regions. -/
theorem run_sems : θ_run defs (onTc (τ := τ) (main (F := F))) ⟨m, fun _ => 0, ρ⟩ (fun r => (∀ c : Dev nD,
    ∀ b ∈ Pipeline.ucRefs τ sig, r.2.mem (((c : Thread nD τ)).1, b) = W7 m ρ c b) ∧ r.2.sem = fun _ => 0) :=
  Pipeline.θ_run_regions_kit_sems (pcfgs (F := F)) adm (pdats m ρ) () cellOf_inj emb₁
    defs₀ 𝒱₀ L lv m ρ main (segs m ρ) (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

end Cert.RnnPostIdeal.Arr

end
-- ==== Proof.RnnPostFun.lean ====
module

public import proofs.«01_k».proof.Proof.LayerNorm

@[expose] public section

set_option maxRecDepth 16384

noncomputable section

/-! The end of a recurrent sublayer and its gradient, as functions of the arrays. -/

namespace Cert.RnnPostFun

open Idealize.ShloMosaic Cert.LN

/-- The weight of the residual stream, as the programs write it. -/
abbrev alpha : EReal := Ideal.ofBits .f32 0x3FB504F3#32
abbrev half : EReal := Ideal.ofBits .f32 0x3F000000#32
abbrev root : EReal := Ideal.ofBits .f32 0x3F4C422A#32

/-- The hyperbolic tangent of the activation's cubic, -/
def th (v : EReal) : EReal := Ideal.tanh (root * (v + ((8943 / 200000 : ℝ) : EReal) * v * v * v))
/-- the activation, -/
def act (v : EReal) : EReal := half * v * (1 + th v)
/-- and its derivative. -/
def dact (v : EReal) : EReal := half * (1 + th v) + half * v * (1 - th v * th v) * root * (1 + ((26829 / 200000 : ℝ) : EReal) * v * v)

variable (ct x : (⟨3, ![1, 8192, 1024]⟩ : Shape).Idx → EReal) (hs gt : (⟨3, ![1, 8192, 1536]⟩ : Shape).Idx → EReal)
  (md : (⟨2, ![1, 3072]⟩ : Shape).Idx → EReal)
  (w : (⟨2, ![1536, 1024]⟩ : Shape).Idx → EReal) (g b : (⟨1, ![1024]⟩ : Shape).Idx → EReal)

def gate (k : Fin 1024) : EReal := md (ix2 0 ⟨2048 + k.val, by omega⟩)
/-- The gated state. -/
def yp (r : Fin 8192) (i : Fin 1536) : EReal := hs (ix3 0 r i) * act (gt (ix3 0 r i))
def y (r : Fin 8192) (k : Fin 1024) : EReal := ∑ i, yp hs gt r i * w (ix2 i k)
/-- A row entering the norm, -/
def z (r : Fin 8192) (k : Fin 1024) : EReal := alpha * x (ix3 0 r k) + (1 + gate md k) * y hs gt w r k
/-- and the gradient of its normalised row. -/
def d (r : Fin 8192) (k : Fin 1024) : EReal := ct (ix3 0 r k) * g (ix1 k)
def x1 (r : Fin 8192) (k : Fin 1024) : EReal := xhat (z x hs gt md w r) k * g (ix1 k) + b (ix1 k)
def dz (r : Fin 8192) (k : Fin 1024) : EReal := lnb (z x hs gt md w r) (d ct g r) k
def dres (r : Fin 8192) (k : Fin 1024) : EReal := alpha * dz ct x hs gt md w g r k
def dy (r : Fin 8192) (k : Fin 1024) : EReal := dz ct x hs gt md w g r k * (1 + gate md k)
def dyp (r : Fin 8192) (k : Fin 1536) : EReal := ∑ i, dy ct x hs gt md w g r i * w (ix2 k i)
def dhs (r : Fin 8192) (k : Fin 1536) : EReal := dyp ct x hs gt md w g r k * act (gt (ix3 0 r k))
def dgt (r : Fin 8192) (k : Fin 1536) : EReal := dyp ct x hs gt md w g r k * hs (ix3 0 r k) * dact (gt (ix3 0 r k))
/-- The row sums: of the gate's gradient in row 2, the scale's in row 3, the offset's in row 4. -/
def sums (a : Fin 8) (k : Fin 1024) : EReal :=
  if a.val = 4 then ∑ r, ct (ix3 0 r k)
  else if a.val = 3 then ∑ r, ct (ix3 0 r k) * xhat (z x hs gt md w r) k
  else if a.val = 2 then ∑ r, dz ct x hs gt md w g r k * y hs gt w r k
  else 0

end Cert.RnnPostFun
end
-- ==== Proof.RnnPostVal0.lean ====
module

public import proofs.«01_k».proof.Proof.Gen.RnnPostIdeal.Frame
public import proofs.«01_k».proof.Proof.Rows
public import proofs.«01_k».proof.Proof.LayerNorm
public import proofs.«01_k».proof.Proof.RnnPostFun

@[expose] public section

set_option maxRecDepth 16384

noncomputable section
namespace Cert.RnnPostIdeal.Val
open Idealize.ShloMosaic Idealize.ShloMosaic.TcCoe Idealize.SL.Sem
open Cert.RnnPostIdeal Cert.RnnPostIdeal.Gen Cert.LN Cert.Rows

/-! ## The first region: the gated branch, its product, and the stream after the sublayer -/

theorem idx0 : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] :=
  (by decide +kernel : ∀ t : Fin grid0.N, _)

variable (V : (c : Dev nD) → (b : Ref sig .tc) → Buf (Elt Ideal) ((c : Thread nD τ).loc b)) (c : Dev nD)

abbrev X : S8192x1024.Idx → EReal := V c main_v5
abbrev GT : S8192x1536.Idx → EReal := V c main_v7
abbrev HS : S8192x1536.Idx → EReal := V c main_v9
abbrev MODS : S12x1024.Idx → EReal := V c main_v1
abbrev LNG : S1x1024.Idx → EReal := V c main_v3
abbrev LNB : S1x1024.Idx → EReal := V c main_v4
abbrev W : S1536x1024.Idx → EReal := V c main_v2

/-- A row of the norm's input: the residual stream scaled, plus the gated branch. -/
def zr (y : Fin 8192 → Fin 1024 → EReal) (r : Fin 8192) (k : Fin 1024) : EReal :=
  Ideal.ofBits .f32 0x3FB504F3#32 * X V c (ix2 r k) + (1 + MODS V c (ix2 8 k)) * y r k
def YP (r : Fin 8192) (k : Fin 1536) : EReal := HS V c (ix2 r k) * RnnPostFun.act (GT V c (ix2 r k))
def Y0 (r : Fin 8192) (k : Fin 1024) : EReal := ∑ i, YP V c r i * W V c (ix2 i k)
def X1 (r : Fin 8192) (k : Fin 1024) : EReal := xhat (zr V c (Y0 V c) r) k * LNG V c (ix2 0 k) + LNB V c (ix2 0 k)

abbrev brow0 (t : Fin cfg0.N) (a : Fin 512) : Fin 8192 := ⟨t.val * 512 + a.val, by have := t.isLt; have : cfg0.N = 16 := N_0; omega⟩

theorem blk0_gt (t : Fin cfg0.N) (a : Fin 512) (k : Fin 1536) : (iblk0 V c 0 t : S512x1536.Idx → EReal) (ix2 a k) = GT V c (ix2 (brow0 t a) k) := by
  blk_point [iblk0, idx0 t]
theorem blk0_hs (t : Fin cfg0.N) (a : Fin 512) (k : Fin 1536) : (iblk0 V c 1 t : S512x1536.Idx → EReal) (ix2 a k) = HS V c (ix2 (brow0 t a) k) := by
  blk_point [iblk0, idx0 t]
theorem blk0_w (t : Fin cfg0.N) (i : S1536x1024.Idx) : (iblk0 V c 2 t : S1536x1024.Idx → EReal) i = W V c i := by
  blk_point [iblk0, idx0 t]
theorem blk0_x (t : Fin cfg0.N) (a : Fin 512) (k : Fin 1024) : (iblk0 V c 3 t : S512x1024.Idx → EReal) (ix2 a k) = X V c (ix2 (brow0 t a) k) := by
  blk_point [iblk0, idx0 t]
theorem blk0_mods (t : Fin cfg0.N) (i : S12x1024.Idx) : (iblk0 V c 4 t : S12x1024.Idx → EReal) i = MODS V c i := by
  blk_point [iblk0, idx0 t]
theorem blk0_lng (t : Fin cfg0.N) (i : S1x1024.Idx) : (iblk0 V c 5 t : S1x1024.Idx → EReal) i = LNG V c i := by
  blk_point [iblk0, idx0 t]
theorem blk0_b (t : Fin cfg0.N) (i : S1x1024.Idx) : (iblk0 V c 6 t : S1x1024.Idx → EReal) i = LNB V c i := by
  blk_point [iblk0, idx0 t]

theorem named_c : Named.named (F := Ideal) (φ := .f32) κ "c" 0x3D372713#32 = ((8943 / 200000 : ℝ) : EReal) :=
  IdealRules.named_const.ideal_named_scalar κ "c" _ _ rfl

theorem yp0_pay (t : Fin cfg0.N) (a : Fin 512) (k : Fin 1536) :
    k0_pay2 (F := Ideal) (iblk0 V c 0 t) (iblk0 V c 1 t) (ix2 a k) = YP V c (brow0 t a) k := by
  pointwise [k0_pay2, blk0_gt, blk0_hs, YP, RnnPostFun.act, RnnPostFun.th, named_c]
theorem y0_pay (t : Fin cfg0.N) (a : Fin 512) (k : Fin 1024) :
    k0_pay3 (F := Ideal) (iblk0 V c 0 t) (iblk0 V c 1 t) (iblk0 V c 2 t) (ix2 a k) = Y0 V c (brow0 t a) k := by
  pointwise [k0_pay3, yp0_pay, blk0_w, Y0]

theorem x1_pay (t : Fin cfg0.N) (a : Fin 512) (k : Fin 1024) (h) :
    k0_pay1 (F := Ideal) (k0_pay4 (iblk0 V c 3 t)) (k0_pay5 (iblk0 V c 0 t) (iblk0 V c 1 t)
      (View.ld (S := S12x1024) (Val := Elt Ideal) (e' := .f32) (iblk0 V c 4 t) (Rect.unit (s := S12x1024) ![8, 0] ![1, 1024] h)) (iblk0 V c 2 t))
      (iblk0 V c 5 t) (iblk0 V c 6 t) (ix2 a k) = X1 V c (brow0 t a) k := by
  pointwise [k0_pay1, k0_pay4, k0_pay5, y0_pay, blk0_x, blk0_mods, blk0_lng, blk0_b, X1, xhat, rstd, cen, mean, zr]

theorem fin0_9 : (dat0 V c).arrAt 9 cfg0.N = fun j => YP V c (j 0) (j 1) := by
  refine (dat0 V c).arrAt_eq_of_covers 9 _ (by decide +kernel) fun t hf y => ?_
  blk_simp
  refine Eq.trans (b := YP V c (brow0 t (y 0)) (y 1)) ?_ (congrArg₂ (YP V c) (Fin.ext ?_) (Fin.ext ?_))
  · rw [after0_9]
    frame_out
    exact (congrArg _ (eq_ix2 _)).trans (yp0_pay V c t _ _)
  · blk_simp [idx0 t]
  · blk_simp [idx0 t]

theorem fin0_8 : (dat0 V c).arrAt 8 cfg0.N = fun j => Y0 V c (j 0) (j 1) := by
  refine (dat0 V c).arrAt_eq_of_covers 8 _ (by decide +kernel) fun t hf y => ?_
  blk_simp
  refine Eq.trans (b := Y0 V c (brow0 t (y 0)) (y 1)) ?_ (congrArg₂ (Y0 V c) (Fin.ext ?_) (Fin.ext ?_))
  · rw [after0_8]
    frame_out
    exact (congrArg _ (eq_ix2 _)).trans (y0_pay V c t _ _)
  · blk_simp [idx0 t]
  · blk_simp [idx0 t]

theorem fin0_7 : (dat0 V c).arrAt 7 cfg0.N = fun j => X1 V c (j 0) (j 1) := by
  refine (dat0 V c).arrAt_eq_of_covers 7 _ (by decide +kernel) fun t hf y => ?_
  blk_simp
  refine Eq.trans (b := X1 V c (brow0 t (y 0)) (y 1)) ?_ (congrArg₂ (X1 V c) (Fin.ext ?_) (Fin.ext ?_))
  · rw [after0_7]
    frame_out
    exact (congrArg _ (eq_ix2 _)).trans (x1_pay V c t _ _ _)
  · blk_simp [idx0 t]
  · blk_simp [idx0 t]
end Cert.RnnPostIdeal.Val
end
-- ==== Proof.Slabs.lean ====
module

public import proofs.«01_k».proof.Proof.Rows

@[expose] public section

set_option maxRecDepth 16384

noncomputable section

/-! Single slabs stored in a buffer of slabs: what an element reads. -/

namespace Cert.Rows

open Idealize.ShloMosaic

open Idealize.ShloMosaic.View (Piece)

variable {Val : EltTy → Type} {e : EltTy} {A R n l : ℕ}

/-- Slab `l` of a buffer of `A` slabs of `R` rows and `n` columns. -/
abbrev SlabFits (A R n l : ℕ) : Prop := ∀ a, (![l, 0, 0] : Fin 3 → ℕ) a + (![1, R, n] : Fin 3 → ℕ) a ≤ (⟨3, ![A, R, n]⟩ : Shape).size a

/-- The index `(0, a, k)` of a slab's rectangle. -/
abbrev slabIx (h : SlabFits A R n l) (a : Fin R) (k : Fin n) : (Rect.unit (s := ⟨3, ![A, R, n]⟩) ![l, 0, 0] ![1, R, n] h).shape.Idx :=
  (ix3 0 a k : (⟨3, ![1, R, n]⟩ : Shape).Idx)

/-- An element after a slab's store has the value `v` where the slab's has it, and the earlier stores' has it elsewhere. -/
theorem canon_slab_step [∀ e, Nonempty (Val e)] (h : SlabFits A R n l)
    (w : (Rect.unit (s := ⟨3, ![A, R, n]⟩) ![l, 0, 0] ![1, R, n] h).shape.Idx → Val e) (L : List (Piece Val (⟨3, ![A, R, n]⟩ : Shape) e))
    (q : Fin A) (a : Fin R) (k : Fin n) (v : Val e) (hf : q.val = l → w (slabIx h a k) = v)
    (hL : ¬ q.val = l → View.canon L (ix3 q a k) = v) :
    View.canon (⟨Rect.unit (s := ⟨3, ![A, R, n]⟩) ![l, 0, 0] ![1, R, n] h, w⟩ :: L) (ix3 q a k) = v := by
  by_cases hq : q.val = l
  · have : (Rect.unit (s := ⟨3, ![A, R, n]⟩) ![l, 0, 0] ![1, R, n] h).emb (slabIx h a k) = ix3 q a k := by
      funext i
      refine Fin.ext ?_
      rw [Rect.emb_apply]
      match i with
      | ⟨0, _⟩ => simp [slabIx, hq]
      | ⟨1, _⟩ => simp [slabIx]
      | ⟨2, _⟩ => simp [slabIx]
    rw [← this]
    exact (View.canon_cons_emb ..).trans (hf hq)
  · refine (View.canon_cons_of_not_mem _ _ fun hm => hq ?_).trans (hL hq)
    have h0 := (Rect.mem_set_unit (s := ⟨3, ![A, R, n]⟩) (inb := h)).mp hm (0 : Fin 3)
    simp at h0
    omega

end Cert.Rows
end
-- ==== Proof.RnnPostVal1.lean ====
module

public import proofs.«01_k».proof.Proof.RnnPostVal0
public import proofs.«01_k».proof.Proof.Slabs

@[expose] public section

set_option maxRecDepth 16384

noncomputable section
namespace Cert.RnnPostIdeal.Val
open Idealize.ShloMosaic Idealize.ShloMosaic.TcCoe Idealize.SL.Sem
open Cert.RnnPostIdeal Cert.RnnPostIdeal.Gen Cert.LN Cert.Rows

/-! ## The second region: the gradient, at an element -/

theorem idx1 : ∀ t : Fin cfg1.N, win1_0.index t = ![t.val, 0] ∧ win1_1.index t = ![t.val, 0] ∧ win1_2.index t = ![t.val, 0]
    ∧ win1_3.index t = ![0, 0] ∧ win1_4.index t = ![0, 0] ∧ win1_5.index t = ![0, 0] ∧ win1_6.index t = ![t.val, 0]
    ∧ win1_7.index t = ![t.val, 0] ∧ win1_8.index t = ![t.val, 0] ∧ win1_9.index t = ![t.val, 0] ∧ win1_10.index t = ![0, 0]
    ∧ win1_11.index t = ![0, t.val, 0] ∧ win1_12.index t = ![t.val, 0] :=
  (by decide +kernel : ∀ t : Fin grid1.N, _)

variable (V : (c : Dev nD) → (b : Ref sig .tc) → Buf (Elt Ideal) ((c : Thread nD τ).loc b)) (c : Dev nD)

abbrev CT : S8192x1024.Idx → EReal := V c main_v11
abbrev YB : S8192x1024.Idx → EReal := V c main_v10_1
abbrev yr (r : Fin 8192) (k : Fin 1024) : EReal := YB V c (ix2 r k)
abbrev ctr (r : Fin 8192) (k : Fin 1024) : EReal := CT V c (ix2 r k)
abbrev dr (r : Fin 8192) (k : Fin 1024) : EReal := ctr V c r k * LNG V c (ix2 0 k)
/-- The gradient reaching the norm's input, and what it gives to each input. -/
def DZ (r : Fin 8192) (k : Fin 1024) : EReal := lnb (zr V c (yr V c) r) (dr V c r) k
def G8 (r : Fin 8192) (k : Fin 1024) : EReal := Ideal.ofBits .f32 0x3FB504F3#32 * DZ V c r k
def G9 (r : Fin 8192) (k : Fin 1024) : EReal := DZ V c r k * (1 + MODS V c (ix2 8 k))
def DYP (r : Fin 8192) (k : Fin 1536) : EReal := ∑ x, G9 V c r x * W V c (ix2 k x)
def DHS (r : Fin 8192) (k : Fin 1536) : EReal := DYP V c r k * RnnPostFun.act (GT V c (ix2 r k))
def DGT (r : Fin 8192) (k : Fin 1536) : EReal := DYP V c r k * HS V c (ix2 r k) * RnnPostFun.dact (GT V c (ix2 r k))

abbrev brow (t : Fin cfg1.N) (a : Fin 512) : Fin 8192 := ⟨t.val * 512 + a.val, by have := t.isLt; have : cfg1.N = 16 := N_1; omega⟩

theorem blk_ct (t : Fin cfg1.N) (a : Fin 512) (k : Fin 1024) : (iblk1 V c 0 t : S512x1024.Idx → EReal) (ix2 a k) = CT V c (ix2 (brow t a) k) := by
  blk_point [iblk1, idx1 t]
theorem blk_x (t : Fin cfg1.N) (a : Fin 512) (k : Fin 1024) : (iblk1 V c 1 t : S512x1024.Idx → EReal) (ix2 a k) = X V c (ix2 (brow t a) k) := by
  blk_point [iblk1, idx1 t]
theorem blk_y (t : Fin cfg1.N) (a : Fin 512) (k : Fin 1024) : (iblk1 V c 2 t : S512x1024.Idx → EReal) (ix2 a k) = YB V c (ix2 (brow t a) k) := by
  blk_point [iblk1, idx1 t]
theorem blk_mods (t : Fin cfg1.N) (i : S12x1024.Idx) : (iblk1 V c 3 t : S12x1024.Idx → EReal) i = MODS V c i := by
  blk_point [iblk1, idx1 t]
theorem blk_w (t : Fin cfg1.N) (i : S1536x1024.Idx) : (iblk1 V c 4 t : S1536x1024.Idx → EReal) i = W V c i := by
  blk_point [iblk1, idx1 t]
theorem blk_lng (t : Fin cfg1.N) (i : S1x1024.Idx) : (iblk1 V c 5 t : S1x1024.Idx → EReal) i = LNG V c i := by
  blk_point [iblk1, idx1 t]
theorem blk_gt (t : Fin cfg1.N) (a : Fin 512) (k : Fin 1536) : (iblk1 V c 6 t : S512x1536.Idx → EReal) (ix2 a k) = GT V c (ix2 (brow t a) k) := by
  blk_point [iblk1, idx1 t]
theorem blk_hs (t : Fin cfg1.N) (a : Fin 512) (k : Fin 1536) : (iblk1 V c 7 t : S512x1536.Idx → EReal) (ix2 a k) = HS V c (ix2 (brow t a) k) := by
  blk_point [iblk1, idx1 t]

/-- The gate's row as it is loaded. -/
abbrev gl (t : Fin cfg1.N) (h : RowFits 12 1024 8) : S1x1024.Idx → EReal :=
  (View.ld (S := S12x1024) (Val := Elt Ideal) (e' := .f32) (iblk1 V c 3 t) (Rect.unit (s := S12x1024) ![8, 0] ![1, 1024] h))
abbrev p6 (t : Fin cfg1.N) (h : RowFits 12 1024 8) : FVec Ideal S512x1 .f32 := k1_pay6 (gl V c t h) (iblk1 V c 1 t) (iblk1 V c 2 t)
abbrev p7 (t : Fin cfg1.N) (h : RowFits 12 1024 8) : FVec Ideal S512x1024 .f32 := k1_pay7 (gl V c t h) (iblk1 V c 1 t) (iblk1 V c 2 t)
abbrev p8 (t : Fin cfg1.N) : FVec Ideal S512x1024 .f32 := k1_pay8 (iblk1 V c 0 t) (iblk1 V c 5 t)
abbrev p9 (t : Fin cfg1.N) (h : RowFits 12 1024 8) : FVec Ideal S512x1024 .f32 := k1_pay9 (p6 V c t h) (p7 V c t h) (p8 V c t)

variable (t : Fin cfg1.N) (h : RowFits 12 1024 8) (a : Fin 512)

theorem gl_pay (k : Fin 1024) : gl V c t h (ix2 0 k) = MODS V c (ix2 8 k) := by
  unfold gl
  pointwise [blk_mods]
theorem cen_pay (k : Fin 1024) : k1_pay5 (F := Ideal) (gl V c t h) (iblk1 V c 1 t) (iblk1 V c 2 t) (ix2 a k) = cen (zr V c (yr V c) (brow t a)) k := by
  pointwise [k1_pay5, k1_pay4, k1_pay2, gl_pay, blk_x, blk_y, cen, mean, zr]
theorem rs_pay : p6 V c t h (ix2 a 0) = rstd (zr V c (yr V c) (brow t a)) := by
  unfold p6
  pointwise [k1_pay6, cen_pay, rstd]
theorem xh_pay (k : Fin 1024) : p7 V c t h (ix2 a k) = xhat (zr V c (yr V c) (brow t a)) k := by
  unfold p7
  pointwise [k1_pay7, cen_pay]
  exact Ideal.mul_congr rfl (rs_pay V c t h a)
theorem d_pay (k : Fin 1024) : p8 V c t (ix2 a k) = dr V c (brow t a) k := by
  unfold p8
  pointwise [k1_pay8, k1_pay3, blk_ct, blk_lng]
theorem dz_pay (k : Fin 1024) : p9 V c t h (ix2 a k) = DZ V c (brow t a) k := by
  unfold p9
  generalize h6 : p6 V c t h = q6
  generalize h7 : p7 V c t h = q7
  generalize h8 : p8 V c t = q8
  pointwise [k1_pay9, DZ, lnb, mean]
  subst h6 h7 h8
  simp only [rs_pay, xh_pay, d_pay]
theorem dres_pay (k : Fin 1024) : k1_pay13 (F := Ideal) (p6 V c t h) (p7 V c t h) (p8 V c t) (ix2 a k) = G8 V c (brow t a) k := by
  pointwise [k1_pay13, G8]
  exact Ideal.mul_congr rfl (dz_pay V c t h a k)
theorem dy_pay (k : Fin 1024) : k1_pay14 (F := Ideal) (k1_pay2 (gl V c t h)) (p9 V c t h) (ix2 a k) = G9 V c (brow t a) k := by
  pointwise [k1_pay14, k1_pay2, gl_pay, G9]
  exact Ideal.mul_congr (dz_pay V c t h a k) rfl
theorem dyp_pay (k : Fin 1536) : k1_pay15 (F := Ideal) (k1_pay2 (gl V c t h)) (p9 V c t h) (iblk1 V c 4 t) (ix2 a k) = DYP V c (brow t a) k := by
  pointwise [k1_pay15, dy_pay, blk_w, DYP]
  first | done | exact Finset.sum_congr rfl fun x _ => Ideal.mul_congr (dy_pay V c t h a x) rfl
theorem th_pay (k : Fin 1536) : k1_pay17 (F := Ideal) (iblk1 V c 6 t) (ix2 a k) = RnnPostFun.th (GT V c (ix2 (brow t a) k)) := by
  pointwise [k1_pay17, k1_pay16, blk_gt, RnnPostFun.th, named_c]
theorem named_c3 : Named.named (F := Ideal) (φ := .f32) κ "c3" 0x3E095D4F#32 = ((26829 / 200000 : ℝ) : EReal) :=
  IdealRules.named_const.ideal_named_scalar κ "c3" _ _ rfl
theorem dhs_pay (k : Fin 1536) : k1_pay22 (F := Ideal) (k1_pay15 (k1_pay2 (gl V c t h)) (p9 V c t h) (iblk1 V c 4 t)) (k1_pay18 (iblk1 V c 6 t)) (ix2 a k)
    = DHS V c (brow t a) k := by
  pointwise [k1_pay22, k1_pay18, k1_pay16, th_pay, blk_gt, DHS, RnnPostFun.act]
  exact Ideal.mul_congr (dyp_pay V c t h a k) rfl
theorem dgt_pay (k : Fin 1536) : k1_pay36 (F := Ideal) (k1_pay15 (k1_pay2 (gl V c t h)) (p9 V c t h) (iblk1 V c 4 t))
    (k1_pay21 (k1_pay16 (iblk1 V c 6 t)) (k1_pay19 (iblk1 V c 6 t)) (k1_pay20 (iblk1 V c 6 t)) (Named.named (F := Ideal) κ "c3" 0x3E095D4F#32)) (iblk1 V c 7 t) (ix2 a k)
    = DGT V c (brow t a) k := by
  pointwise [k1_pay36, k1_pay19, k1_pay20, k1_pay21, k1_pay16, th_pay, blk_gt, blk_hs, DGT, RnnPostFun.dact, named_c3]
  exact Ideal.mul_congr (Ideal.mul_congr (dyp_pay V c t h a k) rfl) rfl

end Cert.RnnPostIdeal.Val
end
-- ==== Proof.RnnPostVal2.lean ====
module

public import proofs.«01_k».proof.Proof.RnnPostVal1

@[expose] public section

set_option maxRecDepth 16384

noncomputable section
namespace Cert.RnnPostIdeal.Val
open Idealize.ShloMosaic Idealize.ShloMosaic.TcCoe Idealize.SL.Sem
open Cert.RnnPostIdeal Cert.RnnPostIdeal.Gen Cert.LN Cert.Rows

variable (V : (c : Dev nD) → (b : Ref sig .tc) → Buf (Elt Ideal) ((c : Thread nD τ).loc b)) (c : Dev nD)

theorem fin1_8 : (dat1 V c).arrAt 8 cfg1.N = fun j => G8 V c (j 0) (j 1) := by
  refine (dat1 V c).arrAt_eq_of_covers 8 _ (by decide +kernel) fun t hf y => ?_
  blk_simp
  refine Eq.trans (b := G8 V c (brow t (y 0)) (y 1)) ?_ (congrArg₂ (G8 V c) (Fin.ext ?_) (Fin.ext ?_))
  · rw [after1_8]
    by_cases h : t.val % 16 = 0
    · rw [outsAt1_A _ c t h]
      frame_out
      exact (congrArg _ (eq_ix2 _)).trans (dres_pay V c t _ _ _)
    · rw [outsAt1_B _ c t h]
      frame_out
      exact (congrArg _ (eq_ix2 _)).trans (dres_pay V c t _ _ _)
  · blk_simp [idx1 t]
  · blk_simp [idx1 t]

theorem fin1_9 : (dat1 V c).arrAt 9 cfg1.N = fun j => G9 V c (j 0) (j 1) := by
  refine (dat1 V c).arrAt_eq_of_covers 9 _ (by decide +kernel) fun t hf y => ?_
  blk_simp
  refine Eq.trans (b := G9 V c (brow t (y 0)) (y 1)) ?_ (congrArg₂ (G9 V c) (Fin.ext ?_) (Fin.ext ?_))
  · rw [after1_9]
    by_cases h : t.val % 16 = 0
    · rw [outsAt1_A _ c t h]
      frame_out
      exact (congrArg _ (eq_ix2 _)).trans (dy_pay V c t _ _ _)
    · rw [outsAt1_B _ c t h]
      frame_out
      exact (congrArg _ (eq_ix2 _)).trans (dy_pay V c t _ _ _)
  · blk_simp [idx1 t]
  · blk_simp [idx1 t]

theorem fin1_12 : (dat1 V c).arrAt 12 cfg1.N = fun j => DGT V c (j 0) (j 1) := by
  refine (dat1 V c).arrAt_eq_of_covers 12 _ (by decide +kernel) fun t hf y => ?_
  blk_simp
  refine Eq.trans (b := DGT V c (brow t (y 0)) (y 1)) ?_ (congrArg₂ (DGT V c) (Fin.ext ?_) (Fin.ext ?_))
  · rw [after1_12]
    by_cases h : t.val % 16 = 0
    · rw [outsAt1_A _ c t h]
      frame_out
      exact (congrArg _ (eq_ix2 _)).trans (dgt_pay V c t _ _ _)
    · rw [outsAt1_B _ c t h]
      frame_out
      exact (congrArg _ (eq_ix2 _)).trans (dgt_pay V c t _ _ _)
  · blk_simp [idx1 t]
  · blk_simp [idx1 t]

/-- A column's slab and its place in the slab. -/
abbrev scol (q : Fin 12) (k : Fin 128) : Fin 1536 := ⟨q.val * 128 + k.val, by omega⟩
theorem scol_val (q : Fin 12) (k : Fin 128) (l : ℕ) (hq : q.val = l) : l * 128 + k.val = (scol q k).val := by
  subst hq
  rfl

section Slabs
variable (u v : FVec Ideal S512x1536 .f32) (a : Fin 512) (k : Fin 128)
theorem slab0 : (k1_pay23 u v : FVec Ideal S1x512x128 .f32) (ix3 0 a k) = k1_pay22 (F := Ideal) u v (ix2 a ⟨0 + k.val, by omega⟩) := by
  pointwise [k1_pay23]
theorem slab1 : (k1_pay24 u v : FVec Ideal S1x512x128 .f32) (ix3 0 a k) = k1_pay22 (F := Ideal) u v (ix2 a ⟨128 + k.val, by omega⟩) := by
  pointwise [k1_pay24]
theorem slab2 : (k1_pay25 u v : FVec Ideal S1x512x128 .f32) (ix3 0 a k) = k1_pay22 (F := Ideal) u v (ix2 a ⟨256 + k.val, by omega⟩) := by
  pointwise [k1_pay25]
theorem slab3 : (k1_pay26 u v : FVec Ideal S1x512x128 .f32) (ix3 0 a k) = k1_pay22 (F := Ideal) u v (ix2 a ⟨384 + k.val, by omega⟩) := by
  pointwise [k1_pay26]
theorem slab4 : (k1_pay27 u v : FVec Ideal S1x512x128 .f32) (ix3 0 a k) = k1_pay22 (F := Ideal) u v (ix2 a ⟨512 + k.val, by omega⟩) := by
  pointwise [k1_pay27]
theorem slab5 : (k1_pay28 u v : FVec Ideal S1x512x128 .f32) (ix3 0 a k) = k1_pay22 (F := Ideal) u v (ix2 a ⟨640 + k.val, by omega⟩) := by
  pointwise [k1_pay28]
theorem slab6 : (k1_pay30 (k1_pay29 u v) : FVec Ideal S1x512x128 .f32) (ix3 0 a k) = k1_pay22 (F := Ideal) u v (ix2 a ⟨768 + k.val, by omega⟩) := by
  pointwise [k1_pay30, k1_pay29]
theorem slab7 : (k1_pay31 (k1_pay22 u v) : FVec Ideal S1x512x128 .f32) (ix3 0 a k) = k1_pay22 (F := Ideal) u v (ix2 a ⟨896 + k.val, by omega⟩) := by
  pointwise [k1_pay31]
theorem slab8 : (k1_pay32 (k1_pay22 u v) : FVec Ideal S1x512x128 .f32) (ix3 0 a k) = k1_pay22 (F := Ideal) u v (ix2 a ⟨1024 + k.val, by omega⟩) := by
  pointwise [k1_pay32]
theorem slab9 : (k1_pay33 (k1_pay22 u v) : FVec Ideal S1x512x128 .f32) (ix3 0 a k) = k1_pay22 (F := Ideal) u v (ix2 a ⟨1152 + k.val, by omega⟩) := by
  pointwise [k1_pay33]
theorem slab10 : (k1_pay34 (k1_pay22 u v) : FVec Ideal S1x512x128 .f32) (ix3 0 a k) = k1_pay22 (F := Ideal) u v (ix2 a ⟨1280 + k.val, by omega⟩) := by
  pointwise [k1_pay34]
theorem slab11 : (k1_pay35 (k1_pay22 u v) : FVec Ideal S1x512x128 .f32) (ix3 0 a k) = k1_pay22 (F := Ideal) u v (ix2 a ⟨1408 + k.val, by omega⟩) := by
  pointwise [k1_pay35]
end Slabs
theorem slab_A (t : Fin cfg1.N) (h : t.val % 16 = 0) (q : Fin 12) (a : Fin 512) (k : Fin 128) :
    ((outsAt1 V c t.val t.isLt).2.2.2.1 : S12x512x128.Idx → EReal) (ix3 q a k) = DHS V c (brow t a) (scol q k) := by
  rw [outsAt1_A V c t h]
  frame_out
  refine canon_slab_step _ _ _ _ _ _ _ (fun hq => ?_) fun h11 => ?_
  · exact (slab11 _ _ _ _).trans ((dhs_pay V c t _ _ _).trans (congrArg (DHS V c _) (Fin.ext (scol_val q k 11 hq))))
  refine canon_slab_step _ _ _ _ _ _ _ (fun hq => ?_) fun h10 => ?_
  · exact (slab10 _ _ _ _).trans ((dhs_pay V c t _ _ _).trans (congrArg (DHS V c _) (Fin.ext (scol_val q k 10 hq))))
  refine canon_slab_step _ _ _ _ _ _ _ (fun hq => ?_) fun h9 => ?_
  · exact (slab9 _ _ _ _).trans ((dhs_pay V c t _ _ _).trans (congrArg (DHS V c _) (Fin.ext (scol_val q k 9 hq))))
  refine canon_slab_step _ _ _ _ _ _ _ (fun hq => ?_) fun h8 => ?_
  · exact (slab8 _ _ _ _).trans ((dhs_pay V c t _ _ _).trans (congrArg (DHS V c _) (Fin.ext (scol_val q k 8 hq))))
  refine canon_slab_step _ _ _ _ _ _ _ (fun hq => ?_) fun h7 => ?_
  · exact (slab7 _ _ _ _).trans ((dhs_pay V c t _ _ _).trans (congrArg (DHS V c _) (Fin.ext (scol_val q k 7 hq))))
  refine canon_slab_step _ _ _ _ _ _ _ (fun hq => ?_) fun h6 => ?_
  · exact (slab6 _ _ _ _).trans ((dhs_pay V c t _ _ _).trans (congrArg (DHS V c _) (Fin.ext (scol_val q k 6 hq))))
  refine canon_slab_step _ _ _ _ _ _ _ (fun hq => ?_) fun h5 => ?_
  · exact (slab5 _ _ _ _).trans ((dhs_pay V c t _ _ _).trans (congrArg (DHS V c _) (Fin.ext (scol_val q k 5 hq))))
  refine canon_slab_step _ _ _ _ _ _ _ (fun hq => ?_) fun h4 => ?_
  · exact (slab4 _ _ _ _).trans ((dhs_pay V c t _ _ _).trans (congrArg (DHS V c _) (Fin.ext (scol_val q k 4 hq))))
  refine canon_slab_step _ _ _ _ _ _ _ (fun hq => ?_) fun h3 => ?_
  · exact (slab3 _ _ _ _).trans ((dhs_pay V c t _ _ _).trans (congrArg (DHS V c _) (Fin.ext (scol_val q k 3 hq))))
  refine canon_slab_step _ _ _ _ _ _ _ (fun hq => ?_) fun h2 => ?_
  · exact (slab2 _ _ _ _).trans ((dhs_pay V c t _ _ _).trans (congrArg (DHS V c _) (Fin.ext (scol_val q k 2 hq))))
  refine canon_slab_step _ _ _ _ _ _ _ (fun hq => ?_) fun h1 => ?_
  · exact (slab1 _ _ _ _).trans ((dhs_pay V c t _ _ _).trans (congrArg (DHS V c _) (Fin.ext (scol_val q k 1 hq))))
  refine canon_slab_step _ _ _ _ _ _ _ (fun hq => ?_) fun h0 => ?_
  · exact (slab0 _ _ _ _).trans ((dhs_pay V c t _ _ _).trans (congrArg (DHS V c _) (Fin.ext (scol_val q k 0 hq))))
  omega

theorem slab_B (t : Fin cfg1.N) (h : ¬ t.val % 16 = 0) (q : Fin 12) (a : Fin 512) (k : Fin 128) :
    ((outsAt1 V c t.val t.isLt).2.2.2.1 : S12x512x128.Idx → EReal) (ix3 q a k) = DHS V c (brow t a) (scol q k) := by
  rw [outsAt1_B V c t h]
  frame_out
  refine canon_slab_step _ _ _ _ _ _ _ (fun hq => ?_) fun h11 => ?_
  · exact (slab11 _ _ _ _).trans ((dhs_pay V c t _ _ _).trans (congrArg (DHS V c _) (Fin.ext (scol_val q k 11 hq))))
  refine canon_slab_step _ _ _ _ _ _ _ (fun hq => ?_) fun h10 => ?_
  · exact (slab10 _ _ _ _).trans ((dhs_pay V c t _ _ _).trans (congrArg (DHS V c _) (Fin.ext (scol_val q k 10 hq))))
  refine canon_slab_step _ _ _ _ _ _ _ (fun hq => ?_) fun h9 => ?_
  · exact (slab9 _ _ _ _).trans ((dhs_pay V c t _ _ _).trans (congrArg (DHS V c _) (Fin.ext (scol_val q k 9 hq))))
  refine canon_slab_step _ _ _ _ _ _ _ (fun hq => ?_) fun h8 => ?_
  · exact (slab8 _ _ _ _).trans ((dhs_pay V c t _ _ _).trans (congrArg (DHS V c _) (Fin.ext (scol_val q k 8 hq))))
  refine canon_slab_step _ _ _ _ _ _ _ (fun hq => ?_) fun h7 => ?_
  · exact (slab7 _ _ _ _).trans ((dhs_pay V c t _ _ _).trans (congrArg (DHS V c _) (Fin.ext (scol_val q k 7 hq))))
  refine canon_slab_step _ _ _ _ _ _ _ (fun hq => ?_) fun h6 => ?_
  · exact (slab6 _ _ _ _).trans ((dhs_pay V c t _ _ _).trans (congrArg (DHS V c _) (Fin.ext (scol_val q k 6 hq))))
  refine canon_slab_step _ _ _ _ _ _ _ (fun hq => ?_) fun h5 => ?_
  · exact (slab5 _ _ _ _).trans ((dhs_pay V c t _ _ _).trans (congrArg (DHS V c _) (Fin.ext (scol_val q k 5 hq))))
  refine canon_slab_step _ _ _ _ _ _ _ (fun hq => ?_) fun h4 => ?_
  · exact (slab4 _ _ _ _).trans ((dhs_pay V c t _ _ _).trans (congrArg (DHS V c _) (Fin.ext (scol_val q k 4 hq))))
  refine canon_slab_step _ _ _ _ _ _ _ (fun hq => ?_) fun h3 => ?_
  · exact (slab3 _ _ _ _).trans ((dhs_pay V c t _ _ _).trans (congrArg (DHS V c _) (Fin.ext (scol_val q k 3 hq))))
  refine canon_slab_step _ _ _ _ _ _ _ (fun hq => ?_) fun h2 => ?_
  · exact (slab2 _ _ _ _).trans ((dhs_pay V c t _ _ _).trans (congrArg (DHS V c _) (Fin.ext (scol_val q k 2 hq))))
  refine canon_slab_step _ _ _ _ _ _ _ (fun hq => ?_) fun h1 => ?_
  · exact (slab1 _ _ _ _).trans ((dhs_pay V c t _ _ _).trans (congrArg (DHS V c _) (Fin.ext (scol_val q k 1 hq))))
  refine canon_slab_step _ _ _ _ _ _ _ (fun hq => ?_) fun h0 => ?_
  · exact (slab0 _ _ _ _).trans ((dhs_pay V c t _ _ _).trans (congrArg (DHS V c _) (Fin.ext (scol_val q k 0 hq))))
  omega

theorem fin1_11 : (dat1 V c).arrAt 11 cfg1.N = fun j : S12x8192x128.Idx => DHS V c (j 1) (scol (j 0) (j 2)) := by
  refine (dat1 V c).arrAt_eq_of_covers 11 _ (by decide +kernel) fun t hf y => ?_
  blk_simp
  refine Eq.trans (b := DHS V c (brow t (y 1)) (scol (y 0) (y 2))) ?_ (congrArg₂ (DHS V c) (Fin.ext ?_) (Fin.ext ?_))
  · rw [after1_11]
    by_cases h : t.val % 16 = 0
    · exact (congrArg _ (eq_ix3 _)).trans (slab_A V c t h _ _ _)
    · exact (congrArg _ (eq_ix3 _)).trans (slab_B V c t h _ _ _)
  · blk_simp [idx1 t]
  · refine congrArg₂ (fun a b : ℕ => a * 128 + b) ?_ ?_ <;> blk_simp [idx1 t]

end Cert.RnnPostIdeal.Val
end
-- ==== Proof.RnnPostVal3.lean ====
module

public import proofs.«01_k».proof.Proof.RnnPostVal1

@[expose] public section

set_option maxRecDepth 16384

noncomputable section
namespace Cert.RnnPostIdeal.Val
open Idealize.ShloMosaic Idealize.ShloMosaic.TcCoe Idealize.SL.Sem
open Cert.RnnPostIdeal Cert.RnnPostIdeal.Gen Cert.LN Cert.Rows

variable (V : (c : Dev nD) → (b : Ref sig .tc) → Buf (Elt Ideal) ((c : Thread nD τ).loc b)) (c : Dev nD)

/-- What the rows of block `t` add to the row sums. -/
def S10 (t : ℕ) (h : t < cfg1.N) (j : S8x1024.Idx) : EReal :=
  if (j 0).val = 4 then ∑ x, ctr V c (brow ⟨t, h⟩ x) (j 1)
  else if (j 0).val = 3 then ∑ x, ctr V c (brow ⟨t, h⟩ x) (j 1) * xhat (zr V c (yr V c) (brow ⟨t, h⟩ x)) (j 1)
  else if (j 0).val = 2 then ∑ x, DZ V c (brow ⟨t, h⟩ x) (j 1) * yr V c (brow ⟨t, h⟩ x) (j 1)
  else 0

variable (t : Fin cfg1.N) (h : RowFits 12 1024 8) (acc : FVec Ideal S1x1024 .f32) (k : Fin 1024)
theorem row4_pay : k1_pay12 (F := Ideal) (k1_pay3 (iblk1 V c 0 t)) acc (ix2 0 k) = acc (ix2 0 k) + ∑ x, ctr V c (brow t x) k := by
  pointwise [k1_pay12, k1_pay3, blk_ct]
theorem row3_pay : k1_pay11 (F := Ideal) (k1_pay3 (iblk1 V c 0 t)) (p7 V c t h) acc (ix2 0 k)
    = acc (ix2 0 k) + ∑ x, ctr V c (brow t x) k * xhat (zr V c (yr V c) (brow t x)) k := by
  generalize h7 : p7 V c t h = q7
  pointwise [k1_pay11, k1_pay3, blk_ct]
  subst h7
  simp only [xh_pay]
theorem row2_pay : k1_pay10 (F := Ideal) (k1_pay4 (iblk1 V c 2 t)) (p6 V c t h) (p7 V c t h) (p8 V c t) acc (ix2 0 k)
    = acc (ix2 0 k) + ∑ x, DZ V c (brow t x) k * yr V c (brow t x) k := by
  pointwise [k1_pay10, k1_pay4, blk_y]
  exact Ideal.add_congr rfl (Finset.sum_congr rfl fun x _ => Ideal.mul_congr (dz_pay V c t h x k) rfl)

theorem reset10 (t : Fin cfg1.N) (h : t.val % 16 = 0) (j : S8x1024.Idx) : (outsAt1 V c t.val t.isLt).2.2.1 j = 0 + S10 V c t.val t.isLt j := by
  rw [outsAt1_A V c t h]
  frame_out
  simp only [canon_row, S10]
  split_ifs with h4 h3 h2
  · refine (row4_pay V c t _ _).trans (Ideal.add_congr ?_ rfl)
    pointwise [readCov_row, canon_row, canon_whole, k1_pay1]
  · refine (row3_pay V c t _ _ _).trans (Ideal.add_congr ?_ rfl)
    pointwise [readCov_row, canon_row, canon_whole, k1_pay1]
  · refine (row2_pay V c t _ _ _).trans (Ideal.add_congr ?_ rfl)
    pointwise [readCov_row, canon_row, canon_whole, k1_pay1]
  · pointwise [k1_pay1, canon_whole]
theorem step10 (t : Fin cfg1.N) (h : ¬ t.val % 16 = 0) (j : S8x1024.Idx) : (outsAt1 V c t.val t.isLt).2.2.1 j
    = (outsAt1 V c (t.val - 1) (Nat.lt_of_le_of_lt (Nat.sub_le _ _) t.isLt)).2.2.1 j + S10 V c t.val t.isLt j := by
  rw [outsAt1_B V c t h]
  frame_out
  simp only [read_writes_row, S10]
  split_ifs with h4 h3 h2
  · refine (row4_pay V c t _ _).trans (Ideal.add_congr ?_ rfl)
    pointwise [rowIx, ix2_row j 4 h4]
  · refine (row3_pay V c t _ _ _).trans (Ideal.add_congr ?_ rfl)
    pointwise [rowIx, ix2_row j 3 h3]
  · refine (row2_pay V c t _ _ _).trans (Ideal.add_congr ?_ rfl)
    pointwise [rowIx, ix2_row j 2 h2]
  · rw [add_zero]
    exact congrFun (Memref.IsWhole.read_unread ..) j

theorem fin1_10 : (dat1 V c).arrAt 10 cfg1.N = fun j => ∑ t : Fin cfg1.N, S10 V c t.val t.isLt j := by
  refine (dat1 V c).arrAt_eq_of_after_last 10 t1_15 (by decide +kernel) _ fun j => ?_
  blk_simp
  rw [after1_10, Pipeline.eq_sum_fin_of_reset_step_apply_last (fun n h => (outsAt1 V c n h).2.2.1) 16 (fun _ => 0)
    (fun t j => S10 V c t.val t.isLt j) (reset10 V c) (step10 V c) (le_of_eq N_1) t1_15 rfl j, zero_add]

end Cert.RnnPostIdeal.Val
end
-- ==== Proof.RnnPostArgs.lean ====
module

public import proofs.«01_k».proof.Proof.RnnPostVal2
public import proofs.«01_k».proof.Proof.RnnPostVal3
public import Idealize.ShloMosaic.Lib.StableHlo.ReadAt
public import proofs.«01_k».proof.Proof.RnnPostRun

@[expose] public section

set_option maxRecDepth 16384

noncomputable section
namespace Cert.RnnPostIdeal.Val
open Idealize.ShloMosaic Idealize.ShloMosaic.TcCoe Idealize.SL.Sem
open Cert.RnnPostIdeal Cert.RnnPostIdeal.Gen

variable (m : (ℓ : Loc nD τ sig) → Buf (Elt Ideal) ℓ) (ρ : Dev nD → PrngReg) (c : Dev nD)

abbrev A0 : S1x8192x1024.Idx → EReal := m ((c.tc : Thread nD τ).loc main_arg0)
abbrev A1 : S1x8192x1024.Idx → EReal := m ((c.tc : Thread nD τ).loc main_arg1)
abbrev A2 : S1x8192x1536.Idx → EReal := m ((c.tc : Thread nD τ).loc main_arg2)
abbrev A3 : S1x8192x1536.Idx → EReal := m ((c.tc : Thread nD τ).loc main_arg3)
abbrev A4 : S1x3072.Idx → EReal := m ((c.tc : Thread nD τ).loc main_arg4)
abbrev A5 : S1536x1024.Idx → EReal := m ((c.tc : Thread nD τ).loc main_arg5)
abbrev A6 : S1024.Idx → EReal := m ((c.tc : Thread nD τ).loc main_arg6)
abbrev A7 : S1024.Idx → EReal := m ((c.tc : Thread nD τ).loc main_arg7)

theorem x3 : X (V3 m ρ) c = fun j => A1 m c (ix3 0 (j 0) (j 1)) := by
  funext j
  show W3 m ρ c (Proc.devRef .tc main_v5) j = _
  unfold W3
  after_reads_at
theorem gt3 : GT (V3 m ρ) c = fun j => A3 m c (ix3 0 (j 0) (j 1)) := by
  funext j
  show W3 m ρ c (Proc.devRef .tc main_v7) j = _
  unfold W3
  after_reads_at
theorem hs3 : HS (V3 m ρ) c = fun j => A2 m c (ix3 0 (j 0) (j 1)) := by
  funext j
  show W3 m ρ c (Proc.devRef .tc main_v9) j = _
  unfold W3
  after_reads_at
theorem g3 : LNG (V3 m ρ) c = fun j => A6 m c (ix1 (j 1)) := by
  funext j
  show W3 m ρ c (Proc.devRef .tc main_v3) j = _
  unfold W3
  after_reads_at
theorem b3 : LNB (V3 m ρ) c = fun j => A7 m c (ix1 (j 1)) := by
  funext j
  show W3 m ρ c (Proc.devRef .tc main_v4) j = _
  unfold W3
  after_reads_at
theorem w3 : W (V3 m ρ) c = A5 m c := by
  funext j
  show W3 m ρ c (Proc.devRef .tc main_v2) j = _
  unfold W3
  after_reads_at
theorem gate3 (k : Fin 1024) : MODS (V3 m ρ) c (ix2 8 k) = RnnPostFun.gate (A4 m c) k := by
  show W3 m ρ c _ _ = _
  rw [W3_of _ _ _ _ (by decide)]
  unfold Gen.W2 Gen.W1 RnnPostFun.gate
  after_reads_at

/-- A buffer that the first region and the line after it leave as it was. -/
theorem V5_eq (b : Ref sig .tc) (h : b ∉ hostOps1_W) (h' : ∀ w : Fin cfg0.W, Pipeline.arrRef spec0 w = b → (cfg0.win w).isOut = false) :
    V5 m ρ c b = V3 m ρ c b :=
  (W5_of m ρ c b h).trans (W4_of m ρ c b h')
theorem ct5 : CT (V5 m ρ) c = fun j => A0 m c (ix3 0 (j 0) (j 1)) := by
  funext j
  show W5 m ρ c (Proc.devRef .tc main_v11) j = _
  unfold W5
  after_reads_at
  exact congrFun (W4_args m ρ c main_arg0 (by decide)) _

theorem x5 : X (V5 m ρ) c = fun j => A1 m c (ix3 0 (j 0) (j 1)) := (V5_eq m ρ c _ (by decide) (by decide)).trans (x3 m ρ c)
theorem gt5 : GT (V5 m ρ) c = fun j => A3 m c (ix3 0 (j 0) (j 1)) := (V5_eq m ρ c _ (by decide) (by decide)).trans (gt3 m ρ c)
theorem hs5 : HS (V5 m ρ) c = fun j => A2 m c (ix3 0 (j 0) (j 1)) := (V5_eq m ρ c _ (by decide) (by decide)).trans (hs3 m ρ c)
theorem g5 : LNG (V5 m ρ) c = fun j => A6 m c (ix1 (j 1)) := (V5_eq m ρ c _ (by decide) (by decide)).trans (g3 m ρ c)
theorem w5 : W (V5 m ρ) c = A5 m c := (V5_eq m ρ c _ (by decide) (by decide)).trans (w3 m ρ c)
theorem gate5 (k : Fin 1024) : MODS (V5 m ρ) c (ix2 8 k) = RnnPostFun.gate (A4 m c) k :=
  (congrFun (V5_eq m ρ c main_v1 (by decide) (by decide)) _).trans (gate3 m ρ c k)

theorem yp3 (r : Fin 8192) (k : Fin 1536) : YP (V3 m ρ) c r k = RnnPostFun.yp (A2 m c) (A3 m c) r k := by
  unfold YP RnnPostFun.yp
  rw [gt3, hs3]
  rfl
theorem y3 (r : Fin 8192) (k : Fin 1024) : Y0 (V3 m ρ) c r k = RnnPostFun.y (A2 m c) (A3 m c) (A5 m c) r k := by
  unfold Y0 RnnPostFun.y
  rw [w3]
  exact Finset.sum_congr rfl fun i _ => Ideal.mul_congr (yp3 m ρ c r i) rfl
theorem y5 (r : Fin 8192) (k : Fin 1024) : yr (V5 m ρ) c r k = RnnPostFun.y (A2 m c) (A3 m c) (A5 m c) r k :=
  (congrFun (((W5_of m ρ c main_v10_1 (by decide)).trans (W4_arr m ρ c 8)).trans (fin0_8 (V3 m ρ) c)) _).trans (y3 m ρ c r k)
theorem z3 (r : Fin 8192) : zr (V3 m ρ) c (Y0 (V3 m ρ) c) r = RnnPostFun.z (A1 m c) (A2 m c) (A3 m c) (A4 m c) (A5 m c) r := by
  funext k
  unfold zr RnnPostFun.z
  rw [gate3, y3, x3]
  rfl
theorem z5 (r : Fin 8192) : zr (V5 m ρ) c (yr (V5 m ρ) c) r = RnnPostFun.z (A1 m c) (A2 m c) (A3 m c) (A4 m c) (A5 m c) r := by
  funext k
  unfold zr RnnPostFun.z
  rw [gate5, y5, x5]
  rfl
theorem d5 (r : Fin 8192) : dr (V5 m ρ) c r = RnnPostFun.d (A0 m c) (A6 m c) r := by
  funext k
  unfold dr ctr RnnPostFun.d
  rw [ct5, g5]
  rfl
theorem dz5 (r : Fin 8192) (k : Fin 1024) : DZ (V5 m ρ) c r k = RnnPostFun.dz (A0 m c) (A1 m c) (A2 m c) (A3 m c) (A4 m c) (A5 m c) (A6 m c) r k := by
  unfold DZ RnnPostFun.dz
  rw [z5, d5]

/-! ## The results -/

theorem x1_3 (r : Fin 8192) (k : Fin 1024) : X1 (V3 m ρ) c r k = RnnPostFun.x1 (A1 m c) (A2 m c) (A3 m c) (A4 m c) (A5 m c) (A6 m c) (A7 m c) r k := by
  unfold X1 RnnPostFun.x1
  rw [z3, g3, b3]
  rfl
theorem dres5 (r : Fin 8192) (k : Fin 1024) : G8 (V5 m ρ) c r k = RnnPostFun.dres (A0 m c) (A1 m c) (A2 m c) (A3 m c) (A4 m c) (A5 m c) (A6 m c) r k := by
  unfold G8 RnnPostFun.dres
  rw [dz5]
theorem dy5 (r : Fin 8192) (k : Fin 1024) : G9 (V5 m ρ) c r k = RnnPostFun.dy (A0 m c) (A1 m c) (A2 m c) (A3 m c) (A4 m c) (A5 m c) (A6 m c) r k := by
  unfold G9 RnnPostFun.dy
  rw [dz5, gate5]
theorem dyp5 (r : Fin 8192) (k : Fin 1536) : DYP (V5 m ρ) c r k = RnnPostFun.dyp (A0 m c) (A1 m c) (A2 m c) (A3 m c) (A4 m c) (A5 m c) (A6 m c) r k := by
  unfold DYP RnnPostFun.dyp
  rw [w5]
  exact Finset.sum_congr rfl fun k _ => Ideal.mul_congr (dy5 m ρ c _ _) rfl
theorem dhs5 (r : Fin 8192) (k : Fin 1536) : DHS (V5 m ρ) c r k = RnnPostFun.dhs (A0 m c) (A1 m c) (A2 m c) (A3 m c) (A4 m c) (A5 m c) (A6 m c) r k := by
  unfold DHS RnnPostFun.dhs
  rw [dyp5, gt5]
  rfl
theorem dgt5 (r : Fin 8192) (k : Fin 1536) : DGT (V5 m ρ) c r k = RnnPostFun.dgt (A0 m c) (A1 m c) (A2 m c) (A3 m c) (A4 m c) (A5 m c) (A6 m c) r k := by
  unfold DGT RnnPostFun.dgt
  rw [dyp5, gt5, hs5]
  rfl
/-- The rows of the blocks are the rows of the array. -/
theorem sum_rows (f : Fin 8192 → EReal) : ∑ t : Fin cfg1.N, ∑ x : Fin 512, f (brow t x) = ∑ r, f r := (Fin.sum_univ_tiles 16 512 rfl f).symm
theorem sums5 (a : Fin 8) (k : Fin 1024) : ∑ t : Fin cfg1.N, S10 (V5 m ρ) c t.val t.isLt (ix2 a k) = RnnPostFun.sums (A0 m c) (A1 m c) (A2 m c) (A3 m c) (A4 m c) (A5 m c) (A6 m c) a k := by
  unfold S10 RnnPostFun.sums
  by_cases h4 : a.val = 4
  · rw [if_pos h4]
    refine (Finset.sum_congr rfl fun t _ => (if_pos h4).trans ?_).trans (sum_rows fun r => A0 m c (ix3 0 r k))
    exact Finset.sum_congr rfl fun x _ => by unfold ctr; rw [ct5]; rfl
  by_cases h3 : a.val = 3
  · rw [if_neg h4, if_pos h3]
    refine (Finset.sum_congr rfl fun t _ => ((if_neg h4).trans (if_pos h3)).trans ?_).trans
      (sum_rows fun r => A0 m c (ix3 0 r k) * LN.xhat (RnnPostFun.z (A1 m c) (A2 m c) (A3 m c) (A4 m c) (A5 m c) r) k)
    exact Finset.sum_congr rfl fun x _ => by unfold ctr; rw [ct5, z5]; rfl
  by_cases h2 : a.val = 2
  · rw [if_neg h4, if_neg h3, if_pos h2]
    refine (Finset.sum_congr rfl fun t _ => ((if_neg h4).trans ((if_neg h3).trans (if_pos h2))).trans ?_).trans
      (sum_rows fun r => RnnPostFun.dz (A0 m c) (A1 m c) (A2 m c) (A3 m c) (A4 m c) (A5 m c) (A6 m c) r k * RnnPostFun.y (A2 m c) (A3 m c) (A5 m c) r k)
    exact Finset.sum_congr rfl fun x _ => Ideal.mul_congr (dz5 m ρ c _ _) (y5 m ρ c _ _)
  rw [if_neg h4, if_neg h3, if_neg h2]
  exact (Finset.sum_congr rfl fun t _ => (if_neg h4).trans ((if_neg h3).trans (if_neg h2))).trans Finset.sum_const_zero

theorem out_x1 : W7 m ρ c (Proc.devRef .tc main_v10_0) = fun j => RnnPostFun.x1 (A1 m c) (A2 m c) (A3 m c) (A4 m c) (A5 m c) (A6 m c) (A7 m c) (j 0) (j 1) := by
  rw [W7_of m ρ c main_v10_0 (by decide), W6_of m ρ c main_v10_0 (by decide), W5_of m ρ c main_v10_0 (by decide)]
  exact ((W4_arr m ρ c 7).trans (fin0_7 (V3 m ρ) c)).trans (funext fun j => x1_3 m ρ c _ _)
theorem out_yp : W7 m ρ c (Proc.devRef .tc main_v10_2) = fun j => RnnPostFun.yp (A2 m c) (A3 m c) (j 0) (j 1) := by
  rw [W7_of m ρ c main_v10_2 (by decide), W6_of m ρ c main_v10_2 (by decide), W5_of m ρ c main_v10_2 (by decide)]
  exact ((W4_arr m ρ c 9).trans (fin0_9 (V3 m ρ) c)).trans (funext fun j => yp3 m ρ c _ _)
theorem out_dres : W7 m ρ c (Proc.devRef .tc main_v12_0) = fun j => RnnPostFun.dres (A0 m c) (A1 m c) (A2 m c) (A3 m c) (A4 m c) (A5 m c) (A6 m c) (j 0) (j 1) :=
  (W7_of m ρ c main_v12_0 (by decide)).trans (((W6_arr m ρ c 8).trans (fin1_8 (V5 m ρ) c)).trans (funext fun j => dres5 m ρ c _ _))
theorem out_dy : W7 m ρ c (Proc.devRef .tc main_v12_1) = fun j => RnnPostFun.dy (A0 m c) (A1 m c) (A2 m c) (A3 m c) (A4 m c) (A5 m c) (A6 m c) (j 0) (j 1) :=
  (W7_of m ρ c main_v12_1 (by decide)).trans (((W6_arr m ρ c 9).trans (fin1_9 (V5 m ρ) c)).trans (funext fun j => dy5 m ρ c _ _))
theorem out_sums : W7 m ρ c (Proc.devRef .tc main_v12_2) = fun j => RnnPostFun.sums (A0 m c) (A1 m c) (A2 m c) (A3 m c) (A4 m c) (A5 m c) (A6 m c) (j 0) (j 1) :=
  (W7_of m ρ c main_v12_2 (by decide)).trans (((W6_arr m ρ c 10).trans (fin1_10 (V5 m ρ) c)).trans (funext fun j => sums5 m ρ c (j 0) (j 1)))
theorem out_dgt : W7 m ρ c (Proc.devRef .tc main_v12_4) = fun j => RnnPostFun.dgt (A0 m c) (A1 m c) (A2 m c) (A3 m c) (A4 m c) (A5 m c) (A6 m c) (j 0) (j 1) :=
  (W7_of m ρ c main_v12_4 (by decide)).trans (((W6_arr m ρ c 12).trans (fin1_12 (V5 m ρ) c)).trans (funext fun j => dgt5 m ρ c _ _))
theorem out_dhs : W7 m ρ c (Proc.devRef .tc main_v14) = fun j => RnnPostFun.dhs (A0 m c) (A1 m c) (A2 m c) (A3 m c) (A4 m c) (A5 m c) (A6 m c) (j 0) (j 1) := by
  funext j
  unfold W7
  after_reads_at
  have hs : ∀ i : S12x8192x128.Idx, W6 m ρ c (Proc.devRef .tc main_v12_3) i = DHS (V5 m ρ) c (i 1) (scol (i 0) (i 2)) :=
    fun i => congrFun ((W6_arr m ρ c 11).trans (fin1_11 (V5 m ρ) c)) i
  refine ((hs _).trans (dhs5 m ρ c _ _)).trans (congrArg _ (Fin.ext ?_))
  exact Nat.div_add_mod' (j 1).val 128

end Cert.RnnPostIdeal.Val
end
-- ==== Proof.RnnPostGelu.lean ====
module

public import proofs.«01_k».proof.Proof.RnnPostFun
public import proofs.«01_k».proof.Proof.Reals

@[expose] public section

set_option maxRecDepth 16384

noncomputable section

/-! The activation and its derivative, in the order in which the reference computes them. -/

namespace Cert

open Idealize.ShloMosaic

theorem LN.lnb_real {z d : Fin 1024 → EReal} (hz : ∀ k, IsReal (z k)) (hd : ∀ k, IsReal (d k)) (k : Fin 1024) : IsReal (LN.lnb z d k) := by
  have h1024 : (LN.c1024 : EReal) = ((1024 : ℝ) : EReal) := by simp [Ideal.ofBits, Ideal.ieee, -EReal.coe_mul]; norm_num
  have hm {u : Fin 1024 → EReal} (hu : ∀ k, IsReal (u k)) : IsReal (LN.mean u) := by
    unfold LN.mean
    rw [h1024, Ideal.div_coe (by norm_num)]
    exact (IsReal.sum hu).mul ⟨_, rfl⟩
  have hr : IsReal (LN.rstd z) := by
    choose ζ ez using hz
    rw [funext ez]
    obtain ⟨s, hs, _⟩ := LN.rstd_coe ζ
    exact ⟨_, hs⟩
  have hx := LN.xhat_real hz
  exact hr.mul (((hd k).sub (hm hd)).sub ((hx k).mul (hm fun x => (hd x).mul (hx x))))

namespace RnnPostFun

theorem half_coe : half = ((1 / 2 : ℝ) : EReal) := by simp [Ideal.ofBits, Ideal.ieee, -EReal.coe_mul]; norm_num
theorem root_real : IsReal root := ⟨_, by simp [Ideal.ofBits, Ideal.ieee, -EReal.coe_mul]; rfl⟩
theorem mil : Ideal.ofBits .f32 0x49742400#32 = ((1000000 : ℝ) : EReal) := by simp [Ideal.ofBits, Ideal.ieee, -EReal.coe_mul]; norm_num
theorem num : Ideal.ofBits .f32 0x472EAB00#32 = ((44715 : ℝ) : EReal) := by simp [Ideal.ofBits, Ideal.ieee, -EReal.coe_mul]; norm_num
theorem three : Ideal.ofBits .f32 0x40400000#32 = ((3 : ℝ) : EReal) := by simp [Ideal.ofBits, Ideal.ieee, -EReal.coe_mul]; norm_num

theorem th_eq (v : EReal) :
    Ideal.tanh (root * (v + Ideal.div (Ideal.ofBits .f32 0x472EAB00#32 * (v * v * v)) (Ideal.ofBits .f32 0x49742400#32))) = th v := by
  unfold th
  rw [mil, num, Ideal.div_coe (by norm_num), mul_right_comm, ← EReal.coe_mul, ← mul_assoc, ← mul_assoc,
    show (44715 * (1 / 1000000) : ℝ) = 8943 / 200000 by norm_num]
theorem act_eq (v : EReal) : v * (half * (1 + th v)) = act v := by
  unfold act
  rw [mul_left_comm, mul_assoc]
theorem th_real {v : EReal} (h : IsReal v) : IsReal (th v) := by
  obtain ⟨r, rfl⟩ := h
  obtain ⟨s, hs⟩ := root_real
  unfold th
  rw [hs]
  exact ⟨_, by rw [← EReal.coe_mul, ← EReal.coe_mul, ← EReal.coe_mul, ← EReal.coe_add, ← EReal.coe_mul, Ideal.tanh_coe]⟩
theorem act_real {v : EReal} (h : IsReal v) : IsReal (act v) := by
  unfold act
  rw [half_coe]
  exact (IsReal.mul ⟨_, rfl⟩ h).mul (IsReal.one.add (th_real h))

/-- The reference's gradient of the branch is the derivative times what meets it. -/
theorem dact_eq {s d v : EReal} (hs : IsReal s) (hd : IsReal d) (hv : IsReal v) :
    s * d * (half * (1 + th v)) + root * (half * (v * (s * d)) * ((1 + th v) * (1 - th v)))
      + Ideal.ofBits .f32 0x472EAB00#32 * Ideal.div (root * (half * (v * (s * d)) * ((1 + th v) * (1 - th v)))) (Ideal.ofBits .f32 0x49742400#32)
        * (Ideal.ofBits .f32 0x40400000#32 * (v * v))
    = d * s * dact v := by
  obtain ⟨t, ht⟩ := th_real hv
  obtain ⟨q, hq⟩ := root_real
  obtain ⟨s, rfl⟩ := hs
  obtain ⟨d, rfl⟩ := hd
  obtain ⟨v, rfl⟩ := hv
  unfold dact
  rw [mil, num, three, ht, hq, half_coe, Ideal.div_coe (by norm_num), show (1 : EReal) = ((1 : ℝ) : EReal) from rfl]
  simp only [← EReal.coe_mul, ← EReal.coe_add, ← EReal.coe_sub]
  congr 1
  ring

end RnnPostFun
end Cert
end
-- ==== Proof.RnnPostRef.lean ====
module

public import proofs.«01_k».proof.Proof.Gen.RnnPostRefIdeal.Read
public import proofs.«01_k».proof.Proof.Unit
public import proofs.«01_k».proof.Proof.RnnPostGelu
public import proofs.«01_k».proof.Proof.RnnPostFun

@[expose] public section

set_option maxRecDepth 16384

noncomputable section

/-! The reference of the recurrent sublayer's end, read at coordinates. -/

namespace Cert.RnnPostRefIdeal.Val

open Idealize.ShloMosaic Idealize.ShloMosaic.TcCoe Idealize.SL.Sem Idealize.ShloMosaic.StableHlo
open Cert.RnnPostRefIdeal Cert.RnnPostRefIdeal.Gen Cert.RnnPostRefIdeal.Read

variable (x0 x1 : S1x8192x1024.Idx → EReal) (x2 x3 : S1x8192x1536.Idx → EReal) (x4 : S1x3072.Idx → EReal) (x5 : S1536x1024.Idx → EReal)
  (x6 x7 : S1024.Idx → EReal) (i : S1x8192x1024.Idx)

theorem eta : (ix3 0 (i 1) (i 2) : S1x8192x1024.Idx) = i := by
  refine funext fun a => ?_
  match a with
  | ⟨0, _⟩ => exact Subsingleton.elim (α := Fin 1) _ _
  | ⟨1, _⟩ => rfl
  | ⟨2, _⟩ => rfl

theorem eta' (p : S1x8192x1536.Idx) : (ix3 0 (p 1) (p 2) : S1x8192x1536.Idx) = p := by
  refine funext fun a => ?_
  match a with
  | ⟨0, _⟩ => exact Subsingleton.elim (α := Fin 1) _ _
  | ⟨1, _⟩ => rfl
  | ⟨2, _⟩ => rfl

variable (p : S1x8192x1536.Idx)
theorem t_ : (val_main_v18 (F := Ideal) x3 : S1x8192x1536.Idx → EReal) p = RnnPostFun.th (x3 p) := by
  pointwise [val_main_v18, val_main_v17, val_main_v16, val_main_v15, val_main_v14, val_main_v13, val_main_v12, val_main_v11, val_main_v7, val_main_v6,
    val_main_cst_0, val_main_cst_1, val_main_cst_2]
  exact RnnPostFun.th_eq (x3 p)
theorem act_ : (val_main_v28 (F := Ideal) x3 : S1x8192x1536.Idx → EReal) p = RnnPostFun.act (x3 p) := by
  pointwise [val_main_v28, val_main_v27, val_main_v26, val_main_v25, val_main_v24, val_main_cst_5, val_main_cst_6, t_]
  exact RnnPostFun.act_eq (x3 p)
theorem yp_ : (val_main_v29 (F := Ideal) x2 x3 : S1x8192x1536.Idx → EReal) p = RnnPostFun.yp x2 x3 (p 1) (p 2) := by
  pointwise [val_main_v29, act_, RnnPostFun.yp, eta' p]

theorem y_ : (val_main_v30 (F := Ideal) x2 x3 x5 : S1x8192x1024.Idx → EReal) i = RnnPostFun.y x2 x3 x5 (i 1) (i 2) := by
  pointwise [val_main_v30, yp_, RnnPostFun.y]

theorem z_ : (val_main_v37 (F := Ideal) x1 x2 x3 x4 x5 : S1x8192x1024.Idx → EReal) i = RnnPostFun.z x1 x2 x3 x4 x5 (i 1) (i 2) := by
  pointwise [val_main_v37, val_main_v36, val_main_v35, val_main_v34, val_main_v33, val_main_v32, val_main_v31, val_main_v5, val_main_v2,
    val_main_cst_7, val_main_cst_8, y_, RnnPostFun.z, RnnPostFun.gate, eta i]

theorem mean_ (j : S1x8192x1.Idx) : (val_main_v41 (F := Ideal) x1 x2 x3 x4 x5 : S1x8192x1.Idx → EReal) j = LN.mean (RnnPostFun.z x1 x2 x3 x4 x5 (j 1)) := by
  pointwise [val_main_v41, val_main_v40, val_main_v39, val_main_v38, val_main_cst_9, val_main_cst_10, z_, LN.mean]

theorem db_ (j : S1024.Idx) : (val_main_v70 (F := Ideal) x0 : S1024.Idx → EReal) j = ∑ r : Fin 8192, x0 (ix3 0 r (j 0)) := by
  pointwise [val_main_v70, val_main_v69,val_main_v68, val_main_cst_16, val_main_cst_17, UnitAxes.red01]

variable (j : S1x8192x1.Idx)
theorem cen_ : (val_main_v43 (F := Ideal) x1 x2 x3 x4 x5 : S1x8192x1024.Idx → EReal) i = LN.cen (RnnPostFun.z x1 x2 x3 x4 x5 (i 1)) (i 2) := by
  pointwise [val_main_v43, val_main_v42, z_, mean_, LN.cen]
theorem cen2_ : (val_main_v52 (F := Ideal) x1 x2 x3 x4 x5 : S1x8192x1024.Idx → EReal) i = LN.cen (RnnPostFun.z x1 x2 x3 x4 x5 (i 1)) (i 2) := by
  pointwise [val_main_v52, val_main_v51, z_, mean_, LN.cen]
theorem ve_ : (val_main_v54 (F := Ideal) x1 x2 x3 x4 x5 : S1x8192x1.Idx → EReal) j
    = Ideal.div (∑ x, LN.cen (RnnPostFun.z x1 x2 x3 x4 x5 (j 1)) x * LN.cen (RnnPostFun.z x1 x2 x3 x4 x5 (j 1)) x) LN.c1024 + LN.eps := by
  pointwise [val_main_v54, val_main_v53, val_main_v50, val_main_v49, val_main_v48, val_main_v47, val_main_v44, cen_, val_main_cst_12, val_main_cst_13, val_main_cst_14]
theorem rstd_ : (val_main_v55 (F := Ideal) x1 x2 x3 x4 x5 : S1x8192x1.Idx → EReal) j = LN.rstd (RnnPostFun.z x1 x2 x3 x4 x5 (j 1)) := by
  pointwise [val_main_v55, ve_, LN.rstd]
theorem xhat_ : (val_main_v60 (F := Ideal) x1 x2 x3 x4 x5 : S1x8192x1024.Idx → EReal) i = LN.xhat (RnnPostFun.z x1 x2 x3 x4 x5 (i 1)) (i 2) := by
  pointwise [val_main_v60, val_main_v59, cen2_, rstd_, LN.xhat]
theorem x1_ : (val_main_v66 (F := Ideal) x1 x2 x3 x4 x5 x6 x7 : S1x8192x1024.Idx → EReal) i = RnnPostFun.x1 x1 x2 x3 x4 x5 x6 x7 (i 1) (i 2) := by
  pointwise [val_main_v66, val_main_v65, val_main_v64, val_main_v63, val_main_v62, val_main_v61, xhat_, RnnPostFun.x1]
theorem d_ : (val_main_v75 (F := Ideal) x0 x6 : S1x8192x1024.Idx → EReal) i = RnnPostFun.d x0 x6 (i 1) (i 2) := by
  pointwise [val_main_v75, val_main_v74, val_main_v67, val_main_v61, RnnPostFun.d, eta i]
theorem dg_ (j : S1024.Idx) : (val_main_v76 (F := Ideal) x0 x1 x2 x3 x4 x5 : S1024.Idx → EReal) j
    = ∑ r : Fin 8192, x0 (ix3 0 r (j 0)) * LN.xhat (RnnPostFun.z x1 x2 x3 x4 x5 r) (j 0) := by
  pointwise [val_main_v76, val_main_v73,val_main_v72, val_main_v71, val_main_v67, val_main_cst_18, val_main_cst_19, UnitAxes.red01, xhat_, mul_comm]
theorem dvar_ : (val_main_v90 (F := Ideal) x0 x1 x2 x3 x4 x5 x6 : S1x8192x1024.Idx → EReal) i
    = LN.dvar (RnnPostFun.z x1 x2 x3 x4 x5 (i 1)) (RnnPostFun.d x0 x6 (i 1)) := by
  pointwise [val_main_v90, val_main_v89, val_main_v88, val_main_v87, val_main_v86, val_main_v82, val_main_v79, val_main_v78, val_main_v77,
    val_main_v58, val_main_v57, val_main_v56, rstd_, ve_, d_, cen2_, val_main_cst_15, val_main_cst_20, val_main_cst_22, val_main_cst_23, UnitAxes.red02, LN.dvar]
theorem chain_ : (val_main_v102 (F := Ideal) x0 x1 x2 x3 x4 x5 x6 : S1x8192x1024.Idx → EReal) i
    = LN.chain (RnnPostFun.z x1 x2 x3 x4 x5 (i 1)) (RnnPostFun.d x0 x6 (i 1)) (i 2) := by
  pointwise [val_main_v102, val_main_v101, val_main_v100, val_main_v99, val_main_v98, val_main_v97, val_main_v96, val_main_v95, val_main_v94,
    val_main_v93, val_main_v92, val_main_v91, val_main_v85, val_main_v84, val_main_v83, val_main_v81, val_main_v80, val_main_v46, val_main_v45,
    val_main_cst_11, val_main_cst_21, val_main_cst_24, val_main_cst_25, val_main_cst_26,
    dvar_, cen_, d_, rstd_, UnitAxes.red02, LN.chain]

end Cert.RnnPostRefIdeal.Val
end
-- ==== Proof.RnnPostRef2.lean ====
module

public import proofs.«01_k».proof.Proof.RnnPostRef

@[expose] public section

set_option maxRecDepth 16384

noncomputable section

/-! The results of the reference of the recurrent sublayer's end. -/

namespace Cert.RnnPostRefIdeal.Val

open Idealize.ShloMosaic Idealize.ShloMosaic.TcCoe Idealize.SL.Sem Idealize.ShloMosaic.StableHlo
open Cert.RnnPostRefIdeal Cert.RnnPostRefIdeal.Gen Cert.RnnPostRefIdeal.Read

variable (x0 x1 : S1x8192x1024.Idx → EReal) (x2 x3 : S1x8192x1536.Idx → EReal) (x4 : S1x3072.Idx → EReal) (x5 : S1536x1024.Idx → EReal)
  (x6 x7 : S1024.Idx → EReal) (i : S1x8192x1024.Idx)

/-- The arrays whose entries the gradient reads are real. -/
structure Reals : Prop where
  h0 : ∀ i, IsReal (x0 i)
  h1 : ∀ i, IsReal (x1 i)
  h2 : ∀ i, IsReal (x2 i)
  h3 : ∀ i, IsReal (x3 i)
  h4 : ∀ i, IsReal (x4 i)
  h5 : ∀ i, IsReal (x5 i)
  h6 : ∀ i, IsReal (x6 i)

variable {x0 x1 x2 x3 x4 x5 x6} (h : Reals x0 x1 x2 x3 x4 x5 x6)
include h

theorem z_real (r : Fin 8192) (k : Fin 1024) : IsReal (RnnPostFun.z x1 x2 x3 x4 x5 r k) := by
  have ha : IsReal RnnPostFun.alpha := ⟨_, by simp [Ideal.ofBits, Ideal.ieee, -EReal.coe_mul]; rfl⟩
  exact (ha.mul (h.h1 _)).add ((IsReal.one.add (h.h4 _)).mul (IsReal.sum fun x => ((h.h2 _).mul (RnnPostFun.act_real (h.h3 _))).mul (h.h5 _)))
theorem dz_ : (val_main_v102 (F := Ideal) x0 x1 x2 x3 x4 x5 x6 : S1x8192x1024.Idx → EReal) i
    = RnnPostFun.dz x0 x1 x2 x3 x4 x5 x6 (i 1) (i 2) := by
  rw [chain_]
  exact LN.lnb_chain (z_real h _) (fun k => (h.h0 _).mul (h.h6 _)) _

theorem dy_ : (val_main_v104 (F := Ideal) x0 x1 x2 x3 x4 x5 x6 : S1x8192x1024.Idx → EReal) i
    = RnnPostFun.dy x0 x1 x2 x3 x4 x5 x6 (i 1) (i 2) := by
  pointwise [val_main_v104, val_main_v103, val_main_v34, val_main_v33, val_main_v5, val_main_v2, val_main_cst_8, dz_ _ h, RnnPostFun.dy, RnnPostFun.gate, mul_comm]

theorem dgate_ (k : Fin 1024) : (val_main_v107 (F := Ideal) x0 x1 x2 x3 x4 x5 x6 : S1x1x1024.Idx → EReal) (ix3 0 0 k)
    = ∑ r : Fin 8192, RnnPostFun.dz x0 x1 x2 x3 x4 x5 x6 r k * RnnPostFun.y x2 x3 x5 r k := by
  pointwise [val_main_v107, val_main_v106, val_main_v105, val_main_cst_27, dz_ _ h, y_]

omit h in
theorem x1_out : (val_main_v133 (F := Ideal) x1 x2 x3 x4 x5 x6 x7 : S8192x1024.Idx → EReal) = fun j => RnnPostFun.x1 x1 x2 x3 x4 x5 x6 x7 (j 0) (j 1) := by
  funext j; pointwise [val_main_v133, x1_]
theorem dres_out : (val_main_v136 (F := Ideal) x0 x1 x2 x3 x4 x5 x6 : S8192x1024.Idx → EReal) = fun j => RnnPostFun.dres x0 x1 x2 x3 x4 x5 x6 (j 0) (j 1) := by
  funext j; pointwise [val_main_v136, val_main_v109, val_main_v108, val_main_cst_28, dz_ _ h, RnnPostFun.dres]
theorem dy_out : (val_main_v138 (F := Ideal) x0 x1 x2 x3 x4 x5 x6 : S8192x1024.Idx → EReal) = fun j => RnnPostFun.dy x0 x1 x2 x3 x4 x5 x6 (j 0) (j 1) := by
  funext j; pointwise [val_main_v138, val_main_v137, dy_ _ h]
theorem dyp_ (p : S1x8192x1536.Idx) : (val_main_v110 (F := Ideal) x0 x1 x2 x3 x4 x5 x6 : S1x8192x1536.Idx → EReal) p
    = RnnPostFun.dyp x0 x1 x2 x3 x4 x5 x6 (p 1) (p 2) := by
  pointwise [val_main_v110, dy_ _ h, RnnPostFun.dyp]
theorem dyp_real (r : Fin 8192) (k : Fin 1536) : IsReal (RnnPostFun.dyp x0 x1 x2 x3 x4 x5 x6 r k) :=
  IsReal.sum fun i => ((LN.lnb_real (z_real h r) (fun k => (h.h0 _).mul (h.h6 _)) i).mul (IsReal.one.add (h.h4 _))).mul (h.h5 _)
theorem dgt_ (p : S1x8192x1536.Idx) : (val_main_v126 (F := Ideal) x0 x1 x2 x3 x4 x5 x6 : S1x8192x1536.Idx → EReal) p
    = RnnPostFun.dgt x0 x1 x2 x3 x4 x5 x6 (p 1) (p 2) := by
  pointwise [val_main_v126, val_main_v125, val_main_v124, val_main_v123, val_main_v122, val_main_v121, val_main_v120, val_main_v119, val_main_v118,
    val_main_v117, val_main_v116, val_main_v115, val_main_v114, val_main_v113, val_main_v111, val_main_v27, val_main_v26, val_main_v25, val_main_v24,
    val_main_v23, val_main_v22, val_main_v21, val_main_v20, val_main_v19, val_main_v10, val_main_v9, val_main_v8,
    val_main_cst, val_main_cst_3, val_main_cst_4, val_main_cst_5, val_main_cst_6, val_main_cst_29, val_main_cst_30, val_main_cst_31, val_main_cst_32,
    t_, dyp_ h]
  refine (RnnPostFun.dact_eq (h.h2 p) (dyp_real h _ _) (h.h3 p)).trans ?_
  unfold RnnPostFun.dgt
  rw [eta' p]
omit h in
theorem yp_out : (val_main_v135 (F := Ideal) x2 x3 : S8192x1536.Idx → EReal) = fun j => RnnPostFun.yp x2 x3 (j 0) (j 1) := by
  funext j; pointwise [val_main_v135, val_main_v134, yp_]
theorem dhs_out : (val_main_v139 (F := Ideal) x0 x1 x2 x3 x4 x5 x6 : S8192x1536.Idx → EReal) = fun j => RnnPostFun.dhs x0 x1 x2 x3 x4 x5 x6 (j 0) (j 1) := by
  funext j; pointwise [val_main_v139, val_main_v112, dyp_ h, act_, RnnPostFun.dhs]
theorem dgt_out : (val_main_v141 (F := Ideal) x0 x1 x2 x3 x4 x5 x6 : S8192x1536.Idx → EReal) = fun j => RnnPostFun.dgt x0 x1 x2 x3 x4 x5 x6 (j 0) (j 1) := by
  funext j; pointwise [val_main_v141, val_main_v140, dgt_ h]
theorem sums_out : (val_main_v132 (F := Ideal) x0 x1 x2 x3 x4 x5 x6 : S8x1024.Idx → EReal) = fun j => RnnPostFun.sums x0 x1 x2 x3 x4 x5 x6 (j 0) (j 1) := by
  funext j
  pointwise [val_main_v132, val_main_v131, val_main_v130, val_main_v129, val_main_v128, val_main_v127, val_main_cst_33, db_, dg_, dgate_ h, RnnPostFun.sums]
  split_ifs <;> first | rfl | omega

end Cert.RnnPostRefIdeal.Val
end
-- ==== Proof.RnnPostPair.lean ====
module

public import proofs.«01_k».proof.Defs
public import proofs.«01_k».proof.Proof.Gen.RnnPost.Frame
public import proofs.«01_k».proof.Proof.Gen.Pre_finite_rnn_post
public import proofs.«01_k».proof.Proof.RnnPostRun
public import proofs.«01_k».proof.Proof.RnnPostArgs
public import proofs.«01_k».proof.Proof.RnnPostRef2
public import Idealize.ShloMosaic.Lib.Claim

@[expose] public section

set_option maxRecDepth 16384

noncomputable section

/-! The recurrent sublayer's end against its reference. -/

namespace Cert.RnnPostPair

open Idealize.ShloMosaic Idealize.ShloMosaic.TcCoe Idealize.SL.Sem

theorem frameP : Cert.quiescent_RnnPost := fun m ρ _ => Cert.RnnPost.Gen.frame m ρ
theorem framePI : Cert.quiescent_RnnPostIdeal := fun m ρ _ => Cert.RnnPostIdeal.Gen.frame m ρ
theorem framePI' : Cert.quiescent_RnnPostIdeal_pre_finite_rnn_post := fun m ρ _ => Cert.RnnPostIdeal.Gen.frame m ρ

section
open Cert.RnnPostIdeal Cert.RnnPostIdeal.Gen Cert.RnnPostIdeal.Arr Cert.RnnPostIdeal.Val

variable (m : (ℓ : Loc nD τ sig) → Buf (Elt Ideal) ℓ) (ρ : Dev nD → PrngReg)

theorem reals (h : Cert.Pre_RnnPostIdeal_finite_rnn_post m) (c : Dev nD) :
    Cert.RnnPostRefIdeal.Val.Reals (A0 m c) (A1 m c) (A2 m c) (A3 m c) (A4 m c) (A5 m c) (A6 m c) where
  h0 := IsReal.of_lt _ _ (h c).1
  h1 := IsReal.of_lt _ _ (h c).2.1
  h2 := IsReal.of_lt _ _ (h c).2.2.1
  h3 := IsReal.of_lt _ _ (h c).2.2.2.1
  h4 := IsReal.of_lt _ _ (h c).2.2.2.2.1
  h5 := IsReal.of_lt _ _ (h c).2.2.2.2.2.1
  h6 := IsReal.of_lt _ _ (h c).2.2.2.2.2.2

theorem runK : θ_run defs (onTc (τ := τ) (main (F := Ideal))) ⟨m, fun _ => 0, ρ⟩ fun r => ∀ c : Dev nD,
    r.2.mem ((c.tc : Thread nD τ).loc main_v10_0) = (fun j : S8192x1024.Idx => RnnPostFun.x1 (A1 m c) (A2 m c) (A3 m c) (A4 m c) (A5 m c) (A6 m c) (A7 m c) (j 0) (j 1))
    ∧ r.2.mem ((c.tc : Thread nD τ).loc main_v10_2) = (fun j : S8192x1536.Idx => RnnPostFun.yp (A2 m c) (A3 m c) (j 0) (j 1))
    ∧ r.2.mem ((c.tc : Thread nD τ).loc main_v12_0) = (fun j : S8192x1024.Idx => RnnPostFun.dres (A0 m c) (A1 m c) (A2 m c) (A3 m c) (A4 m c) (A5 m c) (A6 m c) (j 0) (j 1))
    ∧ r.2.mem ((c.tc : Thread nD τ).loc main_v12_1) = (fun j : S8192x1024.Idx => RnnPostFun.dy (A0 m c) (A1 m c) (A2 m c) (A3 m c) (A4 m c) (A5 m c) (A6 m c) (j 0) (j 1))
    ∧ r.2.mem ((c.tc : Thread nD τ).loc main_v12_2) = (fun j : S8x1024.Idx => RnnPostFun.sums (A0 m c) (A1 m c) (A2 m c) (A3 m c) (A4 m c) (A5 m c) (A6 m c) (j 0) (j 1))
    ∧ r.2.mem ((c.tc : Thread nD τ).loc main_v14) = (fun j : S8192x1536.Idx => RnnPostFun.dhs (A0 m c) (A1 m c) (A2 m c) (A3 m c) (A4 m c) (A5 m c) (A6 m c) (j 0) (j 1))
    ∧ r.2.mem ((c.tc : Thread nD τ).loc main_v12_4) = (fun j : S8192x1536.Idx => RnnPostFun.dgt (A0 m c) (A1 m c) (A2 m c) (A3 m c) (A4 m c) (A5 m c) (A6 m c) (j 0) (j 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  (θ_run defs _ _).mono (fun r h c =>
    have g := fun b hb => h.1 c _ (mem_uc b hb)
    ⟨(g main_v10_0 (by decide)).trans (out_x1 m ρ c),
     (g main_v10_2 (by decide)).trans (out_yp m ρ c),
     (g main_v12_0 (by decide)).trans (out_dres m ρ c),
     (g main_v12_1 (by decide)).trans (out_dy m ρ c),
     (g main_v12_2 (by decide)).trans (out_sums m ρ c),
     (g main_v14 (by decide)).trans (out_dhs m ρ c),
     (g main_v12_4 (by decide)).trans (out_dgt m ρ c),
     (g main_arg0 (by decide)).trans (W7_main_arg0 m ρ c),
     (g main_arg1 (by decide)).trans (W7_main_arg1 m ρ c),
     (g main_arg2 (by decide)).trans (W7_main_arg2 m ρ c),
     (g main_arg3 (by decide)).trans (W7_main_arg3 m ρ c),
     (g main_arg4 (by decide)).trans (W7_main_arg4 m ρ c),
     (g main_arg5 (by decide)).trans (W7_main_arg5 m ρ c),
     (g main_arg6 (by decide)).trans (W7_main_arg6 m ρ c),
     (g main_arg7 (by decide)).trans (W7_main_arg7 m ρ c)⟩) (run_sems m ρ)
end

theorem algebraic : Cert.algebraic_RnnPostIdeal_RnnPostRefIdeal_pre_finite_rnn_post := fun m ρ m' ρ' hpre hag =>
  ⟨_, _, _, _, _, _, _, runK m ρ, (θ_run Cert.RnnPostRefIdeal.defs _ _).mono (fun _ h c => by
    have R := reals m hpre c
    obtain ⟨a0, a1, a2, a3, a4, a5, a6, a7⟩ := hag c
    obtain ⟨r0, r1, r2, r3, r4, r5, r6, hr⟩ := h c
    refine ⟨r0.trans ?_, r1.trans ?_, r2.trans ?_, r3.trans ?_, r4.trans ?_, r5.trans ?_, r6.trans ?_, hr⟩
    · refine (Cert.RnnPostRefIdeal.Read.val_main_v133_eq _).trans (Eq.trans ?_ (Cert.RnnPostRefIdeal.Val.x1_out _))
      clear r0 r1 r2 r3 r4 r5 r6 hr
      exact congr (congr (congr (congr (congr (congr (congrArg Cert.RnnPostRefIdeal.Read.val_main_v133 a1) a2) a3) a4) a5) a6) a7
    · refine (Cert.RnnPostRefIdeal.Read.val_main_v135_eq _).trans (Eq.trans ?_ (Cert.RnnPostRefIdeal.Val.yp_out ))
      clear r0 r1 r2 r3 r4 r5 r6 hr
      exact congr (congrArg Cert.RnnPostRefIdeal.Read.val_main_v135 a2) a3
    · refine (Cert.RnnPostRefIdeal.Read.val_main_v136_eq _).trans (Eq.trans ?_ (Cert.RnnPostRefIdeal.Val.dres_out R))
      clear r0 r1 r2 r3 r4 r5 r6 hr
      exact congr (congr (congr (congr (congr (congr (congrArg Cert.RnnPostRefIdeal.Read.val_main_v136 a0) a1) a2) a3) a4) a5) a6
    · refine (Cert.RnnPostRefIdeal.Read.val_main_v138_eq _).trans (Eq.trans ?_ (Cert.RnnPostRefIdeal.Val.dy_out R))
      clear r0 r1 r2 r3 r4 r5 r6 hr
      exact congr (congr (congr (congr (congr (congr (congrArg Cert.RnnPostRefIdeal.Read.val_main_v138 a0) a1) a2) a3) a4) a5) a6
    · refine (Cert.RnnPostRefIdeal.Read.val_main_v132_eq _).trans (Eq.trans ?_ (Cert.RnnPostRefIdeal.Val.sums_out R))
      clear r0 r1 r2 r3 r4 r5 r6 hr
      exact congr (congr (congr (congr (congr (congr (congrArg Cert.RnnPostRefIdeal.Read.val_main_v132 a0) a1) a2) a3) a4) a5) a6
    · refine (Cert.RnnPostRefIdeal.Read.val_main_v139_eq _).trans (Eq.trans ?_ (Cert.RnnPostRefIdeal.Val.dhs_out R))
      clear r0 r1 r2 r3 r4 r5 r6 hr
      exact congr (congr (congr (congr (congr (congr (congrArg Cert.RnnPostRefIdeal.Read.val_main_v139 a0) a1) a2) a3) a4) a5) a6
    · refine (Cert.RnnPostRefIdeal.Read.val_main_v141_eq _).trans (Eq.trans ?_ (Cert.RnnPostRefIdeal.Val.dgt_out R))
      clear r0 r1 r2 r3 r4 r5 r6 hr
      exact congr (congr (congr (congr (congr (congr (congrArg Cert.RnnPostRefIdeal.Read.val_main_v141 a0) a1) a2) a3) a4) a5) a6) (Cert.RnnPostRefIdeal.Value.run m' ρ')⟩

theorem frameRI : Cert.quiescent_RnnPostRefIdeal := fun m ρ _ =>
  (θ_run Cert.RnnPostRefIdeal.defs _ _).mono (fun r h => ⟨fun c => (h c).2.2.2.2.2.2.2, sem_eq_zero_of_no_sems (by decide) r.2⟩) (Cert.RnnPostRefIdeal.Value.run m ρ)
theorem frameRI' : Cert.quiescent_RnnPostRefIdeal_pre_finite_rnn_post := fun m ρ _ => frameRI m ρ trivial

/-- The activation's two constants are the numbers they are written for. -/
theorem preserves : Cert.preserves_RnnPost_RnnPostIdeal :=
  ⟨IdealRules.named_const.statement Cert.RnnPostIdeal.κ "c" .f32 0x3D372713#32 ((8943 / 200000 : ℝ) : EReal) rfl,
   IdealRules.named_const.statement Cert.RnnPostIdeal.κ "c3" .f32 0x3E095D4F#32 ((26829 / 200000 : ℝ) : EReal) rfl⟩

end Cert.RnnPostPair
end
-- ==== Proof.RnnInRun.lean ====
module

public import proofs.«01_k».proof.Proof.Gen.RnnInIdeal.Frame

@[expose] public section

set_option maxRecDepth 16384

noncomputable section

namespace Cert.RnnInIdeal.Arr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RnnInIdeal Cert.RnnInIdeal.Gen

variable {F : FTy → Type} [FloatOps F] (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every array of the device that is not a region's own ends at the fold of the host operations and the two regions. -/
theorem run_sems : θ_run defs (onTc (τ := τ) (main (F := F))) ⟨m, fun _ => 0, ρ⟩ (fun r => (∀ c : Dev nD,
    ∀ b ∈ Pipeline.ucRefs τ sig, r.2.mem (((c : Thread nD τ)).1, b) = W6 m ρ c b) ∧ r.2.sem = fun _ => 0) :=
  Pipeline.θ_run_regions_kit_sems (pcfgs (F := F)) adm (pdats m ρ) () cellOf_inj emb₁
    defs₀ 𝒱₀ L lv m ρ main (segs m ρ) (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

end Cert.RnnInIdeal.Arr

end
-- ==== Proof.RnnInCat.lean ====
module

public import proofs.«01_k».proof.Proof.Gen.RnnInIdeal.Frame
public import proofs.«01_k».proof.Proof.Rows

@[expose] public section

set_option maxRecDepth 16384

noncomputable section
namespace Cert.RnnInIdeal.Val
open Idealize.ShloMosaic Idealize.ShloMosaic.TcCoe Idealize.SL.Sem
open Cert.RnnInIdeal Cert.RnnInIdeal.Gen Cert.Rows

/-! ## The slabs of a block, laid side by side -/

theorem dite_eq {c : Prop} [Decidable c] {α : Type} {t : c → α} {e : ¬c → α} {z : α} (h₁ : ∀ h, t h = z) (h₂ : ∀ h, e h = z) : dite c t e = z := by
  by_cases h : c
  · exact (dif_pos h).trans (h₁ h)
  · exact (dif_neg h).trans (h₂ h)
theorem ladder (f : Fin 12 → Fin 128 → EReal) (k : Fin 1536) :
    (if h : k.val < 128 then f 0 ⟨k.val, h⟩ else
    if h : k.val - 128 < 128 then f 1 ⟨k.val - 128, h⟩ else
    if h : k.val - 128 - 128 < 128 then f 2 ⟨k.val - 128 - 128, h⟩ else
    if h : k.val - 128 - 128 - 128 < 128 then f 3 ⟨k.val - 128 - 128 - 128, h⟩ else
    if h : k.val - 128 - 128 - 128 - 128 < 128 then f 4 ⟨k.val - 128 - 128 - 128 - 128, h⟩ else
    if h : k.val - 128 - 128 - 128 - 128 - 128 < 128 then f 5 ⟨k.val - 128 - 128 - 128 - 128 - 128, h⟩ else
    if h : k.val - 128 - 128 - 128 - 128 - 128 - 128 < 128 then f 6 ⟨k.val - 128 - 128 - 128 - 128 - 128 - 128, h⟩ else
    if h : k.val - 128 - 128 - 128 - 128 - 128 - 128 - 128 < 128 then f 7 ⟨k.val - 128 - 128 - 128 - 128 - 128 - 128 - 128, h⟩ else
    if h : k.val - 128 - 128 - 128 - 128 - 128 - 128 - 128 - 128 < 128 then f 8 ⟨k.val - 128 - 128 - 128 - 128 - 128 - 128 - 128 - 128, h⟩ else
    if h : k.val - 128 - 128 - 128 - 128 - 128 - 128 - 128 - 128 - 128 < 128 then f 9 ⟨k.val - 128 - 128 - 128 - 128 - 128 - 128 - 128 - 128 - 128, h⟩ else
    if h : k.val - 128 - 128 - 128 - 128 - 128 - 128 - 128 - 128 - 128 - 128 < 128 then f 10 ⟨k.val - 128 - 128 - 128 - 128 - 128 - 128 - 128 - 128 - 128 - 128, h⟩ else
    f 11 ⟨k.val - 128 - 128 - 128 - 128 - 128 - 128 - 128 - 128 - 128 - 128 - 128, by omega⟩) = f ⟨k.val / 128, by omega⟩ ⟨k.val % 128, Nat.mod_lt _ (by decide)⟩ := by
  iterate 11
    apply dite_eq
    · intro h
      refine congrArg₂ f (Fin.ext ?_) (Fin.ext ?_) <;> simp only [Fin.val_ofNat, Fin.isValue, Nat.reduceMod] <;> omega
    intro h
  refine congrArg₂ f (Fin.ext ?_) (Fin.ext ?_) <;> simp only [Fin.val_ofNat, Fin.isValue, Nat.reduceMod] <;> omega

variable (u v : S12x512x128.Idx → EReal) (p q : S12x8x128.Idx → EReal)

abbrev cat0 : S512x1536.Idx → EReal := (k1_pay18 (F := Ideal) (k1_pay8 (View.ld (S := S12x512x128) (Val := Elt Ideal) (e' := .f32) u (Rect.unit (s := S12x512x128) ![0, 0, 0] ![1, 512, 128] inb_S12x512x128_S1x512x128_0_0_0))) (k1_pay9 (View.ld (S := S12x512x128) (Val := Elt Ideal) (e' := .f32) u (Rect.unit (s := S12x512x128) ![1, 0, 0] ![1, 512, 128] inb_S12x512x128_S1x512x128_1_0_0))) (k1_pay10 (View.ld (S := S12x512x128) (Val := Elt Ideal) (e' := .f32) u (Rect.unit (s := S12x512x128) ![2, 0, 0] ![1, 512, 128] inb_S12x512x128_S1x512x128_2_0_0))) (k1_pay11 (View.ld (S := S12x512x128) (Val := Elt Ideal) (e' := .f32) u (Rect.unit (s := S12x512x128) ![3, 0, 0] ![1, 512, 128] inb_S12x512x128_S1x512x128_3_0_0))) (k1_pay12 (View.ld (S := S12x512x128) (Val := Elt Ideal) (e' := .f32) u (Rect.unit (s := S12x512x128) ![4, 0, 0] ![1, 512, 128] inb_S12x512x128_S1x512x128_4_0_0))) (k1_pay13 (View.ld (S := S12x512x128) (Val := Elt Ideal) (e' := .f32) u (Rect.unit (s := S12x512x128) ![5, 0, 0] ![1, 512, 128] inb_S12x512x128_S1x512x128_5_0_0))) (k1_pay14 (View.ld (S := S12x512x128) (Val := Elt Ideal) (e' := .f32) u (Rect.unit (s := S12x512x128) ![6, 0, 0] ![1, 512, 128] inb_S12x512x128_S1x512x128_6_0_0))) (k1_pay15 (View.ld (S := S12x512x128) (Val := Elt Ideal) (e' := .f32) u (Rect.unit (s := S12x512x128) ![7, 0, 0] ![1, 512, 128] inb_S12x512x128_S1x512x128_7_0_0))) (k1_pay16 (View.ld (S := S12x512x128) (Val := Elt Ideal) (e' := .f32) u (Rect.unit (s := S12x512x128) ![8, 0, 0] ![1, 512, 128] inb_S12x512x128_S1x512x128_8_0_0))) (k1_pay17 (View.ld (S := S12x512x128) (Val := Elt Ideal) (e' := .f32) u (Rect.unit (s := S12x512x128) ![9, 0, 0] ![1, 512, 128] inb_S12x512x128_S1x512x128_9_0_0))) (View.ld (S := S12x512x128) (Val := Elt Ideal) (e' := .f32) u (Rect.unit (s := S12x512x128) ![10, 0, 0] ![1, 512, 128] inb_S12x512x128_S1x512x128_10_0_0)) (View.ld (S := S12x512x128) (Val := Elt Ideal) (e' := .f32) u (Rect.unit (s := S12x512x128) ![11, 0, 0] ![1, 512, 128] inb_S12x512x128_S1x512x128_11_0_0)))
abbrev dsum (z : S512x1536.Idx → EReal) : S512x1536.Idx → EReal := (k1_pay29 (F := Ideal) z (k1_pay19 (View.ld (S := S12x512x128) (Val := Elt Ideal) (e' := .f32) v (Rect.unit (s := S12x512x128) ![0, 0, 0] ![1, 512, 128] inb_S12x512x128_S1x512x128_0_0_0))) (k1_pay20 (View.ld (S := S12x512x128) (Val := Elt Ideal) (e' := .f32) v (Rect.unit (s := S12x512x128) ![1, 0, 0] ![1, 512, 128] inb_S12x512x128_S1x512x128_1_0_0))) (k1_pay21 (View.ld (S := S12x512x128) (Val := Elt Ideal) (e' := .f32) v (Rect.unit (s := S12x512x128) ![2, 0, 0] ![1, 512, 128] inb_S12x512x128_S1x512x128_2_0_0))) (k1_pay22 (View.ld (S := S12x512x128) (Val := Elt Ideal) (e' := .f32) v (Rect.unit (s := S12x512x128) ![3, 0, 0] ![1, 512, 128] inb_S12x512x128_S1x512x128_3_0_0))) (k1_pay23 (View.ld (S := S12x512x128) (Val := Elt Ideal) (e' := .f32) v (Rect.unit (s := S12x512x128) ![4, 0, 0] ![1, 512, 128] inb_S12x512x128_S1x512x128_4_0_0))) (k1_pay24 (View.ld (S := S12x512x128) (Val := Elt Ideal) (e' := .f32) v (Rect.unit (s := S12x512x128) ![5, 0, 0] ![1, 512, 128] inb_S12x512x128_S1x512x128_5_0_0))) (k1_pay25 (View.ld (S := S12x512x128) (Val := Elt Ideal) (e' := .f32) v (Rect.unit (s := S12x512x128) ![6, 0, 0] ![1, 512, 128] inb_S12x512x128_S1x512x128_6_0_0))) (k1_pay26 (View.ld (S := S12x512x128) (Val := Elt Ideal) (e' := .f32) v (Rect.unit (s := S12x512x128) ![7, 0, 0] ![1, 512, 128] inb_S12x512x128_S1x512x128_7_0_0))) (k1_pay27 (View.ld (S := S12x512x128) (Val := Elt Ideal) (e' := .f32) v (Rect.unit (s := S12x512x128) ![8, 0, 0] ![1, 512, 128] inb_S12x512x128_S1x512x128_8_0_0))) (k1_pay28 (View.ld (S := S12x512x128) (Val := Elt Ideal) (e' := .f32) v (Rect.unit (s := S12x512x128) ![9, 0, 0] ![1, 512, 128] inb_S12x512x128_S1x512x128_9_0_0))) (View.ld (S := S12x512x128) (Val := Elt Ideal) (e' := .f32) v (Rect.unit (s := S12x512x128) ![10, 0, 0] ![1, 512, 128] inb_S12x512x128_S1x512x128_10_0_0)) (View.ld (S := S12x512x128) (Val := Elt Ideal) (e' := .f32) v (Rect.unit (s := S12x512x128) ![11, 0, 0] ![1, 512, 128] inb_S12x512x128_S1x512x128_11_0_0)))
/-- The sum of two blocks of slabs, their columns in order; -/
abbrev dcat : S512x1536.Idx → EReal := dsum v (cat0 u)
abbrev cat8 : S8x1536.Idx → EReal := (k1_pay39 (F := Ideal) (k1_pay31 (View.ld (S := S12x8x128) (Val := Elt Ideal) (e' := .f32) p (Rect.unit (s := S12x8x128) ![0, 0, 0] ![1, 8, 128] inb_S12x8x128_S1x8x128_0_0_0))) (k1_pay32 (View.ld (S := S12x8x128) (Val := Elt Ideal) (e' := .f32) p (Rect.unit (s := S12x8x128) ![1, 0, 0] ![1, 8, 128] inb_S12x8x128_S1x8x128_1_0_0))) (k1_pay33 (View.ld (S := S12x8x128) (Val := Elt Ideal) (e' := .f32) p (Rect.unit (s := S12x8x128) ![2, 0, 0] ![1, 8, 128] inb_S12x8x128_S1x8x128_2_0_0))) (k1_pay34 (View.ld (S := S12x8x128) (Val := Elt Ideal) (e' := .f32) p (Rect.unit (s := S12x8x128) ![3, 0, 0] ![1, 8, 128] inb_S12x8x128_S1x8x128_3_0_0))) (k1_pay35 (View.ld (S := S12x8x128) (Val := Elt Ideal) (e' := .f32) p (Rect.unit (s := S12x8x128) ![4, 0, 0] ![1, 8, 128] inb_S12x8x128_S1x8x128_4_0_0))) (k1_pay36 (View.ld (S := S12x8x128) (Val := Elt Ideal) (e' := .f32) p (Rect.unit (s := S12x8x128) ![5, 0, 0] ![1, 8, 128] inb_S12x8x128_S1x8x128_5_0_0))) (k1_pay37 (View.ld (S := S12x8x128) (Val := Elt Ideal) (e' := .f32) p (Rect.unit (s := S12x8x128) ![6, 0, 0] ![1, 8, 128] inb_S12x8x128_S1x8x128_6_0_0))) (k1_pay38 (View.ld (S := S12x8x128) (Val := Elt Ideal) (e' := .f32) p (Rect.unit (s := S12x8x128) ![7, 0, 0] ![1, 8, 128] inb_S12x8x128_S1x8x128_7_0_0))) (View.ld (S := S12x8x128) (Val := Elt Ideal) (e' := .f32) p (Rect.unit (s := S12x8x128) ![8, 0, 0] ![1, 8, 128] inb_S12x8x128_S1x8x128_8_0_0)) (View.ld (S := S12x8x128) (Val := Elt Ideal) (e' := .f32) p (Rect.unit (s := S12x8x128) ![9, 0, 0] ![1, 8, 128] inb_S12x8x128_S1x8x128_9_0_0)) (View.ld (S := S12x8x128) (Val := Elt Ideal) (e' := .f32) p (Rect.unit (s := S12x8x128) ![10, 0, 0] ![1, 8, 128] inb_S12x8x128_S1x8x128_10_0_0)) (View.ld (S := S12x8x128) (Val := Elt Ideal) (e' := .f32) p (Rect.unit (s := S12x8x128) ![11, 0, 0] ![1, 8, 128] inb_S12x8x128_S1x8x128_11_0_0)))
abbrev bsum (b : BitVec 1) (z : S8x1536.Idx → EReal) : S8x1536.Idx → EReal := (k1_pay48 (F := Ideal) b z (k1_pay40 (View.ld (S := S12x8x128) (Val := Elt Ideal) (e' := .f32) q (Rect.unit (s := S12x8x128) ![0, 0, 0] ![1, 8, 128] inb_S12x8x128_S1x8x128_0_0_0))) (k1_pay41 (View.ld (S := S12x8x128) (Val := Elt Ideal) (e' := .f32) q (Rect.unit (s := S12x8x128) ![1, 0, 0] ![1, 8, 128] inb_S12x8x128_S1x8x128_1_0_0))) (k1_pay42 (View.ld (S := S12x8x128) (Val := Elt Ideal) (e' := .f32) q (Rect.unit (s := S12x8x128) ![2, 0, 0] ![1, 8, 128] inb_S12x8x128_S1x8x128_2_0_0))) (k1_pay43 (View.ld (S := S12x8x128) (Val := Elt Ideal) (e' := .f32) q (Rect.unit (s := S12x8x128) ![3, 0, 0] ![1, 8, 128] inb_S12x8x128_S1x8x128_3_0_0))) (k1_pay44 (View.ld (S := S12x8x128) (Val := Elt Ideal) (e' := .f32) q (Rect.unit (s := S12x8x128) ![4, 0, 0] ![1, 8, 128] inb_S12x8x128_S1x8x128_4_0_0))) (k1_pay45 (View.ld (S := S12x8x128) (Val := Elt Ideal) (e' := .f32) q (Rect.unit (s := S12x8x128) ![5, 0, 0] ![1, 8, 128] inb_S12x8x128_S1x8x128_5_0_0))) (k1_pay46 (View.ld (S := S12x8x128) (Val := Elt Ideal) (e' := .f32) q (Rect.unit (s := S12x8x128) ![6, 0, 0] ![1, 8, 128] inb_S12x8x128_S1x8x128_6_0_0))) (k1_pay47 (View.ld (S := S12x8x128) (Val := Elt Ideal) (e' := .f32) q (Rect.unit (s := S12x8x128) ![7, 0, 0] ![1, 8, 128] inb_S12x8x128_S1x8x128_7_0_0))) (View.ld (S := S12x8x128) (Val := Elt Ideal) (e' := .f32) q (Rect.unit (s := S12x8x128) ![8, 0, 0] ![1, 8, 128] inb_S12x8x128_S1x8x128_8_0_0)) (View.ld (S := S12x8x128) (Val := Elt Ideal) (e' := .f32) q (Rect.unit (s := S12x8x128) ![9, 0, 0] ![1, 8, 128] inb_S12x8x128_S1x8x128_9_0_0)) (View.ld (S := S12x8x128) (Val := Elt Ideal) (e' := .f32) q (Rect.unit (s := S12x8x128) ![10, 0, 0] ![1, 8, 128] inb_S12x8x128_S1x8x128_10_0_0)) (View.ld (S := S12x8x128) (Val := Elt Ideal) (e' := .f32) q (Rect.unit (s := S12x8x128) ![11, 0, 0] ![1, 8, 128] inb_S12x8x128_S1x8x128_11_0_0)))
/-- of the eight rows before, -/
abbrev bcat (b : BitVec 1) : S8x1536.Idx → EReal := bsum q b (cat8 p)
abbrev cat8' : S8x1536.Idx → EReal := (k1_pay56 (F := Ideal) (k1_pay49 (View.ld (S := S12x8x128) (Val := Elt Ideal) (e' := .f32) p (Rect.unit (s := S12x8x128) ![0, 0, 0] ![1, 8, 128] inb_S12x8x128_S1x8x128_0_0_0))) (k1_pay50 (View.ld (S := S12x8x128) (Val := Elt Ideal) (e' := .f32) p (Rect.unit (s := S12x8x128) ![1, 0, 0] ![1, 8, 128] inb_S12x8x128_S1x8x128_1_0_0))) (k1_pay51 (View.ld (S := S12x8x128) (Val := Elt Ideal) (e' := .f32) p (Rect.unit (s := S12x8x128) ![2, 0, 0] ![1, 8, 128] inb_S12x8x128_S1x8x128_2_0_0))) (k1_pay52 (View.ld (S := S12x8x128) (Val := Elt Ideal) (e' := .f32) p (Rect.unit (s := S12x8x128) ![3, 0, 0] ![1, 8, 128] inb_S12x8x128_S1x8x128_3_0_0))) (k1_pay53 (View.ld (S := S12x8x128) (Val := Elt Ideal) (e' := .f32) p (Rect.unit (s := S12x8x128) ![4, 0, 0] ![1, 8, 128] inb_S12x8x128_S1x8x128_4_0_0))) (k1_pay54 (View.ld (S := S12x8x128) (Val := Elt Ideal) (e' := .f32) p (Rect.unit (s := S12x8x128) ![5, 0, 0] ![1, 8, 128] inb_S12x8x128_S1x8x128_5_0_0))) (k1_pay55 (View.ld (S := S12x8x128) (Val := Elt Ideal) (e' := .f32) p (Rect.unit (s := S12x8x128) ![6, 0, 0] ![1, 8, 128] inb_S12x8x128_S1x8x128_6_0_0))) (View.ld (S := S12x8x128) (Val := Elt Ideal) (e' := .f32) p (Rect.unit (s := S12x8x128) ![7, 0, 0] ![1, 8, 128] inb_S12x8x128_S1x8x128_7_0_0)) (View.ld (S := S12x8x128) (Val := Elt Ideal) (e' := .f32) p (Rect.unit (s := S12x8x128) ![8, 0, 0] ![1, 8, 128] inb_S12x8x128_S1x8x128_8_0_0)) (View.ld (S := S12x8x128) (Val := Elt Ideal) (e' := .f32) p (Rect.unit (s := S12x8x128) ![9, 0, 0] ![1, 8, 128] inb_S12x8x128_S1x8x128_9_0_0)) (View.ld (S := S12x8x128) (Val := Elt Ideal) (e' := .f32) p (Rect.unit (s := S12x8x128) ![10, 0, 0] ![1, 8, 128] inb_S12x8x128_S1x8x128_10_0_0)) (View.ld (S := S12x8x128) (Val := Elt Ideal) (e' := .f32) p (Rect.unit (s := S12x8x128) ![11, 0, 0] ![1, 8, 128] inb_S12x8x128_S1x8x128_11_0_0)))
abbrev asum (b : BitVec 1) (z : S8x1536.Idx → EReal) : S8x1536.Idx → EReal := (k1_pay64 (F := Ideal) b z (k1_pay57 (View.ld (S := S12x8x128) (Val := Elt Ideal) (e' := .f32) q (Rect.unit (s := S12x8x128) ![0, 0, 0] ![1, 8, 128] inb_S12x8x128_S1x8x128_0_0_0))) (k1_pay58 (View.ld (S := S12x8x128) (Val := Elt Ideal) (e' := .f32) q (Rect.unit (s := S12x8x128) ![1, 0, 0] ![1, 8, 128] inb_S12x8x128_S1x8x128_1_0_0))) (k1_pay59 (View.ld (S := S12x8x128) (Val := Elt Ideal) (e' := .f32) q (Rect.unit (s := S12x8x128) ![2, 0, 0] ![1, 8, 128] inb_S12x8x128_S1x8x128_2_0_0))) (k1_pay60 (View.ld (S := S12x8x128) (Val := Elt Ideal) (e' := .f32) q (Rect.unit (s := S12x8x128) ![3, 0, 0] ![1, 8, 128] inb_S12x8x128_S1x8x128_3_0_0))) (k1_pay61 (View.ld (S := S12x8x128) (Val := Elt Ideal) (e' := .f32) q (Rect.unit (s := S12x8x128) ![4, 0, 0] ![1, 8, 128] inb_S12x8x128_S1x8x128_4_0_0))) (k1_pay62 (View.ld (S := S12x8x128) (Val := Elt Ideal) (e' := .f32) q (Rect.unit (s := S12x8x128) ![5, 0, 0] ![1, 8, 128] inb_S12x8x128_S1x8x128_5_0_0))) (k1_pay63 (View.ld (S := S12x8x128) (Val := Elt Ideal) (e' := .f32) q (Rect.unit (s := S12x8x128) ![6, 0, 0] ![1, 8, 128] inb_S12x8x128_S1x8x128_6_0_0))) (View.ld (S := S12x8x128) (Val := Elt Ideal) (e' := .f32) q (Rect.unit (s := S12x8x128) ![7, 0, 0] ![1, 8, 128] inb_S12x8x128_S1x8x128_7_0_0)) (View.ld (S := S12x8x128) (Val := Elt Ideal) (e' := .f32) q (Rect.unit (s := S12x8x128) ![8, 0, 0] ![1, 8, 128] inb_S12x8x128_S1x8x128_8_0_0)) (View.ld (S := S12x8x128) (Val := Elt Ideal) (e' := .f32) q (Rect.unit (s := S12x8x128) ![9, 0, 0] ![1, 8, 128] inb_S12x8x128_S1x8x128_9_0_0)) (View.ld (S := S12x8x128) (Val := Elt Ideal) (e' := .f32) q (Rect.unit (s := S12x8x128) ![10, 0, 0] ![1, 8, 128] inb_S12x8x128_S1x8x128_10_0_0)) (View.ld (S := S12x8x128) (Val := Elt Ideal) (e' := .f32) q (Rect.unit (s := S12x8x128) ![11, 0, 0] ![1, 8, 128] inb_S12x8x128_S1x8x128_11_0_0)))
/-- and of the eight after. -/
abbrev acat (b : BitVec 1) : S8x1536.Idx → EReal := asum q b (cat8' p)
abbrev slab (k : Fin 1536) : Fin 12 := ⟨k.val / 128, by omega⟩
abbrev lane (k : Fin 1536) : Fin 128 := ⟨k.val % 128, Nat.mod_lt _ (by decide)⟩

theorem cat0_at (a : Fin 512) (k : Fin 1536) : cat0 u (ix2 a k) = u (ix3 (slab k) a (lane k)) := by
  pointwise [k1_pay18, k1_pay8, k1_pay9, k1_pay10, k1_pay11, k1_pay12, k1_pay13, k1_pay14, k1_pay15, k1_pay16, k1_pay17]
  exact ladder (fun l x => u (ix3 l a x)) k
theorem add_cat (z : S512x1536.Idx → EReal) (a : Fin 512) (k : Fin 1536) : dsum v z (ix2 a k) = z (ix2 a k) + v (ix3 (slab k) a (lane k)) := by
  pointwise [k1_pay29, k1_pay19, k1_pay20, k1_pay21, k1_pay22, k1_pay23, k1_pay24, k1_pay25, k1_pay26, k1_pay27, k1_pay28]
  exact congrArg _ (ladder (fun l x => v (ix3 l a x)) k)
theorem dcat_at (a : Fin 512) (k : Fin 1536) : dcat u v (ix2 a k) = u (ix3 (slab k) a (lane k)) + v (ix3 (slab k) a (lane k)) :=
  (add_cat v (cat0 u) a k).trans (congrArg (· + _) (cat0_at u a k))
theorem cat8_at (a : Fin 8) (k : Fin 1536) : cat8 p (ix2 a k) = p (ix3 (slab k) a (lane k)) := by
  pointwise [k1_pay39, k1_pay31, k1_pay32, k1_pay33, k1_pay34, k1_pay35, k1_pay36, k1_pay37, k1_pay38]
  exact ladder (fun l x => p (ix3 l a x)) k
theorem cat8_at' (a : Fin 8) (k : Fin 1536) : cat8' p (ix2 a k) = p (ix3 (slab k) a (lane k)) := by
  pointwise [k1_pay56, k1_pay49, k1_pay50, k1_pay51, k1_pay52, k1_pay53, k1_pay54, k1_pay55]
  exact ladder (fun l x => p (ix3 l a x)) k
theorem bcat_one' (z : S8x1536.Idx → EReal) (a : Fin 8) (k : Fin 1536) : bsum q 1#1 z (ix2 a k) = 0 := by
  pointwise [k1_pay48]
theorem bcat_zero' (z : S8x1536.Idx → EReal) (a : Fin 8) (k : Fin 1536) : bsum q 0#1 z (ix2 a k) = z (ix2 a k) + q (ix3 (slab k) a (lane k)) := by
  pointwise [k1_pay48, k1_pay40, k1_pay41, k1_pay42, k1_pay43, k1_pay44, k1_pay45, k1_pay46, k1_pay47]
  exact congrArg _ (ladder (fun l x => q (ix3 l a x)) k)
theorem bcat_one (a : Fin 8) (k : Fin 1536) : bcat p q 1#1 (ix2 a k) = 0 := bcat_one' q _ a k
theorem bcat_zero (a : Fin 8) (k : Fin 1536) : bcat p q 0#1 (ix2 a k) = p (ix3 (slab k) a (lane k)) + q (ix3 (slab k) a (lane k)) :=
  (bcat_zero' q (cat8 p) a k).trans (congrArg (· + _) (cat8_at p a k))
theorem acat_one' (z : S8x1536.Idx → EReal) (a : Fin 8) (k : Fin 1536) : asum q 1#1 z (ix2 a k) = 0 := by
  pointwise [k1_pay64]
theorem acat_zero' (z : S8x1536.Idx → EReal) (a : Fin 8) (k : Fin 1536) : asum q 0#1 z (ix2 a k) = z (ix2 a k) + q (ix3 (slab k) a (lane k)) := by
  pointwise [k1_pay64, k1_pay57, k1_pay58, k1_pay59, k1_pay60, k1_pay61, k1_pay62, k1_pay63]
  exact congrArg _ (ladder (fun l x => q (ix3 l a x)) k)
theorem acat_one (a : Fin 8) (k : Fin 1536) : acat p q 1#1 (ix2 a k) = 0 := acat_one' q _ a k
theorem acat_zero (a : Fin 8) (k : Fin 1536) : acat p q 0#1 (ix2 a k) = p (ix3 (slab k) a (lane k)) + q (ix3 (slab k) a (lane k)) :=
  (acat_zero' q (cat8' p) a k).trans (congrArg (· + _) (cat8_at' p a k))

end Cert.RnnInIdeal.Val
end
-- ==== Proof.RnnInFun.lean ====
module

public import Idealize.ShloMosaic.Lib.Pointwise

@[expose] public section

set_option maxRecDepth 16384

noncomputable section

/-! The input of a recurrent sublayer, backward, as functions of the arguments. -/

namespace Cert.Shift

/-- A sequence with two zeros put before it and two behind. -/
def sh (f : Fin 8192 → EReal) (n : ℕ) : EReal := if h : 2 ≤ n ∧ n < 8194 then f ⟨n - 2, by omega⟩ else 0
theorem sh_at (f : Fin 8192 → EReal) (r : Fin 8192) : sh f (r.val + 2) = f r := by
  unfold sh
  rw [dif_pos ⟨by omega, by omega⟩]
  exact congrArg f (Fin.ext (by simp))

end Cert.Shift

namespace Cert.RnnInFun

open Idealize.ShloMosaic Cert.Shift

variable (df db dg : (⟨3, ![1, 8192, 1536]⟩ : Shape).Idx → EReal) (dres x : (⟨3, ![1, 8192, 1024]⟩ : Shape).Idx → EReal)
  (md : (⟨2, ![1, 3072]⟩ : Shape).Idx → EReal) (cw : (⟨2, ![4, 1536]⟩ : Shape).Idx → EReal)
  (w : (⟨2, ![1024, 3072]⟩ : Shape).Idx → EReal)

def shift (k : Fin 1024) : EReal := md (ix2 0 ⟨k.val, by omega⟩)
def scale (k : Fin 1024) : EReal := md (ix2 0 ⟨1024 + k.val, by omega⟩)
/-- The modulated row, and the two branches it gives. -/
def h (r : Fin 8192) (k : Fin 1024) : EReal := x (ix3 0 r k) * (1 + scale md k) + shift md k
def br (o : ℕ) (ho : o ≤ 1536) (r : Fin 8192) (k : Fin 1536) : EReal := ∑ i, h x md r i * w (ix2 i ⟨o + k.val, by omega⟩)
def xr (r : Fin 8192) (k : Fin 1536) : EReal := br x md w 0 (by decide) r k
def gt (r : Fin 8192) (k : Fin 1536) : EReal := br x md w 1536 (by decide) r k
/-- The gradient of the convolution's result, a column of it, -/
def d (k : Fin 1536) (r : Fin 8192) : EReal := df (ix3 0 r k) + db (ix3 0 r k)
/-- of its input, -/
def dxr (r : Fin 8192) (k : Fin 1536) : EReal :=
  cw (ix2 0 k) * sh (d df db k) (r.val + 4) + cw (ix2 1 k) * sh (d df db k) (r.val + 3)
    + cw (ix2 2 k) * sh (d df db k) (r.val + 2) + cw (ix2 3 k) * sh (d df db k) (r.val + 1)
/-- of the two branches side by side, -/
def dz (r : Fin 8192) (k : Fin 3072) : EReal := if h : k.val < 1536 then dxr df db cw r ⟨k.val, h⟩ else dg (ix3 0 r ⟨k.val - 1536, by omega⟩)
/-- and of the modulated row. -/
def dh (r : Fin 8192) (k : Fin 1024) : EReal := ∑ l, dz df db dg cw r l * w (ix2 k l)
def dx (r : Fin 8192) (k : Fin 1024) : EReal := dres (ix3 0 r k) + dh df db dg cw w r k * (1 + scale md k)
/-- The row sums: of the shift's gradient in row 0, the scale's in row 1; -/
def sums (a : Fin 8) (k : Fin 1024) : EReal :=
  if a.val = 1 then ∑ r, dh df db dg cw w r k * x (ix3 0 r k)
  else if a.val = 0 then ∑ r, dh df db dg cw w r k
  else 0
/-- of the convolution's weight and of its offset. -/
def dcw (j : Fin 4) (k : Fin 1536) : EReal := ∑ r : Fin 8192, d df db k r * sh (fun r => xr x md w r k) (r.val + j.val)
def dcb (_ : Fin 1) (k : Fin 1536) : EReal := ∑ r, d df db k r

end Cert.RnnInFun
end
-- ==== Proof.RnnInShift.lean ====
module

public import proofs.«01_k».proof.Proof.RnnInCat
public import proofs.«01_k».proof.Proof.RnnInFun

@[expose] public section

set_option maxRecDepth 16384

noncomputable section
namespace Cert.RnnInIdeal.Val
open Idealize.ShloMosaic Idealize.ShloMosaic.TcCoe Idealize.SL.Sem
open Cert.RnnInIdeal Cert.RnnInIdeal.Gen Cert.Rows Cert.Shift

/-! ## Shifts of a block, its missing rows from its neighbours -/

theorem sel (n e : ℕ) (hn : n < 512) (he : e < 512) (x y : EReal) :
    Scalar.select (IntOp.cmpi CmpIPredicate.eq (BitVec.ofNat 32 n) (BitVec.ofNat 32 e)) x y = if n = e then x else y := by
  have hh : (BitVec.ofNat 32 n = BitVec.ofNat 32 e) ↔ n = e := by
    constructor
    · intro h
      have := congrArg BitVec.toNat h
      simp only [BitVec.toNat_ofNat] at this
      omega
    · rintro rfl; rfl
  by_cases h : n = e
  · subst h; simp [Scalar.select, IntOp.cmpi]
  · have : ¬ BitVec.ofNat 32 n = BitVec.ofNat 32 e := fun e => h (hh.1 e)
    rw [if_neg h]
    unfold Scalar.select IntOp.cmpi
    have hb : (BitVec.ofNat 32 n == BitVec.ofNat 32 e) = false := beq_eq_false_iff_ne.2 this
    simp [hb]

variable (d x : S512x1536.Idx → EReal) (bb aa : S8x1536.Idx → EReal) (p q : S12x8x128.Idx → EReal) (w0 w1 w2 w3 : S1x1536.Idx → EReal)
variable (f g : Fin 1536 → Fin 8192 → EReal) (T : ℕ)

abbrev rows32 : IVec S512x1536 32 := iota .tc S512x1536 32 [0] iota_S512x1536_d0_w32
/-- Two rows up, the row before the last but one put right; -/
abbrev up2 (b : BitVec 1) : S512x1536.Idx → EReal := k1_pay67 (F := Ideal) d b (cat8' p) (k1_pay57 (View.ld (S := S12x8x128) (Val := Elt Ideal) (e' := .f32) q (Rect.unit (s := S12x8x128) ![0, 0, 0] ![1, 8, 128] inb_S12x8x128_S1x8x128_0_0_0))) (k1_pay58 (View.ld (S := S12x8x128) (Val := Elt Ideal) (e' := .f32) q (Rect.unit (s := S12x8x128) ![1, 0, 0] ![1, 8, 128] inb_S12x8x128_S1x8x128_1_0_0))) (k1_pay59 (View.ld (S := S12x8x128) (Val := Elt Ideal) (e' := .f32) q (Rect.unit (s := S12x8x128) ![2, 0, 0] ![1, 8, 128] inb_S12x8x128_S1x8x128_2_0_0))) (k1_pay60 (View.ld (S := S12x8x128) (Val := Elt Ideal) (e' := .f32) q (Rect.unit (s := S12x8x128) ![3, 0, 0] ![1, 8, 128] inb_S12x8x128_S1x8x128_3_0_0))) (k1_pay61 (View.ld (S := S12x8x128) (Val := Elt Ideal) (e' := .f32) q (Rect.unit (s := S12x8x128) ![4, 0, 0] ![1, 8, 128] inb_S12x8x128_S1x8x128_4_0_0))) (k1_pay62 (View.ld (S := S12x8x128) (Val := Elt Ideal) (e' := .f32) q (Rect.unit (s := S12x8x128) ![5, 0, 0] ![1, 8, 128] inb_S12x8x128_S1x8x128_5_0_0))) (k1_pay63 (View.ld (S := S12x8x128) (Val := Elt Ideal) (e' := .f32) q (Rect.unit (s := S12x8x128) ![6, 0, 0] ![1, 8, 128] inb_S12x8x128_S1x8x128_6_0_0))) (View.ld (S := S12x8x128) (Val := Elt Ideal) (e' := .f32) q (Rect.unit (s := S12x8x128) ![7, 0, 0] ![1, 8, 128] inb_S12x8x128_S1x8x128_7_0_0)) (View.ld (S := S12x8x128) (Val := Elt Ideal) (e' := .f32) q (Rect.unit (s := S12x8x128) ![8, 0, 0] ![1, 8, 128] inb_S12x8x128_S1x8x128_8_0_0)) (View.ld (S := S12x8x128) (Val := Elt Ideal) (e' := .f32) q (Rect.unit (s := S12x8x128) ![9, 0, 0] ![1, 8, 128] inb_S12x8x128_S1x8x128_9_0_0)) (View.ld (S := S12x8x128) (Val := Elt Ideal) (e' := .f32) q (Rect.unit (s := S12x8x128) ![10, 0, 0] ![1, 8, 128] inb_S12x8x128_S1x8x128_10_0_0)) (View.ld (S := S12x8x128) (Val := Elt Ideal) (e' := .f32) q (Rect.unit (s := S12x8x128) ![11, 0, 0] ![1, 8, 128] inb_S12x8x128_S1x8x128_11_0_0))
theorem up2_at (b : BitVec 1) (hd : ∀ a k, d (ix2 a k) = sh (f k) (T * 512 + a.val + 2)) (ha : ∀ k, acat p q b (ix2 0 k) = sh (f k) (T * 512 + 514))
    (a : Fin 512) (k : Fin 1536) (h : a.val ≠ 511) : up2 d p q b (ix2 a k) = sh (f k) (T * 512 + a.val + 4) := by
  unfold up2
  pointwise [k1_pay67]
  refine (sel a.val 510 a.isLt (by decide) _ _).trans ?_
  split
  · refine (ha k).trans (congrArg _ (by omega))
  · refine (hd _ k).trans (congrArg _ (by dsimp only; omega))
theorem dxr_at (b : BitVec 1) (hd : ∀ a k, d (ix2 a k) = sh (f k) (T * 512 + a.val + 2)) (hb : ∀ k, bb (ix2 7 k) = sh (f k) (T * 512 + 1))
    (ha : ∀ k, acat p q b (ix2 0 k) = sh (f k) (T * 512 + 514)) (ha' : ∀ k, acat p q b (ix2 1 k) = sh (f k) (T * 512 + 515)) (a : Fin 512) (k : Fin 1536) :
    k1_pay69 (F := Ideal) d bb (acat p q b) rows32 w0 (up2 d p q b) k1_pay68 w1 w2 w3 (ix2 a k)
      = w0 (ix2 0 k) * sh (f k) (T * 512 + a.val + 4) + w1 (ix2 0 k) * sh (f k) (T * 512 + a.val + 3)
        + w2 (ix2 0 k) * sh (f k) (T * 512 + a.val + 2) + w3 (ix2 0 k) * sh (f k) (T * 512 + a.val + 1) := by
  have h2 := up2_at d p q f T b hd ha a k
  generalize up2 d p q b = z at h2 ⊢
  generalize acat p q b = aa at ha ha' ⊢
  pointwise [k1_pay69, k1_pay68]
  have e1 := sel a.val 511 a.isLt (by decide) (aa (ix2 1 k)) (z (ix2 a k))
  have e2 := sel a.val 511 a.isLt (by decide) (aa (ix2 0 k)) (d (ix2 ⟨(a.val + 512 - 511) % 512, Nat.mod_lt _ (by decide)⟩ k))
  have e3 := sel a.val 0 a.isLt (by decide) (bb (ix2 7 k)) (d (ix2 ⟨(a.val + 512 - 1) % 512, Nat.mod_lt _ (by decide)⟩ k))
  refine Ideal.add_congr (Ideal.add_congr (Ideal.add_congr (Ideal.mul_congr rfl (e1.trans ?_)) (Ideal.mul_congr rfl (e2.trans ?_))) (Ideal.mul_congr rfl (hd a k))) (Ideal.mul_congr rfl (e3.trans ?_))
  · split
    · exact (ha' k).trans (congrArg _ (by omega))
    · exact h2 ‹_›
  · split
    · exact (ha k).trans (congrArg _ (by omega))
    · exact (hd _ k).trans (congrArg _ (by dsimp only; omega))
  · split
    · exact (hb k).trans (congrArg _ (by omega))
    · exact (hd _ k).trans (congrArg _ (by dsimp only; omega))
theorem dcw0_at (hd : ∀ a k, x (ix2 a k) = sh (g k) (T * 512 + a.val + 2)) (hb : ∀ k, bb (ix2 6 k) = sh (g k) (T * 512)) (hb' : ∀ k, bb (ix2 7 k) = sh (g k) (T * 512 + 1)) (k : Fin 1536) :
    k1_pay74 (F := Ideal) d (k1_pay70 w0) (k1_pay71 (F := Ideal) x bb rows32) (k1_pay72 rows32) (k1_pay73 (F := Ideal) bb) (ix2 0 k)
    = w0 (ix2 0 k) + ∑ a : Fin 512, d (ix2 a k) * sh (g k) (T * 512 + a.val) := by
  pointwise [k1_pay71, k1_pay70, k1_pay72, k1_pay73, k1_pay74]
  refine Ideal.add_congr rfl (Finset.sum_congr rfl fun a _ => Ideal.mul_congr rfl ?_)
  refine (sel a.val 1 a.isLt (by decide) _ _).trans ?_
  split
  · exact (hb' k).trans (congrArg _ (by omega))
  refine (sel a.val 0 a.isLt (by decide) _ _).trans ?_
  split
  · exact (hb k).trans (congrArg _ (by omega))
  · exact (hd _ k).trans (congrArg _ (by dsimp only; omega))
theorem dcw1_at (hd : ∀ a k, x (ix2 a k) = sh (g k) (T * 512 + a.val + 2)) (hb' : ∀ k, bb (ix2 7 k) = sh (g k) (T * 512 + 1)) (k : Fin 1536) :
    k1_pay75 (F := Ideal) d x bb rows32 w0 (ix2 0 k)
    = w0 (ix2 0 k) + ∑ a : Fin 512, d (ix2 a k) * sh (g k) (T * 512 + a.val + 1) := by
  pointwise [k1_pay75]
  refine Ideal.add_congr rfl (Finset.sum_congr rfl fun a _ => Ideal.mul_congr rfl ?_)
  refine (sel a.val 0 a.isLt (by decide) _ _).trans ?_
  split
  · exact (hb' k).trans (congrArg _ (by omega))
  · exact (hd _ k).trans (congrArg _ (by dsimp only; omega))
theorem dcw2_at (hd : ∀ a k, x (ix2 a k) = sh (g k) (T * 512 + a.val + 2)) (k : Fin 1536) :
    k1_pay76 (F := Ideal) d x w0 (ix2 0 k)
    = w0 (ix2 0 k) + ∑ a : Fin 512, d (ix2 a k) * sh (g k) (T * 512 + a.val + 2) := by
  pointwise [k1_pay76]
  exact Ideal.add_congr rfl (Finset.sum_congr rfl fun a _ => Ideal.mul_congr rfl (hd a k))
theorem dcw3_at (hd : ∀ a k, x (ix2 a k) = sh (g k) (T * 512 + a.val + 2)) (ha : ∀ k, aa (ix2 0 k) = sh (g k) (T * 512 + 514)) (k : Fin 1536) :
    k1_pay79 (F := Ideal) (k1_pay77 w0) (k1_pay78 d x aa rows32) (ix2 0 k)
    = w0 (ix2 0 k) + ∑ a : Fin 512, d (ix2 a k) * sh (g k) (T * 512 + a.val + 3) := by
  pointwise [k1_pay77, k1_pay78, k1_pay79]
  refine Ideal.add_congr rfl (Finset.sum_congr rfl fun a _ => Ideal.mul_congr rfl ?_)
  refine (sel a.val 511 a.isLt (by decide) _ _).trans ?_
  split
  · exact (ha k).trans (congrArg _ (by omega))
  · exact (hd _ k).trans (congrArg _ (by dsimp only; omega))
theorem dcb_at (k : Fin 1536) :
    k1_pay80 (F := Ideal) d w0 (ix2 0 k) = w0 (ix2 0 k) + ∑ a : Fin 512, d (ix2 a k) := by
  pointwise [k1_pay80]
theorem xb_one (a : Fin 8) (k : Fin 1536) : k1_pay65 (F := Ideal) 1#1 bb (ix2 a k) = 0 := by
  pointwise [k1_pay65]
theorem xb_zero (a : Fin 8) (k : Fin 1536) : k1_pay65 (F := Ideal) 0#1 bb (ix2 a k) = bb (ix2 a k) := by
  pointwise [k1_pay65]
theorem xa_one (a : Fin 8) (k : Fin 1536) : k1_pay66 (F := Ideal) 1#1 bb (ix2 a k) = 0 := by
  pointwise [k1_pay66]
theorem xa_zero (a : Fin 8) (k : Fin 1536) : k1_pay66 (F := Ideal) 0#1 bb (ix2 a k) = bb (ix2 a k) := by
  pointwise [k1_pay66]

end Cert.RnnInIdeal.Val
end
-- ==== Proof.RnnInVal1.lean ====
module

public import proofs.«01_k».proof.Proof.RnnInShift

@[expose] public section

set_option maxRecDepth 16384

noncomputable section
namespace Cert.RnnInIdeal.Val
open Idealize.ShloMosaic Idealize.ShloMosaic.TcCoe Idealize.SL.Sem
open Cert.RnnInIdeal Cert.RnnInIdeal.Gen Cert.Rows Cert.Shift

/-! ## The second region: the gradient, at an element -/

variable (V : (c : Dev nD) → (b : Ref sig .tc) → Buf (Elt Ideal) ((c : Thread nD τ).loc b)) (c : Dev nD)

abbrev DF : S12x8192x128.Idx → EReal := V c main_v7
abbrev DB : S12x8192x128.Idx → EReal := V c main_v9
abbrev XR : S8192x1536.Idx → EReal := V c main_v5_0
abbrev CW : S4x1536.Idx → EReal := V c main_arg6
abbrev DG : S8192x1536.Idx → EReal := V c main_v11
abbrev X : S8192x1024.Idx → EReal := V c main_v2
abbrev MODS : S12x1024.Idx → EReal := V c main_v1
abbrev W : S3072x1024.Idx → EReal := V c main_v4
abbrev DRES : S8192x1024.Idx → EReal := V c main_v12
/-- The gradient of the convolution's result, -/
def dd (k : Fin 1536) (r : Fin 8192) : EReal := DF V c (ix3 (slab k) r (lane k)) + DB V c (ix3 (slab k) r (lane k))
abbrev xc (k : Fin 1536) (r : Fin 8192) : EReal := XR V c (ix2 r k)
/-- of its input, -/
def DXR (r : Fin 8192) (k : Fin 1536) : EReal :=
  CW V c (ix2 0 k) * sh (dd V c k) (r.val + 4) + CW V c (ix2 1 k) * sh (dd V c k) (r.val + 3)
    + CW V c (ix2 2 k) * sh (dd V c k) (r.val + 2) + CW V c (ix2 3 k) * sh (dd V c k) (r.val + 1)
/-- of the two branches side by side, -/
def DZ (r : Fin 8192) (k : Fin 3072) : EReal :=
  if h : k.val < 1536 then DXR V c r ⟨k.val, h⟩ else DG V c (ix2 r ⟨k.val - 1536, by omega⟩)
/-- and of the modulated row. -/
def DH (r : Fin 8192) (k : Fin 1024) : EReal := ∑ l, DZ V c r l * W V c (ix2 l k)
def DX (r : Fin 8192) (k : Fin 1024) : EReal := DRES V c (ix2 r k) + DH V c r k * (1 + MODS V c (ix2 7 k))
def H (r : Fin 8192) (k : Fin 1024) : EReal := X V c (ix2 r k) * (1 + MODS V c (ix2 7 k)) + MODS V c (ix2 6 k)

theorem idx1a : ∀ t : Fin cfg1.N, win1_0.index t = ![0, t.val, 0] ∧ win1_1.index t = ![0, t.val * 64 - 1, 0] ∧ win1_2.index t = ![0, min ((t.val + 1) * 64) 1023, 0]
    ∧ win1_3.index t = ![0, t.val, 0] ∧ win1_4.index t = ![0, t.val * 64 - 1, 0] ∧ win1_5.index t = ![0, min ((t.val + 1) * 64) 1023, 0]
    ∧ win1_6.index t = ![t.val, 0] ∧ win1_7.index t = ![t.val * 64 - 1, 0] ∧ win1_8.index t = ![min ((t.val + 1) * 64) 1023, 0] :=
  (by decide +kernel : ∀ t : Fin grid1.N, _)
theorem idx1b : ∀ t : Fin cfg1.N, win1_9.index t = ![0, 0] ∧ win1_10.index t = ![t.val, 0] ∧ win1_11.index t = ![t.val, 0]
    ∧ win1_12.index t = ![0, 0] ∧ win1_13.index t = ![0, 0] ∧ win1_14.index t = ![t.val, 0]
    ∧ win1_15.index t = ![t.val, 0] ∧ win1_16.index t = ![t.val, 0] ∧ win1_17.index t = ![t.val, 0] ∧ win1_18.index t = ![0, 0]
    ∧ win1_19.index t = ![0, 0] ∧ win1_20.index t = ![0, 0] :=
  (by decide +kernel : ∀ t : Fin grid1.N, _)

abbrev brow (t : Fin cfg1.N) (a : Fin 512) : Fin 8192 := ⟨t.val * 512 + a.val, by have := t.isLt; have : cfg1.N = 16 := N_1; omega⟩
abbrev prow (t : Fin cfg1.N) (a : Fin 8) : Fin 8192 := ⟨(t.val * 64 - 1) * 8 + a.val, by have := t.isLt; have : cfg1.N = 16 := N_1; omega⟩
abbrev nrow (t : Fin cfg1.N) (a : Fin 8) : Fin 8192 := ⟨(min ((t.val + 1) * 64) 1023) * 8 + a.val, by omega⟩
theorem blk_f (t : Fin cfg1.N) (l : Fin 12) (a : Fin 512) (k : Fin 128) : (iblk1 V c 0 t : S12x512x128.Idx → EReal) (ix3 l a k) = DF V c (ix3 l (brow t a) k) := by
  blk_point [iblk1, idx1a t]
theorem blk_fp (t : Fin cfg1.N) (l : Fin 12) (a : Fin 8) (k : Fin 128) : (iblk1 V c 1 t : S12x8x128.Idx → EReal) (ix3 l a k) = DF V c (ix3 l (prow t a) k) := by
  blk_point [iblk1, idx1a t]
theorem blk_fn (t : Fin cfg1.N) (l : Fin 12) (a : Fin 8) (k : Fin 128) : (iblk1 V c 2 t : S12x8x128.Idx → EReal) (ix3 l a k) = DF V c (ix3 l (nrow t a) k) := by
  blk_point [iblk1, idx1a t]
theorem blk_b (t : Fin cfg1.N) (l : Fin 12) (a : Fin 512) (k : Fin 128) : (iblk1 V c 3 t : S12x512x128.Idx → EReal) (ix3 l a k) = DB V c (ix3 l (brow t a) k) := by
  blk_point [iblk1, idx1a t]
theorem blk_bp (t : Fin cfg1.N) (l : Fin 12) (a : Fin 8) (k : Fin 128) : (iblk1 V c 4 t : S12x8x128.Idx → EReal) (ix3 l a k) = DB V c (ix3 l (prow t a) k) := by
  blk_point [iblk1, idx1a t]
theorem blk_bn (t : Fin cfg1.N) (l : Fin 12) (a : Fin 8) (k : Fin 128) : (iblk1 V c 5 t : S12x8x128.Idx → EReal) (ix3 l a k) = DB V c (ix3 l (nrow t a) k) := by
  blk_point [iblk1, idx1a t]
theorem blk_xr (t : Fin cfg1.N) (a : Fin 512) (k : Fin 1536) : (iblk1 V c 6 t : S512x1536.Idx → EReal) (ix2 a k) = XR V c (ix2 (brow t a) k) := by
  blk_point [iblk1, idx1a t]
theorem blk_xrp (t : Fin cfg1.N) (a : Fin 8) (k : Fin 1536) : (iblk1 V c 7 t : S8x1536.Idx → EReal) (ix2 a k) = XR V c (ix2 (prow t a) k) := by
  blk_point [iblk1, idx1a t]
theorem blk_xrn (t : Fin cfg1.N) (a : Fin 8) (k : Fin 1536) : (iblk1 V c 8 t : S8x1536.Idx → EReal) (ix2 a k) = XR V c (ix2 (nrow t a) k) := by
  blk_point [iblk1, idx1a t]
theorem blk_cw (t : Fin cfg1.N) (i : S4x1536.Idx) : (iblk1 V c 9 t : S4x1536.Idx → EReal) i = CW V c i := by
  blk_point [iblk1, idx1b t]
theorem blk_dg (t : Fin cfg1.N) (a : Fin 512) (k : Fin 1536) : (iblk1 V c 10 t : S512x1536.Idx → EReal) (ix2 a k) = DG V c (ix2 (brow t a) k) := by
  blk_point [iblk1, idx1b t]
theorem blk_x (t : Fin cfg1.N) (a : Fin 512) (k : Fin 1024) : (iblk1 V c 11 t : S512x1024.Idx → EReal) (ix2 a k) = X V c (ix2 (brow t a) k) := by
  blk_point [iblk1, idx1b t]
theorem blk_mods (t : Fin cfg1.N) (i : S12x1024.Idx) : (iblk1 V c 12 t : S12x1024.Idx → EReal) i = MODS V c i := by
  blk_point [iblk1, idx1b t]
theorem blk_w (t : Fin cfg1.N) (i : S3072x1024.Idx) : (iblk1 V c 13 t : S3072x1024.Idx → EReal) i = W V c i := by
  blk_point [iblk1, idx1b t]
theorem blk_dr (t : Fin cfg1.N) (a : Fin 512) (k : Fin 1024) : (iblk1 V c 14 t : S512x1024.Idx → EReal) (ix2 a k) = DRES V c (ix2 (brow t a) k) := by
  blk_point [iblk1, idx1b t]

/-! ## A block's rows and its neighbours' -/

abbrev isFirst (t : Fin cfg1.N) : BitVec 1 := Scalar.cmpi CmpIPredicate.eq (BitVec.ofNat 32 (grid1.coords t 0).val) 0#32
abbrev isLast (t : Fin cfg1.N) : BitVec 1 := Scalar.cmpi CmpIPredicate.eq (BitVec.ofNat 32 (grid1.coords t 0).val) 15#32
theorem first_eq : ∀ t : Fin cfg1.N, isFirst t = if t.val = 0 then 1#1 else 0#1 := (by decide +kernel : ∀ t : Fin grid1.N, _)
theorem last_eq : ∀ t : Fin cfg1.N, isLast t = if t.val = 15 then 1#1 else 0#1 := (by decide +kernel : ∀ t : Fin grid1.N, _)

theorem sh_val (f : Fin 8192 → EReal) (n : ℕ) (r : Fin 8192) (h : n = r.val + 2) : f r = sh f n := by rw [h, sh_at]
theorem sh_out (f : Fin 8192 → EReal) (n : ℕ) (h : n < 2 ∨ 8194 ≤ n) : 0 = sh f n := by
  unfold sh
  rw [dif_neg (by omega)]

variable (t : Fin cfg1.N)
/-- The gradient's block, -/
abbrev db : S512x1536.Idx → EReal := dcat (iblk1 V c 0 t) (iblk1 V c 3 t)
abbrev dp : S8x1536.Idx → EReal := bcat (iblk1 V c 1 t) (iblk1 V c 4 t) (isFirst t)
abbrev dn : S8x1536.Idx → EReal := acat (iblk1 V c 2 t) (iblk1 V c 5 t) (isLast t)
/-- and the input's. -/
abbrev xb : S512x1536.Idx → EReal := k1_pay30 (F := Ideal) (iblk1 V c 6 t)
abbrev xp : S8x1536.Idx → EReal := k1_pay65 (F := Ideal) (isFirst t) (iblk1 V c 7 t)
abbrev xn : S8x1536.Idx → EReal := k1_pay66 (F := Ideal) (isLast t) (iblk1 V c 8 t)

theorem db_at (a : Fin 512) (k : Fin 1536) : db V c t (ix2 a k) = sh (dd V c k) (t.val * 512 + a.val + 2) := by
  refine (dcat_at _ _ a k).trans ((Ideal.add_congr (blk_f V c t _ a _) (blk_b V c t _ a _)).trans ?_)
  exact sh_val (dd V c k) _ (brow t a) rfl
theorem xb_at (a : Fin 512) (k : Fin 1536) : xb V c t (ix2 a k) = sh (xc V c k) (t.val * 512 + a.val + 2) := by
  refine Eq.trans ?_ (sh_val (xc V c k) _ (brow t a) rfl)
  pointwise [k1_pay30, blk_xr]
theorem dp_at (k : Fin 1536) : dp V c t (ix2 7 k) = sh (dd V c k) (t.val * 512 + 1) := by
  unfold dp
  rw [first_eq]
  by_cases h : t.val = 0
  · rw [if_pos h, bcat_one]
    exact sh_out _ _ (by omega)
  · rw [if_neg h, bcat_zero]
    refine (Ideal.add_congr (blk_fp V c t _ 7 _) (blk_bp V c t _ 7 _)).trans ?_
    exact sh_val (dd V c k) _ (prow t 7) (by simp; omega)
theorem dn_at (q : Fin 8) (hq : q.val < 2) (k : Fin 1536) : dn V c t (ix2 q k) = sh (dd V c k) (t.val * 512 + (514 + q.val)) := by
  have ht : t.val < 16 := lt_of_lt_of_eq t.isLt N_1
  unfold dn
  rw [last_eq]
  by_cases h : t.val = 15
  · rw [if_pos h, acat_one]
    exact sh_out _ _ (by omega)
  · rw [if_neg h, acat_zero]
    refine (Ideal.add_congr (blk_fn V c t _ q _) (blk_bn V c t _ q _)).trans ?_
    exact sh_val (dd V c k) _ (nrow t q) (by simp; omega)
theorem xp_at (q : Fin 8) (hq : 6 ≤ q.val) (k : Fin 1536) : xp V c t (ix2 q k) = sh (xc V c k) (t.val * 512 + (q.val - 6)) := by
  unfold xp
  rw [first_eq]
  by_cases h : t.val = 0
  · rw [if_pos h, xb_one]
    exact sh_out _ _ (by omega)
  · rw [if_neg h, xb_zero]
    refine (blk_xrp V c t q k).trans ?_
    exact sh_val (xc V c k) _ (prow t q) (by simp; omega)
theorem xn_at (k : Fin 1536) : xn V c t (ix2 0 k) = sh (xc V c k) (t.val * 512 + 514) := by
  have ht : t.val < 16 := lt_of_lt_of_eq t.isLt N_1
  unfold xn
  rw [last_eq]
  by_cases h : t.val = 15
  · rw [if_pos h, xa_one]
    exact sh_out _ _ (by omega)
  · rw [if_neg h, xa_zero]
    refine (blk_xrn V c t 0 k).trans ?_
    exact sh_val (xc V c k) _ (nrow t 0) (by simp; omega)

end Cert.RnnInIdeal.Val
end
-- ==== Proof.RnnInVal2.lean ====
module

public import proofs.«01_k».proof.Proof.RnnInVal1

@[expose] public section

set_option maxRecDepth 16384

noncomputable section
namespace Cert.RnnInIdeal.Val
open Idealize.ShloMosaic Idealize.ShloMosaic.TcCoe Idealize.SL.Sem
open Cert.RnnInIdeal Cert.RnnInIdeal.Gen Cert.Rows Cert.Shift

variable (V : (c : Dev nD) → (b : Ref sig .tc) → Buf (Elt Ideal) ((c : Thread nD τ).loc b)) (c : Dev nD)
variable (t : Fin cfg1.N) (a : Fin 512)

abbrev cw0 : S1x1536.Idx → EReal := (View.ld (S := S4x1536) (Val := Elt Ideal) (e' := .f32) (iblk1 V c 9 t) (Rect.unit (s := S4x1536) ![0, 0] ![1, 1536] inb_S4x1536_S1x1536_0_0))
abbrev cw1 : S1x1536.Idx → EReal := (View.ld (S := S4x1536) (Val := Elt Ideal) (e' := .f32) (iblk1 V c 9 t) (Rect.unit (s := S4x1536) ![1, 0] ![1, 1536] inb_S4x1536_S1x1536_1_0))
abbrev cw2 : S1x1536.Idx → EReal := (View.ld (S := S4x1536) (Val := Elt Ideal) (e' := .f32) (iblk1 V c 9 t) (Rect.unit (s := S4x1536) ![2, 0] ![1, 1536] inb_S4x1536_S1x1536_2_0))
abbrev cw3 : S1x1536.Idx → EReal := (View.ld (S := S4x1536) (Val := Elt Ideal) (e' := .f32) (iblk1 V c 9 t) (Rect.unit (s := S4x1536) ![3, 0] ![1, 1536] inb_S4x1536_S1x1536_3_0))
abbrev shl : S1x1024.Idx → EReal := (View.ld (S := S12x1024) (Val := Elt Ideal) (e' := .f32) (iblk1 V c 12 t) (Rect.unit (s := S12x1024) ![6, 0] ![1, 1024] inb_S12x1024_S1x1024_6_0))
abbrev scl : S1x1024.Idx → EReal := (View.ld (S := S12x1024) (Val := Elt Ideal) (e' := .f32) (iblk1 V c 12 t) (Rect.unit (s := S12x1024) ![7, 0] ![1, 1024] inb_S12x1024_S1x1024_7_0))

theorem cw0_at (k : Fin 1536) : cw0 V c t (ix2 0 k) = CW V c (ix2 0 k) := by
  unfold cw0
  pointwise [blk_cw]
theorem cw1_at (k : Fin 1536) : cw1 V c t (ix2 0 k) = CW V c (ix2 1 k) := by
  unfold cw1
  pointwise [blk_cw]
theorem cw2_at (k : Fin 1536) : cw2 V c t (ix2 0 k) = CW V c (ix2 2 k) := by
  unfold cw2
  pointwise [blk_cw]
theorem cw3_at (k : Fin 1536) : cw3 V c t (ix2 0 k) = CW V c (ix2 3 k) := by
  unfold cw3
  pointwise [blk_cw]
theorem shl_at (k : Fin 1024) : shl V c t (ix2 0 k) = MODS V c (ix2 6 k) := by
  unfold shl
  pointwise [blk_mods]
theorem scl_at (k : Fin 1024) : scl V c t (ix2 0 k) = MODS V c (ix2 7 k) := by
  unfold scl
  pointwise [blk_mods]

abbrev pxr : S512x1536.Idx → EReal := k1_pay69 (F := Ideal) (db V c t) (dp V c t) (dn V c t) rows32 (cw0 V c t)
  (up2 (db V c t) (iblk1 V c 2 t) (iblk1 V c 5 t) (isLast t)) k1_pay68 (cw1 V c t) (cw2 V c t) (cw3 V c t)
theorem pxr_at (k : Fin 1536) : pxr V c t (ix2 a k) = DXR V c (brow t a) k := by
  unfold pxr
  refine (dxr_at _ _ _ _ _ _ _ _ (dd V c) t.val (isLast t) (db_at V c t) (dp_at V c t) (dn_at V c t 0 (by decide)) (dn_at V c t 1 (by decide)) a k).trans ?_
  rw [cw0_at, cw1_at, cw2_at, cw3_at]
  rfl

/-- The two branches' gradients, as stored, -/
abbrev pcs : List (View.Piece (Elt Ideal) S512x3072 .bf16) :=
  [⟨Rect.unit ![0, 1536] ![512, 1536] inb_S512x3072_S512x1536_0_1536, k1_pay82 (F := Ideal) (iblk1 V c 10 t)⟩,
   ⟨Rect.unit ![0, 0] ![512, 1536] inb_S512x3072_S512x1536_0_0, k1_pay81 (F := Ideal) (pxr V c t)⟩]
theorem pcs_at (k : Fin 3072) : View.canon (pcs V c t) (ix2 a k) = (DZ V c (brow t a) k : EReal) := by
  have hk := k.isLt
  refine canon_cols_step _ _ _ _ _ _ (fun h => ?_) fun h => canon_cols_step _ _ _ _ _ _ (fun h' => ?_) fun h' => by omega
  · refine Eq.trans (b := DG V c (ix2 (brow t a) ⟨k.val - 1536, by omega⟩)) ?_ (by unfold DZ; rw [dif_neg (by omega : ¬ k.val < 1536)])
    pointwise [k1_pay82, blk_dg]
  · refine Eq.trans (b := DXR V c (brow t a) ⟨k.val, by omega⟩) ?_ (by unfold DZ; rw [dif_pos (by omega : k.val < 1536)])
    refine Eq.trans ?_ (pxr_at V c t a ⟨k.val, by omega⟩)
    generalize pxr V c t = z
    pointwise [k1_pay81]
/-- and read again. -/
theorem all_at {sig : RefSig} {κ : Kind} {sp : Space} (v : View sig κ sp S512x3072 .bf16) :
    v.readCov (pcs V c t) (Rect.unit (s := S512x3072) ![0, 0] ![512, 3072] inb_S512x3072_S512x3072_0_0).toLoadRect
      = (fun y => DZ V c (brow t (y 0)) (y 1) : S512x3072.Idx → EReal) := by
  rw [View.readCov_eq_canon']
  funext y
  refine (congrArg (View.canon (pcs V c t)) ?_).trans (pcs_at V c t (y 0) (y 1))
  funext b
  refine Fin.ext ?_
  revert b
  refine Fin.forall_fin_two.mpr ⟨?_, ?_⟩ <;> simp

abbrev zb : S512x3072.Idx → EReal := fun y => DZ V c (brow t (y 0)) (y 1)
theorem dh_pay (k : Fin 1024) : k1_pay1 (F := Ideal) (k1_pay83 (zb V c t)) (iblk1 V c 13 t) (ix2 a k) = DH V c (brow t a) k := by
  pointwise [k1_pay1, k1_pay83, blk_w, DH]
  rfl
theorem dx_pay (k : Fin 1024) : k1_pay2 (F := Ideal) (k1_pay83 (zb V c t)) (k1_pay85 (scl V c t)) (iblk1 V c 13 t) (iblk1 V c 14 t) (ix2 a k) = DX V c (brow t a) k := by
  pointwise [k1_pay2, k1_pay85, dh_pay, scl_at, blk_dr, DX]
theorem h_pay (k : Fin 1024) : k1_pay86 (F := Ideal) (iblk1 V c 11 t) (shl V c t) (scl V c t) (ix2 a k) = H V c (brow t a) k := by
  pointwise [k1_pay86, k1_pay84, k1_pay85, scl_at, shl_at, blk_x, H]
variable (acc : S1x1024.Idx → EReal) (k : Fin 1024)
theorem row0_pay : k1_pay3 (F := Ideal) (k1_pay83 (zb V c t)) (iblk1 V c 13 t) acc (ix2 0 k) = acc (ix2 0 k) + ∑ x, DH V c (brow t x) k := by
  pointwise [k1_pay3, dh_pay]
theorem row1_pay : k1_pay4 (F := Ideal) (k1_pay83 (zb V c t)) (k1_pay84 (iblk1 V c 11 t)) (iblk1 V c 13 t) acc (ix2 0 k)
    = acc (ix2 0 k) + ∑ x, DH V c (brow t x) k * X V c (ix2 (brow t x) k) := by
  pointwise [k1_pay4, k1_pay84, dh_pay, blk_x]

/-! ## The blocks together -/

theorem DX_out (t : Fin cfg1.N) (a : Fin 512) (k : Fin 1024) (y : S512x1024.Idx) (hy : y = ix2 a k) : ((outsAt1 V c t.val t.isLt).1 : S512x1024.Idx → EReal) y = DX V c (brow t a) k := by
  subst hy
  by_cases h : t.val % 16 = 0
  · rw [outsAt1_A V c t h]
    frame_out
    refine Eq.trans ?_ (dx_pay V c t a k)
    exact congrArg (fun z => k1_pay2 (F := Ideal) (k1_pay83 z) (k1_pay85 (scl V c t)) (iblk1 V c 13 t) (iblk1 V c 14 t) (ix2 a k)) (all_at V c t (ms1_16 t).view)
  · rw [outsAt1_B V c t h]
    frame_out
    refine Eq.trans ?_ (dx_pay V c t a k)
    exact congrArg (fun z => k1_pay2 (F := Ideal) (k1_pay83 z) (k1_pay85 (scl V c t)) (iblk1 V c 13 t) (iblk1 V c 14 t) (ix2 a k)) (all_at V c t (ms1_16 t).view)
theorem fin1_15 : (dat1 V c).arrAt 15 cfg1.N = fun j => DX V c (j 0) (j 1) := by
  refine (dat1 V c).arrAt_eq_of_covers 15 _ (by decide +kernel) fun t hf y => ?_
  blk_simp
  refine Eq.trans (b := DX V c (brow t (y 0)) (y 1)) ?_ (congrArg₂ (DX V c) (Fin.ext ?_) (Fin.ext ?_))
  · rw [after1_15]
    exact DX_out V c t (y 0) (y 1) y (eq_ix2 _)
  · blk_simp [idx1b t]
  · blk_simp [idx1b t]
theorem DZ_out (t : Fin cfg1.N) (a : Fin 512) (k : Fin 3072) (y : S512x3072.Idx) (hy : y = ix2 a k) : ((outsAt1 V c t.val t.isLt).2.1 : S512x3072.Idx → EReal) y = DZ V c (brow t a) k := by
  subst hy
  by_cases h : t.val % 16 = 0
  · rw [outsAt1_A V c t h]
    frame_out
    exact pcs_at V c t a k
  · rw [outsAt1_B V c t h]
    frame_out
    exact pcs_at V c t a k
theorem fin1_16 : (dat1 V c).arrAt 16 cfg1.N = fun j => DZ V c (j 0) (j 1) := by
  refine (dat1 V c).arrAt_eq_of_covers 16 _ (by decide +kernel) fun t hf y => ?_
  blk_simp
  refine Eq.trans (b := DZ V c (brow t (y 0)) (y 1)) ?_ (congrArg₂ (DZ V c) (Fin.ext ?_) (Fin.ext ?_))
  · rw [after1_16]
    exact DZ_out V c t (y 0) (y 1) y (eq_ix2 _)
  · blk_simp [idx1b t]
  · blk_simp [idx1b t]
theorem H_out (t : Fin cfg1.N) (a : Fin 512) (k : Fin 1024) (y : S512x1024.Idx) (hy : y = ix2 a k) : ((outsAt1 V c t.val t.isLt).2.2.1 : S512x1024.Idx → EReal) y = H V c (brow t a) k := by
  subst hy
  by_cases h : t.val % 16 = 0
  · rw [outsAt1_A V c t h]
    frame_out
    exact h_pay V c t a k
  · rw [outsAt1_B V c t h]
    frame_out
    exact h_pay V c t a k
theorem fin1_17 : (dat1 V c).arrAt 17 cfg1.N = fun j => H V c (j 0) (j 1) := by
  refine (dat1 V c).arrAt_eq_of_covers 17 _ (by decide +kernel) fun t hf y => ?_
  blk_simp
  refine Eq.trans (b := H V c (brow t (y 0)) (y 1)) ?_ (congrArg₂ (H V c) (Fin.ext ?_) (Fin.ext ?_))
  · rw [after1_17]
    exact H_out V c t (y 0) (y 1) y (eq_ix2 _)
  · blk_simp [idx1b t]
  · blk_simp [idx1b t]

end Cert.RnnInIdeal.Val
end
-- ==== Proof.RnnInVal0.lean ====
module

public import proofs.«01_k».proof.Proof.RnnInVal2

@[expose] public section

set_option maxRecDepth 16384

noncomputable section
namespace Cert.RnnInIdeal.Val
open Idealize.ShloMosaic Idealize.ShloMosaic.TcCoe Idealize.SL.Sem
open Cert.RnnInIdeal Cert.RnnInIdeal.Gen Cert.Rows Cert.Shift

/-! ## The first region: the two branches -/

theorem idx0 : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

variable (V : (c : Dev nD) → (b : Ref sig .tc) → Buf (Elt Ideal) ((c : Thread nD τ).loc b)) (c : Dev nD)

/-- Column `o + k` of the product. -/
def BR (o : ℕ) (ho : o ≤ 1536) (r : Fin 8192) (k : Fin 1536) : EReal := ∑ x, H V c r x * W V c (ix2 ⟨o + k.val, by omega⟩ x)
abbrev XR0 := BR V c 0 (by decide)
abbrev GT0 := BR V c 1536 (by decide)
abbrev brow0 (t : Fin cfg0.N) (a : Fin 512) : Fin 8192 := ⟨t.val * 512 + a.val, by have := t.isLt; have : cfg0.N = 16 := N_0; omega⟩

theorem blk0_x (t : Fin cfg0.N) (a : Fin 512) (k : Fin 1024) : (iblk0 V c 0 t : S512x1024.Idx → EReal) (ix2 a k) = X V c (ix2 (brow0 t a) k) := by
  blk_point [iblk0, idx0 t]
theorem blk0_mods (t : Fin cfg0.N) (i : S12x1024.Idx) : (iblk0 V c 1 t : S12x1024.Idx → EReal) i = MODS V c i := by
  blk_point [iblk0, idx0 t]
theorem blk0_w (t : Fin cfg0.N) (i : S3072x1024.Idx) : (iblk0 V c 2 t : S3072x1024.Idx → EReal) i = W V c i := by
  blk_point [iblk0, idx0 t]

variable (t : Fin cfg0.N) (a : Fin 512)
theorem h0_pay (k : Fin 1024) : k0_pay1 (F := Ideal) (View.ld (S := S12x1024) (Val := Elt Ideal) (e' := .f32) (iblk0 V c 1 t) (Rect.unit (s := S12x1024) ![6, 0] ![1, 1024] inb_S12x1024_S1x1024_6_0)) (View.ld (S := S12x1024) (Val := Elt Ideal) (e' := .f32) (iblk0 V c 1 t) (Rect.unit (s := S12x1024) ![7, 0] ![1, 1024] inb_S12x1024_S1x1024_7_0)) (iblk0 V c 0 t) (ix2 a k) = H V c (brow0 t a) k := by
  pointwise [k0_pay1, blk0_x, blk0_mods, H]
theorem xr_pay (k : Fin 1536) : k0_pay2 (F := Ideal) (View.ld (S := S12x1024) (Val := Elt Ideal) (e' := .f32) (iblk0 V c 1 t) (Rect.unit (s := S12x1024) ![6, 0] ![1, 1024] inb_S12x1024_S1x1024_6_0)) (View.ld (S := S12x1024) (Val := Elt Ideal) (e' := .f32) (iblk0 V c 1 t) (Rect.unit (s := S12x1024) ![7, 0] ![1, 1024] inb_S12x1024_S1x1024_7_0)) (iblk0 V c 0 t) (View.ld (S := S3072x1024) (Val := Elt Ideal) (e' := .bf16) (iblk0 V c 2 t) (Rect.unit (s := S3072x1024) ![0, 0] ![1536, 1024] inb_S3072x1024_S1536x1024_0_0)) (ix2 a k) = XR0 V c (brow0 t a) k := by
  pointwise [k0_pay2, h0_pay, blk0_w, BR]
theorem gt_pay (k : Fin 1536) : k0_pay3 (F := Ideal) (View.ld (S := S12x1024) (Val := Elt Ideal) (e' := .f32) (iblk0 V c 1 t) (Rect.unit (s := S12x1024) ![6, 0] ![1, 1024] inb_S12x1024_S1x1024_6_0)) (View.ld (S := S12x1024) (Val := Elt Ideal) (e' := .f32) (iblk0 V c 1 t) (Rect.unit (s := S12x1024) ![7, 0] ![1, 1024] inb_S12x1024_S1x1024_7_0)) (iblk0 V c 0 t) (View.ld (S := S3072x1024) (Val := Elt Ideal) (e' := .bf16) (iblk0 V c 2 t) (Rect.unit (s := S3072x1024) ![1536, 0] ![1536, 1024] inb_S3072x1024_S1536x1024_1536_0)) (ix2 a k) = GT0 V c (brow0 t a) k := by
  pointwise [k0_pay3, h0_pay, blk0_w, BR]
theorem fin0_3 : (dat0 V c).arrAt 3 cfg0.N = fun j => XR0 V c (j 0) (j 1) := by
  refine (dat0 V c).arrAt_eq_of_covers 3 _ (by decide +kernel) fun t hf y => ?_
  blk_simp
  refine Eq.trans (b := XR0 V c (brow0 t (y 0)) (y 1)) ?_ (congrArg₂ (XR0 V c) (Fin.ext ?_) (Fin.ext ?_))
  · rw [after0_3]
    frame_out
    exact (congrArg _ (eq_ix2 _)).trans (xr_pay V c t (y 0) (y 1))
  · blk_simp [idx0 t]
  · blk_simp [idx0 t]
theorem fin0_4 : (dat0 V c).arrAt 4 cfg0.N = fun j => GT0 V c (j 0) (j 1) := by
  refine (dat0 V c).arrAt_eq_of_covers 4 _ (by decide +kernel) fun t hf y => ?_
  blk_simp
  refine Eq.trans (b := GT0 V c (brow0 t (y 0)) (y 1)) ?_ (congrArg₂ (GT0 V c) (Fin.ext ?_) (Fin.ext ?_))
  · rw [after0_4]
    frame_out
    exact (congrArg _ (eq_ix2 _)).trans (gt_pay V c t (y 0) (y 1))
  · blk_simp [idx0 t]
  · blk_simp [idx0 t]

end Cert.RnnInIdeal.Val
end
-- ==== Proof.RnnInVal3.lean ====
module

public import proofs.«01_k».proof.Proof.RnnInVal2

@[expose] public section

set_option maxRecDepth 16384

noncomputable section
namespace Cert.RnnInIdeal.Val
open Idealize.ShloMosaic Idealize.ShloMosaic.TcCoe Idealize.SL.Sem
open Cert.RnnInIdeal Cert.RnnInIdeal.Gen Cert.Rows Cert.Shift

/-! ## The sums over the rows -/

variable (V : (c : Dev nD) → (b : Ref sig .tc) → Buf (Elt Ideal) ((c : Thread nD τ).loc b)) (c : Dev nD)

/-- What the rows of block `t` add to the row sums, -/
def S18 (t : ℕ) (h : t < cfg1.N) (j : S8x1024.Idx) : EReal :=
  if (j 0).val = 1 then ∑ x, DH V c (brow ⟨t, h⟩ x) (j 1) * X V c (ix2 (brow ⟨t, h⟩ x) (j 1))
  else if (j 0).val = 0 then ∑ x, DH V c (brow ⟨t, h⟩ x) (j 1)
  else 0
/-- to the gradient of the convolution's weight, -/
def S19 (t : ℕ) (h : t < cfg1.N) (j : S4x1536.Idx) : EReal :=
  ∑ x, dd V c (j 1) (brow ⟨t, h⟩ x) * sh (xc V c (j 1)) ((brow ⟨t, h⟩ x).val + (j 0).val)
/-- and to its offset's. -/
def S20 (t : ℕ) (h : t < cfg1.N) (j : S1x1536.Idx) : EReal := ∑ x, dd V c (j 1) (brow ⟨t, h⟩ x)

variable (t : Fin cfg1.N) (acc : S1x1536.Idx → EReal) (k : Fin 1536)
theorem db_row (x : Fin 512) : db V c t (ix2 x k) = dd V c k (brow t x) := (db_at V c t x k).trans (sh_val (dd V c k) _ (brow t x) rfl).symm
abbrev w0p : S1x1536.Idx → EReal := k1_pay74 (F := Ideal) (db V c t) (k1_pay70 acc) (k1_pay71 (xb V c t) (xp V c t) rows32) (k1_pay72 rows32) (k1_pay73 (xp V c t))
abbrev w1p : S1x1536.Idx → EReal := k1_pay75 (F := Ideal) (db V c t) (xb V c t) (xp V c t) rows32 acc
abbrev w2p : S1x1536.Idx → EReal := k1_pay76 (F := Ideal) (db V c t) (xb V c t) acc
abbrev w3p : S1x1536.Idx → EReal := k1_pay79 (F := Ideal) (k1_pay77 acc) (k1_pay78 (db V c t) (xb V c t) (xn V c t) rows32)
theorem w_pay0 : w0p V c t acc (ix2 0 k) = acc (ix2 0 k) + S19 V c t.val t.isLt (ix2 0 k) := by
  refine (dcw0_at _ _ _ _ (xc V c) t.val (xb_at V c t) (xp_at V c t 6 (by decide)) (xp_at V c t 7 (by decide)) k).trans ?_
  exact Ideal.add_congr rfl (Finset.sum_congr rfl fun x _ => Ideal.mul_congr (db_row V c t k x) rfl)
theorem w_pay1 : w1p V c t acc (ix2 0 k) = acc (ix2 0 k) + S19 V c t.val t.isLt (ix2 1 k) := by
  refine (dcw1_at _ _ _ _ (xc V c) t.val (xb_at V c t) (xp_at V c t 7 (by decide)) k).trans ?_
  exact Ideal.add_congr rfl (Finset.sum_congr rfl fun x _ => Ideal.mul_congr (db_row V c t k x) rfl)
theorem w_pay2 : w2p V c t acc (ix2 0 k) = acc (ix2 0 k) + S19 V c t.val t.isLt (ix2 2 k) := by
  refine (dcw2_at _ _ _ (xc V c) t.val (xb_at V c t) k).trans ?_
  exact Ideal.add_congr rfl (Finset.sum_congr rfl fun x _ => Ideal.mul_congr (db_row V c t k x) rfl)
theorem w_pay3 : w3p V c t acc (ix2 0 k) = acc (ix2 0 k) + S19 V c t.val t.isLt (ix2 3 k) := by
  refine (dcw3_at _ _ _ _ (xc V c) t.val (xb_at V c t) (xn_at V c t) k).trans ?_
  exact Ideal.add_congr rfl (Finset.sum_congr rfl fun x _ => Ideal.mul_congr (db_row V c t k x) rfl)
theorem b_pay : k1_pay80 (F := Ideal) (db V c t) acc (ix2 0 k) = acc (ix2 0 k) + S20 V c t.val t.isLt (ix2 0 k) := by
  refine (dcb_at _ _ k).trans ?_
  exact Ideal.add_congr rfl (Finset.sum_congr rfl fun x _ => db_row V c t k x)
theorem s_pay0 (acc : S1x1024.Idx → EReal) (k : Fin 1024) (z) (hz : z = zb V c t) : k1_pay3 (F := Ideal) (k1_pay83 z) (iblk1 V c 13 t) acc (ix2 0 k)
    = acc (ix2 0 k) + ∑ x, DH V c (brow t x) k := by
  subst hz
  exact row0_pay V c t acc k
theorem s_pay1 (acc : S1x1024.Idx → EReal) (k : Fin 1024) (z) (hz : z = zb V c t) :
    k1_pay4 (F := Ideal) (k1_pay83 z) (k1_pay84 (iblk1 V c 11 t)) (iblk1 V c 13 t) acc (ix2 0 k)
    = acc (ix2 0 k) + ∑ x, DH V c (brow t x) k * X V c (ix2 (brow t x) k) := by
  subst hz
  exact row1_pay V c t acc k

theorem reset18 (t : Fin cfg1.N) (h : t.val % 16 = 0) (j : S8x1024.Idx) : (outsAt1 V c t.val t.isLt).2.2.2.1 j = 0 + S18 V c t.val t.isLt j := by
  rw [outsAt1_A V c t h]
  frame_out
  simp only [canon_row, S18]
  split_ifs with h1 h0
  · refine (s_pay1 V c t _ _ _ (all_at V c t (ms1_16 t).view)).trans (Ideal.add_congr ?_ rfl)
    pointwise [readCov_row, canon_row, canon_whole, k1_pay5]
  · refine (s_pay0 V c t _ _ _ (all_at V c t (ms1_16 t).view)).trans (Ideal.add_congr ?_ rfl)
    pointwise [readCov_row, canon_row, canon_whole, k1_pay5]
  · pointwise [k1_pay5, canon_whole]
theorem step18 (t : Fin cfg1.N) (h : ¬ t.val % 16 = 0) (j : S8x1024.Idx) : (outsAt1 V c t.val t.isLt).2.2.2.1 j
    = (outsAt1 V c (t.val - 1) (Nat.lt_of_le_of_lt (Nat.sub_le _ _) t.isLt)).2.2.2.1 j + S18 V c t.val t.isLt j := by
  rw [outsAt1_B V c t h]
  frame_out
  simp only [read_writes_row, S18]
  split_ifs with h1 h0
  · refine (s_pay1 V c t _ _ _ (all_at V c t (ms1_16 t).view)).trans (Ideal.add_congr ?_ rfl)
    pointwise [rowIx, ix2_row j 1 h1]
  · refine (s_pay0 V c t _ _ _ (all_at V c t (ms1_16 t).view)).trans (Ideal.add_congr ?_ rfl)
    pointwise [rowIx, ix2_row j 0 h0]
  · rw [add_zero]
    exact congrFun (Memref.IsWhole.read_unread ..) j

theorem reset20 (t : Fin cfg1.N) (h : t.val % 16 = 0) (j : S1x1536.Idx) : (outsAt1 V c t.val t.isLt).2.2.2.2.2 j = 0 + S20 V c t.val t.isLt j := by
  rw [outsAt1_A V c t h]
  frame_out
  rw [← ix2_row j 0 (by have := (j 0).isLt; simp at this ⊢)]
  refine (b_pay V c t _ _).trans (Ideal.add_congr ?_ rfl)
  pointwise [k1_pay7]
theorem step20 (t : Fin cfg1.N) (h : ¬ t.val % 16 = 0) (j : S1x1536.Idx) : (outsAt1 V c t.val t.isLt).2.2.2.2.2 j
    = (outsAt1 V c (t.val - 1) (Nat.lt_of_le_of_lt (Nat.sub_le _ _) t.isLt)).2.2.2.2.2 j + S20 V c t.val t.isLt j := by
  rw [outsAt1_B V c t h]
  frame_out
  rw [← ix2_row j 0 (by have := (j 0).isLt; simp at this ⊢)]
  exact b_pay V c t _ _

theorem fin1_18 : (dat1 V c).arrAt 18 cfg1.N = fun j => ∑ t : Fin cfg1.N, S18 V c t.val t.isLt j := by
  refine (dat1 V c).arrAt_eq_of_after_last 18 t1_15 (by decide +kernel) _ fun j => ?_
  blk_simp
  rw [after1_18, Pipeline.eq_sum_fin_of_reset_step_apply_last (fun n h => (outsAt1 V c n h).2.2.2.1) 16 (fun _ => 0)
    (fun t j => S18 V c t.val t.isLt j) (reset18 V c) (step18 V c) (le_of_eq N_1) t1_15 rfl j, zero_add]
theorem fin1_20 : (dat1 V c).arrAt 20 cfg1.N = fun j => ∑ t : Fin cfg1.N, S20 V c t.val t.isLt j := by
  refine (dat1 V c).arrAt_eq_of_after_last 20 t1_15 (by decide +kernel) _ fun j => ?_
  blk_simp
  rw [after1_20, Pipeline.eq_sum_fin_of_reset_step_apply_last (fun n h => (outsAt1 V c n h).2.2.2.2.2) 16 (fun _ => 0)
    (fun t j => S20 V c t.val t.isLt j) (reset20 V c) (step20 V c) (le_of_eq N_1) t1_15 rfl j, zero_add]

end Cert.RnnInIdeal.Val
end
-- ==== Proof.RnnInVal4.lean ====
module

public import proofs.«01_k».proof.Proof.RnnInVal3

@[expose] public section

set_option maxRecDepth 16384

noncomputable section
namespace Cert.RnnInIdeal.Val
open Idealize.ShloMosaic Idealize.ShloMosaic.TcCoe Idealize.SL.Sem
open Cert.RnnInIdeal Cert.RnnInIdeal.Gen Cert.Rows Cert.Shift

variable (V : (c : Dev nD) → (b : Ref sig .tc) → Buf (Elt Ideal) ((c : Thread nD τ).loc b)) (c : Dev nD)

theorem reset19 (t : Fin cfg1.N) (h : t.val % 16 = 0) (j : S4x1536.Idx) : (outsAt1 V c t.val t.isLt).2.2.2.2.1 j = 0 + S19 V c t.val t.isLt j := by
  rw [outsAt1_A V c t h]
  frame_out
  simp only [canon_row]
  split_ifs with h3 h2 h1 h0
  · refine (w_pay3 V c t _ _).trans (Ideal.add_congr ?_ (congrArg _ (ix2_row j 3 h3)))
    pointwise [readCov_row, canon_row, canon_whole, k1_pay6]
  · refine (w_pay2 V c t _ _).trans (Ideal.add_congr ?_ (congrArg _ (ix2_row j 2 h2)))
    pointwise [readCov_row, canon_row, canon_whole, k1_pay6]
  · refine (w_pay1 V c t _ _).trans (Ideal.add_congr ?_ (congrArg _ (ix2_row j 1 h1)))
    pointwise [readCov_row, canon_row, canon_whole, k1_pay6]
  · refine (w_pay0 V c t _ _).trans (Ideal.add_congr ?_ (congrArg _ (ix2_row j 0 h0)))
    pointwise [readCov_row, canon_row, canon_whole, k1_pay6]
  · exact absurd (j 0).isLt (by simp; omega)
theorem step19 (t : Fin cfg1.N) (h : ¬ t.val % 16 = 0) (j : S4x1536.Idx) : (outsAt1 V c t.val t.isLt).2.2.2.2.1 j
    = (outsAt1 V c (t.val - 1) (Nat.lt_of_le_of_lt (Nat.sub_le _ _) t.isLt)).2.2.2.2.1 j + S19 V c t.val t.isLt j := by
  rw [outsAt1_B V c t h]
  frame_out
  simp only [canon_row]
  split_ifs with h3 h2 h1 h0
  · refine (w_pay3 V c t _ _).trans (Ideal.add_congr ?_ (congrArg _ (ix2_row j 3 h3)))
    pointwise [rowIx, ix2_row j 3 h3]
  · refine (w_pay2 V c t _ _).trans (Ideal.add_congr ?_ (congrArg _ (ix2_row j 2 h2)))
    pointwise [rowIx, ix2_row j 2 h2]
  · refine (w_pay1 V c t _ _).trans (Ideal.add_congr ?_ (congrArg _ (ix2_row j 1 h1)))
    pointwise [rowIx, ix2_row j 1 h1]
  · refine (w_pay0 V c t _ _).trans (Ideal.add_congr ?_ (congrArg _ (ix2_row j 0 h0)))
    pointwise [rowIx, ix2_row j 0 h0]
  · exact absurd (j 0).isLt (by simp; omega)
theorem fin1_19 : (dat1 V c).arrAt 19 cfg1.N = fun j => ∑ t : Fin cfg1.N, S19 V c t.val t.isLt j := by
  refine (dat1 V c).arrAt_eq_of_after_last 19 t1_15 (by decide +kernel) _ fun j => ?_
  blk_simp
  rw [after1_19, Pipeline.eq_sum_fin_of_reset_step_apply_last (fun n h => (outsAt1 V c n h).2.2.2.2.1) 16 (fun _ => 0)
    (fun t j => S19 V c t.val t.isLt j) (reset19 V c) (step19 V c) (le_of_eq N_1) t1_15 rfl j, zero_add]

end Cert.RnnInIdeal.Val
end
-- ==== Proof.RnnInArgs.lean ====
module

public import proofs.«01_k».proof.Proof.RnnInVal0
public import proofs.«01_k».proof.Proof.RnnInVal4
public import Idealize.ShloMosaic.Lib.StableHlo.ReadAt
public import proofs.«01_k».proof.Proof.RnnInRun

@[expose] public section

set_option maxRecDepth 16384

noncomputable section
namespace Cert.RnnInIdeal.Val
open Idealize.ShloMosaic Idealize.ShloMosaic.TcCoe Idealize.SL.Sem
open Cert.RnnInIdeal Cert.RnnInIdeal.Gen Cert.Shift

variable (m : (ℓ : Loc nD τ sig) → Buf (Elt Ideal) ℓ) (ρ : Dev nD → PrngReg) (c : Dev nD)

abbrev A0 : S1x8192x1536.Idx → EReal := m ((c.tc : Thread nD τ).loc main_arg0)
abbrev A1 : S1x8192x1536.Idx → EReal := m ((c.tc : Thread nD τ).loc main_arg1)
abbrev A2 : S1x8192x1536.Idx → EReal := m ((c.tc : Thread nD τ).loc main_arg2)
abbrev A3 : S1x8192x1024.Idx → EReal := m ((c.tc : Thread nD τ).loc main_arg3)
abbrev A4 : S1x8192x1024.Idx → EReal := m ((c.tc : Thread nD τ).loc main_arg4)
abbrev A5 : S1x3072.Idx → EReal := m ((c.tc : Thread nD τ).loc main_arg5)
abbrev A6 : S4x1536.Idx → EReal := m ((c.tc : Thread nD τ).loc main_arg6)
abbrev A8 : S1024x3072.Idx → EReal := m ((c.tc : Thread nD τ).loc main_arg8)

theorem x3 : X (V3 m ρ) c = fun j => A4 m c (ix3 0 (j 0) (j 1)) := by
  funext j
  show W3 m ρ c (Proc.devRef .tc main_v2) j = _
  unfold W3
  after_reads_at
theorem w3 : W (V3 m ρ) c = fun j => A8 m c (ix2 (j 1) (j 0)) := by
  funext j
  show W3 m ρ c (Proc.devRef .tc main_v4) j = _
  unfold W3
  after_reads_at
theorem shift3 (k : Fin 1024) : MODS (V3 m ρ) c (ix2 6 k) = RnnInFun.shift (A5 m c) k := by
  show W3 m ρ c _ _ = _
  rw [W3_of _ _ _ _ (by decide)]
  unfold Gen.W2 Gen.W1 RnnInFun.shift
  after_reads_at
theorem scale3 (k : Fin 1024) : MODS (V3 m ρ) c (ix2 7 k) = RnnInFun.scale (A5 m c) k := by
  show W3 m ρ c _ _ = _
  rw [W3_of _ _ _ _ (by decide)]
  unfold Gen.W2 Gen.W1 RnnInFun.scale
  after_reads_at

/-- A buffer that the first region and the line after it leave as it was. -/
theorem V5_eq (b : Ref sig .tc) (h : b ∉ hostOps1_W) (h' : ∀ w : Fin cfg0.W, Pipeline.arrRef spec0 w = b → (cfg0.win w).isOut = false) :
    V5 m ρ c b = V3 m ρ c b :=
  (W5_of m ρ c b h).trans (W4_of m ρ c b h')
theorem x5 : X (V5 m ρ) c = fun j => A4 m c (ix3 0 (j 0) (j 1)) := (V5_eq m ρ c _ (by decide) (by decide)).trans (x3 m ρ c)
theorem w5 : W (V5 m ρ) c = fun j => A8 m c (ix2 (j 1) (j 0)) := (V5_eq m ρ c _ (by decide) (by decide)).trans (w3 m ρ c)
theorem shift5 (k : Fin 1024) : MODS (V5 m ρ) c (ix2 6 k) = RnnInFun.shift (A5 m c) k :=
  (congrFun (V5_eq m ρ c main_v1 (by decide) (by decide)) _).trans (shift3 m ρ c k)
theorem scale5 (k : Fin 1024) : MODS (V5 m ρ) c (ix2 7 k) = RnnInFun.scale (A5 m c) k :=
  (congrFun (V5_eq m ρ c main_v1 (by decide) (by decide)) _).trans (scale3 m ρ c k)
theorem cw5 : CW (V5 m ρ) c = A6 m c := W5_args m ρ c main_arg6 (by decide)
theorem dg5 : DG (V5 m ρ) c = fun j => A2 m c (ix3 0 (j 0) (j 1)) := by
  funext j
  show W5 m ρ c (Proc.devRef .tc main_v11) j = _
  unfold W5
  after_reads_at
  exact congrFun (W4_args m ρ c main_arg2 (by decide)) _
theorem dres5 : DRES (V5 m ρ) c = fun j => A3 m c (ix3 0 (j 0) (j 1)) := by
  funext j
  show W5 m ρ c (Proc.devRef .tc main_v12) j = _
  unfold W5
  after_reads_at
  exact congrFun (W4_args m ρ c main_arg3 (by decide)) _
theorem eta (k : Fin 1536) (z : Fin 1536) (h : z.val = k.val / 128 * 128 + k.val % 128) : z = k := Fin.ext (h.trans (Nat.div_add_mod' _ _))
theorem df5 (r : Fin 8192) (k : Fin 1536) : DF (V5 m ρ) c (ix3 (slab k) r (lane k)) = A0 m c (ix3 0 r k) := by
  show W5 m ρ c (Proc.devRef .tc main_v7) _ = _
  unfold W5
  after_reads_at
  refine (congrFun (W4_args m ρ c main_arg0 (by decide)) _).trans (congrArg (fun z => A0 m c (ix3 0 r z)) (eta k _ ?_))
  simp
theorem db5 (r : Fin 8192) (k : Fin 1536) : DB (V5 m ρ) c (ix3 (slab k) r (lane k)) = A1 m c (ix3 0 r k) := by
  show W5 m ρ c (Proc.devRef .tc main_v9) _ = _
  unfold W5
  after_reads_at
  refine (congrFun (W4_args m ρ c main_arg1 (by decide)) _).trans (congrArg (fun z => A1 m c (ix3 0 r z)) (eta k _ ?_))
  simp

theorem h3 (r : Fin 8192) (k : Fin 1024) : H (V3 m ρ) c r k = RnnInFun.h (A4 m c) (A5 m c) r k := by
  unfold H RnnInFun.h
  rw [shift3, scale3, x3]
  rfl
theorem h5 (r : Fin 8192) (k : Fin 1024) : H (V5 m ρ) c r k = RnnInFun.h (A4 m c) (A5 m c) r k := by
  unfold H RnnInFun.h
  rw [shift5, scale5, x5]
  rfl
theorem br3 (o : ℕ) (ho : o ≤ 1536) (r : Fin 8192) (k : Fin 1536) : BR (V3 m ρ) c o ho r k = RnnInFun.br (A4 m c) (A5 m c) (A8 m c) o ho r k := by
  unfold BR RnnInFun.br
  rw [w3]
  exact Finset.sum_congr rfl fun i _ => Ideal.mul_congr (h3 m ρ c r i) rfl
theorem xr5 : XR (V5 m ρ) c = fun j => RnnInFun.xr (A4 m c) (A5 m c) (A8 m c) (j 0) (j 1) :=
  (((W5_of m ρ c main_v5_0 (by decide)).trans (W4_arr m ρ c 3)).trans (fin0_3 (V3 m ρ) c)).trans (funext fun j => br3 m ρ c _ _ _ _)
theorem d5 (k : Fin 1536) : dd (V5 m ρ) c k = RnnInFun.d (A0 m c) (A1 m c) k := by
  funext r
  exact Ideal.add_congr (df5 m ρ c r k) (db5 m ρ c r k)
theorem xc5 (k : Fin 1536) : xc (V5 m ρ) c k = fun r => RnnInFun.xr (A4 m c) (A5 m c) (A8 m c) r k := by
  funext r
  exact congrFun (xr5 m ρ c) (ix2 r k)
theorem dxr5 (r : Fin 8192) (k : Fin 1536) : DXR (V5 m ρ) c r k = RnnInFun.dxr (A0 m c) (A1 m c) (A6 m c) r k := by
  unfold DXR RnnInFun.dxr
  rw [d5, cw5]
theorem dz5 (r : Fin 8192) (k : Fin 3072) : DZ (V5 m ρ) c r k = RnnInFun.dz (A0 m c) (A1 m c) (A2 m c) (A6 m c) r k := by
  unfold DZ RnnInFun.dz
  rw [dg5]
  split
  · exact dxr5 m ρ c _ _
  · rfl
theorem dh5 (r : Fin 8192) (k : Fin 1024) : DH (V5 m ρ) c r k = RnnInFun.dh (A0 m c) (A1 m c) (A2 m c) (A6 m c) (A8 m c) r k := by
  unfold DH RnnInFun.dh
  rw [w5]
  exact Finset.sum_congr rfl fun l _ => Ideal.mul_congr (dz5 m ρ c r l) rfl
theorem dx5 (r : Fin 8192) (k : Fin 1024) : DX (V5 m ρ) c r k = RnnInFun.dx (A0 m c) (A1 m c) (A2 m c) (A3 m c) (A5 m c) (A6 m c) (A8 m c) r k := by
  unfold DX RnnInFun.dx
  rw [dh5, scale5, dres5]
  rfl
/-- The rows of the blocks are the rows of the array. -/
theorem sum_rows (f : Fin 8192 → EReal) : ∑ t : Fin cfg1.N, ∑ x : Fin 512, f (brow t x) = ∑ r, f r := (Fin.sum_univ_tiles 16 512 rfl f).symm
theorem sums5 (a : Fin 8) (k : Fin 1024) : ∑ t : Fin cfg1.N, S18 (V5 m ρ) c t.val t.isLt (ix2 a k)
    = RnnInFun.sums (A0 m c) (A1 m c) (A2 m c) (A4 m c) (A6 m c) (A8 m c) a k := by
  unfold S18 RnnInFun.sums
  by_cases h1 : a.val = 1
  · rw [if_pos h1]
    refine (Finset.sum_congr rfl fun t _ => (if_pos h1).trans ?_).trans
      (sum_rows fun r => RnnInFun.dh (A0 m c) (A1 m c) (A2 m c) (A6 m c) (A8 m c) r k * A4 m c (ix3 0 r k))
    exact Finset.sum_congr rfl fun x _ => Ideal.mul_congr (dh5 m ρ c _ _) (congrFun (x5 m ρ c) _)
  by_cases h0 : a.val = 0
  · rw [if_neg h1, if_pos h0]
    refine (Finset.sum_congr rfl fun t _ => ((if_neg h1).trans (if_pos h0)).trans ?_).trans
      (sum_rows fun r => RnnInFun.dh (A0 m c) (A1 m c) (A2 m c) (A6 m c) (A8 m c) r k)
    exact Finset.sum_congr rfl fun x _ => dh5 m ρ c _ _
  rw [if_neg h1, if_neg h0]
  exact (Finset.sum_congr rfl fun t _ => (if_neg h1).trans (if_neg h0)).trans Finset.sum_const_zero
theorem dcw5 (a : Fin 4) (k : Fin 1536) : ∑ t : Fin cfg1.N, S19 (V5 m ρ) c t.val t.isLt (ix2 a k)
    = RnnInFun.dcw (A0 m c) (A1 m c) (A4 m c) (A5 m c) (A8 m c) a k := by
  refine (sum_rows fun r => dd (V5 m ρ) c k r * sh (xc (V5 m ρ) c k) (r.val + a.val)).trans ?_
  rw [d5, xc5]
  rfl
theorem dcb5 (a : Fin 1) (k : Fin 1536) : ∑ t : Fin cfg1.N, S20 (V5 m ρ) c t.val t.isLt (ix2 a k) = RnnInFun.dcb (A0 m c) (A1 m c) a k := by
  refine (sum_rows fun r => dd (V5 m ρ) c k r).trans ?_
  rw [d5]
  rfl

/-! ## The results -/

theorem out_xr : W6 m ρ c (Proc.devRef .tc main_v5_0) = fun j => RnnInFun.xr (A4 m c) (A5 m c) (A8 m c) (j 0) (j 1) :=
  (W6_of m ρ c main_v5_0 (by decide)).trans (xr5 m ρ c)
theorem out_gt : W6 m ρ c (Proc.devRef .tc main_v5_1) = fun j => RnnInFun.gt (A4 m c) (A5 m c) (A8 m c) (j 0) (j 1) := by
  rw [W6_of m ρ c main_v5_1 (by decide), W5_of m ρ c main_v5_1 (by decide)]
  exact ((W4_arr m ρ c 4).trans (fin0_4 (V3 m ρ) c)).trans (funext fun j => br3 m ρ c _ _ _ _)
theorem out_dx : W6 m ρ c (Proc.devRef .tc main_v13_0) = fun j => RnnInFun.dx (A0 m c) (A1 m c) (A2 m c) (A3 m c) (A5 m c) (A6 m c) (A8 m c) (j 0) (j 1) :=
  ((W6_arr m ρ c 15).trans (fin1_15 (V5 m ρ) c)).trans (funext fun j => dx5 m ρ c _ _)
theorem out_dz : W6 m ρ c (Proc.devRef .tc main_v13_1) = fun j => RnnInFun.dz (A0 m c) (A1 m c) (A2 m c) (A6 m c) (j 0) (j 1) :=
  ((W6_arr m ρ c 16).trans (fin1_16 (V5 m ρ) c)).trans (funext fun j => dz5 m ρ c _ _)
theorem out_h : W6 m ρ c (Proc.devRef .tc main_v13_2) = fun j => RnnInFun.h (A4 m c) (A5 m c) (j 0) (j 1) :=
  ((W6_arr m ρ c 17).trans (fin1_17 (V5 m ρ) c)).trans (funext fun j => h5 m ρ c _ _)
theorem out_sums : W6 m ρ c (Proc.devRef .tc main_v13_3) = fun j => RnnInFun.sums (A0 m c) (A1 m c) (A2 m c) (A4 m c) (A6 m c) (A8 m c) (j 0) (j 1) :=
  ((W6_arr m ρ c 18).trans (fin1_18 (V5 m ρ) c)).trans (funext fun j => sums5 m ρ c (j 0) (j 1))
theorem out_dcw : W6 m ρ c (Proc.devRef .tc main_v13_4) = fun j => RnnInFun.dcw (A0 m c) (A1 m c) (A4 m c) (A5 m c) (A8 m c) (j 0) (j 1) :=
  ((W6_arr m ρ c 19).trans (fin1_19 (V5 m ρ) c)).trans (funext fun j => dcw5 m ρ c (j 0) (j 1))
theorem out_dcb : W6 m ρ c (Proc.devRef .tc main_v13_5) = fun j => RnnInFun.dcb (A0 m c) (A1 m c) (j 0) (j 1) :=
  ((W6_arr m ρ c 20).trans (fin1_20 (V5 m ρ) c)).trans (funext fun j => dcb5 m ρ c (j 0) (j 1))

end Cert.RnnInIdeal.Val
end
-- ==== Proof.RnnInRef.lean ====
module

public import proofs.«01_k».proof.Proof.RnnInFun
public import proofs.«01_k».proof.Proof.Gen.RnnInRefIdeal.Run
public import proofs.«01_k».proof.Proof.Gen.RnnInRefIdeal.Read

@[expose] public section

set_option maxRecDepth 16384

noncomputable section

/-! The reference of the recurrent sublayer's input, read at an index. -/

namespace Cert.RnnInRefIdeal.Val
open Idealize.ShloMosaic Idealize.ShloMosaic.TcCoe Idealize.SL.Sem
open Cert.RnnInRefIdeal Cert.RnnInRefIdeal.Gen Cert.RnnInRefIdeal.Read Cert.Shift

/-- A sum over two axes of extent one. -/
theorem red2 (hr : S1x1x1536.ReducesTo [0, 1] S1536) (v : S1x1x1536.Idx → EReal) (init : EReal) (k : Fin 1536) :
    Ideal.hostReduceAdd hr v init (ix1 k) = init + v (ix3 0 0 k) := by
  unfold Ideal.hostReduceAdd
  refine congrArg (init + ·) ((Finset.sum_filter_eq_sum_of_fiber _ (fun _ : Fin 1 => (ix3 0 0 k : S1x1x1536.Idx))
    (fun a b _ => Subsingleton.elim a b) (fun i => ?_) v).trans (by simp))
  constructor
  · intro e
    refine ⟨0, funext fun a => Fin.ext ?_⟩
    match a with
    | ⟨0, _⟩ => have := (i 0).isLt; show 0 = (i 0).val; change (i 0).val < 1 at this; omega
    | ⟨1, _⟩ => have := (i 1).isLt; show 0 = (i 1).val; change (i 1).val < 1 at this; omega
    | ⟨2, _⟩ => exact (congrArg Fin.val (congrFun e 0)).symm
  · rintro ⟨_, rfl⟩
    funext b
    apply Fin.ext
    match b with
    | ⟨0, _⟩ => rfl

variable (x0 x1 x2 : S1x8192x1536.Idx → EReal) (x3 x4 : S1x8192x1024.Idx → EReal) (x5 : S1x3072.Idx → EReal) (x6 : S4x1536.Idx → EReal)
  (x8 : S1024x3072.Idx → EReal) (r : Fin 8192)

theorem scale_ (k : Fin 1024) : (val_main_v7 (F := Ideal) x5 : S1x1x1024.Idx → EReal) (ix3 0 0 k) = 1 + RnnInFun.scale x5 k := by
  pointwise [val_main_v7, val_main_v6, val_main_cst, val_main_v4, val_main_v1, RnnInFun.scale]
theorem h_ (k : Fin 1024) : (val_main_v11 (F := Ideal) x4 x5 : S1x8192x1024.Idx → EReal) (ix3 0 r k) = RnnInFun.h x4 x5 r k := by
  pointwise [val_main_v11, val_main_v10, val_main_v9, val_main_v8, scale_, val_main_v3, val_main_v0, RnnInFun.h, RnnInFun.shift]
theorem xr_ (k : Fin 1536) : (val_main_v13 (F := Ideal) x4 x5 x8 : S1x8192x1536.Idx → EReal) (ix3 0 r k) = RnnInFun.xr x4 x5 x8 r k := by
  pointwise [val_main_v13, val_main_v12, h_, RnnInFun.xr, RnnInFun.br]
theorem gt_ (k : Fin 1536) : (val_main_v14 (F := Ideal) x4 x5 x8 : S1x8192x1536.Idx → EReal) (ix3 0 r k) = RnnInFun.gt x4 x5 x8 r k := by
  pointwise [val_main_v14, val_main_v12, h_, RnnInFun.gt, RnnInFun.br]
/-- The sequence with the zeros put before and behind. -/
theorem pad_ (p : Fin 8195) (k : Fin 1536) : (val_main_v17 (F := Ideal) x4 x5 x8 : S1x8195x1536.Idx → EReal) (ix3 0 p k)
    = sh (fun r => RnnInFun.xr x4 x5 x8 r k) p.val := by
  unfold sh
  pointwise [val_main_v17, val_main_v15, val_main_v16, val_main_cst_0, val_main_cst_1, xr_]
  by_cases h : p.val < 2
  · rw [dif_pos h, dif_neg (by omega)]
  rw [dif_neg h]
  by_cases h' : p.val < 8194
  · rw [dif_pos (by omega), dif_pos ⟨by omega, h'⟩]
  · rw [dif_neg (by omega), dif_neg (by omega)]
theorem d_ (k : Fin 1536) : (val_main_v50 (F := Ideal) x0 x1 : S1x8192x1536.Idx → EReal) (ix3 0 r k) = RnnInFun.d x0 x1 k r := by
  pointwise [val_main_v50, RnnInFun.d]

/-! ## The weight's gradient -/

theorem dcw3_ (k : Fin 1536) : (val_main_v56 (F := Ideal) x0 x1 x4 x5 x8 : S1536.Idx → EReal) (ix1 k) = RnnInFun.dcw x0 x1 x4 x5 x8 3 k := by
  pointwise [val_main_v56, val_main_v53, val_main_v52, val_main_v51, val_main_v43, val_main_cst_4, val_main_cst_5, red2, pad_, d_, RnnInFun.dcw]
  exact Finset.sum_congr rfl fun x _ => by rw [Nat.add_comm 3 x.val, mul_comm]
theorem dcw2_ (k : Fin 1536) : (val_main_v65 (F := Ideal) x0 x1 x4 x5 x8 : S1536.Idx → EReal) (ix1 k) = RnnInFun.dcw x0 x1 x4 x5 x8 2 k := by
  pointwise [val_main_v65, val_main_v62, val_main_v61, val_main_v60, val_main_v36, val_main_cst_8, val_main_cst_9, red2, pad_, d_, RnnInFun.dcw]
  exact Finset.sum_congr rfl fun x _ => by rw [Nat.add_comm 2 x.val, mul_comm]
theorem dcw1_ (k : Fin 1536) : (val_main_v76 (F := Ideal) x0 x1 x4 x5 x8 : S1536.Idx → EReal) (ix1 k) = RnnInFun.dcw x0 x1 x4 x5 x8 1 k := by
  pointwise [val_main_v76, val_main_v73, val_main_v72, val_main_v71, val_main_v29, val_main_cst_12, val_main_cst_13, red2, pad_, d_, RnnInFun.dcw]
  exact Finset.sum_congr rfl fun x _ => by rw [Nat.add_comm 1 x.val, mul_comm]
theorem dcw0_ (k : Fin 1536) : (val_main_v90 (F := Ideal) x0 x1 x4 x5 x8 : S1536.Idx → EReal) (ix1 k) = RnnInFun.dcw x0 x1 x4 x5 x8 0 k := by
  pointwise [val_main_v90, val_main_v87, val_main_v86, val_main_v85, val_main_v20, val_main_cst_18, val_main_cst_19, red2, pad_, d_, RnnInFun.dcw]
  exact Finset.sum_congr rfl fun x _ => by rw [mul_comm]
theorem dcw_out : (val_main_v93 (F := Ideal) x0 x1 x4 x5 x8 : S4x1536.Idx → EReal) = fun j => RnnInFun.dcw x0 x1 x4 x5 x8 (j 0) (j 1) := by
  funext j
  obtain ⟨a, k, rfl⟩ : ∃ a k, j = ix2 a k := ⟨j 0, j 1, eq_ix2 j⟩
  show _ = RnnInFun.dcw x0 x1 x4 x5 x8 a k
  pointwise [val_main_v93, val_main_v92, val_main_v91, val_main_cst_20, val_main_v79, val_main_v78, val_main_v77, val_main_cst_14, val_main_v68, val_main_v67,
    val_main_v66, val_main_cst_10, val_main_v58, val_main_v57, val_main_cst_6, dcw0_, dcw1_, dcw2_, dcw3_]
  fin_cases a <;> simp
theorem dcb_out : (val_main_v121 (F := Ideal) x0 x1 : S1x1536.Idx → EReal) = fun j => RnnInFun.dcb x0 x1 (j 0) (j 1) := by
  funext j
  obtain ⟨a, k, rfl⟩ : ∃ a k, j = ix2 a k := ⟨j 0, j 1, eq_ix2 j⟩
  show _ = RnnInFun.dcb x0 x1 a k
  pointwise [val_main_v121, val_main_v84, val_main_v83, val_main_v82, val_main_cst_16, val_main_cst_17, red2, d_, RnnInFun.dcb]

/-! ## The input's gradient -/

theorem tap3 (k : Fin 1536) (hp : r.val + 2 < 8195) : (val_main_v59 (F := Ideal) x0 x1 x6 : S1x8195x1536.Idx → EReal) (ix3 0 ⟨r.val + 2, hp⟩ k)
    = x6 (ix2 3 k) * sh (RnnInFun.d x0 x1 k) (r.val + 1) := by
  pointwise [val_main_v59, val_main_v55, val_main_v54, val_main_v46, val_main_v45, val_main_v44, val_main_cst_7, d_]
  unfold sh
  by_cases h : 2 ≤ r.val + 1 ∧ r.val + 1 < 8194
  · rw [dif_pos (by omega), dif_pos h]
    exact (mul_comm _ _).trans (congrArg (fun z => x6 (ix2 3 k) * RnnInFun.d x0 x1 k z) (Fin.ext (by simp; try omega)))
  · rw [dif_neg (by omega), dif_neg h, mul_zero]
theorem tap2 (k : Fin 1536) (hp : r.val + 2 < 8195) : (val_main_v69 (F := Ideal) x0 x1 x6 : S1x8195x1536.Idx → EReal) (ix3 0 ⟨r.val + 2, hp⟩ k)
    = x6 (ix2 2 k) * sh (RnnInFun.d x0 x1 k) (r.val + 2) := by
  pointwise [val_main_v69, val_main_v64, val_main_v63, val_main_v39, val_main_v38, val_main_v37, val_main_cst_11, d_]
  unfold sh
  by_cases h : 2 ≤ r.val + 2 ∧ r.val + 2 < 8194
  · rw [dif_pos (by omega), dif_pos h]
    exact (mul_comm _ _).trans (congrArg (fun z => x6 (ix2 2 k) * RnnInFun.d x0 x1 k z) (Fin.ext (by simp; try omega)))
  · rw [dif_neg (by omega), dif_neg h, mul_zero]
theorem tap1 (k : Fin 1536) (hp : r.val + 2 < 8195) : (val_main_v80 (F := Ideal) x0 x1 x6 : S1x8195x1536.Idx → EReal) (ix3 0 ⟨r.val + 2, hp⟩ k)
    = x6 (ix2 1 k) * sh (RnnInFun.d x0 x1 k) (r.val + 3) := by
  pointwise [val_main_v80, val_main_v75, val_main_v74, val_main_v32, val_main_v31, val_main_v30, val_main_cst_15, d_]
  unfold sh
  by_cases h : 2 ≤ r.val + 3 ∧ r.val + 3 < 8194
  · rw [dif_pos (by omega), dif_pos h]
    exact (mul_comm _ _).trans (congrArg (fun z => x6 (ix2 1 k) * RnnInFun.d x0 x1 k z) (Fin.ext (by simp; try omega)))
  · rw [dif_neg (by omega), dif_neg h, mul_zero]
theorem tap0 (k : Fin 1536) (hp : r.val + 2 < 8195) : (val_main_v94 (F := Ideal) x0 x1 x6 : S1x8195x1536.Idx → EReal) (ix3 0 ⟨r.val + 2, hp⟩ k)
    = x6 (ix2 0 k) * sh (RnnInFun.d x0 x1 k) (r.val + 4) := by
  pointwise [val_main_v94, val_main_v89, val_main_v88, val_main_v23, val_main_v22, val_main_v21, val_main_cst_21, d_]
  unfold sh
  by_cases h : 2 ≤ r.val + 4 ∧ r.val + 4 < 8194
  · rw [dif_pos (by omega), dif_pos h]
    exact (mul_comm _ _).trans (congrArg (fun z => x6 (ix2 0 k) * RnnInFun.d x0 x1 k z) (Fin.ext (by simp; try omega)))
  · rw [dif_neg (by omega), dif_neg h, mul_zero]
theorem dxr_ (k : Fin 1536) : (val_main_v97 (F := Ideal) x0 x1 x6 : S1x8192x1536.Idx → EReal) (ix3 0 r k) = RnnInFun.dxr x0 x1 x6 r k := by
  have e (p : Fin 8195) : (val_main_v95 (F := Ideal) x0 x1 x6 : S1x8195x1536.Idx → EReal) (ix3 0 p k)
      = (val_main_v94 (F := Ideal) x0 x1 x6 : S1x8195x1536.Idx → EReal) (ix3 0 p k) + (val_main_v80 (F := Ideal) x0 x1 x6 : S1x8195x1536.Idx → EReal) (ix3 0 p k)
        + (val_main_v69 (F := Ideal) x0 x1 x6 : S1x8195x1536.Idx → EReal) (ix3 0 p k) + (val_main_v59 (F := Ideal) x0 x1 x6 : S1x8195x1536.Idx → EReal) (ix3 0 p k) := by
    unfold val_main_v95 val_main_v81 val_main_v70
    show (_ + _ + _ + _ : EReal) = _
    rw [add_comm, add_comm (_ + _) (val_main_v80 (F := Ideal) x0 x1 x6 (ix3 0 p k) : EReal), add_comm (val_main_v59 (F := Ideal) x0 x1 x6 (ix3 0 p k) : EReal), ← add_assoc, ← add_assoc]
  unfold RnnInFun.dxr
  rw [← tap0 x0 x1 x6 r k (by omega), ← tap1 x0 x1 x6 r k (by omega), ← tap2 x0 x1 x6 r k (by omega), ← tap3 x0 x1 x6 r k (by omega), ← e]
  pointwise [val_main_v97]
  exact congrArg (fun z => (val_main_v95 (F := Ideal) x0 x1 x6 : S1x8195x1536.Idx → EReal) (ix3 0 z k)) (Fin.ext (Nat.add_comm 2 r.val))
theorem dz_ (k : Fin 3072) : (val_main_v99 (F := Ideal) x0 x1 x2 x6 : S1x8192x3072.Idx → EReal) (ix3 0 r k) = RnnInFun.dz x0 x1 x2 x6 r k := by
  unfold RnnInFun.dz
  pointwise [val_main_v99, dxr_]
theorem dh_ (k : Fin 1024) : (val_main_v100 (F := Ideal) x0 x1 x2 x6 x8 : S1x8192x1024.Idx → EReal) (ix3 0 r k) = RnnInFun.dh x0 x1 x2 x6 x8 r k := by
  pointwise [val_main_v100, dz_, RnnInFun.dh]
theorem dx_ (k : Fin 1024) : (val_main_v115 (F := Ideal) x0 x1 x2 x3 x5 x6 x8 : S1x8192x1024.Idx → EReal) (ix3 0 r k) = RnnInFun.dx x0 x1 x2 x3 x5 x6 x8 r k := by
  pointwise [val_main_v115, val_main_v107, val_main_v106, scale_, dh_, RnnInFun.dx]
theorem sum0_ (k : Fin 1024) : (val_main_v108 (F := Ideal) x0 x1 x2 x6 x8 : S1x1024.Idx → EReal) (ix2 0 k) = ∑ r, RnnInFun.dh x0 x1 x2 x6 x8 r k := by
  pointwise [val_main_v108, val_main_v102, val_main_v101, val_main_cst_22, dh_]
theorem sum1_ (k : Fin 1024) : (val_main_v109 (F := Ideal) x0 x1 x2 x4 x6 x8 : S1x1024.Idx → EReal) (ix2 0 k)
    = ∑ r, RnnInFun.dh x0 x1 x2 x6 x8 r k * x4 (ix3 0 r k) := by
  pointwise [val_main_v109, val_main_v105, val_main_v104, val_main_v103, val_main_cst_23, dh_]
  exact Finset.sum_congr rfl fun _ _ => mul_comm _ _

/-! ## The results -/

theorem xr_out : (val_main_v112 (F := Ideal) x4 x5 x8 : S8192x1536.Idx → EReal) = fun j => RnnInFun.xr x4 x5 x8 (j 0) (j 1) := by
  funext j
  obtain ⟨a, k, rfl⟩ : ∃ a k, j = ix2 a k := ⟨j 0, j 1, eq_ix2 j⟩
  pointwise [val_main_v112, xr_]
theorem gt_out : (val_main_v114 (F := Ideal) x4 x5 x8 : S8192x1536.Idx → EReal) = fun j => RnnInFun.gt x4 x5 x8 (j 0) (j 1) := by
  funext j
  obtain ⟨a, k, rfl⟩ : ∃ a k, j = ix2 a k := ⟨j 0, j 1, eq_ix2 j⟩
  pointwise [val_main_v114, val_main_v113, gt_]
theorem dx_out : (val_main_v116 (F := Ideal) x0 x1 x2 x3 x5 x6 x8 : S8192x1024.Idx → EReal) = fun j => RnnInFun.dx x0 x1 x2 x3 x5 x6 x8 (j 0) (j 1) := by
  funext j
  obtain ⟨a, k, rfl⟩ : ∃ a k, j = ix2 a k := ⟨j 0, j 1, eq_ix2 j⟩
  pointwise [val_main_v116, dx_]
theorem dz_out : (val_main_v118 (F := Ideal) x0 x1 x2 x6 : S8192x3072.Idx → EReal) = fun j => RnnInFun.dz x0 x1 x2 x6 (j 0) (j 1) := by
  funext j
  obtain ⟨a, k, rfl⟩ : ∃ a k, j = ix2 a k := ⟨j 0, j 1, eq_ix2 j⟩
  pointwise [val_main_v118, val_main_v117, dz_]
theorem h_out : (val_main_v120 (F := Ideal) x4 x5 : S8192x1024.Idx → EReal) = fun j => RnnInFun.h x4 x5 (j 0) (j 1) := by
  funext j
  obtain ⟨a, k, rfl⟩ : ∃ a k, j = ix2 a k := ⟨j 0, j 1, eq_ix2 j⟩
  pointwise [val_main_v120, val_main_v119, h_]
theorem sums_out : (val_main_v111 (F := Ideal) x0 x1 x2 x4 x6 x8 : S8x1024.Idx → EReal) = fun j => RnnInFun.sums x0 x1 x2 x4 x6 x8 (j 0) (j 1) := by
  funext j
  obtain ⟨a, k, rfl⟩ : ∃ a k, j = ix2 a k := ⟨j 0, j 1, eq_ix2 j⟩
  unfold RnnInFun.sums
  pointwise [val_main_v111, val_main_v110, val_main_cst_24, sum0_, sum1_]
  by_cases h0 : a.val = 0
  · obtain rfl : a = 0 := Fin.ext h0
    exact (dif_pos (by decide)).trans ((sum0_ x0 x1 x2 x6 x8 k).trans ((if_neg (by decide)).trans (if_pos rfl)).symm)
  by_cases h1 : a.val = 1
  · obtain rfl : a = 1 := Fin.ext h1
    exact (dif_neg (by decide)).trans ((dif_pos (by decide)).trans ((sum1_ x0 x1 x2 x4 x6 x8 k).trans (if_pos rfl).symm))
  rw [dif_neg (by omega), dif_neg (by omega), if_neg h1, if_neg h0]

end Cert.RnnInRefIdeal.Val
end
-- ==== Proof.RnnInPair.lean ====
module

public import proofs.«01_k».proof.Defs
public import proofs.«01_k».proof.Proof.Gen.RnnIn.Frame
public import proofs.«01_k».proof.Proof.RnnInRun
public import proofs.«01_k».proof.Proof.RnnInArgs
public import proofs.«01_k».proof.Proof.RnnInRef
public import Idealize.ShloMosaic.Lib.Claim

@[expose] public section

set_option maxRecDepth 16384

noncomputable section

/-! The recurrent sublayer's input against its reference. -/

namespace Cert.RnnInPair

open Idealize.ShloMosaic Idealize.ShloMosaic.TcCoe Idealize.SL.Sem

theorem frameP : Cert.quiescent_RnnIn := fun m ρ _ => Cert.RnnIn.Gen.frame m ρ
theorem framePI : Cert.quiescent_RnnInIdeal := fun m ρ _ => Cert.RnnInIdeal.Gen.frame m ρ

section
open Cert.RnnInIdeal Cert.RnnInIdeal.Gen Cert.RnnInIdeal.Arr Cert.RnnInIdeal.Val

variable (m : (ℓ : Loc nD τ sig) → Buf (Elt Ideal) ℓ) (ρ : Dev nD → PrngReg)

theorem runK : θ_run defs (onTc (τ := τ) (main (F := Ideal))) ⟨m, fun _ => 0, ρ⟩ fun r => ∀ c : Dev nD,
    r.2.mem ((c.tc : Thread nD τ).loc main_v5_0) = (fun j : S8192x1536.Idx => RnnInFun.xr (A4 m c) (A5 m c) (A8 m c) (j 0) (j 1))
    ∧ r.2.mem ((c.tc : Thread nD τ).loc main_v5_1) = (fun j : S8192x1536.Idx => RnnInFun.gt (A4 m c) (A5 m c) (A8 m c) (j 0) (j 1))
    ∧ r.2.mem ((c.tc : Thread nD τ).loc main_v13_0) = (fun j : S8192x1024.Idx => RnnInFun.dx (A0 m c) (A1 m c) (A2 m c) (A3 m c) (A5 m c) (A6 m c) (A8 m c) (j 0) (j 1))
    ∧ r.2.mem ((c.tc : Thread nD τ).loc main_v13_1) = (fun j : S8192x3072.Idx => RnnInFun.dz (A0 m c) (A1 m c) (A2 m c) (A6 m c) (j 0) (j 1))
    ∧ r.2.mem ((c.tc : Thread nD τ).loc main_v13_2) = (fun j : S8192x1024.Idx => RnnInFun.h (A4 m c) (A5 m c) (j 0) (j 1))
    ∧ r.2.mem ((c.tc : Thread nD τ).loc main_v13_3) = (fun j : S8x1024.Idx => RnnInFun.sums (A0 m c) (A1 m c) (A2 m c) (A4 m c) (A6 m c) (A8 m c) (j 0) (j 1))
    ∧ r.2.mem ((c.tc : Thread nD τ).loc main_v13_4) = (fun j : S4x1536.Idx => RnnInFun.dcw (A0 m c) (A1 m c) (A4 m c) (A5 m c) (A8 m c) (j 0) (j 1))
    ∧ r.2.mem ((c.tc : Thread nD τ).loc main_v13_5) = (fun j : S1x1536.Idx => RnnInFun.dcb (A0 m c) (A1 m c) (j 0) (j 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) :=
  (θ_run defs _ _).mono (fun r h c =>
    have g := fun b hb => h.1 c _ (mem_uc b hb)
    ⟨(g main_v5_0 (by decide)).trans (out_xr m ρ c),
     (g main_v5_1 (by decide)).trans (out_gt m ρ c),
     (g main_v13_0 (by decide)).trans (out_dx m ρ c),
     (g main_v13_1 (by decide)).trans (out_dz m ρ c),
     (g main_v13_2 (by decide)).trans (out_h m ρ c),
     (g main_v13_3 (by decide)).trans (out_sums m ρ c),
     (g main_v13_4 (by decide)).trans (out_dcw m ρ c),
     (g main_v13_5 (by decide)).trans (out_dcb m ρ c),
     (g main_arg0 (by decide)).trans (W6_main_arg0 m ρ c),
     (g main_arg1 (by decide)).trans (W6_main_arg1 m ρ c),
     (g main_arg2 (by decide)).trans (W6_main_arg2 m ρ c),
     (g main_arg3 (by decide)).trans (W6_main_arg3 m ρ c),
     (g main_arg4 (by decide)).trans (W6_main_arg4 m ρ c),
     (g main_arg5 (by decide)).trans (W6_main_arg5 m ρ c),
     (g main_arg6 (by decide)).trans (W6_main_arg6 m ρ c),
     (g main_arg7 (by decide)).trans (W6_main_arg7 m ρ c),
     (g main_arg8 (by decide)).trans (W6_main_arg8 m ρ c)⟩) (run_sems m ρ)
end

theorem algebraic : Cert.algebraic_RnnInIdeal_RnnInRefIdeal := fun m ρ m' ρ' _ hag =>
  ⟨_, _, _, _, _, _, _, _, runK m ρ, (θ_run Cert.RnnInRefIdeal.defs _ _).mono (fun _ h c => by
    obtain ⟨a0, a1, a2, a3, a4, a5, a6, a7, a8⟩ := hag c
    obtain ⟨r0, r1, r2, r3, r4, r5, r6, r7, hr⟩ := h c
    refine ⟨r0.trans ?_, r1.trans ?_, r2.trans ?_, r3.trans ?_, r4.trans ?_, r5.trans ?_, r6.trans ?_, r7.trans ?_, hr⟩
    · refine (Cert.RnnInRefIdeal.Read.val_main_v112_eq _ _ _).trans (Eq.trans ?_ (Cert.RnnInRefIdeal.Val.xr_out _ _ _))
      clear r0 r1 r2 r3 r4 r5 r6 r7 hr
      exact congr (congr (congrArg Cert.RnnInRefIdeal.Read.val_main_v112 a4) a5) a8
    · refine (Cert.RnnInRefIdeal.Read.val_main_v114_eq _ _ _).trans (Eq.trans ?_ (Cert.RnnInRefIdeal.Val.gt_out _ _ _))
      clear r0 r1 r2 r3 r4 r5 r6 r7 hr
      exact congr (congr (congrArg Cert.RnnInRefIdeal.Read.val_main_v114 a4) a5) a8
    · refine (Cert.RnnInRefIdeal.Read.val_main_v116_eq _ _ _ _ _ _ _).trans (Eq.trans ?_ (Cert.RnnInRefIdeal.Val.dx_out _ _ _ _ _ _ _))
      clear r0 r1 r2 r3 r4 r5 r6 r7 hr
      exact congr (congr (congr (congr (congr (congr (congrArg Cert.RnnInRefIdeal.Read.val_main_v116 a0) a1) a2) a3) a5) a6) a8
    · refine (Cert.RnnInRefIdeal.Read.val_main_v118_eq _ _ _ _).trans (Eq.trans ?_ (Cert.RnnInRefIdeal.Val.dz_out _ _ _ _))
      clear r0 r1 r2 r3 r4 r5 r6 r7 hr
      exact congr (congr (congr (congrArg Cert.RnnInRefIdeal.Read.val_main_v118 a0) a1) a2) a6
    · refine (Cert.RnnInRefIdeal.Read.val_main_v120_eq _ _).trans (Eq.trans ?_ (Cert.RnnInRefIdeal.Val.h_out _ _))
      clear r0 r1 r2 r3 r4 r5 r6 r7 hr
      exact congr (congrArg Cert.RnnInRefIdeal.Read.val_main_v120 a4) a5
    · refine (Cert.RnnInRefIdeal.Read.val_main_v111_eq _ _).trans (Eq.trans ?_ (Cert.RnnInRefIdeal.Val.sums_out _ _ _ _ _ _))
      clear r0 r1 r2 r3 r4 r5 r6 r7 hr
      exact congr (congr (congr (congr (congr (congrArg Cert.RnnInRefIdeal.Read.val_main_v111 a0) a1) a2) a4) a6) a8
    · refine (Cert.RnnInRefIdeal.Read.val_main_v93_eq _ _).trans (Eq.trans ?_ (Cert.RnnInRefIdeal.Val.dcw_out _ _ _ _ _))
      clear r0 r1 r2 r3 r4 r5 r6 r7 hr
      exact congr (congr (congr (congr (congrArg Cert.RnnInRefIdeal.Read.val_main_v93 a0) a1) a4) a5) a8
    · refine (Cert.RnnInRefIdeal.Read.val_main_v121_eq _ _).trans (Eq.trans ?_ (Cert.RnnInRefIdeal.Val.dcb_out _ _))
      clear r0 r1 r2 r3 r4 r5 r6 r7 hr
      exact congr (congrArg Cert.RnnInRefIdeal.Read.val_main_v121 a0) a1) (Cert.RnnInRefIdeal.Value.run m' ρ')⟩

theorem frameRI : Cert.quiescent_RnnInRefIdeal := fun m ρ _ =>
  (θ_run Cert.RnnInRefIdeal.defs _ _).mono (fun r h => ⟨fun c => (h c).2.2.2.2.2.2.2.2, sem_eq_zero_of_no_sems (by decide) r.2⟩) (Cert.RnnInRefIdeal.Value.run m ρ)

end Cert.RnnInPair
end
-- ==== Proof.AttnRow.lean ====
module

public import Idealize.ShloMosaic.Lib.Pointwise

@[expose] public section

noncomputable section

/-! One query's attention over the 384 keys about it, and its head's sink: a softmax that counts the sink, times the values. -/

namespace Cert.AttnRow
open Idealize.ShloMosaic

/-- The greatest of the scores and the sink. -/
def top (sc : Fin 384 → EReal) (s : EReal) : EReal := max (Finset.univ.fold max (Ideal.ofBits .f32 0xFF800000#32) sc) s

/-- A score's exponential over that greatest. -/
def ex (sc : Fin 384 → EReal) (s : EReal) (j : Fin 384) : EReal := Ideal.exp (sc j - top sc s)

/-- The exponentials' sum, the sink's among them. -/
def den (sc : Fin 384 → EReal) (s : EReal) : EReal := ∑ j, ex sc s j + Ideal.exp (s - top sc s)

/-- A key's probability. -/
def prob (sc : Fin 384 → EReal) (s : EReal) (j : Fin 384) : EReal := Ideal.div (ex sc s j) (den sc s)

/-- The values weighted by the probabilities. -/
def out (sc : Fin 384 → EReal) (s : EReal) (v : Fin 384 → EReal) : EReal := ∑ j, prob sc s j * v j

theorem ofBits_lt : Ideal.ofBits .f32 0xFF800000#32 < (⊤ : EReal) := by
  show Ideal.ieee 8 23 0xFF800000#32 < ⊤
  simp [Ideal.ieee]

theorem exp_nonneg (x : EReal) : 0 ≤ Ideal.exp x := by
  induction x with
  | bot => exact le_refl _
  | top => exact le_top
  | coe r => exact EReal.coe_nonneg.mpr (Real.exp_pos r).le

/-- Finite sinks and scores below infinity leave a sum that is not zero. -/
theorem den_ne_zero {sc : Fin 384 → EReal} {s : EReal} (hsc : ∀ j, sc j ≠ ⊤) (h1 : s ≠ ⊤) (h2 : s ≠ ⊥) : den sc s ≠ 0 := by
  have ht : top sc s < ⊤ := max_lt ((Finset.fold_max_lt _).mpr ⟨ofBits_lt, fun j _ => lt_top_iff_ne_top.mpr (hsc j)⟩) (lt_top_iff_ne_top.mpr h1)
  have hb : top sc s ≠ ⊥ := fun h => h2 (le_bot_iff.mp (h ▸ le_max_right _ _))
  refine ne_of_gt (lt_of_lt_of_le ?_ (le_add_of_nonneg_left (Finset.sum_nonneg fun j _ => exp_nonneg _)))
  lift s to ℝ using ⟨h1, h2⟩
  obtain ⟨r, hr⟩ : ∃ r : ℝ, top sc s = r := ⟨_, (EReal.coe_toReal ht.ne hb).symm⟩
  rw [hr, ← EReal.coe_sub]
  exact EReal.coe_pos.mpr (Real.exp_pos _)

/-- A key not seen has probability zero. -/
theorem prob_bot {sc : Fin 384 → EReal} {s : EReal} (hd : den sc s ≠ 0) (j : Fin 384) (h : sc j = ⊥) : prob sc s j = 0 := by
  have : ex sc s j = 0 := by
    unfold ex
    rw [h, sub_eq_add_neg, EReal.bot_add]
    rfl
  unfold prob Ideal.div
  rw [if_neg hd, this, zero_mul]

/-- The values of keys not seen do not matter. -/
theorem out_congr {sc sc' : Fin 384 → EReal} {s : EReal} {v v' : Fin 384 → EReal} (hd : den sc s ≠ 0) (hsc : ∀ j, sc' j = sc j)
    (hv : ∀ j, sc j = ⊥ ∨ v' j = v j) : out sc' s v' = out sc s v := by
  rw [funext hsc]
  refine Finset.sum_congr rfl fun j _ => ?_
  rcases hv j with h | h
  · rw [prob_bot hd j h, zero_mul, zero_mul]
  · rw [h]

end Cert.AttnRow
end
-- ==== Proof.AttnMask.lean ====
module

public import Idealize.ShloMosaic.Lib.Pointwise

@[expose] public section

noncomputable section

/-! The keys a query of the windowed attention sees, as the programs' words say it. -/

namespace Cert.AttnMask
open Idealize.ShloMosaic

/-- Query `q` of block `b` sees key `j` of the 384 about its block: no further than 128 rows away, and a row of the sequence. -/
abbrev Seen (b q j : ℕ) : Prop := q ≤ j ∧ j ≤ q + 256 ∧ 128 ≤ 128 * b + j ∧ 128 * b + j < 8320

theorem toInt_small {x : ℤ} (h1 : -2147483648 ≤ x) (h2 : x < 2147483648) : (BitVec.ofInt 32 x).toInt = x := by
  rw [BitVec.toInt_ofInt]; exact Int.bmod_eq_of_le (by omega) (by omega)

theorem ofInt_add' (a b : ℤ) : BitVec.ofInt 32 a + BitVec.ofInt 32 b = BitVec.ofInt 32 (a + b) := (BitVec.ofInt_add a b).symm
theorem ofInt_mul' (a b : ℤ) : BitVec.ofInt 32 a * BitVec.ofInt 32 b = BitVec.ofInt 32 (a * b) := (BitVec.ofInt_mul a b).symm
theorem ofInt_sub' (a b : ℤ) : BitVec.ofInt 32 a - BitVec.ofInt 32 b = BitVec.ofInt 32 (a - b) := by
  rw [BitVec.sub_eq_add_neg, sub_eq_add_neg, BitVec.ofInt_add, BitVec.ofInt_neg]
theorem ofNat_ofInt (n : ℕ) : BitVec.ofNat 32 n = BitVec.ofInt 32 n := (BitVec.ofInt_natCast ..).symm

theorem sle_abs {x : ℤ} (h1 : -100000 ≤ x) (h2 : x ≤ 100000) :
    IntOp.cmpi .sle (IntOp.absi (BitVec.ofInt 32 x)) 128#32 = BitVec.ofBool (decide (-128 ≤ x ∧ x ≤ 128)) := by
  show BitVec.ofBool (decide ((IntOp.absi (BitVec.ofInt 32 x)).toInt ≤ (128#32).toInt)) = _
  congr 1
  apply decide_eq_decide.mpr
  have e : (IntOp.absi (BitVec.ofInt 32 x)).toInt = |x| := by
    have hx := toInt_small (x := x) (by omega) (by omega)
    unfold IntOp.absi
    rw [BitVec.msb_eq_toInt, hx]
    by_cases hn : x < 0
    · rw [if_pos (decide_eq_true hn), ← BitVec.ofInt_neg, toInt_small (by omega) (by omega), abs_of_neg hn]
    · rw [if_neg (by simpa using hn), hx, abs_of_nonneg (by omega)]
  rw [e, show (128#32).toInt = 128 from rfl, abs_le]

theorem sge_zero {x : ℤ} (h1 : -2000000 ≤ x) (h2 : x ≤ 2000000) :
    IntOp.cmpi .sge (BitVec.ofInt 32 x) 0#32 = BitVec.ofBool (decide (0 ≤ x)) := by
  show BitVec.ofBool (decide ((0#32).toInt ≤ (BitVec.ofInt 32 x).toInt)) = _
  rw [toInt_small (by omega) (by omega)]; rfl

theorem slt_len {x : ℤ} (h1 : -2000000 ≤ x) (h2 : x ≤ 2000000) :
    IntOp.cmpi .slt (BitVec.ofInt 32 x) 8192#32 = BitVec.ofBool (decide (x < 8192)) := by
  show BitVec.ofBool (decide ((BitVec.ofInt 32 x).toInt < (8192#32).toInt)) = _
  rw [toInt_small (by omega) (by omega)]; rfl

theorem and_mask (r : ℕ) (h : r < 4294967296) : IntOp.andi (BitVec.ofNat 32 r) 127#32 = BitVec.ofNat 32 (r % 128) := by
  apply BitVec.eq_of_toNat_eq
  show (BitVec.ofNat 32 r &&& 127#32).toNat = _
  rw [BitVec.toNat_and, BitVec.toNat_ofNat, BitVec.toNat_ofNat, BitVec.toNat_ofNat, Nat.mod_eq_of_lt h]
  rw [show 127 % 2 ^ 32 = 2 ^ 7 - 1 from rfl, Nat.and_two_pow_sub_one_eq_mod]
  omega

/-- The three tests together: `x` the distance from query to key, `y` the key's row of the sequence. -/
theorem seen_words {b q j : ℕ} {x y : ℤ} (hx : x = j - 128 - q ∨ x = q + 128 - j) (hy : y = 128 * b - 128 + j)
    (hb : b < 64) (hq : q < 128) (hj : j < 384) :
    IntOp.andi (IntOp.andi (IntOp.cmpi .sle (IntOp.absi (BitVec.ofInt 32 x)) 128#32) (IntOp.cmpi .sge (BitVec.ofInt 32 y) 0#32))
      (IntOp.cmpi .slt (BitVec.ofInt 32 y) 8192#32) = BitVec.ofBool (decide (Seen b q j)) := by
  rw [sle_abs (by omega) (by omega), sge_zero (by omega) (by omega), slt_len (by omega) (by omega)]
  show BitVec.ofBool _ &&& BitVec.ofBool _ &&& BitVec.ofBool _ = _
  rw [BitVec.ofBool_and_ofBool, BitVec.ofBool_and_ofBool]
  congr 1
  rw [← Bool.decide_and, ← Bool.decide_and]
  exact decide_eq_decide.mpr (by unfold Seen; omega)

end Cert.AttnMask
end
-- ==== Proof.AttnFwdOps.lean ====
module

public import proofs.«01_k».proof.Proof.Rows
public import proofs.«01_k».proof.Proof.AttnRow
public import proofs.«01_k».proof.Proof.AttnMask
public import proofs.«01_k».proof.Proof.Gen.AttnFwdIdeal.Value
public import Idealize.ShloMosaic.Lib.Pointwise

@[expose] public section

set_option maxRecDepth 16384

noncomputable section

/-! One block of 128 queries of one key head, of the attention's forward kernel: the four query heads' rows one above the other. -/

namespace Cert.AttnFwdIdeal.Val
open Idealize.ShloMosaic Idealize.ShloMosaic.TcCoe Idealize.SL.Sem
open Cert.AttnFwdIdeal Cert.AttnFwdIdeal.Gen

/-- The keys a query sees: those no further than 128 rows away that are rows of the sequence; `w` is the block's number. -/
def maskW (w : BitVec 32) : IVec S512x384 1 :=
  andi (andi
    (cmpi .sle (absi (subi (subi (iota .tc S512x384 32 [1] iota_S512x384_d1_w32) (broadcast S512x384 128#32))
      (andi (iota .tc S512x384 32 [0] iota_S512x384_d0_w32) (broadcast S512x384 127#32)))) (broadcast S512x384 128#32))
    (cmpi .sge (addi (iota .tc S512x384 32 [1] iota_S512x384_d1_w32) (broadcast S512x384 (Scalar.muli (Scalar.subi w 1#32) 128#32))) (broadcast S512x384 0#32)))
    (cmpi .slt (addi (iota .tc S512x384 32 [1] iota_S512x384_d1_w32) (broadcast S512x384 (Scalar.muli (Scalar.subi w 1#32) 128#32))) (broadcast S512x384 8192#32))

/-- The four heads' sinks, down the rows. -/
def sinkW (s0 s1 s2 s3 : Elt Ideal .f32) : FVec Ideal S512x1 .f32 :=
  select (cmpi .slt (iota .tc S512x1 32 [0] iota_S512x1_d0_w32) (broadcast S512x1 128#32)) (broadcast S512x1 s0)
    (select (cmpi .slt (iota .tc S512x1 32 [0] iota_S512x1_d0_w32) (broadcast S512x1 256#32)) (broadcast S512x1 s1)
      (select (cmpi .slt (iota .tc S512x1 32 [0] iota_S512x1_d0_w32) (broadcast S512x1 384#32)) (broadcast S512x1 s2) (broadcast S512x1 s3)))

/-- The four heads' queries, one above the other. -/
def queryW (q0 q1 q2 q3 : Vec Ideal S128x128 .bf16) : FVec Ideal S512x128 .bf16 :=
  concatenate S512x128 0 [⟨S128x128, shapeCast S128x128 q0 shapeCasts_S128x128_S128x128⟩, ⟨S128x128, shapeCast S128x128 q1 shapeCasts_S128x128_S128x128⟩, ⟨S128x128, shapeCast S128x128 q2 shapeCasts_S128x128_S128x128⟩, ⟨S128x128, shapeCast S128x128 q3 shapeCasts_S128x128_S128x128⟩] concatenates_S128x128_S128x128_S128x128_S128x128_S512x128_d0

/-- The scores, those of keys not seen at minus infinity. -/
def scoreW (mk : IVec S512x384 1) (q : FVec Ideal S512x128 .bf16) (k : FVec Ideal S384x128 .bf16) : FVec Ideal S512x384 .f32 :=
  select mk (mulf (matmul dot_S512x128_S384x128_S512x384_1_1_0_0_n_n none q k (constant S512x384 .f32 0x00000000#32)) (broadcast S512x384 (Scalar.ofBits .f32 0x3DB504F3#32)))
    (broadcast S512x384 (Named.named κ "mask" 0xF149F2CA#32))

/-- The greatest of a row's scores and its sink. -/
def topW (sc : FVec Ideal S512x384 .f32) (s : FVec Ideal S512x1 .f32) : FVec Ideal S512x1 .f32 :=
  maximumf (shapeCast S512x1 (multiReduction .maximumf [1] S512 sc 0xFF800000#32 reduces_S512x384_S512 (.inl rfl) rfl) shapeCasts_S512_S512x1) s

def expW (sc : FVec Ideal S512x384 .f32) (s : FVec Ideal S512x1 .f32) : FVec Ideal S512x384 .f32 :=
  exp (subf sc (broadcastTo S512x384 (topW sc s) broadcasts_S512x1_S512x384))

def denW (sc : FVec Ideal S512x384 .f32) (s : FVec Ideal S512x1 .f32) : FVec Ideal S512x1 .f32 :=
  addf (shapeCast S512x1 (multiReduction .add [1] S512 (expW sc s) 0x00000000#32 reduces_S512x384_S512 (.inl rfl) rfl) shapeCasts_S512_S512x1) (exp (subf s (topW sc s)))

/-- The rows the block's heads give. -/
def outW (sc : FVec Ideal S512x384 .f32) (s : FVec Ideal S512x1 .f32) (v : FVec Ideal S384x128 .bf16) : FVec Ideal S512x128 .bf16 :=
  truncf .bf16 (matmul dot_S512x384_S384x128_S512x128_1_0_0_1_n_n none
    (truncf .bf16 (divf (expW sc s) (broadcastTo S512x384 (denW sc s) broadcasts_S512x1_S512x384)) bitsLt_bf16_f32) v (constant S512x128 .f32 0x00000000#32)) bitsLt_bf16_f32

theorem topW_at (sc : FVec Ideal S512x384 .f32) (s : FVec Ideal S512x1 .f32) (r : Fin 512) (z : Fin 1) :
    topW sc s (ix2 r z) = (AttnRow.top (fun x => sc (ix2 r x)) (s (ix2 r 0)) : EReal) := by
  obtain rfl : z = 0 := Subsingleton.elim _ _
  pointwise [topW, AttnRow.top]

theorem expW_at (sc : FVec Ideal S512x384 .f32) (s : FVec Ideal S512x1 .f32) (r : Fin 512) (x : Fin 384) :
    expW sc s (ix2 r x) = (AttnRow.ex (fun x => sc (ix2 r x)) (s (ix2 r 0)) x : EReal) := by
  pointwise [expW, AttnRow.ex, topW_at]

theorem denW_at (sc : FVec Ideal S512x384 .f32) (s : FVec Ideal S512x1 .f32) (r : Fin 512) (z : Fin 1) :
    denW sc s (ix2 r z) = (AttnRow.den (fun x => sc (ix2 r x)) (s (ix2 r 0)) : EReal) := by
  obtain rfl : z = 0 := Subsingleton.elim _ _
  pointwise [denW, AttnRow.den, topW_at, expW_at]

theorem outW_at (sc : FVec Ideal S512x384 .f32) (s : FVec Ideal S512x1 .f32) (v : FVec Ideal S384x128 .bf16) (r : Fin 512) (d : Fin 128) :
    outW sc s v (ix2 r d) = (AttnRow.out (fun x => sc (ix2 r x)) (s (ix2 r 0)) (fun x => v (ix2 x d)) : EReal) := by
  pointwise [outW, AttnRow.out, AttnRow.prob, denW_at, expW_at]

/-- The scale of a score. -/
abbrev scale : EReal := Ideal.ofBits .f32 0x3DB504F3#32

theorem maskW_at (b : ℕ) (hb : b < 64) (r : Fin 512) (d : Fin 384) :
    maskW (BitVec.ofNat 32 b) (ix2 r d) = BitVec.ofBool (decide (AttnMask.Seen b (r.val % 128) d.val)) := by
  have hr := r.isLt
  have hd := d.isLt
  rw [← AttnMask.seen_words (x := d.val - 128 - (r.val % 128 : ℕ)) (y := 128 * b - 128 + d.val) (.inl rfl) rfl hb (Nat.mod_lt _ (by decide)) hd]
  pointwise [maskW]
  rw [AttnMask.and_mask _ (by omega)]
  have e1 : IntOp.subi (IntOp.subi (BitVec.ofNat 32 d.val) 128#32) (BitVec.ofNat 32 (r.val % 128)) = BitVec.ofInt 32 (d.val - 128 - (r.val % 128 : ℕ)) := by
    show BitVec.ofNat 32 d.val - BitVec.ofNat 32 128 - BitVec.ofNat 32 (r.val % 128) = _
    rw [AttnMask.ofNat_ofInt, AttnMask.ofNat_ofInt, AttnMask.ofNat_ofInt, AttnMask.ofInt_sub', AttnMask.ofInt_sub']; rfl
  have e2 : IntOp.addi (BitVec.ofNat 32 d.val) (Scalar.muli (Scalar.subi (BitVec.ofNat 32 b) 1#32) 128#32) = BitVec.ofInt 32 (128 * b - 128 + d.val) := by
    show BitVec.ofNat 32 d.val + (BitVec.ofNat 32 b - BitVec.ofNat 32 1) * BitVec.ofNat 32 128 = _
    rw [AttnMask.ofNat_ofInt, AttnMask.ofNat_ofInt, AttnMask.ofNat_ofInt, AttnMask.ofNat_ofInt, AttnMask.ofInt_sub', AttnMask.ofInt_mul', AttnMask.ofInt_add']
    congr 1; push_cast; ring
  rw [e1, e2]

theorem scoreW_at (b : ℕ) (hb : b < 64) (q : FVec Ideal S512x128 .bf16) (k : FVec Ideal S384x128 .bf16) (r : Fin 512) (j : Fin 384) :
    scoreW (maskW (BitVec.ofNat 32 b)) q k (ix2 r j)
      = (if AttnMask.Seen b (r.val % 128) j.val then (∑ x : Fin 128, (q (ix2 r x) : EReal) * k (ix2 j x)) * scale else ⊥ : EReal) := by
  pointwise [scoreW]
  rw [maskW_at b hb]
  by_cases h : AttnMask.Seen b (r.val % 128) j.val
  · rw [if_pos h, decide_eq_true h]; rfl
  · rw [if_neg h, decide_eq_false h]; rfl

/-- Of four blocks of 128 rows the one row `r` lies in. -/
abbrev four {α : Type} (a0 a1 a2 a3 : α) (r : Fin 512) : α := if r.val < 128 then a0 else if r.val < 256 then a1 else if r.val < 384 then a2 else a3

theorem queryW_at (q0 q1 q2 q3 : Vec Ideal S128x128 .bf16) (r : Fin 512) (x : Fin 128) :
    queryW q0 q1 q2 q3 (ix2 r x) = (four q0 q1 q2 q3 r (ix2 ⟨r.val % 128, Nat.mod_lt _ (by decide)⟩ x) : EReal) := by
  have hr := r.isLt
  pointwise [queryW]
  have e (a : ℕ) (h : a < 128) (e : a = r.val % 128) : (ix2 (⟨a, h⟩ : Fin 128) x : S128x128.Idx) = ix2 ⟨r.val % 128, Nat.mod_lt _ (by decide)⟩ x := by subst e; rfl
  unfold four
  by_cases h1 : r.val < 128
  · rw [dif_pos h1, if_pos h1, e _ _ (by omega)]
  rw [dif_neg h1, if_neg h1]
  by_cases h2 : r.val < 256
  · rw [dif_pos (by omega), if_pos h2, e _ _ (by omega)]
  rw [dif_neg (by omega), if_neg h2]
  by_cases h3 : r.val < 384
  · rw [dif_pos (by omega), if_pos h3, e _ _ (by omega)]
  rw [dif_neg (by omega), if_neg h3, e _ _ (by omega)]

theorem sinkW_at (s0 s1 s2 s3 : Elt Ideal .f32) (r : Fin 512) (z : Fin 1) :
    sinkW s0 s1 s2 s3 (ix2 r z) = (four s0 s1 s2 s3 r : EReal) := by
  have hr := r.isLt
  pointwise [sinkW]
  have e (n : ℕ) (h : n < 1000) : IntOp.cmpi CmpIPredicate.slt (BitVec.ofNat 32 r.val) (BitVec.ofNat 32 n) = BitVec.ofBool (decide (r.val < n)) := by
    show BitVec.ofBool (decide ((BitVec.ofNat 32 r.val).toInt < (BitVec.ofNat 32 n).toInt)) = _
    rw [AttnMask.ofNat_ofInt, AttnMask.ofNat_ofInt, AttnMask.toInt_small (by omega) (by omega), AttnMask.toInt_small (by omega) (by omega)]
    congr 1; exact decide_eq_decide.mpr (by omega)
  rw [e 128 (by decide), e 256 (by decide), e 384 (by decide)]
  unfold four
  by_cases h1 : r.val < 128
  · rw [if_pos h1, decide_eq_true h1]; rfl
  rw [if_neg h1, decide_eq_false h1]
  by_cases h2 : r.val < 256
  · rw [if_pos h2, decide_eq_true h2]; rfl
  rw [if_neg h2, decide_eq_false h2]
  by_cases h3 : r.val < 384
  · rw [if_pos h3, decide_eq_true h3]; rfl
  rw [if_neg h3, decide_eq_false h3]; rfl

end Cert.AttnFwdIdeal.Val
end
-- ==== Proof.AttnRowBwd.lean ====
module

public import proofs.«01_k».proof.Proof.AttnRow
public import proofs.«01_k».proof.Proof.Reals

@[expose] public section

noncomputable section

/-! One query's attention, backwards: the gradients of its scores, and of the query. -/

namespace Cert.AttnRow
open Idealize.ShloMosaic

/-- The gradients of the scores, from those of the probabilities; the last factor is the scores' scale. -/
def grad (sc : Fin 384 → EReal) (s : EReal) (dp : Fin 384 → EReal) (j : Fin 384) : EReal :=
  prob sc s j * (dp j - ∑ l, prob sc s l * dp l) * Ideal.ofBits .f32 0x3DB504F3#32

/-- An entry of the query's gradient, from the keys' entries in its column. -/
def gradOut (sc : Fin 384 → EReal) (s : EReal) (dp k : Fin 384 → EReal) : EReal := ∑ j, grad sc s dp j * k j

/-- A key not seen has a score of gradient zero. -/
theorem grad_bot {sc : Fin 384 → EReal} {s : EReal} (hd : den sc s ≠ 0) (dp : Fin 384 → EReal) (j : Fin 384) (h : sc j = ⊥) : grad sc s dp j = 0 := by
  unfold grad
  rw [prob_bot hd j h, zero_mul, zero_mul]

/-- Keys not seen do not matter. -/
theorem gradOut_congr {sc sc' : Fin 384 → EReal} {s : EReal} {dp dp' k k' : Fin 384 → EReal} (hd : den sc s ≠ 0) (hsc : ∀ j, sc' j = sc j)
    (hv : ∀ j, sc j = ⊥ ∨ dp' j = dp j ∧ k' j = k j) : gradOut sc' s dp' k' = gradOut sc s dp k := by
  rw [funext hsc]
  have hr : ∑ l, prob sc s l * dp' l = ∑ l, prob sc s l * dp l := Finset.sum_congr rfl fun j _ => by
    rcases hv j with h | h
    · rw [prob_bot hd j h, zero_mul, zero_mul]
    · rw [h.1]
  refine Finset.sum_congr rfl fun j _ => ?_
  rcases hv j with h | h
  · rw [grad_bot hd _ j h, grad_bot hd _ j h, zero_mul, zero_mul]
  · unfold grad
    rw [h.1, h.2, hr]

theorem div_coe (x t : ℝ) (h : t ≠ 0) : Ideal.div x t = ((x * t⁻¹ : ℝ) : EReal) := by
  unfold Ideal.div
  rw [if_neg (by exact_mod_cast h), ← EReal.coe_inv, ← EReal.coe_mul]

/-- What the chain rule writes of a quotient `e / D`, `D` the sum of the `e` and of `b`: through the quotient's two arguments. -/
def thru (e dp : Fin 384 → EReal) (D : EReal) (j : Fin 384) : EReal :=
  (Ideal.div (dp j) D + -∑ l, dp l * Ideal.div 1 (D * D) * e l) * e j

/-- … and of the greatest score taken off: nothing remains of it. -/
def rest (e dp : Fin 384 → EReal) (b D : EReal) : EReal :=
  -((-∑ l, dp l * Ideal.div 1 (D * D) * e l) * b) + ∑ l, -thru e dp D l

section
variable {a d : Fin 384 → ℝ} {b : ℝ} (ht : ∑ l, a l + b ≠ 0)
include ht

theorem sum_coe : ∑ l, (d l : EReal) * Ideal.div 1 (((∑ l, a l + b : ℝ) : EReal) * ((∑ l, a l + b : ℝ) : EReal)) * (a l : EReal)
    = ((∑ l, d l * ((∑ l, a l + b) * (∑ l, a l + b))⁻¹ * a l : ℝ) : EReal) := by
  rw [← EReal.coe_mul, ← EReal.coe_one, div_coe _ _ (mul_ne_zero ht ht), ← LN.coe_sum]
  refine Finset.sum_congr rfl fun l _ => ?_
  rw [one_mul, EReal.coe_mul, EReal.coe_mul]

theorem thru_coe (j : Fin 384) : thru (fun l => a l) (fun l => d l) ((∑ l, a l + b : ℝ) : EReal) j
    = (((d j * (∑ l, a l + b)⁻¹ + -∑ l, d l * ((∑ l, a l + b) * (∑ l, a l + b))⁻¹ * a l) * a j : ℝ) : EReal) := by
  unfold thru
  rw [sum_coe ht, div_coe _ _ ht, ← EReal.coe_neg, ← EReal.coe_add, ← EReal.coe_mul]

theorem rest_coe : rest (fun l => a l) (fun l => d l) b ((∑ l, a l + b : ℝ) : EReal) = 0 := by
  unfold rest
  simp only [thru_coe ht, sum_coe ht, ← EReal.coe_neg]
  rw [LN.coe_sum, ← EReal.coe_mul, ← EReal.coe_neg, ← EReal.coe_add, ← EReal.coe_zero]
  refine congrArg _ ?_
  have e0 (c : ℝ) : ∑ l, d l * c * a l = c * ∑ l, d l * a l := by
    rw [Finset.mul_sum]; exact Finset.sum_congr rfl fun l _ => by ring
  have e1 (c S : ℝ) : ∑ l, -((d l * c + -S) * a l) = S * ∑ l, a l - c * ∑ l, d l * a l := by
    rw [Finset.mul_sum, Finset.mul_sum, ← Finset.sum_sub_distrib]; exact Finset.sum_congr rfl fun l _ => by ring
  rw [e1, e0]
  generalize ∑ l, d l * a l = T at *
  generalize ∑ l, a l = A at *
  field_simp
  ring

theorem thru_eq (j : Fin 384) : thru (fun l => a l) (fun l => d l) ((∑ l, a l + b : ℝ) : EReal) j
    = Ideal.div (a j) ((∑ l, a l + b : ℝ) : EReal) * ((d j : EReal) - ∑ l, Ideal.div (a l) ((∑ l, a l + b : ℝ) : EReal) * (d l : EReal)) := by
  rw [thru_coe ht]
  simp only [div_coe _ _ ht, ← EReal.coe_mul]
  rw [LN.coe_sum, ← EReal.coe_sub, ← EReal.coe_mul]
  refine congrArg _ ?_
  have e0 (c : ℝ) : ∑ l, d l * c * a l = c * ∑ l, d l * a l := by
    rw [Finset.mul_sum]; exact Finset.sum_congr rfl fun l _ => by ring
  have e1 (c : ℝ) : ∑ l, a l * c * d l = c * ∑ l, d l * a l := by
    rw [Finset.mul_sum]; exact Finset.sum_congr rfl fun l _ => by ring
  rw [e0, e1, mul_inv]
  ring
end

theorem exp_real {x : EReal} (h : x ≠ ⊤) : IsReal (Ideal.exp x) := by
  induction x with
  | bot => exact ⟨0, rfl⟩
  | top => exact absurd rfl h
  | coe r => exact ⟨_, rfl⟩

theorem top_real {sc : Fin 384 → EReal} {s : EReal} (hsc : ∀ j, sc j ≠ ⊤) (hs : IsReal s) : IsReal (top sc s) := by
  obtain ⟨r, rfl⟩ := hs
  have ht : top sc r < ⊤ := max_lt ((Finset.fold_max_lt _).mpr ⟨ofBits_lt, fun j _ => lt_top_iff_ne_top.mpr (hsc j)⟩) (EReal.coe_lt_top r)
  have hb : top sc r ≠ ⊥ := fun h => EReal.coe_ne_bot r (le_bot_iff.mp (h ▸ le_max_right _ _))
  exact ⟨_, (EReal.coe_toReal ht.ne hb).symm⟩

theorem off_real {x t : EReal} (hx : x ≠ ⊤) (ht : IsReal t) : IsReal (Ideal.exp (x - t)) := by
  obtain ⟨r, rfl⟩ := ht
  refine exp_real fun h => hx ?_
  induction x with
  | bot => rw [sub_eq_add_neg, EReal.bot_add] at h; exact absurd h bot_ne_top
  | top => rfl
  | coe y => exact absurd h (by rw [← EReal.coe_sub]; exact EReal.coe_ne_top _)

variable {sc : Fin 384 → EReal} {s : EReal} (hsc : ∀ j, sc j ≠ ⊤) (hs : IsReal s) {dp : Fin 384 → EReal} (hdp : ∀ j, IsReal (dp j))
include hsc hs hdp

/-- The chain rule's gradient of a score, by the probabilities. -/
theorem chain_thru (j : Fin 384) : thru (ex sc s) dp (den sc s) j = prob sc s j * (dp j - ∑ l, prob sc s l * dp l) := by
  have hd : den sc s ≠ 0 := den_ne_zero hsc (by obtain ⟨r, rfl⟩ := hs; exact EReal.coe_ne_top r) (by obtain ⟨r, rfl⟩ := hs; exact EReal.coe_ne_bot r)
  have ht := top_real hsc hs
  choose a ha using fun j => (off_real (hsc j) ht : IsReal (ex sc s j))
  obtain ⟨b, hb⟩ := off_real (x := s) (by obtain ⟨r, rfl⟩ := hs; exact EReal.coe_ne_top r) ht
  choose d hdd using hdp
  have eD : den sc s = ((∑ l, a l + b : ℝ) : EReal) := by
    unfold den
    rw [hb, EReal.coe_add, ← LN.coe_sum]
    exact congrArg (· + _) (Finset.sum_congr rfl fun l _ => ha l)
  have h0 : ∑ l, a l + b ≠ 0 := fun h => hd (by rw [eD, h]; rfl)
  have e1 : ex sc s = fun l => (a l : EReal) := funext ha
  have e2 : dp = fun l => (d l : EReal) := funext hdd
  unfold prob
  rw [eD, e1, e2]
  exact thru_eq h0 j

theorem chain_rest : rest (ex sc s) dp (Ideal.exp (s - top sc s)) (den sc s) = 0 := by
  have hd : den sc s ≠ 0 := den_ne_zero hsc (by obtain ⟨r, rfl⟩ := hs; exact EReal.coe_ne_top r) (by obtain ⟨r, rfl⟩ := hs; exact EReal.coe_ne_bot r)
  have ht := top_real hsc hs
  choose a ha using fun j => (off_real (hsc j) ht : IsReal (ex sc s j))
  obtain ⟨b, hb⟩ := off_real (x := s) (by obtain ⟨r, rfl⟩ := hs; exact EReal.coe_ne_top r) ht
  choose d hdd using hdp
  have eD : den sc s = ((∑ l, a l + b : ℝ) : EReal) := by
    unfold den
    rw [hb, EReal.coe_add, ← LN.coe_sum]
    exact congrArg (· + _) (Finset.sum_congr rfl fun l _ => ha l)
  have h0 : ∑ l, a l + b ≠ 0 := fun h => hd (by rw [eD, h]; rfl)
  have e1 : ex sc s = fun l => (a l : EReal) := funext ha
  have e2 : dp = fun l => (d l : EReal) := funext hdd
  rw [eD, e1, e2, hb]
  exact rest_coe h0

omit hsc hs hdp in
/-- Nothing, shared among the places of the greatest score, is nothing. -/
theorem share_zero {ι : Fin 384 → EReal} (hi : ∀ j, ι j = 0 ∨ ι j = 1) (j : Fin 384) : Ideal.div 0 (∑ l, ι l) * ι j = 0 := by
  rcases hi j with h | h
  · rw [h, mul_zero]
  · have h1 : (1 : EReal) ≤ ∑ l, ι l := h ▸ Finset.single_le_sum (fun l _ => by rcases hi l with h | h <;> rw [h]; exact zero_le_one) (Finset.mem_univ j)
    unfold Ideal.div
    rw [if_neg (ne_of_gt (lt_of_lt_of_le zero_lt_one h1)), zero_mul, zero_mul]

end Cert.AttnRow
end
-- ==== Proof.AttnFwdFun.lean ====
module

public import proofs.«01_k».proof.Proof.AttnRow
public import proofs.«01_k».proof.Proof.AttnMask

@[expose] public section

noncomputable section

/-! The attention over the 8192 rows: what query row `r` of head `k / 128` gives in column `k`. -/

namespace Cert.AttnFwdFun
open Idealize.ShloMosaic

/-- Row `j` of the 384 keys (or values) about the block `b` of 128 queries, in column `x`; zero outside the sequence. -/
def keyAt (K : Fin 8192 → Fin 256 → EReal) (b j : ℕ) (x : Fin 256) : EReal :=
  if h : 128 ≤ 128 * b + j ∧ 128 * b + j < 8320 then K ⟨128 * b + j - 128, by omega⟩ x else 0

/-- The column of a head's `x`-th entry, the head being column `k`'s. -/
abbrev headCol (k : Fin 1024) (x : Fin 128) : Fin 1024 := ⟨128 * (k.val / 128) + x.val, by omega⟩

/-- … and of the keys' head it is read with: four heads of queries share one of keys. -/
abbrev keyCol (k : Fin 1024) (x : Fin 128) : Fin 256 := ⟨128 * (k.val / 512) + x.val, by omega⟩

/-- The head of a column. -/
abbrev headOf (k : Fin 1024) : Fin 8 := ⟨k.val / 128, by omega⟩

/-- The scores. -/
def score (Q : Fin 8192 → Fin 1024 → EReal) (K : Fin 8192 → Fin 256 → EReal) (r : Fin 8192) (k : Fin 1024) (j : Fin 384) : EReal :=
  if AttnMask.Seen (r.val / 128) (r.val % 128) j.val then
    (∑ x : Fin 128, Q r (headCol k x) * keyAt K (r.val / 128) j.val (keyCol k x)) * Ideal.ofBits .f32 0x3DB504F3#32
  else ⊥

/-- The attention's output. -/
def out (Q : Fin 8192 → Fin 1024 → EReal) (K V : Fin 8192 → Fin 256 → EReal) (S : Fin 8 → EReal) (r : Fin 8192) (k : Fin 1024) : EReal :=
  AttnRow.out (score Q K r k) (S (headOf k)) fun j => keyAt V (r.val / 128) j.val (keyCol k ⟨k.val % 128, Nat.mod_lt _ (by decide)⟩)

/-- The queries, and the keys or values, by rows and columns. -/
abbrev rowsQ (x : (⟨4, ![1, 8192, 8, 128]⟩ : Shape).Idx → EReal) (r : Fin 8192) (k : Fin 1024) : EReal :=
  x (ix4 0 r ⟨k.val / 128, by omega⟩ ⟨k.val % 128, Nat.mod_lt _ (by decide)⟩)
abbrev rowsK (x : (⟨4, ![1, 8192, 2, 128]⟩ : Shape).Idx → EReal) (r : Fin 8192) (k : Fin 256) : EReal :=
  x (ix4 0 r ⟨k.val / 128, by omega⟩ ⟨k.val % 128, Nat.mod_lt _ (by decide)⟩)

end Cert.AttnFwdFun
end
-- ==== Proof.AttnBwdFun.lean ====
module

public import proofs.«01_k».proof.Proof.AttnRowBwd
public import proofs.«01_k».proof.Proof.AttnFwdFun

@[expose] public section

noncomputable section

/-! The gradient of the attention's queries over the 8192 rows. -/

namespace Cert.AttnBwdFun
open Idealize.ShloMosaic Cert.AttnFwdFun

/-- The gradients of the probabilities: of query row `r` and column `k`'s head, over the 384 keys. -/
def dprob (V : Fin 8192 → Fin 256 → EReal) (D : Fin 8192 → Fin 1024 → EReal) (r : Fin 8192) (k : Fin 1024) (j : Fin 384) : EReal :=
  ∑ x : Fin 128, D r (headCol k x) * keyAt V (r.val / 128) j.val (keyCol k x)

/-- The queries' gradient. -/
def dq (Q : Fin 8192 → Fin 1024 → EReal) (K V : Fin 8192 → Fin 256 → EReal) (D : Fin 8192 → Fin 1024 → EReal) (S : Fin 8 → EReal) (r : Fin 8192) (k : Fin 1024) : EReal :=
  AttnRow.gradOut (score Q K r k) (S (headOf k)) (dprob V D r k) fun j => keyAt K (r.val / 128) j.val (keyCol k ⟨k.val % 128, Nat.mod_lt _ (by decide)⟩)

/-- The gradient of the attention's result, by rows and columns. -/
abbrev rowsD (x : (⟨3, ![1, 8192, 1024]⟩ : Shape).Idx → EReal) (r : Fin 8192) (k : Fin 1024) : EReal := x (ix3 0 r k)

end Cert.AttnBwdFun
end
-- ==== Proof.AttnBwdIdealRunA.lean ====
/- The run of one grid point of the attention gradient's kernel at the first point. -/
module

public import proofs.«01_k».proof.Proof.Gen.AttnBwdIdeal.Frame
public import proofs.«01_k».proof.Proof.Gen.AttnBwdIdeal.Skeleton

@[expose] public section

-- membership in a rectangle of production extents (`View.cover_of_tiled`): the elaborator's structural look
-- recurses once per coordinate of the long axes
set_option maxRecDepth 16384

noncomputable section

namespace Cert.AttnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first point is where the three accumulated results are cleared. -/
abbrev cond0_0 (i : grid0.Coords) : Prop := Scalar.cmpi .ne (Scalar.extui (Scalar.cmpi .eq (BitVec.ofNat 32 (i 0).val) 0#32) : BitVec 32) 0#32 = 1#1

/-- The row at which a block of the key gradient starts is read as it stands; its column is the first key head's. -/
instance (i : grid0.Coords) (a b : BitVec 32) : ClosedOff (k0_off1 i a b) :=
  ⟨![k0_off1 i a b 0, 0], by funext j; fin_cases j <;> rfl⟩

/-- The same of the second key head. -/
instance (i : grid0.Coords) (a b : BitVec 32) : ClosedOff (k0_off2 i a b) :=
  ⟨![k0_off2 i a b 0, 128], by funext j; fin_cases j <;> rfl⟩

set_option maxHeartbeats 2000000 in
/-- What the body leaves in each result's staging buffer, as pieces, with the run that finds them. -/
noncomputable def kernelRun0_A (c : Dev nD) (i : grid0.Coords) (arg1 : Memref sig .tc .smem S1x8 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S128x256 .bf16) (harg4 : arg4.IsWhole) (arg5 : Memref sig .tc .vmem S512x256 .bf16) (harg5 : arg5.IsWhole) (arg6 : Memref sig .tc .vmem S128x256 .bf16) (harg6 : arg6.IsWhole) (arg7 : Memref sig .tc .vmem S128x256 .bf16) (harg7 : arg7.IsWhole) (arg8 : Memref sig .tc .vmem S512x256 .bf16) (harg8 : arg8.IsWhole) (arg9 : Memref sig .tc .vmem S128x256 .bf16) (harg9 : arg9.IsWhole) (arg10 : Memref sig .tc .vmem S512x1024 .f32) (harg10 : arg10.IsWhole) (arg11 : Memref sig .tc .vmem S8192x256 .f32) (harg11 : arg11.IsWhole) (arg12 : Memref sig .tc .vmem S8192x256 .f32) (harg12 : arg12.IsWhole) (arg13 : Memref sig .tc .vmem S1x128 .f32) (harg13 : arg13.IsWhole) (hc0 : cond0_0 i)
    (x0 : Vec F S1x8 .f32) (x1 : Vec F S512x1024 .bf16) (x2 : Vec F S512x1024 .bf16) (x3 : Vec F S128x256 .bf16) (x4 : Vec F S512x256 .bf16) (x5 : Vec F S128x256 .bf16) (x6 : Vec F S128x256 .bf16) (x7 : Vec F S512x256 .bf16) (x8 : Vec F S128x256 .bf16) :
    Σ' (L9 : List (View.Piece (Elt F) S512x1024 .f32)), Σ' (L10 : List (View.Piece (Elt F) S8192x256 .f32)), Σ' (L11 : List (View.Piece (Elt F) S8192x256 .f32)), { L12 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    iexists _; iexact H12

end Cert.AttnBwdIdeal.Gen

end
-- ==== Proof.AttnBwdIdealRunB.lean ====
/- The run of one grid point of the attention gradient's kernel at a later point. -/
module

public import proofs.«01_k».proof.Proof.AttnBwdIdealRunA

@[expose] public section

-- membership in a rectangle of production extents (`View.cover_of_tiled`): the elaborator's structural look
-- recurses once per coordinate of the long axes
set_option maxRecDepth 16384

noncomputable section

namespace Cert.AttnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- What the body leaves in each result's staging buffer, as pieces, with the run that finds them. -/
noncomputable def kernelRun0_B (c : Dev nD) (i : grid0.Coords) (arg1 : Memref sig .tc .smem S1x8 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S128x256 .bf16) (harg4 : arg4.IsWhole) (arg5 : Memref sig .tc .vmem S512x256 .bf16) (harg5 : arg5.IsWhole) (arg6 : Memref sig .tc .vmem S128x256 .bf16) (harg6 : arg6.IsWhole) (arg7 : Memref sig .tc .vmem S128x256 .bf16) (harg7 : arg7.IsWhole) (arg8 : Memref sig .tc .vmem S512x256 .bf16) (harg8 : arg8.IsWhole) (arg9 : Memref sig .tc .vmem S128x256 .bf16) (harg9 : arg9.IsWhole) (arg10 : Memref sig .tc .vmem S512x1024 .f32) (harg10 : arg10.IsWhole) (arg11 : Memref sig .tc .vmem S8192x256 .f32) (harg11 : arg11.IsWhole) (arg12 : Memref sig .tc .vmem S8192x256 .f32) (harg12 : arg12.IsWhole) (arg13 : Memref sig .tc .vmem S1x128 .f32) (harg13 : arg13.IsWhole) (hc0 : ¬cond0_0 i)
    (x0 : Vec F S1x8 .f32) (x1 : Vec F S512x1024 .bf16) (x2 : Vec F S512x1024 .bf16) (x3 : Vec F S128x256 .bf16) (x4 : Vec F S512x256 .bf16) (x5 : Vec F S128x256 .bf16) (x6 : Vec F S128x256 .bf16) (x7 : Vec F S512x256 .bf16) (x8 : Vec F S128x256 .bf16) (xo10 : Vec F S8192x256 .f32) (xo11 : Vec F S8192x256 .f32) (xo12 : Vec F S1x128 .f32) :
    Σ' (L9 : List (View.Piece (Elt F) S512x1024 .f32)), Σ' (L10 : List (View.Piece (Elt F) S8192x256 .f32)), Σ' (L11 : List (View.Piece (Elt F) S8192x256 .f32)), { L12 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xo10 ∗ owns (c : Thread nD τ) arg12 fullShare xo11 ∗ owns (c : Thread nD τ) arg13 fullShare xo12
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (arg11.view.loc (c : Thread nD τ) ↦[arg11.view.set]{fullShare} arg11.view.writes (Elt F) (harg11.unread xo10) L10) ∗ (arg12.view.loc (c : Thread nD τ) ↦[arg12.view.set]{fullShare} arg12.view.writes (Elt F) (harg12.unread xo11) L11) ∗ (arg13.view.loc (c : Thread nD τ) ↦[arg13.view.set]{fullShare} arg13.view.writes (Elt F) (harg13.unread xo12) L12)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11; obtain rfl := harg13.eq_unread hf12
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexact H10
    isplitl [H11]; · iexact H11
    iexact H12

end Cert.AttnBwdIdeal.Gen

end
-- ==== Proof.AttnBwdIdealRun.lean ====
/- The run of the attention gradient's kernel over its grid: what each point leaves, and the arguments unchanged. -/
module

public import proofs.«01_k».proof.Proof.AttnBwdIdealRunB
public import Idealize.ShloMosaic.Lib.Claim

@[expose] public section

-- membership in a rectangle of production extents (`View.cover_of_tiled`): the elaborator's structural look
-- recurses once per coordinate of the long axes
set_option maxRecDepth 16384

noncomputable section

namespace Cert.AttnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The results are cleared at the first point alone. -/
theorem clears_iff : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- Window 0's buffer at a point, which is whole. -/
abbrev buf0 (t : Fin cfg0.N) : Memref sig .tc .smem S1x8 .f32 := win0_0.stage (cfg0.slots t 0)
theorem whole0 (t : Fin cfg0.N) : (buf0 t).IsWhole := hstage0_0 ((cfg0.slots t 0).cast nbuf0_0)
/-- Window 1's buffer at a point, which is whole. -/
abbrev buf1 (t : Fin cfg0.N) : Memref sig .tc .vmem S512x1024 .bf16 := win0_1.stage (cfg0.slots t 1)
theorem whole1 (t : Fin cfg0.N) : (buf1 t).IsWhole := hstage0_1 ((cfg0.slots t 1).cast nbuf0_1)
/-- Window 2's buffer at a point, which is whole. -/
abbrev buf2 (t : Fin cfg0.N) : Memref sig .tc .vmem S512x1024 .bf16 := win0_2.stage (cfg0.slots t 2)
theorem whole2 (t : Fin cfg0.N) : (buf2 t).IsWhole := hstage0_2 ((cfg0.slots t 2).cast nbuf0_2)
/-- Window 3's buffer at a point, which is whole. -/
abbrev buf3 (t : Fin cfg0.N) : Memref sig .tc .vmem S128x256 .bf16 := win0_3.stage (cfg0.slots t 3)
theorem whole3 (t : Fin cfg0.N) : (buf3 t).IsWhole := hstage0_3 ((cfg0.slots t 3).cast nbuf0_3)
/-- Window 4's buffer at a point, which is whole. -/
abbrev buf4 (t : Fin cfg0.N) : Memref sig .tc .vmem S512x256 .bf16 := win0_4.stage (cfg0.slots t 4)
theorem whole4 (t : Fin cfg0.N) : (buf4 t).IsWhole := hstage0_4 ((cfg0.slots t 4).cast nbuf0_4)
/-- Window 5's buffer at a point, which is whole. -/
abbrev buf5 (t : Fin cfg0.N) : Memref sig .tc .vmem S128x256 .bf16 := win0_5.stage (cfg0.slots t 5)
theorem whole5 (t : Fin cfg0.N) : (buf5 t).IsWhole := hstage0_5 ((cfg0.slots t 5).cast nbuf0_5)
/-- Window 6's buffer at a point, which is whole. -/
abbrev buf6 (t : Fin cfg0.N) : Memref sig .tc .vmem S128x256 .bf16 := win0_6.stage (cfg0.slots t 6)
theorem whole6 (t : Fin cfg0.N) : (buf6 t).IsWhole := hstage0_6 ((cfg0.slots t 6).cast nbuf0_6)
/-- Window 7's buffer at a point, which is whole. -/
abbrev buf7 (t : Fin cfg0.N) : Memref sig .tc .vmem S512x256 .bf16 := win0_7.stage (cfg0.slots t 7)
theorem whole7 (t : Fin cfg0.N) : (buf7 t).IsWhole := hstage0_7 ((cfg0.slots t 7).cast nbuf0_7)
/-- Window 8's buffer at a point, which is whole. -/
abbrev buf8 (t : Fin cfg0.N) : Memref sig .tc .vmem S128x256 .bf16 := win0_8.stage (cfg0.slots t 8)
theorem whole8 (t : Fin cfg0.N) : (buf8 t).IsWhole := hstage0_8 ((cfg0.slots t 8).cast nbuf0_8)
/-- Window 9's buffer at a point, which is whole. -/
abbrev buf9 (t : Fin cfg0.N) : Memref sig .tc .vmem S512x1024 .f32 := win0_9.stage (cfg0.slots t 9)
theorem whole9 (t : Fin cfg0.N) : (buf9 t).IsWhole := hstage0_9 ((cfg0.slots t 9).cast nbuf0_9)
/-- Window 10's buffer at a point, which is whole. -/
abbrev buf10 (t : Fin cfg0.N) : Memref sig .tc .vmem S8192x256 .f32 := win0_10.stage (cfg0.slots t 10)
theorem whole10 (t : Fin cfg0.N) : (buf10 t).IsWhole := hstage0_10 ((cfg0.slots t 10).cast nbuf0_10)
/-- Window 11's buffer at a point, which is whole. -/
abbrev buf11 (t : Fin cfg0.N) : Memref sig .tc .vmem S8192x256 .f32 := win0_11.stage (cfg0.slots t 11)
theorem whole11 (t : Fin cfg0.N) : (buf11 t).IsWhole := hstage0_11 ((cfg0.slots t 11).cast nbuf0_11)
/-- Window 12's buffer at a point, which is whole. -/
abbrev buf12 (t : Fin cfg0.N) : Memref sig .tc .vmem S1x128 .f32 := win0_12.stage (cfg0.slots t 12)
theorem whole12 (t : Fin cfg0.N) : (buf12 t).IsWhole := hstage0_12 ((cfg0.slots t 12).cast nbuf0_12)

/-- The run of the first point, on the point's buffers and blocks. -/
abbrev firstRun (c : Dev nD) (t : Fin cfg0.N) (h0 : t.val % 16 = 0) :=
  kernelRun0_A (F := F) c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf12 t) (whole12 t) ((clears_iff t).mpr h0) (iblk m c 0 t) (iblk m c 1 t) (iblk m c 2 t) (iblk m c 3 t) (iblk m c 4 t) (iblk m c 5 t) (iblk m c 6 t) (iblk m c 7 t) (iblk m c 8 t)

/-- The run of a later point, on what the point before left of the accumulated results. -/
abbrev laterRun (c : Dev nD) (t : Fin cfg0.N) (h0 : ¬t.val % 16 = 0) (p10 p11 : Vec F S8192x256 .f32) (p12 : Vec F S1x128 .f32) :=
  kernelRun0_B (F := F) c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf12 t) (whole12 t) (fun h => h0 ((clears_iff t).mp h)) (iblk m c 0 t) (iblk m c 1 t) (iblk m c 2 t) (iblk m c 3 t) (iblk m c 4 t) (iblk m c 5 t) (iblk m c 6 t) (iblk m c 7 t) (iblk m c 8 t) p10 p11 p12

theorem first_cover9 (c : Dev nD) (t : Fin cfg0.N) (h0 : t.val % 16 = 0) (y : S512x1024.Idx) : ∃ pc ∈ (firstRun m c t h0).1, y ∈ pc.1.set :=
  View.cover_of_tiledL (firstRun m c t h0).1 S128x128.size (by sl_kernel_rfl) y
theorem later_cover9 (c : Dev nD) (t : Fin cfg0.N) (h0 : ¬t.val % 16 = 0) (p10 p11 : Vec F S8192x256 .f32) (p12 : Vec F S1x128 .f32) (y : S512x1024.Idx) :
    ∃ pc ∈ (laterRun m c t h0 p10 p11 p12).1, y ∈ pc.1.set :=
  View.cover_of_tiledL (laterRun m c t h0 p10 p11 p12).1 S128x128.size (by sl_kernel_rfl) y
theorem first_cover10 (c : Dev nD) (t : Fin cfg0.N) (h0 : t.val % 16 = 0) (y : S8192x256.Idx) : ∃ pc ∈ (firstRun m c t h0).2.1, y ∈ pc.1.set :=
  View.cover_of_wholeMem (firstRun m c t h0).2.1 (by sl_whole_mem) y
theorem first_cover11 (c : Dev nD) (t : Fin cfg0.N) (h0 : t.val % 16 = 0) (y : S8192x256.Idx) : ∃ pc ∈ (firstRun m c t h0).2.2.1, y ∈ pc.1.set :=
  View.cover_of_wholeMem (firstRun m c t h0).2.2.1 (by sl_whole_mem) y
theorem first_cover12 (c : Dev nD) (t : Fin cfg0.N) (h0 : t.val % 16 = 0) (y : S1x128.Idx) : ∃ pc ∈ (firstRun m c t h0).2.2.2.1, y ∈ pc.1.set :=
  View.cover_of_wholeMem (firstRun m c t h0).2.2.2.1 (by sl_whole_mem) y

/-- What pieces covering a buffer leave in it. -/
abbrev left {s : Shape} {e : EltTy} (v : View sig .tc .vmem s e) (L : List (View.Piece (Elt F) s e)) : Vec F s e :=
  v.read (Elt F) (v.writes (Elt F) v.junk L)

/-- The four results' buffers. -/
abbrev Outs (F : FTy → Type) := Vec F S512x1024 .f32 × Vec F S8192x256 .f32 × Vec F S8192x256 .f32 × Vec F S1x128 .f32

/-- What the first point leaves. -/
def firstOuts (c : Dev nD) (t : Fin cfg0.N) (h0 : t.val % 16 = 0) : Outs F :=
  (left (buf9 t).view (firstRun m c t h0).1, left (buf10 t).view (firstRun m c t h0).2.1, left (buf11 t).view (firstRun m c t h0).2.2.1, left (buf12 t).view (firstRun m c t h0).2.2.2.1)

/-- What a later point leaves, over what the point before did. -/
def laterOuts (c : Dev nD) (t : Fin cfg0.N) (h0 : ¬t.val % 16 = 0) (p : Outs F) : Outs F :=
  (left (buf9 t).view (laterRun m c t h0 p.2.1 p.2.2.1 p.2.2.2).1,
    (buf10 t).view.read (Elt F) ((buf10 t).view.writes (Elt F) ((whole10 t).unread p.2.1) (laterRun m c t h0 p.2.1 p.2.2.1 p.2.2.2).2.1),
    (buf11 t).view.read (Elt F) ((buf11 t).view.writes (Elt F) ((whole11 t).unread p.2.2.1) (laterRun m c t h0 p.2.1 p.2.2.1 p.2.2.2).2.2.1),
    (buf12 t).view.read (Elt F) ((buf12 t).view.writes (Elt F) ((whole12 t).unread p.2.2.2) (laterRun m c t h0 p.2.1 p.2.2.1 p.2.2.2).2.2.2.1))

/-- What the points up to the `n`-th leave. -/
def outsAt (c : Dev nD) : (n : ℕ) → n < cfg0.N → Outs F
  | 0, hn => firstOuts m c ⟨0, hn⟩ rfl
  | n + 1, hn => if h0 : (n + 1) % 16 = 0 then firstOuts m c ⟨n + 1, hn⟩ h0
      else laterOuts m c ⟨n + 1, hn⟩ h0 (outsAt c n (Nat.lt_of_succ_lt hn))

theorem outsAt_first (c : Dev nD) (t : Fin cfg0.N) (h0 : t.val % 16 = 0) : outsAt m c t.val t.isLt = firstOuts m c t h0 := by
  obtain ⟨n, hn⟩ := t
  cases n with
  | zero => rfl
  | succ n => exact dif_pos h0

/-- What the point before left. -/
abbrev pastOuts (c : Dev nD) (t : Fin cfg0.N) : Outs F := outsAt m c (t.val - 1) (Nat.lt_of_le_of_lt (Nat.sub_le _ _) t.isLt)

theorem outsAt_later (c : Dev nD) (t : Fin cfg0.N) (h0 : ¬t.val % 16 = 0) : outsAt m c t.val t.isLt = laterOuts m c t h0 (pastOuts m c t) := by
  obtain ⟨n, hn⟩ := t
  cases n with
  | zero => exact absurd (Nat.zero_mod _) h0
  | succ n => exact dif_neg h0

/-- The pipeline's data: inputs stay at their blocks, results at what the points leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt m c t.val t.isLt).1
    | ⟨10, _⟩ => (outsAt m c t.val t.isLt).2.1
    | ⟨11, _⟩ => (outsAt m c t.val t.isLt).2.2.1
    | ⟨12, _⟩ => (outsAt m c t.val t.isLt).2.2.2
  Φ _ := Pipeline.ΦA spec0 c
  q w := Pipeline.shareOf spec0 w
  owed _ := 0

theorem arr_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = (outsAt m c t.val t.isLt).1 := by dsimp only [dats]
theorem after10 (c : Dev nD) (t : Fin cfg0.N) : (dats m 0 c).after 10 t = (outsAt m c t.val t.isLt).2.1 := by dsimp only [dats]
theorem after11 (c : Dev nD) (t : Fin cfg0.N) : (dats m 0 c).after 11 t = (outsAt m c t.val t.isLt).2.2.1 := by dsimp only [dats]
theorem after12 (c : Dev nD) (t : Fin cfg0.N) : (dats m 0 c).after 12 t = (outsAt m c t.val t.isLt).2.2.2 := by dsimp only [dats]
theorem before0 (c : Dev nD) (t : Fin cfg0.N) (d) : (dats m 0 c).before 0 t d = iblk m c 0 t :=
  before0_0_of m (dats m 0 c) (arr_eq m c 0) (after0 m c) t d
theorem before1 (c : Dev nD) (t : Fin cfg0.N) (d) : (dats m 0 c).before 1 t d = iblk m c 1 t :=
  before0_1_of m (dats m 0 c) (arr_eq m c 1) (after1 m c) t d
theorem before2 (c : Dev nD) (t : Fin cfg0.N) (d) : (dats m 0 c).before 2 t d = iblk m c 2 t :=
  before0_2_of m (dats m 0 c) (arr_eq m c 2) (after2 m c) t d
theorem before3 (c : Dev nD) (t : Fin cfg0.N) (d) : (dats m 0 c).before 3 t d = iblk m c 3 t :=
  before0_3_of m (dats m 0 c) (arr_eq m c 3) (after3 m c) t d
theorem before4 (c : Dev nD) (t : Fin cfg0.N) (d) : (dats m 0 c).before 4 t d = iblk m c 4 t :=
  before0_4_of m (dats m 0 c) (arr_eq m c 4) (after4 m c) t d
theorem before5 (c : Dev nD) (t : Fin cfg0.N) (d) : (dats m 0 c).before 5 t d = iblk m c 5 t :=
  before0_5_of m (dats m 0 c) (arr_eq m c 5) (after5 m c) t d
theorem before6 (c : Dev nD) (t : Fin cfg0.N) (d) : (dats m 0 c).before 6 t d = iblk m c 6 t :=
  before0_6_of m (dats m 0 c) (arr_eq m c 6) (after6 m c) t d
theorem before7 (c : Dev nD) (t : Fin cfg0.N) (d) : (dats m 0 c).before 7 t d = iblk m c 7 t :=
  before0_7_of m (dats m 0 c) (arr_eq m c 7) (after7 m c) t d
theorem before8 (c : Dev nD) (t : Fin cfg0.N) (d) : (dats m 0 c).before 8 t d = iblk m c 8 t :=
  before0_8_of m (dats m 0 c) (arr_eq m c 8) (after8 m c) t d
theorem before10 (c : Dev nD) (t : Fin cfg0.N) (h0 : ¬t.val % 16 = 0) (d) : (dats m 0 c).before 10 t d = (pastOuts m c t).2.1 := by
  have hN : t.val < 16 := lt_of_lt_of_eq t.isLt (show cfg0.N = 16 from N_0)
  rw [Dat.before_out_kept _ 10 rfl t (by omega) (Bool.eq_false_iff.mpr fun h => by have := (flush0_10 _).mp h; dsimp only at this; omega)
    (fun _ => rfl) (fun _ _ => rfl)]
  dsimp only [dats]
theorem before11 (c : Dev nD) (t : Fin cfg0.N) (h0 : ¬t.val % 16 = 0) (d) : (dats m 0 c).before 11 t d = (pastOuts m c t).2.2.1 := by
  have hN : t.val < 16 := lt_of_lt_of_eq t.isLt (show cfg0.N = 16 from N_0)
  rw [Dat.before_out_kept _ 11 rfl t (by omega) (Bool.eq_false_iff.mpr fun h => by have := (flush0_11 _).mp h; dsimp only at this; omega)
    (fun _ => rfl) (fun _ _ => rfl)]
  dsimp only [dats]
theorem before12 (c : Dev nD) (t : Fin cfg0.N) (h0 : ¬t.val % 16 = 0) (d) : (dats m 0 c).before 12 t d = (pastOuts m c t).2.2.2 := by
  have hN : t.val < 16 := lt_of_lt_of_eq t.isLt (show cfg0.N = 16 from N_0)
  rw [Dat.before_out_kept _ 12 rfl t (by omega) (Bool.eq_false_iff.mpr fun h => by have := (flush0_12 _).mp h; dsimp only at this; omega)
    (fun _ => rfl) (fun _ _ => rfl)]
  dsimp only [dats]

/-- What the body is given at a point, and what it gives back. -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d))
    ∗ (∃ d, owns (c : Thread nD τ) (buf9 t) fullShare ((dats m 0 c).before 9 t d))
    ∗ (∃ d, owns (c : Thread nD τ) (buf10 t) fullShare ((dats m 0 c).before 10 t d))
    ∗ (∃ d, owns (c : Thread nD τ) (buf11 t) fullShare ((dats m 0 c).before 11 t d))
    ∗ (∃ d, owns (c : Thread nD τ) (buf12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ owns (c : Thread nD τ) (buf5 t) fullShare ((dats m 0 c).after 5 t)
    ∗ owns (c : Thread nD τ) (buf6 t) fullShare ((dats m 0 c).after 6 t)
    ∗ owns (c : Thread nD τ) (buf7 t) fullShare ((dats m 0 c).after 7 t)
    ∗ owns (c : Thread nD τ) (buf8 t) fullShare ((dats m 0 c).after 8 t)
    ∗ owns (c : Thread nD τ) (buf9 t) fullShare ((dats m 0 c).after 9 t)
    ∗ owns (c : Thread nD τ) (buf10 t) fullShare ((dats m 0 c).after 10 t)
    ∗ owns (c : Thread nD τ) (buf11 t) fullShare ((dats m 0 c).after 11 t)
    ∗ owns (c : Thread nD τ) (buf12 t) fullShare ((dats m 0 c).after 12 t))

set_option maxHeartbeats 2000000 in
/-- The body at any point: the run of its case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12]
  by_cases h0 : t.val % 16 = 0
  · rw [outsAt_first m c t h0]
    unfold firstOuts
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((firstRun m c t h0).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    iintro ⟨H0, H1, H2, H3, H4, H5, H6, H7, H8, ⟨%e9, H9⟩, ⟨%e10, H10⟩, ⟨%e11, H11⟩, ⟨%e12, H12⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (first_cover9 m c t h0)
    isplitl [H10]
    · unfold owns; iexists _; isplitr
      swap; · iexact H10
      ipureintro; exact View.read_writes_of_cover _ _ _ _ _ (first_cover10 m c t h0)
    isplitl [H11]
    · unfold owns; iexists _; isplitr
      swap; · iexact H11
      ipureintro; exact View.read_writes_of_cover _ _ _ _ _ (first_cover11 m c t h0)
    unfold owns; iexists _; isplitr
    swap; · iexact H12
    ipureintro; exact View.read_writes_of_cover _ _ _ _ _ (first_cover12 m c t h0)
  · rw [outsAt_later m c t h0]
    simp only [before10 m c t h0, before11 m c t h0, before12 m c t h0]
    unfold laterOuts
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((laterRun m c t h0 _ _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [H12]; · iexact H12
    iintro ⟨H0, H1, H2, H3, H4, H5, H6, H7, H8, ⟨%e9, H9⟩, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (later_cover9 m c t h0 _ _ _)
    isplitl [H10]
    · unfold owns; iexists _; isplitr
      swap; · iexact H10
      ipureintro; rfl
    isplitl [H11]
    · unfold owns; iexists _; isplitr
      swap; · iexact H11
      ipureintro; rfl
    unfold owns; iexists _; isplitr
    swap; · iexact H12
    ipureintro; rfl

/-- The body table's row at a point is the body there. -/
theorem row_eq (t : Fin cfg0.N) : defs₀ (F := F) .tc cfg0.body (cfg0.bodyArgs t (cfg0.slots t)) = bodyAt0 t := by
  unfold defs₀; rw [Defs.onTc_tc]

/-- The pipeline's obligation. -/
theorem obligation (c : Dev nD) : BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
/-- The whole program's run, every counter zero at its end. -/
theorem run_full : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := arr_eq m) (hΦ := fun _ _ => rfl)

/-- The arguments end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (arr_eq m) ((θ_run defs _ _).mono (fun _ h => h.1) (run_full m ρ)))
    ((θ_run defs _ _).mono (fun _ h => h.2) (run_full m ρ))

end Cert.AttnBwdIdeal.Gen

end
-- ==== Proof.AttnBwdVal.lean ====
module

public import proofs.«01_k».proof.Proof.AttnFwdOps
public import proofs.«01_k».proof.Proof.AttnBwdFun
public import proofs.«01_k».proof.Proof.AttnBwdIdealRun

@[expose] public section

set_option maxRecDepth 16384

noncomputable section

/-! What the attention gradient's kernel stores of the queries' gradient at a grid point: 32 tiles, one a block of 128 queries and a head. -/

namespace Cert.AttnBwdIdeal.Val
open Idealize.ShloMosaic Idealize.ShloMosaic.TcCoe Idealize.SL.Sem
open Cert.AttnBwdIdeal Cert.AttnBwdIdeal.Gen Cert.AttnFwdFun Cert.AttnBwdFun
open Cert.AttnFwdIdeal.Val (maskW sinkW queryW scoreW expW denW expW_at denW_at)

/-- The probabilities. -/
def probW (sc : FVec Ideal S512x384 .f32) (s : FVec Ideal S512x1 .f32) : FVec Ideal S512x384 .f32 :=
  divf (expW sc s) (broadcastTo S512x384 (denW sc s) broadcasts_S512x1_S512x384)

/-- Their gradients. -/
def dprobW (o : FVec Ideal S512x128 .bf16) (v : FVec Ideal S384x128 .bf16) : FVec Ideal S512x384 .f32 :=
  matmul dot_S512x128_S384x128_S512x384_1_1_0_0_n_n none o v (constant S512x384 .f32 0x00000000#32)

/-- The scores' gradients. -/
def gradW (p d : FVec Ideal S512x384 .f32) : FVec Ideal S512x384 .f32 :=
  mulf (mulf p (subf d (broadcastTo S512x384
    (shapeCast S512x1 (multiReduction .add [1] S512 (mulf p d) 0x00000000#32 reduces_S512x384_S512 (.inl rfl) rfl) shapeCasts_S512_S512x1) broadcasts_S512x1_S512x384)))
    (broadcast S512x384 (Scalar.ofBits .f32 0x3DB504F3#32))

/-- The rows of the queries' gradient the block's heads give. -/
def dqW (sc : FVec Ideal S512x384 .f32) (s : FVec Ideal S512x1 .f32) (o : FVec Ideal S512x128 .bf16) (k v : FVec Ideal S384x128 .bf16) : FVec Ideal S512x128 .f32 :=
  matmul dot_S512x384_S384x128_S512x128_1_0_0_1_n_n none (truncf .bf16 (gradW (probW sc s) (dprobW o v)) bitsLt_bf16_f32) k (constant S512x128 .f32 0x00000000#32)

theorem probW_at (sc : FVec Ideal S512x384 .f32) (s : FVec Ideal S512x1 .f32) (r : Fin 512) (j : Fin 384) :
    probW sc s (ix2 r j) = (AttnRow.prob (fun x => sc (ix2 r x)) (s (ix2 r 0)) j : EReal) := by
  pointwise [probW, AttnRow.prob, denW_at, expW_at]

theorem dprobW_at (o : FVec Ideal S512x128 .bf16) (v : FVec Ideal S384x128 .bf16) (r : Fin 512) (j : Fin 384) :
    dprobW o v (ix2 r j) = (∑ x : Fin 128, (o (ix2 r x) : EReal) * v (ix2 j x) : EReal) := by
  pointwise [dprobW]

theorem gradW_at (p d : FVec Ideal S512x384 .f32) (r : Fin 512) (j : Fin 384) :
    gradW p d (ix2 r j) = ((p (ix2 r j) : EReal) * ((d (ix2 r j) : EReal) - ∑ l, (p (ix2 r l) : EReal) * d (ix2 r l)) * Ideal.ofBits .f32 0x3DB504F3#32 : EReal) := by
  pointwise [gradW]

theorem dqW_at (sc : FVec Ideal S512x384 .f32) (s : FVec Ideal S512x1 .f32) (o : FVec Ideal S512x128 .bf16) (k v : FVec Ideal S384x128 .bf16) (r : Fin 512) (d : Fin 128) :
    dqW sc s o k v (ix2 r d) = (AttnRow.gradOut (fun x => sc (ix2 r x)) (s (ix2 r 0)) (fun j => ∑ x : Fin 128, (o (ix2 r x) : EReal) * v (ix2 j x)) (fun x => k (ix2 x d)) : EReal) := by
  pointwise [dqW, AttnRow.gradOut, AttnRow.grad, gradW_at, probW_at, dprobW_at]

variable (m : (ℓ : Loc nD τ sig) → Buf (Elt Ideal) ℓ) (c : Dev nD)

abbrev Q (r : Fin 8192) (k : Fin 1024) : EReal := V m c main_v1 (ix2 r k : S8192x1024.Idx)
abbrev K (r : Fin 8192) (k : Fin 256) : EReal := V m c main_v3 (ix2 r k : S8192x256.Idx)
abbrev VV (r : Fin 8192) (k : Fin 256) : EReal := V m c main_v5 (ix2 r k : S8192x256.Idx)
abbrev DO (r : Fin 8192) (k : Fin 1024) : EReal := V m c main_v7 (ix2 r k : S8192x1024.Idx)
abbrev SK (h : Fin 8) : EReal := V m c main_v8 (ix2 0 h : S1x8.Idx)

theorem idx0 : ∀ t : Fin cfg0.N, win0_0.index t = ![0, 0] ∧ win0_1.index t = ![t.val, 0] ∧ win0_2.index t = ![t.val, 0] ∧ win0_3.index t = ![4 * t.val - 1, 0]
    ∧ win0_4.index t = ![t.val, 0] ∧ win0_5.index t = ![min (4 * t.val + 4) 63, 0] ∧ win0_6.index t = ![4 * t.val - 1, 0]
    ∧ win0_7.index t = ![t.val, 0] ∧ win0_8.index t = ![min (4 * t.val + 4) 63, 0] ∧ win0_9.index t = ![t.val, 0] :=
  (by decide +kernel : ∀ t : Fin grid0.N, _)

theorem word (t : Fin cfg0.N) (qb : ℕ) (h : qb < 4) : Scalar.addi (Scalar.muli 4#32 (BitVec.ofNat 32 (grid0.coords t 0).val)) (BitVec.ofNat 32 qb)
    = BitVec.ofNat 32 (4 * t.val + qb) := by
  have : ∀ t : Fin grid0.N, (grid0.coords t 0).val = t.val := by decide +kernel
  rw [this t]
  show BitVec.ofNat 32 4 * BitVec.ofNat 32 t.val + BitVec.ofNat 32 qb = _
  rw [← BitVec.ofNat_mul, ← BitVec.ofNat_add]

abbrev brow (t : Fin cfg0.N) (a : Fin 512) : Fin 8192 := ⟨t.val * 512 + a.val, by have := t.isLt; have : cfg0.N = 16 := N_0; omega⟩

theorem blk_s (t : Fin cfg0.N) (i : S1x8.Idx) : (iblk m c 0 t : S1x8.Idx → EReal) i = V m c main_v8 i := by
  blk_point [iblk, idx0 t]
theorem blk_q (t : Fin cfg0.N) (i : S512x1024.Idx) : (iblk m c 1 t : S512x1024.Idx → EReal) i = Q m c (brow t (i 0)) (i 1) := by
  blk_point [iblk, idx0 t]
theorem blk_o (t : Fin cfg0.N) (i : S512x1024.Idx) : (iblk m c 2 t : S512x1024.Idx → EReal) i = DO m c (brow t (i 0)) (i 1) := by
  blk_point [iblk, idx0 t]
theorem blk_kp (t : Fin cfg0.N) (i : S128x256.Idx) (r : Fin 8192) (h : r.val = (4 * t.val - 1) * 128 + (i 0).val) :
    (iblk m c 3 t : S128x256.Idx → EReal) i = K m c r (i 1) := by
  blk_point [iblk, idx0 t, h]
theorem blk_ko (t : Fin cfg0.N) (i : S512x256.Idx) : (iblk m c 4 t : S512x256.Idx → EReal) i = K m c (brow t (i 0)) (i 1) := by
  blk_point [iblk, idx0 t]
theorem blk_kn (t : Fin cfg0.N) (i : S128x256.Idx) (r : Fin 8192) (h : r.val = min (4 * t.val + 4) 63 * 128 + (i 0).val) :
    (iblk m c 5 t : S128x256.Idx → EReal) i = K m c r (i 1) := by
  blk_point [iblk, idx0 t, h]
theorem blk_vp (t : Fin cfg0.N) (i : S128x256.Idx) (r : Fin 8192) (h : r.val = (4 * t.val - 1) * 128 + (i 0).val) :
    (iblk m c 6 t : S128x256.Idx → EReal) i = VV m c r (i 1) := by
  blk_point [iblk, idx0 t, h]
theorem blk_vo (t : Fin cfg0.N) (i : S512x256.Idx) : (iblk m c 7 t : S512x256.Idx → EReal) i = VV m c (brow t (i 0)) (i 1) := by
  blk_point [iblk, idx0 t]
theorem blk_vn (t : Fin cfg0.N) (i : S128x256.Idx) (r : Fin 8192) (h : r.val = min (4 * t.val + 4) 63 * 128 + (i 0).val) :
    (iblk m c 8 t : S128x256.Idx → EReal) i = VV m c r (i 1) := by
  blk_point [iblk, idx0 t, h]

/-- The rows about a point's 512, one block of 128 before and one after. -/
theorem cat_at (A : Fin 8192 → Fin 256 → EReal) (p n : Vec Ideal S128x256 .bf16) (o : Vec Ideal S512x256 .bf16) (t : Fin cfg0.N)
    (hp : ∀ (i : S128x256.Idx) (r : Fin 8192), r.val = (4 * t.val - 1) * 128 + (i 0).val → p i = A r (i 1))
    (ho : ∀ i : S512x256.Idx, o i = A (brow t (i 0)) (i 1))
    (hn : ∀ (i : S128x256.Idx) (r : Fin 8192), r.val = min (4 * t.val + 4) 63 * 128 + (i 0).val → n i = A r (i 1))
    (i : Fin 768) (x : Fin 256) (b j : ℕ) (e : 512 * t.val + i.val = 128 * b + j) (h : 128 ≤ 128 * b + j ∧ 128 * b + j < 8320) :
    k0_pay6 p o n (ix2 i x) = (keyAt A b j x : EReal) := by
  have ht := t.isLt
  have : cfg0.N = 16 := N_0
  unfold keyAt
  rw [dif_pos h]
  pointwise [k0_pay6]
  by_cases h1 : i.val < 128
  · rw [dif_pos h1]
    exact hp _ _ (by simp; omega)
  rw [dif_neg h1]
  by_cases h2 : i.val < 640
  · rw [dif_pos (by omega)]
    refine (ho _).trans (congrArg (fun r => A r _) (Fin.ext ?_))
    simp; omega
  rw [dif_neg (by omega)]
  exact hn _ _ (by simp; omega)

theorem keys_at (t : Fin cfg0.N) (i : Fin 768) (x : Fin 256) (b j : ℕ) (e : 512 * t.val + i.val = 128 * b + j) (h : 128 ≤ 128 * b + j ∧ 128 * b + j < 8320) :
    k0_pay6 (iblk m c 3 t) (iblk m c 4 t) (iblk m c 5 t) (ix2 i x) = (keyAt (K m c) b j x : EReal) :=
  cat_at (K m c) _ _ _ t (blk_kp m c t) (blk_ko m c t) (blk_kn m c t) i x b j e h
theorem values_at (t : Fin cfg0.N) (i : Fin 768) (x : Fin 256) (b j : ℕ) (e : 512 * t.val + i.val = 128 * b + j) (h : 128 ≤ 128 * b + j ∧ 128 * b + j < 8320) :
    k0_pay7 (iblk m c 6 t) (iblk m c 7 t) (iblk m c 8 t) (ix2 i x) = (keyAt (VV m c) b j x : EReal) :=
  cat_at (VV m c) _ _ _ t (blk_vp m c t) (blk_vo m c t) (blk_vn m c t) i x b j e h

end Cert.AttnBwdIdeal.Val
end
-- ==== Proof.AttnBwdTiles.lean ====
module

public import proofs.«01_k».proof.Proof.AttnBwdVal

@[expose] public section

set_option maxRecDepth 16384

noncomputable section

/-! The 32 tiles of the queries' gradient a grid point stores, over the point's blocks. -/

namespace Cert.AttnBwdIdeal.Val
open Idealize.ShloMosaic Idealize.ShloMosaic.TcCoe Idealize.SL.Sem
open Cert.AttnBwdIdeal Cert.AttnBwdIdeal.Gen Cert.AttnFwdFun Cert.AttnBwdFun
open Cert.AttnFwdIdeal.Val (maskW sinkW queryW scoreW)

variable (m : (ℓ : Loc nD τ sig) → Buf (Elt Ideal) ℓ) (c : Dev nD)

theorem tileIn {qb kv h : ℕ} (hq : qb < 4) (hk : kv < 2) (hh : h < 4) :
    ∀ a, (![128 * qb, 128 * (4 * kv + h)] : Fin 2 → Nat) a + (![128, 128] : Fin 2 → Nat) a ≤ S512x1024.size a :=
  Fin.forall_fin_two.mpr ⟨by simp; omega, by simp; omega⟩
theorem sinkIn {kv h : ℕ} (hk : kv < 2) (hh : h < 4) : ∀ a, (![0, 4 * kv + h] : Fin 2 → Nat) a + (![1, 1] : Fin 2 → Nat) a ≤ S1x8.size a :=
  Fin.forall_fin_two.mpr ⟨by simp, by simp; omega⟩

/-- One tile of the point's block of queries, or of the result's gradients. -/
abbrev qTile (x : Vec Ideal S512x1024 .bf16) {qb kv : ℕ} (hq : qb < 4) (hk : kv < 2) (h : Fin 4) : Vec Ideal S128x128 .bf16 :=
  View.ld x (Rect.unit (s := S512x1024) ![128 * qb, 128 * (4 * kv + h.val)] ![128, 128] (tileIn hq hk h.isLt))
/-- One head's sink. -/
abbrev sTile (t : Fin cfg0.N) {kv : ℕ} (hk : kv < 2) (h : Fin 4) : Elt Ideal .f32 :=
  View.ld (iblk m c 0 t : Vec Ideal S1x8 .f32) (Rect.unit (s := S1x8) ![0, 4 * kv + h.val] ![1, 1] (sinkIn hk h.isLt)) (Shape.Idx.first (lt_of_lt_of_eq Nat.one_pos numel1_S1x1.symm : 0 < S1x1.numel))

/-- A block of keys or values, whole. -/
abbrev ldP (x : Vec Ideal S128x256 .bf16) : Vec Ideal S128x256 .bf16 := View.ld x (Rect.unit (s := S128x256) ![0, 0] ![128, 256] inb_S128x256_S128x256_0_0)
abbrev ldO (x : Vec Ideal S512x256 .bf16) : Vec Ideal S512x256 .bf16 := View.ld x (Rect.unit (s := S512x256) ![0, 0] ![512, 256] inb_S512x256_S512x256_0_0)

/-- The keys, and the values, about the point's rows. -/
abbrev kcat (t : Fin cfg0.N) : FVec Ideal S768x256 .bf16 := k0_pay6 (ldP (iblk m c 3 t)) (ldO (iblk m c 4 t)) (ldP (iblk m c 5 t))
abbrev vcat (t : Fin cfg0.N) : FVec Ideal S768x256 .bf16 := k0_pay7 (ldP (iblk m c 6 t)) (ldO (iblk m c 7 t)) (ldP (iblk m c 8 t))

theorem ldP_eq (x : Vec Ideal S128x256 .bf16) : ldP x = x := View.ld_unit_lit' _ x (by decide)
theorem ldO_eq (x : Vec Ideal S512x256 .bf16) : ldO x = x := View.ld_unit_lit' _ x (by decide)

/-- The four heads' rows of one block of queries and one head of keys. -/
abbrev rows (t : Fin cfg0.N) {qb kv : ℕ} (hq : qb < 4) (hk : kv < 2) (sl : S768x256.Slices ![128 * qb, 128 * kv] S384x128) : FVec Ideal S512x128 .f32 :=
  dqW (scoreW (maskW (Scalar.addi (Scalar.muli 4#32 (BitVec.ofNat 32 (grid0.coords t 0).val)) (BitVec.ofNat 32 qb)))
      (queryW (qTile (iblk m c 1 t) hq hk 0) (qTile (iblk m c 1 t) hq hk 1) (qTile (iblk m c 1 t) hq hk 2) (qTile (iblk m c 1 t) hq hk 3))
      (extractStridedSlice S384x128 ![128 * qb, 128 * kv] (kcat m c t) sl))
    (sinkW (sTile m c t hk 0) (sTile m c t hk 1) (sTile m c t hk 2) (sTile m c t hk 3))
    (queryW (qTile (iblk m c 2 t) hq hk 0) (qTile (iblk m c 2 t) hq hk 1) (qTile (iblk m c 2 t) hq hk 2) (qTile (iblk m c 2 t) hq hk 3))
    (extractStridedSlice S384x128 ![128 * qb, 128 * kv] (kcat m c t) sl)
    (extractStridedSlice S384x128 ![128 * qb, 128 * kv] (vcat m c t) sl)

abbrev tile (t : Fin cfg0.N) {qb kv h : ℕ} (hq : qb < 4) (hk : kv < 2) (hh : h < 4) (sl : S768x256.Slices ![128 * qb, 128 * kv] S384x128)
    (sl' : S512x128.Slices ![128 * h, 0] S128x128) : View.Piece (Elt Ideal) S512x1024 .f32 :=
  ⟨Rect.unit (s := S512x1024) ![128 * qb, 128 * (4 * kv + h)] ![128, 128] (tileIn hq hk hh),
    extractStridedSlice S128x128 ![128 * h, 0] (rows m c t hq hk sl) sl'⟩

/-- The four tiles of one block of queries and one head of keys, the last stored first. -/
abbrev four4 (t : Fin cfg0.N) {qb kv : ℕ} (hq : qb < 4) (hk : kv < 2) (sl : S768x256.Slices ![128 * qb, 128 * kv] S384x128) :
    List (View.Piece (Elt Ideal) S512x1024 .f32) :=
  [tile m c t (h := 3) hq hk (by decide) sl slices_S512x128_o384_0_S128x128, tile m c t (h := 2) hq hk (by decide) sl slices_S512x128_o256_0_S128x128,
   tile m c t (h := 1) hq hk (by decide) sl slices_S512x128_o128_0_S128x128, tile m c t (h := 0) hq hk (by decide) sl slices_S512x128_o0_0_S128x128]

/-- The stores of a point, the last first. -/
abbrev pieces (t : Fin cfg0.N) : List (View.Piece (Elt Ideal) S512x1024 .f32) :=
  four4 m c t (qb := 3) (kv := 1) (by decide) (by decide) slices_S768x256_o384_128_S384x128
  ++ four4 m c t (qb := 3) (kv := 0) (by decide) (by decide) slices_S768x256_o384_0_S384x128
  ++ four4 m c t (qb := 2) (kv := 1) (by decide) (by decide) slices_S768x256_o256_128_S384x128
  ++ four4 m c t (qb := 2) (kv := 0) (by decide) (by decide) slices_S768x256_o256_0_S384x128
  ++ four4 m c t (qb := 1) (kv := 1) (by decide) (by decide) slices_S768x256_o128_128_S384x128
  ++ four4 m c t (qb := 1) (kv := 0) (by decide) (by decide) slices_S768x256_o128_0_S384x128
  ++ four4 m c t (qb := 0) (kv := 1) (by decide) (by decide) slices_S768x256_o0_128_S384x128
  ++ four4 m c t (qb := 0) (kv := 0) (by decide) (by decide) slices_S768x256_o0_0_S384x128

set_option maxHeartbeats 2000000 in
theorem first_pieces (t : Fin cfg0.N) (h0 : t.val % 16 = 0) : (firstRun m c t h0).1 = pieces m c t := by
  unfold firstRun
  frame_open
  try simp only [View.readAt_eq_ld]
  try rw [(whole0 t).read_unread (iblk m c 0 t)]
  try rw [(whole1 t).read_unread (iblk m c 1 t)]
  try rw [(whole2 t).read_unread (iblk m c 2 t)]
  try rw [(whole3 t).read_unread (iblk m c 3 t)]
  try rw [(whole4 t).read_unread (iblk m c 4 t)]
  try rw [(whole5 t).read_unread (iblk m c 5 t)]
  try rw [(whole6 t).read_unread (iblk m c 6 t)]
  try rw [(whole7 t).read_unread (iblk m c 7 t)]
  try rw [(whole8 t).read_unread (iblk m c 8 t)]
  dsimp only [pieces, four4, List.cons_append, List.nil_append]
  repeat' refine congrArg₂ List.cons ?_ ?_
  all_goals rfl

set_option maxHeartbeats 2000000 in
theorem later_pieces (t : Fin cfg0.N) (h0 : ¬t.val % 16 = 0) (p10 p11 : Vec Ideal S8192x256 .f32) (p12 : Vec Ideal S1x128 .f32) :
    (laterRun m c t h0 p10 p11 p12).1 = pieces m c t := by
  unfold laterRun
  frame_open
  try simp only [View.readAt_eq_ld]
  try rw [(whole0 t).read_unread (iblk m c 0 t)]
  try rw [(whole1 t).read_unread (iblk m c 1 t)]
  try rw [(whole2 t).read_unread (iblk m c 2 t)]
  try rw [(whole3 t).read_unread (iblk m c 3 t)]
  try rw [(whole4 t).read_unread (iblk m c 4 t)]
  try rw [(whole5 t).read_unread (iblk m c 5 t)]
  try rw [(whole6 t).read_unread (iblk m c 6 t)]
  try rw [(whole7 t).read_unread (iblk m c 7 t)]
  try rw [(whole8 t).read_unread (iblk m c 8 t)]
  dsimp only [pieces, four4, List.cons_append, List.nil_append]
  repeat' refine congrArg₂ List.cons ?_ ?_
  all_goals rfl

theorem outs_eq (t : Fin cfg0.N) : (outsAt m c t.val t.isLt).1 = View.canon (pieces m c t) := by
  by_cases h0 : t.val % 16 = 0
  · rw [outsAt_first m c t h0]
    show left (buf9 t).view (firstRun m c t h0).1 = _
    rw [first_pieces m c t h0, left, View.read_writes_junk_eq_canon]
  · rw [outsAt_later m c t h0]
    show left (buf9 t).view (laterRun m c t h0 _ _ _).1 = _
    rw [later_pieces m c t h0, left, View.read_writes_junk_eq_canon]

end Cert.AttnBwdIdeal.Val
end
-- ==== Proof.AttnBwdFin.lean ====
module

public import proofs.«01_k».proof.Proof.AttnBwdTiles
public import Idealize.ShloMosaic.Lib.Pipeline.CanonAppend

@[expose] public section

set_option maxRecDepth 16384

noncomputable section

/-! The array of the queries' gradient the kernel leaves, over the arrays it is called with. -/

namespace Cert.AttnBwdIdeal.Val
open Idealize.ShloMosaic Idealize.ShloMosaic.TcCoe Idealize.SL.Sem
open Cert.AttnBwdIdeal Cert.AttnBwdIdeal.Gen Cert.AttnFwdFun Cert.AttnBwdFun
open Cert.AttnFwdIdeal.Val (maskW sinkW queryW scoreW four sinkW_at queryW_at scoreW_at)

variable (m : (ℓ : Loc nD τ sig) → Buf (Elt Ideal) ℓ) (c : Dev nD)

/-- No row's sum of exponentials is zero. -/
abbrev DenOk : Prop := ∀ r k, AttnRow.den (score (Q m c) (K m c) r k) (SK m c (headOf k)) ≠ 0

theorem qTile_at (t : Fin cfg0.N) {qb kv : ℕ} (hq : qb < 4) (hk : kv < 2) (h : Fin 4) (a x : Fin 128) (r : Fin 8192) (k : Fin 1024)
    (er : r.val = 512 * t.val + 128 * qb + a.val) (ek : k.val = 128 * (4 * kv + h.val) + x.val) :
    qTile (iblk m c 1 t) hq hk h (ix2 a x) = (Q m c r k : EReal) := by
  refine (blk_q m c t _).trans (congrArg₂ (Q m c) (Fin.ext ?_) (Fin.ext ?_))
  · simp [Rect.emb_apply]; omega
  · simp [Rect.emb_apply]; omega
theorem oTile_at (t : Fin cfg0.N) {qb kv : ℕ} (hq : qb < 4) (hk : kv < 2) (h : Fin 4) (a x : Fin 128) (r : Fin 8192) (k : Fin 1024)
    (er : r.val = 512 * t.val + 128 * qb + a.val) (ek : k.val = 128 * (4 * kv + h.val) + x.val) :
    qTile (iblk m c 2 t) hq hk h (ix2 a x) = (DO m c r k : EReal) := by
  refine (blk_o m c t _).trans (congrArg₂ (DO m c) (Fin.ext ?_) (Fin.ext ?_))
  · simp [Rect.emb_apply]; omega
  · simp [Rect.emb_apply]; omega

theorem kcat_at (t : Fin cfg0.N) (i : Fin 768) (x : Fin 256) (b j : ℕ) (e : 512 * t.val + i.val = 128 * b + j) (h : 128 ≤ 128 * b + j ∧ 128 * b + j < 8320) :
    kcat m c t (ix2 i x) = (keyAt (K m c) b j x : EReal) := by
  unfold kcat; rw [ldP_eq, ldO_eq, ldP_eq]; exact keys_at m c t i x b j e h
theorem vcat_at (t : Fin cfg0.N) (i : Fin 768) (x : Fin 256) (b j : ℕ) (e : 512 * t.val + i.val = 128 * b + j) (h : 128 ≤ 128 * b + j ∧ 128 * b + j < 8320) :
    vcat m c t (ix2 i x) = (keyAt (VV m c) b j x : EReal) := by
  unfold vcat; rw [ldP_eq, ldO_eq, ldP_eq]; exact values_at m c t i x b j e h

theorem sTile_at (t : Fin cfg0.N) {kv : ℕ} (hk : kv < 2) (h : Fin 4) (k : Fin 8) (ek : k.val = 4 * kv + h.val) :
    sTile m c t hk h = (SK m c k : EReal) := by
  refine (blk_s m c t _).trans (congrArg (V m c main_v8) ?_)
  funext i
  revert i
  refine Fin.forall_fin_two.mpr ⟨Fin.ext ?_, Fin.ext ?_⟩
  · simp [Rect.emb_apply]
  · simp [Rect.emb_apply]; rw [ek]

/-- One of four things, the head's. -/
theorem four_of {α : Type} (f : Fin 4 → α) (h : Fin 4) (r : Fin 512) (e : r.val / 128 = h.val) : four (f 0) (f 1) (f 2) (f 3) r = f h := by
  have := r.isLt
  have hh : h = ⟨r.val / 128, by omega⟩ := Fin.ext e.symm
  rw [hh]
  unfold four
  split_ifs <;> exact congrArg f (Fin.ext (by simp; omega))

theorem rows_at (hd : DenOk m c) (t : Fin cfg0.N) {qb kv h : ℕ} (hq : qb < 4) (hk : kv < 2) (hh : h < 4)
    (sl : S768x256.Slices ![128 * qb, 128 * kv] S384x128) (p : Fin 512) (d : Fin 128) (r : Fin 8192) (k : Fin 1024) (ep : p.val / 128 = h)
    (er : r.val = 512 * t.val + 128 * qb + p.val % 128) (ek : k.val = 128 * (4 * kv + h) + d.val) :
    rows m c t hq hk sl (ix2 p d) = (dq (Q m c) (K m c) (VV m c) (DO m c) (SK m c) r k : EReal) := by
  have ht := t.isLt
  have hN : cfg0.N = 16 := N_0
  have hd' := d.isLt
  have eb : r.val / 128 = 4 * t.val + qb := by omega
  have eq : r.val % 128 = p.val % 128 := by omega
  have esk : sinkW (sTile m c t hk 0) (sTile m c t hk 1) (sTile m c t hk 2) (sTile m c t hk 3) (ix2 p 0) = (SK m c (headOf k) : EReal) := by
    rw [sinkW_at, four_of (sTile m c t hk) ⟨h, hh⟩ p ep]
    exact sTile_at m c t hk _ _ (by simp; omega)
  refine (dqW_at _ _ _ _ _ p d).trans ?_
  rw [esk]
  refine AttnRow.gradOut_congr (hd r k) (fun j => ?_) fun j => ?_
  · rw [word t qb hq, scoreW_at _ (by omega)]
    unfold score
    rw [eb, eq]
    split
    next hs =>
      refine congrArg (· * _) (Finset.sum_congr rfl fun x _ => congrArg₂ (· * ·) ?_ ?_)
      · rw [queryW_at, four_of (qTile (iblk m c 1 t) hq hk) ⟨h, hh⟩ p ep]
        exact qTile_at m c t hq hk _ _ _ _ _ er (by simp; omega)
      · pointwise
        rw [kcat_at m c t _ _ (4 * t.val + qb) j.val (by simp; omega) ⟨hs.2.2.1, hs.2.2.2⟩]
        exact congrArg _ (Fin.ext (by simp; omega))
    next => rfl
  · by_cases hs : AttnMask.Seen (r.val / 128) (r.val % 128) j.val
    · right
      rw [eb] at hs
      constructor
      · unfold dprob
        refine Finset.sum_congr rfl fun x _ => congrArg₂ (· * ·) ?_ ?_
        · rw [queryW_at, four_of (qTile (iblk m c 2 t) hq hk) ⟨h, hh⟩ p ep]
          exact oTile_at m c t hq hk _ _ _ _ _ er (by simp; omega)
        · pointwise
          rw [vcat_at m c t _ _ (4 * t.val + qb) j.val (by simp; omega) ⟨hs.2.2.1, hs.2.2.2⟩, eb]
          exact congrArg _ (Fin.ext (by simp; omega))
      · pointwise
        rw [kcat_at m c t _ _ (4 * t.val + qb) j.val (by simp; omega) ⟨hs.2.2.1, hs.2.2.2⟩, eb]
        exact congrArg _ (Fin.ext (by simp; omega))
    · left
      unfold score
      rw [if_neg hs]

/-- What a store puts in an element is the attention's output there. -/
abbrev TileOk (t : Fin cfg0.N) (p : View.Piece (Elt Ideal) S512x1024 .f32) : Prop :=
  ∀ x : p.1.shape.Idx, p.2 x = (dq (Q m c) (K m c) (VV m c) (DO m c) (SK m c) (brow t (p.1.emb x 0)) (p.1.emb x 1) : EReal)

theorem tile_ok (hd : DenOk m c) (t : Fin cfg0.N) {qb kv h : ℕ} (hq : qb < 4) (hk : kv < 2) (hh : h < 4)
    (sl : S768x256.Slices ![128 * qb, 128 * kv] S384x128) (sl' : S512x128.Slices ![128 * h, 0] S128x128) :
    TileOk m c t (tile m c t hq hk hh sl sl') := by
  intro x
  obtain ⟨a, d, rfl⟩ : ∃ a d, x = (ix2 a d : S128x128.Idx) := ⟨x 0, x 1, eq_ix2 x⟩
  have ha := a.isLt
  show extractStridedSlice S128x128 ![128 * h, 0] (rows m c t hq hk sl) sl' (ix2 a d) = _
  pointwise
  refine rows_at m c hd t hq hk hh sl _ _ _ _ (by simp; omega) ?_ ?_
  · simp [Rect.emb_apply]; omega
  · simp [Rect.emb_apply]

theorem four_ok (hd : DenOk m c) (t : Fin cfg0.N) {qb kv : ℕ} (hq : qb < 4) (hk : kv < 2) (sl : S768x256.Slices ![128 * qb, 128 * kv] S384x128) :
    ∀ p ∈ four4 m c t hq hk sl, TileOk m c t p := by
  intro p hp
  simp only [four4, List.mem_cons, List.not_mem_nil, or_false] at hp
  rcases hp with rfl | rfl | rfl | rfl <;> exact tile_ok m c hd t hq hk _ sl _

theorem pieces_ok (hd : DenOk m c) (t : Fin cfg0.N) : ∀ p ∈ pieces m c t, TileOk m c t p := by
  have h2 {A B : List (View.Piece (Elt Ideal) S512x1024 .f32)} (hA : ∀ p ∈ A, TileOk m c t p) (hB : ∀ p ∈ B, TileOk m c t p) :
      ∀ p ∈ A ++ B, TileOk m c t p := fun p hp => (List.mem_append.mp hp).elim (hA p) (hB p)
  unfold pieces
  repeat' refine h2 ?_ ?_
  all_goals exact four_ok m c hd t _ _ _

theorem canon_pieces (hd : DenOk m c) (t : Fin cfg0.N) (y : S512x1024.Idx) :
    View.canon (pieces m c t) y = (dq (Q m c) (K m c) (VV m c) (DO m c) (SK m c) (brow t (y 0)) (y 1) : EReal) := by
  have hc : ∃ p ∈ pieces m c t, y ∈ p.1.set := View.cover_of_tiledL (pieces m c t) S128x128.size (by sl_kernel_rfl) y
  have := View.canon_append_of_pieces (fun y : S512x1024.Idx => (dq (Q m c) (K m c) (VV m c) (DO m c) (SK m c) (brow t (y 0)) (y 1) : EReal)) [] (pieces m c t)
    (pieces_ok m c hd t) y hc
  rwa [List.append_nil] at this

theorem fin9 (hd : DenOk m c) : (dats m 0 c).arrAt 9 cfg0.N = fun j => dq (Q m c) (K m c) (VV m c) (DO m c) (SK m c) (j 0) (j 1) := by
  refine (dats m 0 c).arrAt_eq_of_covers 9 _ (by decide +kernel) fun t hf y => ?_
  blk_simp
  refine Eq.trans (b := dq (Q m c) (K m c) (VV m c) (DO m c) (SK m c) (brow t (y 0)) (y 1)) ?_ (congrArg₂ (dq (Q m c) (K m c) (VV m c) (DO m c) (SK m c)) (Fin.ext ?_) (Fin.ext ?_))
  · rw [after9, outs_eq]
    exact canon_pieces m c hd t y
  · blk_simp [idx0 t]
  · blk_simp [idx0 t]

end Cert.AttnBwdIdeal.Val
end
-- ==== Proof.AttnBwdArgs.lean ====
module

public import proofs.«01_k».proof.Proof.AttnBwdFin
public import proofs.«01_k».proof.Proof.Reals
public import Idealize.ShloMosaic.Lib.StableHlo.ReadAt

@[expose] public section

set_option maxRecDepth 16384

noncomputable section

/-! The arrays the attention gradient's kernel is called with, over the program's arguments. -/

namespace Cert.AttnBwdIdeal.Val
open Idealize.ShloMosaic Idealize.ShloMosaic.TcCoe Idealize.SL.Sem
open Cert.AttnBwdIdeal Cert.AttnBwdIdeal.Gen Cert.AttnFwdFun Cert.AttnBwdFun

variable (m : (ℓ : Loc nD τ sig) → Buf (Elt Ideal) ℓ) (c : Dev nD)

abbrev A0 : S1x8192x8x128.Idx → EReal := m ((c.tc : Thread nD τ).loc main_arg0)
abbrev A1 : S1x8192x2x128.Idx → EReal := m ((c.tc : Thread nD τ).loc main_arg1)
abbrev A2 : S1x8192x2x128.Idx → EReal := m ((c.tc : Thread nD τ).loc main_arg2)
abbrev A3 : S1x8192x1024.Idx → EReal := m ((c.tc : Thread nD τ).loc main_arg3)
abbrev A4 : S8.Idx → EReal := m ((c.tc : Thread nD τ).loc main_arg4)

theorem Q_at : Q m c = rowsQ (A0 m c) := by
  funext r k
  show V m c main_v1 _ = _
  unfold V
  after_reads_at

theorem K_at : K m c = rowsK (A1 m c) := by
  funext r k
  show V m c main_v3 _ = _
  unfold V
  after_reads_at

theorem VV_at : VV m c = rowsK (A2 m c) := by
  funext r k
  show V m c main_v5 _ = _
  unfold V
  after_reads_at

theorem DO_at : DO m c = rowsD (A3 m c) := by
  funext r k
  show V m c main_v7 _ = _
  unfold V
  after_reads_at

theorem SK_at : SK m c = fun h => A4 m c (ix1 h) := by
  funext h
  show V m c main_v8 _ = _
  unfold V
  after_reads_at

theorem den_ok (h0 : ∀ i, IsReal (A0 m c i)) (h1 : ∀ i, IsReal (A1 m c i)) (h4 : ∀ i, IsReal (A4 m c i)) : DenOk m c := by
  intro r k
  rw [Q_at, K_at, SK_at]
  obtain ⟨s, hs⟩ := h4 (ix1 (headOf k))
  refine AttnRow.den_ne_zero (fun j => ?_) (fun h => EReal.coe_ne_top s (hs.symm.trans h)) (fun h => EReal.coe_ne_bot s (hs.symm.trans h))
  have hc : IsReal (Ideal.ofBits .f32 0x3DB504F3#32) := by
    show IsReal (Ideal.ieee 8 23 0x3DB504F3#32)
    simp only [Ideal.ieee]
    exact ⟨_, rfl⟩
  unfold score
  split
  · refine fun ht => ?_
    obtain ⟨z, hz⟩ := IsReal.mul (IsReal.sum fun x : Fin 128 => IsReal.mul (h0 (ix4 0 r _ _)) (show IsReal (keyAt (rowsK (A1 m c)) (r.val / 128) j.val (keyCol k x)) by
      unfold keyAt; split
      · exact h1 _
      · exact IsReal.zero)) hc
    exact EReal.coe_ne_top z (hz.symm.trans ht)
  · exact bot_ne_top

/-- The array the kernel leaves, over the program's arguments. -/
theorem fin9_args (h0 : ∀ i, IsReal (A0 m c i)) (h1 : ∀ i, IsReal (A1 m c i)) (h4 : ∀ i, IsReal (A4 m c i)) :
    (dats m 0 c).arrAt 9 cfg0.N = fun j => dq (rowsQ (A0 m c)) (rowsK (A1 m c)) (rowsK (A2 m c)) (rowsD (A3 m c)) (fun h => A4 m c (ix1 h)) (j 0) (j 1) := by
  rw [fin9 m c (den_ok m c h0 h1 h4), Q_at, K_at, VV_at, DO_at, SK_at]

end Cert.AttnBwdIdeal.Val
end
-- ==== Proof.AttnFwdRefScore.lean ====
module

public import proofs.«01_k».proof.Proof.AttnFwdFun
public import proofs.«01_k».proof.Proof.Gen.AttnFwdRefIdeal.Run
public import proofs.«01_k».proof.Proof.Gen.AttnFwdRefIdeal.Read

@[expose] public section

set_option maxRecDepth 16384

noncomputable section

/-! The attention's forward reference, read at an index: its operands and its scores. -/

namespace Cert.AttnFwdRefIdeal.Val
open Idealize.ShloMosaic Idealize.ShloMosaic.TcCoe Idealize.SL.Sem
open Cert.AttnFwdRefIdeal Cert.AttnFwdRefIdeal.Gen Cert.AttnFwdRefIdeal.Read Cert.AttnFwdFun

/-- The entries of a rank-6 array over one entry of the array its last axis is dropped from. -/
theorem drop_iff {n0 n1 n2 n3 n4 n5 : ℕ} (h : (⟨6, ![n0, n1, n2, n3, n4, n5]⟩ : Shape).ReducesTo [5] ⟨5, ![n0, n1, n2, n3, n4]⟩)
    (a : Fin n0) (b : Fin n1) (c : Fin n2) (d : Fin n3) (e : Fin n4) (i : (⟨6, ![n0, n1, n2, n3, n4, n5]⟩ : Shape).Idx) :
    h.drop i = ix5 a b c d e ↔ ∃ k : Fin n5, ix6 a b c d e k = i := by
  constructor
  · intro g
    refine ⟨i 5, funext fun x => Fin.ext ?_⟩
    match x with
    | ⟨0, _⟩ => exact (congrArg Fin.val (congrFun g 0)).symm
    | ⟨1, _⟩ => exact (congrArg Fin.val (congrFun g 1)).symm
    | ⟨2, _⟩ => exact (congrArg Fin.val (congrFun g 2)).symm
    | ⟨3, _⟩ => exact (congrArg Fin.val (congrFun g 3)).symm
    | ⟨4, _⟩ => exact (congrArg Fin.val (congrFun g 4)).symm
    | ⟨5, _⟩ => rfl
  · rintro ⟨k, rfl⟩
    funext x
    match x with
    | ⟨0, _⟩ => rfl
    | ⟨1, _⟩ => rfl
    | ⟨2, _⟩ => rfl
    | ⟨3, _⟩ => rfl
    | ⟨4, _⟩ => rfl

/-- A maximum over the last of six axes. -/
theorem max_last {n0 n1 n2 n3 n4 n5 : ℕ} {u : Shape} (h : (⟨6, ![n0, n1, n2, n3, n4, n5]⟩ : Shape).ReducesTo [5] ⟨5, ![n0, n1, n2, n3, n4]⟩)
    (hu : 0 < u.numel) (w : BitVec 32) (v : FVec Ideal ⟨6, ![n0, n1, n2, n3, n4, n5]⟩ .f32) (a : Fin n0) (b : Fin n1) (c : Fin n2) (d : Fin n3) (e : Fin n4) :
    Host.reduce (FloatOps.maximumf (F := Ideal)) v (constant u .f32 w) h hu (ix5 a b c d e) = Finset.univ.fold max (Ideal.ofBits .f32 w) fun k => v (ix6 a b c d e k) :=
  (Host.reduce_eq_fold _ _ _ _ _ _).trans
    (Finset.fold_filter_eq_fold_of_fiber _ _ (fun k : Fin n5 => ix6 a b c d e k) (fun _ _ g => congrFun g 5) (drop_iff h a b c d e) _ v)

/-- … and a sum. -/
theorem sum_last {n0 n1 n2 n3 n4 n5 : ℕ} {u : Shape} (h : (⟨6, ![n0, n1, n2, n3, n4, n5]⟩ : Shape).ReducesTo [5] ⟨5, ![n0, n1, n2, n3, n4]⟩)
    (hu : 0 < u.numel) (v : FVec Ideal ⟨6, ![n0, n1, n2, n3, n4, n5]⟩ .f32) (z : FVec Ideal u .f32) (hz : z (Shape.Idx.first hu) = (0 : EReal))
    (a : Fin n0) (b : Fin n1) (c : Fin n2) (d : Fin n3) (e : Fin n4) :
    Host.reduceAdd v z h hu (ix5 a b c d e) = ∑ k, (v (ix6 a b c d e k) : EReal) := by
  show z (Shape.Idx.first hu) + _ = _
  rw [hz]
  exact (zero_add _).trans (Finset.sum_filter_eq_sum_of_fiber _ (fun k : Fin n5 => ix6 a b c d e k) (fun _ _ g => congrFun g 5) (drop_iff h a b c d e) v)

variable (x0 : S1x8192x8x128.Idx → EReal) (x1 x2 : S1x8192x2x128.Idx → EReal) (x3 : S8.Idx → EReal)

theorem q_ (b : Fin 64) (q : Fin 128) (h : Fin 2) (g : Fin 4) (x : Fin 128) :
    (val_main_v0 (F := Ideal) x0 : S1x64x128x2x4x128.Idx → EReal) (ix6 0 b q h g x)
    = x0 (ix4 0 ⟨b.val * 128 + q.val, by omega⟩ ⟨h.val * 4 + g.val, by omega⟩ x) := by
  pointwise [val_main_v0]

/-- The three runs of 128 rows a block of queries sees, from a sequence padded with zeros at both ends. -/
theorem keys_at (K : S1x8192x2x128.Idx → EReal) (b : Fin 64) (j : Fin 384) (h : Fin 2) (x : Fin 128) (n : ℕ) (hn : n = 128 * b.val + j.val) :
    (if h0 : n < 128 then (0 : EReal) else if h1 : n - 128 < 8192 then K (ix4 0 ⟨n - 128, h1⟩ h x) else 0)
    = keyAt (rowsK K) b.val j.val ⟨128 * h.val + x.val, by omega⟩ := by
  subst hn
  unfold keyAt
  by_cases h0 : 128 * b.val + j.val < 128
  · rw [dif_pos h0, dif_neg (by omega)]
  by_cases h1 : 128 * b.val + j.val - 128 < 8192
  · rw [dif_neg h0, dif_pos h1, dif_pos (by omega)]
    have e1 : (⟨(128 * h.val + x.val) / 128, by omega⟩ : Fin 2) = h := Fin.ext (by show (128 * h.val + x.val) / 128 = _; omega)
    have e2 : (⟨(128 * h.val + x.val) % 128, by omega⟩ : Fin 128) = x := Fin.ext (by show (128 * h.val + x.val) % 128 = _; omega)
    show _ = K (ix4 0 _ ⟨(128 * h.val + x.val) / 128, _⟩ ⟨(128 * h.val + x.val) % 128, _⟩)
    rw [e1, e2]
  · rw [dif_neg h0, dif_neg h1, dif_neg (by omega)]

theorem k_ (b : Fin 64) (j : Fin 384) (h : Fin 2) (x : Fin 128) : (val_main_v7 (F := Ideal) x1 : S1x64x384x2x128.Idx → EReal) (ix5 0 b j h x)
    = keyAt (rowsK x1) b.val j.val ⟨128 * h.val + x.val, by omega⟩ := by
  pointwise [val_main_v7, val_main_v6, val_main_v5, val_main_v4, val_main_v3, val_main_v2, val_main_v1, val_main_cst]
  split
  · exact keys_at x1 b j h x _ (by omega)
  · split
    · exact keys_at x1 b j h x _ (by omega)
    · exact keys_at x1 b j h x _ (by omega)

theorem v_ (b : Fin 64) (j : Fin 384) (h : Fin 2) (x : Fin 128) : (val_main_v14 (F := Ideal) x2 : S1x64x384x2x128.Idx → EReal) (ix5 0 b j h x)
    = keyAt (rowsK x2) b.val j.val ⟨128 * h.val + x.val, by omega⟩ :=
  k_ x2 b j h x

theorem mask_ (b : Fin 64) (h : Fin 2) (g : Fin 4) (q : Fin 128) (j : Fin 384) :
    (val_main_call0_v1 (F := Ideal) : S1x64x2x4x128x384.Idx → BitVec 1) (ix6 0 b h g q j) = BitVec.ofBool (decide (AttnMask.Seen b.val q.val j.val)) := by
  pointwise [val_main_call0_v1, val_main_v49, val_main_v48, val_main_v47, val_main_v46, val_main_v45, val_main_c_5, val_main_v44, val_main_v43, val_main_v42, val_main_v41, val_main_c_4, val_main_v40, val_main_v39, val_main_c_3, val_main_v38, val_main_v37, val_main_v36, val_main_v35, val_main_v34, val_main_v33, val_main_v32, val_main_v31, val_main_v30, val_main_v29, val_main_v28, val_main_c_2, val_main_v27, val_main_v26, val_main_v25, val_main_v24, val_main_v23, val_main_v22, val_main_v21, val_main_c, val_main_v20, val_main_v19]
  rw [← AttnMask.seen_words (x := q.val + 128 - j.val) (y := 128 * b.val - 128 + j.val) (.inr rfl) rfl b.isLt q.isLt j.isLt]
  have hk : IntOp.addi (IntOp.subi (IntOp.muli (BitVec.ofNat 32 b.val) 128#32) 128#32) (BitVec.ofNat 32 j.val) = BitVec.ofInt 32 (128 * b.val - 128 + j.val) := by
    show BitVec.ofNat 32 b.val * BitVec.ofInt 32 128 - BitVec.ofInt 32 128 + BitVec.ofNat 32 j.val = _
    rw [AttnMask.ofNat_ofInt, AttnMask.ofNat_ofInt, AttnMask.ofInt_mul', AttnMask.ofInt_sub', AttnMask.ofInt_add', mul_comm]
  have hq : IntOp.addi (IntOp.muli (BitVec.ofNat 32 b.val) 128#32) (BitVec.ofNat 32 q.val) = BitVec.ofInt 32 (128 * b.val + q.val) := by
    show BitVec.ofNat 32 b.val * BitVec.ofInt 32 128 + BitVec.ofNat 32 q.val = _
    rw [AttnMask.ofNat_ofInt, AttnMask.ofNat_ofInt, AttnMask.ofInt_mul', AttnMask.ofInt_add', mul_comm]
  have hx : IntOp.subi (BitVec.ofInt 32 (128 * b.val + q.val)) (BitVec.ofInt 32 (128 * b.val - 128 + j.val)) = BitVec.ofInt 32 (q.val + 128 - j.val) := by
    show BitVec.ofInt 32 _ - BitVec.ofInt 32 _ = _
    rw [AttnMask.ofInt_sub']
    exact congrArg _ (by omega)
  rw [hk, hq, hx]

theorem dot_ (b : Fin 64) (h : Fin 2) (g : Fin 4) (q : Fin 128) (j : Fin 384) :
    (val_main_v16 (F := Ideal) x0 x1 : S1x64x2x4x128x384.Idx → EReal) (ix6 0 b h g q j)
    = ∑ x : Fin 128, x0 (ix4 0 ⟨b.val * 128 + q.val, by omega⟩ ⟨h.val * 4 + g.val, by omega⟩ x) * keyAt (rowsK x1) b.val j.val ⟨128 * h.val + x.val, by omega⟩ := by
  pointwise [val_main_v16, val_main_v15]
  exact Finset.sum_congr rfl fun x _ => (congrArg₂ (· * ·) (k_ x1 b j h x) (q_ x0 b q h g x)).trans (mul_comm _ _)

/-- A score, at the key head `h`'s `g`-th query head. -/
theorem score_ (b : Fin 64) (h : Fin 2) (g : Fin 4) (q : Fin 128) (j : Fin 384) :
    (val_main_v50 (F := Ideal) x0 x1 : S1x64x2x4x128x384.Idx → EReal) (ix6 0 b h g q j)
    = if AttnMask.Seen b.val q.val j.val then
        (∑ x : Fin 128, x0 (ix4 0 ⟨b.val * 128 + q.val, by omega⟩ ⟨h.val * 4 + g.val, by omega⟩ x) * keyAt (rowsK x1) b.val j.val ⟨128 * h.val + x.val, by omega⟩) * Ideal.ofBits .f32 0x3DB504F3#32
      else ⊥ := by
  pointwise [val_main_v50, val_main_v18, val_main_v17, val_main_cst_1, val_main_call0_v2, val_main_call0_v0, val_main_cst_6]
  rw [mask_, dot_]
  by_cases hs : AttnMask.Seen b.val q.val j.val
  · rw [if_pos hs, decide_eq_true hs]; rfl
  · rw [if_neg hs, decide_eq_false hs]
    show Ideal.ieee 8 23 0xFF800000#32 = ⊥
    simp [Ideal.ieee]

end Cert.AttnFwdRefIdeal.Val
end
-- ==== Proof.AttnFwdRef.lean ====
module

public import proofs.«01_k».proof.Proof.AttnFwdRefScore

@[expose] public section

set_option maxRecDepth 16384

noncomputable section

/-! The attention's forward reference, read at an index: its softmax and its result. -/

namespace Cert.AttnFwdRefIdeal.Val
open Idealize.ShloMosaic Idealize.ShloMosaic.TcCoe Idealize.SL.Sem
open Cert.AttnFwdRefIdeal Cert.AttnFwdRefIdeal.Gen Cert.AttnFwdRefIdeal.Read Cert.AttnFwdFun

/-- The greater of two arrays' entries. -/
theorem max_at {s : Shape} (u v : FVec Ideal s .f32) (i : s.Idx) : maximumf u v i = (max (u i) (v i) : EReal) := rfl

variable (x0 : S1x8192x8x128.Idx → EReal) (x1 x2 : S1x8192x2x128.Idx → EReal) (x3 : S8.Idx → EReal)

theorem fold_ (b : Fin 64) (h : Fin 2) (g : Fin 4) (q : Fin 128) :
    (val_main_v53 (F := Ideal) x0 x1 : S1x64x2x4x128.Idx → EReal) (ix5 0 b h g q)
    = Finset.univ.fold max (Ideal.ofBits .f32 0xFF800000#32) fun j => val_main_v50 (F := Ideal) x0 x1 (ix6 0 b h g q j) := by
  unfold val_main_v53 val_main_cst_7
  exact max_last reducesTo_S1x64x2x4x128x384_S1x64x2x4x128_d5 h_S_ _ (val_main_v50 (F := Ideal) x0 x1) 0 b h g q

theorem sink_ (b : Fin 64) (h : Fin 2) (g : Fin 4) (q : Fin 128) :
    (val_main_v55 (F := Ideal) x3 : S1x64x2x4x128x1.Idx → EReal) (ix6 0 b h g q 0) = x3 (ix1 ⟨h.val * 4 + g.val, by omega⟩) := by
  pointwise [val_main_v55, val_main_v52, val_main_v51]

/-- The greatest of the scores and the sink. -/
theorem top_ (b : Fin 64) (h : Fin 2) (g : Fin 4) (q : Fin 128) :
    (val_main_v56 (F := Ideal) x0 x1 x3 : S1x64x2x4x128x1.Idx → EReal) (ix6 0 b h g q 0)
    = AttnRow.top (fun j => val_main_v50 (F := Ideal) x0 x1 (ix6 0 b h g q j)) (x3 (ix1 ⟨h.val * 4 + g.val, by omega⟩)) := by
  have e : (val_main_v54 (F := Ideal) x0 x1 : S1x64x2x4x128x1.Idx → EReal) (ix6 0 b h g q 0) = val_main_v53 (F := Ideal) x0 x1 (ix5 0 b h g q) := by
    pointwise [val_main_v54]
  unfold val_main_v56
  exact (max_at _ _ _).trans (congrArg₂ max (e.trans (fold_ x0 x1 b h g q)) (sink_ x3 b h g q))

theorem ex_ (b : Fin 64) (h : Fin 2) (g : Fin 4) (q : Fin 128) (j : Fin 384) :
    (val_main_v59 (F := Ideal) x0 x1 x3 : S1x64x2x4x128x384.Idx → EReal) (ix6 0 b h g q j)
    = AttnRow.ex (fun j => val_main_v50 (F := Ideal) x0 x1 (ix6 0 b h g q j)) (x3 (ix1 ⟨h.val * 4 + g.val, by omega⟩)) j := by
  pointwise [val_main_v59, val_main_v58, val_main_v57]
  rw [top_]
  rfl

/-- The exponentials' sum. -/
theorem den_ (b : Fin 64) (h : Fin 2) (g : Fin 4) (q : Fin 128) :
    (val_main_v65 (F := Ideal) x0 x1 x3 : S1x64x2x4x128x1.Idx → EReal) (ix6 0 b h g q 0)
    = AttnRow.den (fun j => val_main_v50 (F := Ideal) x0 x1 (ix6 0 b h g q j)) (x3 (ix1 ⟨h.val * 4 + g.val, by omega⟩)) := by
  pointwise [val_main_v65, val_main_v64, val_main_v63, val_main_v62, val_main_v61, val_main_v52, val_main_v51]
  rw [top_]
  refine congrArg (· + _) ((sum_last reducesTo_S1x64x2x4x128x384_S1x64x2x4x128_d5 h_S_ (val_main_v59 (F := Ideal) x0 x1 x3) (val_main_cst_8 (F := Ideal)) ?_ 0 b h g q).trans
    (Finset.sum_congr rfl fun j _ => ex_ x0 x1 x3 b h g q j))
  show Ideal.ofBits .f32 0x00000000#32 = 0
  exact Ideal.ofBits_zero .f32

theorem prob_ (b : Fin 64) (h : Fin 2) (g : Fin 4) (q : Fin 128) (j : Fin 384) :
    (val_main_v67 (F := Ideal) x0 x1 x3 : S1x64x2x4x128x384.Idx → EReal) (ix6 0 b h g q j)
    = AttnRow.prob (fun j => val_main_v50 (F := Ideal) x0 x1 (ix6 0 b h g q j)) (x3 (ix1 ⟨h.val * 4 + g.val, by omega⟩)) j := by
  pointwise [val_main_v67, val_main_v66]
  rw [ex_, den_]
  rfl

/-- The reference's result. -/
theorem result_ : (val_main_v72 (F := Ideal) x0 x1 x2 x3 : S8192x1024.Idx → EReal)
    = fun j => out (rowsQ x0) (rowsK x1) (rowsK x2) (fun h => x3 (ix1 h)) (j 0) (j 1) := by
  funext j
  pointwise [val_main_v72, val_main_v71, val_main_v70, val_main_v69, val_main_v68]
  unfold out AttnRow.out
  have es : (⟨(j 1).val / 512 * 4 + (j 1).val / 128 % 4, by have : (j 1).val < 1024 := (j 1).isLt; omega⟩ : Fin 8) = headOf (j 1) :=
    Fin.ext (by show (j 1).val / 512 * 4 + (j 1).val / 128 % 4 = (j 1).val / 128; omega)
  have er : (⟨(j 0).val / 128 * 128 + (j 0).val % 128, by have : (j 0).val < 8192 := (j 0).isLt; omega⟩ : Fin 8192) = j 0 :=
    Fin.ext (by show (j 0).val / 128 * 128 + (j 0).val % 128 = (j 0).val; omega)
  have hs : (fun l => val_main_v50 (F := Ideal) x0 x1 (ix6 0 ⟨(j 0).val / 128, by have : (j 0).val < 8192 := (j 0).isLt; omega⟩ ⟨(j 1).val / 512, by have : (j 1).val < 1024 := (j 1).isLt; omega⟩ ⟨(j 1).val / 128 % 4, by omega⟩ ⟨(j 0).val % 128, by omega⟩ l))
      = score (rowsQ x0) (rowsK x1) (j 0) (j 1) := by
    funext l
    rw [score_, er, es]
    unfold score
    refine if_congr Iff.rfl (congrArg (· * _) (Finset.sum_congr rfl fun x _ => ?_)) rfl
    refine congrArg₂ (· * ·) ?_ rfl
    show _ = x0 (ix4 0 (j 0) ⟨(128 * ((j 1).val / 128) + x.val) / 128, _⟩ ⟨(128 * ((j 1).val / 128) + x.val) % 128, _⟩)
    exact congrArg₂ (fun a b => x0 (ix4 0 (j 0) a b)) (Fin.ext (by show (j 1).val / 128 = (128 * ((j 1).val / 128) + x.val) / 128; omega))
      (Fin.ext (by show x.val = (128 * ((j 1).val / 128) + x.val) % 128; omega))
  refine Finset.sum_congr rfl fun l _ => ?_
  rw [v_, prob_, mul_comm, hs, es]

end Cert.AttnFwdRefIdeal.Val
end
-- ==== Proof.AttnBwdRef.lean ====
module

public import proofs.«01_k».proof.Proof.AttnFwdRef
public import proofs.«01_k».proof.Proof.AttnBwdFun
public import proofs.«01_k».proof.Proof.Gen.AttnBwdRefIdeal.Run
public import proofs.«01_k».proof.Proof.Gen.AttnBwdRefIdeal.Read

@[expose] public section

set_option maxRecDepth 16384

noncomputable section

/-! The reference of the queries' gradient, read at an index: the chain rule through the attention. -/

namespace Cert.AttnBwdRefIdeal.Val
open Idealize.ShloMosaic Idealize.ShloMosaic.TcCoe Idealize.SL.Sem
open Cert.AttnBwdRefIdeal Cert.AttnBwdRefIdeal.Gen Cert.AttnBwdRefIdeal.Read Cert.AttnFwdFun Cert.AttnBwdFun
open Cert.AttnFwdRefIdeal.Val (max_last sum_last)

variable (x0 : S1x8192x8x128.Idx → EReal) (x1 x2 : S1x8192x2x128.Idx → EReal) (x3 : S1x8192x1024.Idx → EReal) (x4 : S8.Idx → EReal)

/-! What the forward reference computes too. -/

theorem score_eq : val_main_v50_0 (F := Ideal) x0 x1 = Cert.AttnFwdRefIdeal.Read.val_main_v50 (F := Ideal) x0 x1 := rfl
theorem top_eq : val_main_v61 (F := Ideal) x0 x1 x4 = Cert.AttnFwdRefIdeal.Read.val_main_v56 (F := Ideal) x0 x1 x4 := rfl
theorem ex_eq : val_main_v73 (F := Ideal) x0 x1 x4 = Cert.AttnFwdRefIdeal.Read.val_main_v59 (F := Ideal) x0 x1 x4 := rfl
theorem den_eq : val_main_v79 (F := Ideal) x0 x1 x4 = Cert.AttnFwdRefIdeal.Read.val_main_v65 (F := Ideal) x0 x1 x4 := rfl
theorem key_eq : val_main_v7 (F := Ideal) x1 = Cert.AttnFwdRefIdeal.Read.val_main_v7 (F := Ideal) x1 := rfl
theorem value_eq : val_main_v14 (F := Ideal) x2 = Cert.AttnFwdRefIdeal.Read.val_main_v14 (F := Ideal) x2 := rfl
theorem mask_eq : val_main_v50_1 (F := Ideal) = Cert.AttnFwdRefIdeal.Read.val_main_call0_v1 (F := Ideal) := rfl

/-- A sum over two axes of one entry each. -/
theorem sum_ones {n1 n2 n3 n4 : ℕ} {u : Shape} (h : (⟨6, ![1, n1, n2, n3, n4, 1]⟩ : Shape).ReducesTo [0, 5] ⟨4, ![n1, n2, n3, n4]⟩)
    (hu : 0 < u.numel) (v : FVec Ideal ⟨6, ![1, n1, n2, n3, n4, 1]⟩ .f32) (z : FVec Ideal u .f32) (hz : z (Shape.Idx.first hu) = (0 : EReal))
    (b : Fin n1) (c : Fin n2) (d : Fin n3) (e : Fin n4) :
    Host.reduceAdd v z h hu (ix4 b c d e) = (v (ix6 0 b c d e 0) : EReal) := by
  show z (Shape.Idx.first hu) + _ = _
  rw [hz]
  refine (zero_add _).trans ((Finset.sum_filter_eq_sum_of_fiber _ (fun _ : Fin 1 => ix6 0 b c d e 0) (fun _ _ _ => Subsingleton.elim _ _) (fun i => ?_) v).trans (Fin.sum_univ_one _))
  constructor
  · intro g
    refine ⟨0, funext fun x => Fin.ext ?_⟩
    match x with
    | ⟨0, _⟩ => exact (Nat.lt_one_iff.mp (i 0).isLt).symm
    | ⟨1, _⟩ => exact (congrArg Fin.val (congrFun g 0)).symm
    | ⟨2, _⟩ => exact (congrArg Fin.val (congrFun g 1)).symm
    | ⟨3, _⟩ => exact (congrArg Fin.val (congrFun g 2)).symm
    | ⟨4, _⟩ => exact (congrArg Fin.val (congrFun g 3)).symm
    | ⟨5, _⟩ => exact (Nat.lt_one_iff.mp (i 5).isLt).symm
  · rintro ⟨k, rfl⟩
    funext x
    match x with
    | ⟨0, _⟩ => rfl
    | ⟨1, _⟩ => rfl
    | ⟨2, _⟩ => rfl
    | ⟨3, _⟩ => rfl

theorem zero_ : (constant S_ .f32 0x00000000#32 : FVec Ideal S_ .f32) (Shape.Idx.first h_S_) = (0 : EReal) := Ideal.ofBits_zero .f32

variable (b : Fin 64) (h : Fin 2) (g : Fin 4) (q : Fin 128)

/-- A row's scores, sink and sum of exponentials. -/
abbrev sc : Fin 384 → EReal := fun j => Cert.AttnFwdRefIdeal.Read.val_main_v50 (F := Ideal) x0 x1 (ix6 0 b h g q j)
abbrev sk : EReal := x4 (ix1 ⟨h.val * 4 + g.val, by omega⟩)
/-- A row's gradients of the probabilities. -/
abbrev dp : Fin 384 → EReal := fun j => ∑ x : Fin 128, x3 (ix3 0 ⟨b.val * 128 + q.val, by omega⟩ ⟨128 * (h.val * 4 + g.val) + x.val, by omega⟩) * keyAt (rowsK x2) b.val j.val ⟨128 * h.val + x.val, by omega⟩

theorem dp_ (j : Fin 384) : (val_main_v90 (F := Ideal) x2 x3 : S1x64x2x4x128x384.Idx → EReal) (ix6 0 b h g q j) = dp x2 x3 b h g q j := by
  pointwise [val_main_v90, val_main_v89, val_main_v88]
  refine Finset.sum_congr rfl fun x _ => congrArg₂ (· * ·) (congrArg x3 (congrArg₂ (ix3 0) (Fin.ext ?_) (Fin.ext ?_))) ((congrFun (value_eq x2) _).trans (Cert.AttnFwdRefIdeal.Val.v_ x2 b j h x))
  · simp; try omega
  · simp; try omega

theorem ex_ (j : Fin 384) : (val_main_v73 (F := Ideal) x0 x1 x4 : S1x64x2x4x128x384.Idx → EReal) (ix6 0 b h g q j) = AttnRow.ex (sc x0 x1 b h g q) (sk x4 h g) j :=
  (congrFun (ex_eq x0 x1 x4) _).trans (Cert.AttnFwdRefIdeal.Val.ex_ x0 x1 x4 b h g q j)

theorem den_ : (val_main_v79 (F := Ideal) x0 x1 x4 : S1x64x2x4x128x1.Idx → EReal) (ix6 0 b h g q 0) = AttnRow.den (sc x0 x1 b h g q) (sk x4 h g) :=
  (congrFun (den_eq x0 x1 x4) _).trans (Cert.AttnFwdRefIdeal.Val.den_ x0 x1 x4 b h g q)

theorem top_ : (val_main_v61 (F := Ideal) x0 x1 x4 : S1x64x2x4x128x1.Idx → EReal) (ix6 0 b h g q 0) = AttnRow.top (sc x0 x1 b h g q) (sk x4 h g) :=
  (congrFun (top_eq x0 x1 x4) _).trans (Cert.AttnFwdRefIdeal.Val.top_ x0 x1 x4 b h g q)

theorem exs_ : (val_main_v78 (F := Ideal) x0 x1 x4 : S1x64x2x4x128x1.Idx → EReal) (ix6 0 b h g q 0)
    = Ideal.exp (sk x4 h g - AttnRow.top (sc x0 x1 b h g q) (sk x4 h g)) := by
  pointwise [val_main_v78, val_main_v77, val_main_v76, val_main_v52, val_main_v51]
  rw [top_]

theorem mix_ (j : Fin 384) : (val_main_v93 (F := Ideal) x0 x1 x2 x3 x4 : S1x64x2x4x128x384.Idx → EReal) (ix6 0 b h g q j)
    = dp x2 x3 b h g q j * Ideal.div 1 (AttnRow.den (sc x0 x1 b h g q) (sk x4 h g) * AttnRow.den (sc x0 x1 b h g q) (sk x4 h g)) * AttnRow.ex (sc x0 x1 b h g q) (sk x4 h g) j := by
  pointwise [val_main_v93, val_main_v92, val_main_v91, val_main_v84, val_main_v83, val_main_v82, val_main_cst_13]
  rw [dp_, ex_, den_]

theorem neg_ : (val_main_v96 (F := Ideal) x0 x1 x2 x3 x4 : S1x64x2x4x128x1.Idx → EReal) (ix6 0 b h g q 0)
    = -∑ j, dp x2 x3 b h g q j * Ideal.div 1 (AttnRow.den (sc x0 x1 b h g q) (sk x4 h g) * AttnRow.den (sc x0 x1 b h g q) (sk x4 h g)) * AttnRow.ex (sc x0 x1 b h g q) (sk x4 h g) j := by
  pointwise [val_main_v96, val_main_v95]
  refine congrArg (fun x : EReal => -x) ?_
  unfold val_main_v94
  exact (sum_last reducesTo_S1x64x2x4x128x384_S1x64x2x4x128_d5 h_S_ (val_main_v93 (F := Ideal) x0 x1 x2 x3 x4) (val_main_cst_14 (F := Ideal)) zero_ 0 b h g q).trans
    (Finset.sum_congr rfl fun j _ => mix_ x0 x1 x2 x3 x4 b h g q j)

theorem spread_ (j : Fin 384) : (val_main_v103 (F := Ideal) x0 x1 x2 x3 x4 : S1x64x2x4x128x384.Idx → EReal) (ix6 0 b h g q j)
    = (val_main_v96 (F := Ideal) x0 x1 x2 x3 x4 : S1x64x2x4x128x1.Idx → EReal) (ix6 0 b h g q 0) := by
  pointwise [val_main_v103, val_main_v102]
  unfold val_main_v101
  exact sum_ones reducesTo_S1x64x2x4x128x1_S64x2x4x128_d0_5 h_S_ (val_main_v96 (F := Ideal) x0 x1 x2 x3 x4) (val_main_cst_15 (F := Ideal)) zero_ b h g q

theorem thru_ (j : Fin 384) : (val_main_v105 (F := Ideal) x0 x1 x2 x3 x4 : S1x64x2x4x128x384.Idx → EReal) (ix6 0 b h g q j)
    = AttnRow.thru (AttnRow.ex (sc x0 x1 b h g q) (sk x4 h g)) (dp x2 x3 b h g q) (AttnRow.den (sc x0 x1 b h g q) (sk x4 h g)) j := by
  pointwise [val_main_v105, val_main_v104, val_main_v98, val_main_v97]
  rw [spread_, neg_, dp_, ex_, den_]
  rfl

theorem rest_ : (val_main_v109 (F := Ideal) x0 x1 x2 x3 x4 : S1x64x2x4x128x1.Idx → EReal) (ix6 0 b h g q 0)
    = AttnRow.rest (AttnRow.ex (sc x0 x1 b h g q) (sk x4 h g)) (dp x2 x3 b h g q) (Ideal.exp (sk x4 h g - AttnRow.top (sc x0 x1 b h g q) (sk x4 h g))) (AttnRow.den (sc x0 x1 b h g q) (sk x4 h g)) := by
  pointwise [val_main_v109, val_main_v108, val_main_v100, val_main_v99]
  unfold AttnRow.rest
  refine congrArg₂ (· + ·) (congrArg (fun x : EReal => -x) ?_) ?_
  · rw [neg_, exs_]
  · unfold val_main_v107
    refine (sum_last reducesTo_S1x64x2x4x128x384_S1x64x2x4x128_d5 h_S_ (val_main_v106 (F := Ideal) x0 x1 x2 x3 x4) (val_main_cst_16 (F := Ideal)) zero_ 0 b h g q).trans
      (Finset.sum_congr rfl fun j _ => ?_)
    pointwise [val_main_v106]
    rw [thru_]

end Cert.AttnBwdRefIdeal.Val
end
-- ==== Proof.AttnBwdRefGrad.lean ====
module

public import proofs.«01_k».proof.Proof.AttnBwdRef

@[expose] public section

set_option maxRecDepth 16384

noncomputable section

/-! The reference of the queries' gradient: its result, where the arguments are real numbers. -/

namespace Cert.AttnBwdRefIdeal.Val
open Idealize.ShloMosaic Idealize.ShloMosaic.TcCoe Idealize.SL.Sem
open Cert.AttnBwdRefIdeal Cert.AttnBwdRefIdeal.Gen Cert.AttnBwdRefIdeal.Read Cert.AttnFwdFun Cert.AttnBwdFun
open Cert.AttnFwdRefIdeal.Val (max_last sum_last)

variable (x0 : S1x8192x8x128.Idx → EReal) (x1 x2 : S1x8192x2x128.Idx → EReal) (x3 : S1x8192x1024.Idx → EReal) (x4 : S8.Idx → EReal)

theorem bit_ (w : BitVec 1) : (FloatOps.uitofp (F := Ideal) .f32 w : EReal) = 0 ∨ (FloatOps.uitofp (F := Ideal) .f32 w : EReal) = 1 := by
  have hw : w = 0#1 ∨ w = 1#1 := by revert w; decide
  rcases hw with rfl | rfl
  · left
    show (((0#1 : BitVec 1).toNat : ℝ) : EReal) = 0
    simp
  · right
    show (((1#1 : BitVec 1).toNat : ℝ) : EReal) = 1
    simp

section
variable (b : Fin 64) (h : Fin 2) (g : Fin 4) (q : Fin 128)

/-- Where the greatest score stands. -/
abbrev ind : Fin 384 → EReal := fun j => (val_main_v57 (F := Ideal) x0 x1 : S1x64x2x4x128x384.Idx → EReal) (ix6 0 b h g q j)

theorem count_ : (val_main_v58 (F := Ideal) x0 x1 : S1x64x2x4x128.Idx → EReal) (ix5 0 b h g q) = ∑ j, ind x0 x1 b h g q j := by
  unfold val_main_v58
  exact sum_last reducesTo_S1x64x2x4x128x384_S1x64x2x4x128_d5 h_S_ (val_main_v57 (F := Ideal) x0 x1) (val_main_cst_8 (F := Ideal)) zero_ 0 b h g q

theorem back_ : (val_main_v112 (F := Ideal) x0 x1 x2 x3 x4 : S1x64x2x4x128.Idx → EReal) (ix5 0 b h g q)
    = (val_main_v109 (F := Ideal) x0 x1 x2 x3 x4 : S1x64x2x4x128x1.Idx → EReal) (ix6 0 b h g q 0) * (val_main_v70 (F := Ideal) x0 x1 x4 : S1x64x2x4x128x1.Idx → EReal) (ix6 0 b h g q 0) := by
  pointwise [val_main_v112]
  unfold val_main_v111
  exact sum_ones reducesTo_S1x64x2x4x128x1_S64x2x4x128_d0_5 h_S_ (val_main_v110 (F := Ideal) x0 x1 x2 x3 x4) (val_main_cst_17 (F := Ideal)) zero_ b h g q

variable (hsc : ∀ j, sc x0 x1 b h g q j ≠ ⊤) (hs : IsReal (sk x4 h g)) (hdp : ∀ j, IsReal (dp x2 x3 b h g q j))
include hsc hs hdp

theorem none_ (j : Fin 384) : (val_main_v115 (F := Ideal) x0 x1 x2 x3 x4 : S1x64x2x4x128x384.Idx → EReal) (ix6 0 b h g q j) = (0 : EReal) := by
  pointwise [val_main_v115, val_main_v114, val_main_v113]
  rw [back_, rest_, AttnRow.chain_rest hsc hs hdp, zero_mul, count_]
  exact AttnRow.share_zero (fun l => bit_ (val_main_v56 (F := Ideal) x0 x1 (ix6 0 b h g q l))) j

/-- The scores' gradients. -/
theorem grad_ (j : Fin 384) : (val_main_v119 (F := Ideal) x0 x1 x2 x3 x4 : S1x64x2x4x128x384.Idx → EReal) (ix6 0 b h g q j)
    = AttnRow.grad (sc x0 x1 b h g q) (sk x4 h g) (dp x2 x3 b h g q) j := by
  have hd : AttnRow.den (sc x0 x1 b h g q) (sk x4 h g) ≠ 0 := AttnRow.den_ne_zero hsc (by obtain ⟨r, e⟩ := hs; rw [e]; exact EReal.coe_ne_top r) (by obtain ⟨r, e⟩ := hs; rw [e]; exact EReal.coe_ne_bot r)
  pointwise [val_main_v119, val_main_v118, val_main_v117, val_main_v116, val_main_cst_18, val_main_call1_v0, val_main_call1_cst]
  rw [none_ x0 x1 x2 x3 x4 b h g q hsc hs hdp, add_zero, thru_, AttnRow.chain_thru hsc hs hdp, mask_eq, Cert.AttnFwdRefIdeal.Val.mask_]
  by_cases hm : AttnMask.Seen b.val q.val j.val
  · rw [decide_eq_true hm]; rfl
  · have hb : sc x0 x1 b h g q j = ⊥ := by
      unfold sc
      rw [Cert.AttnFwdRefIdeal.Val.score_, if_neg hm]
    rw [decide_eq_false hm, AttnRow.grad_bot hd _ j hb]
    rfl
end

theorem key_ (b : Fin 64) (j : Fin 384) (h : Fin 2) (x : Fin 128) :
    (val_main_v7 (F := Ideal) x1 : S1x64x384x2x128.Idx → EReal) (ix5 0 b j h x) = keyAt (rowsK x1) b.val j.val ⟨128 * h.val + x.val, by omega⟩ := by
  rw [key_eq]; exact Cert.AttnFwdRefIdeal.Val.k_ x1 b j h x

set_option maxHeartbeats 1000000 in
/-- The reference's result. -/
theorem result_ (h0 : ∀ i, IsReal (x0 i)) (h1 : ∀ i, IsReal (x1 i)) (h2 : ∀ i, IsReal (x2 i)) (h3 : ∀ i, IsReal (x3 i)) (h4 : ∀ i, IsReal (x4 i)) :
    (val_main_v124 (F := Ideal) x0 x1 x2 x3 x4 : S8192x1024.Idx → EReal)
    = fun j => dq (rowsQ x0) (rowsK x1) (rowsK x2) (rowsD x3) (fun h => x4 (ix1 h)) (j 0) (j 1) := by
  have hk (A : S1x8192x2x128.Idx → EReal) (hA : ∀ i, IsReal (A i)) (b j : ℕ) (x : Fin 256) : IsReal (keyAt (rowsK A) b j x) := by
    unfold keyAt; split
    · exact hA _
    · exact IsReal.zero
  have hc : IsReal (Ideal.ofBits .f32 0x3DB504F3#32) := by
    show IsReal (Ideal.ieee 8 23 0x3DB504F3#32)
    simp only [Ideal.ieee]
    exact ⟨_, rfl⟩
  funext j
  pointwise [val_main_v124, val_main_v123, val_main_v122, val_main_v121, val_main_v120]
  have hj0 : (j 0).val < 8192 := (j 0).isLt
  have hj1 : (j 1).val < 1024 := (j 1).isLt
  have es : (⟨(j 1).val / 128 / 4 * 4 + (j 1).val / 128 % 4, by omega⟩ : Fin 8) = headOf (j 1) :=
    Fin.ext (by show (j 1).val / 128 / 4 * 4 + (j 1).val / 128 % 4 = (j 1).val / 128; omega)
  have er : (⟨(j 0).val / 128 * 128 + (j 0).val % 128, by omega⟩ : Fin 8192) = j 0 :=
    Fin.ext (by show (j 0).val / 128 * 128 + (j 0).val % 128 = (j 0).val; omega)
  have ek (x : Fin 128) : (⟨128 * ((j 1).val / 128 / 4) + x.val, by omega⟩ : Fin 256) = keyCol (j 1) x :=
    Fin.ext (by show 128 * ((j 1).val / 128 / 4) + x.val = 128 * ((j 1).val / 512) + x.val; omega)
  have hS : sc x0 x1 ⟨(j 0).val / 128, by omega⟩ ⟨(j 1).val / 128 / 4, by omega⟩ ⟨(j 1).val / 128 % 4, by omega⟩ ⟨(j 0).val % 128, by omega⟩
      = score (rowsQ x0) (rowsK x1) (j 0) (j 1) := by
    funext l
    unfold sc
    rw [Cert.AttnFwdRefIdeal.Val.score_, er, es]
    unfold score
    refine if_congr Iff.rfl (congrArg (· * _) (Finset.sum_congr rfl fun x _ => congrArg₂ (· * ·) ?_ (congrArg (keyAt (rowsK x1) _ _) (ek x)))) rfl
    show _ = x0 (ix4 0 (j 0) ⟨(128 * ((j 1).val / 128) + x.val) / 128, _⟩ ⟨(128 * ((j 1).val / 128) + x.val) % 128, _⟩)
    exact congrArg₂ (fun a b => x0 (ix4 0 (j 0) a b)) (Fin.ext (by show (j 1).val / 128 = (128 * ((j 1).val / 128) + x.val) / 128; omega))
      (Fin.ext (by show x.val = (128 * ((j 1).val / 128) + x.val) % 128; omega))
  have hD : dp x2 x3 ⟨(j 0).val / 128, by omega⟩ ⟨(j 1).val / 128 / 4, by omega⟩ ⟨(j 1).val / 128 % 4, by omega⟩ ⟨(j 0).val % 128, by omega⟩
      = dprob (rowsK x2) (rowsD x3) (j 0) (j 1) := by
    funext l
    unfold dp dprob
    refine Finset.sum_congr rfl fun x _ => congrArg₂ (· * ·) (congrArg₂ (fun a b => x3 (ix3 0 a b)) er (Fin.ext ?_)) (congrArg (keyAt (rowsK x2) _ _) (ek x))
    show 128 * ((j 1).val / 128 / 4 * 4 + (j 1).val / 128 % 4) + x.val = 128 * ((j 1).val / 128) + x.val
    omega
  unfold dq AttnRow.gradOut
  have hsc : ∀ l, score (rowsQ x0) (rowsK x1) (j 0) (j 1) l ≠ ⊤ := by
    intro l
    unfold score
    split
    · intro ht
      obtain ⟨z, hz⟩ := IsReal.mul (IsReal.sum fun x : Fin 128 => IsReal.mul (h0 (ix4 0 (j 0) _ _)) (hk x1 h1 ((j 0).val / 128) l.val (keyCol (j 1) x))) hc
      exact EReal.coe_ne_top z (hz.symm.trans ht)
    · exact bot_ne_top
  have hdp : ∀ l, IsReal (dprob (rowsK x2) (rowsD x3) (j 0) (j 1) l) := fun l => IsReal.sum fun x => IsReal.mul (h3 _) (hk x2 h2 _ _ _)
  refine Finset.sum_congr rfl fun l _ => ?_
  rw [key_, ek, grad_ x0 x1 x2 x3 x4 _ _ _ _ (fun l => by rw [hS]; exact hsc l) (h4 _) (fun l => by rw [hD]; exact hdp l), hS, hD]
  unfold sk
  rw [es]

end Cert.AttnBwdRefIdeal.Val
end
-- ==== Proof.AttnBwdPair.lean ====
module

public import proofs.«01_k».proof.Defs
public import proofs.«01_k».proof.Proof.AttnBwdRun
public import proofs.«01_k».proof.Proof.AttnBwdArgs
public import proofs.«01_k».proof.Proof.AttnBwdRefGrad
public import proofs.«01_k».proof.Proof.Gen.Pre_finite_attn
public import Idealize.ShloMosaic.Lib.Claim

@[expose] public section

set_option maxRecDepth 16384

noncomputable section

/-! The banded attention's backward call: its frames, its named constant, and the gradient of q against its reference's. -/

namespace Cert.AttnBwdPair

open Idealize.ShloMosaic Idealize.ShloMosaic.TcCoe Idealize.SL.Sem

theorem frameP : Cert.quiescent_AttnBwd := fun m ρ _ => Cert.AttnBwd.Gen.frame m ρ
theorem framePI : Cert.quiescent_AttnBwdIdeal := fun m ρ _ => Cert.AttnBwdIdeal.Gen.frame m ρ
theorem framePI' : Cert.quiescent_AttnBwdIdeal_pre_finite_attn := fun m ρ _ => Cert.AttnBwdIdeal.Gen.frame m ρ
theorem frameRI : Cert.quiescent_AttnBwdRefIdeal := fun m ρ _ =>
  (θ_run Cert.AttnBwdRefIdeal.defs _ _).mono (fun r h => ⟨fun c => (h c).2, sem_eq_zero_of_no_sems (by decide) r.2⟩) (Cert.AttnBwdRefIdeal.Value.run m ρ)
theorem frameRI' : Cert.quiescent_AttnBwdRefIdeal_pre_finite_attn := fun m ρ _ => frameRI m ρ trivial

section
open Cert.AttnBwdIdeal Cert.AttnBwdIdeal.Gen Cert.AttnBwdIdeal.Val Cert.AttnFwdFun Cert.AttnBwdFun

variable (m : (ℓ : Loc nD τ sig) → Buf (Elt Ideal) ℓ) (ρ : Dev nD → PrngReg)

theorem runK (hpre : Cert.Pre_AttnBwdIdeal_finite_attn m) : θ_run defs (onTc (τ := τ) (main (F := Ideal))) ⟨m, fun _ => 0, ρ⟩ fun r => ∀ c : Dev nD,
    r.2.mem ((c.tc : Thread nD τ).loc main_v9_0) = (fun j : S8192x1024.Idx => dq (rowsQ (A0 m c)) (rowsK (A1 m c)) (rowsK (A2 m c)) (rowsD (A3 m c)) (fun h => A4 m c (ix1 h)) (j 0) (j 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun _ h c =>
    ⟨((h.1.1 c).1 9).trans (fin9_args m c (IsReal.of_lt _ _ (hpre c).1) (IsReal.of_lt _ _ (hpre c).2.1) (IsReal.of_lt _ _ (hpre c).2.2.2.2)), h.2.1 c⟩)
    (θ_run_and (run_full m ρ) (Cert.AttnBwdIdeal.Gen.frame m ρ))
end

theorem algebraic : Cert.algebraic_AttnBwdIdeal_AttnBwdRefIdeal_pre_finite_attn := fun m ρ m' ρ' hpre hag =>
  ⟨_, runK m ρ hpre, (θ_run Cert.AttnBwdRefIdeal.defs _ _).mono (fun _ h c => by
    obtain ⟨a0, a1, a2, a3, a4⟩ := hag c
    obtain ⟨r0, hr⟩ := h c
    refine ⟨r0.trans ?_, hr⟩
    refine (Cert.AttnBwdRefIdeal.Read.val_main_v124_eq _).trans (Eq.trans ?_ (Cert.AttnBwdRefIdeal.Val.result_ _ _ _ _ _
      (IsReal.of_lt _ _ (hpre c).1) (IsReal.of_lt _ _ (hpre c).2.1) (IsReal.of_lt _ _ (hpre c).2.2.1) (IsReal.of_lt _ _ (hpre c).2.2.2.1) (IsReal.of_lt _ _ (hpre c).2.2.2.2)))
    clear r0 hr
    exact congr (congr (congr (congr (congrArg Cert.AttnBwdRefIdeal.Read.val_main_v124 a0) a1) a2) a3) a4) (Cert.AttnBwdRefIdeal.Value.run m' ρ')⟩

/-- The mask's large negative number stands for minus infinity. -/
theorem preserves : Cert.preserves_AttnBwd_AttnBwdIdeal :=
  IdealRules.named_const.statement Cert.AttnBwdIdeal.κ "mask" .f32 0xF149F2CA#32 ⊥ rfl

end Cert.AttnBwdPair
end
-- ==== Proof.AttnFwdVal.lean ====
module

public import proofs.«01_k».proof.Proof.AttnFwdOps
public import proofs.«01_k».proof.Proof.AttnFwdFun

@[expose] public section

set_option maxRecDepth 16384

noncomputable section

/-! What the attention's forward kernel stores at a grid point: 32 tiles, one a block of 128 queries and a head. -/

namespace Cert.AttnFwdIdeal.Val
open Idealize.ShloMosaic Idealize.ShloMosaic.TcCoe Idealize.SL.Sem
open Cert.AttnFwdIdeal Cert.AttnFwdIdeal.Gen Cert.AttnFwdFun

variable (m : (ℓ : Loc nD τ sig) → Buf (Elt Ideal) ℓ) (c : Dev nD)

abbrev Q (r : Fin 8192) (k : Fin 1024) : EReal := V m c main_v1 (ix2 r k : S8192x1024.Idx)
abbrev K (r : Fin 8192) (k : Fin 256) : EReal := V m c main_v3 (ix2 r k : S8192x256.Idx)
abbrev VV (r : Fin 8192) (k : Fin 256) : EReal := V m c main_v5 (ix2 r k : S8192x256.Idx)
abbrev SK (h : Fin 8) : EReal := V m c main_v6 (ix2 0 h : S1x8.Idx)

theorem idx0 : ∀ t : Fin cfg0.N, win0_0.index t = ![0, 0] ∧ win0_1.index t = ![t.val, 0] ∧ win0_2.index t = ![4 * t.val - 1, 0]
    ∧ win0_3.index t = ![t.val, 0] ∧ win0_4.index t = ![min (4 * t.val + 4) 63, 0] ∧ win0_5.index t = ![4 * t.val - 1, 0]
    ∧ win0_6.index t = ![t.val, 0] ∧ win0_7.index t = ![min (4 * t.val + 4) 63, 0] ∧ win0_8.index t = ![t.val, 0] :=
  (by decide +kernel : ∀ t : Fin grid0.N, _)

theorem word (t : Fin cfg0.N) (qb : ℕ) (h : qb < 4) : Scalar.addi (Scalar.muli 4#32 (BitVec.ofNat 32 (grid0.coords t 0).val)) (BitVec.ofNat 32 qb)
    = BitVec.ofNat 32 (4 * t.val + qb) := by
  have : ∀ t : Fin grid0.N, (grid0.coords t 0).val = t.val := by decide +kernel
  rw [this t]
  show BitVec.ofNat 32 4 * BitVec.ofNat 32 t.val + BitVec.ofNat 32 qb = _
  rw [← BitVec.ofNat_mul, ← BitVec.ofNat_add]

abbrev brow (t : Fin cfg0.N) (a : Fin 512) : Fin 8192 := ⟨t.val * 512 + a.val, by have := t.isLt; have : cfg0.N = 16 := N_0; omega⟩

theorem blk_s (t : Fin cfg0.N) (i : S1x8.Idx) : (iblk m c 0 t : S1x8.Idx → EReal) i = V m c main_v6 i := by
  blk_point [iblk, idx0 t]
theorem blk_q (t : Fin cfg0.N) (i : S512x1024.Idx) : (iblk m c 1 t : S512x1024.Idx → EReal) i = Q m c (brow t (i 0)) (i 1) := by
  blk_point [iblk, idx0 t]
theorem blk_kp (t : Fin cfg0.N) (i : S128x256.Idx) (r : Fin 8192) (h : r.val = (4 * t.val - 1) * 128 + (i 0).val) :
    (iblk m c 2 t : S128x256.Idx → EReal) i = K m c r (i 1) := by
  blk_point [iblk, idx0 t, h]
theorem blk_ko (t : Fin cfg0.N) (i : S512x256.Idx) : (iblk m c 3 t : S512x256.Idx → EReal) i = K m c (brow t (i 0)) (i 1) := by
  blk_point [iblk, idx0 t]
theorem blk_kn (t : Fin cfg0.N) (i : S128x256.Idx) (r : Fin 8192) (h : r.val = min (4 * t.val + 4) 63 * 128 + (i 0).val) :
    (iblk m c 4 t : S128x256.Idx → EReal) i = K m c r (i 1) := by
  blk_point [iblk, idx0 t, h]
theorem blk_vp (t : Fin cfg0.N) (i : S128x256.Idx) (r : Fin 8192) (h : r.val = (4 * t.val - 1) * 128 + (i 0).val) :
    (iblk m c 5 t : S128x256.Idx → EReal) i = VV m c r (i 1) := by
  blk_point [iblk, idx0 t, h]
theorem blk_vo (t : Fin cfg0.N) (i : S512x256.Idx) : (iblk m c 6 t : S512x256.Idx → EReal) i = VV m c (brow t (i 0)) (i 1) := by
  blk_point [iblk, idx0 t]
theorem blk_vn (t : Fin cfg0.N) (i : S128x256.Idx) (r : Fin 8192) (h : r.val = min (4 * t.val + 4) 63 * 128 + (i 0).val) :
    (iblk m c 7 t : S128x256.Idx → EReal) i = VV m c r (i 1) := by
  blk_point [iblk, idx0 t, h]

/-- The rows about a point's 512, one block of 128 before and one after. -/
theorem cat_at (A : Fin 8192 → Fin 256 → EReal) (p n : Vec Ideal S128x256 .bf16) (o : Vec Ideal S512x256 .bf16) (t : Fin cfg0.N)
    (hp : ∀ (i : S128x256.Idx) (r : Fin 8192), r.val = (4 * t.val - 1) * 128 + (i 0).val → p i = A r (i 1))
    (ho : ∀ i : S512x256.Idx, o i = A (brow t (i 0)) (i 1))
    (hn : ∀ (i : S128x256.Idx) (r : Fin 8192), r.val = min (4 * t.val + 4) 63 * 128 + (i 0).val → n i = A r (i 1))
    (i : Fin 768) (x : Fin 256) (b j : ℕ) (e : 512 * t.val + i.val = 128 * b + j) (h : 128 ≤ 128 * b + j ∧ 128 * b + j < 8320) :
    k0_pay3 p o n (ix2 i x) = (keyAt A b j x : EReal) := by
  have ht := t.isLt
  have : cfg0.N = 16 := N_0
  unfold keyAt
  rw [dif_pos h]
  pointwise [k0_pay3]
  by_cases h1 : i.val < 128
  · rw [dif_pos h1]
    exact hp _ _ (by simp; omega)
  rw [dif_neg h1]
  by_cases h2 : i.val < 640
  · rw [dif_pos (by omega)]
    refine (ho _).trans (congrArg (fun r => A r _) (Fin.ext ?_))
    simp; omega
  rw [dif_neg (by omega)]
  exact hn _ _ (by simp; omega)

theorem keys_at (t : Fin cfg0.N) (i : Fin 768) (x : Fin 256) (b j : ℕ) (e : 512 * t.val + i.val = 128 * b + j) (h : 128 ≤ 128 * b + j ∧ 128 * b + j < 8320) :
    k0_pay3 (iblk m c 2 t) (iblk m c 3 t) (iblk m c 4 t) (ix2 i x) = (keyAt (K m c) b j x : EReal) :=
  cat_at (K m c) _ _ _ t (blk_kp m c t) (blk_ko m c t) (blk_kn m c t) i x b j e h
theorem values_at (t : Fin cfg0.N) (i : Fin 768) (x : Fin 256) (b j : ℕ) (e : 512 * t.val + i.val = 128 * b + j) (h : 128 ≤ 128 * b + j ∧ 128 * b + j < 8320) :
    k0_pay4 (iblk m c 5 t) (iblk m c 6 t) (iblk m c 7 t) (ix2 i x) = (keyAt (VV m c) b j x : EReal) :=
  cat_at (VV m c) _ _ _ t (blk_vp m c t) (blk_vo m c t) (blk_vn m c t) i x b j e h

theorem tileIn {qb kv h : ℕ} (hq : qb < 4) (hk : kv < 2) (hh : h < 4) :
    ∀ a, (![128 * qb, 128 * (4 * kv + h)] : Fin 2 → Nat) a + (![128, 128] : Fin 2 → Nat) a ≤ S512x1024.size a :=
  Fin.forall_fin_two.mpr ⟨by simp; omega, by simp; omega⟩
theorem sinkIn {kv h : ℕ} (hk : kv < 2) (hh : h < 4) : ∀ a, (![0, 4 * kv + h] : Fin 2 → Nat) a + (![1, 1] : Fin 2 → Nat) a ≤ S1x8.size a :=
  Fin.forall_fin_two.mpr ⟨by simp, by simp; omega⟩

/-- The queries of one tile. -/
abbrev qTile (t : Fin cfg0.N) {qb kv : ℕ} (hq : qb < 4) (hk : kv < 2) (h : Fin 4) : Vec Ideal S128x128 .bf16 :=
  View.ld (iblk m c 1 t : Vec Ideal S512x1024 .bf16) (Rect.unit (s := S512x1024) ![128 * qb, 128 * (4 * kv + h.val)] ![128, 128] (tileIn hq hk h.isLt))
/-- One head's sink. -/
abbrev sTile (t : Fin cfg0.N) {kv : ℕ} (hk : kv < 2) (h : Fin 4) : Elt Ideal .f32 :=
  View.ld (iblk m c 0 t : Vec Ideal S1x8 .f32) (Rect.unit (s := S1x8) ![0, 4 * kv + h.val] ![1, 1] (sinkIn hk h.isLt)) (Shape.Idx.first (lt_of_lt_of_eq Nat.one_pos numel1_S1x1.symm : 0 < S1x1.numel))

/-- The four heads' rows of one block of queries and one head of keys. -/
abbrev rows (t : Fin cfg0.N) {qb kv : ℕ} (hq : qb < 4) (hk : kv < 2) (sl : S768x256.Slices ![128 * qb, 128 * kv] S384x128) : FVec Ideal S512x128 .bf16 :=
  outW (scoreW (maskW (Scalar.addi (Scalar.muli 4#32 (BitVec.ofNat 32 (grid0.coords t 0).val)) (BitVec.ofNat 32 qb)))
      (queryW (qTile m c t hq hk 0) (qTile m c t hq hk 1) (qTile m c t hq hk 2) (qTile m c t hq hk 3))
      (extractStridedSlice S384x128 ![128 * qb, 128 * kv] (k0_pay3 (iblk m c 2 t) (iblk m c 3 t) (iblk m c 4 t)) sl))
    (sinkW (sTile m c t hk 0) (sTile m c t hk 1) (sTile m c t hk 2) (sTile m c t hk 3))
    (extractStridedSlice S384x128 ![128 * qb, 128 * kv] (k0_pay4 (iblk m c 5 t) (iblk m c 6 t) (iblk m c 7 t)) sl)

abbrev tile (t : Fin cfg0.N) {qb kv h : ℕ} (hq : qb < 4) (hk : kv < 2) (hh : h < 4) (sl : S768x256.Slices ![128 * qb, 128 * kv] S384x128)
    (sl' : S512x128.Slices ![128 * h, 0] S128x128) : View.Piece (Elt Ideal) S512x1024 .bf16 :=
  ⟨Rect.unit (s := S512x1024) ![128 * qb, 128 * (4 * kv + h)] ![128, 128] (tileIn hq hk hh),
    extractStridedSlice S128x128 ![128 * h, 0] (rows m c t hq hk sl) sl'⟩

/-- The four tiles of one block of queries and one head of keys, the last stored first. -/
abbrev four4 (t : Fin cfg0.N) {qb kv : ℕ} (hq : qb < 4) (hk : kv < 2) (sl : S768x256.Slices ![128 * qb, 128 * kv] S384x128) :
    List (View.Piece (Elt Ideal) S512x1024 .bf16) :=
  [tile m c t (h := 3) hq hk (by decide) sl slices_S512x128_o384_0_S128x128, tile m c t (h := 2) hq hk (by decide) sl slices_S512x128_o256_0_S128x128,
   tile m c t (h := 1) hq hk (by decide) sl slices_S512x128_o128_0_S128x128, tile m c t (h := 0) hq hk (by decide) sl slices_S512x128_o0_0_S128x128]

/-- The stores of a point, the last first. -/
abbrev pieces (t : Fin cfg0.N) : List (View.Piece (Elt Ideal) S512x1024 .bf16) :=
  four4 m c t (qb := 3) (kv := 1) (by decide) (by decide) slices_S768x256_o384_128_S384x128
  ++ four4 m c t (qb := 3) (kv := 0) (by decide) (by decide) slices_S768x256_o384_0_S384x128
  ++ four4 m c t (qb := 2) (kv := 1) (by decide) (by decide) slices_S768x256_o256_128_S384x128
  ++ four4 m c t (qb := 2) (kv := 0) (by decide) (by decide) slices_S768x256_o256_0_S384x128
  ++ four4 m c t (qb := 1) (kv := 1) (by decide) (by decide) slices_S768x256_o128_128_S384x128
  ++ four4 m c t (qb := 1) (kv := 0) (by decide) (by decide) slices_S768x256_o128_0_S384x128
  ++ four4 m c t (qb := 0) (kv := 1) (by decide) (by decide) slices_S768x256_o0_128_S384x128
  ++ four4 m c t (qb := 0) (kv := 0) (by decide) (by decide) slices_S768x256_o0_0_S384x128

theorem outs_eq (t : Fin cfg0.N) (y : S512x1024.Idx) : outsAt0 m c t y = View.canon (pieces m c t) y := by
  unfold outsAt0
  frame_out
  refine congrFun (congrArg View.canon ?_) y
  dsimp only [pieces, four4, List.cons_append, List.nil_append]
  repeat' refine congrArg₂ List.cons ?_ ?_
  all_goals rfl

end Cert.AttnFwdIdeal.Val
end
-- ==== Proof.AttnFwdFin.lean ====
module

public import proofs.«01_k».proof.Proof.AttnFwdVal
public import Idealize.ShloMosaic.Lib.Pipeline.CanonAppend

@[expose] public section

set_option maxRecDepth 16384

noncomputable section

/-! The array the attention's forward kernel leaves, over the arrays it is called with. -/

namespace Cert.AttnFwdIdeal.Val
open Idealize.ShloMosaic Idealize.ShloMosaic.TcCoe Idealize.SL.Sem
open Cert.AttnFwdIdeal Cert.AttnFwdIdeal.Gen Cert.AttnFwdFun

variable (m : (ℓ : Loc nD τ sig) → Buf (Elt Ideal) ℓ) (c : Dev nD)

/-- No row's sum of exponentials is zero. -/
abbrev DenOk : Prop := ∀ r k, AttnRow.den (score (Q m c) (K m c) r k) (SK m c (headOf k)) ≠ 0

theorem qTile_at (t : Fin cfg0.N) {qb kv : ℕ} (hq : qb < 4) (hk : kv < 2) (h : Fin 4) (a x : Fin 128) (r : Fin 8192) (k : Fin 1024)
    (er : r.val = 512 * t.val + 128 * qb + a.val) (ek : k.val = 128 * (4 * kv + h.val) + x.val) :
    qTile m c t hq hk h (ix2 a x) = (Q m c r k : EReal) := by
  refine (blk_q m c t _).trans (congrArg₂ (Q m c) (Fin.ext ?_) (Fin.ext ?_))
  · simp [Rect.emb_apply]; omega
  · simp [Rect.emb_apply]; omega

theorem sTile_at (t : Fin cfg0.N) {kv : ℕ} (hk : kv < 2) (h : Fin 4) (k : Fin 8) (ek : k.val = 4 * kv + h.val) :
    sTile m c t hk h = (SK m c k : EReal) := by
  refine (blk_s m c t _).trans (congrArg (V m c main_v6) ?_)
  funext i
  revert i
  refine Fin.forall_fin_two.mpr ⟨Fin.ext ?_, Fin.ext ?_⟩
  · simp [Rect.emb_apply]
  · simp [Rect.emb_apply]; rw [ek]

/-- One of four things, the head's. -/
theorem four_of {α : Type} (f : Fin 4 → α) (h : Fin 4) (r : Fin 512) (e : r.val / 128 = h.val) : four (f 0) (f 1) (f 2) (f 3) r = f h := by
  have := r.isLt
  have hh : h = ⟨r.val / 128, by omega⟩ := Fin.ext e.symm
  rw [hh]
  unfold four
  split_ifs <;> exact congrArg f (Fin.ext (by simp; omega))

theorem rows_at (hd : DenOk m c) (t : Fin cfg0.N) {qb kv h : ℕ} (hq : qb < 4) (hk : kv < 2) (hh : h < 4)
    (sl : S768x256.Slices ![128 * qb, 128 * kv] S384x128) (p : Fin 512) (d : Fin 128) (r : Fin 8192) (k : Fin 1024) (ep : p.val / 128 = h)
    (er : r.val = 512 * t.val + 128 * qb + p.val % 128) (ek : k.val = 128 * (4 * kv + h) + d.val) :
    rows m c t hq hk sl (ix2 p d) = (out (Q m c) (K m c) (VV m c) (SK m c) r k : EReal) := by
  have ht := t.isLt
  have hN : cfg0.N = 16 := N_0
  have hd' := d.isLt
  have eb : r.val / 128 = 4 * t.val + qb := by omega
  have eq : r.val % 128 = p.val % 128 := by omega
  have esk : sinkW (sTile m c t hk 0) (sTile m c t hk 1) (sTile m c t hk 2) (sTile m c t hk 3) (ix2 p 0) = (SK m c (headOf k) : EReal) := by
    rw [sinkW_at, four_of (sTile m c t hk) ⟨h, hh⟩ p ep]
    exact sTile_at m c t hk _ _ (by simp; omega)
  refine (outW_at _ _ _ p d).trans ?_
  rw [esk]
  refine AttnRow.out_congr (hd r k) (fun j => ?_) fun j => ?_
  · rw [word t qb hq, scoreW_at _ (by omega)]
    unfold score
    rw [eb, eq]
    split
    next hs =>
      refine congrArg (· * _) (Finset.sum_congr rfl fun x _ => congrArg₂ (· * ·) ?_ ?_)
      · rw [queryW_at, four_of (qTile m c t hq hk) ⟨h, hh⟩ p ep]
        exact qTile_at m c t hq hk _ _ _ _ _ er (by simp; omega)
      · pointwise
        rw [keys_at m c t _ _ (4 * t.val + qb) j.val (by simp; omega) ⟨hs.2.2.1, hs.2.2.2⟩]
        exact congrArg _ (Fin.ext (by simp; omega))
    next => rfl
  · by_cases hs : AttnMask.Seen (r.val / 128) (r.val % 128) j.val
    · right
      rw [eb] at hs
      pointwise
      rw [values_at m c t _ _ (4 * t.val + qb) j.val (by simp; omega) ⟨hs.2.2.1, hs.2.2.2⟩, eb]
      exact congrArg _ (Fin.ext (by simp; omega))
    · left
      unfold score
      rw [if_neg hs]

/-- What a store puts in an element is the attention's output there. -/
abbrev TileOk (t : Fin cfg0.N) (p : View.Piece (Elt Ideal) S512x1024 .bf16) : Prop :=
  ∀ x : p.1.shape.Idx, p.2 x = (out (Q m c) (K m c) (VV m c) (SK m c) (brow t (p.1.emb x 0)) (p.1.emb x 1) : EReal)

theorem tile_ok (hd : DenOk m c) (t : Fin cfg0.N) {qb kv h : ℕ} (hq : qb < 4) (hk : kv < 2) (hh : h < 4)
    (sl : S768x256.Slices ![128 * qb, 128 * kv] S384x128) (sl' : S512x128.Slices ![128 * h, 0] S128x128) :
    TileOk m c t (tile m c t hq hk hh sl sl') := by
  intro x
  obtain ⟨a, d, rfl⟩ : ∃ a d, x = (ix2 a d : S128x128.Idx) := ⟨x 0, x 1, eq_ix2 x⟩
  have ha := a.isLt
  show extractStridedSlice S128x128 ![128 * h, 0] (rows m c t hq hk sl) sl' (ix2 a d) = _
  pointwise
  refine rows_at m c hd t hq hk hh sl _ _ _ _ (by simp; omega) ?_ ?_
  · simp [Rect.emb_apply]; omega
  · simp [Rect.emb_apply]

theorem four_ok (hd : DenOk m c) (t : Fin cfg0.N) {qb kv : ℕ} (hq : qb < 4) (hk : kv < 2) (sl : S768x256.Slices ![128 * qb, 128 * kv] S384x128) :
    ∀ p ∈ four4 m c t hq hk sl, TileOk m c t p := by
  intro p hp
  simp only [four4, List.mem_cons, List.not_mem_nil, or_false] at hp
  rcases hp with rfl | rfl | rfl | rfl <;> exact tile_ok m c hd t hq hk _ sl _

theorem pieces_ok (hd : DenOk m c) (t : Fin cfg0.N) : ∀ p ∈ pieces m c t, TileOk m c t p := by
  have h2 {A B : List (View.Piece (Elt Ideal) S512x1024 .bf16)} (hA : ∀ p ∈ A, TileOk m c t p) (hB : ∀ p ∈ B, TileOk m c t p) :
      ∀ p ∈ A ++ B, TileOk m c t p := fun p hp => (List.mem_append.mp hp).elim (hA p) (hB p)
  unfold pieces
  repeat' refine h2 ?_ ?_
  all_goals exact four_ok m c hd t _ _ _

theorem canon_pieces (hd : DenOk m c) (t : Fin cfg0.N) (y : S512x1024.Idx) :
    View.canon (pieces m c t) y = (out (Q m c) (K m c) (VV m c) (SK m c) (brow t (y 0)) (y 1) : EReal) := by
  have hc : ∃ p ∈ pieces m c t, y ∈ p.1.set := View.cover_of_tiledL (pieces m c t) S128x128.size (by sl_kernel_rfl) y
  have := View.canon_append_of_pieces (fun y : S512x1024.Idx => (out (Q m c) (K m c) (VV m c) (SK m c) (brow t (y 0)) (y 1) : EReal)) [] (pieces m c t)
    (pieces_ok m c hd t) y hc
  rwa [List.append_nil] at this

theorem fin8 (hd : DenOk m c) : (dats m 0 c).arrAt 8 cfg0.N = fun j => out (Q m c) (K m c) (VV m c) (SK m c) (j 0) (j 1) := by
  refine (dats m 0 c).arrAt_eq_of_covers 8 _ (by decide +kernel) fun t hf y => ?_
  blk_simp
  refine Eq.trans (b := out (Q m c) (K m c) (VV m c) (SK m c) (brow t (y 0)) (y 1)) ?_ (congrArg₂ (out (Q m c) (K m c) (VV m c) (SK m c)) (Fin.ext ?_) (Fin.ext ?_))
  · rw [after0_8, outs_eq]
    exact canon_pieces m c hd t y
  · blk_simp [idx0 t]
  · blk_simp [idx0 t]

end Cert.AttnFwdIdeal.Val
end
-- ==== Proof.AttnFwdArgs.lean ====
module

public import proofs.«01_k».proof.Proof.AttnFwdFin
public import proofs.«01_k».proof.Proof.Reals
public import Idealize.ShloMosaic.Lib.StableHlo.ReadAt

@[expose] public section

set_option maxRecDepth 16384

noncomputable section

/-! The arrays the attention's forward kernel is called with, over the program's arguments. -/

namespace Cert.AttnFwdIdeal.Val
open Idealize.ShloMosaic Idealize.ShloMosaic.TcCoe Idealize.SL.Sem
open Cert.AttnFwdIdeal Cert.AttnFwdIdeal.Gen Cert.AttnFwdFun

variable (m : (ℓ : Loc nD τ sig) → Buf (Elt Ideal) ℓ) (c : Dev nD)

abbrev A0 : S1x8192x8x128.Idx → EReal := m ((c.tc : Thread nD τ).loc main_arg0)
abbrev A1 : S1x8192x2x128.Idx → EReal := m ((c.tc : Thread nD τ).loc main_arg1)
abbrev A2 : S1x8192x2x128.Idx → EReal := m ((c.tc : Thread nD τ).loc main_arg2)
abbrev A3 : S8.Idx → EReal := m ((c.tc : Thread nD τ).loc main_arg3)

theorem Q_at : Q m c = rowsQ (A0 m c) := by
  funext r k
  show V m c main_v1 _ = _
  unfold V
  after_reads_at

theorem K_at : K m c = rowsK (A1 m c) := by
  funext r k
  show V m c main_v3 _ = _
  unfold V
  after_reads_at

theorem VV_at : VV m c = rowsK (A2 m c) := by
  funext r k
  show V m c main_v5 _ = _
  unfold V
  after_reads_at

theorem SK_at : SK m c = fun h => A3 m c (ix1 h) := by
  funext h
  show V m c main_v6 _ = _
  unfold V
  after_reads_at

theorem den_ok (h0 : ∀ i, IsReal (A0 m c i)) (h1 : ∀ i, IsReal (A1 m c i)) (h3 : ∀ i, IsReal (A3 m c i)) : DenOk m c := by
  intro r k
  rw [Q_at, K_at, SK_at]
  obtain ⟨s, hs⟩ := h3 (ix1 (headOf k))
  refine AttnRow.den_ne_zero (fun j => ?_) (fun h => EReal.coe_ne_top s (hs.symm.trans h)) (fun h => EReal.coe_ne_bot s (hs.symm.trans h))
  have hc : IsReal (Ideal.ofBits .f32 0x3DB504F3#32) := by
    show IsReal (Ideal.ieee 8 23 0x3DB504F3#32)
    simp only [Ideal.ieee]
    exact ⟨_, rfl⟩
  unfold score
  split
  · refine fun ht => ?_
    obtain ⟨z, hz⟩ := IsReal.mul (IsReal.sum fun x : Fin 128 => IsReal.mul (h0 (ix4 0 r _ _)) (show IsReal (keyAt (rowsK (A1 m c)) (r.val / 128) j.val (keyCol k x)) by
      unfold keyAt; split
      · exact h1 _
      · exact IsReal.zero)) hc
    exact EReal.coe_ne_top z (hz.symm.trans ht)
  · exact bot_ne_top

/-- The array the kernel leaves, over the program's arguments. -/
theorem fin8_args (h0 : ∀ i, IsReal (A0 m c i)) (h1 : ∀ i, IsReal (A1 m c i)) (h3 : ∀ i, IsReal (A3 m c i)) :
    (dats m 0 c).arrAt 8 cfg0.N = fun j => out (rowsQ (A0 m c)) (rowsK (A1 m c)) (rowsK (A2 m c)) (fun h => A3 m c (ix1 h)) (j 0) (j 1) := by
  rw [fin8 m c (den_ok m c h0 h1 h3), Q_at, K_at, VV_at, SK_at]

end Cert.AttnFwdIdeal.Val
end
-- ==== Proof.AttnFwdPair.lean ====
module

public import proofs.«01_k».proof.Defs
public import proofs.«01_k».proof.Proof.Gen.AttnFwd.Frame
public import proofs.«01_k».proof.Proof.Gen.AttnFwdIdeal.Value
public import proofs.«01_k».proof.Proof.Gen.Pre_finite_attn_fwd
public import proofs.«01_k».proof.Proof.AttnFwdArgs
public import proofs.«01_k».proof.Proof.AttnFwdRef
public import Idealize.ShloMosaic.Lib.Claim

@[expose] public section

set_option maxRecDepth 16384

noncomputable section

/-! The banded attention's forward call against its reference. -/

namespace Cert.AttnFwdPair

open Idealize.ShloMosaic Idealize.ShloMosaic.TcCoe Idealize.SL.Sem

theorem frameP : Cert.quiescent_AttnFwd := fun m ρ _ => Cert.AttnFwd.Gen.frame m ρ
theorem framePI : Cert.quiescent_AttnFwdIdeal := fun m ρ _ => Cert.AttnFwdIdeal.Gen.frame m ρ
theorem framePI' : Cert.quiescent_AttnFwdIdeal_pre_finite_attn_fwd := fun m ρ _ => Cert.AttnFwdIdeal.Gen.frame m ρ

section
open Cert.AttnFwdIdeal Cert.AttnFwdIdeal.Gen Cert.AttnFwdIdeal.Val Cert.AttnFwdFun

variable (m : (ℓ : Loc nD τ sig) → Buf (Elt Ideal) ℓ) (ρ : Dev nD → PrngReg)

theorem runK (hpre : Cert.Pre_AttnFwdIdeal_finite_attn_fwd m) : θ_run defs (onTc (τ := τ) (main (F := Ideal))) ⟨m, fun _ => 0, ρ⟩ fun r => ∀ c : Dev nD,
    r.2.mem ((c.tc : Thread nD τ).loc main_v7) = (fun j : S8192x1024.Idx => out (rowsQ (A0 m c)) (rowsK (A1 m c)) (rowsK (A2 m c)) (fun h => A3 m c (ix1 h)) (j 0) (j 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c => by
    obtain ⟨r0, hr⟩ := h c
    exact ⟨r0.trans (fin8_args m c (IsReal.of_lt _ _ (hpre c).1) (IsReal.of_lt _ _ (hpre c).2.1) (IsReal.of_lt _ _ (hpre c).2.2)), hr⟩)
    (Cert.AttnFwdIdeal.Value.run_blocks m ρ)
end

theorem algebraic : Cert.algebraic_AttnFwdIdeal_AttnFwdRefIdeal_pre_finite_attn_fwd := fun m ρ m' ρ' hpre hag =>
  ⟨_, runK m ρ hpre, (θ_run Cert.AttnFwdRefIdeal.defs _ _).mono (fun _ h c => by
    obtain ⟨a0, a1, a2, a3⟩ := hag c
    obtain ⟨r0, hr⟩ := h c
    refine ⟨r0.trans ?_, hr⟩
    refine (Cert.AttnFwdRefIdeal.Read.val_main_v72_eq _ _).trans (Eq.trans ?_ (Cert.AttnFwdRefIdeal.Val.result_ _ _ _ _))
    clear r0 hr
    exact congr (congr (congr (congrArg Cert.AttnFwdRefIdeal.Read.val_main_v72 a0) a1) a2) a3) (Cert.AttnFwdRefIdeal.Value.run m' ρ')⟩

theorem frameRI : Cert.quiescent_AttnFwdRefIdeal := fun m ρ _ =>
  (θ_run Cert.AttnFwdRefIdeal.defs _ _).mono (fun r h => ⟨fun c => (h c).2, sem_eq_zero_of_no_sems (by decide) r.2⟩) (Cert.AttnFwdRefIdeal.Value.run m ρ)
theorem frameRI' : Cert.quiescent_AttnFwdRefIdeal_pre_finite_attn_fwd := fun m ρ _ => frameRI m ρ trivial

/-- The mask's large negative number stands for minus infinity. -/
theorem preserves : Cert.preserves_AttnFwd_AttnFwdIdeal :=
  IdealRules.named_const.statement Cert.AttnFwdIdeal.κ "mask" .f32 0xF149F2CA#32 ⊥ rfl

end Cert.AttnFwdPair
end
-- ==== Proof.lean ====
module

public import proofs.«01_k».proof.Proof.Gen.AttnBwd
public import proofs.«01_k».proof.Proof.Gen.AttnBwd.Frame
public import proofs.«01_k».proof.Proof.Gen.AttnBwdIdeal
public import proofs.«01_k».proof.Proof.Gen.AttnBwdIdeal.Frame
public import proofs.«01_k».proof.Proof.Gen.AttnBwdRefIdeal
public import proofs.«01_k».proof.Proof.Gen.AttnBwdRefIdeal.Run
public import proofs.«01_k».proof.Proof.Gen.AttnBwdRefIdeal.Read
public import proofs.«01_k».proof.Proof.Gen.Pre_finite_attn
public import proofs.«01_k».proof.Proof.Gen.AttnBwd.Points
public import proofs.«01_k».proof.Proof.Gen.AttnBwdIdeal.Points
public import proofs.«01_k».proof.Proof.Gen.AttnFwd
public import proofs.«01_k».proof.Proof.Gen.AttnFwd.Frame
public import proofs.«01_k».proof.Proof.Gen.AttnFwdIdeal
public import proofs.«01_k».proof.Proof.Gen.AttnFwdIdeal.Frame
public import proofs.«01_k».proof.Proof.Gen.AttnFwdIdeal.Value
public import proofs.«01_k».proof.Proof.Gen.AttnFwdRefIdeal
public import proofs.«01_k».proof.Proof.Gen.AttnFwdRefIdeal.Run
public import proofs.«01_k».proof.Proof.Gen.AttnFwdRefIdeal.Read
public import proofs.«01_k».proof.Proof.Gen.Pre_finite_attn_fwd
public import proofs.«01_k».proof.Defs
public import proofs.«01_k».proof.Proof.Gen.Post
public import proofs.«01_k».proof.Proof.Gen.Post.Frame
public import proofs.«01_k».proof.Proof.Gen.PostIdeal
public import proofs.«01_k».proof.Proof.Gen.PostIdeal.Frame
public import proofs.«01_k».proof.Proof.Gen.PostRefIdeal
public import proofs.«01_k».proof.Proof.Gen.PostRefIdeal.Run
public import proofs.«01_k».proof.Proof.Gen.PostRefIdeal.Read
public import proofs.«01_k».proof.Proof.Gen.Pre_finite
public import proofs.«01_k».proof.Proof.Gen.AttnIn
public import proofs.«01_k».proof.Proof.Gen.AttnIn.Frame
public import proofs.«01_k».proof.Proof.Gen.AttnInIdeal
public import proofs.«01_k».proof.Proof.Gen.AttnInIdeal.Frame
public import proofs.«01_k».proof.Proof.Gen.AttnInRefIdeal
public import proofs.«01_k».proof.Proof.Gen.AttnInRefIdeal.Run
public import proofs.«01_k».proof.Proof.Gen.AttnInRefIdeal.Read
public import proofs.«01_k».proof.Proof.Gen.Mlp
public import proofs.«01_k».proof.Proof.Gen.Mlp.Frame
public import proofs.«01_k».proof.Proof.Gen.MlpIdeal
public import proofs.«01_k».proof.Proof.Gen.MlpIdeal.Frame
public import proofs.«01_k».proof.Proof.Gen.MlpRefIdeal
public import proofs.«01_k».proof.Proof.Gen.MlpRefIdeal.Run
public import proofs.«01_k».proof.Proof.Gen.MlpRefIdeal.Read
public import proofs.«01_k».proof.Proof.Gen.Head
public import proofs.«01_k».proof.Proof.Gen.Head.Frame
public import proofs.«01_k».proof.Proof.Gen.HeadIdeal
public import proofs.«01_k».proof.Proof.Gen.HeadIdeal.Frame
public import proofs.«01_k».proof.Proof.Gen.HeadRefIdeal
public import proofs.«01_k».proof.Proof.Gen.HeadRefIdeal.Run
public import proofs.«01_k».proof.Proof.Gen.HeadRefIdeal.Read
public import proofs.«01_k».proof.Proof.Gen.RnnPost
public import proofs.«01_k».proof.Proof.Gen.RnnPost.Frame
public import proofs.«01_k».proof.Proof.Gen.RnnPostIdeal
public import proofs.«01_k».proof.Proof.Gen.RnnPostIdeal.Frame
public import proofs.«01_k».proof.Proof.Gen.RnnPostRefIdeal
public import proofs.«01_k».proof.Proof.Gen.RnnPostRefIdeal.Run
public import proofs.«01_k».proof.Proof.Gen.RnnPostRefIdeal.Read
public import proofs.«01_k».proof.Proof.Gen.RnnIn
public import proofs.«01_k».proof.Proof.Gen.RnnIn.Frame
public import proofs.«01_k».proof.Proof.Gen.RnnInIdeal
public import proofs.«01_k».proof.Proof.Gen.RnnInIdeal.Frame
public import proofs.«01_k».proof.Proof.Gen.RnnInRefIdeal
public import proofs.«01_k».proof.Proof.Gen.RnnInRefIdeal.Run
public import proofs.«01_k».proof.Proof.Gen.RnnInRefIdeal.Read
public import proofs.«01_k».proof.Proof.Gen.AttnInIdeal.Value
public import proofs.«01_k».proof.Proof.Gen.Pre_finite_mlp
public import proofs.«01_k».proof.Proof.Gen.Pre_finite_head
public import proofs.«01_k».proof.Proof.Gen.Pre_finite_rnn_post
public import proofs.«01_k».proof.Proof.PostPair
public import proofs.«01_k».proof.Proof.AttnInPair
public import proofs.«01_k».proof.Proof.MlpPair
public import proofs.«01_k».proof.Proof.HeadPair
public import proofs.«01_k».proof.Proof.RnnPostPair
public import proofs.«01_k».proof.Proof.RnnInPair
public import proofs.«01_k».proof.Proof.AttnBwdPair
public import proofs.«01_k».proof.Proof.AttnFwdPair

@[expose] public section

noncomputable section

namespace Cert.Proof

open Idealize.ShloMosaic Idealize.SL.Sem

theorem claim : Cert.Claim := ⟨Cert.Post.Gen.facts, Cert.PostIdeal.Gen.facts, Cert.PostRefIdeal.Gen.facts,
  Cert.AttnIn.Gen.facts, Cert.AttnInIdeal.Gen.facts, Cert.AttnInRefIdeal.Gen.facts,
  Cert.Mlp.Gen.facts, Cert.MlpIdeal.Gen.facts, Cert.MlpRefIdeal.Gen.facts,
  Cert.Head.Gen.facts, Cert.HeadIdeal.Gen.facts, Cert.HeadRefIdeal.Gen.facts,
  Cert.RnnPost.Gen.facts, Cert.RnnPostIdeal.Gen.facts, Cert.RnnPostRefIdeal.Gen.facts,
  Cert.RnnIn.Gen.facts, Cert.RnnInIdeal.Gen.facts, Cert.RnnInRefIdeal.Gen.facts,
  Cert.AttnBwd.Gen.facts, Cert.AttnBwdIdeal.Gen.facts, Cert.AttnBwdRefIdeal.Gen.facts,
  Cert.AttnFwd.Gen.facts, Cert.AttnFwdIdeal.Gen.facts, Cert.AttnFwdRefIdeal.Gen.facts,
  Cert.Pre_finite.Gen.facts, Cert.Pre_finite_mlp.Gen.facts, Cert.Pre_finite_head.Gen.facts,
  Cert.Pre_finite_rnn_post.Gen.facts, Cert.Pre_finite_attn.Gen.facts, Cert.Pre_finite_attn_fwd.Gen.facts,
  Cert.PostPair.frameP, Cert.PostPair.framePI, Cert.PostPair.framePI', Cert.PostPair.frameRI, Cert.PostPair.frameRI',
  Cert.AttnInPair.frameP, Cert.AttnInPair.framePI, Cert.AttnInPair.frameRI,
  Cert.MlpPair.frameP, Cert.MlpPair.framePI, Cert.MlpPair.framePI', Cert.MlpPair.frameRI, Cert.MlpPair.frameRI',
  Cert.HeadPair.frameP, Cert.HeadPair.framePI, Cert.HeadPair.framePI', Cert.HeadPair.frameRI, Cert.HeadPair.frameRI',
  Cert.RnnPostPair.frameP, Cert.RnnPostPair.framePI, Cert.RnnPostPair.framePI', Cert.RnnPostPair.frameRI, Cert.RnnPostPair.frameRI',
  Cert.RnnInPair.frameP, Cert.RnnInPair.framePI, Cert.RnnInPair.frameRI,
  Cert.AttnBwdPair.frameP, Cert.AttnBwdPair.framePI, Cert.AttnBwdPair.framePI', Cert.AttnBwdPair.frameRI, Cert.AttnBwdPair.frameRI',
  Cert.AttnFwdPair.frameP, Cert.AttnFwdPair.framePI, Cert.AttnFwdPair.framePI', Cert.AttnFwdPair.frameRI, Cert.AttnFwdPair.frameRI',
  trivial, Cert.PostPair.algebraic,
  trivial, Cert.AttnInPair.algebraic,
  trivial, Cert.MlpPair.algebraic,
  trivial, Cert.HeadPair.algebraic,
  Cert.RnnPostPair.preserves, Cert.RnnPostPair.algebraic,
  trivial, Cert.RnnInPair.algebraic,
  Cert.AttnBwdPair.preserves, Cert.AttnBwdPair.algebraic,
  Cert.AttnFwdPair.preserves, Cert.AttnFwdPair.algebraic⟩

end Cert.Proof

end
